-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDxAct (m : (ℓ : Loc Cert.DownDxAct.nD Cert.DownDxAct.τ Cert.DownDxAct.sig) → Buf (Elt Bits) ℓ) : Prop :=
  True

def Pre_DownDxActIdeal (m : (ℓ : Loc Cert.DownDxActIdeal.nD Cert.DownDxActIdeal.τ Cert.DownDxActIdeal.sig) → Buf (Elt Ideal) ℓ) : Prop :=
  True

def Pre_DownDxActRefIdeal (m : (ℓ : Loc Cert.DownDxActRefIdeal.nD Cert.DownDxActRefIdeal.τ Cert.DownDxActRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_AttProj (m : (ℓ : Loc Cert.AttProj.nD Cert.AttProj.τ Cert.AttProj.sig) → Buf (Elt Bits) ℓ) : Prop :=
  True

def Pre_AttProjIdeal (m : (ℓ : Loc Cert.AttProjIdeal.nD Cert.AttProjIdeal.τ Cert.AttProjIdeal.sig) → Buf (Elt Ideal) ℓ) : Prop :=
  True

def Pre_AttProjRefIdeal (m : (ℓ : Loc Cert.AttProjRefIdeal.nD Cert.AttProjRefIdeal.τ Cert.AttProjRefIdeal.sig) → Buf (Elt Ideal) ℓ) : Prop :=
  True

def Pre_SsmProj (m : (ℓ : Loc Cert.SsmProj.nD Cert.SsmProj.τ Cert.SsmProj.sig) → Buf (Elt Bits) ℓ) : Prop :=
  True

def Pre_SsmProjIdeal (m : (ℓ : Loc Cert.SsmProjIdeal.nD Cert.SsmProjIdeal.τ Cert.SsmProjIdeal.sig) → Buf (Elt Ideal) ℓ) : Prop :=
  True

def Pre_SsmProjRefIdeal (m : (ℓ : Loc Cert.SsmProjRefIdeal.nD Cert.SsmProjRefIdeal.τ Cert.SsmProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_SsmProjDx (m : (ℓ : Loc Cert.SsmProjDx.nD Cert.SsmProjDx.τ Cert.SsmProjDx.sig) → Buf (Elt Bits) ℓ) : Prop :=
  True

def Pre_SsmProjDxIdeal (m : (ℓ : Loc Cert.SsmProjDxIdeal.nD Cert.SsmProjDxIdeal.τ Cert.SsmProjDxIdeal.sig) → Buf (Elt Ideal) ℓ) : Prop :=
  True

def Pre_SsmProjDxRefIdeal (m : (ℓ : Loc Cert.SsmProjDxRefIdeal.nD Cert.SsmProjDxRefIdeal.τ Cert.SsmProjDxRefIdeal.sig) → Buf (Elt Ideal) ℓ) : Prop :=
  True

def Pre_AttProjDx (m : (ℓ : Loc Cert.AttProjDx.nD Cert.AttProjDx.τ Cert.AttProjDx.sig) → Buf (Elt Bits) ℓ) : Prop :=
  True

def Pre_AttProjDxIdeal (m : (ℓ : Loc Cert.AttProjDxIdeal.nD Cert.AttProjDxIdeal.τ Cert.AttProjDxIdeal.sig) → Buf (Elt Ideal) ℓ) : Prop :=
  True

def Pre_AttProjDxRefIdeal (m : (ℓ : Loc Cert.AttProjDxRefIdeal.nD Cert.AttProjDxRefIdeal.τ Cert.AttProjDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_SsmProjDw (m : (ℓ : Loc Cert.SsmProjDw.nD Cert.SsmProjDw.τ Cert.SsmProjDw.sig) → Buf (Elt Bits) ℓ) : Prop :=
  True

def Pre_SsmProjDwIdeal (m : (ℓ : Loc Cert.SsmProjDwIdeal.nD Cert.SsmProjDwIdeal.τ Cert.SsmProjDwIdeal.sig) → Buf (Elt Ideal) ℓ) : Prop :=
  True

def Pre_SsmProjDwRefIdeal (m : (ℓ : Loc Cert.SsmProjDwRefIdeal.nD Cert.SsmProjDwRefIdeal.τ Cert.SsmProjDwRefIdeal.sig) → Buf (Elt Ideal) ℓ) : Prop :=
  True

def Pre_AttProjDw (m : (ℓ : Loc Cert.AttProjDw.nD Cert.AttProjDw.τ Cert.AttProjDw.sig) → Buf (Elt Bits) ℓ) : Prop :=
  True

def Pre_AttProjDwIdeal (m : (ℓ : Loc Cert.AttProjDwIdeal.nD Cert.AttProjDwIdeal.τ Cert.AttProjDwIdeal.sig) → Buf (Elt Ideal) ℓ) : Prop :=
  True

def Pre_AttProjDwRefIdeal (m : (ℓ : Loc Cert.AttProjDwRefIdeal.nD Cert.AttProjDwRefIdeal.τ Cert.AttProjDwRefIdeal.sig) → Buf (Elt Ideal) ℓ) : Prop :=
  True

def Pre_AdamwCol (m : (ℓ : Loc Cert.AdamwCol.nD Cert.AdamwCol.τ Cert.AdamwCol.sig) → Buf (Elt Bits) ℓ) : Prop :=
  True

def Pre_AdamwColIdeal (m : (ℓ : Loc Cert.AdamwColIdeal.nD Cert.AdamwColIdeal.τ Cert.AdamwColIdeal.sig) → Buf (Elt Ideal) ℓ) : Prop :=
  True

def Pre_AdamwColRefIdeal (m : (ℓ : Loc Cert.AdamwColRefIdeal.nD Cert.AdamwColRefIdeal.τ Cert.AdamwColRefIdeal.sig) → Buf (Elt Ideal) ℓ) : Prop :=
  True

def Pre_AdamwRow (m : (ℓ : Loc Cert.AdamwRow.nD Cert.AdamwRow.τ Cert.AdamwRow.sig) → Buf (Elt Bits) ℓ) : Prop :=
  True

def Pre_AdamwRowIdeal (m : (ℓ : Loc Cert.AdamwRowIdeal.nD Cert.AdamwRowIdeal.τ Cert.AdamwRowIdeal.sig) → Buf (Elt Ideal) ℓ) : Prop :=
  True

def Pre_AdamwRowRefIdeal (m : (ℓ : Loc Cert.AdamwRowRefIdeal.nD Cert.AdamwRowRefIdeal.τ Cert.AdamwRowRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvRefIdeal (m : (ℓ : Loc Cert.AdamwConvRefIdeal.nD Cert.AdamwConvRefIdeal.τ Cert.AdamwConvRefIdeal.sig) → Buf (Elt Ideal) ℓ) : Prop :=
  True

def Pre_AdamwAtt (m : (ℓ : Loc Cert.AdamwAtt.nD Cert.AdamwAtt.τ Cert.AdamwAtt.sig) → Buf (Elt Bits) ℓ) : Prop :=
  True

def Pre_AdamwAttIdeal (m : (ℓ : Loc Cert.AdamwAttIdeal.nD Cert.AdamwAttIdeal.τ Cert.AdamwAttIdeal.sig) → Buf (Elt Ideal) ℓ) : Prop :=
  True

def Pre_AdamwAttRefIdeal (m : (ℓ : Loc Cert.AdamwAttRefIdeal.nD Cert.AdamwAttRefIdeal.τ Cert.AdamwAttRefIdeal.sig) → Buf (Elt Ideal) ℓ) : Prop :=
  True

def Pre_AdamwSsm (m : (ℓ : Loc Cert.AdamwSsm.nD Cert.AdamwSsm.τ Cert.AdamwSsm.sig) → Buf (Elt Bits) ℓ) : Prop :=
  True

def Pre_AdamwSsmIdeal (m : (ℓ : Loc Cert.AdamwSsmIdeal.nD Cert.AdamwSsmIdeal.τ Cert.AdamwSsmIdeal.sig) → Buf (Elt Ideal) ℓ) : Prop :=
  True

def Pre_AdamwSsmRefIdeal (m : (ℓ : Loc Cert.AdamwSsmRefIdeal.nD Cert.AdamwSsmRefIdeal.τ Cert.AdamwSsmRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownDxAct [hDownDxAct : Cert.DownDxAct.Facts] : Prop :=
  ∀ (m : (ℓ : Loc Cert.DownDxAct.nD Cert.DownDxAct.τ Cert.DownDxAct.sig) → Buf (Elt Bits) ℓ) (g : Dev Cert.DownDxAct.nD → PrngReg), Pre_DownDxAct m →
    θ_run (Cert.DownDxAct.defs (F := Bits)) (onTc (τ := Cert.DownDxAct.τ) (Cert.DownDxAct.main (F := Bits))) ⟨m, fun _ => 0, g⟩ (fun r => (∀ c : Dev Cert.DownDxAct.nD,
      r.2.mem ((c.tc : Thread Cert.DownDxAct.nD Cert.DownDxAct.τ).loc Cert.DownDxAct.main_arg0) = m ((c.tc : Thread Cert.DownDxAct.nD Cert.DownDxAct.τ).loc Cert.DownDxAct.main_arg0)
      ∧ r.2.mem ((c.tc : Thread Cert.DownDxAct.nD Cert.DownDxAct.τ).loc Cert.DownDxAct.main_arg1) = m ((c.tc : Thread Cert.DownDxAct.nD Cert.DownDxAct.τ).loc Cert.DownDxAct.main_arg1)
      ∧ r.2.mem ((c.tc : Thread Cert.DownDxAct.nD Cert.DownDxAct.τ).loc Cert.DownDxAct.main_arg2) = m ((c.tc : Thread Cert.DownDxAct.nD Cert.DownDxAct.τ).loc Cert.DownDxAct.main_arg2)
      ∧ r.2.mem ((c.tc : Thread Cert.DownDxAct.nD Cert.DownDxAct.τ).loc Cert.DownDxAct.main_arg3) = m ((c.tc : Thread Cert.DownDxAct.nD Cert.DownDxAct.τ).loc Cert.DownDxAct.main_arg3))
      ∧ r.2.sem = fun _ => 0)

def quiescent_DownDxActIdeal [hDownDxActIdeal : Cert.DownDxActIdeal.Facts] : Prop :=
  ∀ (m : (ℓ : Loc Cert.DownDxActIdeal.nD Cert.DownDxActIdeal.τ Cert.DownDxActIdeal.sig) → Buf (Elt Ideal) ℓ) (g : Dev Cert.DownDxActIdeal.nD → PrngReg), Pre_DownDxActIdeal m →
    θ_run (Cert.DownDxActIdeal.defs (F := Ideal)) (onTc (τ := Cert.DownDxActIdeal.τ) (Cert.DownDxActIdeal.main (F := Ideal))) ⟨m, fun _ => 0, g⟩ (fun r => (∀ c : Dev Cert.DownDxActIdeal.nD,
      r.2.mem ((c.tc : Thread Cert.DownDxActIdeal.nD Cert.DownDxActIdeal.τ).loc Cert.DownDxActIdeal.main_arg0) = m ((c.tc : Thread Cert.DownDxActIdeal.nD Cert.DownDxActIdeal.τ).loc Cert.DownDxActIdeal.main_arg0)
      ∧ r.2.mem ((c.tc : Thread Cert.DownDxActIdeal.nD Cert.DownDxActIdeal.τ).loc Cert.DownDxActIdeal.main_arg1) = m ((c.tc : Thread Cert.DownDxActIdeal.nD Cert.DownDxActIdeal.τ).loc Cert.DownDxActIdeal.main_arg1)
      ∧ r.2.mem ((c.tc : Thread Cert.DownDxActIdeal.nD Cert.DownDxActIdeal.τ).loc Cert.DownDxActIdeal.main_arg2) = m ((c.tc : Thread Cert.DownDxActIdeal.nD Cert.DownDxActIdeal.τ).loc Cert.DownDxActIdeal.main_arg2)
      ∧ r.2.mem ((c.tc : Thread Cert.DownDxActIdeal.nD Cert.DownDxActIdeal.τ).loc Cert.DownDxActIdeal.main_arg3) = m ((c.tc : Thread Cert.DownDxActIdeal.nD Cert.DownDxActIdeal.τ).loc Cert.DownDxActIdeal.main_arg3))
      ∧ r.2.sem = fun _ => 0)

def quiescent_DownDxActRefIdeal [hDownDxActRefIdeal : Cert.DownDxActRefIdeal.Facts] : Prop :=
  ∀ (m : (ℓ : Loc Cert.DownDxActRefIdeal.nD Cert.DownDxActRefIdeal.τ Cert.DownDxActRefIdeal.sig) → Buf (Elt Ideal) ℓ) (g : Dev Cert.DownDxActRefIdeal.nD → PrngReg), Pre_DownDxActRefIdeal m →
    θ_run (Cert.DownDxActRefIdeal.defs (F := Ideal)) (onTc (τ := Cert.DownDxActRefIdeal.τ) (Cert.DownDxActRefIdeal.main (F := Ideal))) ⟨m, fun _ => 0, g⟩ (fun r => (∀ c : Dev Cert.DownDxActRefIdeal.nD,
      r.2.mem ((c.tc : Thread Cert.DownDxActRefIdeal.nD Cert.DownDxActRefIdeal.τ).loc Cert.DownDxActRefIdeal.main_arg0) = m ((c.tc : Thread Cert.DownDxActRefIdeal.nD Cert.DownDxActRefIdeal.τ).loc Cert.DownDxActRefIdeal.main_arg0)
      ∧ r.2.mem ((c.tc : Thread Cert.DownDxActRefIdeal.nD Cert.DownDxActRefIdeal.τ).loc Cert.DownDxActRefIdeal.main_arg1) = m ((c.tc : Thread Cert.DownDxActRefIdeal.nD Cert.DownDxActRefIdeal.τ).loc Cert.DownDxActRefIdeal.main_arg1)
      ∧ r.2.mem ((c.tc : Thread Cert.DownDxActRefIdeal.nD Cert.DownDxActRefIdeal.τ).loc Cert.DownDxActRefIdeal.main_arg2) = m ((c.tc : Thread Cert.DownDxActRefIdeal.nD Cert.DownDxActRefIdeal.τ).loc Cert.DownDxActRefIdeal.main_arg2)
      ∧ r.2.mem ((c.tc : Thread Cert.DownDxActRefIdeal.nD Cert.DownDxActRefIdeal.τ).loc Cert.DownDxActRefIdeal.main_arg3) = m ((c.tc : Thread Cert.DownDxActRefIdeal.nD Cert.DownDxActRefIdeal.τ).loc Cert.DownDxActRefIdeal.main_arg3))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_AttProj [hAttProj : Cert.AttProj.Facts] : Prop :=
  ∀ (m : (ℓ : Loc Cert.AttProj.nD Cert.AttProj.τ Cert.AttProj.sig) → Buf (Elt Bits) ℓ) (g : Dev Cert.AttProj.nD → PrngReg), Pre_AttProj m →
    θ_run (Cert.AttProj.defs (F := Bits)) (onTc (τ := Cert.AttProj.τ) (Cert.AttProj.main (F := Bits))) ⟨m, fun _ => 0, g⟩ (fun r => (∀ c : Dev Cert.AttProj.nD,
      r.2.mem ((c.tc : Thread Cert.AttProj.nD Cert.AttProj.τ).loc Cert.AttProj.main_arg0) = m ((c.tc : Thread Cert.AttProj.nD Cert.AttProj.τ).loc Cert.AttProj.main_arg0)
      ∧ r.2.mem ((c.tc : Thread Cert.AttProj.nD Cert.AttProj.τ).loc Cert.AttProj.main_arg1) = m ((c.tc : Thread Cert.AttProj.nD Cert.AttProj.τ).loc Cert.AttProj.main_arg1))
      ∧ r.2.sem = fun _ => 0)

def quiescent_AttProjIdeal [hAttProjIdeal : Cert.AttProjIdeal.Facts] : Prop :=
  ∀ (m : (ℓ : Loc Cert.AttProjIdeal.nD Cert.AttProjIdeal.τ Cert.AttProjIdeal.sig) → Buf (Elt Ideal) ℓ) (g : Dev Cert.AttProjIdeal.nD → PrngReg), Pre_AttProjIdeal m →
    θ_run (Cert.AttProjIdeal.defs (F := Ideal)) (onTc (τ := Cert.AttProjIdeal.τ) (Cert.AttProjIdeal.main (F := Ideal))) ⟨m, fun _ => 0, g⟩ (fun r => (∀ c : Dev Cert.AttProjIdeal.nD,
      r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
      ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1))
      ∧ r.2.sem = fun _ => 0)

def quiescent_AttProjRefIdeal [hAttProjRefIdeal : Cert.AttProjRefIdeal.Facts] : Prop :=
  ∀ (m : (ℓ : Loc Cert.AttProjRefIdeal.nD Cert.AttProjRefIdeal.τ Cert.AttProjRefIdeal.sig) → Buf (Elt Ideal) ℓ) (g : Dev Cert.AttProjRefIdeal.nD → PrngReg), Pre_AttProjRefIdeal m →
    θ_run (Cert.AttProjRefIdeal.defs (F := Ideal)) (onTc (τ := Cert.AttProjRefIdeal.τ) (Cert.AttProjRefIdeal.main (F := Ideal))) ⟨m, fun _ => 0, g⟩ (fun r => (∀ c : Dev Cert.AttProjRefIdeal.nD,
      r.2.mem ((c.tc : Thread Cert.AttProjRefIdeal.nD Cert.AttProjRefIdeal.τ).loc Cert.AttProjRefIdeal.main_arg0) = m ((c.tc : Thread Cert.AttProjRefIdeal.nD Cert.AttProjRefIdeal.τ).loc Cert.AttProjRefIdeal.main_arg0)
      ∧ r.2.mem ((c.tc : Thread Cert.AttProjRefIdeal.nD Cert.AttProjRefIdeal.τ).loc Cert.AttProjRefIdeal.main_arg1) = m ((c.tc : Thread Cert.AttProjRefIdeal.nD Cert.AttProjRefIdeal.τ).loc Cert.AttProjRefIdeal.main_arg1))
      ∧ r.2.sem = fun _ => 0)

def quiescent_SsmProj [hSsmProj : Cert.SsmProj.Facts] : Prop :=
  ∀ (m : (ℓ : Loc Cert.SsmProj.nD Cert.SsmProj.τ Cert.SsmProj.sig) → Buf (Elt Bits) ℓ) (g : Dev Cert.SsmProj.nD → PrngReg), Pre_SsmProj m →
    θ_run (Cert.SsmProj.defs (F := Bits)) (onTc (τ := Cert.SsmProj.τ) (Cert.SsmProj.main (F := Bits))) ⟨m, fun _ => 0, g⟩ (fun r => (∀ c : Dev Cert.SsmProj.nD,
      r.2.mem ((c.tc : Thread Cert.SsmProj.nD Cert.SsmProj.τ).loc Cert.SsmProj.main_arg0) = m ((c.tc : Thread Cert.SsmProj.nD Cert.SsmProj.τ).loc Cert.SsmProj.main_arg0)
      ∧ r.2.mem ((c.tc : Thread Cert.SsmProj.nD Cert.SsmProj.τ).loc Cert.SsmProj.main_arg1) = m ((c.tc : Thread Cert.SsmProj.nD Cert.SsmProj.τ).loc Cert.SsmProj.main_arg1))
      ∧ r.2.sem = fun _ => 0)

def quiescent_SsmProjIdeal [hSsmProjIdeal : Cert.SsmProjIdeal.Facts] : Prop :=
  ∀ (m : (ℓ : Loc Cert.SsmProjIdeal.nD Cert.SsmProjIdeal.τ Cert.SsmProjIdeal.sig) → Buf (Elt Ideal) ℓ) (g : Dev Cert.SsmProjIdeal.nD → PrngReg), Pre_SsmProjIdeal m →
    θ_run (Cert.SsmProjIdeal.defs (F := Ideal)) (onTc (τ := Cert.SsmProjIdeal.τ) (Cert.SsmProjIdeal.main (F := Ideal))) ⟨m, fun _ => 0, g⟩ (fun r => (∀ c : Dev Cert.SsmProjIdeal.nD,
      r.2.mem ((c.tc : Thread Cert.SsmProjIdeal.nD Cert.SsmProjIdeal.τ).loc Cert.SsmProjIdeal.main_arg0) = m ((c.tc : Thread Cert.SsmProjIdeal.nD Cert.SsmProjIdeal.τ).loc Cert.SsmProjIdeal.main_arg0)
      ∧ r.2.mem ((c.tc : Thread Cert.SsmProjIdeal.nD Cert.SsmProjIdeal.τ).loc Cert.SsmProjIdeal.main_arg1) = m ((c.tc : Thread Cert.SsmProjIdeal.nD Cert.SsmProjIdeal.τ).loc Cert.SsmProjIdeal.main_arg1))
      ∧ r.2.sem = fun _ => 0)

def quiescent_SsmProjRefIdeal [hSsmProjRefIdeal : Cert.SsmProjRefIdeal.Facts] : Prop :=
  ∀ (m : (ℓ : Loc Cert.SsmProjRefIdeal.nD Cert.SsmProjRefIdeal.τ Cert.SsmProjRefIdeal.sig) → Buf (Elt Ideal) ℓ) (g : Dev Cert.SsmProjRefIdeal.nD → PrngReg), Pre_SsmProjRefIdeal m →
    θ_run (Cert.SsmProjRefIdeal.defs (F := Ideal)) (onTc (τ := Cert.SsmProjRefIdeal.τ) (Cert.SsmProjRefIdeal.main (F := Ideal))) ⟨m, fun _ => 0, g⟩ (fun r => (∀ c : Dev Cert.SsmProjRefIdeal.nD,
      r.2.mem ((c.tc : Thread Cert.SsmProjRefIdeal.nD Cert.SsmProjRefIdeal.τ).loc Cert.SsmProjRefIdeal.main_arg0) = m ((c.tc : Thread Cert.SsmProjRefIdeal.nD Cert.SsmProjRefIdeal.τ).loc Cert.SsmProjRefIdeal.main_arg0)
      ∧ r.2.mem ((c.tc : Thread Cert.SsmProjRefIdeal.nD Cert.SsmProjRefIdeal.τ).loc Cert.SsmProjRefIdeal.main_arg1) = m ((c.tc : Thread Cert.SsmProjRefIdeal.nD Cert.SsmProjRefIdeal.τ).loc Cert.SsmProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_SsmProjDx [hSsmProjDx : Cert.SsmProjDx.Facts] : Prop :=
  ∀ (m : (ℓ : Loc Cert.SsmProjDx.nD Cert.SsmProjDx.τ Cert.SsmProjDx.sig) → Buf (Elt Bits) ℓ) (g : Dev Cert.SsmProjDx.nD → PrngReg), Pre_SsmProjDx m →
    θ_run (Cert.SsmProjDx.defs (F := Bits)) (onTc (τ := Cert.SsmProjDx.τ) (Cert.SsmProjDx.main (F := Bits))) ⟨m, fun _ => 0, g⟩ (fun r => (∀ c : Dev Cert.SsmProjDx.nD,
      r.2.mem ((c.tc : Thread Cert.SsmProjDx.nD Cert.SsmProjDx.τ).loc Cert.SsmProjDx.main_arg0) = m ((c.tc : Thread Cert.SsmProjDx.nD Cert.SsmProjDx.τ).loc Cert.SsmProjDx.main_arg0)
      ∧ r.2.mem ((c.tc : Thread Cert.SsmProjDx.nD Cert.SsmProjDx.τ).loc Cert.SsmProjDx.main_arg1) = m ((c.tc : Thread Cert.SsmProjDx.nD Cert.SsmProjDx.τ).loc Cert.SsmProjDx.main_arg1))
      ∧ r.2.sem = fun _ => 0)

def quiescent_SsmProjDxIdeal [hSsmProjDxIdeal : Cert.SsmProjDxIdeal.Facts] : Prop :=
  ∀ (m : (ℓ : Loc Cert.SsmProjDxIdeal.nD Cert.SsmProjDxIdeal.τ Cert.SsmProjDxIdeal.sig) → Buf (Elt Ideal) ℓ) (g : Dev Cert.SsmProjDxIdeal.nD → PrngReg), Pre_SsmProjDxIdeal m →
    θ_run (Cert.SsmProjDxIdeal.defs (F := Ideal)) (onTc (τ := Cert.SsmProjDxIdeal.τ) (Cert.SsmProjDxIdeal.main (F := Ideal))) ⟨m, fun _ => 0, g⟩ (fun r => (∀ c : Dev Cert.SsmProjDxIdeal.nD,
      r.2.mem ((c.tc : Thread Cert.SsmProjDxIdeal.nD Cert.SsmProjDxIdeal.τ).loc Cert.SsmProjDxIdeal.main_arg0) = m ((c.tc : Thread Cert.SsmProjDxIdeal.nD Cert.SsmProjDxIdeal.τ).loc Cert.SsmProjDxIdeal.main_arg0)
      ∧ r.2.mem ((c.tc : Thread Cert.SsmProjDxIdeal.nD Cert.SsmProjDxIdeal.τ).loc Cert.SsmProjDxIdeal.main_arg1) = m ((c.tc : Thread Cert.SsmProjDxIdeal.nD Cert.SsmProjDxIdeal.τ).loc Cert.SsmProjDxIdeal.main_arg1))
      ∧ r.2.sem = fun _ => 0)

def quiescent_SsmProjDxRefIdeal [hSsmProjDxRefIdeal : Cert.SsmProjDxRefIdeal.Facts] : Prop :=
  ∀ (m : (ℓ : Loc Cert.SsmProjDxRefIdeal.nD Cert.SsmProjDxRefIdeal.τ Cert.SsmProjDxRefIdeal.sig) → Buf (Elt Ideal) ℓ) (g : Dev Cert.SsmProjDxRefIdeal.nD → PrngReg), Pre_SsmProjDxRefIdeal m →
    θ_run (Cert.SsmProjDxRefIdeal.defs (F := Ideal)) (onTc (τ := Cert.SsmProjDxRefIdeal.τ) (Cert.SsmProjDxRefIdeal.main (F := Ideal))) ⟨m, fun _ => 0, g⟩ (fun r => (∀ c : Dev Cert.SsmProjDxRefIdeal.nD,
      r.2.mem ((c.tc : Thread Cert.SsmProjDxRefIdeal.nD Cert.SsmProjDxRefIdeal.τ).loc Cert.SsmProjDxRefIdeal.main_arg0) = m ((c.tc : Thread Cert.SsmProjDxRefIdeal.nD Cert.SsmProjDxRefIdeal.τ).loc Cert.SsmProjDxRefIdeal.main_arg0)
      ∧ r.2.mem ((c.tc : Thread Cert.SsmProjDxRefIdeal.nD Cert.SsmProjDxRefIdeal.τ).loc Cert.SsmProjDxRefIdeal.main_arg1) = m ((c.tc : Thread Cert.SsmProjDxRefIdeal.nD Cert.SsmProjDxRefIdeal.τ).loc Cert.SsmProjDxRefIdeal.main_arg1))
      ∧ r.2.sem = fun _ => 0)

def quiescent_AttProjDx [hAttProjDx : Cert.AttProjDx.Facts] : Prop :=
  ∀ (m : (ℓ : Loc Cert.AttProjDx.nD Cert.AttProjDx.τ Cert.AttProjDx.sig) → Buf (Elt Bits) ℓ) (g : Dev Cert.AttProjDx.nD → PrngReg), Pre_AttProjDx m →
    θ_run (Cert.AttProjDx.defs (F := Bits)) (onTc (τ := Cert.AttProjDx.τ) (Cert.AttProjDx.main (F := Bits))) ⟨m, fun _ => 0, g⟩ (fun r => (∀ c : Dev Cert.AttProjDx.nD,
      r.2.mem ((c.tc : Thread Cert.AttProjDx.nD Cert.AttProjDx.τ).loc Cert.AttProjDx.main_arg0) = m ((c.tc : Thread Cert.AttProjDx.nD Cert.AttProjDx.τ).loc Cert.AttProjDx.main_arg0)
      ∧ r.2.mem ((c.tc : Thread Cert.AttProjDx.nD Cert.AttProjDx.τ).loc Cert.AttProjDx.main_arg1) = m ((c.tc : Thread Cert.AttProjDx.nD Cert.AttProjDx.τ).loc Cert.AttProjDx.main_arg1))
      ∧ r.2.sem = fun _ => 0)

def quiescent_AttProjDxIdeal [hAttProjDxIdeal : Cert.AttProjDxIdeal.Facts] : Prop :=
  ∀ (m : (ℓ : Loc Cert.AttProjDxIdeal.nD Cert.AttProjDxIdeal.τ Cert.AttProjDxIdeal.sig) → Buf (Elt Ideal) ℓ) (g : Dev Cert.AttProjDxIdeal.nD → PrngReg), Pre_AttProjDxIdeal m →
    θ_run (Cert.AttProjDxIdeal.defs (F := Ideal)) (onTc (τ := Cert.AttProjDxIdeal.τ) (Cert.AttProjDxIdeal.main (F := Ideal))) ⟨m, fun _ => 0, g⟩ (fun r => (∀ c : Dev Cert.AttProjDxIdeal.nD,
      r.2.mem ((c.tc : Thread Cert.AttProjDxIdeal.nD Cert.AttProjDxIdeal.τ).loc Cert.AttProjDxIdeal.main_arg0) = m ((c.tc : Thread Cert.AttProjDxIdeal.nD Cert.AttProjDxIdeal.τ).loc Cert.AttProjDxIdeal.main_arg0)
      ∧ r.2.mem ((c.tc : Thread Cert.AttProjDxIdeal.nD Cert.AttProjDxIdeal.τ).loc Cert.AttProjDxIdeal.main_arg1) = m ((c.tc : Thread Cert.AttProjDxIdeal.nD Cert.AttProjDxIdeal.τ).loc Cert.AttProjDxIdeal.main_arg1))
      ∧ r.2.sem = fun _ => 0)

def quiescent_AttProjDxRefIdeal [hAttProjDxRefIdeal : Cert.AttProjDxRefIdeal.Facts] : Prop :=
  ∀ (m : (ℓ : Loc Cert.AttProjDxRefIdeal.nD Cert.AttProjDxRefIdeal.τ Cert.AttProjDxRefIdeal.sig) → Buf (Elt Ideal) ℓ) (g : Dev Cert.AttProjDxRefIdeal.nD → PrngReg), Pre_AttProjDxRefIdeal m →
    θ_run (Cert.AttProjDxRefIdeal.defs (F := Ideal)) (onTc (τ := Cert.AttProjDxRefIdeal.τ) (Cert.AttProjDxRefIdeal.main (F := Ideal))) ⟨m, fun _ => 0, g⟩ (fun r => (∀ c : Dev Cert.AttProjDxRefIdeal.nD,
      r.2.mem ((c.tc : Thread Cert.AttProjDxRefIdeal.nD Cert.AttProjDxRefIdeal.τ).loc Cert.AttProjDxRefIdeal.main_arg0) = m ((c.tc : Thread Cert.AttProjDxRefIdeal.nD Cert.AttProjDxRefIdeal.τ).loc Cert.AttProjDxRefIdeal.main_arg0)
      ∧ r.2.mem ((c.tc : Thread Cert.AttProjDxRefIdeal.nD Cert.AttProjDxRefIdeal.τ).loc Cert.AttProjDxRefIdeal.main_arg1) = m ((c.tc : Thread Cert.AttProjDxRefIdeal.nD Cert.AttProjDxRefIdeal.τ).loc Cert.AttProjDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_SsmProjDw [hSsmProjDw : Cert.SsmProjDw.Facts] : Prop :=
  ∀ (m : (ℓ : Loc Cert.SsmProjDw.nD Cert.SsmProjDw.τ Cert.SsmProjDw.sig) → Buf (Elt Bits) ℓ) (g : Dev Cert.SsmProjDw.nD → PrngReg), Pre_SsmProjDw m →
    θ_run (Cert.SsmProjDw.defs (F := Bits)) (onTc (τ := Cert.SsmProjDw.τ) (Cert.SsmProjDw.main (F := Bits))) ⟨m, fun _ => 0, g⟩ (fun r => (∀ c : Dev Cert.SsmProjDw.nD,
      r.2.mem ((c.tc : Thread Cert.SsmProjDw.nD Cert.SsmProjDw.τ).loc Cert.SsmProjDw.main_arg0) = m ((c.tc : Thread Cert.SsmProjDw.nD Cert.SsmProjDw.τ).loc Cert.SsmProjDw.main_arg0)
      ∧ r.2.mem ((c.tc : Thread Cert.SsmProjDw.nD Cert.SsmProjDw.τ).loc Cert.SsmProjDw.main_arg1) = m ((c.tc : Thread Cert.SsmProjDw.nD Cert.SsmProjDw.τ).loc Cert.SsmProjDw.main_arg1)
      ∧ r.2.mem ((c.tc : Thread Cert.SsmProjDw.nD Cert.SsmProjDw.τ).loc Cert.SsmProjDw.main_arg2) = m ((c.tc : Thread Cert.SsmProjDw.nD Cert.SsmProjDw.τ).loc Cert.SsmProjDw.main_arg2))
      ∧ r.2.sem = fun _ => 0)

def quiescent_SsmProjDwIdeal [hSsmProjDwIdeal : Cert.SsmProjDwIdeal.Facts] : Prop :=
  ∀ (m : (ℓ : Loc Cert.SsmProjDwIdeal.nD Cert.SsmProjDwIdeal.τ Cert.SsmProjDwIdeal.sig) → Buf (Elt Ideal) ℓ) (g : Dev Cert.SsmProjDwIdeal.nD → PrngReg), Pre_SsmProjDwIdeal m →
    θ_run (Cert.SsmProjDwIdeal.defs (F := Ideal)) (onTc (τ := Cert.SsmProjDwIdeal.τ) (Cert.SsmProjDwIdeal.main (F := Ideal))) ⟨m, fun _ => 0, g⟩ (fun r => (∀ c : Dev Cert.SsmProjDwIdeal.nD,
      r.2.mem ((c.tc : Thread Cert.SsmProjDwIdeal.nD Cert.SsmProjDwIdeal.τ).loc Cert.SsmProjDwIdeal.main_arg0) = m ((c.tc : Thread Cert.SsmProjDwIdeal.nD Cert.SsmProjDwIdeal.τ).loc Cert.SsmProjDwIdeal.main_arg0)
      ∧ r.2.mem ((c.tc : Thread Cert.SsmProjDwIdeal.nD Cert.SsmProjDwIdeal.τ).loc Cert.SsmProjDwIdeal.main_arg1) = m ((c.tc : Thread Cert.SsmProjDwIdeal.nD Cert.SsmProjDwIdeal.τ).loc Cert.SsmProjDwIdeal.main_arg1)
      ∧ r.2.mem ((c.tc : Thread Cert.SsmProjDwIdeal.nD Cert.SsmProjDwIdeal.τ).loc Cert.SsmProjDwIdeal.main_arg2) = m ((c.tc : Thread Cert.SsmProjDwIdeal.nD Cert.SsmProjDwIdeal.τ).loc Cert.SsmProjDwIdeal.main_arg2))
      ∧ r.2.sem = fun _ => 0)

def quiescent_SsmProjDwRefIdeal [hSsmProjDwRefIdeal : Cert.SsmProjDwRefIdeal.Facts] : Prop :=
  ∀ (m : (ℓ : Loc Cert.SsmProjDwRefIdeal.nD Cert.SsmProjDwRefIdeal.τ Cert.SsmProjDwRefIdeal.sig) → Buf (Elt Ideal) ℓ) (g : Dev Cert.SsmProjDwRefIdeal.nD → PrngReg), Pre_SsmProjDwRefIdeal m →
    θ_run (Cert.SsmProjDwRefIdeal.defs (F := Ideal)) (onTc (τ := Cert.SsmProjDwRefIdeal.τ) (Cert.SsmProjDwRefIdeal.main (F := Ideal))) ⟨m, fun _ => 0, g⟩ (fun r => (∀ c : Dev Cert.SsmProjDwRefIdeal.nD,
      r.2.mem ((c.tc : Thread Cert.SsmProjDwRefIdeal.nD Cert.SsmProjDwRefIdeal.τ).loc Cert.SsmProjDwRefIdeal.main_arg0) = m ((c.tc : Thread Cert.SsmProjDwRefIdeal.nD Cert.SsmProjDwRefIdeal.τ).loc Cert.SsmProjDwRefIdeal.main_arg0)
      ∧ r.2.mem ((c.tc : Thread Cert.SsmProjDwRefIdeal.nD Cert.SsmProjDwRefIdeal.τ).loc Cert.SsmProjDwRefIdeal.main_arg1) = m ((c.tc : Thread Cert.SsmProjDwRefIdeal.nD Cert.SsmProjDwRefIdeal.τ).loc Cert.SsmProjDwRefIdeal.main_arg1)
      ∧ r.2.mem ((c.tc : Thread Cert.SsmProjDwRefIdeal.nD Cert.SsmProjDwRefIdeal.τ).loc Cert.SsmProjDwRefIdeal.main_arg2) = m ((c.tc : Thread Cert.SsmProjDwRefIdeal.nD Cert.SsmProjDwRefIdeal.τ).loc Cert.SsmProjDwRefIdeal.main_arg2))
      ∧ r.2.sem = fun _ => 0)

def quiescent_AttProjDw [hAttProjDw : Cert.AttProjDw.Facts] : Prop :=
  ∀ (m : (ℓ : Loc Cert.AttProjDw.nD Cert.AttProjDw.τ Cert.AttProjDw.sig) → Buf (Elt Bits) ℓ) (g : Dev Cert.AttProjDw.nD → PrngReg), Pre_AttProjDw m →
    θ_run (Cert.AttProjDw.defs (F := Bits)) (onTc (τ := Cert.AttProjDw.τ) (Cert.AttProjDw.main (F := Bits))) ⟨m, fun _ => 0, g⟩ (fun r => (∀ c : Dev Cert.AttProjDw.nD,
      r.2.mem ((c.tc : Thread Cert.AttProjDw.nD Cert.AttProjDw.τ).loc Cert.AttProjDw.main_arg0) = m ((c.tc : Thread Cert.AttProjDw.nD Cert.AttProjDw.τ).loc Cert.AttProjDw.main_arg0)
      ∧ r.2.mem ((c.tc : Thread Cert.AttProjDw.nD Cert.AttProjDw.τ).loc Cert.AttProjDw.main_arg1) = m ((c.tc : Thread Cert.AttProjDw.nD Cert.AttProjDw.τ).loc Cert.AttProjDw.main_arg1)
      ∧ r.2.mem ((c.tc : Thread Cert.AttProjDw.nD Cert.AttProjDw.τ).loc Cert.AttProjDw.main_arg2) = m ((c.tc : Thread Cert.AttProjDw.nD Cert.AttProjDw.τ).loc Cert.AttProjDw.main_arg2))
      ∧ r.2.sem = fun _ => 0)

def quiescent_AttProjDwIdeal [hAttProjDwIdeal : Cert.AttProjDwIdeal.Facts] : Prop :=
  ∀ (m : (ℓ : Loc Cert.AttProjDwIdeal.nD Cert.AttProjDwIdeal.τ Cert.AttProjDwIdeal.sig) → Buf (Elt Ideal) ℓ) (g : Dev Cert.AttProjDwIdeal.nD → PrngReg), Pre_AttProjDwIdeal m →
    θ_run (Cert.AttProjDwIdeal.defs (F := Ideal)) (onTc (τ := Cert.AttProjDwIdeal.τ) (Cert.AttProjDwIdeal.main (F := Ideal))) ⟨m, fun _ => 0, g⟩ (fun r => (∀ c : Dev Cert.AttProjDwIdeal.nD,
      r.2.mem ((c.tc : Thread Cert.AttProjDwIdeal.nD Cert.AttProjDwIdeal.τ).loc Cert.AttProjDwIdeal.main_arg0) = m ((c.tc : Thread Cert.AttProjDwIdeal.nD Cert.AttProjDwIdeal.τ).loc Cert.AttProjDwIdeal.main_arg0)
      ∧ r.2.mem ((c.tc : Thread Cert.AttProjDwIdeal.nD Cert.AttProjDwIdeal.τ).loc Cert.AttProjDwIdeal.main_arg1) = m ((c.tc : Thread Cert.AttProjDwIdeal.nD Cert.AttProjDwIdeal.τ).loc Cert.AttProjDwIdeal.main_arg1)
      ∧ r.2.mem ((c.tc : Thread Cert.AttProjDwIdeal.nD Cert.AttProjDwIdeal.τ).loc Cert.AttProjDwIdeal.main_arg2) = m ((c.tc : Thread Cert.AttProjDwIdeal.nD Cert.AttProjDwIdeal.τ).loc Cert.AttProjDwIdeal.main_arg2))
      ∧ r.2.sem = fun _ => 0)

def quiescent_AttProjDwRefIdeal [hAttProjDwRefIdeal : Cert.AttProjDwRefIdeal.Facts] : Prop :=
  ∀ (m : (ℓ : Loc Cert.AttProjDwRefIdeal.nD Cert.AttProjDwRefIdeal.τ Cert.AttProjDwRefIdeal.sig) → Buf (Elt Ideal) ℓ) (g : Dev Cert.AttProjDwRefIdeal.nD → PrngReg), Pre_AttProjDwRefIdeal m →
    θ_run (Cert.AttProjDwRefIdeal.defs (F := Ideal)) (onTc (τ := Cert.AttProjDwRefIdeal.τ) (Cert.AttProjDwRefIdeal.main (F := Ideal))) ⟨m, fun _ => 0, g⟩ (fun r => (∀ c : Dev Cert.AttProjDwRefIdeal.nD,
      r.2.mem ((c.tc : Thread Cert.AttProjDwRefIdeal.nD Cert.AttProjDwRefIdeal.τ).loc Cert.AttProjDwRefIdeal.main_arg0) = m ((c.tc : Thread Cert.AttProjDwRefIdeal.nD Cert.AttProjDwRefIdeal.τ).loc Cert.AttProjDwRefIdeal.main_arg0)
      ∧ r.2.mem ((c.tc : Thread Cert.AttProjDwRefIdeal.nD Cert.AttProjDwRefIdeal.τ).loc Cert.AttProjDwRefIdeal.main_arg1) = m ((c.tc : Thread Cert.AttProjDwRefIdeal.nD Cert.AttProjDwRefIdeal.τ).loc Cert.AttProjDwRefIdeal.main_arg1)
      ∧ r.2.mem ((c.tc : Thread Cert.AttProjDwRefIdeal.nD Cert.AttProjDwRefIdeal.τ).loc Cert.AttProjDwRefIdeal.main_arg2) = m ((c.tc : Thread Cert.AttProjDwRefIdeal.nD Cert.AttProjDwRefIdeal.τ).loc Cert.AttProjDwRefIdeal.main_arg2))
      ∧ r.2.sem = fun _ => 0)

def quiescent_AdamwCol [hAdamwCol : Cert.AdamwCol.Facts] : Prop :=
  ∀ (m : (ℓ : Loc Cert.AdamwCol.nD Cert.AdamwCol.τ Cert.AdamwCol.sig) → Buf (Elt Bits) ℓ) (g : Dev Cert.AdamwCol.nD → PrngReg), Pre_AdamwCol m →
    θ_run (Cert.AdamwCol.defs (F := Bits)) (onTc (τ := Cert.AdamwCol.τ) (Cert.AdamwCol.main (F := Bits))) ⟨m, fun _ => 0, g⟩ (fun r => (∀ c : Dev Cert.AdamwCol.nD,
      r.2.mem ((c.tc : Thread Cert.AdamwCol.nD Cert.AdamwCol.τ).loc Cert.AdamwCol.main_arg0) = m ((c.tc : Thread Cert.AdamwCol.nD Cert.AdamwCol.τ).loc Cert.AdamwCol.main_arg0)
      ∧ r.2.mem ((c.tc : Thread Cert.AdamwCol.nD Cert.AdamwCol.τ).loc Cert.AdamwCol.main_arg1) = m ((c.tc : Thread Cert.AdamwCol.nD Cert.AdamwCol.τ).loc Cert.AdamwCol.main_arg1)
      ∧ r.2.mem ((c.tc : Thread Cert.AdamwCol.nD Cert.AdamwCol.τ).loc Cert.AdamwCol.main_arg2) = m ((c.tc : Thread Cert.AdamwCol.nD Cert.AdamwCol.τ).loc Cert.AdamwCol.main_arg2)
      ∧ r.2.mem ((c.tc : Thread Cert.AdamwCol.nD Cert.AdamwCol.τ).loc Cert.AdamwCol.main_arg3) = m ((c.tc : Thread Cert.AdamwCol.nD Cert.AdamwCol.τ).loc Cert.AdamwCol.main_arg3))
      ∧ r.2.sem = fun _ => 0)

def quiescent_AdamwColIdeal [hAdamwColIdeal : Cert.AdamwColIdeal.Facts] : Prop :=
  ∀ (m : (ℓ : Loc Cert.AdamwColIdeal.nD Cert.AdamwColIdeal.τ Cert.AdamwColIdeal.sig) → Buf (Elt Ideal) ℓ) (g : Dev Cert.AdamwColIdeal.nD → PrngReg), Pre_AdamwColIdeal m →
    θ_run (Cert.AdamwColIdeal.defs (F := Ideal)) (onTc (τ := Cert.AdamwColIdeal.τ) (Cert.AdamwColIdeal.main (F := Ideal))) ⟨m, fun _ => 0, g⟩ (fun r => (∀ c : Dev Cert.AdamwColIdeal.nD,
      r.2.mem ((c.tc : Thread Cert.AdamwColIdeal.nD Cert.AdamwColIdeal.τ).loc Cert.AdamwColIdeal.main_arg0) = m ((c.tc : Thread Cert.AdamwColIdeal.nD Cert.AdamwColIdeal.τ).loc Cert.AdamwColIdeal.main_arg0)
      ∧ r.2.mem ((c.tc : Thread Cert.AdamwColIdeal.nD Cert.AdamwColIdeal.τ).loc Cert.AdamwColIdeal.main_arg1) = m ((c.tc : Thread Cert.AdamwColIdeal.nD Cert.AdamwColIdeal.τ).loc Cert.AdamwColIdeal.main_arg1)
      ∧ r.2.mem ((c.tc : Thread Cert.AdamwColIdeal.nD Cert.AdamwColIdeal.τ).loc Cert.AdamwColIdeal.main_arg2) = m ((c.tc : Thread Cert.AdamwColIdeal.nD Cert.AdamwColIdeal.τ).loc Cert.AdamwColIdeal.main_arg2)
      ∧ r.2.mem ((c.tc : Thread Cert.AdamwColIdeal.nD Cert.AdamwColIdeal.τ).loc Cert.AdamwColIdeal.main_arg3) = m ((c.tc : Thread Cert.AdamwColIdeal.nD Cert.AdamwColIdeal.τ).loc Cert.AdamwColIdeal.main_arg3))
      ∧ r.2.sem = fun _ => 0)

def quiescent_AdamwColRefIdeal [hAdamwColRefIdeal : Cert.AdamwColRefIdeal.Facts] : Prop :=
  ∀ (m : (ℓ : Loc Cert.AdamwColRefIdeal.nD Cert.AdamwColRefIdeal.τ Cert.AdamwColRefIdeal.sig) → Buf (Elt Ideal) ℓ) (g : Dev Cert.AdamwColRefIdeal.nD → PrngReg), Pre_AdamwColRefIdeal m →
    θ_run (Cert.AdamwColRefIdeal.defs (F := Ideal)) (onTc (τ := Cert.AdamwColRefIdeal.τ) (Cert.AdamwColRefIdeal.main (F := Ideal))) ⟨m, fun _ => 0, g⟩ (fun r => (∀ c : Dev Cert.AdamwColRefIdeal.nD,
      r.2.mem ((c.tc : Thread Cert.AdamwColRefIdeal.nD Cert.AdamwColRefIdeal.τ).loc Cert.AdamwColRefIdeal.main_arg0) = m ((c.tc : Thread Cert.AdamwColRefIdeal.nD Cert.AdamwColRefIdeal.τ).loc Cert.AdamwColRefIdeal.main_arg0)
      ∧ r.2.mem ((c.tc : Thread Cert.AdamwColRefIdeal.nD Cert.AdamwColRefIdeal.τ).loc Cert.AdamwColRefIdeal.main_arg1) = m ((c.tc : Thread Cert.AdamwColRefIdeal.nD Cert.AdamwColRefIdeal.τ).loc Cert.AdamwColRefIdeal.main_arg1)
      ∧ r.2.mem ((c.tc : Thread Cert.AdamwColRefIdeal.nD Cert.AdamwColRefIdeal.τ).loc Cert.AdamwColRefIdeal.main_arg2) = m ((c.tc : Thread Cert.AdamwColRefIdeal.nD Cert.AdamwColRefIdeal.τ).loc Cert.AdamwColRefIdeal.main_arg2)
      ∧ r.2.mem ((c.tc : Thread Cert.AdamwColRefIdeal.nD Cert.AdamwColRefIdeal.τ).loc Cert.AdamwColRefIdeal.main_arg3) = m ((c.tc : Thread Cert.AdamwColRefIdeal.nD Cert.AdamwColRefIdeal.τ).loc Cert.AdamwColRefIdeal.main_arg3))
      ∧ r.2.sem = fun _ => 0)

def quiescent_AdamwRow [hAdamwRow : Cert.AdamwRow.Facts] : Prop :=
  ∀ (m : (ℓ : Loc Cert.AdamwRow.nD Cert.AdamwRow.τ Cert.AdamwRow.sig) → Buf (Elt Bits) ℓ) (g : Dev Cert.AdamwRow.nD → PrngReg), Pre_AdamwRow m →
    θ_run (Cert.AdamwRow.defs (F := Bits)) (onTc (τ := Cert.AdamwRow.τ) (Cert.AdamwRow.main (F := Bits))) ⟨m, fun _ => 0, g⟩ (fun r => (∀ c : Dev Cert.AdamwRow.nD,
      r.2.mem ((c.tc : Thread Cert.AdamwRow.nD Cert.AdamwRow.τ).loc Cert.AdamwRow.main_arg0) = m ((c.tc : Thread Cert.AdamwRow.nD Cert.AdamwRow.τ).loc Cert.AdamwRow.main_arg0)
      ∧ r.2.mem ((c.tc : Thread Cert.AdamwRow.nD Cert.AdamwRow.τ).loc Cert.AdamwRow.main_arg1) = m ((c.tc : Thread Cert.AdamwRow.nD Cert.AdamwRow.τ).loc Cert.AdamwRow.main_arg1)
      ∧ r.2.mem ((c.tc : Thread Cert.AdamwRow.nD Cert.AdamwRow.τ).loc Cert.AdamwRow.main_arg2) = m ((c.tc : Thread Cert.AdamwRow.nD Cert.AdamwRow.τ).loc Cert.AdamwRow.main_arg2)
      ∧ r.2.mem ((c.tc : Thread Cert.AdamwRow.nD Cert.AdamwRow.τ).loc Cert.AdamwRow.main_arg3) = m ((c.tc : Thread Cert.AdamwRow.nD Cert.AdamwRow.τ).loc Cert.AdamwRow.main_arg3))
      ∧ r.2.sem = fun _ => 0)

def quiescent_AdamwRowIdeal [hAdamwRowIdeal : Cert.AdamwRowIdeal.Facts] : Prop :=
  ∀ (m : (ℓ : Loc Cert.AdamwRowIdeal.nD Cert.AdamwRowIdeal.τ Cert.AdamwRowIdeal.sig) → Buf (Elt Ideal) ℓ) (g : Dev Cert.AdamwRowIdeal.nD → PrngReg), Pre_AdamwRowIdeal m →
    θ_run (Cert.AdamwRowIdeal.defs (F := Ideal)) (onTc (τ := Cert.AdamwRowIdeal.τ) (Cert.AdamwRowIdeal.main (F := Ideal))) ⟨m, fun _ => 0, g⟩ (fun r => (∀ c : Dev Cert.AdamwRowIdeal.nD,
      r.2.mem ((c.tc : Thread Cert.AdamwRowIdeal.nD Cert.AdamwRowIdeal.τ).loc Cert.AdamwRowIdeal.main_arg0) = m ((c.tc : Thread Cert.AdamwRowIdeal.nD Cert.AdamwRowIdeal.τ).loc Cert.AdamwRowIdeal.main_arg0)
      ∧ r.2.mem ((c.tc : Thread Cert.AdamwRowIdeal.nD Cert.AdamwRowIdeal.τ).loc Cert.AdamwRowIdeal.main_arg1) = m ((c.tc : Thread Cert.AdamwRowIdeal.nD Cert.AdamwRowIdeal.τ).loc Cert.AdamwRowIdeal.main_arg1)
      ∧ r.2.mem ((c.tc : Thread Cert.AdamwRowIdeal.nD Cert.AdamwRowIdeal.τ).loc Cert.AdamwRowIdeal.main_arg2) = m ((c.tc : Thread Cert.AdamwRowIdeal.nD Cert.AdamwRowIdeal.τ).loc Cert.AdamwRowIdeal.main_arg2)
      ∧ r.2.mem ((c.tc : Thread Cert.AdamwRowIdeal.nD Cert.AdamwRowIdeal.τ).loc Cert.AdamwRowIdeal.main_arg3) = m ((c.tc : Thread Cert.AdamwRowIdeal.nD Cert.AdamwRowIdeal.τ).loc Cert.AdamwRowIdeal.main_arg3))
      ∧ r.2.sem = fun _ => 0)

def quiescent_AdamwRowRefIdeal [hAdamwRowRefIdeal : Cert.AdamwRowRefIdeal.Facts] : Prop :=
  ∀ (m : (ℓ : Loc Cert.AdamwRowRefIdeal.nD Cert.AdamwRowRefIdeal.τ Cert.AdamwRowRefIdeal.sig) → Buf (Elt Ideal) ℓ) (g : Dev Cert.AdamwRowRefIdeal.nD → PrngReg), Pre_AdamwRowRefIdeal m →
    θ_run (Cert.AdamwRowRefIdeal.defs (F := Ideal)) (onTc (τ := Cert.AdamwRowRefIdeal.τ) (Cert.AdamwRowRefIdeal.main (F := Ideal))) ⟨m, fun _ => 0, g⟩ (fun r => (∀ c : Dev Cert.AdamwRowRefIdeal.nD,
      r.2.mem ((c.tc : Thread Cert.AdamwRowRefIdeal.nD Cert.AdamwRowRefIdeal.τ).loc Cert.AdamwRowRefIdeal.main_arg0) = m ((c.tc : Thread Cert.AdamwRowRefIdeal.nD Cert.AdamwRowRefIdeal.τ).loc Cert.AdamwRowRefIdeal.main_arg0)
      ∧ r.2.mem ((c.tc : Thread Cert.AdamwRowRefIdeal.nD Cert.AdamwRowRefIdeal.τ).loc Cert.AdamwRowRefIdeal.main_arg1) = m ((c.tc : Thread Cert.AdamwRowRefIdeal.nD Cert.AdamwRowRefIdeal.τ).loc Cert.AdamwRowRefIdeal.main_arg1)
      ∧ r.2.mem ((c.tc : Thread Cert.AdamwRowRefIdeal.nD Cert.AdamwRowRefIdeal.τ).loc Cert.AdamwRowRefIdeal.main_arg2) = m ((c.tc : Thread Cert.AdamwRowRefIdeal.nD Cert.AdamwRowRefIdeal.τ).loc Cert.AdamwRowRefIdeal.main_arg2)
      ∧ r.2.mem ((c.tc : Thread Cert.AdamwRowRefIdeal.nD Cert.AdamwRowRefIdeal.τ).loc Cert.AdamwRowRefIdeal.main_arg3) = m ((c.tc : Thread Cert.AdamwRowRefIdeal.nD Cert.AdamwRowRefIdeal.τ).loc Cert.AdamwRowRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvRefIdeal [hAdamwConvRefIdeal : Cert.AdamwConvRefIdeal.Facts] : Prop :=
  ∀ (m : (ℓ : Loc Cert.AdamwConvRefIdeal.nD Cert.AdamwConvRefIdeal.τ Cert.AdamwConvRefIdeal.sig) → Buf (Elt Ideal) ℓ) (g : Dev Cert.AdamwConvRefIdeal.nD → PrngReg), Pre_AdamwConvRefIdeal m →
    θ_run (Cert.AdamwConvRefIdeal.defs (F := Ideal)) (onTc (τ := Cert.AdamwConvRefIdeal.τ) (Cert.AdamwConvRefIdeal.main (F := Ideal))) ⟨m, fun _ => 0, g⟩ (fun r => (∀ c : Dev Cert.AdamwConvRefIdeal.nD,
      r.2.mem ((c.tc : Thread Cert.AdamwConvRefIdeal.nD Cert.AdamwConvRefIdeal.τ).loc Cert.AdamwConvRefIdeal.main_arg0) = m ((c.tc : Thread Cert.AdamwConvRefIdeal.nD Cert.AdamwConvRefIdeal.τ).loc Cert.AdamwConvRefIdeal.main_arg0)
      ∧ r.2.mem ((c.tc : Thread Cert.AdamwConvRefIdeal.nD Cert.AdamwConvRefIdeal.τ).loc Cert.AdamwConvRefIdeal.main_arg1) = m ((c.tc : Thread Cert.AdamwConvRefIdeal.nD Cert.AdamwConvRefIdeal.τ).loc Cert.AdamwConvRefIdeal.main_arg1)
      ∧ r.2.mem ((c.tc : Thread Cert.AdamwConvRefIdeal.nD Cert.AdamwConvRefIdeal.τ).loc Cert.AdamwConvRefIdeal.main_arg2) = m ((c.tc : Thread Cert.AdamwConvRefIdeal.nD Cert.AdamwConvRefIdeal.τ).loc Cert.AdamwConvRefIdeal.main_arg2)
      ∧ r.2.mem ((c.tc : Thread Cert.AdamwConvRefIdeal.nD Cert.AdamwConvRefIdeal.τ).loc Cert.AdamwConvRefIdeal.main_arg3) = m ((c.tc : Thread Cert.AdamwConvRefIdeal.nD Cert.AdamwConvRefIdeal.τ).loc Cert.AdamwConvRefIdeal.main_arg3))
      ∧ r.2.sem = fun _ => 0)

def quiescent_AdamwAtt [hAdamwAtt : Cert.AdamwAtt.Facts] : Prop :=
  ∀ (m : (ℓ : Loc Cert.AdamwAtt.nD Cert.AdamwAtt.τ Cert.AdamwAtt.sig) → Buf (Elt Bits) ℓ) (g : Dev Cert.AdamwAtt.nD → PrngReg), Pre_AdamwAtt m →
    θ_run (Cert.AdamwAtt.defs (F := Bits)) (onTc (τ := Cert.AdamwAtt.τ) (Cert.AdamwAtt.main (F := Bits))) ⟨m, fun _ => 0, g⟩ (fun r => (∀ c : Dev Cert.AdamwAtt.nD,
      r.2.mem ((c.tc : Thread Cert.AdamwAtt.nD Cert.AdamwAtt.τ).loc Cert.AdamwAtt.main_arg0) = m ((c.tc : Thread Cert.AdamwAtt.nD Cert.AdamwAtt.τ).loc Cert.AdamwAtt.main_arg0)
      ∧ r.2.mem ((c.tc : Thread Cert.AdamwAtt.nD Cert.AdamwAtt.τ).loc Cert.AdamwAtt.main_arg1) = m ((c.tc : Thread Cert.AdamwAtt.nD Cert.AdamwAtt.τ).loc Cert.AdamwAtt.main_arg1)
      ∧ r.2.mem ((c.tc : Thread Cert.AdamwAtt.nD Cert.AdamwAtt.τ).loc Cert.AdamwAtt.main_arg2) = m ((c.tc : Thread Cert.AdamwAtt.nD Cert.AdamwAtt.τ).loc Cert.AdamwAtt.main_arg2)
      ∧ r.2.mem ((c.tc : Thread Cert.AdamwAtt.nD Cert.AdamwAtt.τ).loc Cert.AdamwAtt.main_arg3) = m ((c.tc : Thread Cert.AdamwAtt.nD Cert.AdamwAtt.τ).loc Cert.AdamwAtt.main_arg3))
      ∧ r.2.sem = fun _ => 0)

def quiescent_AdamwAttIdeal [hAdamwAttIdeal : Cert.AdamwAttIdeal.Facts] : Prop :=
  ∀ (m : (ℓ : Loc Cert.AdamwAttIdeal.nD Cert.AdamwAttIdeal.τ Cert.AdamwAttIdeal.sig) → Buf (Elt Ideal) ℓ) (g : Dev Cert.AdamwAttIdeal.nD → PrngReg), Pre_AdamwAttIdeal m →
    θ_run (Cert.AdamwAttIdeal.defs (F := Ideal)) (onTc (τ := Cert.AdamwAttIdeal.τ) (Cert.AdamwAttIdeal.main (F := Ideal))) ⟨m, fun _ => 0, g⟩ (fun r => (∀ c : Dev Cert.AdamwAttIdeal.nD,
      r.2.mem ((c.tc : Thread Cert.AdamwAttIdeal.nD Cert.AdamwAttIdeal.τ).loc Cert.AdamwAttIdeal.main_arg0) = m ((c.tc : Thread Cert.AdamwAttIdeal.nD Cert.AdamwAttIdeal.τ).loc Cert.AdamwAttIdeal.main_arg0)
      ∧ r.2.mem ((c.tc : Thread Cert.AdamwAttIdeal.nD Cert.AdamwAttIdeal.τ).loc Cert.AdamwAttIdeal.main_arg1) = m ((c.tc : Thread Cert.AdamwAttIdeal.nD Cert.AdamwAttIdeal.τ).loc Cert.AdamwAttIdeal.main_arg1)
      ∧ r.2.mem ((c.tc : Thread Cert.AdamwAttIdeal.nD Cert.AdamwAttIdeal.τ).loc Cert.AdamwAttIdeal.main_arg2) = m ((c.tc : Thread Cert.AdamwAttIdeal.nD Cert.AdamwAttIdeal.τ).loc Cert.AdamwAttIdeal.main_arg2)
      ∧ r.2.mem ((c.tc : Thread Cert.AdamwAttIdeal.nD Cert.AdamwAttIdeal.τ).loc Cert.AdamwAttIdeal.main_arg3) = m ((c.tc : Thread Cert.AdamwAttIdeal.nD Cert.AdamwAttIdeal.τ).loc Cert.AdamwAttIdeal.main_arg3))
      ∧ r.2.sem = fun _ => 0)

def quiescent_AdamwAttRefIdeal [hAdamwAttRefIdeal : Cert.AdamwAttRefIdeal.Facts] : Prop :=
  ∀ (m : (ℓ : Loc Cert.AdamwAttRefIdeal.nD Cert.AdamwAttRefIdeal.τ Cert.AdamwAttRefIdeal.sig) → Buf (Elt Ideal) ℓ) (g : Dev Cert.AdamwAttRefIdeal.nD → PrngReg), Pre_AdamwAttRefIdeal m →
    θ_run (Cert.AdamwAttRefIdeal.defs (F := Ideal)) (onTc (τ := Cert.AdamwAttRefIdeal.τ) (Cert.AdamwAttRefIdeal.main (F := Ideal))) ⟨m, fun _ => 0, g⟩ (fun r => (∀ c : Dev Cert.AdamwAttRefIdeal.nD,
      r.2.mem ((c.tc : Thread Cert.AdamwAttRefIdeal.nD Cert.AdamwAttRefIdeal.τ).loc Cert.AdamwAttRefIdeal.main_arg0) = m ((c.tc : Thread Cert.AdamwAttRefIdeal.nD Cert.AdamwAttRefIdeal.τ).loc Cert.AdamwAttRefIdeal.main_arg0)
      ∧ r.2.mem ((c.tc : Thread Cert.AdamwAttRefIdeal.nD Cert.AdamwAttRefIdeal.τ).loc Cert.AdamwAttRefIdeal.main_arg1) = m ((c.tc : Thread Cert.AdamwAttRefIdeal.nD Cert.AdamwAttRefIdeal.τ).loc Cert.AdamwAttRefIdeal.main_arg1)
      ∧ r.2.mem ((c.tc : Thread Cert.AdamwAttRefIdeal.nD Cert.AdamwAttRefIdeal.τ).loc Cert.AdamwAttRefIdeal.main_arg2) = m ((c.tc : Thread Cert.AdamwAttRefIdeal.nD Cert.AdamwAttRefIdeal.τ).loc Cert.AdamwAttRefIdeal.main_arg2)
      ∧ r.2.mem ((c.tc : Thread Cert.AdamwAttRefIdeal.nD Cert.AdamwAttRefIdeal.τ).loc Cert.AdamwAttRefIdeal.main_arg3) = m ((c.tc : Thread Cert.AdamwAttRefIdeal.nD Cert.AdamwAttRefIdeal.τ).loc Cert.AdamwAttRefIdeal.main_arg3))
      ∧ r.2.sem = fun _ => 0)

def quiescent_AdamwSsm [hAdamwSsm : Cert.AdamwSsm.Facts] : Prop :=
  ∀ (m : (ℓ : Loc Cert.AdamwSsm.nD Cert.AdamwSsm.τ Cert.AdamwSsm.sig) → Buf (Elt Bits) ℓ) (g : Dev Cert.AdamwSsm.nD → PrngReg), Pre_AdamwSsm m →
    θ_run (Cert.AdamwSsm.defs (F := Bits)) (onTc (τ := Cert.AdamwSsm.τ) (Cert.AdamwSsm.main (F := Bits))) ⟨m, fun _ => 0, g⟩ (fun r => (∀ c : Dev Cert.AdamwSsm.nD,
      r.2.mem ((c.tc : Thread Cert.AdamwSsm.nD Cert.AdamwSsm.τ).loc Cert.AdamwSsm.main_arg0) = m ((c.tc : Thread Cert.AdamwSsm.nD Cert.AdamwSsm.τ).loc Cert.AdamwSsm.main_arg0)
      ∧ r.2.mem ((c.tc : Thread Cert.AdamwSsm.nD Cert.AdamwSsm.τ).loc Cert.AdamwSsm.main_arg1) = m ((c.tc : Thread Cert.AdamwSsm.nD Cert.AdamwSsm.τ).loc Cert.AdamwSsm.main_arg1)
      ∧ r.2.mem ((c.tc : Thread Cert.AdamwSsm.nD Cert.AdamwSsm.τ).loc Cert.AdamwSsm.main_arg2) = m ((c.tc : Thread Cert.AdamwSsm.nD Cert.AdamwSsm.τ).loc Cert.AdamwSsm.main_arg2)
      ∧ r.2.mem ((c.tc : Thread Cert.AdamwSsm.nD Cert.AdamwSsm.τ).loc Cert.AdamwSsm.main_arg3) = m ((c.tc : Thread Cert.AdamwSsm.nD Cert.AdamwSsm.τ).loc Cert.AdamwSsm.main_arg3))
      ∧ r.2.sem = fun _ => 0)

def quiescent_AdamwSsmIdeal [hAdamwSsmIdeal : Cert.AdamwSsmIdeal.Facts] : Prop :=
  ∀ (m : (ℓ : Loc Cert.AdamwSsmIdeal.nD Cert.AdamwSsmIdeal.τ Cert.AdamwSsmIdeal.sig) → Buf (Elt Ideal) ℓ) (g : Dev Cert.AdamwSsmIdeal.nD → PrngReg), Pre_AdamwSsmIdeal m →
    θ_run (Cert.AdamwSsmIdeal.defs (F := Ideal)) (onTc (τ := Cert.AdamwSsmIdeal.τ) (Cert.AdamwSsmIdeal.main (F := Ideal))) ⟨m, fun _ => 0, g⟩ (fun r => (∀ c : Dev Cert.AdamwSsmIdeal.nD,
      r.2.mem ((c.tc : Thread Cert.AdamwSsmIdeal.nD Cert.AdamwSsmIdeal.τ).loc Cert.AdamwSsmIdeal.main_arg0) = m ((c.tc : Thread Cert.AdamwSsmIdeal.nD Cert.AdamwSsmIdeal.τ).loc Cert.AdamwSsmIdeal.main_arg0)
      ∧ r.2.mem ((c.tc : Thread Cert.AdamwSsmIdeal.nD Cert.AdamwSsmIdeal.τ).loc Cert.AdamwSsmIdeal.main_arg1) = m ((c.tc : Thread Cert.AdamwSsmIdeal.nD Cert.AdamwSsmIdeal.τ).loc Cert.AdamwSsmIdeal.main_arg1)
      ∧ r.2.mem ((c.tc : Thread Cert.AdamwSsmIdeal.nD Cert.AdamwSsmIdeal.τ).loc Cert.AdamwSsmIdeal.main_arg2) = m ((c.tc : Thread Cert.AdamwSsmIdeal.nD Cert.AdamwSsmIdeal.τ).loc Cert.AdamwSsmIdeal.main_arg2)
      ∧ r.2.mem ((c.tc : Thread Cert.AdamwSsmIdeal.nD Cert.AdamwSsmIdeal.τ).loc Cert.AdamwSsmIdeal.main_arg3) = m ((c.tc : Thread Cert.AdamwSsmIdeal.nD Cert.AdamwSsmIdeal.τ).loc Cert.AdamwSsmIdeal.main_arg3))
      ∧ r.2.sem = fun _ => 0)

def quiescent_AdamwSsmRefIdeal [hAdamwSsmRefIdeal : Cert.AdamwSsmRefIdeal.Facts] : Prop :=
  ∀ (m : (ℓ : Loc Cert.AdamwSsmRefIdeal.nD Cert.AdamwSsmRefIdeal.τ Cert.AdamwSsmRefIdeal.sig) → Buf (Elt Ideal) ℓ) (g : Dev Cert.AdamwSsmRefIdeal.nD → PrngReg), Pre_AdamwSsmRefIdeal m →
    θ_run (Cert.AdamwSsmRefIdeal.defs (F := Ideal)) (onTc (τ := Cert.AdamwSsmRefIdeal.τ) (Cert.AdamwSsmRefIdeal.main (F := Ideal))) ⟨m, fun _ => 0, g⟩ (fun r => (∀ c : Dev Cert.AdamwSsmRefIdeal.nD,
      r.2.mem ((c.tc : Thread Cert.AdamwSsmRefIdeal.nD Cert.AdamwSsmRefIdeal.τ).loc Cert.AdamwSsmRefIdeal.main_arg0) = m ((c.tc : Thread Cert.AdamwSsmRefIdeal.nD Cert.AdamwSsmRefIdeal.τ).loc Cert.AdamwSsmRefIdeal.main_arg0)
      ∧ r.2.mem ((c.tc : Thread Cert.AdamwSsmRefIdeal.nD Cert.AdamwSsmRefIdeal.τ).loc Cert.AdamwSsmRefIdeal.main_arg1) = m ((c.tc : Thread Cert.AdamwSsmRefIdeal.nD Cert.AdamwSsmRefIdeal.τ).loc Cert.AdamwSsmRefIdeal.main_arg1)
      ∧ r.2.mem ((c.tc : Thread Cert.AdamwSsmRefIdeal.nD Cert.AdamwSsmRefIdeal.τ).loc Cert.AdamwSsmRefIdeal.main_arg2) = m ((c.tc : Thread Cert.AdamwSsmRefIdeal.nD Cert.AdamwSsmRefIdeal.τ).loc Cert.AdamwSsmRefIdeal.main_arg2)
      ∧ r.2.mem ((c.tc : Thread Cert.AdamwSsmRefIdeal.nD Cert.AdamwSsmRefIdeal.τ).loc Cert.AdamwSsmRefIdeal.main_arg3) = m ((c.tc : Thread Cert.AdamwSsmRefIdeal.nD Cert.AdamwSsmRefIdeal.τ).loc Cert.AdamwSsmRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v15) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)) →
    ∃ (v0 : (c : Dev Cert.UpActIdeal.nD) → Buf (Elt Ideal) ((c.tc : Thread Cert.UpActIdeal.nD Cert.UpActIdeal.τ).loc Cert.UpActIdeal.main_v0_0)) (v1 : (c : Dev Cert.UpActIdeal.nD) → Buf (Elt Ideal) ((c.tc : Thread Cert.UpActIdeal.nD Cert.UpActIdeal.τ).loc Cert.UpActIdeal.main_v0_1)) (v2 : (c : Dev Cert.UpActIdeal.nD) → Buf (Elt Ideal) ((c.tc : Thread Cert.UpActIdeal.nD Cert.UpActIdeal.τ).loc Cert.UpActIdeal.main_v0_2)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v0_0) = v0 c
          ∧ r.2.mem ((c.tc : Thread Cert.UpActIdeal.nD Cert.UpActIdeal.τ).loc Cert.UpActIdeal.main_v0_1) = v1 c
          ∧ r.2.mem ((c.tc : Thread Cert.UpActIdeal.nD Cert.UpActIdeal.τ).loc Cert.UpActIdeal.main_v0_2) = v2 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v17) = v0 c
          ∧ r.2.mem ((c.tc : Thread Cert.UpActRefIdeal.nD Cert.UpActRefIdeal.τ).loc Cert.UpActRefIdeal.main_v20) = v1 c
          ∧ r.2.mem ((c.tc : Thread Cert.UpActRefIdeal.nD Cert.UpActRefIdeal.τ).loc Cert.UpActRefIdeal.main_v23) = v2 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v10) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownDxAct_DownDxActIdeal : Prop :=
  True

def algebraic_DownDxActIdeal_DownDxActRefIdeal [hDownDxActIdeal : Cert.DownDxActIdeal.Facts] [hDownDxActRefIdeal : Cert.DownDxActRefIdeal.Facts] : Prop :=
  ∀ (m : (ℓ : Loc Cert.DownDxActIdeal.nD Cert.DownDxActIdeal.τ Cert.DownDxActIdeal.sig) → Buf (Elt Ideal) ℓ) (g : Dev Cert.DownDxActIdeal.nD → PrngReg)
    (m' : (ℓ : Loc Cert.DownDxActRefIdeal.nD Cert.DownDxActRefIdeal.τ Cert.DownDxActRefIdeal.sig) → Buf (Elt Ideal) ℓ) (g' : Dev Cert.DownDxActRefIdeal.nD → PrngReg), Pre_DownDxActIdeal m →
    (∀ c : Dev Cert.DownDxActIdeal.nD,
      m' ((c.tc : Thread Cert.DownDxActRefIdeal.nD Cert.DownDxActRefIdeal.τ).loc Cert.DownDxActRefIdeal.main_arg0) = m ((c.tc : Thread Cert.DownDxActIdeal.nD Cert.DownDxActIdeal.τ).loc Cert.DownDxActIdeal.main_arg0)
      ∧ m' ((c.tc : Thread Cert.DownDxActRefIdeal.nD Cert.DownDxActRefIdeal.τ).loc Cert.DownDxActRefIdeal.main_arg1) = m ((c.tc : Thread Cert.DownDxActIdeal.nD Cert.DownDxActIdeal.τ).loc Cert.DownDxActIdeal.main_arg1)
      ∧ m' ((c.tc : Thread Cert.DownDxActRefIdeal.nD Cert.DownDxActRefIdeal.τ).loc Cert.DownDxActRefIdeal.main_arg2) = m ((c.tc : Thread Cert.DownDxActIdeal.nD Cert.DownDxActIdeal.τ).loc Cert.DownDxActIdeal.main_arg2)
      ∧ m' ((c.tc : Thread Cert.DownDxActRefIdeal.nD Cert.DownDxActRefIdeal.τ).loc Cert.DownDxActRefIdeal.main_arg3) = m ((c.tc : Thread Cert.DownDxActIdeal.nD Cert.DownDxActIdeal.τ).loc Cert.DownDxActIdeal.main_arg3)) →
    ∃ (v0 : (c : Dev Cert.DownDxActIdeal.nD) → Buf (Elt Ideal) ((c.tc : Thread Cert.DownDxActIdeal.nD Cert.DownDxActIdeal.τ).loc Cert.DownDxActIdeal.main_v0_0)) (v1 : (c : Dev Cert.DownDxActIdeal.nD) → Buf (Elt Ideal) ((c.tc : Thread Cert.DownDxActIdeal.nD Cert.DownDxActIdeal.τ).loc Cert.DownDxActIdeal.main_v0_1)),
      θ_run (Cert.DownDxActIdeal.defs (F := Ideal)) (onTc (τ := Cert.DownDxActIdeal.τ) (Cert.DownDxActIdeal.main (F := Ideal))) ⟨m, fun _ => 0, g⟩ (fun r => ∀ c : Dev Cert.DownDxActIdeal.nD,
          r.2.mem ((c.tc : Thread Cert.DownDxActIdeal.nD Cert.DownDxActIdeal.τ).loc Cert.DownDxActIdeal.main_v0_0) = v0 c
          ∧ r.2.mem ((c.tc : Thread Cert.DownDxActIdeal.nD Cert.DownDxActIdeal.τ).loc Cert.DownDxActIdeal.main_v0_1) = v1 c
          ∧ r.2.mem ((c.tc : Thread Cert.DownDxActIdeal.nD Cert.DownDxActIdeal.τ).loc Cert.DownDxActIdeal.main_arg0) = m ((c.tc : Thread Cert.DownDxActIdeal.nD Cert.DownDxActIdeal.τ).loc Cert.DownDxActIdeal.main_arg0)
          ∧ r.2.mem ((c.tc : Thread Cert.DownDxActIdeal.nD Cert.DownDxActIdeal.τ).loc Cert.DownDxActIdeal.main_arg1) = m ((c.tc : Thread Cert.DownDxActIdeal.nD Cert.DownDxActIdeal.τ).loc Cert.DownDxActIdeal.main_arg1)
          ∧ r.2.mem ((c.tc : Thread Cert.DownDxActIdeal.nD Cert.DownDxActIdeal.τ).loc Cert.DownDxActIdeal.main_arg2) = m ((c.tc : Thread Cert.DownDxActIdeal.nD Cert.DownDxActIdeal.τ).loc Cert.DownDxActIdeal.main_arg2)
          ∧ r.2.mem ((c.tc : Thread Cert.DownDxActIdeal.nD Cert.DownDxActIdeal.τ).loc Cert.DownDxActIdeal.main_arg3) = m ((c.tc : Thread Cert.DownDxActIdeal.nD Cert.DownDxActIdeal.τ).loc Cert.DownDxActIdeal.main_arg3))
      ∧ θ_run (Cert.DownDxActRefIdeal.defs (F := Ideal)) (onTc (τ := Cert.DownDxActRefIdeal.τ) (Cert.DownDxActRefIdeal.main (F := Ideal))) ⟨m', fun _ => 0, g'⟩ (fun r => ∀ c : Dev Cert.DownDxActRefIdeal.nD,
          r.2.mem ((c.tc : Thread Cert.DownDxActRefIdeal.nD Cert.DownDxActRefIdeal.τ).loc Cert.DownDxActRefIdeal.main_v23) = v0 c
          ∧ r.2.mem ((c.tc : Thread Cert.DownDxActRefIdeal.nD Cert.DownDxActRefIdeal.τ).loc Cert.DownDxActRefIdeal.main_v26) = v1 c
          ∧ r.2.mem ((c.tc : Thread Cert.DownDxActRefIdeal.nD Cert.DownDxActRefIdeal.τ).loc Cert.DownDxActRefIdeal.main_arg0) = m' ((c.tc : Thread Cert.DownDxActRefIdeal.nD Cert.DownDxActRefIdeal.τ).loc Cert.DownDxActRefIdeal.main_arg0)
          ∧ r.2.mem ((c.tc : Thread Cert.DownDxActRefIdeal.nD Cert.DownDxActRefIdeal.τ).loc Cert.DownDxActRefIdeal.main_arg1) = m' ((c.tc : Thread Cert.DownDxActRefIdeal.nD Cert.DownDxActRefIdeal.τ).loc Cert.DownDxActRefIdeal.main_arg1)
          ∧ r.2.mem ((c.tc : Thread Cert.DownDxActRefIdeal.nD Cert.DownDxActRefIdeal.τ).loc Cert.DownDxActRefIdeal.main_arg2) = m' ((c.tc : Thread Cert.DownDxActRefIdeal.nD Cert.DownDxActRefIdeal.τ).loc Cert.DownDxActRefIdeal.main_arg2)
          ∧ r.2.mem ((c.tc : Thread Cert.DownDxActRefIdeal.nD Cert.DownDxActRefIdeal.τ).loc Cert.DownDxActRefIdeal.main_arg3) = m' ((c.tc : Thread Cert.DownDxActRefIdeal.nD Cert.DownDxActRefIdeal.τ).loc Cert.DownDxActRefIdeal.main_arg3))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v10) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v11) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v41) = v0 c
          ∧ r.2.mem ((c.tc : Thread Cert.MergeBwdRefIdeal.nD Cert.MergeBwdRefIdeal.τ).loc Cert.MergeBwdRefIdeal.main_v42) = v1 c
          ∧ r.2.mem ((c.tc : Thread Cert.MergeBwdRefIdeal.nD Cert.MergeBwdRefIdeal.τ).loc Cert.MergeBwdRefIdeal.main_v43) = v2 c
          ∧ r.2.mem ((c.tc : Thread Cert.MergeBwdRefIdeal.nD Cert.MergeBwdRefIdeal.τ).loc Cert.MergeBwdRefIdeal.main_v44) = v3 c
          ∧ r.2.mem ((c.tc : Thread Cert.MergeBwdRefIdeal.nD Cert.MergeBwdRefIdeal.τ).loc Cert.MergeBwdRefIdeal.main_v40) = v4 c
          ∧ r.2.mem ((c.tc : Thread Cert.MergeBwdRefIdeal.nD Cert.MergeBwdRefIdeal.τ).loc Cert.MergeBwdRefIdeal.main_v35) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_AttProj_AttProjIdeal : Prop :=
  True

def algebraic_AttProjIdeal_AttProjRefIdeal [hAttProjIdeal : Cert.AttProjIdeal.Facts] [hAttProjRefIdeal : Cert.AttProjRefIdeal.Facts] : Prop :=
  ∀ (m : (ℓ : Loc Cert.AttProjIdeal.nD Cert.AttProjIdeal.τ Cert.AttProjIdeal.sig) → Buf (Elt Ideal) ℓ) (g : Dev Cert.AttProjIdeal.nD → PrngReg)
    (m' : (ℓ : Loc Cert.AttProjRefIdeal.nD Cert.AttProjRefIdeal.τ Cert.AttProjRefIdeal.sig) → Buf (Elt Ideal) ℓ) (g' : Dev Cert.AttProjRefIdeal.nD → PrngReg), Pre_AttProjIdeal m →
    (∀ c : Dev Cert.AttProjIdeal.nD,
      m' ((c.tc : Thread Cert.AttProjRefIdeal.nD Cert.AttProjRefIdeal.τ).loc Cert.AttProjRefIdeal.main_arg0) = m ((c.tc : Thread Cert.AttProjIdeal.nD Cert.AttProjIdeal.τ).loc Cert.AttProjIdeal.main_arg0)
      ∧ m' ((c.tc : Thread Cert.AttProjRefIdeal.nD Cert.AttProjRefIdeal.τ).loc Cert.AttProjRefIdeal.main_arg1) = m ((c.tc : Thread Cert.AttProjIdeal.nD Cert.AttProjIdeal.τ).loc Cert.AttProjIdeal.main_arg1)) →
    ∃ (v0 : (c : Dev Cert.AttProjIdeal.nD) → Buf (Elt Ideal) ((c.tc : Thread Cert.AttProjIdeal.nD Cert.AttProjIdeal.τ).loc Cert.AttProjIdeal.main_v0)),
      θ_run (Cert.AttProjIdeal.defs (F := Ideal)) (onTc (τ := Cert.AttProjIdeal.τ) (Cert.AttProjIdeal.main (F := Ideal))) ⟨m, fun _ => 0, g⟩ (fun r => ∀ c : Dev Cert.AttProjIdeal.nD,
          r.2.mem ((c.tc : Thread Cert.AttProjIdeal.nD Cert.AttProjIdeal.τ).loc Cert.AttProjIdeal.main_v0) = v0 c
          ∧ r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
          ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1))
      ∧ θ_run (Cert.AttProjRefIdeal.defs (F := Ideal)) (onTc (τ := Cert.AttProjRefIdeal.τ) (Cert.AttProjRefIdeal.main (F := Ideal))) ⟨m', fun _ => 0, g'⟩ (fun r => ∀ c : Dev Cert.AttProjRefIdeal.nD,
          r.2.mem ((c.tc : Thread Cert.AttProjRefIdeal.nD Cert.AttProjRefIdeal.τ).loc Cert.AttProjRefIdeal.main_v6) = v0 c
          ∧ r.2.mem ((c.tc : Thread Cert.AttProjRefIdeal.nD Cert.AttProjRefIdeal.τ).loc Cert.AttProjRefIdeal.main_arg0) = m' ((c.tc : Thread Cert.AttProjRefIdeal.nD Cert.AttProjRefIdeal.τ).loc Cert.AttProjRefIdeal.main_arg0)
          ∧ r.2.mem ((c.tc : Thread Cert.AttProjRefIdeal.nD Cert.AttProjRefIdeal.τ).loc Cert.AttProjRefIdeal.main_arg1) = m' ((c.tc : Thread Cert.AttProjRefIdeal.nD Cert.AttProjRefIdeal.τ).loc Cert.AttProjRefIdeal.main_arg1))

def preserves_SsmProj_SsmProjIdeal : Prop :=
  True

def algebraic_SsmProjIdeal_SsmProjRefIdeal [hSsmProjIdeal : Cert.SsmProjIdeal.Facts] [hSsmProjRefIdeal : Cert.SsmProjRefIdeal.Facts] : Prop :=
  ∀ (m : (ℓ : Loc Cert.SsmProjIdeal.nD Cert.SsmProjIdeal.τ Cert.SsmProjIdeal.sig) → Buf (Elt Ideal) ℓ) (g : Dev Cert.SsmProjIdeal.nD → PrngReg)
    (m' : (ℓ : Loc Cert.SsmProjRefIdeal.nD Cert.SsmProjRefIdeal.τ Cert.SsmProjRefIdeal.sig) → Buf (Elt Ideal) ℓ) (g' : Dev Cert.SsmProjRefIdeal.nD → PrngReg), Pre_SsmProjIdeal m →
    (∀ c : Dev Cert.SsmProjIdeal.nD,
      m' ((c.tc : Thread Cert.SsmProjRefIdeal.nD Cert.SsmProjRefIdeal.τ).loc Cert.SsmProjRefIdeal.main_arg0) = m ((c.tc : Thread Cert.SsmProjIdeal.nD Cert.SsmProjIdeal.τ).loc Cert.SsmProjIdeal.main_arg0)
      ∧ m' ((c.tc : Thread Cert.SsmProjRefIdeal.nD Cert.SsmProjRefIdeal.τ).loc Cert.SsmProjRefIdeal.main_arg1) = m ((c.tc : Thread Cert.SsmProjIdeal.nD Cert.SsmProjIdeal.τ).loc Cert.SsmProjIdeal.main_arg1)) →
    ∃ (v0 : (c : Dev Cert.SsmProjIdeal.nD) → Buf (Elt Ideal) ((c.tc : Thread Cert.SsmProjIdeal.nD Cert.SsmProjIdeal.τ).loc Cert.SsmProjIdeal.main_v0)),
      θ_run (Cert.SsmProjIdeal.defs (F := Ideal)) (onTc (τ := Cert.SsmProjIdeal.τ) (Cert.SsmProjIdeal.main (F := Ideal))) ⟨m, fun _ => 0, g⟩ (fun r => ∀ c : Dev Cert.SsmProjIdeal.nD,
          r.2.mem ((c.tc : Thread Cert.SsmProjIdeal.nD Cert.SsmProjIdeal.τ).loc Cert.SsmProjIdeal.main_v0) = v0 c
          ∧ r.2.mem ((c.tc : Thread Cert.SsmProjIdeal.nD Cert.SsmProjIdeal.τ).loc Cert.SsmProjIdeal.main_arg0) = m ((c.tc : Thread Cert.SsmProjIdeal.nD Cert.SsmProjIdeal.τ).loc Cert.SsmProjIdeal.main_arg0)
          ∧ r.2.mem ((c.tc : Thread Cert.SsmProjIdeal.nD Cert.SsmProjIdeal.τ).loc Cert.SsmProjIdeal.main_arg1) = m ((c.tc : Thread Cert.SsmProjIdeal.nD Cert.SsmProjIdeal.τ).loc Cert.SsmProjIdeal.main_arg1))
      ∧ θ_run (Cert.SsmProjRefIdeal.defs (F := Ideal)) (onTc (τ := Cert.SsmProjRefIdeal.τ) (Cert.SsmProjRefIdeal.main (F := Ideal))) ⟨m', fun _ => 0, g'⟩ (fun r => ∀ c : Dev Cert.SsmProjRefIdeal.nD,
          r.2.mem ((c.tc : Thread Cert.SsmProjRefIdeal.nD Cert.SsmProjRefIdeal.τ).loc Cert.SsmProjRefIdeal.main_v5) = v0 c
          ∧ r.2.mem ((c.tc : Thread Cert.SsmProjRefIdeal.nD Cert.SsmProjRefIdeal.τ).loc Cert.SsmProjRefIdeal.main_arg0) = m' ((c.tc : Thread Cert.SsmProjRefIdeal.nD Cert.SsmProjRefIdeal.τ).loc Cert.SsmProjRefIdeal.main_arg0)
          ∧ r.2.mem ((c.tc : Thread Cert.SsmProjRefIdeal.nD Cert.SsmProjRefIdeal.τ).loc Cert.SsmProjRefIdeal.main_arg1) = m' ((c.tc : Thread Cert.SsmProjRefIdeal.nD Cert.SsmProjRefIdeal.τ).loc Cert.SsmProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v6) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_SsmProjDx_SsmProjDxIdeal : Prop :=
  True

def algebraic_SsmProjDxIdeal_SsmProjDxRefIdeal [hSsmProjDxIdeal : Cert.SsmProjDxIdeal.Facts] [hSsmProjDxRefIdeal : Cert.SsmProjDxRefIdeal.Facts] : Prop :=
  ∀ (m : (ℓ : Loc Cert.SsmProjDxIdeal.nD Cert.SsmProjDxIdeal.τ Cert.SsmProjDxIdeal.sig) → Buf (Elt Ideal) ℓ) (g : Dev Cert.SsmProjDxIdeal.nD → PrngReg)
    (m' : (ℓ : Loc Cert.SsmProjDxRefIdeal.nD Cert.SsmProjDxRefIdeal.τ Cert.SsmProjDxRefIdeal.sig) → Buf (Elt Ideal) ℓ) (g' : Dev Cert.SsmProjDxRefIdeal.nD → PrngReg), Pre_SsmProjDxIdeal m →
    (∀ c : Dev Cert.SsmProjDxIdeal.nD,
      m' ((c.tc : Thread Cert.SsmProjDxRefIdeal.nD Cert.SsmProjDxRefIdeal.τ).loc Cert.SsmProjDxRefIdeal.main_arg0) = m ((c.tc : Thread Cert.SsmProjDxIdeal.nD Cert.SsmProjDxIdeal.τ).loc Cert.SsmProjDxIdeal.main_arg0)
      ∧ m' ((c.tc : Thread Cert.SsmProjDxRefIdeal.nD Cert.SsmProjDxRefIdeal.τ).loc Cert.SsmProjDxRefIdeal.main_arg1) = m ((c.tc : Thread Cert.SsmProjDxIdeal.nD Cert.SsmProjDxIdeal.τ).loc Cert.SsmProjDxIdeal.main_arg1)) →
    ∃ (v0 : (c : Dev Cert.SsmProjDxIdeal.nD) → Buf (Elt Ideal) ((c.tc : Thread Cert.SsmProjDxIdeal.nD Cert.SsmProjDxIdeal.τ).loc Cert.SsmProjDxIdeal.main_v0)),
      θ_run (Cert.SsmProjDxIdeal.defs (F := Ideal)) (onTc (τ := Cert.SsmProjDxIdeal.τ) (Cert.SsmProjDxIdeal.main (F := Ideal))) ⟨m, fun _ => 0, g⟩ (fun r => ∀ c : Dev Cert.SsmProjDxIdeal.nD,
          r.2.mem ((c.tc : Thread Cert.SsmProjDxIdeal.nD Cert.SsmProjDxIdeal.τ).loc Cert.SsmProjDxIdeal.main_v0) = v0 c
          ∧ r.2.mem ((c.tc : Thread Cert.SsmProjDxIdeal.nD Cert.SsmProjDxIdeal.τ).loc Cert.SsmProjDxIdeal.main_arg0) = m ((c.tc : Thread Cert.SsmProjDxIdeal.nD Cert.SsmProjDxIdeal.τ).loc Cert.SsmProjDxIdeal.main_arg0)
          ∧ r.2.mem ((c.tc : Thread Cert.SsmProjDxIdeal.nD Cert.SsmProjDxIdeal.τ).loc Cert.SsmProjDxIdeal.main_arg1) = m ((c.tc : Thread Cert.SsmProjDxIdeal.nD Cert.SsmProjDxIdeal.τ).loc Cert.SsmProjDxIdeal.main_arg1))
      ∧ θ_run (Cert.SsmProjDxRefIdeal.defs (F := Ideal)) (onTc (τ := Cert.SsmProjDxRefIdeal.τ) (Cert.SsmProjDxRefIdeal.main (F := Ideal))) ⟨m', fun _ => 0, g'⟩ (fun r => ∀ c : Dev Cert.SsmProjDxRefIdeal.nD,
          r.2.mem ((c.tc : Thread Cert.SsmProjDxRefIdeal.nD Cert.SsmProjDxRefIdeal.τ).loc Cert.SsmProjDxRefIdeal.main_v7) = v0 c
          ∧ r.2.mem ((c.tc : Thread Cert.SsmProjDxRefIdeal.nD Cert.SsmProjDxRefIdeal.τ).loc Cert.SsmProjDxRefIdeal.main_arg0) = m' ((c.tc : Thread Cert.SsmProjDxRefIdeal.nD Cert.SsmProjDxRefIdeal.τ).loc Cert.SsmProjDxRefIdeal.main_arg0)
          ∧ r.2.mem ((c.tc : Thread Cert.SsmProjDxRefIdeal.nD Cert.SsmProjDxRefIdeal.τ).loc Cert.SsmProjDxRefIdeal.main_arg1) = m' ((c.tc : Thread Cert.SsmProjDxRefIdeal.nD Cert.SsmProjDxRefIdeal.τ).loc Cert.SsmProjDxRefIdeal.main_arg1))

def preserves_AttProjDx_AttProjDxIdeal : Prop :=
  True

def algebraic_AttProjDxIdeal_AttProjDxRefIdeal [hAttProjDxIdeal : Cert.AttProjDxIdeal.Facts] [hAttProjDxRefIdeal : Cert.AttProjDxRefIdeal.Facts] : Prop :=
  ∀ (m : (ℓ : Loc Cert.AttProjDxIdeal.nD Cert.AttProjDxIdeal.τ Cert.AttProjDxIdeal.sig) → Buf (Elt Ideal) ℓ) (g : Dev Cert.AttProjDxIdeal.nD → PrngReg)
    (m' : (ℓ : Loc Cert.AttProjDxRefIdeal.nD Cert.AttProjDxRefIdeal.τ Cert.AttProjDxRefIdeal.sig) → Buf (Elt Ideal) ℓ) (g' : Dev Cert.AttProjDxRefIdeal.nD → PrngReg), Pre_AttProjDxIdeal m →
    (∀ c : Dev Cert.AttProjDxIdeal.nD,
      m' ((c.tc : Thread Cert.AttProjDxRefIdeal.nD Cert.AttProjDxRefIdeal.τ).loc Cert.AttProjDxRefIdeal.main_arg0) = m ((c.tc : Thread Cert.AttProjDxIdeal.nD Cert.AttProjDxIdeal.τ).loc Cert.AttProjDxIdeal.main_arg0)
      ∧ m' ((c.tc : Thread Cert.AttProjDxRefIdeal.nD Cert.AttProjDxRefIdeal.τ).loc Cert.AttProjDxRefIdeal.main_arg1) = m ((c.tc : Thread Cert.AttProjDxIdeal.nD Cert.AttProjDxIdeal.τ).loc Cert.AttProjDxIdeal.main_arg1)) →
    ∃ (v0 : (c : Dev Cert.AttProjDxIdeal.nD) → Buf (Elt Ideal) ((c.tc : Thread Cert.AttProjDxIdeal.nD Cert.AttProjDxIdeal.τ).loc Cert.AttProjDxIdeal.main_v0)),
      θ_run (Cert.AttProjDxIdeal.defs (F := Ideal)) (onTc (τ := Cert.AttProjDxIdeal.τ) (Cert.AttProjDxIdeal.main (F := Ideal))) ⟨m, fun _ => 0, g⟩ (fun r => ∀ c : Dev Cert.AttProjDxIdeal.nD,
          r.2.mem ((c.tc : Thread Cert.AttProjDxIdeal.nD Cert.AttProjDxIdeal.τ).loc Cert.AttProjDxIdeal.main_v0) = v0 c
          ∧ r.2.mem ((c.tc : Thread Cert.AttProjDxIdeal.nD Cert.AttProjDxIdeal.τ).loc Cert.AttProjDxIdeal.main_arg0) = m ((c.tc : Thread Cert.AttProjDxIdeal.nD Cert.AttProjDxIdeal.τ).loc Cert.AttProjDxIdeal.main_arg0)
          ∧ r.2.mem ((c.tc : Thread Cert.AttProjDxIdeal.nD Cert.AttProjDxIdeal.τ).loc Cert.AttProjDxIdeal.main_arg1) = m ((c.tc : Thread Cert.AttProjDxIdeal.nD Cert.AttProjDxIdeal.τ).loc Cert.AttProjDxIdeal.main_arg1))
      ∧ θ_run (Cert.AttProjDxRefIdeal.defs (F := Ideal)) (onTc (τ := Cert.AttProjDxRefIdeal.τ) (Cert.AttProjDxRefIdeal.main (F := Ideal))) ⟨m', fun _ => 0, g'⟩ (fun r => ∀ c : Dev Cert.AttProjDxRefIdeal.nD,
          r.2.mem ((c.tc : Thread Cert.AttProjDxRefIdeal.nD Cert.AttProjDxRefIdeal.τ).loc Cert.AttProjDxRefIdeal.main_v8) = v0 c
          ∧ r.2.mem ((c.tc : Thread Cert.AttProjDxRefIdeal.nD Cert.AttProjDxRefIdeal.τ).loc Cert.AttProjDxRefIdeal.main_arg0) = m' ((c.tc : Thread Cert.AttProjDxRefIdeal.nD Cert.AttProjDxRefIdeal.τ).loc Cert.AttProjDxRefIdeal.main_arg0)
          ∧ r.2.mem ((c.tc : Thread Cert.AttProjDxRefIdeal.nD Cert.AttProjDxRefIdeal.τ).loc Cert.AttProjDxRefIdeal.main_arg1) = m' ((c.tc : Thread Cert.AttProjDxRefIdeal.nD Cert.AttProjDxRefIdeal.τ).loc Cert.AttProjDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_SsmProjDw_SsmProjDwIdeal : Prop :=
  True

def algebraic_SsmProjDwIdeal_SsmProjDwRefIdeal [hSsmProjDwIdeal : Cert.SsmProjDwIdeal.Facts] [hSsmProjDwRefIdeal : Cert.SsmProjDwRefIdeal.Facts] : Prop :=
  ∀ (m : (ℓ : Loc Cert.SsmProjDwIdeal.nD Cert.SsmProjDwIdeal.τ Cert.SsmProjDwIdeal.sig) → Buf (Elt Ideal) ℓ) (g : Dev Cert.SsmProjDwIdeal.nD → PrngReg)
    (m' : (ℓ : Loc Cert.SsmProjDwRefIdeal.nD Cert.SsmProjDwRefIdeal.τ Cert.SsmProjDwRefIdeal.sig) → Buf (Elt Ideal) ℓ) (g' : Dev Cert.SsmProjDwRefIdeal.nD → PrngReg), Pre_SsmProjDwIdeal m →
    (∀ c : Dev Cert.SsmProjDwIdeal.nD,
      m' ((c.tc : Thread Cert.SsmProjDwRefIdeal.nD Cert.SsmProjDwRefIdeal.τ).loc Cert.SsmProjDwRefIdeal.main_arg0) = m ((c.tc : Thread Cert.SsmProjDwIdeal.nD Cert.SsmProjDwIdeal.τ).loc Cert.SsmProjDwIdeal.main_arg0)
      ∧ m' ((c.tc : Thread Cert.SsmProjDwRefIdeal.nD Cert.SsmProjDwRefIdeal.τ).loc Cert.SsmProjDwRefIdeal.main_arg1) = m ((c.tc : Thread Cert.SsmProjDwIdeal.nD Cert.SsmProjDwIdeal.τ).loc Cert.SsmProjDwIdeal.main_arg1)
      ∧ m' ((c.tc : Thread Cert.SsmProjDwRefIdeal.nD Cert.SsmProjDwRefIdeal.τ).loc Cert.SsmProjDwRefIdeal.main_arg2) = m ((c.tc : Thread Cert.SsmProjDwIdeal.nD Cert.SsmProjDwIdeal.τ).loc Cert.SsmProjDwIdeal.main_arg2)) →
    ∃ (v0 : (c : Dev Cert.SsmProjDwIdeal.nD) → Buf (Elt Ideal) ((c.tc : Thread Cert.SsmProjDwIdeal.nD Cert.SsmProjDwIdeal.τ).loc Cert.SsmProjDwIdeal.main_v0)),
      θ_run (Cert.SsmProjDwIdeal.defs (F := Ideal)) (onTc (τ := Cert.SsmProjDwIdeal.τ) (Cert.SsmProjDwIdeal.main (F := Ideal))) ⟨m, fun _ => 0, g⟩ (fun r => ∀ c : Dev Cert.SsmProjDwIdeal.nD,
          r.2.mem ((c.tc : Thread Cert.SsmProjDwIdeal.nD Cert.SsmProjDwIdeal.τ).loc Cert.SsmProjDwIdeal.main_v0) = v0 c
          ∧ r.2.mem ((c.tc : Thread Cert.SsmProjDwIdeal.nD Cert.SsmProjDwIdeal.τ).loc Cert.SsmProjDwIdeal.main_arg0) = m ((c.tc : Thread Cert.SsmProjDwIdeal.nD Cert.SsmProjDwIdeal.τ).loc Cert.SsmProjDwIdeal.main_arg0)
          ∧ r.2.mem ((c.tc : Thread Cert.SsmProjDwIdeal.nD Cert.SsmProjDwIdeal.τ).loc Cert.SsmProjDwIdeal.main_arg1) = m ((c.tc : Thread Cert.SsmProjDwIdeal.nD Cert.SsmProjDwIdeal.τ).loc Cert.SsmProjDwIdeal.main_arg1)
          ∧ r.2.mem ((c.tc : Thread Cert.SsmProjDwIdeal.nD Cert.SsmProjDwIdeal.τ).loc Cert.SsmProjDwIdeal.main_arg2) = m ((c.tc : Thread Cert.SsmProjDwIdeal.nD Cert.SsmProjDwIdeal.τ).loc Cert.SsmProjDwIdeal.main_arg2))
      ∧ θ_run (Cert.SsmProjDwRefIdeal.defs (F := Ideal)) (onTc (τ := Cert.SsmProjDwRefIdeal.τ) (Cert.SsmProjDwRefIdeal.main (F := Ideal))) ⟨m', fun _ => 0, g'⟩ (fun r => ∀ c : Dev Cert.SsmProjDwRefIdeal.nD,
          r.2.mem ((c.tc : Thread Cert.SsmProjDwRefIdeal.nD Cert.SsmProjDwRefIdeal.τ).loc Cert.SsmProjDwRefIdeal.main_v8) = v0 c
          ∧ r.2.mem ((c.tc : Thread Cert.SsmProjDwRefIdeal.nD Cert.SsmProjDwRefIdeal.τ).loc Cert.SsmProjDwRefIdeal.main_arg0) = m' ((c.tc : Thread Cert.SsmProjDwRefIdeal.nD Cert.SsmProjDwRefIdeal.τ).loc Cert.SsmProjDwRefIdeal.main_arg0)
          ∧ r.2.mem ((c.tc : Thread Cert.SsmProjDwRefIdeal.nD Cert.SsmProjDwRefIdeal.τ).loc Cert.SsmProjDwRefIdeal.main_arg1) = m' ((c.tc : Thread Cert.SsmProjDwRefIdeal.nD Cert.SsmProjDwRefIdeal.τ).loc Cert.SsmProjDwRefIdeal.main_arg1)
          ∧ r.2.mem ((c.tc : Thread Cert.SsmProjDwRefIdeal.nD Cert.SsmProjDwRefIdeal.τ).loc Cert.SsmProjDwRefIdeal.main_arg2) = m' ((c.tc : Thread Cert.SsmProjDwRefIdeal.nD Cert.SsmProjDwRefIdeal.τ).loc Cert.SsmProjDwRefIdeal.main_arg2))

def preserves_AttProjDw_AttProjDwIdeal : Prop :=
  True

def algebraic_AttProjDwIdeal_AttProjDwRefIdeal [hAttProjDwIdeal : Cert.AttProjDwIdeal.Facts] [hAttProjDwRefIdeal : Cert.AttProjDwRefIdeal.Facts] : Prop :=
  ∀ (m : (ℓ : Loc Cert.AttProjDwIdeal.nD Cert.AttProjDwIdeal.τ Cert.AttProjDwIdeal.sig) → Buf (Elt Ideal) ℓ) (g : Dev Cert.AttProjDwIdeal.nD → PrngReg)
    (m' : (ℓ : Loc Cert.AttProjDwRefIdeal.nD Cert.AttProjDwRefIdeal.τ Cert.AttProjDwRefIdeal.sig) → Buf (Elt Ideal) ℓ) (g' : Dev Cert.AttProjDwRefIdeal.nD → PrngReg), Pre_AttProjDwIdeal m →
    (∀ c : Dev Cert.AttProjDwIdeal.nD,
      m' ((c.tc : Thread Cert.AttProjDwRefIdeal.nD Cert.AttProjDwRefIdeal.τ).loc Cert.AttProjDwRefIdeal.main_arg0) = m ((c.tc : Thread Cert.AttProjDwIdeal.nD Cert.AttProjDwIdeal.τ).loc Cert.AttProjDwIdeal.main_arg0)
      ∧ m' ((c.tc : Thread Cert.AttProjDwRefIdeal.nD Cert.AttProjDwRefIdeal.τ).loc Cert.AttProjDwRefIdeal.main_arg1) = m ((c.tc : Thread Cert.AttProjDwIdeal.nD Cert.AttProjDwIdeal.τ).loc Cert.AttProjDwIdeal.main_arg1)
      ∧ m' ((c.tc : Thread Cert.AttProjDwRefIdeal.nD Cert.AttProjDwRefIdeal.τ).loc Cert.AttProjDwRefIdeal.main_arg2) = m ((c.tc : Thread Cert.AttProjDwIdeal.nD Cert.AttProjDwIdeal.τ).loc Cert.AttProjDwIdeal.main_arg2)) →
    ∃ (v0 : (c : Dev Cert.AttProjDwIdeal.nD) → Buf (Elt Ideal) ((c.tc : Thread Cert.AttProjDwIdeal.nD Cert.AttProjDwIdeal.τ).loc Cert.AttProjDwIdeal.main_v0)),
      θ_run (Cert.AttProjDwIdeal.defs (F := Ideal)) (onTc (τ := Cert.AttProjDwIdeal.τ) (Cert.AttProjDwIdeal.main (F := Ideal))) ⟨m, fun _ => 0, g⟩ (fun r => ∀ c : Dev Cert.AttProjDwIdeal.nD,
          r.2.mem ((c.tc : Thread Cert.AttProjDwIdeal.nD Cert.AttProjDwIdeal.τ).loc Cert.AttProjDwIdeal.main_v0) = v0 c
          ∧ r.2.mem ((c.tc : Thread Cert.AttProjDwIdeal.nD Cert.AttProjDwIdeal.τ).loc Cert.AttProjDwIdeal.main_arg0) = m ((c.tc : Thread Cert.AttProjDwIdeal.nD Cert.AttProjDwIdeal.τ).loc Cert.AttProjDwIdeal.main_arg0)
          ∧ r.2.mem ((c.tc : Thread Cert.AttProjDwIdeal.nD Cert.AttProjDwIdeal.τ).loc Cert.AttProjDwIdeal.main_arg1) = m ((c.tc : Thread Cert.AttProjDwIdeal.nD Cert.AttProjDwIdeal.τ).loc Cert.AttProjDwIdeal.main_arg1)
          ∧ r.2.mem ((c.tc : Thread Cert.AttProjDwIdeal.nD Cert.AttProjDwIdeal.τ).loc Cert.AttProjDwIdeal.main_arg2) = m ((c.tc : Thread Cert.AttProjDwIdeal.nD Cert.AttProjDwIdeal.τ).loc Cert.AttProjDwIdeal.main_arg2))
      ∧ θ_run (Cert.AttProjDwRefIdeal.defs (F := Ideal)) (onTc (τ := Cert.AttProjDwRefIdeal.τ) (Cert.AttProjDwRefIdeal.main (F := Ideal))) ⟨m', fun _ => 0, g'⟩ (fun r => ∀ c : Dev Cert.AttProjDwRefIdeal.nD,
          r.2.mem ((c.tc : Thread Cert.AttProjDwRefIdeal.nD Cert.AttProjDwRefIdeal.τ).loc Cert.AttProjDwRefIdeal.main_v12) = v0 c
          ∧ r.2.mem ((c.tc : Thread Cert.AttProjDwRefIdeal.nD Cert.AttProjDwRefIdeal.τ).loc Cert.AttProjDwRefIdeal.main_arg0) = m' ((c.tc : Thread Cert.AttProjDwRefIdeal.nD Cert.AttProjDwRefIdeal.τ).loc Cert.AttProjDwRefIdeal.main_arg0)
          ∧ r.2.mem ((c.tc : Thread Cert.AttProjDwRefIdeal.nD Cert.AttProjDwRefIdeal.τ).loc Cert.AttProjDwRefIdeal.main_arg1) = m' ((c.tc : Thread Cert.AttProjDwRefIdeal.nD Cert.AttProjDwRefIdeal.τ).loc Cert.AttProjDwRefIdeal.main_arg1)
          ∧ r.2.mem ((c.tc : Thread Cert.AttProjDwRefIdeal.nD Cert.AttProjDwRefIdeal.τ).loc Cert.AttProjDwRefIdeal.main_arg2) = m' ((c.tc : Thread Cert.AttProjDwRefIdeal.nD Cert.AttProjDwRefIdeal.τ).loc Cert.AttProjDwRefIdeal.main_arg2))

def preserves_AdamwCol_AdamwColIdeal : Prop :=
  True

def algebraic_AdamwColIdeal_AdamwColRefIdeal [hAdamwColIdeal : Cert.AdamwColIdeal.Facts] [hAdamwColRefIdeal : Cert.AdamwColRefIdeal.Facts] : Prop :=
  ∀ (m : (ℓ : Loc Cert.AdamwColIdeal.nD Cert.AdamwColIdeal.τ Cert.AdamwColIdeal.sig) → Buf (Elt Ideal) ℓ) (g : Dev Cert.AdamwColIdeal.nD → PrngReg)
    (m' : (ℓ : Loc Cert.AdamwColRefIdeal.nD Cert.AdamwColRefIdeal.τ Cert.AdamwColRefIdeal.sig) → Buf (Elt Ideal) ℓ) (g' : Dev Cert.AdamwColRefIdeal.nD → PrngReg), Pre_AdamwColIdeal m →
    (∀ c : Dev Cert.AdamwColIdeal.nD,
      m' ((c.tc : Thread Cert.AdamwColRefIdeal.nD Cert.AdamwColRefIdeal.τ).loc Cert.AdamwColRefIdeal.main_arg0) = m ((c.tc : Thread Cert.AdamwColIdeal.nD Cert.AdamwColIdeal.τ).loc Cert.AdamwColIdeal.main_arg0)
      ∧ m' ((c.tc : Thread Cert.AdamwColRefIdeal.nD Cert.AdamwColRefIdeal.τ).loc Cert.AdamwColRefIdeal.main_arg1) = m ((c.tc : Thread Cert.AdamwColIdeal.nD Cert.AdamwColIdeal.τ).loc Cert.AdamwColIdeal.main_arg1)
      ∧ m' ((c.tc : Thread Cert.AdamwColRefIdeal.nD Cert.AdamwColRefIdeal.τ).loc Cert.AdamwColRefIdeal.main_arg2) = m ((c.tc : Thread Cert.AdamwColIdeal.nD Cert.AdamwColIdeal.τ).loc Cert.AdamwColIdeal.main_arg2)
      ∧ m' ((c.tc : Thread Cert.AdamwColRefIdeal.nD Cert.AdamwColRefIdeal.τ).loc Cert.AdamwColRefIdeal.main_arg3) = m ((c.tc : Thread Cert.AdamwColIdeal.nD Cert.AdamwColIdeal.τ).loc Cert.AdamwColIdeal.main_arg3)) →
    ∃ (v0 : (c : Dev Cert.AdamwColIdeal.nD) → Buf (Elt Ideal) ((c.tc : Thread Cert.AdamwColIdeal.nD Cert.AdamwColIdeal.τ).loc Cert.AdamwColIdeal.main_v0_0)) (v1 : (c : Dev Cert.AdamwColIdeal.nD) → Buf (Elt Ideal) ((c.tc : Thread Cert.AdamwColIdeal.nD Cert.AdamwColIdeal.τ).loc Cert.AdamwColIdeal.main_v0_1)) (v2 : (c : Dev Cert.AdamwColIdeal.nD) → Buf (Elt Ideal) ((c.tc : Thread Cert.AdamwColIdeal.nD Cert.AdamwColIdeal.τ).loc Cert.AdamwColIdeal.main_v0_2)),
      θ_run (Cert.AdamwColIdeal.defs (F := Ideal)) (onTc (τ := Cert.AdamwColIdeal.τ) (Cert.AdamwColIdeal.main (F := Ideal))) ⟨m, fun _ => 0, g⟩ (fun r => ∀ c : Dev Cert.AdamwColIdeal.nD,
          r.2.mem ((c.tc : Thread Cert.AdamwColIdeal.nD Cert.AdamwColIdeal.τ).loc Cert.AdamwColIdeal.main_v0_0) = v0 c
          ∧ r.2.mem ((c.tc : Thread Cert.AdamwColIdeal.nD Cert.AdamwColIdeal.τ).loc Cert.AdamwColIdeal.main_v0_1) = v1 c
          ∧ r.2.mem ((c.tc : Thread Cert.AdamwColIdeal.nD Cert.AdamwColIdeal.τ).loc Cert.AdamwColIdeal.main_v0_2) = v2 c
          ∧ r.2.mem ((c.tc : Thread Cert.AdamwColIdeal.nD Cert.AdamwColIdeal.τ).loc Cert.AdamwColIdeal.main_arg0) = m ((c.tc : Thread Cert.AdamwColIdeal.nD Cert.AdamwColIdeal.τ).loc Cert.AdamwColIdeal.main_arg0)
          ∧ r.2.mem ((c.tc : Thread Cert.AdamwColIdeal.nD Cert.AdamwColIdeal.τ).loc Cert.AdamwColIdeal.main_arg1) = m ((c.tc : Thread Cert.AdamwColIdeal.nD Cert.AdamwColIdeal.τ).loc Cert.AdamwColIdeal.main_arg1)
          ∧ r.2.mem ((c.tc : Thread Cert.AdamwColIdeal.nD Cert.AdamwColIdeal.τ).loc Cert.AdamwColIdeal.main_arg2) = m ((c.tc : Thread Cert.AdamwColIdeal.nD Cert.AdamwColIdeal.τ).loc Cert.AdamwColIdeal.main_arg2)
          ∧ r.2.mem ((c.tc : Thread Cert.AdamwColIdeal.nD Cert.AdamwColIdeal.τ).loc Cert.AdamwColIdeal.main_arg3) = m ((c.tc : Thread Cert.AdamwColIdeal.nD Cert.AdamwColIdeal.τ).loc Cert.AdamwColIdeal.main_arg3))
      ∧ θ_run (Cert.AdamwColRefIdeal.defs (F := Ideal)) (onTc (τ := Cert.AdamwColRefIdeal.τ) (Cert.AdamwColRefIdeal.main (F := Ideal))) ⟨m', fun _ => 0, g'⟩ (fun r => ∀ c : Dev Cert.AdamwColRefIdeal.nD,
          r.2.mem ((c.tc : Thread Cert.AdamwColRefIdeal.nD Cert.AdamwColRefIdeal.τ).loc Cert.AdamwColRefIdeal.main_v23) = v0 c
          ∧ r.2.mem ((c.tc : Thread Cert.AdamwColRefIdeal.nD Cert.AdamwColRefIdeal.τ).loc Cert.AdamwColRefIdeal.main_v4) = v1 c
          ∧ r.2.mem ((c.tc : Thread Cert.AdamwColRefIdeal.nD Cert.AdamwColRefIdeal.τ).loc Cert.AdamwColRefIdeal.main_v10) = v2 c
          ∧ r.2.mem ((c.tc : Thread Cert.AdamwColRefIdeal.nD Cert.AdamwColRefIdeal.τ).loc Cert.AdamwColRefIdeal.main_arg0) = m' ((c.tc : Thread Cert.AdamwColRefIdeal.nD Cert.AdamwColRefIdeal.τ).loc Cert.AdamwColRefIdeal.main_arg0)
          ∧ r.2.mem ((c.tc : Thread Cert.AdamwColRefIdeal.nD Cert.AdamwColRefIdeal.τ).loc Cert.AdamwColRefIdeal.main_arg1) = m' ((c.tc : Thread Cert.AdamwColRefIdeal.nD Cert.AdamwColRefIdeal.τ).loc Cert.AdamwColRefIdeal.main_arg1)
          ∧ r.2.mem ((c.tc : Thread Cert.AdamwColRefIdeal.nD Cert.AdamwColRefIdeal.τ).loc Cert.AdamwColRefIdeal.main_arg2) = m' ((c.tc : Thread Cert.AdamwColRefIdeal.nD Cert.AdamwColRefIdeal.τ).loc Cert.AdamwColRefIdeal.main_arg2)
          ∧ r.2.mem ((c.tc : Thread Cert.AdamwColRefIdeal.nD Cert.AdamwColRefIdeal.τ).loc Cert.AdamwColRefIdeal.main_arg3) = m' ((c.tc : Thread Cert.AdamwColRefIdeal.nD Cert.AdamwColRefIdeal.τ).loc Cert.AdamwColRefIdeal.main_arg3))

def preserves_AdamwRow_AdamwRowIdeal : Prop :=
  True

def algebraic_AdamwRowIdeal_AdamwRowRefIdeal [hAdamwRowIdeal : Cert.AdamwRowIdeal.Facts] [hAdamwRowRefIdeal : Cert.AdamwRowRefIdeal.Facts] : Prop :=
  ∀ (m : (ℓ : Loc Cert.AdamwRowIdeal.nD Cert.AdamwRowIdeal.τ Cert.AdamwRowIdeal.sig) → Buf (Elt Ideal) ℓ) (g : Dev Cert.AdamwRowIdeal.nD → PrngReg)
    (m' : (ℓ : Loc Cert.AdamwRowRefIdeal.nD Cert.AdamwRowRefIdeal.τ Cert.AdamwRowRefIdeal.sig) → Buf (Elt Ideal) ℓ) (g' : Dev Cert.AdamwRowRefIdeal.nD → PrngReg), Pre_AdamwRowIdeal m →
    (∀ c : Dev Cert.AdamwRowIdeal.nD,
      m' ((c.tc : Thread Cert.AdamwRowRefIdeal.nD Cert.AdamwRowRefIdeal.τ).loc Cert.AdamwRowRefIdeal.main_arg0) = m ((c.tc : Thread Cert.AdamwRowIdeal.nD Cert.AdamwRowIdeal.τ).loc Cert.AdamwRowIdeal.main_arg0)
      ∧ m' ((c.tc : Thread Cert.AdamwRowRefIdeal.nD Cert.AdamwRowRefIdeal.τ).loc Cert.AdamwRowRefIdeal.main_arg1) = m ((c.tc : Thread Cert.AdamwRowIdeal.nD Cert.AdamwRowIdeal.τ).loc Cert.AdamwRowIdeal.main_arg1)
      ∧ m' ((c.tc : Thread Cert.AdamwRowRefIdeal.nD Cert.AdamwRowRefIdeal.τ).loc Cert.AdamwRowRefIdeal.main_arg2) = m ((c.tc : Thread Cert.AdamwRowIdeal.nD Cert.AdamwRowIdeal.τ).loc Cert.AdamwRowIdeal.main_arg2)
      ∧ m' ((c.tc : Thread Cert.AdamwRowRefIdeal.nD Cert.AdamwRowRefIdeal.τ).loc Cert.AdamwRowRefIdeal.main_arg3) = m ((c.tc : Thread Cert.AdamwRowIdeal.nD Cert.AdamwRowIdeal.τ).loc Cert.AdamwRowIdeal.main_arg3)) →
    ∃ (v0 : (c : Dev Cert.AdamwRowIdeal.nD) → Buf (Elt Ideal) ((c.tc : Thread Cert.AdamwRowIdeal.nD Cert.AdamwRowIdeal.τ).loc Cert.AdamwRowIdeal.main_v0_0)) (v1 : (c : Dev Cert.AdamwRowIdeal.nD) → Buf (Elt Ideal) ((c.tc : Thread Cert.AdamwRowIdeal.nD Cert.AdamwRowIdeal.τ).loc Cert.AdamwRowIdeal.main_v0_1)) (v2 : (c : Dev Cert.AdamwRowIdeal.nD) → Buf (Elt Ideal) ((c.tc : Thread Cert.AdamwRowIdeal.nD Cert.AdamwRowIdeal.τ).loc Cert.AdamwRowIdeal.main_v0_2)),
      θ_run (Cert.AdamwRowIdeal.defs (F := Ideal)) (onTc (τ := Cert.AdamwRowIdeal.τ) (Cert.AdamwRowIdeal.main (F := Ideal))) ⟨m, fun _ => 0, g⟩ (fun r => ∀ c : Dev Cert.AdamwRowIdeal.nD,
          r.2.mem ((c.tc : Thread Cert.AdamwRowIdeal.nD Cert.AdamwRowIdeal.τ).loc Cert.AdamwRowIdeal.main_v0_0) = v0 c
          ∧ r.2.mem ((c.tc : Thread Cert.AdamwRowIdeal.nD Cert.AdamwRowIdeal.τ).loc Cert.AdamwRowIdeal.main_v0_1) = v1 c
          ∧ r.2.mem ((c.tc : Thread Cert.AdamwRowIdeal.nD Cert.AdamwRowIdeal.τ).loc Cert.AdamwRowIdeal.main_v0_2) = v2 c
          ∧ r.2.mem ((c.tc : Thread Cert.AdamwRowIdeal.nD Cert.AdamwRowIdeal.τ).loc Cert.AdamwRowIdeal.main_arg0) = m ((c.tc : Thread Cert.AdamwRowIdeal.nD Cert.AdamwRowIdeal.τ).loc Cert.AdamwRowIdeal.main_arg0)
          ∧ r.2.mem ((c.tc : Thread Cert.AdamwRowIdeal.nD Cert.AdamwRowIdeal.τ).loc Cert.AdamwRowIdeal.main_arg1) = m ((c.tc : Thread Cert.AdamwRowIdeal.nD Cert.AdamwRowIdeal.τ).loc Cert.AdamwRowIdeal.main_arg1)
          ∧ r.2.mem ((c.tc : Thread Cert.AdamwRowIdeal.nD Cert.AdamwRowIdeal.τ).loc Cert.AdamwRowIdeal.main_arg2) = m ((c.tc : Thread Cert.AdamwRowIdeal.nD Cert.AdamwRowIdeal.τ).loc Cert.AdamwRowIdeal.main_arg2)
          ∧ r.2.mem ((c.tc : Thread Cert.AdamwRowIdeal.nD Cert.AdamwRowIdeal.τ).loc Cert.AdamwRowIdeal.main_arg3) = m ((c.tc : Thread Cert.AdamwRowIdeal.nD Cert.AdamwRowIdeal.τ).loc Cert.AdamwRowIdeal.main_arg3))
      ∧ θ_run (Cert.AdamwRowRefIdeal.defs (F := Ideal)) (onTc (τ := Cert.AdamwRowRefIdeal.τ) (Cert.AdamwRowRefIdeal.main (F := Ideal))) ⟨m', fun _ => 0, g'⟩ (fun r => ∀ c : Dev Cert.AdamwRowRefIdeal.nD,
          r.2.mem ((c.tc : Thread Cert.AdamwRowRefIdeal.nD Cert.AdamwRowRefIdeal.τ).loc Cert.AdamwRowRefIdeal.main_v23) = v0 c
          ∧ r.2.mem ((c.tc : Thread Cert.AdamwRowRefIdeal.nD Cert.AdamwRowRefIdeal.τ).loc Cert.AdamwRowRefIdeal.main_v4) = v1 c
          ∧ r.2.mem ((c.tc : Thread Cert.AdamwRowRefIdeal.nD Cert.AdamwRowRefIdeal.τ).loc Cert.AdamwRowRefIdeal.main_v10) = v2 c
          ∧ r.2.mem ((c.tc : Thread Cert.AdamwRowRefIdeal.nD Cert.AdamwRowRefIdeal.τ).loc Cert.AdamwRowRefIdeal.main_arg0) = m' ((c.tc : Thread Cert.AdamwRowRefIdeal.nD Cert.AdamwRowRefIdeal.τ).loc Cert.AdamwRowRefIdeal.main_arg0)
          ∧ r.2.mem ((c.tc : Thread Cert.AdamwRowRefIdeal.nD Cert.AdamwRowRefIdeal.τ).loc Cert.AdamwRowRefIdeal.main_arg1) = m' ((c.tc : Thread Cert.AdamwRowRefIdeal.nD Cert.AdamwRowRefIdeal.τ).loc Cert.AdamwRowRefIdeal.main_arg1)
          ∧ r.2.mem ((c.tc : Thread Cert.AdamwRowRefIdeal.nD Cert.AdamwRowRefIdeal.τ).loc Cert.AdamwRowRefIdeal.main_arg2) = m' ((c.tc : Thread Cert.AdamwRowRefIdeal.nD Cert.AdamwRowRefIdeal.τ).loc Cert.AdamwRowRefIdeal.main_arg2)
          ∧ r.2.mem ((c.tc : Thread Cert.AdamwRowRefIdeal.nD Cert.AdamwRowRefIdeal.τ).loc Cert.AdamwRowRefIdeal.main_arg3) = m' ((c.tc : Thread Cert.AdamwRowRefIdeal.nD Cert.AdamwRowRefIdeal.τ).loc Cert.AdamwRowRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v23) = v0 c
          ∧ r.2.mem ((c.tc : Thread Cert.AdamwInRefIdeal.nD Cert.AdamwInRefIdeal.τ).loc Cert.AdamwInRefIdeal.main_v4) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwConv_AdamwConvIdeal : Prop :=
  True

def algebraic_AdamwConvIdeal_AdamwConvRefIdeal [hAdamwConvIdeal : Cert.AdamwConvIdeal.Facts] [hAdamwConvRefIdeal : Cert.AdamwConvRefIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvRefIdeal.nD Cert.AdamwConvRefIdeal.τ Cert.AdamwConvRefIdeal.sig) → Buf (Elt Ideal) ℓ) (g' : Dev Cert.AdamwConvRefIdeal.nD → PrngReg), Pre_AdamwConvIdeal m →
    (∀ c : Dev Cert.AdamwConvIdeal.nD,
      m' ((c.tc : Thread Cert.AdamwConvRefIdeal.nD Cert.AdamwConvRefIdeal.τ).loc Cert.AdamwConvRefIdeal.main_arg0) = m ((c.tc : Thread Cert.AdamwConvIdeal.nD Cert.AdamwConvIdeal.τ).loc Cert.AdamwConvIdeal.main_arg0)
      ∧ m' ((c.tc : Thread Cert.AdamwConvRefIdeal.nD Cert.AdamwConvRefIdeal.τ).loc Cert.AdamwConvRefIdeal.main_arg1) = m ((c.tc : Thread Cert.AdamwConvIdeal.nD Cert.AdamwConvIdeal.τ).loc Cert.AdamwConvIdeal.main_arg1)
      ∧ m' ((c.tc : Thread Cert.AdamwConvRefIdeal.nD Cert.AdamwConvRefIdeal.τ).loc Cert.AdamwConvRefIdeal.main_arg2) = m ((c.tc : Thread Cert.AdamwConvIdeal.nD Cert.AdamwConvIdeal.τ).loc Cert.AdamwConvIdeal.main_arg2)
      ∧ m' ((c.tc : Thread Cert.AdamwConvRefIdeal.nD Cert.AdamwConvRefIdeal.τ).loc Cert.AdamwConvRefIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v0_0)) (v1 : (c : Dev Cert.AdamwConvIdeal.nD) → Buf (Elt Ideal) ((c.tc : Thread Cert.AdamwConvIdeal.nD Cert.AdamwConvIdeal.τ).loc Cert.AdamwConvIdeal.main_v0_1)) (v2 : (c : Dev Cert.AdamwConvIdeal.nD) → Buf (Elt Ideal) ((c.tc : Thread Cert.AdamwConvIdeal.nD Cert.AdamwConvIdeal.τ).loc Cert.AdamwConvIdeal.main_v0_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v0_0) = v0 c
          ∧ r.2.mem ((c.tc : Thread Cert.AdamwConvIdeal.nD Cert.AdamwConvIdeal.τ).loc Cert.AdamwConvIdeal.main_v0_1) = v1 c
          ∧ r.2.mem ((c.tc : Thread Cert.AdamwConvIdeal.nD Cert.AdamwConvIdeal.τ).loc Cert.AdamwConvIdeal.main_v0_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvRefIdeal.defs (F := Ideal)) (onTc (τ := Cert.AdamwConvRefIdeal.τ) (Cert.AdamwConvRefIdeal.main (F := Ideal))) ⟨m', fun _ => 0, g'⟩ (fun r => ∀ c : Dev Cert.AdamwConvRefIdeal.nD,
          r.2.mem ((c.tc : Thread Cert.AdamwConvRefIdeal.nD Cert.AdamwConvRefIdeal.τ).loc Cert.AdamwConvRefIdeal.main_v23) = v0 c
          ∧ r.2.mem ((c.tc : Thread Cert.AdamwConvRefIdeal.nD Cert.AdamwConvRefIdeal.τ).loc Cert.AdamwConvRefIdeal.main_v4) = v1 c
          ∧ r.2.mem ((c.tc : Thread Cert.AdamwConvRefIdeal.nD Cert.AdamwConvRefIdeal.τ).loc Cert.AdamwConvRefIdeal.main_v10) = v2 c
          ∧ r.2.mem ((c.tc : Thread Cert.AdamwConvRefIdeal.nD Cert.AdamwConvRefIdeal.τ).loc Cert.AdamwConvRefIdeal.main_arg0) = m' ((c.tc : Thread Cert.AdamwConvRefIdeal.nD Cert.AdamwConvRefIdeal.τ).loc Cert.AdamwConvRefIdeal.main_arg0)
          ∧ r.2.mem ((c.tc : Thread Cert.AdamwConvRefIdeal.nD Cert.AdamwConvRefIdeal.τ).loc Cert.AdamwConvRefIdeal.main_arg1) = m' ((c.tc : Thread Cert.AdamwConvRefIdeal.nD Cert.AdamwConvRefIdeal.τ).loc Cert.AdamwConvRefIdeal.main_arg1)
          ∧ r.2.mem ((c.tc : Thread Cert.AdamwConvRefIdeal.nD Cert.AdamwConvRefIdeal.τ).loc Cert.AdamwConvRefIdeal.main_arg2) = m' ((c.tc : Thread Cert.AdamwConvRefIdeal.nD Cert.AdamwConvRefIdeal.τ).loc Cert.AdamwConvRefIdeal.main_arg2)
          ∧ r.2.mem ((c.tc : Thread Cert.AdamwConvRefIdeal.nD Cert.AdamwConvRefIdeal.τ).loc Cert.AdamwConvRefIdeal.main_arg3) = m' ((c.tc : Thread Cert.AdamwConvRefIdeal.nD Cert.AdamwConvRefIdeal.τ).loc Cert.AdamwConvRefIdeal.main_arg3))

def preserves_AdamwAtt_AdamwAttIdeal : Prop :=
  True

def algebraic_AdamwAttIdeal_AdamwAttRefIdeal [hAdamwAttIdeal : Cert.AdamwAttIdeal.Facts] [hAdamwAttRefIdeal : Cert.AdamwAttRefIdeal.Facts] : Prop :=
  ∀ (m : (ℓ : Loc Cert.AdamwAttIdeal.nD Cert.AdamwAttIdeal.τ Cert.AdamwAttIdeal.sig) → Buf (Elt Ideal) ℓ) (g : Dev Cert.AdamwAttIdeal.nD → PrngReg)
    (m' : (ℓ : Loc Cert.AdamwAttRefIdeal.nD Cert.AdamwAttRefIdeal.τ Cert.AdamwAttRefIdeal.sig) → Buf (Elt Ideal) ℓ) (g' : Dev Cert.AdamwAttRefIdeal.nD → PrngReg), Pre_AdamwAttIdeal m →
    (∀ c : Dev Cert.AdamwAttIdeal.nD,
      m' ((c.tc : Thread Cert.AdamwAttRefIdeal.nD Cert.AdamwAttRefIdeal.τ).loc Cert.AdamwAttRefIdeal.main_arg0) = m ((c.tc : Thread Cert.AdamwAttIdeal.nD Cert.AdamwAttIdeal.τ).loc Cert.AdamwAttIdeal.main_arg0)
      ∧ m' ((c.tc : Thread Cert.AdamwAttRefIdeal.nD Cert.AdamwAttRefIdeal.τ).loc Cert.AdamwAttRefIdeal.main_arg1) = m ((c.tc : Thread Cert.AdamwAttIdeal.nD Cert.AdamwAttIdeal.τ).loc Cert.AdamwAttIdeal.main_arg1)
      ∧ m' ((c.tc : Thread Cert.AdamwAttRefIdeal.nD Cert.AdamwAttRefIdeal.τ).loc Cert.AdamwAttRefIdeal.main_arg2) = m ((c.tc : Thread Cert.AdamwAttIdeal.nD Cert.AdamwAttIdeal.τ).loc Cert.AdamwAttIdeal.main_arg2)
      ∧ m' ((c.tc : Thread Cert.AdamwAttRefIdeal.nD Cert.AdamwAttRefIdeal.τ).loc Cert.AdamwAttRefIdeal.main_arg3) = m ((c.tc : Thread Cert.AdamwAttIdeal.nD Cert.AdamwAttIdeal.τ).loc Cert.AdamwAttIdeal.main_arg3)) →
    ∃ (v0 : (c : Dev Cert.AdamwAttIdeal.nD) → Buf (Elt Ideal) ((c.tc : Thread Cert.AdamwAttIdeal.nD Cert.AdamwAttIdeal.τ).loc Cert.AdamwAttIdeal.main_v0_0)) (v1 : (c : Dev Cert.AdamwAttIdeal.nD) → Buf (Elt Ideal) ((c.tc : Thread Cert.AdamwAttIdeal.nD Cert.AdamwAttIdeal.τ).loc Cert.AdamwAttIdeal.main_v0_1)) (v2 : (c : Dev Cert.AdamwAttIdeal.nD) → Buf (Elt Ideal) ((c.tc : Thread Cert.AdamwAttIdeal.nD Cert.AdamwAttIdeal.τ).loc Cert.AdamwAttIdeal.main_v0_2)),
      θ_run (Cert.AdamwAttIdeal.defs (F := Ideal)) (onTc (τ := Cert.AdamwAttIdeal.τ) (Cert.AdamwAttIdeal.main (F := Ideal))) ⟨m, fun _ => 0, g⟩ (fun r => ∀ c : Dev Cert.AdamwAttIdeal.nD,
          r.2.mem ((c.tc : Thread Cert.AdamwAttIdeal.nD Cert.AdamwAttIdeal.τ).loc Cert.AdamwAttIdeal.main_v0_0) = v0 c
          ∧ r.2.mem ((c.tc : Thread Cert.AdamwAttIdeal.nD Cert.AdamwAttIdeal.τ).loc Cert.AdamwAttIdeal.main_v0_1) = v1 c
          ∧ r.2.mem ((c.tc : Thread Cert.AdamwAttIdeal.nD Cert.AdamwAttIdeal.τ).loc Cert.AdamwAttIdeal.main_v0_2) = v2 c
          ∧ r.2.mem ((c.tc : Thread Cert.AdamwAttIdeal.nD Cert.AdamwAttIdeal.τ).loc Cert.AdamwAttIdeal.main_arg0) = m ((c.tc : Thread Cert.AdamwAttIdeal.nD Cert.AdamwAttIdeal.τ).loc Cert.AdamwAttIdeal.main_arg0)
          ∧ r.2.mem ((c.tc : Thread Cert.AdamwAttIdeal.nD Cert.AdamwAttIdeal.τ).loc Cert.AdamwAttIdeal.main_arg1) = m ((c.tc : Thread Cert.AdamwAttIdeal.nD Cert.AdamwAttIdeal.τ).loc Cert.AdamwAttIdeal.main_arg1)
          ∧ r.2.mem ((c.tc : Thread Cert.AdamwAttIdeal.nD Cert.AdamwAttIdeal.τ).loc Cert.AdamwAttIdeal.main_arg2) = m ((c.tc : Thread Cert.AdamwAttIdeal.nD Cert.AdamwAttIdeal.τ).loc Cert.AdamwAttIdeal.main_arg2)
          ∧ r.2.mem ((c.tc : Thread Cert.AdamwAttIdeal.nD Cert.AdamwAttIdeal.τ).loc Cert.AdamwAttIdeal.main_arg3) = m ((c.tc : Thread Cert.AdamwAttIdeal.nD Cert.AdamwAttIdeal.τ).loc Cert.AdamwAttIdeal.main_arg3))
      ∧ θ_run (Cert.AdamwAttRefIdeal.defs (F := Ideal)) (onTc (τ := Cert.AdamwAttRefIdeal.τ) (Cert.AdamwAttRefIdeal.main (F := Ideal))) ⟨m', fun _ => 0, g'⟩ (fun r => ∀ c : Dev Cert.AdamwAttRefIdeal.nD,
          r.2.mem ((c.tc : Thread Cert.AdamwAttRefIdeal.nD Cert.AdamwAttRefIdeal.τ).loc Cert.AdamwAttRefIdeal.main_v23) = v0 c
          ∧ r.2.mem ((c.tc : Thread Cert.AdamwAttRefIdeal.nD Cert.AdamwAttRefIdeal.τ).loc Cert.AdamwAttRefIdeal.main_v4) = v1 c
          ∧ r.2.mem ((c.tc : Thread Cert.AdamwAttRefIdeal.nD Cert.AdamwAttRefIdeal.τ).loc Cert.AdamwAttRefIdeal.main_v10) = v2 c
          ∧ r.2.mem ((c.tc : Thread Cert.AdamwAttRefIdeal.nD Cert.AdamwAttRefIdeal.τ).loc Cert.AdamwAttRefIdeal.main_arg0) = m' ((c.tc : Thread Cert.AdamwAttRefIdeal.nD Cert.AdamwAttRefIdeal.τ).loc Cert.AdamwAttRefIdeal.main_arg0)
          ∧ r.2.mem ((c.tc : Thread Cert.AdamwAttRefIdeal.nD Cert.AdamwAttRefIdeal.τ).loc Cert.AdamwAttRefIdeal.main_arg1) = m' ((c.tc : Thread Cert.AdamwAttRefIdeal.nD Cert.AdamwAttRefIdeal.τ).loc Cert.AdamwAttRefIdeal.main_arg1)
          ∧ r.2.mem ((c.tc : Thread Cert.AdamwAttRefIdeal.nD Cert.AdamwAttRefIdeal.τ).loc Cert.AdamwAttRefIdeal.main_arg2) = m' ((c.tc : Thread Cert.AdamwAttRefIdeal.nD Cert.AdamwAttRefIdeal.τ).loc Cert.AdamwAttRefIdeal.main_arg2)
          ∧ r.2.mem ((c.tc : Thread Cert.AdamwAttRefIdeal.nD Cert.AdamwAttRefIdeal.τ).loc Cert.AdamwAttRefIdeal.main_arg3) = m' ((c.tc : Thread Cert.AdamwAttRefIdeal.nD Cert.AdamwAttRefIdeal.τ).loc Cert.AdamwAttRefIdeal.main_arg3))

def preserves_AdamwSsm_AdamwSsmIdeal : Prop :=
  True

def algebraic_AdamwSsmIdeal_AdamwSsmRefIdeal [hAdamwSsmIdeal : Cert.AdamwSsmIdeal.Facts] [hAdamwSsmRefIdeal : Cert.AdamwSsmRefIdeal.Facts] : Prop :=
  ∀ (m : (ℓ : Loc Cert.AdamwSsmIdeal.nD Cert.AdamwSsmIdeal.τ Cert.AdamwSsmIdeal.sig) → Buf (Elt Ideal) ℓ) (g : Dev Cert.AdamwSsmIdeal.nD → PrngReg)
    (m' : (ℓ : Loc Cert.AdamwSsmRefIdeal.nD Cert.AdamwSsmRefIdeal.τ Cert.AdamwSsmRefIdeal.sig) → Buf (Elt Ideal) ℓ) (g' : Dev Cert.AdamwSsmRefIdeal.nD → PrngReg), Pre_AdamwSsmIdeal m →
    (∀ c : Dev Cert.AdamwSsmIdeal.nD,
      m' ((c.tc : Thread Cert.AdamwSsmRefIdeal.nD Cert.AdamwSsmRefIdeal.τ).loc Cert.AdamwSsmRefIdeal.main_arg0) = m ((c.tc : Thread Cert.AdamwSsmIdeal.nD Cert.AdamwSsmIdeal.τ).loc Cert.AdamwSsmIdeal.main_arg0)
      ∧ m' ((c.tc : Thread Cert.AdamwSsmRefIdeal.nD Cert.AdamwSsmRefIdeal.τ).loc Cert.AdamwSsmRefIdeal.main_arg1) = m ((c.tc : Thread Cert.AdamwSsmIdeal.nD Cert.AdamwSsmIdeal.τ).loc Cert.AdamwSsmIdeal.main_arg1)
      ∧ m' ((c.tc : Thread Cert.AdamwSsmRefIdeal.nD Cert.AdamwSsmRefIdeal.τ).loc Cert.AdamwSsmRefIdeal.main_arg2) = m ((c.tc : Thread Cert.AdamwSsmIdeal.nD Cert.AdamwSsmIdeal.τ).loc Cert.AdamwSsmIdeal.main_arg2)
      ∧ m' ((c.tc : Thread Cert.AdamwSsmRefIdeal.nD Cert.AdamwSsmRefIdeal.τ).loc Cert.AdamwSsmRefIdeal.main_arg3) = m ((c.tc : Thread Cert.AdamwSsmIdeal.nD Cert.AdamwSsmIdeal.τ).loc Cert.AdamwSsmIdeal.main_arg3)) →
    ∃ (v0 : (c : Dev Cert.AdamwSsmIdeal.nD) → Buf (Elt Ideal) ((c.tc : Thread Cert.AdamwSsmIdeal.nD Cert.AdamwSsmIdeal.τ).loc Cert.AdamwSsmIdeal.main_v0_0)) (v1 : (c : Dev Cert.AdamwSsmIdeal.nD) → Buf (Elt Ideal) ((c.tc : Thread Cert.AdamwSsmIdeal.nD Cert.AdamwSsmIdeal.τ).loc Cert.AdamwSsmIdeal.main_v0_1)) (v2 : (c : Dev Cert.AdamwSsmIdeal.nD) → Buf (Elt Ideal) ((c.tc : Thread Cert.AdamwSsmIdeal.nD Cert.AdamwSsmIdeal.τ).loc Cert.AdamwSsmIdeal.main_v0_2)),
      θ_run (Cert.AdamwSsmIdeal.defs (F := Ideal)) (onTc (τ := Cert.AdamwSsmIdeal.τ) (Cert.AdamwSsmIdeal.main (F := Ideal))) ⟨m, fun _ => 0, g⟩ (fun r => ∀ c : Dev Cert.AdamwSsmIdeal.nD,
          r.2.mem ((c.tc : Thread Cert.AdamwSsmIdeal.nD Cert.AdamwSsmIdeal.τ).loc Cert.AdamwSsmIdeal.main_v0_0) = v0 c
          ∧ r.2.mem ((c.tc : Thread Cert.AdamwSsmIdeal.nD Cert.AdamwSsmIdeal.τ).loc Cert.AdamwSsmIdeal.main_v0_1) = v1 c
          ∧ r.2.mem ((c.tc : Thread Cert.AdamwSsmIdeal.nD Cert.AdamwSsmIdeal.τ).loc Cert.AdamwSsmIdeal.main_v0_2) = v2 c
          ∧ r.2.mem ((c.tc : Thread Cert.AdamwSsmIdeal.nD Cert.AdamwSsmIdeal.τ).loc Cert.AdamwSsmIdeal.main_arg0) = m ((c.tc : Thread Cert.AdamwSsmIdeal.nD Cert.AdamwSsmIdeal.τ).loc Cert.AdamwSsmIdeal.main_arg0)
          ∧ r.2.mem ((c.tc : Thread Cert.AdamwSsmIdeal.nD Cert.AdamwSsmIdeal.τ).loc Cert.AdamwSsmIdeal.main_arg1) = m ((c.tc : Thread Cert.AdamwSsmIdeal.nD Cert.AdamwSsmIdeal.τ).loc Cert.AdamwSsmIdeal.main_arg1)
          ∧ r.2.mem ((c.tc : Thread Cert.AdamwSsmIdeal.nD Cert.AdamwSsmIdeal.τ).loc Cert.AdamwSsmIdeal.main_arg2) = m ((c.tc : Thread Cert.AdamwSsmIdeal.nD Cert.AdamwSsmIdeal.τ).loc Cert.AdamwSsmIdeal.main_arg2)
          ∧ r.2.mem ((c.tc : Thread Cert.AdamwSsmIdeal.nD Cert.AdamwSsmIdeal.τ).loc Cert.AdamwSsmIdeal.main_arg3) = m ((c.tc : Thread Cert.AdamwSsmIdeal.nD Cert.AdamwSsmIdeal.τ).loc Cert.AdamwSsmIdeal.main_arg3))
      ∧ θ_run (Cert.AdamwSsmRefIdeal.defs (F := Ideal)) (onTc (τ := Cert.AdamwSsmRefIdeal.τ) (Cert.AdamwSsmRefIdeal.main (F := Ideal))) ⟨m', fun _ => 0, g'⟩ (fun r => ∀ c : Dev Cert.AdamwSsmRefIdeal.nD,
          r.2.mem ((c.tc : Thread Cert.AdamwSsmRefIdeal.nD Cert.AdamwSsmRefIdeal.τ).loc Cert.AdamwSsmRefIdeal.main_v23) = v0 c
          ∧ r.2.mem ((c.tc : Thread Cert.AdamwSsmRefIdeal.nD Cert.AdamwSsmRefIdeal.τ).loc Cert.AdamwSsmRefIdeal.main_v4) = v1 c
          ∧ r.2.mem ((c.tc : Thread Cert.AdamwSsmRefIdeal.nD Cert.AdamwSsmRefIdeal.τ).loc Cert.AdamwSsmRefIdeal.main_v10) = v2 c
          ∧ r.2.mem ((c.tc : Thread Cert.AdamwSsmRefIdeal.nD Cert.AdamwSsmRefIdeal.τ).loc Cert.AdamwSsmRefIdeal.main_arg0) = m' ((c.tc : Thread Cert.AdamwSsmRefIdeal.nD Cert.AdamwSsmRefIdeal.τ).loc Cert.AdamwSsmRefIdeal.main_arg0)
          ∧ r.2.mem ((c.tc : Thread Cert.AdamwSsmRefIdeal.nD Cert.AdamwSsmRefIdeal.τ).loc Cert.AdamwSsmRefIdeal.main_arg1) = m' ((c.tc : Thread Cert.AdamwSsmRefIdeal.nD Cert.AdamwSsmRefIdeal.τ).loc Cert.AdamwSsmRefIdeal.main_arg1)
          ∧ r.2.mem ((c.tc : Thread Cert.AdamwSsmRefIdeal.nD Cert.AdamwSsmRefIdeal.τ).loc Cert.AdamwSsmRefIdeal.main_arg2) = m' ((c.tc : Thread Cert.AdamwSsmRefIdeal.nD Cert.AdamwSsmRefIdeal.τ).loc Cert.AdamwSsmRefIdeal.main_arg2)
          ∧ r.2.mem ((c.tc : Thread Cert.AdamwSsmRefIdeal.nD Cert.AdamwSsmRefIdeal.τ).loc Cert.AdamwSsmRefIdeal.main_arg3) = m' ((c.tc : Thread Cert.AdamwSsmRefIdeal.nD Cert.AdamwSsmRefIdeal.τ).loc Cert.AdamwSsmRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hUpAct : Cert.UpAct.Facts) (hUpActIdeal : Cert.UpActIdeal.Facts) (hUpActRefIdeal : Cert.UpActRefIdeal.Facts) (hDown : Cert.Down.Facts) (hDownIdeal : Cert.DownIdeal.Facts) (hDownRefIdeal : Cert.DownRefIdeal.Facts) (hDownDxAct : Cert.DownDxAct.Facts) (hDownDxActIdeal : Cert.DownDxActIdeal.Facts) (hDownDxActRefIdeal : Cert.DownDxActRefIdeal.Facts) (hGateDx : Cert.GateDx.Facts) (hGateDxIdeal : Cert.GateDxIdeal.Facts) (hGateDxRefIdeal : Cert.GateDxRefIdeal.Facts) (hUpDx : Cert.UpDx.Facts) (hUpDxIdeal : Cert.UpDxIdeal.Facts) (hUpDxRefIdeal : Cert.UpDxRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hAttProj : Cert.AttProj.Facts) (hAttProjIdeal : Cert.AttProjIdeal.Facts) (hAttProjRefIdeal : Cert.AttProjRefIdeal.Facts) (hSsmProj : Cert.SsmProj.Facts) (hSsmProjIdeal : Cert.SsmProjIdeal.Facts) (hSsmProjRefIdeal : Cert.SsmProjRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hSsmProjDx : Cert.SsmProjDx.Facts) (hSsmProjDxIdeal : Cert.SsmProjDxIdeal.Facts) (hSsmProjDxRefIdeal : Cert.SsmProjDxRefIdeal.Facts) (hAttProjDx : Cert.AttProjDx.Facts) (hAttProjDxIdeal : Cert.AttProjDxIdeal.Facts) (hAttProjDxRefIdeal : Cert.AttProjDxRefIdeal.Facts) (hOutDw : Cert.OutDw.Facts) (hOutDwIdeal : Cert.OutDwIdeal.Facts) (hOutDwRefIdeal : Cert.OutDwRefIdeal.Facts) (hSsmProjDw : Cert.SsmProjDw.Facts) (hSsmProjDwIdeal : Cert.SsmProjDwIdeal.Facts) (hSsmProjDwRefIdeal : Cert.SsmProjDwRefIdeal.Facts) (hAttProjDw : Cert.AttProjDw.Facts) (hAttProjDwIdeal : Cert.AttProjDwIdeal.Facts) (hAttProjDwRefIdeal : Cert.AttProjDwRefIdeal.Facts) (hAdamwCol : Cert.AdamwCol.Facts) (hAdamwColIdeal : Cert.AdamwColIdeal.Facts) (hAdamwColRefIdeal : Cert.AdamwColRefIdeal.Facts) (hAdamwRow : Cert.AdamwRow.Facts) (hAdamwRowIdeal : Cert.AdamwRowIdeal.Facts) (hAdamwRowRefIdeal : Cert.AdamwRowRefIdeal.Facts) (hAdamwIn : Cert.AdamwIn.Facts) (hAdamwInIdeal : Cert.AdamwInIdeal.Facts) (hAdamwInRefIdeal : Cert.AdamwInRefIdeal.Facts) (hAdamwConv : Cert.AdamwConv.Facts) (hAdamwConvIdeal : Cert.AdamwConvIdeal.Facts) (hAdamwConvRefIdeal : Cert.AdamwConvRefIdeal.Facts) (hAdamwAtt : Cert.AdamwAtt.Facts) (hAdamwAttIdeal : Cert.AdamwAttIdeal.Facts) (hAdamwAttRefIdeal : Cert.AdamwAttRefIdeal.Facts) (hAdamwSsm : Cert.AdamwSsm.Facts) (hAdamwSsmIdeal : Cert.AdamwSsmIdeal.Facts) (hAdamwSsmRefIdeal : Cert.AdamwSsmRefIdeal.Facts) (hAdamwOut : Cert.AdamwOut.Facts) (hAdamwOutIdeal : Cert.AdamwOutIdeal.Facts) (hAdamwOutRefIdeal : Cert.AdamwOutRefIdeal.Facts) (hAdamwSmall : Cert.AdamwSmall.Facts) (hAdamwSmallIdeal : Cert.AdamwSmallIdeal.Facts) (hAdamwSmallRefIdeal : Cert.AdamwSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_Down (hDown := hDown)
    ∧ quiescent_DownIdeal (hDownIdeal := hDownIdeal)
    ∧ quiescent_DownRefIdeal (hDownRefIdeal := hDownRefIdeal)
    ∧ quiescent_DownDxAct (hDownDxAct := hDownDxAct)
    ∧ quiescent_DownDxActIdeal (hDownDxActIdeal := hDownDxActIdeal)
    ∧ quiescent_DownDxActRefIdeal (hDownDxActRefIdeal := hDownDxActRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_AttProj (hAttProj := hAttProj)
    ∧ quiescent_AttProjIdeal (hAttProjIdeal := hAttProjIdeal)
    ∧ quiescent_AttProjRefIdeal (hAttProjRefIdeal := hAttProjRefIdeal)
    ∧ quiescent_SsmProj (hSsmProj := hSsmProj)
    ∧ quiescent_SsmProjIdeal (hSsmProjIdeal := hSsmProjIdeal)
    ∧ quiescent_SsmProjRefIdeal (hSsmProjRefIdeal := hSsmProjRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_SsmProjDx (hSsmProjDx := hSsmProjDx)
    ∧ quiescent_SsmProjDxIdeal (hSsmProjDxIdeal := hSsmProjDxIdeal)
    ∧ quiescent_SsmProjDxRefIdeal (hSsmProjDxRefIdeal := hSsmProjDxRefIdeal)
    ∧ quiescent_AttProjDx (hAttProjDx := hAttProjDx)
    ∧ quiescent_AttProjDxIdeal (hAttProjDxIdeal := hAttProjDxIdeal)
    ∧ quiescent_AttProjDxRefIdeal (hAttProjDxRefIdeal := hAttProjDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_SsmProjDw (hSsmProjDw := hSsmProjDw)
    ∧ quiescent_SsmProjDwIdeal (hSsmProjDwIdeal := hSsmProjDwIdeal)
    ∧ quiescent_SsmProjDwRefIdeal (hSsmProjDwRefIdeal := hSsmProjDwRefIdeal)
    ∧ quiescent_AttProjDw (hAttProjDw := hAttProjDw)
    ∧ quiescent_AttProjDwIdeal (hAttProjDwIdeal := hAttProjDwIdeal)
    ∧ quiescent_AttProjDwRefIdeal (hAttProjDwRefIdeal := hAttProjDwRefIdeal)
    ∧ quiescent_AdamwCol (hAdamwCol := hAdamwCol)
    ∧ quiescent_AdamwColIdeal (hAdamwColIdeal := hAdamwColIdeal)
    ∧ quiescent_AdamwColRefIdeal (hAdamwColRefIdeal := hAdamwColRefIdeal)
    ∧ quiescent_AdamwRow (hAdamwRow := hAdamwRow)
    ∧ quiescent_AdamwRowIdeal (hAdamwRowIdeal := hAdamwRowIdeal)
    ∧ quiescent_AdamwRowRefIdeal (hAdamwRowRefIdeal := hAdamwRowRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwConv (hAdamwConv := hAdamwConv)
    ∧ quiescent_AdamwConvIdeal (hAdamwConvIdeal := hAdamwConvIdeal)
    ∧ quiescent_AdamwConvRefIdeal (hAdamwConvRefIdeal := hAdamwConvRefIdeal)
    ∧ quiescent_AdamwAtt (hAdamwAtt := hAdamwAtt)
    ∧ quiescent_AdamwAttIdeal (hAdamwAttIdeal := hAdamwAttIdeal)
    ∧ quiescent_AdamwAttRefIdeal (hAdamwAttRefIdeal := hAdamwAttRefIdeal)
    ∧ quiescent_AdamwSsm (hAdamwSsm := hAdamwSsm)
    ∧ quiescent_AdamwSsmIdeal (hAdamwSsmIdeal := hAdamwSsmIdeal)
    ∧ quiescent_AdamwSsmRefIdeal (hAdamwSsmRefIdeal := hAdamwSsmRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_UpAct_UpActIdeal
    ∧ algebraic_UpActIdeal_UpActRefIdeal (hUpActIdeal := hUpActIdeal) (hUpActRefIdeal := hUpActRefIdeal)
    ∧ preserves_Down_DownIdeal
    ∧ algebraic_DownIdeal_DownRefIdeal (hDownIdeal := hDownIdeal) (hDownRefIdeal := hDownRefIdeal)
    ∧ preserves_DownDxAct_DownDxActIdeal
    ∧ algebraic_DownDxActIdeal_DownDxActRefIdeal (hDownDxActIdeal := hDownDxActIdeal) (hDownDxActRefIdeal := hDownDxActRefIdeal)
    ∧ preserves_GateDx_GateDxIdeal
    ∧ algebraic_GateDxIdeal_GateDxRefIdeal (hGateDxIdeal := hGateDxIdeal) (hGateDxRefIdeal := hGateDxRefIdeal)
    ∧ preserves_UpDx_UpDxIdeal
    ∧ algebraic_UpDxIdeal_UpDxRefIdeal (hUpDxIdeal := hUpDxIdeal) (hUpDxRefIdeal := hUpDxRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_AttProj_AttProjIdeal
    ∧ algebraic_AttProjIdeal_AttProjRefIdeal (hAttProjIdeal := hAttProjIdeal) (hAttProjRefIdeal := hAttProjRefIdeal)
    ∧ preserves_SsmProj_SsmProjIdeal
    ∧ algebraic_SsmProjIdeal_SsmProjRefIdeal (hSsmProjIdeal := hSsmProjIdeal) (hSsmProjRefIdeal := hSsmProjRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_SsmProjDx_SsmProjDxIdeal
    ∧ algebraic_SsmProjDxIdeal_SsmProjDxRefIdeal (hSsmProjDxIdeal := hSsmProjDxIdeal) (hSsmProjDxRefIdeal := hSsmProjDxRefIdeal)
    ∧ preserves_AttProjDx_AttProjDxIdeal
    ∧ algebraic_AttProjDxIdeal_AttProjDxRefIdeal (hAttProjDxIdeal := hAttProjDxIdeal) (hAttProjDxRefIdeal := hAttProjDxRefIdeal)
    ∧ preserves_OutDw_OutDwIdeal
    ∧ algebraic_OutDwIdeal_OutDwRefIdeal (hOutDwIdeal := hOutDwIdeal) (hOutDwRefIdeal := hOutDwRefIdeal)
    ∧ preserves_SsmProjDw_SsmProjDwIdeal
    ∧ algebraic_SsmProjDwIdeal_SsmProjDwRefIdeal (hSsmProjDwIdeal := hSsmProjDwIdeal) (hSsmProjDwRefIdeal := hSsmProjDwRefIdeal)
    ∧ preserves_AttProjDw_AttProjDwIdeal
    ∧ algebraic_AttProjDwIdeal_AttProjDwRefIdeal (hAttProjDwIdeal := hAttProjDwIdeal) (hAttProjDwRefIdeal := hAttProjDwRefIdeal)
    ∧ preserves_AdamwCol_AdamwColIdeal
    ∧ algebraic_AdamwColIdeal_AdamwColRefIdeal (hAdamwColIdeal := hAdamwColIdeal) (hAdamwColRefIdeal := hAdamwColRefIdeal)
    ∧ preserves_AdamwRow_AdamwRowIdeal
    ∧ algebraic_AdamwRowIdeal_AdamwRowRefIdeal (hAdamwRowIdeal := hAdamwRowIdeal) (hAdamwRowRefIdeal := hAdamwRowRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwConv_AdamwConvIdeal
    ∧ algebraic_AdamwConvIdeal_AdamwConvRefIdeal (hAdamwConvIdeal := hAdamwConvIdeal) (hAdamwConvRefIdeal := hAdamwConvRefIdeal)
    ∧ preserves_AdamwAtt_AdamwAttIdeal
    ∧ algebraic_AdamwAttIdeal_AdamwAttRefIdeal (hAdamwAttIdeal := hAdamwAttIdeal) (hAdamwAttRefIdeal := hAdamwAttRefIdeal)
    ∧ preserves_AdamwSsm_AdamwSsmIdeal
    ∧ algebraic_AdamwSsmIdeal_AdamwSsmRefIdeal (hAdamwSsmIdeal := hAdamwSsmIdeal) (hAdamwSsmRefIdeal := hAdamwSsmRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== Pre_finite.lean ====
abbrev S2x2048x3072 : Shape := ⟨3, ![2, 2048, 3072]⟩
abbrev S2x2048x12288 : Shape := ⟨3, ![2, 2048, 12288]⟩
abbrev S2x2048x512 : Shape := ⟨3, ![2, 2048, 512]⟩
abbrev S2x2048x1536 : Shape := ⟨3, ![2, 2048, 1536]⟩
abbrev S_ : Shape := ⟨0, ![]⟩

class Facts : Prop where
  bcast_S_S2x2048x3072 : S_.BroadcastsInDim S2x2048x3072 (![] : Fin 0 → Fin S2x2048x3072.rank)
  reducesTo_S2x2048x3072_S_d0_1_2 : S2x2048x3072.ReducesTo [0, 1, 2] S_
  h_S_ : 0 < S_.numel
  bcast_S_S2x2048x12288 : S_.BroadcastsInDim S2x2048x12288 (![] : Fin 0 → Fin S2x2048x12288.rank)
  reducesTo_S2x2048x12288_S_d0_1_2 : S2x2048x12288.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  main_v18

def fn {F : FTy → Type} [FloatOps F] (main_arg0 : FVec F S2x2048x3072 .f32) (main_arg1 : FVec F S2x2048x12288 .f32) (main_arg2 : FVec F S2x2048x512 .f32) (main_arg3 : FVec F S2x2048x512 .f32) (main_arg4 : FVec F S2x2048x1536 .f32) (main_arg5 : FVec F S2x2048x1536 .f32) (main_arg6 : FVec F S2x2048x1536 .f32) : IVec S_ 1 :=
  let main_v0 : FVec F S2x2048x3072 .f32 := Host.absf main_arg0
  let main_cst : FVec F S_ .f32 := constant S_ .f32 0x7F800000#32
  let main_v1 : FVec F S2x2048x3072 .f32 := broadcastInDim S2x2048x3072 ![] bcast_S_S2x2048x3072 main_cst
  let main_v2 : IVec S2x2048x3072 1 := cmpf .olt main_v0 main_v1
  let main_c : IVec S_ 1 := constantI S_ 1 1#1
  let main_v3 : IVec S_ 1 := (fun x v => Host.reduce IntOp.andi x v reducesTo_S2x2048x3072_S_d0_1_2 h_S_) main_v2 main_c
  let main_v4 : FVec F S2x2048x12288 .f32 := Host.absf main_arg1
  let main_cst_0 : FVec F S_ .f32 := constant S_ .f32 0x7F800000#32
  let main_v5 : FVec F S2x2048x12288 .f32 := broadcastInDim S2x2048x12288 ![] bcast_S_S2x2048x12288 main_cst_0
  let main_v6 : IVec S2x2048x12288 1 := cmpf .olt main_v4 main_v5
  let main_c_1 : IVec S_ 1 := constantI S_ 1 1#1
  let main_v7 : IVec S_ 1 := (fun x v => Host.reduce IntOp.andi x v reducesTo_S2x2048x12288_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_v13 main_v16
-- ==== Kernel.lean ====
abbrev S2x2048x3072 : Shape := ⟨3, ![2, 2048, 3072]⟩
abbrev S2x2048x12288 : Shape := ⟨3, ![2, 2048, 12288]⟩
abbrev S2x2048x512 : Shape := ⟨3, ![2, 2048, 512]⟩
abbrev S2x2048x1536 : Shape := ⟨3, ![2, 2048, 1536]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S128x256 : Shape := ⟨2, ![128, 256]⟩
abbrev S1x128 : Shape := ⟨2, ![1, 128]⟩
abbrev S256x128 : Shape := ⟨2, ![256, 128]⟩
abbrev S128 : Shape := ⟨1, ![128]⟩
abbrev S128x1 : Shape := ⟨2, ![128, 1]⟩

abbrev nBuf : Space → Nat
  | .hbm => 10
  | .vmem => 22
  | .smem => 0
  | _ => 0

abbrev bufTy : (tb : Table) → Fin (tcTables nBuf tb) → BufTy
  | .hbm, ⟨0, _⟩ => ⟨S2x2048x3072, .f32⟩
  | .hbm, ⟨1, _⟩ => ⟨S2x2048x12288, .f32⟩
  | .hbm, ⟨2, _⟩ => ⟨S2x2048x512, .f32⟩
  | .hbm, ⟨3, _⟩ => ⟨S2x2048x512, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S512x128, .f32⟩
  | .local _ .vmem, ⟨21, _⟩ => ⟨S512x128, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 5], ![false, false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_cond1 (i : grid0.Coords) : BitVec 1 :=
  let arg2 : BitVec 32 := BitVec.ofNat 32 (i 2).val
  let c4_i32_1 : BitVec 32 := 4#32
  let v1 : BitVec 1 := Scalar.cmpi .slt arg2 c4_i32_1
  let v2 : BitVec 32 := Scalar.extui v1
  let c0_i32_2 : BitVec 32 := 0#32
  let v3 : BitVec 1 := Scalar.cmpi .ne v2 c0_i32_2
  v3

def k0_off1 (k0_t1 : Fin k0_t1_loop.trips) : Fin 3 → Nat :=
  let c0 : Index := 0#32
  let c0_i32 : BitVec 32 := 0#32
  let c1_i32 : BitVec 32 := 1#32
  let arg18 : BitVec 32 := Scf.iv c0_i32 c1_i32 k0_t1
  let v8 : Index := Scalar.indexCast arg18
  let c0_6 : Index := 0#32
  ![0, v8.toNat, 0]
def k0_cond2 (i : grid0.Coords) : BitVec 1 :=
  let arg2 : BitVec 32 := BitVec.ofNat 32 (i 2).val
  let c0_i32_78 : BitVec 32 := 0#32
  let v275 : BitVec 1 := Scalar.cmpi .sgt arg2 c0_i32_78
  let v276 : BitVec 32 := Scalar.extui v275
  let c0_i32_79 : BitVec 32 := 0#32
  let v277 : BitVec 1 := Scalar.cmpi .ne v276 c0_i32_79
  v277

def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let v286 : Index := Scalar.indexCast arg18
  let c0_82 : Index := 0#32
  ![v286.toNat, 0]
def k0_off3 (k0_t1 : Fin k0_t1_loop.trips) : Fin 3 → Nat :=
  let c0_83 : Index := 0#32
  let c0_i32 : BitVec 32 := 0#32
  let c1_i32 : BitVec 32 := 1#32
  let arg18 : BitVec 32 := Scf.iv c0_i32 c1_i32 k0_t1
  let v289 : Index := Scalar.indexCast arg18
  let c0_84 : Index := 0#32
  ![0, v289.toNat, 0]
def k0_off4 (k0_t1 : Fin k0_t1_loop.trips) : Fin 2 → Nat :=
  let c0_i32 : BitVec 32 := 0#32
  let c1_i32 : BitVec 32 := 1#32
  let arg18 : BitVec 32 := Scf.iv c0_i32 c1_i32 k0_t1
  let v278 : Index := Scalar.indexCast arg18
  let c0_80 : Index := 0#32
  ![v278.toNat, 0]
def k0_cond3 (i : grid0.Coords) : BitVec 1 :=
  let arg2 : BitVec 32 := BitVec.ofNat 32 (i 2).val
  let c4_i32_3 : BitVec 32 := 4#32
  let v4 : BitVec 1 := Scalar.cmpi .eq arg2 c4_i32_3
  let v5 : BitVec 32 := Scalar.extui v4
  let c0_i32_4 : BitVec 32 := 0#32
  let v6 : BitVec 1 := Scalar.cmpi .ne v5 c0_i32_4
  v6

def k0_off5 (k0_t1 : Fin k0_t1_loop.trips) : Fin 2 → Nat :=
  let c0_i32 : BitVec 32 := 0#32
  let c1_i32 : BitVec 32 := 1#32
  let arg18 : BitVec 32 := Scf.iv c0_i32 c1_i32 k0_t1
  let v7 : Index := Scalar.indexCast arg18
  let c0 : Index := 0#32
  ![v7.toNat, 0]
def k0_off6 (k0_t1 : Fin k0_t1_loop.trips) : Fin 3 → Nat :=
  let c0_5 : Index := 0#32
  let c0_i32 : BitVec 32 := 0#32
  let c1_i32 : BitVec 32 := 1#32
  let arg18 : BitVec 32 := Scf.iv c0_i32 c1_i32 k0_t1
  let v9 : Index := Scalar.indexCast arg18
  let c0_6 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c4_i32 : BitVec 32 := 4#32
  let v1 : BitVec 32 := Scalar.addi c4_i32 arg1
  let c0_i32 : BitVec 32 := 0#32
  ![arg0.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c16_i32 : BitVec 32 := 16#32
  let v1 : BitVec 32 := Scalar.addi c16_i32 arg1
  let c0_i32 : BitVec 32 := 0#32
  ![arg0.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let v3 : BitVec 32 := Scalar.addi c28_i32 arg1
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c28_i32 : BitVec 32 := 28#32
  let v1 : BitVec 32 := Scalar.addi c28_i32 arg1
  let c0_i32 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c4_i32 : BitVec 32 := 4#32
  let v1 : BitVec 32 := Scalar.addi c4_i32 arg1
  let c0_i32 : BitVec 32 := 0#32
  ![arg0.toNat, v0.toNat, v1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x2048x3072 : Shape := ⟨3, ![2, 2048, 3072]⟩
abbrev S2x2048x12288 : Shape := ⟨3, ![2, 2048, 12288]⟩
abbrev S2x2048x512 : Shape := ⟨3, ![2, 2048, 512]⟩
abbrev S2x2048x1536 : Shape := ⟨3, ![2, 2048, 1536]⟩
abbrev S2x2048x8x64 : Shape := ⟨4, ![2, 2048, 8, 64]⟩
abbrev S2x512x4x8x64 : Shape := ⟨5, ![2, 512, 4, 8, 64]⟩
abbrev S2x4x8x512x64 : Shape := ⟨5, ![2, 4, 8, 512, 64]⟩
abbrev S2x4x8x4x128x64 : Shape := ⟨6, ![2, 4, 8, 4, 128, 64]⟩
abbrev S2x4x8x1x128x64 : Shape := ⟨6, ![2, 4, 8, 1, 128, 64]⟩
abbrev S_ : Shape := ⟨0, ![]⟩
abbrev S2x4x8x3x128x64 : Shape := ⟨6, ![2, 4, 8, 3, 128, 64]⟩
abbrev S2x4x8x4x256x64 : Shape := ⟨6, ![2, 4, 8, 4, 256, 64]⟩
abbrev S2x4x8x4x128x256 : Shape := ⟨6, ![2, 4, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S2x4x8x4x128 : Shape := ⟨5, ![2, 4, 8, 4, 128]⟩
abbrev S2x4x8x4x128x1 : Shape := ⟨6, ![2, 4, 8, 4, 128, 1]⟩
abbrev S2x4x8x512 : Shape := ⟨4, ![2, 4, 8, 512]⟩
abbrev S2x512x4x8 : Shape := ⟨4, ![2, 512, 4, 8]⟩
abbrev S2x2048x8 : Shape := ⟨3, ![2, 2048, 8]⟩
abbrev S2x4x8x4x64x256 : Shape := ⟨6, ![2, 4, 8, 4, 64, 256]⟩

abbrev nBuf : Space → Nat
  | .hbm => 171
  | .vmem => 0
  | .smem => 0
  | _ => 0

abbrev hbmTy0_0 (i : Nat) : BufTy := match i % 128 with
  | 0 => ⟨S2x2048x3072, .f32⟩
  | 1 => ⟨S2x2048x12288, .f32⟩
  | 2 => ⟨S2x2048x512, .f32⟩
  | 3 => ⟨S2x2048x512, .f32⟩
  | 4 => ⟨S2x2048x1536, .f32⟩
  | 5 => ⟨S2x2048x1536, .f32⟩
  | 6 => ⟨S2x2048x1536, .f32⟩
  | 7 => ⟨S2x2048x512, .f32⟩
  | 8 => ⟨S2x2048x512, .f32⟩
  | 9 => ⟨S2x2048x512, .f32⟩
  | 10 => ⟨S2x2048x8x64, .f32⟩
  | 11 => ⟨S2x2048x8x64, .f32⟩
  | 12 => ⟨S2x2048x8x64, .f32⟩
  | 13 => ⟨S2x512x4x8x64, .f32⟩
  | 14 => ⟨S2x4x8x512x64, .f32⟩
  | 15 => ⟨S2x4x8x4x128x64, .f32⟩
  | 16 => ⟨S2x512x4x8x64, .f32⟩
  | 17 => ⟨S2x4x8x512x64, .f32⟩
  | 18 => ⟨S2x4x8x4x128x64, .f32⟩
  | 19 => ⟨S2x4x8x1x128x64, .f32⟩
  | 20 => ⟨S_, .f32⟩
  | 21 => ⟨S2x4x8x1x128x64, .f32⟩
  | 22 => ⟨S2x4x8x3x128x64, .f32⟩
  | 23 => ⟨S2x4x8x4x128x64, .f32⟩
  | 24 => ⟨S_, .f32⟩
  | 25 => ⟨S2x4x8x1x128x64, .f32⟩
  | 26 => ⟨S2x4x8x4x256x64, .f32⟩
  | 27 => ⟨S2x512x4x8x64, .f32⟩
  | 28 => ⟨S2x4x8x512x64, .f32⟩
  | 29 => ⟨S2x4x8x4x128x64, .f32⟩
  | 30 => ⟨S2x4x8x1x128x64, .f32⟩
  | 31 => ⟨S_, .f32⟩
  | 32 => ⟨S2x4x8x1x128x64, .f32⟩
  | 33 => ⟨S2x4x8x3x128x64, .f32⟩
  | 34 => ⟨S2x4x8x4x128x64, .f32⟩
  | 35 => ⟨S_, .f32⟩
  | 36 => ⟨S2x4x8x1x128x64, .f32⟩
  | 37 => ⟨S2x4x8x4x256x64, .f32⟩
  | 38 => ⟨S2x4x8x4x128x256, .f32⟩
  | 39 => ⟨S_, .f32⟩
  | 40 => ⟨S2x4x8x4x128x256, .f32⟩
  | 41 => ⟨S2x4x8x4x128x256, .f32⟩
  | 42 => ⟨S128, .i32⟩
  | 43 => ⟨S128x1, .i32⟩
  | 44 => ⟨S256, .i32⟩
  | 45 => ⟨S1x256, .i32⟩
  | 46 => ⟨S_, .i32⟩
  | 47 => ⟨S128x1, .i32⟩
  | 48 => ⟨S128x1, .i32⟩
  | 49 => ⟨S128x256, .i32⟩
  | 50 => ⟨S128x256, .i32⟩
  | 51 => ⟨S128x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S4, .i32⟩
  | 60 => ⟨S4x1x1, .i32⟩
  | 61 => ⟨S_, .i32⟩
  | 62 => ⟨S4x1x1, .i32⟩
  | 63 => ⟨S4x1x1, .i32⟩
  | 64 => ⟨S_, .i32⟩
  | 65 => ⟨S4x1x1, .i32⟩
  | 66 => ⟨S4x1x1, .i32⟩
  | 67 => ⟨S1x1x256, .i32⟩
  | 68 => ⟨S4x1x256, .i32⟩
  | 69 => ⟨S4x1x256, .i32⟩
  | 70 => ⟨S4x1x256, .i32⟩
  | 71 => ⟨S_, .i32⟩
  | 72 => ⟨S4x1x256, .i32⟩
  | 73 => ⟨S4x1x256, .i1⟩
  | 74 => ⟨S1x128x256, .i1⟩
  | 75 => ⟨S4x128x256, .i1⟩
  | 76 => ⟨S4x128x256, .i1⟩
  | 77 => ⟨S4x128x256, .i1⟩
  | 78 => ⟨S_, .f32⟩
  | 79 => ⟨S_, .f32⟩
  | 80 => ⟨S2x4x8x4x128x256, .i1⟩
  | 81 => ⟨S2x4x8x4x128x256, .f32⟩
  | 82 => ⟨S2x4x8x4x128x256, .f32⟩
  | 83 => ⟨S_, .f32⟩
  | 84 => ⟨S2x4x8x4x128x256, .f32⟩
  | 85 => ⟨S2x4x8x4x128x256, .f32⟩
  | 86 => ⟨S_, .f32⟩
  | 87 => ⟨S2x4x8x4x128, .f32⟩
  | 88 => ⟨S2x4x8x4x128, .f32⟩
  | 89 => ⟨S2x4x8x4x128x1, .f32⟩
  | 90 => ⟨S2x4x8x4x128x256, .f32⟩
  | 91 => ⟨S2x4x8x4x128x256, .f32⟩
  | 92 => ⟨S2x4x8x4x128x256, .f32⟩
  | 93 => ⟨S2x4x8x4x128x64, .f32⟩
  | 94 => ⟨S2x4x8x512x64, .f32⟩
  | 95 => ⟨S2x512x4x8x64, .f32⟩
  | 96 => ⟨S2x2048x8x64, .f32⟩
  | 97 => ⟨S2x4x8x512, .f32⟩
  | 98 => ⟨S2x512x4x8, .f32⟩
  | 99 => ⟨S2x2048x8, .f32⟩
  | 100 => ⟨S2x2048x512, .f32⟩
  | 101 => ⟨S2x2048x8x64, .f32⟩
  | 102 => ⟨S2x2048x512, .f32⟩
  | 103 => ⟨S2x2048x8x64, .f32⟩
  | 104 => ⟨S_, .f32⟩
  | 105 => ⟨S2x2048x8, .f32⟩
  | 106 => ⟨S2x2048x8x64, .f32⟩
  | 107 => ⟨S2x512x4x8, .f32⟩
  | 108 => ⟨S2x4x8x512, .f32⟩
  | 109 => ⟨S2x4x8x4x128, .f32⟩
  | 110 => ⟨S2x512x4x8x64, .f32⟩
  | 111 => ⟨S2x4x8x512x64, .f32⟩
  | 112 => ⟨S2x4x8x4x128x64, .f32⟩
  | 113 => ⟨S2x4x8x4x64x256, .f32⟩
  | 114 => ⟨S2x4x8x4x256x64, .f32⟩
  | 115 => ⟨S2x4x8x4x128x256, .f32⟩
  | 116 => ⟨S2x4x8x4x128x256, .f32⟩
  | 117 => ⟨S2x4x8x4x128x256, .f32⟩
  | 118 => ⟨S_, .f32⟩
  | 119 => ⟨S2x4x8x4x128, .f32⟩
  | 120 => ⟨S2x4x8x4x128x1, .f32⟩
  | 121 => ⟨S_, .f32⟩
  | 122 => ⟨S2x4x8x4x128, .f32⟩
  | 123 => ⟨S2x4x8x4x128, .f32⟩
  | 124 => ⟨S2x4x8x4x128, .f32⟩
  | 125 => ⟨S2x4x8x4x128x256, .f32⟩
  | 126 => ⟨S2x4x8x4x128x256, .f32⟩
  | 127 => ⟨S2x4x8x4x128x256, .f32⟩
  | _ => ⟨S2x2048x3072, .f32⟩

abbrev hbmTy0_1 (i : Nat) : BufTy := match i % 128 with
  | 0 => ⟨S_, .f32⟩
  | 1 => ⟨S2x4x8x4x128x256, .f32⟩
  | 2 => ⟨S2x4x8x4x128x256, .f32⟩
  | 3 => ⟨S_, .f32⟩
  | 4 => ⟨S2x4x8x4x128x256, .f32⟩
  | 5 => ⟨S2x4x8x4x128x256, .f32⟩
  | 6 => ⟨S2x4x8x4x256x64, .f32⟩
  | 7 => ⟨S2x4x8x4x128x64, .f32⟩
  | 8 => ⟨S2x4x8x4x128x64, .f32⟩
  | 9 => ⟨S2x4x8x4x128x64, .f32⟩
  | 10 => ⟨S2x4x8x1x128x64, .f32⟩
  | 11 => ⟨S2x4x8x3x128x64, .f32⟩
  | 12 => ⟨S_, .f32⟩
  | 13 => ⟨S2x4x8x4x128x64, .f32⟩
  | 14 => ⟨S2x4x8x4x128x64, .f32⟩
  | 15 => ⟨S2x4x8x512x64, .f32⟩
  | 16 => ⟨S2x512x4x8x64, .f32⟩
  | 17 => ⟨S2x2048x8x64, .f32⟩
  | 18 => ⟨S2x4x8x4x128x64, .f32⟩
  | 19 => ⟨S2x4x8x4x128x64, .f32⟩
  | 20 => ⟨S2x4x8x1x128x64, .f32⟩
  | 21 => ⟨S2x4x8x3x128x64, .f32⟩
  | 22 => ⟨S_, .f32⟩
  | 23 => ⟨S2x4x8x4x128x64, .f32⟩
  | 24 => ⟨S2x4x8x4x128x64, .f32⟩
  | 25 => ⟨S2x4x8x512x64, .f32⟩
  | 26 => ⟨S2x512x4x8x64, .f32⟩
  | 27 => ⟨S2x2048x8x64, .f32⟩
  | 28 => ⟨S2x4x8x512x64, .f32⟩
  | 29 => ⟨S2x512x4x8x64, .f32⟩
  | 30 => ⟨S2x2048x8x64, .f32⟩
  | 31 => ⟨S2x2048x512, .f32⟩
  | 32 => ⟨S2x2048x512, .f32⟩
  | 33 => ⟨S2x2048x512, .f32⟩
  | 34 => ⟨S2x2048x512, .f32⟩
  | 35 => ⟨S2x2048x512, .f32⟩
  | 36 => ⟨S2x2048x1536, .f32⟩
  | 37 => ⟨S2x2048x512, .f32⟩
  | 38 => ⟨S2x2048x512, .f32⟩
  | 39 => ⟨S2x2048x1536, .f32⟩
  | 40 => ⟨S2x2048x512, .f32⟩
  | 41 => ⟨S2x2048x512, .f32⟩
  | 42 => ⟨S2x2048x1536, .f32⟩
  | _ => ⟨S2x2048x3072, .f32⟩

abbrev hbmTy (i : Nat) : BufTy := match i / 128 with
  | 0 => hbmTy0_0 i
  | 1 => hbmTy0_1 i
  | _ => ⟨S2x2048x3072, .f32⟩

abbrev bufTy : (tb : Table) → Fin (tcTables nBuf tb) → BufTy
  | .hbm, ⟨i, _⟩ => hbmTy i
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_call0_v0 : Ref sig .tc := ⟨.hbm, 79, rfl⟩
abbrev main_v60_1 : Ref sig .tc := ⟨.hbm, 80, rfl⟩
abbrev main_call0_v2 : Ref sig .tc := ⟨.hbm, 81, rfl⟩
abbrev main_v60_0 : Ref sig .tc := ⟨.hbm, 82, rfl⟩
abbrev main_call0_cst : Ref sig .tc := ⟨.hbm, 83, rfl⟩
abbrev main_v60_2 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_12 : Ref sig .tc := ⟨.hbm, 118, rfl⟩
abbrev main_v92 : Ref sig .tc := ⟨.hbm, 119, rfl⟩
abbrev main_v93 : Ref sig .tc := ⟨.hbm, 120, rfl⟩
abbrev main_cst_13 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call1_cst : Ref sig .tc := ⟨.hbm, 128, rfl⟩
abbrev main_call1_v0 : Ref sig .tc := ⟨.hbm, 129, rfl⟩
abbrev main_v100 : Ref sig .tc := ⟨.hbm, 130, rfl⟩
abbrev main_cst_14 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_15 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_16 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩

abbrev nD : Nat := 1
abbrev τ : Topo := Topo.v7x

variable {F : FTy → Type} [FloatOps F]
-- ==== In.lean ====
abbrev S4096x1024 : Shape := ⟨2, ![4096, 1024]⟩
abbrev S1024x12288 : Shape := ⟨2, ![1024, 12288]⟩
abbrev S4096x12288 : Shape := ⟨2, ![4096, 12288]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x12288, .bf16⟩
  | .hbm, ⟨2, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x1024 : Shape := ⟨2, ![4096, 1024]⟩
abbrev S1024x12288 : Shape := ⟨2, ![1024, 12288]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x12288, .bf16⟩
  | .hbm, ⟨2, _⟩ => ⟨S4096x1024, .f32⟩
  | .hbm, ⟨3, _⟩ => ⟨S1024x12288, .f32⟩
  | .hbm, ⟨4, _⟩ => ⟨S4096x12288, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDw.lean ====
abbrev S4096x1024 : Shape := ⟨2, ![4096, 1024]⟩
abbrev S4096x12288 : Shape := ⟨2, ![4096, 12288]⟩
abbrev S1024x12288 : Shape := ⟨2, ![1024, 12288]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x12288, .bf16⟩
  | .hbm, ⟨2, _⟩ => ⟨S1024x12288, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4096x12288 : Shape := ⟨2, ![4096, 12288]⟩
abbrev S_ : Shape := ⟨0, ![]⟩
abbrev S1024x12288 : Shape := ⟨2, ![1024, 12288]⟩
abbrev S12288x1024 : Shape := ⟨2, ![12288, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x12288, .bf16⟩
  | .hbm, ⟨2, _⟩ => ⟨S_, .bf16⟩
  | .hbm, ⟨3, _⟩ => ⟨S1024x12288, .bf16⟩
  | .hbm, ⟨4, _⟩ => ⟨S4096x1024, .f32⟩
  | .hbm, ⟨5, _⟩ => ⟨S1024x12288, .f32⟩
  | .hbm, ⟨6, _⟩ => ⟨S4096x12288, .f32⟩
  | .hbm, ⟨7, _⟩ => ⟨S4096x12288, .f32⟩
  | .hbm, ⟨8, _⟩ => ⟨S12288x1024, .f32⟩
  | .hbm, ⟨9, _⟩ => ⟨S1024x12288, .f32⟩
  | .hbm, ⟨10, _⟩ => ⟨S1024x12288, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S4096x12288 : Shape := ⟨2, ![4096, 12288]⟩
abbrev S1024x12288 : Shape := ⟨2, ![1024, 12288]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S1024x12288, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 12], ![false, false, false]⟩

def k0_cond3 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x12288 : Shape := ⟨2, ![4096, 12288]⟩
abbrev S1024x12288 : Shape := ⟨2, ![1024, 12288]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S1024x12288, .bf16⟩
  | .hbm, ⟨2, _⟩ => ⟨S_, .f32⟩
  | .hbm, ⟨3, _⟩ => ⟨S4096x1024, .f32⟩
  | .hbm, ⟨4, _⟩ => ⟨S1024x12288, .f32⟩
  | .hbm, ⟨5, _⟩ => ⟨S4096x12288, .f32⟩
  | .hbm, ⟨6, _⟩ => ⟨S4096x12288, .f32⟩
  | .hbm, ⟨7, _⟩ => ⟨S4096x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x1024 : Shape := ⟨2, ![4096, 1024]⟩
abbrev S4x4096x704 : Shape := ⟨3, ![4, 4096, 704]⟩
abbrev S1x4x1024x704 : Shape := ⟨4, ![1, 4, 1024, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S1x4x1024x704, .bf16⟩
  | .hbm, ⟨3, _⟩ => ⟨S1x4x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpDwRefIdeal.lean ====
abbrev S4096x1024 : Shape := ⟨2, ![4096, 1024]⟩
abbrev S4x4096x704 : Shape := ⟨3, ![4, 4096, 704]⟩
abbrev S1x4x1024x704 : Shape := ⟨4, ![1, 4, 1024, 704]⟩
abbrev S_ : Shape := ⟨0, ![]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩
abbrev S2816x1024 : Shape := ⟨2, ![2816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S1x4x1024x704, .bf16⟩
  | .hbm, ⟨3, _⟩ => ⟨S_, .f32⟩
  | .hbm, ⟨4, _⟩ => ⟨S1x4x1024x704, .f32⟩
  | .hbm, ⟨5, _⟩ => ⟨S4096x1024, .f32⟩
  | .hbm, ⟨6, _⟩ => ⟨S4x1024x704, .f32⟩
  | .hbm, ⟨7, _⟩ => ⟨S1024x4x704, .f32⟩
  | .hbm, ⟨8, _⟩ => ⟨S1024x2816, .f32⟩
  | .hbm, ⟨9, _⟩ => ⟨S4096x2816, .f32⟩
  | .hbm, ⟨10, _⟩ => ⟨S4096x4x704, .bf16⟩
  | .hbm, ⟨11, _⟩ => ⟨S4096x2816, .bf16⟩
  | .hbm, ⟨12, _⟩ => ⟨S4096x2816, .f32⟩
  | .hbm, ⟨13, _⟩ => ⟨S2816x1024, .f32⟩
  | .hbm, ⟨14, _⟩ => ⟨S1024x2816, .f32⟩
  | .hbm, ⟨15, _⟩ => ⟨S1024x4x704, .f32⟩
  | .hbm, ⟨16, _⟩ => ⟨S4x1024x704, .f32⟩
  | .hbm, ⟨17, _⟩ => ⟨S1x4x1024x704, .f32⟩
  | .hbm, ⟨18, _⟩ => ⟨S1x4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== DownDw.lean ====
abbrev S4x4096x704 : Shape := ⟨3, ![4, 4096, 704]⟩
abbrev S4096x1024 : Shape := ⟨2, ![4096, 1024]⟩
abbrev S1x4x704x1024 : Shape := ⟨4, ![1, 4, 704, 1024]⟩
abbrev S1x1024x704 : Shape := ⟨3, ![1, 1024, 704]⟩
abbrev S1024x1024 : Shape := ⟨2, ![1024, 1024]⟩
abbrev S1x1x704x1024 : Shape := ⟨4, ![1, 1, 704, 1024]⟩
abbrev S704x1024 : Shape := ⟨2, ![704, 1024]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S1x4x704x1024, .bf16⟩
  | .hbm, ⟨3, _⟩ => ⟨S1x4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x1x704x1024, .bf16⟩
  | .local _ .vmem, ⟨5, _⟩ => ⟨S1x1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownDwRefIdeal.lean ====
abbrev S4x4096x704 : Shape := ⟨3, ![4, 4096, 704]⟩
abbrev S4096x1024 : Shape := ⟨2, ![4096, 1024]⟩
abbrev S1x4x704x1024 : Shape := ⟨4, ![1, 4, 704, 1024]⟩
abbrev S_ : Shape := ⟨0, ![]⟩
abbrev S4096x4x704 : Shape := ⟨3, ![4096, 4, 704]⟩
abbrev S4096x2816 : Shape := ⟨2, ![4096, 2816]⟩
abbrev S4x704x1024 : Shape := ⟨3, ![4, 704, 1024]⟩
abbrev S2816x1024 : Shape := ⟨2, ![2816, 1024]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S1x4x704x1024, .bf16⟩
  | .hbm, ⟨3, _⟩ => ⟨S_, .f32⟩
  | .hbm, ⟨4, _⟩ => ⟨S1x4x704x1024, .f32⟩
  | .hbm, ⟨5, _⟩ => ⟨S4096x4x704, .bf16⟩
  | .hbm, ⟨6, _⟩ => ⟨S4096x2816, .bf16⟩
  | .hbm, ⟨7, _⟩ => ⟨S4096x2816, .f32⟩
  | .hbm, ⟨8, _⟩ => ⟨S4x704x1024, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1024x2816, .f32⟩
  | .hbm, ⟨18, _⟩ => ⟨S2816x1024, .f32⟩
  | .hbm, ⟨19, _⟩ => ⟨S4x704x1024, .f32⟩
  | .hbm, ⟨20, _⟩ => ⟨S1x4x704x1024, .f32⟩
  | .hbm, ⟨21, _⟩ => ⟨S1x4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== UpAct.lean ====
abbrev S4096x1024 : Shape := ⟨2, ![4096, 1024]⟩
abbrev S4x3x1024x704 : Shape := ⟨4, ![4, 3, 1024, 704]⟩
abbrev S4x4096x704 : Shape := ⟨3, ![4, 4096, 704]⟩
abbrev S1024x1024 : Shape := ⟨2, ![1024, 1024]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x3x1024x704, .bf16⟩
  | .hbm, ⟨2, _⟩ => ⟨S4x3x1024x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpActRefIdeal.lean ====
abbrev S4096x1024 : Shape := ⟨2, ![4096, 1024]⟩
abbrev S4x3x1024x704 : Shape := ⟨4, ![4, 3, 1024, 704]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3x1024x704, .bf16⟩
  | .hbm, ⟨2, _⟩ => ⟨S4x3x1024x704, .bf16⟩
  | .hbm, ⟨3, _⟩ => ⟨S4096x1024, .f32⟩
  | .hbm, ⟨4, _⟩ => ⟨S4x1x1024x704, .bf16⟩
  | .hbm, ⟨5, _⟩ => ⟨S4x1024x704, .bf16⟩
  | .hbm, ⟨6, _⟩ => ⟨S1024x4x704, .bf16⟩
  | .hbm, ⟨7, _⟩ => ⟨S1024x2816, .bf16⟩
  | .hbm, ⟨8, _⟩ => ⟨S1024x2816, .f32⟩
  | .hbm, ⟨9, _⟩ => ⟨S4096x2816, .f32⟩
  | .hbm, ⟨10, _⟩ => ⟨S4x1x1024x704, .bf16⟩
  | .hbm, ⟨11, _⟩ => ⟨S4x1024x704, .bf16⟩
  | .hbm, ⟨12, _⟩ => ⟨S1024x4x704, .bf16⟩
  | .hbm, ⟨13, _⟩ => ⟨S1024x2816, .bf16⟩
  | .hbm, ⟨14, _⟩ => ⟨S1024x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x4x704, .f32⟩
  | .hbm, ⟨30, _⟩ => ⟨S4x4096x704, .f32⟩
  | .hbm, ⟨31, _⟩ => ⟨S4x4096x704, .bf16⟩
  | .hbm, ⟨32, _⟩ => ⟨S4096x4x704, .f32⟩
  | .hbm, ⟨33, _⟩ => ⟨S4x4096x704, .f32⟩
  | .hbm, ⟨34, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Down.lean ====
abbrev S4x4096x704 : Shape := ⟨3, ![4, 4096, 704]⟩
abbrev S4x3x704x1024 : Shape := ⟨4, ![4, 3, 704, 1024]⟩
abbrev S4096x1024 : Shape := ⟨2, ![4096, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x704, .bf16⟩
  | .hbm, ⟨1, _⟩ => ⟨S4x3x704x1024, .bf16⟩
  | .hbm, ⟨2, _⟩ => ⟨S4096x1024, .f32⟩
  | .hbm, ⟨3, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg2.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DownRefIdeal.lean ====
abbrev S4x4096x704 : Shape := ⟨3, ![4, 4096, 704]⟩
abbrev S4x3x704x1024 : Shape := ⟨4, ![4, 3, 704, 1024]⟩
abbrev S4096x1024 : Shape := ⟨2, ![4096, 1024]⟩
abbrev S4096x4x704 : Shape := ⟨3, ![4096, 4, 704]⟩
abbrev S4096x2816 : Shape := ⟨2, ![4096, 2816]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x3x704x1024, .bf16⟩
  | .hbm, ⟨2, _⟩ => ⟨S4096x1024, .f32⟩
  | .hbm, ⟨3, _⟩ => ⟨S4096x4x704, .bf16⟩
  | .hbm, ⟨4, _⟩ => ⟨S4096x2816, .bf16⟩
  | .hbm, ⟨5, _⟩ => ⟨S4096x2816, .f32⟩
  | .hbm, ⟨6, _⟩ => ⟨S4x1x704x1024, .bf16⟩
  | .hbm, ⟨7, _⟩ => ⟨S4x704x1024, .bf16⟩
  | .hbm, ⟨8, _⟩ => ⟨S2816x1024, .bf16⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DownDxAct.lean ====
abbrev S4096x1024 : Shape := ⟨2, ![4096, 1024]⟩
abbrev S4x3x704x1024 : Shape := ⟨4, ![4, 3, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4x3x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownDxActRefIdeal.lean ====
abbrev S4096x1024 : Shape := ⟨2, ![4096, 1024]⟩
abbrev S4x3x704x1024 : Shape := ⟨4, ![4, 3, 704, 1024]⟩
abbrev S4x4096x704 : Shape := ⟨3, ![4, 4096, 704]⟩
abbrev S4096x4x704 : Shape := ⟨3, ![4096, 4, 704]⟩
abbrev S4096x2816 : Shape := ⟨2, ![4096, 2816]⟩
abbrev S_ : Shape := ⟨0, ![]⟩
abbrev S4x1x704x1024 : Shape := ⟨4, ![4, 1, 704, 1024]⟩
abbrev S4x704x1024 : Shape := ⟨3, ![4, 704, 1024]⟩
abbrev S2816x1024 : Shape := ⟨2, ![2816, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x3x704x1024, .bf16⟩
  | .hbm, ⟨2, _⟩ => ⟨S4x4096x704, .bf16⟩
  | .hbm, ⟨3, _⟩ => ⟨S4x4096x704, .bf16⟩
  | .hbm, ⟨4, _⟩ => ⟨S4096x4x704, .bf16⟩
  | .hbm, ⟨5, _⟩ => ⟨S4096x2816, .bf16⟩
  | .hbm, ⟨6, _⟩ => ⟨S4096x2816, .f32⟩
  | .hbm, ⟨7, _⟩ => ⟨S4096x4x704, .bf16⟩
  | .hbm, ⟨8, _⟩ => ⟨S4096x2816, .bf16⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4x1x704x1024, .bf16⟩
  | .hbm, ⟨25, _⟩ => ⟨S4x704x1024, .bf16⟩
  | .hbm, ⟨26, _⟩ => ⟨S2816x1024, .bf16⟩
  | .hbm, ⟨27, _⟩ => ⟨S2816x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x4x704, .f32⟩
  | .hbm, ⟨43, _⟩ => ⟨S4x4096x704, .f32⟩
  | .hbm, ⟨44, _⟩ => ⟨S4x4096x704, .bf16⟩
  | .hbm, ⟨45, _⟩ => ⟨S4096x4x704, .f32⟩
  | .hbm, ⟨46, _⟩ => ⟨S4x4096x704, .f32⟩
  | .hbm, ⟨47, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== GateDx.lean ====
abbrev S4x4096x704 : Shape := ⟨3, ![4, 4096, 704]⟩
abbrev S4x3x1024x704 : Shape := ⟨4, ![4, 3, 1024, 704]⟩
abbrev S4096x1024 : Shape := ⟨2, ![4096, 1024]⟩
abbrev S1x1024x704 : Shape := ⟨3, ![1, 1024, 704]⟩
abbrev S1x1x1024x704 : Shape := ⟨4, ![1, 1, 1024, 704]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4x3x1024x704, .bf16⟩
  | .hbm, ⟨2, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg2.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GateDxRefIdeal.lean ====
abbrev S4x4096x704 : Shape := ⟨3, ![4, 4096, 704]⟩
abbrev S4x3x1024x704 : Shape := ⟨4, ![4, 3, 1024, 704]⟩
abbrev S_ : Shape := ⟨0, ![]⟩
abbrev S4096x1024 : Shape := ⟨2, ![4096, 1024]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x3x1024x704, .bf16⟩
  | .hbm, ⟨2, _⟩ => ⟨S_, .f32⟩
  | .hbm, ⟨3, _⟩ => ⟨S4096x1024, .f32⟩
  | .hbm, ⟨4, _⟩ => ⟨S4x1x1024x704, .bf16⟩
  | .hbm, ⟨5, _⟩ => ⟨S4x1024x704, .bf16⟩
  | .hbm, ⟨6, _⟩ => ⟨S1024x4x704, .bf16⟩
  | .hbm, ⟨7, _⟩ => ⟨S1024x2816, .bf16⟩
  | .hbm, ⟨8, _⟩ => ⟨S1024x2816, .f32⟩
  | .hbm, ⟨9, _⟩ => ⟨S4096x2816, .f32⟩
  | .hbm, ⟨10, _⟩ => ⟨S4096x4x704, .bf16⟩
  | .hbm, ⟨11, _⟩ => ⟨S4096x2816, .bf16⟩
  | .hbm, ⟨12, _⟩ => ⟨S4096x2816, .f32⟩
  | .hbm, ⟨13, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== UpDx.lean ====
abbrev S4x4096x704 : Shape := ⟨3, ![4, 4096, 704]⟩
abbrev S4x3x1024x704 : Shape := ⟨4, ![4, 3, 1024, 704]⟩
abbrev S4096x1024 : Shape := ⟨2, ![4096, 1024]⟩
abbrev S1x1024x704 : Shape := ⟨3, ![1, 1024, 704]⟩
abbrev S1x1x1024x704 : Shape := ⟨4, ![1, 1, 1024, 704]⟩
abbrev S1024x1024 : Shape := ⟨2, ![1024, 1024]⟩
abbrev S1024x704 : Shape := ⟨2, ![1024, 704]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x704, .bf16⟩
  | .hbm, ⟨1, _⟩ => ⟨S4x3x1024x704, .bf16⟩
  | .hbm, ⟨2, _⟩ => ⟨S4096x1024, .f32⟩
  | .hbm, ⟨3, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg2.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== UpDxRefIdeal.lean ====
abbrev S4x4096x704 : Shape := ⟨3, ![4, 4096, 704]⟩
abbrev S4x3x1024x704 : Shape := ⟨4, ![4, 3, 1024, 704]⟩
abbrev S4096x1024 : Shape := ⟨2, ![4096, 1024]⟩
abbrev S_ : Shape := ⟨0, ![]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x3x1024x704, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4x1x1024x704, .bf16⟩
  | .hbm, ⟨6, _⟩ => ⟨S4x1024x704, .bf16⟩
  | .hbm, ⟨7, _⟩ => ⟨S1024x4x704, .bf16⟩
  | .hbm, ⟨8, _⟩ => ⟨S1024x2816, .bf16⟩
  | .hbm, ⟨9, _⟩ => ⟨S1024x2816, .f32⟩
  | .hbm, ⟨10, _⟩ => ⟨S4096x2816, .f32⟩
  | .hbm, ⟨11, _⟩ => ⟨S4096x4x704, .bf16⟩
  | .hbm, ⟨12, _⟩ => ⟨S4096x2816, .bf16⟩
  | .hbm, ⟨13, _⟩ => ⟨S4096x2816, .f32⟩
  | .hbm, ⟨14, _⟩ => ⟨S4096x1024, .f32⟩
  | .hbm, ⟨15, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Merge.lean ====
abbrev S4096x1024 : Shape := ⟨2, ![4096, 1024]⟩
abbrev S4096x12288 : Shape := ⟨2, ![4096, 12288]⟩
abbrev S1x2048 : Shape := ⟨2, ![1, 2048]⟩
abbrev S512x512 : Shape := ⟨2, ![512, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12288, .f32⟩
  | .hbm, ⟨3, _⟩ => ⟨S1x2048, .f32⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4096x1024 : Shape := ⟨2, ![4096, 1024]⟩
abbrev S4096x12288 : Shape := ⟨2, ![4096, 12288]⟩
abbrev S1x2048 : Shape := ⟨2, ![1, 2048]⟩
abbrev S1x1024 : Shape := ⟨2, ![1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12288, .f32⟩
  | .hbm, ⟨3, _⟩ => ⟨S1x2048, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MergeBwd.lean ====
abbrev S4096x1024 : Shape := ⟨2, ![4096, 1024]⟩
abbrev S4096x12288 : Shape := ⟨2, ![4096, 12288]⟩
abbrev S1x2048 : Shape := ⟨2, ![1, 2048]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12288, .f32⟩
  | .hbm, ⟨3, _⟩ => ⟨S1x2048, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v65 : BitVec 1 := Scalar.cmpi .eq arg1 c0_i32
  let v66 : BitVec 32 := Scalar.extui v65
  let c0_i32_36 : BitVec 32 := 0#32
  let v67 : BitVec 1 := Scalar.cmpi .ne v66 c0_i32_36
  v67

def k0_cond2 (i : grid0.Coords) : BitVec 1 :=
  let arg1 : BitVec 32 := BitVec.ofNat 32 (i 1).val
  let c0_i32 : BitVec 32 := 0#32
  let v65 : BitVec 1 := Scalar.cmpi .eq arg1 c0_i32
  let v_true : BitVec 1 := 1#1
  let v68 : BitVec 1 := Scalar.xori v65 v_true
  let v69 : BitVec 32 := Scalar.extui v68
  let c0_i32_37 : BitVec 32 := 0#32
  let v70 : BitVec 1 := Scalar.cmpi .ne v69 c0_i32_37
  v70

def k0_cond3 (i : grid0.Coords) : BitVec 1 :=
  let arg1 : BitVec 32 := BitVec.ofNat 32 (i 1).val
  let c0_i32_38 : BitVec 32 := 0#32
  let v71 : BitVec 1 := Scalar.cmpi .eq arg1 c0_i32_38
  let v72 : BitVec 32 := Scalar.extui v71
  let c0_i32_39 : BitVec 32 := 0#32
  let v73 : BitVec 1 := Scalar.cmpi .ne v72 c0_i32_39
  v73

def k0_cond4 (i : grid0.Coords) : BitVec 1 :=
  let arg1 : BitVec 32 := BitVec.ofNat 32 (i 1).val
  let c0_i32_38 : BitVec 32 := 0#32
  let v71 : BitVec 1 := Scalar.cmpi .eq arg1 c0_i32_38
  let true_40 : BitVec 1 := 1#1
  let v74 : BitVec 1 := Scalar.xori v71 true_40
  let v75 : BitVec 32 := Scalar.extui v74
  let c0_i32_41 : BitVec 32 := 0#32
  let v76 : BitVec 1 := Scalar.cmpi .ne v75 c0_i32_41
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MergeBwdRefIdeal.lean ====
abbrev S4096x1024 : Shape := ⟨2, ![4096, 1024]⟩
abbrev S4096x12288 : Shape := ⟨2, ![4096, 12288]⟩
abbrev S1x2048 : Shape := ⟨2, ![1, 2048]⟩
abbrev S1x1024 : Shape := ⟨2, ![1, 1024]⟩
abbrev S_ : Shape := ⟨0, ![]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x12288, .f32⟩
  | .hbm, ⟨3, _⟩ => ⟨S1x2048, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== AttProj.lean ====
abbrev S4096x512 : Shape := ⟨2, ![4096, 512]⟩
abbrev S4x3x512x256 : Shape := ⟨4, ![4, 3, 512, 256]⟩
abbrev S4096x1024 : Shape := ⟨2, ![4096, 1024]⟩
abbrev S1024x512 : Shape := ⟨2, ![1024, 512]⟩
abbrev S1x1x512x256 : Shape := ⟨4, ![1, 1, 512, 256]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x3x512x256, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1024x256, .f32⟩
  | .local _ .vmem, ⟨5, _⟩ => ⟨S1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttProjRefIdeal.lean ====
abbrev S4096x512 : Shape := ⟨2, ![4096, 512]⟩
abbrev S4x3x512x256 : Shape := ⟨4, ![4, 3, 512, 256]⟩
abbrev S4x1x512x256 : Shape := ⟨4, ![4, 1, 512, 256]⟩
abbrev S4x512x256 : Shape := ⟨3, ![4, 512, 256]⟩
abbrev S512x4x256 : Shape := ⟨3, ![512, 4, 256]⟩
abbrev S512x1024 : Shape := ⟨2, ![512, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x3x512x256, .bf16⟩
  | .hbm, ⟨2, _⟩ => ⟨S4096x512, .f32⟩
  | .hbm, ⟨3, _⟩ => ⟨S4x1x512x256, .bf16⟩
  | .hbm, ⟨4, _⟩ => ⟨S4x512x256, .bf16⟩
  | .hbm, ⟨5, _⟩ => ⟨S512x4x256, .bf16⟩
  | .hbm, ⟨6, _⟩ => ⟨S512x1024, .bf16⟩
  | .hbm, ⟨7, _⟩ => ⟨S512x1024, .f32⟩
  | .hbm, ⟨8, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== SsmProj.lean ====
abbrev S4096x2048 : Shape := ⟨2, ![4096, 2048]⟩
abbrev S4x3x512x1024 : Shape := ⟨4, ![4, 3, 512, 1024]⟩
abbrev S4096x1024 : Shape := ⟨2, ![4096, 1024]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x3x512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg2.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== SsmProjRefIdeal.lean ====
abbrev S4096x2048 : Shape := ⟨2, ![4096, 2048]⟩
abbrev S4x3x512x1024 : Shape := ⟨4, ![4, 3, 512, 1024]⟩
abbrev S4x1x512x1024 : Shape := ⟨4, ![4, 1, 512, 1024]⟩
abbrev S4x512x1024 : Shape := ⟨3, ![4, 512, 1024]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x3x512x1024, .bf16⟩
  | .hbm, ⟨2, _⟩ => ⟨S4096x2048, .f32⟩
  | .hbm, ⟨3, _⟩ => ⟨S4x1x512x1024, .bf16⟩
  | .hbm, ⟨4, _⟩ => ⟨S4x512x1024, .bf16⟩
  | .hbm, ⟨5, _⟩ => ⟨S2048x1024, .bf16⟩
  | .hbm, ⟨6, _⟩ => ⟨S2048x1024, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S4096x1024 : Shape := ⟨2, ![4096, 1024]⟩
abbrev S4x3x256x1024 : Shape := ⟨4, ![4, 3, 256, 1024]⟩
abbrev S1024x256 : Shape := ⟨2, ![1024, 256]⟩
abbrev S1x1x256x1024 : Shape := ⟨4, ![1, 1, 256, 1024]⟩
abbrev S1024x1024 : Shape := ⟨2, ![1024, 1024]⟩
abbrev S256x1024 : Shape := ⟨2, ![256, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4x3x256x1024, .bf16⟩
  | .hbm, ⟨2, _⟩ => ⟨S4096x1024, .f32⟩
  | .hbm, ⟨3, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg2.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== OutRefIdeal.lean ====
abbrev S4096x1024 : Shape := ⟨2, ![4096, 1024]⟩
abbrev S4x3x256x1024 : Shape := ⟨4, ![4, 3, 256, 1024]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3x256x1024, .bf16⟩
  | .hbm, ⟨2, _⟩ => ⟨S4096x1024, .f32⟩
  | .hbm, ⟨3, _⟩ => ⟨S4096x1024, .f32⟩
  | .hbm, ⟨4, _⟩ => ⟨S4x1x256x1024, .bf16⟩
  | .hbm, ⟨5, _⟩ => ⟨S4x256x1024, .bf16⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x1024 : Shape := ⟨2, ![4096, 1024]⟩
abbrev S4x3x256x1024 : Shape := ⟨4, ![4, 3, 256, 1024]⟩
abbrev S1024x1024 : Shape := ⟨2, ![1024, 1024]⟩
abbrev S1x1x256x1024 : Shape := ⟨4, ![1, 1, 256, 1024]⟩
abbrev S1024x256 : Shape := ⟨2, ![1024, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x3x256x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x256x1024, .bf16⟩
  | .local _ .vmem, ⟨3, _⟩ => ⟨S1x1x256x1024, .bf16⟩
  | .local _ .vmem, ⟨4, _⟩ => ⟨S1024x256, .f32⟩
  | .local _ .vmem, ⟨5, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S4x3x256x1024 : Shape := ⟨4, ![4, 3, 256, 1024]⟩
abbrev S_ : Shape := ⟨0, ![]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x3x256x1024, .bf16⟩
  | .hbm, ⟨2, _⟩ => ⟨S_, .f32⟩
  | .hbm, ⟨3, _⟩ => ⟨S4096x1024, .f32⟩
  | .hbm, ⟨4, _⟩ => ⟨S4x1x256x1024, .bf16⟩
  | .hbm, ⟨5, _⟩ => ⟨S4x256x1024, .bf16⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmProjDx.lean ====
abbrev S4096x1024 : Shape := ⟨2, ![4096, 1024]⟩
abbrev S4x3x512x1024 : Shape := ⟨4, ![4, 3, 512, 1024]⟩
abbrev S4096x2048 : Shape := ⟨2, ![4096, 2048]⟩
abbrev S1024x1024 : Shape := ⟨2, ![1024, 1024]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x3x512x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmProjDxRefIdeal.lean ====
abbrev S4096x1024 : Shape := ⟨2, ![4096, 1024]⟩
abbrev S4x3x512x1024 : Shape := ⟨4, ![4, 3, 512, 1024]⟩
abbrev S_ : Shape := ⟨0, ![]⟩
abbrev S4096x2048 : Shape := ⟨2, ![4096, 2048]⟩
abbrev S4x1x512x1024 : Shape := ⟨4, ![4, 1, 512, 1024]⟩
abbrev S4x512x1024 : Shape := ⟨3, ![4, 512, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3x512x1024, .bf16⟩
  | .hbm, ⟨2, _⟩ => ⟨S_, .f32⟩
  | .hbm, ⟨3, _⟩ => ⟨S4096x2048, .f32⟩
  | .hbm, ⟨4, _⟩ => ⟨S4x1x512x1024, .bf16⟩
  | .hbm, ⟨5, _⟩ => ⟨S4x512x1024, .bf16⟩
  | .hbm, ⟨6, _⟩ => ⟨S2048x1024, .bf16⟩
  | .hbm, ⟨7, _⟩ => ⟨S2048x1024, .f32⟩
  | .hbm, ⟨8, _⟩ => ⟨S4096x1024, .f32⟩
  | .hbm, ⟨9, _⟩ => ⟨S4096x1024, .f32⟩
  | .hbm, ⟨10, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttProjDx.lean ====
abbrev S4096x1024 : Shape := ⟨2, ![4096, 1024]⟩
abbrev S4x3x512x256 : Shape := ⟨4, ![4, 3, 512, 256]⟩
abbrev S4096x512 : Shape := ⟨2, ![4096, 512]⟩
abbrev S1024x256 : Shape := ⟨2, ![1024, 256]⟩
abbrev S1x1x512x256 : Shape := ⟨4, ![1, 1, 512, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x3x512x256, .bf16⟩
  | .hbm, ⟨2, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg2.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== AttProjDxRefIdeal.lean ====
abbrev S4096x1024 : Shape := ⟨2, ![4096, 1024]⟩
abbrev S4x3x512x256 : Shape := ⟨4, ![4, 3, 512, 256]⟩
abbrev S_ : Shape := ⟨0, ![]⟩
abbrev S4096x512 : Shape := ⟨2, ![4096, 512]⟩
abbrev S4x1x512x256 : Shape := ⟨4, ![4, 1, 512, 256]⟩
abbrev S4x512x256 : Shape := ⟨3, ![4, 512, 256]⟩
abbrev S512x4x256 : Shape := ⟨3, ![512, 4, 256]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x3x512x256, .bf16⟩
  | .hbm, ⟨2, _⟩ => ⟨S_, .f32⟩
  | .hbm, ⟨3, _⟩ => ⟨S4096x512, .f32⟩
  | .hbm, ⟨4, _⟩ => ⟨S4x1x512x256, .bf16⟩
  | .hbm, ⟨5, _⟩ => ⟨S4x512x256, .bf16⟩
  | .hbm, ⟨6, _⟩ => ⟨S512x4x256, .bf16⟩
  | .hbm, ⟨7, _⟩ => ⟨S512x1024, .bf16⟩
  | .hbm, ⟨8, _⟩ => ⟨S512x1024, .f32⟩
  | .hbm, ⟨9, _⟩ => ⟨S4096x1024, .f32⟩
  | .hbm, ⟨10, _⟩ => ⟨S4096x1024, .f32⟩
  | .hbm, ⟨11, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDw.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x1024, .bf16⟩
  | .hbm, ⟨3, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== OutDwRefIdeal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x1024, .bf16⟩
  | .hbm, ⟨3, _⟩ => ⟨S_, .f32⟩
  | .hbm, ⟨4, _⟩ => ⟨S1x1024x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== SsmProjDw.lean ====
abbrev S4096x2048 : Shape := ⟨2, ![4096, 2048]⟩
abbrev S4096x1024 : Shape := ⟨2, ![4096, 1024]⟩
abbrev S1x2048x1024 : Shape := ⟨3, ![1, 2048, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1x2048x1024, .bf16⟩
  | .hbm, ⟨3, _⟩ => ⟨S1x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== SsmProjDwRefIdeal.lean ====
abbrev S4096x2048 : Shape := ⟨2, ![4096, 2048]⟩
abbrev S4096x1024 : Shape := ⟨2, ![4096, 1024]⟩
abbrev S1x2048x1024 : Shape := ⟨3, ![1, 2048, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1x2048x1024, .bf16⟩
  | .hbm, ⟨3, _⟩ => ⟨S_, .f32⟩
  | .hbm, ⟨4, _⟩ => ⟨S1x2048x1024, .f32⟩
  | .hbm, ⟨5, _⟩ => ⟨S4096x2048, .f32⟩
  | .hbm, ⟨6, _⟩ => ⟨S2048x1024, .f32⟩
  | .hbm, ⟨7, _⟩ => ⟨S4096x1024, .f32⟩
  | .hbm, ⟨8, _⟩ => ⟨S4096x1024, .f32⟩
  | .hbm, ⟨9, _⟩ => ⟨S1024x2048, .f32⟩
  | .hbm, ⟨10, _⟩ => ⟨S2048x1024, .f32⟩
  | .hbm, ⟨11, _⟩ => ⟨S1x2048x1024, .f32⟩
  | .hbm, ⟨12, _⟩ => ⟨S1x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AttProjDw.lean ====
abbrev S4096x512 : Shape := ⟨2, ![4096, 512]⟩
abbrev S4096x1024 : Shape := ⟨2, ![4096, 1024]⟩
abbrev S1x4x512x256 : Shape := ⟨4, ![1, 4, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S1x4x512x256, .bf16⟩
  | .hbm, ⟨3, _⟩ => ⟨S1x4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== AttProjDwRefIdeal.lean ====
abbrev S4096x512 : Shape := ⟨2, ![4096, 512]⟩
abbrev S4096x1024 : Shape := ⟨2, ![4096, 1024]⟩
abbrev S1x4x512x256 : Shape := ⟨4, ![1, 4, 512, 256]⟩
abbrev S_ : Shape := ⟨0, ![]⟩
abbrev S4x512x256 : Shape := ⟨3, ![4, 512, 256]⟩
abbrev S512x4x256 : Shape := ⟨3, ![512, 4, 256]⟩
abbrev S512x1024 : Shape := ⟨2, ![512, 1024]⟩
abbrev S1024x512 : Shape := ⟨2, ![1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S1x4x512x256, .bf16⟩
  | .hbm, ⟨3, _⟩ => ⟨S_, .f32⟩
  | .hbm, ⟨4, _⟩ => ⟨S1x4x512x256, .f32⟩
  | .hbm, ⟨5, _⟩ => ⟨S4096x512, .f32⟩
  | .hbm, ⟨6, _⟩ => ⟨S4x512x256, .f32⟩
  | .hbm, ⟨7, _⟩ => ⟨S512x4x256, .f32⟩
  | .hbm, ⟨8, _⟩ => ⟨S512x1024, .f32⟩
  | .hbm, ⟨9, _⟩ => ⟨S4096x1024, .f32⟩
  | .hbm, ⟨10, _⟩ => ⟨S4096x1024, .f32⟩
  | .hbm, ⟨11, _⟩ => ⟨S1024x512, .f32⟩
  | .hbm, ⟨12, _⟩ => ⟨S512x1024, .f32⟩
  | .hbm, ⟨13, _⟩ => ⟨S512x4x256, .f32⟩
  | .hbm, ⟨14, _⟩ => ⟨S4x512x256, .f32⟩
  | .hbm, ⟨15, _⟩ => ⟨S1x4x512x256, .f32⟩
  | .hbm, ⟨16, _⟩ => ⟨S1x4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AdamwCol.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwColIdeal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwColRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRow.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRowIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRowRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwIn.lean ====
abbrev S4096x2952 : Shape := ⟨2, ![4096, 2952]⟩
abbrev S128x2952 : Shape := ⟨2, ![128, 2952]⟩

abbrev nBuf : Space → Nat
  | .hbm => 7
  | .vmem => 14
  | .smem => 0
  | _ => 0

abbrev bufTy : (tb : Table) → Fin (tcTables nBuf tb) → BufTy
  | .hbm, ⟨0, _⟩ => ⟨S4096x2952, .f32⟩
  | .hbm, ⟨1, _⟩ => ⟨S4096x2952, .f32⟩
  | .hbm, ⟨2, _⟩ => ⟨S4096x2952, .f32⟩
  | .hbm, ⟨3, _⟩ => ⟨S4096x2952, .f32⟩
  | .hbm, ⟨4, _⟩ => ⟨S4096x2952, .f32⟩
  | .hbm, ⟨5, _⟩ => ⟨S4096x2952, .f32⟩
  | .hbm, ⟨6, _⟩ => ⟨S4096x2952, .f32⟩
  | .local _ .vmem, ⟨0, _⟩ => ⟨S128x2952, .f32⟩
  | .local _ .vmem, ⟨1, _⟩ => ⟨S128x2952, .f32⟩
  | .local _ .vmem, ⟨2, _⟩ => ⟨S128x2952, .f32⟩
  | .local _ .vmem, ⟨3, _⟩ => ⟨S128x2952, .f32⟩
  | .local _ .vmem, ⟨4, _⟩ => ⟨S128x2952, .f32⟩
  | .local _ .vmem, ⟨5, _⟩ => ⟨S128x2952, .f32⟩
  | .local _ .vmem, ⟨6, _⟩ => ⟨S128x2952, .f32⟩
  | .local _ .vmem, ⟨7, _⟩ => ⟨S128x2952, .f32⟩
  | .local _ .vmem, ⟨8, _⟩ => ⟨S128x2952, .f32⟩
  | .local _ .vmem, ⟨9, _⟩ => ⟨S128x2952, .f32⟩
  | .local _ .vmem, ⟨10, _⟩ => ⟨S128x2952, .f32⟩
  | .local _ .vmem, ⟨11, _⟩ => ⟨S128x2952, .f32⟩
  | .local _ .vmem, ⟨12, _⟩ => ⟨S128x2952, .f32⟩
  | .local _ .vmem, ⟨13, _⟩ => ⟨S128x2952, .f32⟩
  | _, _ => ⟨S4096x2952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2952 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2952 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2952 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2952 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2952 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2952 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2952 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S4096x2952 : Shape := ⟨2, ![4096, 2952]⟩
abbrev S128x2952 : Shape := ⟨2, ![128, 2952]⟩

abbrev nBuf : Space → Nat
  | .hbm => 7
  | .vmem => 14
  | .smem => 0
  | _ => 0

abbrev bufTy : (tb : Table) → Fin (tcTables nBuf tb) → BufTy
  | .hbm, ⟨0, _⟩ => ⟨S4096x2952, .f32⟩
  | .hbm, ⟨1, _⟩ => ⟨S4096x2952, .f32⟩
  | .hbm, ⟨2, _⟩ => ⟨S4096x2952, .f32⟩
  | .hbm, ⟨3, _⟩ => ⟨S4096x2952, .f32⟩
  | .hbm, ⟨4, _⟩ => ⟨S4096x2952, .f32⟩
  | .hbm, ⟨5, _⟩ => ⟨S4096x2952, .f32⟩
  | .hbm, ⟨6, _⟩ => ⟨S4096x2952, .f32⟩
  | .local _ .vmem, ⟨0, _⟩ => ⟨S128x2952, .f32⟩
  | .local _ .vmem, ⟨1, _⟩ => ⟨S128x2952, .f32⟩
  | .local _ .vmem, ⟨2, _⟩ => ⟨S128x2952, .f32⟩
  | .local _ .vmem, ⟨3, _⟩ => ⟨S128x2952, .f32⟩
  | .local _ .vmem, ⟨4, _⟩ => ⟨S128x2952, .f32⟩
  | .local _ .vmem, ⟨5, _⟩ => ⟨S128x2952, .f32⟩
  | .local _ .vmem, ⟨6, _⟩ => ⟨S128x2952, .f32⟩
  | .local _ .vmem, ⟨7, _⟩ => ⟨S128x2952, .f32⟩
  | .local _ .vmem, ⟨8, _⟩ => ⟨S128x2952, .f32⟩
  | .local _ .vmem, ⟨9, _⟩ => ⟨S128x2952, .f32⟩
  | .local _ .vmem, ⟨10, _⟩ => ⟨S128x2952, .f32⟩
  | .local _ .vmem, ⟨11, _⟩ => ⟨S128x2952, .f32⟩
  | .local _ .vmem, ⟨12, _⟩ => ⟨S128x2952, .f32⟩
  | .local _ .vmem, ⟨13, _⟩ => ⟨S128x2952, .f32⟩
  | _, _ => ⟨S4096x2952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2952 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2952 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2952 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2952 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2952 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2952 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2952 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S4096x2952 : Shape := ⟨2, ![4096, 2952]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2952, .f32⟩
  | .hbm, ⟨1, _⟩ => ⟨S4096x2952, .f32⟩
  | .hbm, ⟨2, _⟩ => ⟨S4096x2952, .f32⟩
  | .hbm, ⟨3, _⟩ => ⟨S4096x2952, .f32⟩
  | .hbm, ⟨4, _⟩ => ⟨S_, .f32⟩
  | .hbm, ⟨5, _⟩ => ⟨S4096x2952, .f32⟩
  | .hbm, ⟨6, _⟩ => ⟨S4096x2952, .f32⟩
  | .hbm, ⟨7, _⟩ => ⟨S_, .f32⟩
  | .hbm, ⟨8, _⟩ => ⟨S4096x2952, .f32⟩
  | .hbm, ⟨9, _⟩ => ⟨S4096x2952, .f32⟩
  | .hbm, ⟨10, _⟩ => ⟨S4096x2952, .f32⟩
  | .hbm, ⟨11, _⟩ => ⟨S_, .f32⟩
  | .hbm, ⟨12, _⟩ => ⟨S4096x2952, .f32⟩
  | .hbm, ⟨13, _⟩ => ⟨S4096x2952, .f32⟩
  | .hbm, ⟨14, _⟩ => ⟨S4096x2952, .f32⟩
  | .hbm, ⟨15, _⟩ => ⟨S_, .f32⟩
  | .hbm, ⟨16, _⟩ => ⟨S4096x2952, .f32⟩
  | .hbm, ⟨17, _⟩ => ⟨S4096x2952, .f32⟩
  | .hbm, ⟨18, _⟩ => ⟨S4096x2952, .f32⟩
  | .hbm, ⟨19, _⟩ => ⟨S_, .f32⟩
  | .hbm, ⟨20, _⟩ => ⟨S4096x2952, .f32⟩
  | .hbm, ⟨21, _⟩ => ⟨S4096x2952, .f32⟩
  | .hbm, ⟨22, _⟩ => ⟨S_, .f32⟩
  | .hbm, ⟨23, _⟩ => ⟨S4096x2952, .f32⟩
  | .hbm, ⟨24, _⟩ => ⟨S4096x2952, .f32⟩
  | .hbm, ⟨25, _⟩ => ⟨S4096x2952, .f32⟩
  | .hbm, ⟨26, _⟩ => ⟨S_, .f32⟩
  | .hbm, ⟨27, _⟩ => ⟨S4096x2952, .f32⟩
  | .hbm, ⟨28, _⟩ => ⟨S4096x2952, .f32⟩
  | .hbm, ⟨29, _⟩ => ⟨S4096x2952, .f32⟩
  | .hbm, ⟨30, _⟩ => ⟨S_, .f32⟩
  | .hbm, ⟨31, _⟩ => ⟨S4096x2952, .f32⟩
  | .hbm, ⟨32, _⟩ => ⟨S4096x2952, .f32⟩
  | .hbm, ⟨33, _⟩ => ⟨S4096x2952, .f32⟩
  | .hbm, ⟨34, _⟩ => ⟨S_, .f32⟩
  | .hbm, ⟨35, _⟩ => ⟨S4096x2952, .f32⟩
  | .hbm, ⟨36, _⟩ => ⟨S4096x2952, .f32⟩
  | _, _ => ⟨S4096x2952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConv.lean ====
abbrev S16x768 : Shape := ⟨2, ![16, 768]⟩

abbrev nBuf : Space → Nat
  | .hbm => 7
  | .vmem => 7
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S16x768, .f32⟩
  | .hbm, ⟨5, _⟩ => ⟨S16x768, .f32⟩
  | .hbm, ⟨6, _⟩ => ⟨S16x768, .f32⟩
  | .local _ .vmem, ⟨0, _⟩ => ⟨S16x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x768, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvIdeal.lean ====
abbrev S16x768 : Shape := ⟨2, ![16, 768]⟩

abbrev nBuf : Space → Nat
  | .hbm => 7
  | .vmem => 7
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S16x768, .f32⟩
  | .hbm, ⟨5, _⟩ => ⟨S16x768, .f32⟩
  | .hbm, ⟨6, _⟩ => ⟨S16x768, .f32⟩
  | .local _ .vmem, ⟨0, _⟩ => ⟨S16x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x768, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvRefIdeal.lean ====
abbrev S16x768 : Shape := ⟨2, ![16, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S_, .f32⟩
  | .hbm, ⟨5, _⟩ => ⟨S16x768, .f32⟩
  | .hbm, ⟨6, _⟩ => ⟨S16x768, .f32⟩
  | .hbm, ⟨7, _⟩ => ⟨S_, .f32⟩
  | .hbm, ⟨8, _⟩ => ⟨S16x768, .f32⟩
  | .hbm, ⟨9, _⟩ => ⟨S16x768, .f32⟩
  | .hbm, ⟨10, _⟩ => ⟨S16x768, .f32⟩
  | .hbm, ⟨11, _⟩ => ⟨S_, .f32⟩
  | .hbm, ⟨12, _⟩ => ⟨S16x768, .f32⟩
  | .hbm, ⟨13, _⟩ => ⟨S16x768, .f32⟩
  | .hbm, ⟨14, _⟩ => ⟨S16x768, .f32⟩
  | .hbm, ⟨15, _⟩ => ⟨S_, .f32⟩
  | .hbm, ⟨16, _⟩ => ⟨S16x768, .f32⟩
  | .hbm, ⟨17, _⟩ => ⟨S16x768, .f32⟩
  | .hbm, ⟨18, _⟩ => ⟨S16x768, .f32⟩
  | .hbm, ⟨19, _⟩ => ⟨S_, .f32⟩
  | .hbm, ⟨20, _⟩ => ⟨S16x768, .f32⟩
  | .hbm, ⟨21, _⟩ => ⟨S16x768, .f32⟩
  | .hbm, ⟨22, _⟩ => ⟨S_, .f32⟩
  | .hbm, ⟨23, _⟩ => ⟨S16x768, .f32⟩
  | .hbm, ⟨24, _⟩ => ⟨S16x768, .f32⟩
  | .hbm, ⟨25, _⟩ => ⟨S16x768, .f32⟩
  | .hbm, ⟨26, _⟩ => ⟨S_, .f32⟩
  | .hbm, ⟨27, _⟩ => ⟨S16x768, .f32⟩
  | .hbm, ⟨28, _⟩ => ⟨S16x768, .f32⟩
  | .hbm, ⟨29, _⟩ => ⟨S16x768, .f32⟩
  | .hbm, ⟨30, _⟩ => ⟨S_, .f32⟩
  | .hbm, ⟨31, _⟩ => ⟨S16x768, .f32⟩
  | .hbm, ⟨32, _⟩ => ⟨S16x768, .f32⟩
  | .hbm, ⟨33, _⟩ => ⟨S16x768, .f32⟩
  | .hbm, ⟨34, _⟩ => ⟨S_, .f32⟩
  | .hbm, ⟨35, _⟩ => ⟨S16x768, .f32⟩
  | .hbm, ⟨36, _⟩ => ⟨S16x768, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAtt.lean ====
abbrev S2048x256 : Shape := ⟨2, ![2048, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAttIdeal.lean ====
abbrev S2048x256 : Shape := ⟨2, ![2048, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAttRefIdeal.lean ====
abbrev S2048x256 : Shape := ⟨2, ![2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSsm.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSsmIdeal.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSsmRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutIdeal.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S328x128 : Shape := ⟨2, ![328, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S328x128, .f32⟩
  | .hbm, ⟨1, _⟩ => ⟨S328x128, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S328x128, .f32⟩
  | .hbm, ⟨6, _⟩ => ⟨S328x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S328x128 : Shape := ⟨2, ![328, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S328x128, .f32⟩
  | .hbm, ⟨1, _⟩ => ⟨S328x128, .f32⟩
  | .hbm, ⟨2, _⟩ => ⟨S328x128, .f32⟩
  | .hbm, ⟨3, _⟩ => ⟨S328x128, .f32⟩
  | .hbm, ⟨4, _⟩ => ⟨S_, .f32⟩
  | .hbm, ⟨5, _⟩ => ⟨S328x128, .f32⟩
  | .hbm, ⟨6, _⟩ => ⟨S328x128, .f32⟩
  | .hbm, ⟨7, _⟩ => ⟨S_, .f32⟩
  | .hbm, ⟨8, _⟩ => ⟨S328x128, .f32⟩
  | .hbm, ⟨9, _⟩ => ⟨S328x128, .f32⟩
  | .hbm, ⟨10, _⟩ => ⟨S328x128, .f32⟩
  | .hbm, ⟨11, _⟩ => ⟨S_, .f32⟩
  | .hbm, ⟨12, _⟩ => ⟨S328x128, .f32⟩
  | .hbm, ⟨13, _⟩ => ⟨S328x128, .f32⟩
  | .hbm, ⟨14, _⟩ => ⟨S328x128, .f32⟩
  | .hbm, ⟨15, _⟩ => ⟨S_, .f32⟩
  | .hbm, ⟨16, _⟩ => ⟨S328x128, .f32⟩
  | .hbm, ⟨17, _⟩ => ⟨S328x128, .f32⟩
  | .hbm, ⟨18, _⟩ => ⟨S328x128, .f32⟩
  | .hbm, ⟨19, _⟩ => ⟨S_, .f32⟩
  | .hbm, ⟨20, _⟩ => ⟨S328x128, .f32⟩
  | .hbm, ⟨21, _⟩ => ⟨S328x128, .f32⟩
  | .hbm, ⟨22, _⟩ => ⟨S_, .f32⟩
  | .hbm, ⟨23, _⟩ => ⟨S328x128, .f32⟩
  | .hbm, ⟨24, _⟩ => ⟨S328x128, .f32⟩
  | .hbm, ⟨25, _⟩ => ⟨S328x128, .f32⟩
  | .hbm, ⟨26, _⟩ => ⟨S_, .f32⟩
  | .hbm, ⟨27, _⟩ => ⟨S328x128, .f32⟩
  | .hbm, ⟨28, _⟩ => ⟨S328x128, .f32⟩
  | .hbm, ⟨29, _⟩ => ⟨S328x128, .f32⟩
  | .hbm, ⟨30, _⟩ => ⟨S_, .f32⟩
  | .hbm, ⟨31, _⟩ => ⟨S328x128, .f32⟩
  | .hbm, ⟨32, _⟩ => ⟨S328x128, .f32⟩
  | .hbm, ⟨33, _⟩ => ⟨S328x128, .f32⟩
  | .hbm, ⟨34, _⟩ => ⟨S_, .f32⟩
  | .hbm, ⟨35, _⟩ => ⟨S328x128, .f32⟩
  | .hbm, ⟨36, _⟩ => ⟨S328x128, .f32⟩
  | _, _ => ⟨S328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Mm.Sum.lean ====
/- Arrays read at natural indices, and sums over a range cut into blocks. -/
module

public import Idealize.ShloMosaic.Lib.Pipeline.ValueKit
public import Idealize.ShloMosaic.Lib.Pointwise

@[expose] public section

noncomputable section

namespace Cert.Mm

open Idealize.ShloMosaic

/-- A matrix's elements; nothing outside. -/
def at2 {n1 n2 : ℕ} (f : (⟨2, ![n1, n2]⟩ : Shape).Idx → EReal) (a b : ℕ) : EReal :=
  if h : a < n1 ∧ b < n2 then f (ix2 ⟨a, h.1⟩ ⟨b, h.2⟩) else 0

theorem at2_eq {n1 n2 : ℕ} (f : (⟨2, ![n1, n2]⟩ : Shape).Idx → EReal) (i : (⟨2, ![n1, n2]⟩ : Shape).Idx) {a b : ℕ}
    (h0 : (i 0).val = a) (h1 : (i 1).val = b) : f i = at2 f a b := by
  have b0 : (i 0).val < n1 := (i 0).isLt
  have b1 : (i 1).val < n2 := (i 1).isLt
  subst h0 h1
  unfold at2
  rw [dif_pos ⟨b0, b1⟩]
  congr 1
  funext x
  match x with
  | ⟨0, _⟩ => rfl
  | ⟨1, _⟩ => rfl

/-- An array of three axes, likewise. -/
def at3 {n1 n2 n3 : ℕ} (f : (⟨3, ![n1, n2, n3]⟩ : Shape).Idx → EReal) (a b d : ℕ) : EReal :=
  if h : a < n1 ∧ b < n2 ∧ d < n3 then f (ix3 ⟨a, h.1⟩ ⟨b, h.2.1⟩ ⟨d, h.2.2⟩) else 0

theorem at3_eq {n1 n2 n3 : ℕ} (f : (⟨3, ![n1, n2, n3]⟩ : Shape).Idx → EReal) (i : (⟨3, ![n1, n2, n3]⟩ : Shape).Idx) {a b d : ℕ}
    (h0 : (i 0).val = a) (h1 : (i 1).val = b) (h2 : (i 2).val = d) : f i = at3 f a b d := by
  have b0 : (i 0).val < n1 := (i 0).isLt
  have b1 : (i 1).val < n2 := (i 1).isLt
  have b2 : (i 2).val < n3 := (i 2).isLt
  subst h0 h1 h2
  unfold at3
  rw [dif_pos ⟨b0, b1, b2⟩]
  congr 1
  funext x
  match x with
  | ⟨0, _⟩ => rfl
  | ⟨1, _⟩ => rfl
  | ⟨2, _⟩ => rfl

/-- An array of four axes, likewise. -/
def at4 {n1 n2 n3 n4 : ℕ} (f : (⟨4, ![n1, n2, n3, n4]⟩ : Shape).Idx → EReal) (a b d e : ℕ) : EReal :=
  if h : a < n1 ∧ b < n2 ∧ d < n3 ∧ e < n4 then f (ix4 ⟨a, h.1⟩ ⟨b, h.2.1⟩ ⟨d, h.2.2.1⟩ ⟨e, h.2.2.2⟩) else 0

theorem at4_eq {n1 n2 n3 n4 : ℕ} (f : (⟨4, ![n1, n2, n3, n4]⟩ : Shape).Idx → EReal) (i : (⟨4, ![n1, n2, n3, n4]⟩ : Shape).Idx)
    {a b d e : ℕ} (h0 : (i 0).val = a) (h1 : (i 1).val = b) (h2 : (i 2).val = d) (h3 : (i 3).val = e) : f i = at4 f a b d e := by
  have b0 : (i 0).val < n1 := (i 0).isLt
  have b1 : (i 1).val < n2 := (i 1).isLt
  have b2 : (i 2).val < n3 := (i 2).isLt
  have b3 : (i 3).val < n4 := (i 3).isLt
  subst h0 h1 h2 h3
  unfold at4
  rw [dif_pos ⟨b0, b1, b2, b3⟩]
  congr 1
  funext x
  match x with
  | ⟨0, _⟩ => rfl
  | ⟨1, _⟩ => rfl
  | ⟨2, _⟩ => rfl
  | ⟨3, _⟩ => rfl

/-- A sum over a range, one more block. -/
theorem sum_block (f : ℕ → EReal) (n w : ℕ) :
    ∑ k ∈ Finset.range (w * n + w), f k = (∑ k ∈ Finset.range (w * n), f k) + ∑ k : Fin w, f (w * n + k.val) := by
  rw [Finset.sum_range_add, Finset.sum_range (fun x => f (w * n + x))]

theorem sum_first (f : ℕ → EReal) (w : ℕ) : ∑ k ∈ Finset.range w, f k = ∑ k : Fin w, f k.val := Finset.sum_range f

/-- A real factor that is not negative moves into a sum, whatever the terms. -/
theorem sum_scale {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (EReal.coe_nonneg.2 hr) (EReal.coe_ne_top r) _ _

end Cert.Mm
-- ==== Proof.Mm.In.lean ====
/- The input projection: each point's product is a block of the whole product. -/
module

public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Mm.Sum
public import proofs.«01_k».proof.Defs

@[expose] public section

set_option maxRecDepth 16384

noncomputable section

namespace Cert.InIdeal.Mm

open Cert.InIdeal Cert.InIdeal.Gen
open Cert.Mm
open Idealize.ShloMosaic Idealize.ShloMosaic.TcCoe Idealize.SL.Sem

theorem hz : (![0, 0] : Fin 2 → ℕ) = fun _ => 0 := by funext a; fin_cases a <;> rfl

theorem out_eq (x0 x1 : Vec Ideal S1024x1024 .bf16) : out0_2 x0 x1 = k0_pay1 x0 x1 := by
  unfold out0_2
  rw [View.canon_unit_zero hz]
  simp only [View.ld_unit_zero (S := S1024x1024) hz]

theorem prod_at (x0 x1 : Vec Ideal S1024x1024 .bf16) (p q : Fin 1024) :
    k0_pay1 x0 x1 (ix2 p q) = ∑ k, (x0 (ix2 p k) : EReal) * x1 (ix2 k q) := by
  pointwise [k0_pay1]

theorem idx0 : ∀ t : Fin cfg0.N, win0_0.index t = ![t.val / 12, 0] := by decide +kernel
theorem idx1 : ∀ t : Fin cfg0.N, win0_1.index t = ![0, t.val % 12] := by decide +kernel
theorem idx2 : ∀ t : Fin cfg0.N, win0_2.index t = ![t.val / 12, t.val % 12] := by decide +kernel

variable (m : (ℓ : Loc nD τ sig) → Buf (Elt Ideal) ℓ) (c : Dev nD)

/-- The activations and the weight. -/
def X : ℕ → ℕ → EReal := at2 (n1 := 4096) (n2 := 1024) (m ((c : Thread nD τ).loc main_arg0))
def Y : ℕ → ℕ → EReal := at2 (n1 := 1024) (n2 := 12288) (m ((c : Thread nD τ).loc main_arg1))

theorem x_at (t : Fin cfg0.N) (p k : Fin 1024) :
    (iblk m c 0 t (ix2 p k) : EReal) = X m c (1024 * (t.val / 12) + p.val) k.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (k q : Fin 1024) :
    (iblk m c 1 t (ix2 k q) : EReal) = Y m c k.val (1024 * (t.val % 12) + q.val) := by
  unfold iblk
  rw [show V m c (Pipeline.arrRef spec0 1) = m ((c : Thread nD τ).loc main_arg1) from V_main_arg1 m c]
  exact at2_eq (n1 := 1024) (n2 := 12288) _ _ (by blk_simp [idx1]; try omega) (by blk_simp [idx1]; try omega)

/-- The product's elements. -/
def P (i : S4096x12288.Idx) : EReal := ∑ k ∈ Finset.range 1024, X m c (i 0).val k * Y m c k (i 1).val

/-- The array after the run: the product. -/
theorem final : (dats m 0 c).arrAt 2 cfg0.N = (P m c : S4096x12288.Idx → EReal) := by
  refine (dats m 0 c).arrAt_eq_of_covers 2 (P m c) (by decide +kernel) (fun t hf y => ?_)
  have y0 : (y 0).val < 1024 := (y 0).isLt
  have y1 : (y 1).val < 1024 := (y 1).isLt
  have e0 : ((((cfg0.win 2).blk t).view.emb y) 0).val = 1024 * (t.val / 12) + (y 0).val := by blk_simp [idx2]; try omega
  have e1 : ((((cfg0.win 2).blk t).view.emb y) 1).val = 1024 * (t.val % 12) + (y 1).val := by blk_simp [idx2]; try omega
  refine Eq.trans (b := k0_pay1 (iblk m c 0 t) (iblk m c 1 t) (ix2 ⟨(y 0).val, y0⟩ ⟨(y 1).val, y1⟩)) ?_ ?_
  · rw [after0_2, out_eq]
    refine congrArg (k0_pay1 (iblk m c 0 t) (iblk m c 1 t)) ?_
    funext a; fin_cases a <;> rfl
  · rw [prod_at]
    unfold P
    rw [sum_first, e0, e1]
    exact Finset.sum_congr rfl fun k _ => by rw [x_at, y_at]

end Cert.InIdeal.Mm

namespace Cert.InRefIdeal.Mm

open Cert.InRefIdeal Cert.InRefIdeal.Gen
open Cert.Mm
open Idealize.ShloMosaic Idealize.ShloMosaic.TcCoe Idealize.SL.Sem

theorem value (x : FVec Ideal S4096x1024 .bf16) (y : FVec Ideal S1024x12288 .bf16) (i : S4096x12288.Idx) :
    (Host.dotGeneral dot_S4096x1024_S1024x12288_S4096x12288_1_0_0_1_n_n none (extf .f32 x bitsLt_bf16_f32) (extf .f32 y bitsLt_bf16_f32) : FVec Ideal S4096x12288 .f32) i
      = ∑ k ∈ Finset.range 1024, at2 (n1 := 4096) (n2 := 1024) x (i 0).val k * at2 (n1 := 1024) (n2 := 12288) y k (i 1).val := by
  obtain ⟨a, b, rfl⟩ : ∃ (a : Fin 4096) (b : Fin 12288), i = ix2 a b := ⟨i 0, i 1, by funext x; fin_cases x <;> rfl⟩
  rw [sum_first]
  pointwise
  refine Finset.sum_congr rfl fun k _ => ?_
  exact congrArg₂ (· * ·) (at2_eq (n1 := 4096) (n2 := 1024) x _ rfl rfl) (at2_eq (n1 := 1024) (n2 := 12288) y _ rfl rfl)

end Cert.InRefIdeal.Mm

namespace Cert.Proof.Mm

open Idealize.ShloMosaic Idealize.ShloMosaic.TcCoe Idealize.SL.Sem

theorem quiescent_InRefIdeal : Cert.quiescent_InRefIdeal := fun m ρ _ =>
  (θ_run Cert.InRefIdeal.defs _ _).mono
    (fun _ h => ⟨fun c => (h c).2, sem_eq_zero_of_no_sems rfl _⟩) (Cert.InRefIdeal.Value.run (F := Ideal) m ρ)

theorem quiescent_In : Cert.quiescent_In := fun m ρ _ => Cert.In.Gen.frame m ρ
theorem quiescent_InIdeal : Cert.quiescent_InIdeal := fun m ρ _ => Cert.InIdeal.Gen.frame m ρ

theorem algebraic_In : Cert.algebraic_InIdeal_InRefIdeal := by
  intro m ρ m' ρ' hpre hagree
  refine ⟨fun c => (Cert.InIdeal.Gen.dats m 0 c).arrAt 2 Cert.InIdeal.cfg0.N, Cert.InIdeal.Value.run_blocks m ρ, ?_⟩
  refine (θ_run Cert.InRefIdeal.defs _ _).mono (fun r h c => ?_) (Cert.InRefIdeal.Value.run (F := Ideal) m' ρ')
  refine ⟨(h c).1.trans ?_, (h c).2⟩
  refine Eq.trans ?_ (Cert.InIdeal.Mm.final m c).symm
  funext i
  refine (Cert.InRefIdeal.Mm.value _ _ i).trans ?_
  unfold Cert.InIdeal.Mm.P Cert.InIdeal.Mm.X Cert.InIdeal.Mm.Y
  rw [(hagree c).1, (hagree c).2]

end Cert.Proof.Mm
-- ==== Proof.Mm.InDw.lean ====
/- The gradient of the input projection's weight: the kernel's sum by blocks of rows is the product's sum. -/
module

public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Mm.Sum
public import proofs.«01_k».proof.Defs

@[expose] public section

set_option maxRecDepth 16384

noncomputable section

namespace Cert.InDwIdeal.Mm

open Cert.InDwIdeal Cert.InDwIdeal.Gen
open Cert.Mm
open Idealize.ShloMosaic Idealize.ShloMosaic.TcCoe Idealize.SL.Sem

theorem hz : (![0, 0] : Fin 2 → ℕ) = fun _ => 0 := by funext a; fin_cases a <;> rfl

theorem first_eq (c : Dev nD) (i : grid0.Coords) (a3 h3 a4 h4 a5 h5 a6 h6 hc0 hc1 hc2) (x0 x1 : Vec Ideal S1024x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, k0_pay2, shapeCast_self]

theorem next_eq (c : Dev nD) (i : grid0.Coords) (a3 h3 a4 h4 a5 h5 a6 h6 hc0 hc1 hc2) (x0 x1 : Vec Ideal S1024x1024 .bf16) (s : Vec Ideal S1024x1024 .f32) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  try sl_unfold_words
  rw [View.canon_unit_zero hz]
  simp only [View.readAt_eq_ld, h3.read_unread, h4.read_unread, h6.read_unread, View.ld_unit_zero (S := S1024x1024) hz, k0_pay3, shapeCast_self]

theorem last_eq (c : Dev nD) (i : grid0.Coords) (a3 h3 a4 h4 a5 h5 a6 h6 hc0 hc1 hc2) (x0 x1 : Vec Ideal S1024x1024 .bf16) (s : Vec Ideal S1024x1024 .f32) :
    out0_C_2 c i a3 h3 a4 h4 a5 h5 a6 h6 hc0 hc1 hc2 x0 x1 s = k0_pay4 (addf s (k0_pay1 x0 x1)) := by
  unfold out0_C_2
  rw [View.read_writes_eq_canon _ _ _ (cover0_C_2 c i a3 h3 a4 h4 a5 h5 a6 h6 hc0 hc1 hc2 x0 x1 s)]
  unfold kernelRun0_C
  dsimp only
  try sl_unfold_words
  rw [View.canon_unit_zero hz]
  simp only [View.readAt_eq_ld, View.readCov_unit_zero (S := S1024x1024) _ hz, h3.read_unread, h4.read_unread, h6.read_unread, View.ld_unit_zero (S := S1024x1024) hz, k0_pay3, shapeCast_self]

theorem prod_at (x0 x1 : Vec Ideal S1024x1024 .bf16) (p q : Fin 1024) :
    k0_pay1 x0 x1 (ix2 p q) = ∑ k, (x0 (ix2 k p) : EReal) * x1 (ix2 k q) := by
  pointwise [k0_pay1]

theorem idx0 : ∀ t : Fin cfg0.N, win0_0.index t = ![t.val % 4, 0] := by decide +kernel
theorem idx1 : ∀ t : Fin cfg0.N, win0_1.index t = ![t.val % 4, t.val / 4] := by decide +kernel

variable (m : (ℓ : Loc nD τ sig) → Buf (Elt Ideal) ℓ) (c : Dev nD)

/-- The activations and the gradient of the projection's result. -/
def X : ℕ → ℕ → EReal := at2 (n1 := 4096) (n2 := 1024) (m ((c : Thread nD τ).loc main_arg0))
def Y : ℕ → ℕ → EReal := at2 (n1 := 4096) (n2 := 12288) (m ((c : Thread nD τ).loc main_arg1))

theorem x_at (t : Fin cfg0.N) (k p : Fin 1024) :
    (iblk m c 0 t (ix2 k p) : EReal) = X m c (1024 * (t.val % 4) + k.val) p.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (k q : Fin 1024) :
    (iblk m c 1 t (ix2 k q) : EReal) = Y m c (1024 * (t.val % 4) + k.val) (1024 * (t.val / 4) + q.val) := by
  unfold iblk
  rw [show V m c (Pipeline.arrRef spec0 1) = m ((c : Thread nD τ).loc main_arg1) from V_main_arg1 m c]
  exact at2_eq (n1 := 4096) (n2 := 12288) _ _ (by blk_simp [idx1]; try omega) (by blk_simp [idx1]; try omega)

/-- A point's product, over the arrays. -/
theorem prod_pt (t : Fin cfg0.N) (p q : Fin 1024) :
    k0_pay1 (iblk m c 0 t) (iblk m c 1 t) (ix2 p q)
      = ∑ k : Fin 1024, X m c (1024 * (t.val % 4) + k.val) p.val * Y m c (1024 * (t.val % 4) + k.val) (1024 * (t.val / 4) + q.val) := by
  rw [prod_at]
  exact Finset.sum_congr rfl fun k _ => by rw [x_at, y_at]

/-- What the scratch holds after each of a column block's first points: the sum over the rows so far. -/
theorem acc_at (p q : Fin 1024) : ∀ (n : ℕ) (hn : n < cfg0.N), n % 4 < 3 →
    ((outsAt0 m c n hn).2 (ix2 p q) : EReal)
      = ∑ k ∈ Finset.range (1024 * (n % 4) + 1024), X m c k p.val * Y m c k (1024 * (n / 4) + q.val) := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 1024, show (n - 1) / 4 = n / 4 by omega, show 1024 * ((n - 1) % 4) + 1024 = 1024 * (n % 4) by omega]

/-- The array after the run: the product. -/
theorem final (i : S1024x12288.Idx) :
    (Value.G2 m c i : EReal) = ∑ k ∈ Finset.range 4096, X m c k (i 0).val * Y m c k (i 1).val := by
  have b0 : (i 0).val < 1024 := (i 0).isLt
  have b1 : (i 1).val < 12288 := (i 1).isLt
  have hN : cfg0.N = 48 := N_0
  have hp : Value.pt2Of i = 4 * ((i 1).val / 1024) + 3 := by simp only [Value.pt2Of, Value.run2Of]; omega
  have hl : Value.loc2Of i = ix2 ⟨(i 0).val, b0⟩ ⟨(i 1).val % 1024, Nat.mod_lt _ (by decide)⟩ := by
    funext a
    match a with
    | ⟨0, _⟩ => exact Fin.ext (Nat.mod_eq_of_lt b0)
    | ⟨1, _⟩ => rfl
  have hlt : Value.pt2Of i < cfg0.N := by rw [hp, hN]; omega
  unfold Value.G2
  rw [dif_pos hlt, ← Value.outsAt0_sweep m c _ hlt, hl]
  generalize Value.pt2Of i = n at hp hlt
  subst hp
  rw [outsAt0_C m c ⟨_, hlt⟩ (by dsimp only; omega) (by dsimp only; omega) (by dsimp only; omega)]
  dsimp only
  rw [last_eq]
  refine Eq.trans (congrArg₂ (· + ·) (acc_at m c _ _ (4 * ((i 1).val / 1024) + 3 - 1) (by omega) (by omega)) (prod_pt m c ⟨_, hlt⟩ _ _)) ?_
  dsimp only
  rw [show (4 * ((i 1).val / 1024) + 3 - 1) % 4 = 2 by omega, show (4 * ((i 1).val / 1024) + 3) % 4 = 3 by omega,
    show (4 * ((i 1).val / 1024) + 3 - 1) / 4 = (i 1).val / 1024 by omega, show (4 * ((i 1).val / 1024) + 3) / 4 = (i 1).val / 1024 by omega,
    show 1024 * ((i 1).val / 1024) + (i 1).val % 1024 = (i 1).val by omega, show 4096 = 1024 * 3 + 1024 by rfl, sum_block _ 3 1024]

end Cert.InDwIdeal.Mm

namespace Cert.InDwRefIdeal.Mm

open Cert.InDwRefIdeal Cert.InDwRefIdeal.Gen
open Cert.Mm
open Idealize.ShloMosaic Idealize.ShloMosaic.TcCoe Idealize.SL.Sem

theorem value (x : FVec Ideal S4096x1024 .bf16) (y : FVec Ideal S4096x12288 .bf16) (i : S1024x12288.Idx) :
    (truncf .bf16 (transpose S1024x12288 [1, 0] (Host.dotGeneral dot_S4096x12288_S4096x1024_S12288x1024_0_0_1_1_n_n none (extf .f32 y bitsLt_bf16_f32) (extf .f32 x bitsLt_bf16_f32)) transposes_S12288x1024_S1024x12288_1_0) bitsLt_bf16_f32 : FVec Ideal S1024x12288 .bf16) i
      = ∑ k ∈ Finset.range 4096, at2 (n1 := 4096) (n2 := 1024) x k (i 0).val * at2 (n1 := 4096) (n2 := 12288) y k (i 1).val := by
  obtain ⟨a, b, rfl⟩ : ∃ (a : Fin 1024) (b : Fin 12288), i = ix2 a b := ⟨i 0, i 1, by funext x; fin_cases x <;> rfl⟩
  rw [sum_first]
  pointwise
  refine Finset.sum_congr rfl fun k _ => ?_
  rw [mul_comm]
  exact congrArg₂ (· * ·) (at2_eq (n1 := 4096) (n2 := 1024) x _ rfl rfl) (at2_eq (n1 := 4096) (n2 := 12288) y _ rfl rfl)

end Cert.InDwRefIdeal.Mm

namespace Cert.Proof.Mm

open Idealize.ShloMosaic Idealize.ShloMosaic.TcCoe Idealize.SL.Sem

theorem quiescent_InDwRefIdeal : Cert.quiescent_InDwRefIdeal := fun m ρ _ =>
  (θ_run Cert.InDwRefIdeal.defs _ _).mono
    (fun _ h => ⟨fun c => (h c).2, sem_eq_zero_of_no_sems rfl _⟩) (Cert.InDwRefIdeal.Value.run (F := Ideal) m ρ)

theorem quiescent_InDw : Cert.quiescent_InDw := fun m ρ _ => Cert.InDw.Gen.frame m ρ
theorem quiescent_InDwIdeal : Cert.quiescent_InDwIdeal := fun m ρ _ => Cert.InDwIdeal.Gen.frame m ρ

theorem algebraic_InDw : Cert.algebraic_InDwIdeal_InDwRefIdeal := by
  intro m ρ m' ρ' hpre hagree
  refine ⟨fun c => Cert.InDwIdeal.Value.G2 m c, Cert.InDwIdeal.Value.run m ρ, ?_⟩
  refine (θ_run Cert.InDwRefIdeal.defs _ _).mono (fun r h c => ?_) (Cert.InDwRefIdeal.Value.run (F := Ideal) m' ρ')
  refine ⟨(h c).1.trans ?_, (h c).2⟩
  funext i
  refine (Cert.InDwRefIdeal.Mm.value _ _ i).trans ((Cert.InDwIdeal.Mm.final m c i).trans ?_).symm
  unfold Cert.InDwIdeal.Mm.X Cert.InDwIdeal.Mm.Y
  rw [(hagree c).1, (hagree c).2]

end Cert.Proof.Mm
-- ==== Proof.Mm.InDx.lean ====
/- The gradient of the input projection's activations: the kernel's sum by blocks of columns is the product's sum. -/
module

public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Mm.Sum
public import proofs.«01_k».proof.Defs

@[expose] public section

set_option maxRecDepth 16384

noncomputable section

namespace Cert.InDxIdeal.Mm

open Cert.InDxIdeal Cert.InDxIdeal.Gen
open Cert.Mm
open Idealize.ShloMosaic Idealize.ShloMosaic.TcCoe Idealize.SL.Sem

theorem hz : (![0, 0] : Fin 2 → ℕ) = fun _ => 0 := by funext a; fin_cases a <;> rfl

theorem first_eq (c : Dev nD) (i : grid0.Coords) (a3 h3 a4 h4 a5 h5 a6 h6 hc0 hc1 hc2) (x0 x1 : Vec Ideal S1024x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, k0_pay2, shapeCast_self]

theorem next_eq (c : Dev nD) (i : grid0.Coords) (a3 h3 a4 h4 a5 h5 a6 h6 hc0 hc1 hc2) (x0 x1 : Vec Ideal S1024x1024 .bf16) (s : Vec Ideal S1024x1024 .f32) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  try sl_unfold_words
  rw [View.canon_unit_zero hz]
  simp only [View.readAt_eq_ld, h3.read_unread, h4.read_unread, h6.read_unread, View.ld_unit_zero (S := S1024x1024) hz, k0_pay3, shapeCast_self]

theorem last_eq (c : Dev nD) (i : grid0.Coords) (a3 h3 a4 h4 a5 h5 a6 h6 hc0 hc1 hc2) (x0 x1 : Vec Ideal S1024x1024 .bf16) (s : Vec Ideal S1024x1024 .f32) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  try sl_unfold_words
  rw [View.canon_unit_zero hz]
  simp only [View.readAt_eq_ld, View.readCov_unit_zero (S := S1024x1024) _ hz, h3.read_unread, h4.read_unread, h6.read_unread, View.ld_unit_zero (S := S1024x1024) hz, k0_pay3, shapeCast_self]

theorem prod_at (x0 x1 : Vec Ideal S1024x1024 .bf16) (p q : Fin 1024) :
    k0_pay1 x0 x1 (ix2 p q) = ∑ k, (x0 (ix2 p k) : EReal) * x1 (ix2 q k) := by
  pointwise [k0_pay1]

theorem idx0 : ∀ t : Fin cfg0.N, win0_0.index t = ![t.val / 12, t.val % 12] := by decide +kernel
theorem idx1 : ∀ t : Fin cfg0.N, win0_1.index t = ![0, t.val % 12] := by decide +kernel

variable (m : (ℓ : Loc nD τ sig) → Buf (Elt Ideal) ℓ) (c : Dev nD)

/-- The gradient of the projection's result and the weight. -/
def X : ℕ → ℕ → EReal := at2 (n1 := 4096) (n2 := 12288) (m ((c : Thread nD τ).loc main_arg0))
def Y : ℕ → ℕ → EReal := at2 (n1 := 1024) (n2 := 12288) (m ((c : Thread nD τ).loc main_arg1))

theorem x_at (t : Fin cfg0.N) (p k : Fin 1024) :
    (iblk m c 0 t (ix2 p k) : EReal) = X m c (1024 * (t.val / 12) + p.val) (1024 * (t.val % 12) + k.val) := by
  unfold iblk
  rw [show V m c (Pipeline.arrRef spec0 0) = m ((c : Thread nD τ).loc main_arg0) from V_main_arg0 m c]
  exact at2_eq (n1 := 4096) (n2 := 12288) _ _ (by blk_simp [idx0]; try omega) (by blk_simp [idx0]; try omega)

theorem y_at (t : Fin cfg0.N) (q k : Fin 1024) :
    (iblk m c 1 t (ix2 q k) : EReal) = Y m c q.val (1024 * (t.val % 12) + k.val) := by
  unfold iblk
  rw [show V m c (Pipeline.arrRef spec0 1) = m ((c : Thread nD τ).loc main_arg1) from V_main_arg1 m c]
  exact at2_eq (n1 := 1024) (n2 := 12288) _ _ (by blk_simp [idx1]; try omega) (by blk_simp [idx1]; try omega)

/-- A point's product, over the arrays. -/
theorem prod_pt (t : Fin cfg0.N) (p q : Fin 1024) :
    k0_pay1 (iblk m c 0 t) (iblk m c 1 t) (ix2 p q)
      = ∑ k : Fin 1024, X m c (1024 * (t.val / 12) + p.val) (1024 * (t.val % 12) + k.val) * Y m c q.val (1024 * (t.val % 12) + k.val) := by
  rw [prod_at]
  exact Finset.sum_congr rfl fun k _ => by rw [x_at, y_at]

/-- What the scratch holds after each of a row block's first points: the sum over the columns so far. -/
theorem acc_at (p q : Fin 1024) : ∀ (n : ℕ) (hn : n < cfg0.N), n % 12 < 11 →
    ((outsAt0 m c n hn).2 (ix2 p q) : EReal)
      = ∑ k ∈ Finset.range (1024 * (n % 12) + 1024), X m c (1024 * (n / 12) + p.val) k * Y m c q.val k := by
  intro n
  induction n using Nat.strong_induction_on with
  | _ n ih =>
    intro hn h3
    by_cases h0 : n % 12 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 12) 1024, show (n - 1) / 12 = n / 12 by omega, show 1024 * ((n - 1) % 12) + 1024 = 1024 * (n % 12) by omega]

/-- The array after the run: the product. -/
theorem final (i : S4096x1024.Idx) :
    (Value.G2 m c i : EReal) = ∑ k ∈ Finset.range 12288, X m c (i 0).val k * Y m c (i 1).val k := by
  have b0 : (i 0).val < 4096 := (i 0).isLt
  have b1 : (i 1).val < 1024 := (i 1).isLt
  have hN : cfg0.N = 48 := N_0
  have hp : Value.pt2Of i = 12 * ((i 0).val / 1024) + 11 := by simp only [Value.pt2Of, Value.run2Of]; omega
  have hl : Value.loc2Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt2Of i < cfg0.N := by rw [hp, hN]; omega
  unfold Value.G2
  rw [dif_pos hlt, ← Value.outsAt0_sweep m c _ hlt, hl]
  generalize Value.pt2Of i = n at hp hlt
  subst hp
  rw [outsAt0_C m c ⟨_, hlt⟩ (by dsimp only; omega) (by dsimp only; omega) (by dsimp only; omega)]
  dsimp only
  rw [last_eq]
  refine Eq.trans (congrArg₂ (· + ·) (acc_at m c _ _ (12 * ((i 0).val / 1024) + 11 - 1) (by omega) (by omega)) (prod_pt m c ⟨_, hlt⟩ _ _)) ?_
  dsimp only
  rw [show (12 * ((i 0).val / 1024) + 11 - 1) % 12 = 10 by omega, show (12 * ((i 0).val / 1024) + 11) % 12 = 11 by omega,
    show (12 * ((i 0).val / 1024) + 11 - 1) / 12 = (i 0).val / 1024 by omega, show (12 * ((i 0).val / 1024) + 11) / 12 = (i 0).val / 1024 by omega,
    show 1024 * ((i 0).val / 1024) + (i 0).val % 1024 = (i 0).val by omega, show 12288 = 1024 * 11 + 1024 by rfl, sum_block _ 11 1024]

end Cert.InDxIdeal.Mm

namespace Cert.InDxRefIdeal.Mm

open Cert.InDxRefIdeal Cert.InDxRefIdeal.Gen
open Cert.Mm
open Idealize.ShloMosaic Idealize.ShloMosaic.TcCoe Idealize.SL.Sem

theorem value (x : FVec Ideal S4096x12288 .bf16) (y : FVec Ideal S1024x12288 .bf16) (i : S4096x1024.Idx) :
    (Host.dotGeneral dot_S4096x12288_S1024x12288_S4096x1024_1_1_0_0_n_n none (extf .f32 x bitsLt_bf16_f32) (extf .f32 y bitsLt_bf16_f32) : FVec Ideal S4096x1024 .f32) i
      = ∑ k ∈ Finset.range 12288, at2 (n1 := 4096) (n2 := 12288) x (i 0).val k * at2 (n1 := 1024) (n2 := 12288) y (i 1).val k := by
  obtain ⟨a, b, rfl⟩ : ∃ (a : Fin 4096) (b : Fin 1024), i = ix2 a b := ⟨i 0, i 1, by funext x; fin_cases x <;> rfl⟩
  rw [sum_first]
  pointwise
  refine Finset.sum_congr rfl fun k _ => ?_
  exact congrArg₂ (· * ·) (at2_eq (n1 := 4096) (n2 := 12288) x _ rfl rfl) (at2_eq (n1 := 1024) (n2 := 12288) y _ rfl rfl)

end Cert.InDxRefIdeal.Mm

namespace Cert.Proof.Mm

open Idealize.ShloMosaic Idealize.ShloMosaic.TcCoe Idealize.SL.Sem

theorem quiescent_InDxRefIdeal : Cert.quiescent_InDxRefIdeal := fun m ρ _ =>
  (θ_run Cert.InDxRefIdeal.defs _ _).mono
    (fun _ h => ⟨fun c => (h c).2, sem_eq_zero_of_no_sems rfl _⟩) (Cert.InDxRefIdeal.Value.run (F := Ideal) m ρ)

theorem quiescent_InDx : Cert.quiescent_InDx := fun m ρ _ => Cert.InDx.Gen.frame m ρ
theorem quiescent_InDxIdeal : Cert.quiescent_InDxIdeal := fun m ρ _ => Cert.InDxIdeal.Gen.frame m ρ

theorem algebraic_InDx : Cert.algebraic_InDxIdeal_InDxRefIdeal := by
  intro m ρ m' ρ' hpre hagree
  refine ⟨fun c => Cert.InDxIdeal.Value.G2 m c, Cert.InDxIdeal.Value.run m ρ, ?_⟩
  refine (θ_run Cert.InDxRefIdeal.defs _ _).mono (fun r h c => ?_) (Cert.InDxRefIdeal.Value.run (F := Ideal) m' ρ')
  refine ⟨(h c).1.trans ?_, (h c).2⟩
  funext i
  refine (Cert.InDxRefIdeal.Mm.value _ _ i).trans ((Cert.InDxIdeal.Mm.final m c i).trans ?_).symm
  unfold Cert.InDxIdeal.Mm.X Cert.InDxIdeal.Mm.Y
  rw [(hagree c).1, (hagree c).2]

end Cert.Proof.Mm
-- ==== Proof.Mm.UpDw.lean ====
/- The gradient of an up projection's weight, in column chunks: the kernel's sum by blocks of rows is the product's sum. -/
module

public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Mm.Sum
public import proofs.«01_k».proof.Defs

@[expose] public section

set_option maxRecDepth 16384

noncomputable section

namespace Cert.UpDwIdeal.Mm

open Cert.UpDwIdeal Cert.UpDwIdeal.Gen
open Cert.Mm
open Idealize.ShloMosaic Idealize.ShloMosaic.TcCoe Idealize.SL.Sem

theorem hz : (![0, 0] : Fin 2 → ℕ) = fun _ => 0 := by funext a; fin_cases a <;> rfl

theorem hz3 : (![0, 0, 0] : Fin 3 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a6 h6 a7 h7 hc0 hc1 hc2) (x0 : Vec Ideal S1024x1024 .bf16) (x1 : Vec Ideal S1x1024x704 .bf16) :
    sout0_A_0 c i a3 h3 a4 h4 a6 h6 a7 h7 hc0 hc1 hc2 x0 x1 = k0_pay1 x0 x1 := by
  unfold sout0_A_0
  rw [View.read_writes_eq_canon _ _ _ (scover0_A_0 c i a3 h3 a4 h4 a6 h6 a7 h7 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, View.ld_unit_zero (S := S1x1024x704) hz3, k0_pay2, shapeCast_self]

theorem next_eq (c : Dev nD) (i : grid0.Coords) (a3 h3 a4 h4 a6 h6 a7 h7 hc0 hc1 hc2) (x0 : Vec Ideal S1024x1024 .bf16) (x1 : Vec Ideal S1x1024x704 .bf16) (s : Vec Ideal S1024x704 .f32) :
    sout0_B_0 c i a3 h3 a4 h4 a6 h6 a7 h7 hc0 hc1 hc2 x0 x1 s = addf s (k0_pay1 x0 x1) := by
  unfold sout0_B_0
  rw [View.read_writes_eq_canon _ _ _ (scover0_B_0 c i a3 h3 a4 h4 a6 h6 a7 h7 hc0 hc1 hc2 x0 x1 s)]
  unfold kernelRun0_B
  dsimp only
  try sl_unfold_words
  rw [View.canon_unit_zero hz]
  simp only [View.readAt_eq_ld, h3.read_unread, h4.read_unread, h7.read_unread, View.ld_unit_zero (S := S1024x1024) hz, View.ld_unit_zero (S := S1024x704) hz, View.ld_unit_zero (S := S1x1024x704) hz3, k0_pay3, shapeCast_self]

theorem last_eq (c : Dev nD) (i : grid0.Coords) (a3 h3 a4 h4 a6 h6 a7 h7 hc0 hc1 hc2) (x0 : Vec Ideal S1024x1024 .bf16) (x1 : Vec Ideal S1x1024x704 .bf16) (s : Vec Ideal S1024x704 .f32) :
    out0_C_2 c i a3 h3 a4 h4 a6 h6 a7 h7 hc0 hc1 hc2 x0 x1 s = k0_pay4 (addf s (k0_pay1 x0 x1)) := by
  unfold out0_C_2
  rw [View.read_writes_eq_canon _ _ _ (cover0_C_2 c i a3 h3 a4 h4 a6 h6 a7 h7 hc0 hc1 hc2 x0 x1 s)]
  unfold kernelRun0_C
  dsimp only
  try sl_unfold_words
  rw [View.canon_unit_zero hz4]
  simp only [View.readAt_eq_ld, View.readCov_unit_zero (S := S1024x704) _ hz, h3.read_unread, h4.read_unread, h7.read_unread, View.ld_unit_zero (S := S1024x1024) hz, View.ld_unit_zero (S := S1024x704) hz, View.ld_unit_zero (S := S1x1024x704) hz3, k0_pay3, shapeCast_self]

theorem prod_at (x0 : Vec Ideal S1024x1024 .bf16) (x1 : Vec Ideal S1x1024x704 .bf16) (p : Fin 1024) (q : Fin 704) :
    k0_pay1 x0 x1 (ix2 p q) = ∑ k, (x0 (ix2 k p) : EReal) * x1 (ix3 0 k q) := by
  pointwise [k0_pay1]

theorem pay4_at (x : Vec Ideal S1024x704 .f32) (u v : Fin 1) (p : Fin 1024) (q : Fin 704) :
    (k0_pay4 x (ix4 u v p q) : EReal) = x (ix2 p q) := by
  pointwise [k0_pay4]

theorem idx0 : ∀ t : Fin cfg0.N, win0_0.index t = ![t.val % 4, 0] := by decide +kernel
theorem idx1 : ∀ t : Fin cfg0.N, win0_1.index t = ![t.val / 4, t.val % 4, 0] := by decide +kernel
theorem idx2 : ∀ t : Fin cfg0.N, win0_2.index t = ![0, t.val / 4, 0, 0] := by decide +kernel

variable (m : (ℓ : Loc nD τ sig) → Buf (Elt Ideal) ℓ) (c : Dev nD)

/-- The activations and the gradient of the projection's result, chunk by chunk. -/
def X : ℕ → ℕ → EReal := at2 (n1 := 4096) (n2 := 1024) (m ((c : Thread nD τ).loc main_arg0))
def Y : ℕ → ℕ → ℕ → EReal := at3 (n1 := 4) (n2 := 4096) (n3 := 704) (m ((c : Thread nD τ).loc main_arg1))

theorem x_at (t : Fin cfg0.N) (k p : Fin 1024) :
    (iblk m c 0 t (ix2 k p) : EReal) = X m c (1024 * (t.val % 4) + k.val) p.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (k : Fin 1024) (q : Fin 704) :
    (iblk m c 1 t (ix3 0 k q) : EReal) = Y m c (t.val / 4) (1024 * (t.val % 4) + k.val) q.val := by
  unfold iblk
  rw [show V m c (Pipeline.arrRef spec0 1) = m ((c : Thread nD τ).loc main_arg1) from V_main_arg1 m c]
  exact at3_eq (n1 := 4) (n2 := 4096) (n3 := 704) _ _ (by blk_simp [idx1]; try omega) (by blk_simp [idx1]; try omega) (by blk_simp [idx1]; try omega)

/-- A point's product, over the arrays. -/
theorem prod_pt (t : Fin cfg0.N) (p : Fin 1024) (q : Fin 704) :
    k0_pay1 (iblk m c 0 t) (iblk m c 1 t) (ix2 p q)
      = ∑ k : Fin 1024, X m c (1024 * (t.val % 4) + k.val) p.val * Y m c (t.val / 4) (1024 * (t.val % 4) + k.val) q.val := by
  rw [prod_at]
  exact Finset.sum_congr rfl fun k _ => by rw [x_at, y_at]

/-- What the scratch holds after each of a chunk's first points: the sum over the rows so far. -/
theorem acc_at (p : Fin 1024) (q : Fin 704) : ∀ (n : ℕ) (hn : n < cfg0.N), n % 4 < 3 →
    ((outsAt0 m c n hn).2 (ix2 p q) : EReal)
      = ∑ k ∈ Finset.range (1024 * (n % 4) + 1024), X m c k p.val * Y m c (n / 4) k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 1024, show (n - 1) / 4 = n / 4 by omega, show 1024 * ((n - 1) % 4) + 1024 = 1024 * (n % 4) by omega]

/-- The gradient's elements. -/
def P (i : S1x4x1024x704.Idx) : EReal := ∑ k ∈ Finset.range 4096, X m c k (i 2).val * Y m c (i 1).val k (i 3).val

/-- What a chunk's last point leaves. -/
theorem out_at (t : Fin cfg0.N) (h : t.val % 4 = 3) (u v : Fin 1) (p : Fin 1024) (q : Fin 704) :
    ((outsAt0 m c t.val t.isLt).1 (ix4 u v p q) : EReal) = ∑ k ∈ Finset.range 4096, X m c k p.val * Y m c (t.val / 4) k q.val := by
  rw [outsAt0_C m c t (by omega) (by omega) h]
  dsimp only
  rw [last_eq, pay4_at]
  refine Eq.trans (congrArg₂ (· + ·) (acc_at m c p q (t.val - 1) (by omega) (by omega)) (prod_pt m c t p q)) ?_
  rw [h, show (t.val - 1) % 4 = 2 by omega, show (t.val - 1) / 4 = t.val / 4 by omega, show 4096 = 1024 * 3 + 1024 by rfl, sum_block _ 3 1024]

/-- The array after the run. -/
theorem final : (dats m 0 c).arrAt 2 cfg0.N = (P m c : S1x4x1024x704.Idx → EReal) := by
  refine (dats m 0 c).arrAt_eq_of_covers 2 (P m c) (by decide +kernel) (fun t hf y => ?_)
  have y0 : (y 0).val < 1 := (y 0).isLt
  have y1 : (y 1).val < 1 := (y 1).isLt
  have y2 : (y 2).val < 1024 := (y 2).isLt
  have y3 : (y 3).val < 704 := (y 3).isLt
  have h3 : t.val % 4 = 3 := (flush0_2 t).mp hf
  have e1 : ((((cfg0.win 2).blk t).view.emb y) 1).val = t.val / 4 := by blk_simp [idx2]; try omega
  have e2 : ((((cfg0.win 2).blk t).view.emb y) 2).val = (y 2).val := by blk_simp [idx2]; try omega
  have e3 : ((((cfg0.win 2).blk t).view.emb y) 3).val = (y 3).val := by blk_simp [idx2]; try omega
  refine Eq.trans (b := (outsAt0 m c t.val t.isLt).1 (ix4 ⟨(y 0).val, y0⟩ ⟨(y 1).val, y1⟩ ⟨(y 2).val, y2⟩ ⟨(y 3).val, y3⟩)) ?_ ?_
  · rw [after0_2]
    refine congrArg (outsAt0 m c t.val t.isLt).1 ?_
    funext a; fin_cases a <;> rfl
  · rw [out_at m c t h3]
    unfold P
    rw [e1, e2, e3]

end Cert.UpDwIdeal.Mm

namespace Cert.UpDwRefIdeal.Mm

open Cert.UpDwRefIdeal Cert.UpDwRefIdeal.Gen
open Cert.Mm
open Idealize.ShloMosaic Idealize.ShloMosaic.TcCoe Idealize.SL.Sem

theorem value (x : FVec Ideal S4096x1024 .bf16) (y : FVec Ideal S4x4096x704 .bf16) (i : S1x4x1024x704.Idx) :
    (truncf .bf16 (broadcastInDim S1x4x1024x704 ![1, 2, 3] bcast_S4x1024x704_S1x4x1024x704_1_2_3 (transpose S4x1024x704 [1, 0, 2] (shapeCast _ (transpose S1024x2816 [1, 0] (Host.dotGeneral dot_S4096x2816_S4096x1024_S2816x1024_0_0_1_1_n_n none (extf .f32 (shapeCast _ (transpose S4096x4x704 [1, 0, 2] y transposes_S4x4096x704_S4096x4x704_1_0_2) shapeCasts_S4096x4x704_S4096x2816) bitsLt_bf16_f32) (extf .f32 x bitsLt_bf16_f32)) transposes_S2816x1024_S1024x2816_1_0) shapeCasts_S1024x2816_S1024x4x704) transposes_S1024x4x704_S4x1024x704_1_0_2)) bitsLt_bf16_f32 : FVec Ideal S1x4x1024x704 .bf16) i
      = ∑ k ∈ Finset.range 4096, at2 (n1 := 4096) (n2 := 1024) x k (i 2).val * at3 (n1 := 4) (n2 := 4096) (n3 := 704) y (i 1).val k (i 3).val := by
  obtain ⟨u, a, b, d, rfl⟩ : ∃ (u : Fin 1) (a : Fin 4) (b : Fin 1024) (d : Fin 704), i = ix4 u a b d := ⟨i 0, i 1, i 2, i 3, by funext x; fin_cases x <;> rfl⟩
  rw [sum_first]
  pointwise
  refine Finset.sum_congr rfl fun k _ => ?_
  rw [mul_comm]
  exact congrArg₂ (· * ·) (at2_eq (n1 := 4096) (n2 := 1024) x _ rfl rfl) (at3_eq (n1 := 4) (n2 := 4096) (n3 := 704) y _ rfl rfl rfl)

end Cert.UpDwRefIdeal.Mm

namespace Cert.Proof.Mm

open Idealize.ShloMosaic Idealize.ShloMosaic.TcCoe Idealize.SL.Sem

theorem quiescent_UpDwRefIdeal : Cert.quiescent_UpDwRefIdeal := fun m ρ _ =>
  (θ_run Cert.UpDwRefIdeal.defs _ _).mono
    (fun _ h => ⟨fun c => (h c).2, sem_eq_zero_of_no_sems rfl _⟩) (Cert.UpDwRefIdeal.Value.run (F := Ideal) m ρ)

theorem quiescent_UpDw : Cert.quiescent_UpDw := fun m ρ _ => Cert.UpDw.Gen.frame m ρ
theorem quiescent_UpDwIdeal : Cert.quiescent_UpDwIdeal := fun m ρ _ => Cert.UpDwIdeal.Gen.frame m ρ

theorem algebraic_UpDw : Cert.algebraic_UpDwIdeal_UpDwRefIdeal := by
  intro m ρ m' ρ' hpre hagree
  refine ⟨fun c => (Cert.UpDwIdeal.Gen.dats m 0 c).arrAt 2 Cert.UpDwIdeal.cfg0.N, Cert.UpDwIdeal.Value.run_blocks m ρ, ?_⟩
  refine (θ_run Cert.UpDwRefIdeal.defs _ _).mono (fun r h c => ?_) (Cert.UpDwRefIdeal.Value.run (F := Ideal) m' ρ')
  refine ⟨(h c).1.trans ?_, (h c).2⟩
  refine Eq.trans ?_ (Cert.UpDwIdeal.Mm.final m c).symm
  funext i
  refine (Cert.UpDwRefIdeal.Mm.value _ _ i).trans ?_
  unfold Cert.UpDwIdeal.Mm.P Cert.UpDwIdeal.Mm.X Cert.UpDwIdeal.Mm.Y
  rw [(hagree c).1, (hagree c).2.1]

end Cert.Proof.Mm
-- ==== Proof.Mm.DownDw.lean ====
/- The gradient of a down projection's weight, in row chunks: the kernel's sum by blocks of rows is the product's sum. -/
module

public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Mm.Sum
public import proofs.«01_k».proof.Defs

@[expose] public section

set_option maxRecDepth 16384

noncomputable section

namespace Cert.DownDwIdeal.Mm

open Cert.DownDwIdeal Cert.DownDwIdeal.Gen
open Cert.Mm
open Idealize.ShloMosaic Idealize.ShloMosaic.TcCoe Idealize.SL.Sem

theorem hz : (![0, 0] : Fin 2 → ℕ) = fun _ => 0 := by funext a; fin_cases a <;> rfl

theorem half : Ideal.ofBits .f32 0x3F000000#32 = ((0.5 : ℝ) : EReal) := by
  simp [Ideal.ofBits, Ideal.ieee]
  rw [← EReal.coe_mul]
  norm_num

theorem hz3 : (![0, 0, 0] : Fin 3 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a6 h6 a7 h7 hc0 hc1 hc2) (x0 : Vec Ideal S1x1024x704 .bf16) (x1 : Vec Ideal S1024x1024 .f32) :
    sout0_A_0 c i a3 h3 a4 h4 a6 h6 a7 h7 hc0 hc1 hc2 x0 x1 = k0_pay1 x0 x1 := by
  unfold sout0_A_0
  rw [View.read_writes_eq_canon _ _ _ (scover0_A_0 c i a3 h3 a4 h4 a6 h6 a7 h7 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, View.ld_unit_zero (S := S1x1024x704) hz3, k0_pay2, shapeCast_self]

theorem next_eq (c : Dev nD) (i : grid0.Coords) (a3 h3 a4 h4 a6 h6 a7 h7 hc0 hc1 hc2) (x0 : Vec Ideal S1x1024x704 .bf16) (x1 : Vec Ideal S1024x1024 .f32) (s : Vec Ideal S704x1024 .f32) :
    sout0_B_0 c i a3 h3 a4 h4 a6 h6 a7 h7 hc0 hc1 hc2 x0 x1 s = addf s (k0_pay1 x0 x1) := by
  unfold sout0_B_0
  rw [View.read_writes_eq_canon _ _ _ (scover0_B_0 c i a3 h3 a4 h4 a6 h6 a7 h7 hc0 hc1 hc2 x0 x1 s)]
  unfold kernelRun0_B
  dsimp only
  try sl_unfold_words
  rw [View.canon_unit_zero hz]
  simp only [View.readAt_eq_ld, h3.read_unread, h4.read_unread, h7.read_unread, View.ld_unit_zero (S := S1024x1024) hz, View.ld_unit_zero (S := S704x1024) hz, View.ld_unit_zero (S := S1x1024x704) hz3, k0_pay3, shapeCast_self]

theorem last_eq (c : Dev nD) (i : grid0.Coords) (a3 h3 a4 h4 a6 h6 a7 h7 hc0 hc1 hc2) (x0 : Vec Ideal S1x1024x704 .bf16) (x1 : Vec Ideal S1024x1024 .f32) (s : Vec Ideal S704x1024 .f32) :
    out0_C_2 c i a3 h3 a4 h4 a6 h6 a7 h7 hc0 hc1 hc2 x0 x1 s = k0_pay4 (addf s (k0_pay1 x0 x1)) := by
  unfold out0_C_2
  rw [View.read_writes_eq_canon _ _ _ (cover0_C_2 c i a3 h3 a4 h4 a6 h6 a7 h7 hc0 hc1 hc2 x0 x1 s)]
  unfold kernelRun0_C
  dsimp only
  try sl_unfold_words
  rw [View.canon_unit_zero hz4]
  simp only [View.readAt_eq_ld, View.readCov_unit_zero (S := S704x1024) _ hz, h3.read_unread, h4.read_unread, h7.read_unread, View.ld_unit_zero (S := S1024x1024) hz, View.ld_unit_zero (S := S704x1024) hz, View.ld_unit_zero (S := S1x1024x704) hz3, k0_pay3, shapeCast_self]

theorem prod_at (x0 : Vec Ideal S1x1024x704 .bf16) (x1 : Vec Ideal S1024x1024 .f32) (p : Fin 704) (q : Fin 1024) :
    k0_pay1 x0 x1 (ix2 p q) = ∑ k, (x0 (ix3 0 k p) : EReal) * x1 (ix2 k q) := by
  pointwise [k0_pay1]

theorem pay4_at (x : Vec Ideal S704x1024 .f32) (u v : Fin 1) (p : Fin 704) (q : Fin 1024) :
    (k0_pay4 x (ix4 u v p q) : EReal) = x (ix2 p q) * ((0.5 : ℝ) : EReal) := by
  rw [← half]
  pointwise [k0_pay4]

theorem idx0 : ∀ t : Fin cfg0.N, win0_0.index t = ![t.val / 4, t.val % 4, 0] := by decide +kernel
theorem idx1 : ∀ t : Fin cfg0.N, win0_1.index t = ![t.val % 4, 0] := by decide +kernel
theorem idx2 : ∀ t : Fin cfg0.N, win0_2.index t = ![0, t.val / 4, 0, 0] := by decide +kernel

variable (m : (ℓ : Loc nD τ sig) → Buf (Elt Ideal) ℓ) (c : Dev nD)

/-- The activations, chunk by chunk, and the gradient of the projection's result. -/
def X : ℕ → ℕ → ℕ → EReal := at3 (n1 := 4) (n2 := 4096) (n3 := 704) (m ((c : Thread nD τ).loc main_arg0))
def Y : ℕ → ℕ → EReal := at2 (n1 := 4096) (n2 := 1024) (m ((c : Thread nD τ).loc main_arg1))

theorem x_at (t : Fin cfg0.N) (k : Fin 1024) (p : Fin 704) :
    (iblk m c 0 t (ix3 0 k p) : EReal) = X m c (t.val / 4) (1024 * (t.val % 4) + k.val) p.val := by
  unfold iblk
  rw [show V m c (Pipeline.arrRef spec0 0) = m ((c : Thread nD τ).loc main_arg0) from V_main_arg0 m c]
  exact at3_eq (n1 := 4) (n2 := 4096) (n3 := 704) _ _ (by blk_simp [idx0]; try omega) (by blk_simp [idx0]; try omega) (by blk_simp [idx0]; try omega)

theorem y_at (t : Fin cfg0.N) (k q : Fin 1024) :
    (iblk m c 1 t (ix2 k q) : EReal) = Y m c (1024 * (t.val % 4) + k.val) q.val := by
  unfold iblk
  rw [show V m c (Pipeline.arrRef spec0 1) = m ((c : Thread nD τ).loc main_arg1) from V_main_arg1 m c]
  exact at2_eq (n1 := 4096) (n2 := 1024) _ _ (by blk_simp [idx1]; try omega) (by blk_simp [idx1]; try omega)

/-- A point's product, over the arrays. -/
theorem prod_pt (t : Fin cfg0.N) (p : Fin 704) (q : Fin 1024) :
    k0_pay1 (iblk m c 0 t) (iblk m c 1 t) (ix2 p q)
      = ∑ k : Fin 1024, X m c (t.val / 4) (1024 * (t.val % 4) + k.val) p.val * Y m c (1024 * (t.val % 4) + k.val) q.val := by
  rw [prod_at]
  exact Finset.sum_congr rfl fun k _ => by rw [x_at, y_at]

/-- What the scratch holds after each of a chunk's first points: the sum over the rows so far. -/
theorem acc_at (p : Fin 704) (q : Fin 1024) : ∀ (n : ℕ) (hn : n < cfg0.N), n % 4 < 3 →
    ((outsAt0 m c n hn).2 (ix2 p q) : EReal)
      = ∑ k ∈ Finset.range (1024 * (n % 4) + 1024), X m c (n / 4) k p.val * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 1024, show (n - 1) / 4 = n / 4 by omega, show 1024 * ((n - 1) % 4) + 1024 = 1024 * (n % 4) by omega]

/-- The gradient's elements. -/
def P (i : S1x4x704x1024.Idx) : EReal := ∑ k ∈ Finset.range 4096, (((0.5 : ℝ) : EReal) * Y m c k (i 3).val) * X m c (i 1).val k (i 2).val

/-- What a chunk's last point leaves. -/
theorem out_at (t : Fin cfg0.N) (h : t.val % 4 = 3) (u v : Fin 1) (p : Fin 704) (q : Fin 1024) :
    ((outsAt0 m c t.val t.isLt).1 (ix4 u v p q) : EReal) = (∑ k ∈ Finset.range 4096, X m c (t.val / 4) k p.val * Y m c k q.val) * ((0.5 : ℝ) : EReal) := by
  rw [outsAt0_C m c t (by omega) (by omega) h]
  dsimp only
  rw [last_eq, pay4_at]
  refine congrArg (· * ((0.5 : ℝ) : EReal)) (Eq.trans (congrArg₂ (· + ·) (acc_at m c p q (t.val - 1) (by omega) (by omega)) (prod_pt m c t p q)) ?_)
  rw [h, show (t.val - 1) % 4 = 2 by omega, show (t.val - 1) / 4 = t.val / 4 by omega, show 4096 = 1024 * 3 + 1024 by rfl, sum_block _ 3 1024]

/-- The array after the run. -/
theorem final : (dats m 0 c).arrAt 2 cfg0.N = (P m c : S1x4x704x1024.Idx → EReal) := by
  refine (dats m 0 c).arrAt_eq_of_covers 2 (P m c) (by decide +kernel) (fun t hf y => ?_)
  have y0 : (y 0).val < 1 := (y 0).isLt
  have y1 : (y 1).val < 1 := (y 1).isLt
  have y2 : (y 2).val < 704 := (y 2).isLt
  have y3 : (y 3).val < 1024 := (y 3).isLt
  have h3 : t.val % 4 = 3 := (flush0_2 t).mp hf
  have e1 : ((((cfg0.win 2).blk t).view.emb y) 1).val = t.val / 4 := by blk_simp [idx2]; try omega
  have e2 : ((((cfg0.win 2).blk t).view.emb y) 2).val = (y 2).val := by blk_simp [idx2]; try omega
  have e3 : ((((cfg0.win 2).blk t).view.emb y) 3).val = (y 3).val := by blk_simp [idx2]; try omega
  refine Eq.trans (b := (outsAt0 m c t.val t.isLt).1 (ix4 ⟨(y 0).val, y0⟩ ⟨(y 1).val, y1⟩ ⟨(y 2).val, y2⟩ ⟨(y 3).val, y3⟩)) ?_ ?_
  · rw [after0_2]
    refine congrArg (outsAt0 m c t.val t.isLt).1 ?_
    funext a; fin_cases a <;> rfl
  · rw [out_at m c t h3]
    unfold P
    rw [e1, e2, e3, sum_scale _ _ 0.5 (by norm_num)]
    exact Finset.sum_congr rfl fun k _ => by rw [mul_comm (X m c _ _ _), mul_comm _ ((0.5 : ℝ) : EReal), mul_assoc]

end Cert.DownDwIdeal.Mm

namespace Cert.DownDwRefIdeal.Mm

open Cert.DownDwRefIdeal Cert.DownDwRefIdeal.Gen
open Cert.Mm
open Idealize.ShloMosaic Idealize.ShloMosaic.TcCoe Idealize.SL.Sem

theorem value (x : FVec Ideal S4x4096x704 .bf16) (y : FVec Ideal S4096x1024 .f32) (i : S1x4x704x1024.Idx) :
    (truncf .bf16 (broadcastInDim S1x4x704x1024 ![1, 2, 3] bcast_S4x704x1024_S1x4x704x1024_1_2_3 (shapeCast _ (transpose S2816x1024 [1, 0] (Host.dotGeneral dot_S4096x1024_S4096x2816_S1024x2816_0_0_1_1_n_n none (mulf (broadcastInDim S4096x1024 ![] bcast_S_S4096x1024 (constant S_ .f32 0x3F000000#32)) y) (extf .f32 (shapeCast _ (transpose S4096x4x704 [1, 0, 2] x transposes_S4x4096x704_S4096x4x704_1_0_2) shapeCasts_S4096x4x704_S4096x2816) bitsLt_bf16_f32)) transposes_S1024x2816_S2816x1024_1_0) shapeCasts_S2816x1024_S4x704x1024)) bitsLt_bf16_f32 : FVec Ideal S1x4x704x1024 .bf16) i
      = ∑ k ∈ Finset.range 4096, (((0.5 : ℝ) : EReal) * at2 (n1 := 4096) (n2 := 1024) y k (i 3).val) * at3 (n1 := 4) (n2 := 4096) (n3 := 704) x (i 1).val k (i 2).val := by
  obtain ⟨u, a, b, d, rfl⟩ : ∃ (u : Fin 1) (a : Fin 4) (b : Fin 704) (d : Fin 1024), i = ix4 u a b d := ⟨i 0, i 1, i 2, i 3, by funext x; fin_cases x <;> rfl⟩
  rw [sum_first, ← Cert.DownDwIdeal.Mm.half]
  pointwise
  refine Finset.sum_congr rfl fun k _ => ?_
  exact congrArg₂ (· * ·) (congrArg (_ * ·) (at2_eq (n1 := 4096) (n2 := 1024) y _ rfl rfl)) (at3_eq (n1 := 4) (n2 := 4096) (n3 := 704) x _ rfl rfl rfl)

end Cert.DownDwRefIdeal.Mm

namespace Cert.Proof.Mm

open Idealize.ShloMosaic Idealize.ShloMosaic.TcCoe Idealize.SL.Sem

theorem quiescent_DownDwRefIdeal : Cert.quiescent_DownDwRefIdeal := fun m ρ _ =>
  (θ_run Cert.DownDwRefIdeal.defs _ _).mono
    (fun _ h => ⟨fun c => (h c).2, sem_eq_zero_of_no_sems rfl _⟩) (Cert.DownDwRefIdeal.Value.run (F := Ideal) m ρ)

theorem quiescent_DownDw : Cert.quiescent_DownDw := fun m ρ _ => Cert.DownDw.Gen.frame m ρ
theorem quiescent_DownDwIdeal : Cert.quiescent_DownDwIdeal := fun m ρ _ => Cert.DownDwIdeal.Gen.frame m ρ

theorem algebraic_DownDw : Cert.algebraic_DownDwIdeal_DownDwRefIdeal := by
  intro m ρ m' ρ' hpre hagree
  refine ⟨fun c => (Cert.DownDwIdeal.Gen.dats m 0 c).arrAt 2 Cert.DownDwIdeal.cfg0.N, Cert.DownDwIdeal.Value.run_blocks m ρ, ?_⟩
  refine (θ_run Cert.DownDwRefIdeal.defs _ _).mono (fun r h c => ?_) (Cert.DownDwRefIdeal.Value.run (F := Ideal) m' ρ')
  refine ⟨(h c).1.trans ?_, (h c).2⟩
  refine Eq.trans ?_ (Cert.DownDwIdeal.Mm.final m c).symm
  funext i
  refine (Cert.DownDwRefIdeal.Mm.value _ _ i).trans ?_
  unfold Cert.DownDwIdeal.Mm.P Cert.DownDwIdeal.Mm.X Cert.DownDwIdeal.Mm.Y
  rw [(hagree c).1, (hagree c).2.1]

end Cert.Proof.Mm
-- ==== Proof.Mm.Gate.lean ====
/- The sigmoid over the extended reals, and the two ways to write the gradient of a gate. -/
module

public import proofs.«01_k».proof.Proof.Mm.Sum

@[expose] public section

noncomputable section

namespace Cert.Mm

open Idealize.ShloMosaic

/-- The sigmoid. -/
def sigm (x : EReal) : EReal := Ideal.div 1 (1 + Ideal.exp (-x))

/-- The sigmoid's derivative, from the quotient's rule and from the sigmoid itself: equal at the infinities as well,
    where both are zero. -/
theorem sigm_slope (x : EReal) :
    Ideal.div 1 ((1 + Ideal.exp (-x)) * (1 + Ideal.exp (-x))) * Ideal.exp (-x) = sigm x * (1 - sigm x) := by
  unfold sigm
  induction x using EReal.rec with
  | bot =>
    have h : (1 : EReal) + ⊤ = ⊤ := EReal.add_top_of_ne_bot (by decide)
    simp [Ideal.div, h]
  | top =>
    have h : Ideal.div 1 (1 + 0) = 1 := by
      rw [add_zero, ← EReal.coe_one, Ideal.div_coe one_ne_zero]
      simp
    have h1 : (1 : EReal) - 1 = 0 := by
      rw [← EReal.coe_one, ← EReal.coe_sub, sub_self, EReal.coe_zero]
    rw [EReal.neg_top, Ideal.exp_bot, mul_zero, h, h1, mul_zero]
  | coe r =>
    have h : (1 + Real.exp (-r)) ≠ 0 := by positivity
    have h2 : (1 + Real.exp (-r)) * (1 + Real.exp (-r)) ≠ 0 := mul_ne_zero h h
    rw [← EReal.coe_neg, Ideal.exp_coe, ← EReal.coe_one, ← EReal.coe_add, ← EReal.coe_mul, Ideal.div_coe h, Ideal.div_coe h2]
    simp only [← EReal.coe_mul, ← EReal.coe_sub]
    congr 1
    field_simp
    ring

/-- The gate's gradient: as the quotient's rule leaves it, and as the sigmoid's does. -/
theorem gate_grad (x w : EReal) :
    w * Ideal.div 1 (1 + Ideal.exp (0 - x))
        + (0 - (0 - x * w * Ideal.div 1 ((1 + Ideal.exp (0 - x)) * (1 + Ideal.exp (0 - x)))) * Ideal.exp (0 - x))
      = w * sigm x + x * w * (sigm x * (1 - sigm x)) := by
  rw [← sigm_slope]
  simp only [zero_sub, neg_mul, neg_neg]
  rw [mul_assoc (x * w)]
  rfl

end Cert.Mm
-- ==== Proof.Mm.UpAct.lean ====
/- The gate and up products of a gated feed-forward and their activation: each point makes one block of each. -/
module

public import proofs.«01_k».proof.Proof.Gen.UpAct.Frame
public import proofs.«01_k».proof.Proof.Gen.UpActIdeal.Frame
public import proofs.«01_k».proof.Proof.Gen.UpActIdeal.Value
public import proofs.«01_k».proof.Proof.Gen.UpActRefIdeal.Run
public import proofs.«01_k».proof.Proof.Mm.Sum
public import proofs.«01_k».proof.Proof.Mm.Gate
public import proofs.«01_k».proof.Defs

@[expose] public section

set_option maxRecDepth 16384

noncomputable section

namespace Cert.UpActIdeal.Mm

open Cert.UpActIdeal Cert.UpActIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem gate_eq (x0 : Vec Ideal S1024x1024 .bf16) (x1 x2 : Vec Ideal S1x1x1024x704 .bf16) : out0_3 x0 x1 x2 = k0_pay3 x0 x1 := by
  unfold out0_3
  rw [View.canon_unit_zero hz3]
  simp only [View.ld_unit_zero (S := S1024x1024) hz, View.ld_unit_zero (S := S1x1x1024x704) hz4]

theorem up_eq (x0 : Vec Ideal S1024x1024 .bf16) (x1 x2 : Vec Ideal S1x1x1024x704 .bf16) : out0_4 x0 x1 x2 = k0_pay4 x0 x2 := by
  unfold out0_4
  rw [View.canon_unit_zero hz3]
  simp only [View.ld_unit_zero (S := S1024x1024) hz, View.ld_unit_zero (S := S1x1x1024x704) hz4]

theorem act_eq (x0 : Vec Ideal S1024x1024 .bf16) (x1 x2 : Vec Ideal S1x1x1024x704 .bf16) : out0_5 x0 x1 x2 = k0_pay5 x0 x1 x2 := by
  unfold out0_5
  rw [View.canon_unit_zero hz3]
  simp only [View.ld_unit_zero (S := S1024x1024) hz, View.ld_unit_zero (S := S1x1x1024x704) hz4]

theorem gate_at (x0 : Vec Ideal S1024x1024 .bf16) (x1 : Vec Ideal S1x1x1024x704 .bf16) (u : Fin 1) (p : Fin 1024) (q : Fin 704) :
    k0_pay3 x0 x1 (ix3 u p q) = ∑ k, (x0 (ix2 p k) : EReal) * x1 (ix4 0 0 k q) := by
  pointwise [k0_pay3, k0_pay1]

theorem up_at (x0 : Vec Ideal S1024x1024 .bf16) (x1 : Vec Ideal S1x1x1024x704 .bf16) (u : Fin 1) (p : Fin 1024) (q : Fin 704) :
    k0_pay4 x0 x1 (ix3 u p q) = ∑ k, (x0 (ix2 p k) : EReal) * x1 (ix4 0 0 k q) := by
  pointwise [k0_pay4, k0_pay2]

theorem act_at (x0 : Vec Ideal S1024x1024 .bf16) (x1 x2 : Vec Ideal S1x1x1024x704 .bf16) (u : Fin 1) (p : Fin 1024) (q : Fin 704) :
    (k0_pay5 x0 x1 x2 (ix3 u p q) : EReal) = (k0_pay3 x0 x1 (ix3 u p q) : EReal) * sigm (k0_pay3 x0 x1 (ix3 u p q)) * k0_pay4 x0 x2 (ix3 u p q) := by
  rw [gate_at, up_at]
  unfold sigm
  rw [← zero_sub (∑ k, (x0 (ix2 p k) : EReal) * x1 (ix4 0 0 k q))]
  pointwise [k0_pay5, k0_pay1, k0_pay2]

theorem idx0 : ∀ t : Fin cfg0.N, win0_0.index t = ![t.val % 4, 0] := by decide +kernel
theorem idx1 : ∀ t : Fin cfg0.N, win0_1.index t = ![t.val / 4, 1, 0, 0] := by decide +kernel
theorem idx2 : ∀ t : Fin cfg0.N, win0_2.index t = ![t.val / 4, 1, 0, 0] := by decide +kernel
theorem idx3 : ∀ t : Fin cfg0.N, win0_3.index t = ![t.val / 4, t.val % 4, 0] := by decide +kernel
theorem idx4 : ∀ t : Fin cfg0.N, win0_4.index t = ![t.val / 4, t.val % 4, 0] := by decide +kernel
theorem idx5 : ∀ t : Fin cfg0.N, win0_5.index t = ![t.val / 4, t.val % 4, 0] := by decide +kernel

variable (m : (ℓ : Loc nD τ sig) → Buf (Elt Ideal) ℓ) (c : Dev nD)

/-- The activations, and the gate and up weights in blocks of columns of three layers. -/
def H : ℕ → ℕ → EReal := at2 (n1 := 4096) (n2 := 1024) (m ((c : Thread nD τ).loc main_arg0))
def WG : ℕ → ℕ → ℕ → ℕ → EReal := at4 (n1 := 4) (n2 := 3) (n3 := 1024) (n4 := 704) (m ((c : Thread nD τ).loc main_arg1))
def WU : ℕ → ℕ → ℕ → ℕ → EReal := at4 (n1 := 4) (n2 := 3) (n3 := 1024) (n4 := 704) (m ((c : Thread nD τ).loc main_arg2))

theorem h_at (t : Fin cfg0.N) (p k : Fin 1024) : (iblk m c 0 t (ix2 p k) : EReal) = H m c (1024 * (t.val % 4) + p.val) k.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem wg_at (t : Fin cfg0.N) (k : Fin 1024) (q : Fin 704) : (iblk m c 1 t (ix4 0 0 k q) : EReal) = WG m c (t.val / 4) 1 k.val q.val := by
  unfold iblk
  rw [show V m c (Pipeline.arrRef spec0 1) = m ((c : Thread nD τ).loc main_arg1) from V_main_arg1 m c]
  exact at4_eq (n1 := 4) (n2 := 3) (n3 := 1024) (n4 := 704) _ _ (by blk_simp [idx1]; try omega) (by blk_simp [idx1]; try omega) (by blk_simp [idx1]; try omega) (by blk_simp [idx1]; try omega)

theorem wu_at (t : Fin cfg0.N) (k : Fin 1024) (q : Fin 704) : (iblk m c 2 t (ix4 0 0 k q) : EReal) = WU m c (t.val / 4) 1 k.val q.val := by
  unfold iblk
  rw [show V m c (Pipeline.arrRef spec0 2) = m ((c : Thread nD τ).loc main_arg2) from V_main_arg2 m c]
  exact at4_eq (n1 := 4) (n2 := 3) (n3 := 1024) (n4 := 704) _ _ (by blk_simp [idx2]; try omega) (by blk_simp [idx2]; try omega) (by blk_simp [idx2]; try omega) (by blk_simp [idx2]; try omega)

/-- The elements of the three results. -/
def PG (i : S4x4096x704.Idx) : EReal := ∑ k ∈ Finset.range 1024, H m c (i 1).val k * WG m c (i 0).val 1 k (i 2).val
def PU (i : S4x4096x704.Idx) : EReal := ∑ k ∈ Finset.range 1024, H m c (i 1).val k * WU m c (i 0).val 1 k (i 2).val
def PA (i : S4x4096x704.Idx) : EReal := PG m c i * sigm (PG m c i) * PU m c i

theorem gate_pt (t : Fin cfg0.N) (u : Fin 1) (p : Fin 1024) (q : Fin 704) (i : S4x4096x704.Idx)
    (e0 : (i 0).val = t.val / 4) (e1 : (i 1).val = 1024 * (t.val % 4) + p.val) (e2 : (i 2).val = q.val) :
    (k0_pay3 (iblk m c 0 t) (iblk m c 1 t) (ix3 u p q) : EReal) = PG m c i := by
  rw [gate_at]
  unfold PG
  rw [sum_first, e0, e1, e2]
  exact Finset.sum_congr rfl fun k _ => by rw [h_at, wg_at]

theorem up_pt (t : Fin cfg0.N) (u : Fin 1) (p : Fin 1024) (q : Fin 704) (i : S4x4096x704.Idx)
    (e0 : (i 0).val = t.val / 4) (e1 : (i 1).val = 1024 * (t.val % 4) + p.val) (e2 : (i 2).val = q.val) :
    (k0_pay4 (iblk m c 0 t) (iblk m c 2 t) (ix3 u p q) : EReal) = PU m c i := by
  rw [up_at]
  unfold PU
  rw [sum_first, e0, e1, e2]
  exact Finset.sum_congr rfl fun k _ => by rw [h_at, wu_at]
theorem act_pt (t : Fin cfg0.N) (u : Fin 1) (p : Fin 1024) (q : Fin 704) (i : S4x4096x704.Idx)
    (e0 : (i 0).val = t.val / 4) (e1 : (i 1).val = 1024 * (t.val % 4) + p.val) (e2 : (i 2).val = q.val) :
    (k0_pay5 (iblk m c 0 t) (iblk m c 1 t) (iblk m c 2 t) (ix3 u p q) : EReal) = PA m c i := by
  rw [act_at, gate_pt m c t u p q i e0 e1 e2, up_pt m c t u p q i e0 e1 e2]
  rfl

/-- The gate array after the run. -/
theorem final_gate : (dats m 0 c).arrAt 3 cfg0.N = (PG m c : S4x4096x704.Idx → EReal) := by
  refine (dats m 0 c).arrAt_eq_of_covers 3 (PG m c) (by decide +kernel) (fun t hf y => ?_)
  have y0 : (y 0).val < 1 := (y 0).isLt
  have y1 : (y 1).val < 1024 := (y 1).isLt
  have y2 : (y 2).val < 704 := (y 2).isLt
  have e0 : ((((cfg0.win 3).blk t).view.emb y) 0).val = t.val / 4 := by blk_simp [idx3]; try omega
  have e1 : ((((cfg0.win 3).blk t).view.emb y) 1).val = 1024 * (t.val % 4) + (y 1).val := by blk_simp [idx3]; try omega
  have e2 : ((((cfg0.win 3).blk t).view.emb y) 2).val = (y 2).val := by blk_simp [idx3]; try omega
  refine Eq.trans (b := k0_pay3 (iblk m c 0 t) (iblk m c 1 t) (ix3 ⟨(y 0).val, y0⟩ ⟨(y 1).val, y1⟩ ⟨(y 2).val, y2⟩)) ?_ ?_
  · rw [after0_3, gate_eq]
    refine congrArg (k0_pay3 (iblk m c 0 t) (iblk m c 1 t)) ?_
    funext a; fin_cases a <;> rfl
  · exact gate_pt m c t _ _ _ _ e0 e1 e2

/-- The up array after the run. -/
theorem final_up : (dats m 0 c).arrAt 4 cfg0.N = (PU m c : S4x4096x704.Idx → EReal) := by
  refine (dats m 0 c).arrAt_eq_of_covers 4 (PU m c) (by decide +kernel) (fun t hf y => ?_)
  have y0 : (y 0).val < 1 := (y 0).isLt
  have y1 : (y 1).val < 1024 := (y 1).isLt
  have y2 : (y 2).val < 704 := (y 2).isLt
  have e0 : ((((cfg0.win 4).blk t).view.emb y) 0).val = t.val / 4 := by blk_simp [idx4]; try omega
  have e1 : ((((cfg0.win 4).blk t).view.emb y) 1).val = 1024 * (t.val % 4) + (y 1).val := by blk_simp [idx4]; try omega
  have e2 : ((((cfg0.win 4).blk t).view.emb y) 2).val = (y 2).val := by blk_simp [idx4]; try omega
  refine Eq.trans (b := k0_pay4 (iblk m c 0 t) (iblk m c 2 t) (ix3 ⟨(y 0).val, y0⟩ ⟨(y 1).val, y1⟩ ⟨(y 2).val, y2⟩)) ?_ ?_
  · rw [after0_4, up_eq]
    refine congrArg (k0_pay4 (iblk m c 0 t) (iblk m c 2 t)) ?_
    funext a; fin_cases a <;> rfl
  · exact up_pt m c t _ _ _ _ e0 e1 e2

/-- The act array after the run. -/
theorem final_act : (dats m 0 c).arrAt 5 cfg0.N = (PA m c : S4x4096x704.Idx → EReal) := by
  refine (dats m 0 c).arrAt_eq_of_covers 5 (PA m c) (by decide +kernel) (fun t hf y => ?_)
  have y0 : (y 0).val < 1 := (y 0).isLt
  have y1 : (y 1).val < 1024 := (y 1).isLt
  have y2 : (y 2).val < 704 := (y 2).isLt
  have e0 : ((((cfg0.win 5).blk t).view.emb y) 0).val = t.val / 4 := by blk_simp [idx5]; try omega
  have e1 : ((((cfg0.win 5).blk t).view.emb y) 1).val = 1024 * (t.val % 4) + (y 1).val := by blk_simp [idx5]; try omega
  have e2 : ((((cfg0.win 5).blk t).view.emb y) 2).val = (y 2).val := by blk_simp [idx5]; try omega
  refine Eq.trans (b := k0_pay5 (iblk m c 0 t) (iblk m c 1 t) (iblk m c 2 t) (ix3 ⟨(y 0).val, y0⟩ ⟨(y 1).val, y1⟩ ⟨(y 2).val, y2⟩)) ?_ ?_
  · rw [after0_5, act_eq]
    refine congrArg (k0_pay5 (iblk m c 0 t) (iblk m c 1 t) (iblk m c 2 t)) ?_
    funext a; fin_cases a <;> rfl
  · exact act_pt m c t _ _ _ _ e0 e1 e2

end Cert.UpActIdeal.Mm

namespace Cert.UpActRefIdeal.Mm

open Cert.UpActRefIdeal Cert.UpActRefIdeal.Gen
open Cert.Mm
open Idealize.ShloMosaic Idealize.ShloMosaic.TcCoe Idealize.SL.Sem

theorem gate_value (x : FVec Ideal S4096x1024 .bf16) (y : FVec Ideal S4x3x1024x704 .bf16) (i : S4x4096x704.Idx) :
    (truncf .bf16 (transpose S4x4096x704 [1, 0, 2] (shapeCast _ (Host.dotGeneral dot_S4096x1024_S1024x2816_S4096x2816_1_0_0_1_n_n none (extf .f32 x bitsLt_bf16_f32) (extf .f32 (shapeCast _ (transpose S1024x4x704 [1, 0, 2] (shapeCast _ (extractStridedSlice S4x1x1024x704 ![0, 1, 0, 0] y slices_S4x3x1024x704_S4x1x1024x704_0_1_0_0) shapeCasts_S4x1x1024x704_S4x1024x704) transposes_S4x1024x704_S1024x4x704_1_0_2) shapeCasts_S1024x4x704_S1024x2816) bitsLt_bf16_f32)) shapeCasts_S4096x2816_S4096x4x704) transposes_S4096x4x704_S4x4096x704_1_0_2) bitsLt_bf16_f32 : FVec Ideal S4x4096x704 .bf16) i
      = ∑ k ∈ Finset.range 1024, at2 (n1 := 4096) (n2 := 1024) x (i 1).val k * at4 (n1 := 4) (n2 := 3) (n3 := 1024) (n4 := 704) y (i 0).val 1 k (i 2).val := by
  obtain ⟨a, b, d, rfl⟩ : ∃ (a : Fin 4) (b : Fin 4096) (d : Fin 704), i = ix3 a b d := ⟨i 0, i 1, i 2, by funext x; fin_cases x <;> rfl⟩
  rw [sum_first]
  pointwise
  exact Finset.sum_congr rfl fun k _ => congrArg₂ (· * ·) (at2_eq (n1 := 4096) (n2 := 1024) x _ rfl rfl)
    (at4_eq (n1 := 4) (n2 := 3) (n3 := 1024) (n4 := 704) y _ rfl rfl rfl rfl)

theorem up_value (x : FVec Ideal S4096x1024 .bf16) (z : FVec Ideal S4x3x1024x704 .bf16) (i : S4x4096x704.Idx) :
    (truncf .bf16 (transpose S4x4096x704 [1, 0, 2] (shapeCast _ (Host.dotGeneral dot_S4096x1024_S1024x2816_S4096x2816_1_0_0_1_n_n none (extf .f32 x bitsLt_bf16_f32) (extf .f32 (shapeCast _ (transpose S1024x4x704 [1, 0, 2] (shapeCast _ (extractStridedSlice S4x1x1024x704 ![0, 1, 0, 0] z slices_S4x3x1024x704_S4x1x1024x704_0_1_0_0) shapeCasts_S4x1x1024x704_S4x1024x704) transposes_S4x1024x704_S1024x4x704_1_0_2) shapeCasts_S1024x4x704_S1024x2816) bitsLt_bf16_f32)) shapeCasts_S4096x2816_S4096x4x704) transposes_S4096x4x704_S4x4096x704_1_0_2) bitsLt_bf16_f32 : FVec Ideal S4x4096x704 .bf16) i
      = ∑ k ∈ Finset.range 1024, at2 (n1 := 4096) (n2 := 1024) x (i 1).val k * at4 (n1 := 4) (n2 := 3) (n3 := 1024) (n4 := 704) z (i 0).val 1 k (i 2).val := by
  obtain ⟨a, b, d, rfl⟩ : ∃ (a : Fin 4) (b : Fin 4096) (d : Fin 704), i = ix3 a b d := ⟨i 0, i 1, i 2, by funext x; fin_cases x <;> rfl⟩
  rw [sum_first]
  pointwise
  exact Finset.sum_congr rfl fun k _ => congrArg₂ (· * ·) (at2_eq (n1 := 4096) (n2 := 1024) x _ rfl rfl)
    (at4_eq (n1 := 4) (n2 := 3) (n3 := 1024) (n4 := 704) z _ rfl rfl rfl rfl)

theorem act_value (x : FVec Ideal S4096x1024 .bf16) (y z : FVec Ideal S4x3x1024x704 .bf16) (i : S4x4096x704.Idx) :
    (truncf .bf16 (transpose S4x4096x704 [1, 0, 2] (shapeCast _ (mulf (mulf (Host.dotGeneral dot_S4096x1024_S1024x2816_S4096x2816_1_0_0_1_n_n none (extf .f32 x bitsLt_bf16_f32) (extf .f32 (shapeCast _ (transpose S1024x4x704 [1, 0, 2] (shapeCast _ (extractStridedSlice S4x1x1024x704 ![0, 1, 0, 0] y slices_S4x3x1024x704_S4x1x1024x704_0_1_0_0) shapeCasts_S4x1x1024x704_S4x1024x704) transposes_S4x1024x704_S1024x4x704_1_0_2) shapeCasts_S1024x4x704_S1024x2816) bitsLt_bf16_f32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (extf .f32 x bitsLt_bf16_f32) (extf .f32 (shapeCast _ (transpose S1024x4x704 [1, 0, 2] (shapeCast _ (extractStridedSlice S4x1x1024x704 ![0, 1, 0, 0] y slices_S4x3x1024x704_S4x1x1024x704_0_1_0_0) shapeCasts_S4x1x1024x704_S4x1024x704) transposes_S4x1024x704_S1024x4x704_1_0_2) shapeCasts_S1024x4x704_S1024x2816) bitsLt_bf16_f32))))))) (Host.dotGeneral dot_S4096x1024_S1024x2816_S4096x2816_1_0_0_1_n_n none (extf .f32 x bitsLt_bf16_f32) (extf .f32 (shapeCast _ (transpose S1024x4x704 [1, 0, 2] (shapeCast _ (extractStridedSlice S4x1x1024x704 ![0, 1, 0, 0] z slices_S4x3x1024x704_S4x1x1024x704_0_1_0_0) shapeCasts_S4x1x1024x704_S4x1024x704) transposes_S4x1024x704_S1024x4x704_1_0_2) shapeCasts_S1024x4x704_S1024x2816) bitsLt_bf16_f32))) shapeCasts_S4096x2816_S4096x4x704) transposes_S4096x4x704_S4x4096x704_1_0_2) bitsLt_bf16_f32 : FVec Ideal S4x4096x704 .bf16) i
      = (∑ k ∈ Finset.range 1024, at2 (n1 := 4096) (n2 := 1024) x (i 1).val k * at4 (n1 := 4) (n2 := 3) (n3 := 1024) (n4 := 704) y (i 0).val 1 k (i 2).val) * sigm (∑ k ∈ Finset.range 1024, at2 (n1 := 4096) (n2 := 1024) x (i 1).val k * at4 (n1 := 4) (n2 := 3) (n3 := 1024) (n4 := 704) y (i 0).val 1 k (i 2).val)
        * (∑ k ∈ Finset.range 1024, at2 (n1 := 4096) (n2 := 1024) x (i 1).val k * at4 (n1 := 4) (n2 := 3) (n3 := 1024) (n4 := 704) z (i 0).val 1 k (i 2).val) := by
  rw [← gate_value x y i, ← up_value x z i]
  unfold sigm
  obtain ⟨a, b, d, rfl⟩ : ∃ (a : Fin 4) (b : Fin 4096) (d : Fin 704), i = ix3 a b d := ⟨i 0, i 1, i 2, by funext x; fin_cases x <;> rfl⟩
  pointwise

end Cert.UpActRefIdeal.Mm

namespace Cert.Proof.Mm

open Idealize.ShloMosaic Idealize.ShloMosaic.TcCoe Idealize.SL.Sem

theorem quiescent_UpActRefIdeal : Cert.quiescent_UpActRefIdeal := fun m ρ _ =>
  (θ_run Cert.UpActRefIdeal.defs _ _).mono
    (fun _ h => ⟨fun c => (h c).2.2.2, sem_eq_zero_of_no_sems rfl _⟩) (Cert.UpActRefIdeal.Value.run (F := Ideal) m ρ)

theorem quiescent_UpAct : Cert.quiescent_UpAct := fun m ρ _ => Cert.UpAct.Gen.frame m ρ
theorem quiescent_UpActIdeal : Cert.quiescent_UpActIdeal := fun m ρ _ => Cert.UpActIdeal.Gen.frame m ρ

theorem algebraic_UpAct : Cert.algebraic_UpActIdeal_UpActRefIdeal := by
  intro m ρ m' ρ' hpre hagree
  refine ⟨fun c => (Cert.UpActIdeal.Gen.dats m 0 c).arrAt 3 Cert.UpActIdeal.cfg0.N, fun c => (Cert.UpActIdeal.Gen.dats m 0 c).arrAt 4 Cert.UpActIdeal.cfg0.N,
    fun c => (Cert.UpActIdeal.Gen.dats m 0 c).arrAt 5 Cert.UpActIdeal.cfg0.N, Cert.UpActIdeal.Value.run_blocks m ρ, ?_⟩
  refine (θ_run Cert.UpActRefIdeal.defs _ _).mono (fun r h c => ?_) (Cert.UpActRefIdeal.Value.run (F := Ideal) m' ρ')
  refine ⟨(h c).1.trans ?_, (h c).2.1.trans ?_, (h c).2.2.1.trans ?_, (h c).2.2.2⟩
  · refine Eq.trans ?_ (Cert.UpActIdeal.Mm.final_gate m c).symm
    funext i
    refine (Cert.UpActRefIdeal.Mm.gate_value _ _ i).trans ?_
    unfold Cert.UpActIdeal.Mm.PG Cert.UpActIdeal.Mm.H Cert.UpActIdeal.Mm.WG
    rw [(hagree c).1, (hagree c).2.1]
  · refine Eq.trans ?_ (Cert.UpActIdeal.Mm.final_up m c).symm
    funext i
    refine (Cert.UpActRefIdeal.Mm.up_value _ _ i).trans ?_
    unfold Cert.UpActIdeal.Mm.PU Cert.UpActIdeal.Mm.H Cert.UpActIdeal.Mm.WU
    rw [(hagree c).1, (hagree c).2.2]
  · refine Eq.trans ?_ (Cert.UpActIdeal.Mm.final_act m c).symm
    funext i
    refine (Cert.UpActRefIdeal.Mm.act_value _ _ _ i).trans ?_
    unfold Cert.UpActIdeal.Mm.PA Cert.UpActIdeal.Mm.PG Cert.UpActIdeal.Mm.PU Cert.UpActIdeal.Mm.H Cert.UpActIdeal.Mm.WG Cert.UpActIdeal.Mm.WU
    rw [(hagree c).1, (hagree c).2.1, (hagree c).2.2]

end Cert.Proof.Mm
-- ==== Proof.Mm.Down.lean ====
/- The down product of a gated feed-forward: the sum by blocks of columns is the product, half of it is added to the input. -/
module

public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Mm.Sum
public import proofs.«01_k».proof.Defs

@[expose] public section

set_option maxRecDepth 16384

noncomputable section

namespace Cert.DownIdeal.Mm

open Cert.DownIdeal Cert.DownIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem half : Ideal.ofBits .f32 0x3F000000#32 = ((1 / 2 : ℝ) : EReal) := by
  simp [Ideal.ofBits, Ideal.ieee]
  rw [← EReal.coe_mul]
  norm_num

theorem first_eq (c : Dev nD) (i : grid0.Coords) (a3 h3 a4 h4 a5 h5 a6 h6 a7 h7 hc0 hc1 hc2) (x0 : Vec Ideal S1x1024x704 .bf16) (x1 : Vec Ideal S1x1x704x1024 .bf16) (r : Vec Ideal S1024x1024 .f32) :
    sout0_A_0 c i a3 h3 a4 h4 a5 h5 a6 h6 a7 h7 hc0 hc1 hc2 x0 x1 r = k0_pay1 x0 x1 := by
  unfold sout0_A_0
  rw [View.read_writes_eq_canon _ _ _ (scover0_A_0 c i a3 h3 a4 h4 a5 h5 a6 h6 a7 h7 hc0 hc1 hc2 x0 x1 r)]
  unfold kernelRun0_A
  dsimp only
  try sl_unfold_words
  rw [View.canon_unit_zero hz]
  simp only [View.readAt_eq_ld, h3.read_unread, h4.read_unread, h5.read_unread, View.ld_unit_zero (S := S1024x1024) hz, View.ld_unit_zero (S := S1x1024x704) hz3, View.ld_unit_zero (S := S1x1x704x1024) hz4, k0_pay2, shapeCast_self]

theorem next_eq (c : Dev nD) (i : grid0.Coords) (a3 h3 a4 h4 a5 h5 a6 h6 a7 h7 hc0 hc1 hc2) (x0 : Vec Ideal S1x1024x704 .bf16) (x1 : Vec Ideal S1x1x704x1024 .bf16) (r : Vec Ideal S1024x1024 .f32) (s : Vec Ideal S1024x1024 .f32) :
    sout0_B_0 c i a3 h3 a4 h4 a5 h5 a6 h6 a7 h7 hc0 hc1 hc2 x0 x1 r s = addf s (k0_pay1 x0 x1) := by
  unfold sout0_B_0
  rw [View.read_writes_eq_canon _ _ _ (scover0_B_0 c i a3 h3 a4 h4 a5 h5 a6 h6 a7 h7 hc0 hc1 hc2 x0 x1 r s)]
  unfold kernelRun0_B
  dsimp only
  try sl_unfold_words
  rw [View.canon_unit_zero hz]
  simp only [View.readAt_eq_ld, h3.read_unread, h4.read_unread, h5.read_unread, h7.read_unread, View.ld_unit_zero (S := S1024x1024) hz, View.ld_unit_zero (S := S1x1024x704) hz3, View.ld_unit_zero (S := S1x1x704x1024) hz4, k0_pay3, shapeCast_self]

theorem last_eq (c : Dev nD) (i : grid0.Coords) (a3 h3 a4 h4 a5 h5 a6 h6 a7 h7 hc0 hc1 hc2) (x0 : Vec Ideal S1x1024x704 .bf16) (x1 : Vec Ideal S1x1x704x1024 .bf16) (r : Vec Ideal S1024x1024 .f32) (s : Vec Ideal S1024x1024 .f32) :
    out0_C_3 c i a3 h3 a4 h4 a5 h5 a6 h6 a7 h7 hc0 hc1 hc2 x0 x1 r s = k0_pay4 (addf s (k0_pay1 x0 x1)) r := by
  unfold out0_C_3
  rw [View.read_writes_eq_canon _ _ _ (cover0_C_3 c i a3 h3 a4 h4 a5 h5 a6 h6 a7 h7 hc0 hc1 hc2 x0 x1 r s)]
  unfold kernelRun0_C
  dsimp only
  try sl_unfold_words
  rw [View.canon_unit_zero hz]
  simp only [View.readAt_eq_ld, View.readCov_unit_zero (S := S1024x1024) _ hz, h3.read_unread, h4.read_unread, h5.read_unread, h7.read_unread, View.ld_unit_zero (S := S1024x1024) hz, View.ld_unit_zero (S := S1x1024x704) hz3, View.ld_unit_zero (S := S1x1x704x1024) hz4, k0_pay3, shapeCast_self]

theorem prod_at (x0 : Vec Ideal S1x1024x704 .bf16) (x1 : Vec Ideal S1x1x704x1024 .bf16) (p q : Fin 1024) :
    k0_pay1 x0 x1 (ix2 p q) = ∑ k, (x0 (ix3 0 p k) : EReal) * x1 (ix4 0 0 k q) := by
  pointwise [k0_pay1]

theorem pay4_at (s r : Vec Ideal S1024x1024 .f32) (p q : Fin 1024) :
    (k0_pay4 s r (ix2 p q) : EReal) = s (ix2 p q) * ((1 / 2 : ℝ) : EReal) + r (ix2 p q) := by
  rw [← half]
  pointwise [k0_pay4]

theorem idx0 : ∀ t : Fin cfg0.N, win0_0.index t = ![t.val % 4, t.val / 4, 0] := by decide +kernel
theorem idx1 : ∀ t : Fin cfg0.N, win0_1.index t = ![t.val % 4, 1, 0, 0] := by decide +kernel
theorem idx2 : ∀ t : Fin cfg0.N, win0_2.index t = ![t.val / 4, 0] := by decide +kernel

variable (m : (ℓ : Loc nD τ sig) → Buf (Elt Ideal) ℓ) (c : Dev nD)

/-- The left operand, held in four blocks of columns, and the layer's weight, held in four blocks. -/
def X (p k : ℕ) : EReal := at3 (n1 := 4) (n2 := 4096) (n3 := 704) (m ((c : Thread nD τ).loc main_arg0)) (k / 704) p (k % 704)
def Y (k q : ℕ) : EReal := at4 (n1 := 4) (n2 := 3) (n3 := 704) (n4 := 1024) (m ((c : Thread nD τ).loc main_arg1)) (k / 704) 1 (k % 704) q
/-- The array added to the product. -/
def R : ℕ → ℕ → EReal := at2 (n1 := 4096) (n2 := 1024) (m ((c : Thread nD τ).loc main_arg2))

theorem x_at (t : Fin cfg0.N) (p : Fin 1024) (k : Fin 704) :
    (iblk m c 0 t (ix3 0 p k) : EReal) = X m c (1024 * (t.val / 4) + p.val) (704 * (t.val % 4) + k.val) := by
  have hk := k.isLt
  unfold iblk X
  rw [show V m c (Pipeline.arrRef spec0 0) = m ((c : Thread nD τ).loc main_arg0) from V_main_arg0 m c]
  exact at3_eq (n1 := 4) (n2 := 4096) (n3 := 704) _ _ (by blk_simp [idx0]; try omega) (by blk_simp [idx0]; try omega) (by blk_simp [idx0]; try omega)

theorem y_at (t : Fin cfg0.N) (q : Fin 1024) (k : Fin 704) :
    (iblk m c 1 t (ix4 0 0 k q) : EReal) = Y m c (704 * (t.val % 4) + k.val) q.val := by
  have hk := k.isLt
  unfold iblk Y
  rw [show V m c (Pipeline.arrRef spec0 1) = m ((c : Thread nD τ).loc main_arg1) from V_main_arg1 m c]
  exact at4_eq (n1 := 4) (n2 := 3) (n3 := 704) (n4 := 1024) _ _ (by blk_simp [idx1]; try omega) (by blk_simp [idx1]; try omega) (by blk_simp [idx1]; try omega) (by blk_simp [idx1]; try omega)

theorem r_at (t : Fin cfg0.N) (p q : Fin 1024) :
    (iblk m c 2 t (ix2 p q) : EReal) = R m c (1024 * (t.val / 4) + p.val) q.val := by
  unfold iblk
  rw [show V m c (Pipeline.arrRef spec0 2) = m ((c : Thread nD τ).loc main_arg2) from V_main_arg2 m c]
  exact at2_eq (n1 := 4096) (n2 := 1024) _ _ (by blk_simp [idx2]; try omega) (by blk_simp [idx2]; try omega)

/-- A point's product, over the arrays. -/
theorem prod_pt (t : Fin cfg0.N) (p q : Fin 1024) :
    k0_pay1 (iblk m c 0 t) (iblk m c 1 t) (ix2 p q)
      = ∑ k : Fin 704, X m c (1024 * (t.val / 4) + p.val) (704 * (t.val % 4) + k.val) * Y m c (704 * (t.val % 4) + k.val) q.val := by
  rw [prod_at]
  exact Finset.sum_congr rfl fun k _ => by rw [x_at, y_at]

/-- What the scratch holds after each of a row block's first three points: the sum over the columns so far. -/
theorem acc_at (p q : Fin 1024) : ∀ (n : ℕ) (hn : n < cfg0.N), n % 4 < 3 →
    ((outsAt0 m c n hn).2 (ix2 p q) : EReal)
      = ∑ k ∈ Finset.range (704 * (n % 4) + 704), X m c (1024 * (n / 4) + p.val) k * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 704]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 704, show (n - 1) / 4 = n / 4 by omega, show 704 * ((n - 1) % 4) + 704 = 704 * (n % 4) by omega]

/-- The array after the run. -/
def P (i : S4096x1024.Idx) : EReal := R m c (i 0).val (i 1).val + ((1 / 2 : ℝ) : EReal) * (∑ k ∈ Finset.range 2816, X m c (i 0).val k * Y m c k (i 1).val)

theorem out_at (n : ℕ) (hn : n < cfg0.N) (h3 : n % 4 = 3) (p q : Fin 1024) (i : S4096x1024.Idx)
    (e0 : (i 0).val = 1024 * (n / 4) + p.val) (e1 : (i 1).val = q.val) :
    ((outsAt0 m c n hn).1 (ix2 p q) : EReal) = P m c i := by
  rw [outsAt0_C m c ⟨n, hn⟩ (by dsimp only; omega) (by dsimp only; omega) (by dsimp only; omega)]
  dsimp only
  have hs := Eq.trans (congrArg₂ (· + ·) (acc_at m c p q (n - 1) (by omega) (by omega)) (prod_pt m c ⟨n, hn⟩ p q))
    (by
      dsimp only
      rw [show (n - 1) % 4 = 2 by omega, h3, show (n - 1) / 4 = n / 4 by omega, ← sum_block _ 3 704] : _ = ∑ k ∈ Finset.range 2816, X m c (1024 * (n / 4) + p.val) k * Y m c k q.val)
  rw [last_eq, pay4_at]
  unfold P
  rw [e0, e1, r_at, add_comm]
  exact congrArg (R m c _ _ + ·) ((congrArg (· * ((1 / 2 : ℝ) : EReal)) hs).trans (mul_comm _ _))

theorem final (i : S4096x1024.Idx) : (Value.G3 m c i : EReal) = P m c i := by
  have b0 : (i 0).val < 4096 := (i 0).isLt
  have b1 : (i 1).val < 1024 := (i 1).isLt
  have hN : cfg0.N = 16 := N_0
  have hp : Value.pt3Of i = 4 * ((i 0).val / 1024) + 3 := by simp only [Value.pt3Of, Value.run3Of]; omega
  have hl : Value.loc3Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt3Of i < cfg0.N := by rw [hp, hN]; omega
  unfold Value.G3
  rw [dif_pos hlt, ← Value.outsAt0_sweep m c _ hlt, hl]
  exact out_at m c _ hlt (by omega) _ _ i (by dsimp only; omega) rfl

end Cert.DownIdeal.Mm

namespace Cert.DownRefIdeal.Mm

open Cert.DownRefIdeal Cert.DownRefIdeal.Gen
open Cert.Mm
open Idealize.ShloMosaic Idealize.ShloMosaic.TcCoe Idealize.SL.Sem

theorem value (x : FVec Ideal S4x4096x704 .bf16) (y : FVec Ideal S4x3x704x1024 .bf16) (z : FVec Ideal S4096x1024 .f32) (i : S4096x1024.Idx) :
    (addf z (mulf (broadcastInDim S4096x1024 ![] bcast_S_S4096x1024 (constant S_ .f32 0x3F000000#32)) (Host.dotGeneral dot_S4096x2816_S2816x1024_S4096x1024_1_0_0_1_n_n none (extf .f32 (shapeCast _ (transpose S4096x4x704 [1, 0, 2] x transposes_S4x4096x704_S4096x4x704_1_0_2) shapeCasts_S4096x4x704_S4096x2816) bitsLt_bf16_f32) (extf .f32 (shapeCast _ (shapeCast _ (extractStridedSlice S4x1x704x1024 ![0, 1, 0, 0] y slices_S4x3x704x1024_S4x1x704x1024_0_1_0_0) shapeCasts_S4x1x704x1024_S4x704x1024) shapeCasts_S4x704x1024_S2816x1024) bitsLt_bf16_f32))) : FVec Ideal S4096x1024 .f32) i
      = at2 (n1 := 4096) (n2 := 1024) z (i 0).val (i 1).val + ((1 / 2 : ℝ) : EReal) * (∑ k ∈ Finset.range 2816, at3 (n1 := 4) (n2 := 4096) (n3 := 704) x (k / 704) (i 0).val (k % 704) * at4 (n1 := 4) (n2 := 3) (n3 := 704) (n4 := 1024) y (k / 704) 1 (k % 704) (i 1).val) := by
  obtain ⟨a, b, rfl⟩ : ∃ (a : Fin 4096) (b : Fin 1024), i = ix2 a b := ⟨i 0, i 1, by funext x; fin_cases x <;> rfl⟩
  rw [sum_first, ← Cert.DownIdeal.Mm.half]
  pointwise
  exact congrArg₂ (· + ·) (at2_eq (n1 := 4096) (n2 := 1024) z (ix2 a b) rfl rfl) (congrArg (_ * ·) (Finset.sum_congr rfl fun k _ => congrArg₂ (· * ·) (at3_eq (n1 := 4) (n2 := 4096) (n3 := 704) x _ rfl rfl rfl) (at4_eq (n1 := 4) (n2 := 3) (n3 := 704) (n4 := 1024) y _ rfl rfl rfl rfl)))

end Cert.DownRefIdeal.Mm

namespace Cert.Proof.Mm

open Idealize.ShloMosaic Idealize.ShloMosaic.TcCoe Idealize.SL.Sem

theorem quiescent_DownRefIdeal : Cert.quiescent_DownRefIdeal := fun m ρ _ =>
  (θ_run Cert.DownRefIdeal.defs _ _).mono
    (fun _ h => ⟨fun c => (h c).2, sem_eq_zero_of_no_sems rfl _⟩) (Cert.DownRefIdeal.Value.run (F := Ideal) m ρ)

theorem quiescent_Down : Cert.quiescent_Down := fun m ρ _ => Cert.Down.Gen.frame m ρ
theorem quiescent_DownIdeal : Cert.quiescent_DownIdeal := fun m ρ _ => Cert.DownIdeal.Gen.frame m ρ

theorem algebraic_Down : Cert.algebraic_DownIdeal_DownRefIdeal := by
  intro m ρ m' ρ' hpre hagree
  refine ⟨fun c => Cert.DownIdeal.Value.G3 m c, Cert.DownIdeal.Value.run m ρ, ?_⟩
  refine (θ_run Cert.DownRefIdeal.defs _ _).mono (fun r h c => ?_) (Cert.DownRefIdeal.Value.run (F := Ideal) m' ρ')
  refine ⟨(h c).1.trans ?_, (h c).2⟩
  funext i
  refine (Cert.DownRefIdeal.Mm.value _ _ _ i).trans ((Cert.DownIdeal.Mm.final m c i).trans ?_).symm
  unfold Cert.DownIdeal.Mm.P Cert.DownIdeal.Mm.X Cert.DownIdeal.Mm.Y Cert.DownIdeal.Mm.R
  rw [(hagree c).1, (hagree c).2.1, (hagree c).2.2]

end Cert.Proof.Mm
-- ==== Proof.Mm.DownDxAct.lean ====
/- The gradients at the gate and up products of a gated feed-forward: each point makes one block of each. -/
module

public import proofs.«01_k».proof.Proof.Gen.DownDxAct.Frame
public import proofs.«01_k».proof.Proof.Gen.DownDxActIdeal.Frame
public import proofs.«01_k».proof.Proof.Gen.DownDxActIdeal.Value
public import proofs.«01_k».proof.Proof.Gen.DownDxActRefIdeal.Run
public import proofs.«01_k».proof.Proof.Mm.Sum
public import proofs.«01_k».proof.Proof.Mm.Gate
public import proofs.«01_k».proof.Defs

@[expose] public section

set_option maxRecDepth 16384

noncomputable section

namespace Cert.DownDxActIdeal.Mm

open Cert.DownDxActIdeal Cert.DownDxActIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem dg_eq (x0 : Vec Ideal S1024x1024 .f32) (x1 : Vec Ideal S1x1x704x1024 .bf16) (x2 x3 : Vec Ideal S1x1024x704 .bf16) :
    out0_4 x0 x1 x2 x3 = k0_pay1 (k0_pay9 x0 x1 x2 x3) := by
  unfold out0_4
  rw [View.canon_unit_zero hz3]
  simp only [View.ld_unit_zero (S := S1024x1024) hz, View.ld_unit_zero (S := S1x1x704x1024) hz4, View.ld_unit_zero (S := S1x1024x704) hz3]

theorem du_eq (x0 : Vec Ideal S1024x1024 .f32) (x1 : Vec Ideal S1x1x704x1024 .bf16) (x2 x3 : Vec Ideal S1x1024x704 .bf16) :
    out0_5 x0 x1 x2 x3 = k0_pay2 (k0_pay8 x0 x1 x2) := by
  unfold out0_5
  rw [View.canon_unit_zero hz3]
  simp only [View.ld_unit_zero (S := S1024x1024) hz, View.ld_unit_zero (S := S1x1x704x1024) hz4, View.ld_unit_zero (S := S1x1024x704) hz3]

/-- The gradient at the activation, at a point: half the product. -/
def da (x0 : Vec Ideal S1024x1024 .f32) (x1 : Vec Ideal S1x1x704x1024 .bf16) (p : Fin 1024) (q : Fin 704) : EReal := (∑ x, (x0 (ix2 p x) : EReal) * x1 (ix4 0 0 q x)) * Ideal.ofBits .f32 0x3F000000#32

theorem dg_at (x0 : Vec Ideal S1024x1024 .f32) (x1 : Vec Ideal S1x1x704x1024 .bf16) (x2 x3 : Vec Ideal S1x1024x704 .bf16) (u : Fin 1) (p : Fin 1024) (q : Fin 704) :
    (k0_pay1 (k0_pay9 x0 x1 x2 x3) (ix3 u p q) : EReal)
      = da x0 x1 p q * x3 (ix3 0 p q) * sigm (x2 (ix3 0 p q))
        + x2 (ix3 0 p q) * (da x0 x1 p q * x3 (ix3 0 p q)) * (sigm (x2 (ix3 0 p q)) * (1 - sigm (x2 (ix3 0 p q)))) := by
  rw [← gate_grad]
  unfold da
  pointwise [k0_pay1, k0_pay9, k0_pay3, k0_pay4, k0_pay5, k0_pay6, k0_pay7]

theorem du_at (x0 : Vec Ideal S1024x1024 .f32) (x1 : Vec Ideal S1x1x704x1024 .bf16) (x2 : Vec Ideal S1x1024x704 .bf16) (u : Fin 1) (p : Fin 1024) (q : Fin 704) :
    (k0_pay2 (k0_pay8 x0 x1 x2) (ix3 u p q) : EReal) = x2 (ix3 0 p q) * sigm (x2 (ix3 0 p q)) * da x0 x1 p q := by
  unfold da sigm
  rw [← zero_sub (x2 (ix3 0 p q) : EReal)]
  pointwise [k0_pay2, k0_pay8, k0_pay3, k0_pay4, k0_pay5, k0_pay6, k0_pay7]

theorem idx0 : ∀ t : Fin cfg0.N, win0_0.index t = ![t.val % 4, 0] := by decide +kernel
theorem idx1 : ∀ t : Fin cfg0.N, win0_1.index t = ![t.val / 4, 1, 0, 0] := by decide +kernel
theorem idx2 : ∀ t : Fin cfg0.N, win0_2.index t = ![t.val / 4, t.val % 4, 0] := by decide +kernel
theorem idx3 : ∀ t : Fin cfg0.N, win0_3.index t = ![t.val / 4, t.val % 4, 0] := by decide +kernel
theorem idx4 : ∀ t : Fin cfg0.N, win0_4.index t = ![t.val / 4, t.val % 4, 0] := by decide +kernel
theorem idx5 : ∀ t : Fin cfg0.N, win0_5.index t = ![t.val / 4, t.val % 4, 0] := by decide +kernel

variable (m : (ℓ : Loc nD τ sig) → Buf (Elt Ideal) ℓ) (c : Dev nD)

/-- The gradient of the feed-forward's result, the down weights of three layers in blocks of rows, and the gate and up products. -/
def DY : ℕ → ℕ → EReal := at2 (n1 := 4096) (n2 := 1024) (m ((c : Thread nD τ).loc main_arg0))
def W : ℕ → ℕ → ℕ → ℕ → EReal := at4 (n1 := 4) (n2 := 3) (n3 := 704) (n4 := 1024) (m ((c : Thread nD τ).loc main_arg1))
def GG : ℕ → ℕ → ℕ → EReal := at3 (n1 := 4) (n2 := 4096) (n3 := 704) (m ((c : Thread nD τ).loc main_arg2))
def UU : ℕ → ℕ → ℕ → EReal := at3 (n1 := 4) (n2 := 4096) (n3 := 704) (m ((c : Thread nD τ).loc main_arg3))

theorem dy_at (t : Fin cfg0.N) (p k : Fin 1024) : (iblk m c 0 t (ix2 p k) : EReal) = DY m c (1024 * (t.val % 4) + p.val) k.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem w_at (t : Fin cfg0.N) (q : Fin 704) (k : Fin 1024) : (iblk m c 1 t (ix4 0 0 q k) : EReal) = W m c (t.val / 4) 1 q.val k.val := by
  unfold iblk
  rw [show V m c (Pipeline.arrRef spec0 1) = m ((c : Thread nD τ).loc main_arg1) from V_main_arg1 m c]
  exact at4_eq (n1 := 4) (n2 := 3) (n3 := 704) (n4 := 1024) _ _ (by blk_simp [idx1]; try omega) (by blk_simp [idx1]; try omega) (by blk_simp [idx1]; try omega) (by blk_simp [idx1]; try omega)

theorem g_at (t : Fin cfg0.N) (p : Fin 1024) (q : Fin 704) : (iblk m c 2 t (ix3 0 p q) : EReal) = GG m c (t.val / 4) (1024 * (t.val % 4) + p.val) q.val := by
  unfold iblk
  rw [show V m c (Pipeline.arrRef spec0 2) = m ((c : Thread nD τ).loc main_arg2) from V_main_arg2 m c]
  exact at3_eq (n1 := 4) (n2 := 4096) (n3 := 704) _ _ (by blk_simp [idx2]; try omega) (by blk_simp [idx2]; try omega) (by blk_simp [idx2]; try omega)

theorem u_at (t : Fin cfg0.N) (p : Fin 1024) (q : Fin 704) : (iblk m c 3 t (ix3 0 p q) : EReal) = UU m c (t.val / 4) (1024 * (t.val % 4) + p.val) q.val := by
  unfold iblk
  rw [show V m c (Pipeline.arrRef spec0 3) = m ((c : Thread nD τ).loc main_arg3) from V_main_arg3 m c]
  exact at3_eq (n1 := 4) (n2 := 4096) (n3 := 704) _ _ (by blk_simp [idx3]; try omega) (by blk_simp [idx3]; try omega) (by blk_simp [idx3]; try omega)

/-- The gradient at the activation, with the half taken before the product, and the two results. -/
def DA (i : S4x4096x704.Idx) : EReal := ∑ k ∈ Finset.range 1024, Ideal.ofBits .f32 0x3F000000#32 * DY m c (i 1).val k * W m c (i 0).val 1 (i 2).val k
def G (i : S4x4096x704.Idx) : EReal := GG m c (i 0).val (i 1).val (i 2).val
def U (i : S4x4096x704.Idx) : EReal := UU m c (i 0).val (i 1).val (i 2).val
def PDG (i : S4x4096x704.Idx) : EReal :=
  DA m c i * U m c i * sigm (G m c i) + G m c i * (DA m c i * U m c i) * (sigm (G m c i) * (1 - sigm (G m c i)))
def PDU (i : S4x4096x704.Idx) : EReal := G m c i * sigm (G m c i) * DA m c i

theorem half : Ideal.ofBits .f32 0x3F000000#32 = ((1 / 2 : ℝ) : EReal) := by
  simp [Ideal.ofBits, Ideal.ieee]
  rw [← EReal.coe_mul]
  norm_num

theorem da_pt (t : Fin cfg0.N) (p : Fin 1024) (q : Fin 704) (i : S4x4096x704.Idx)
    (e0 : (i 0).val = t.val / 4) (e1 : (i 1).val = 1024 * (t.val % 4) + p.val) (e2 : (i 2).val = q.val) :
    da (iblk m c 0 t) (iblk m c 1 t) p q = DA m c i := by
  unfold da DA
  rw [sum_first, e0, e1, e2, half, sum_scale _ _ _ (by norm_num)]
  exact Finset.sum_congr rfl fun k _ => by rw [dy_at, w_at, mul_comm, ← mul_assoc]

theorem dg_pt (t : Fin cfg0.N) (u : Fin 1) (p : Fin 1024) (q : Fin 704) (i : S4x4096x704.Idx)
    (e0 : (i 0).val = t.val / 4) (e1 : (i 1).val = 1024 * (t.val % 4) + p.val) (e2 : (i 2).val = q.val) :
    (k0_pay1 (k0_pay9 (iblk m c 0 t) (iblk m c 1 t) (iblk m c 2 t) (iblk m c 3 t)) (ix3 u p q) : EReal) = PDG m c i := by
  rw [dg_at, da_pt m c t p q i e0 e1 e2, g_at, u_at]
  unfold PDG G U
  rw [e0, e1, e2]

theorem du_pt (t : Fin cfg0.N) (u : Fin 1) (p : Fin 1024) (q : Fin 704) (i : S4x4096x704.Idx)
    (e0 : (i 0).val = t.val / 4) (e1 : (i 1).val = 1024 * (t.val % 4) + p.val) (e2 : (i 2).val = q.val) :
    (k0_pay2 (k0_pay8 (iblk m c 0 t) (iblk m c 1 t) (iblk m c 2 t)) (ix3 u p q) : EReal) = PDU m c i := by
  rw [du_at, da_pt m c t p q i e0 e1 e2, g_at]
  unfold PDU G
  rw [e0, e1, e2]

/-- The dg array after the run. -/
theorem final_dg : (dats m 0 c).arrAt 4 cfg0.N = (PDG m c : S4x4096x704.Idx → EReal) := by
  refine (dats m 0 c).arrAt_eq_of_covers 4 (PDG m c) (by decide +kernel) (fun t hf y => ?_)
  have y0 : (y 0).val < 1 := (y 0).isLt
  have y1 : (y 1).val < 1024 := (y 1).isLt
  have y2 : (y 2).val < 704 := (y 2).isLt
  have e0 : ((((cfg0.win 4).blk t).view.emb y) 0).val = t.val / 4 := by blk_simp [idx4]; try omega
  have e1 : ((((cfg0.win 4).blk t).view.emb y) 1).val = 1024 * (t.val % 4) + (y 1).val := by blk_simp [idx4]; try omega
  have e2 : ((((cfg0.win 4).blk t).view.emb y) 2).val = (y 2).val := by blk_simp [idx4]; try omega
  refine Eq.trans (b := k0_pay1 (k0_pay9 (iblk m c 0 t) (iblk m c 1 t) (iblk m c 2 t) (iblk m c 3 t)) (ix3 ⟨(y 0).val, y0⟩ ⟨(y 1).val, y1⟩ ⟨(y 2).val, y2⟩)) ?_ (by exact dg_pt m c t _ _ _ _ e0 e1 e2)
  rw [after0_4, dg_eq]
  refine congrArg (k0_pay1 (k0_pay9 (iblk m c 0 t) (iblk m c 1 t) (iblk m c 2 t) (iblk m c 3 t))) ?_
  funext a; fin_cases a <;> rfl

/-- The du array after the run. -/
theorem final_du : (dats m 0 c).arrAt 5 cfg0.N = (PDU m c : S4x4096x704.Idx → EReal) := by
  refine (dats m 0 c).arrAt_eq_of_covers 5 (PDU m c) (by decide +kernel) (fun t hf y => ?_)
  have y0 : (y 0).val < 1 := (y 0).isLt
  have y1 : (y 1).val < 1024 := (y 1).isLt
  have y2 : (y 2).val < 704 := (y 2).isLt
  have e0 : ((((cfg0.win 5).blk t).view.emb y) 0).val = t.val / 4 := by blk_simp [idx5]; try omega
  have e1 : ((((cfg0.win 5).blk t).view.emb y) 1).val = 1024 * (t.val % 4) + (y 1).val := by blk_simp [idx5]; try omega
  have e2 : ((((cfg0.win 5).blk t).view.emb y) 2).val = (y 2).val := by blk_simp [idx5]; try omega
  refine Eq.trans (b := k0_pay2 (k0_pay8 (iblk m c 0 t) (iblk m c 1 t) (iblk m c 2 t)) (ix3 ⟨(y 0).val, y0⟩ ⟨(y 1).val, y1⟩ ⟨(y 2).val, y2⟩)) ?_ (by exact du_pt m c t _ _ _ _ e0 e1 e2)
  rw [after0_5, du_eq]
  refine congrArg (k0_pay2 (k0_pay8 (iblk m c 0 t) (iblk m c 1 t) (iblk m c 2 t))) ?_
  funext a; fin_cases a <;> rfl

end Cert.DownDxActIdeal.Mm

namespace Cert.DownDxActRefIdeal.Mm

open Cert.DownDxActRefIdeal Cert.DownDxActRefIdeal.Gen
open Cert.Mm
open Idealize.ShloMosaic Idealize.ShloMosaic.TcCoe Idealize.SL.Sem

/-- The gradient at the activation, and the two results. -/
def DA (x : FVec Ideal S4096x1024 .f32) (y : FVec Ideal S4x3x704x1024 .bf16) (i : S4x4096x704.Idx) : EReal :=
  ∑ k ∈ Finset.range 1024, Ideal.ofBits .f32 0x3F000000#32 * at2 (n1 := 4096) (n2 := 1024) x (i 1).val k
    * at4 (n1 := 4) (n2 := 3) (n3 := 704) (n4 := 1024) y (i 0).val 1 (i 2).val k

theorem da_sum (x : FVec Ideal S4096x1024 .f32) (y : FVec Ideal S4x3x704x1024 .bf16) (a : Fin 4) (b : Fin 4096) (d : Fin 704) :
    DA x y (ix3 a b d) = ∑ k : Fin 1024, Ideal.ofBits .f32 0x3F000000#32 * (x (ix2 b k) : EReal) * y (ix4 a 1 d k) := by
  unfold DA
  rw [sum_first]
  exact Finset.sum_congr rfl fun k _ => congrArg₂ (· * ·) (congrArg (_ * ·) (at2_eq (n1 := 4096) (n2 := 1024) x (ix2 b k) rfl rfl).symm)
    (at4_eq (n1 := 4) (n2 := 3) (n3 := 704) (n4 := 1024) y (ix4 a 1 d k) rfl rfl rfl rfl).symm

def at3' (z : FVec Ideal S4x4096x704 .bf16) (i : S4x4096x704.Idx) : EReal := at3 (n1 := 4) (n2 := 4096) (n3 := 704) z (i 0).val (i 1).val (i 2).val

theorem at3'_eq (z : FVec Ideal S4x4096x704 .bf16) (i : S4x4096x704.Idx) : at3' z i = z i := (at3_eq (n1 := 4) (n2 := 4096) (n3 := 704) z i rfl rfl rfl).symm

theorem dg_value (x : FVec Ideal S4096x1024 .f32) (y : FVec Ideal S4x3x704x1024 .bf16) (z w : FVec Ideal S4x4096x704 .bf16) (i : S4x4096x704.Idx) :
    (truncf .bf16 (transpose S4x4096x704 [1, 0, 2] (shapeCast _ (addf (mulf (mulf (Host.dotGeneral dot_S4096x1024_S2816x1024_S4096x2816_1_1_0_0_n_n none (mulf (broadcastInDim S4096x1024 ![] bcast_S_S4096x1024 (constant S_ .f32 0x3F000000#32)) x) (extf .f32 (shapeCast _ (shapeCast _ (extractStridedSlice S4x1x704x1024 ![0, 1, 0, 0] y slices_S4x3x704x1024_S4x1x704x1024_0_1_0_0) shapeCasts_S4x1x704x1024_S4x704x1024) shapeCasts_S4x704x1024_S2816x1024) bitsLt_bf16_f32)) (extf .f32 (shapeCast _ (transpose S4096x4x704 [1, 0, 2] w transposes_S4x4096x704_S4096x4x704_1_0_2) shapeCasts_S4096x4x704_S4096x2816) bitsLt_bf16_f32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 (shapeCast _ (transpose S4096x4x704 [1, 0, 2] z transposes_S4x4096x704_S4096x4x704_1_0_2) shapeCasts_S4096x4x704_S4096x2816) bitsLt_bf16_f32)))))) (mulf (mulf (extf .f32 (shapeCast _ (transpose S4096x4x704 [1, 0, 2] z transposes_S4x4096x704_S4096x4x704_1_0_2) shapeCasts_S4096x4x704_S4096x2816) bitsLt_bf16_f32) (mulf (Host.dotGeneral dot_S4096x1024_S2816x1024_S4096x2816_1_1_0_0_n_n none (mulf (broadcastInDim S4096x1024 ![] bcast_S_S4096x1024 (constant S_ .f32 0x3F000000#32)) x) (extf .f32 (shapeCast _ (shapeCast _ (extractStridedSlice S4x1x704x1024 ![0, 1, 0, 0] y slices_S4x3x704x1024_S4x1x704x1024_0_1_0_0) shapeCasts_S4x1x704x1024_S4x704x1024) shapeCasts_S4x704x1024_S2816x1024) bitsLt_bf16_f32)) (extf .f32 (shapeCast _ (transpose S4096x4x704 [1, 0, 2] w transposes_S4x4096x704_S4096x4x704_1_0_2) shapeCasts_S4096x4x704_S4096x2816) bitsLt_bf16_f32))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 (shapeCast _ (transpose S4096x4x704 [1, 0, 2] z transposes_S4x4096x704_S4096x4x704_1_0_2) shapeCasts_S4096x4x704_S4096x2816) bitsLt_bf16_f32))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 (shapeCast _ (transpose S4096x4x704 [1, 0, 2] z transposes_S4x4096x704_S4096x4x704_1_0_2) shapeCasts_S4096x4x704_S4096x2816) bitsLt_bf16_f32))))))))) shapeCasts_S4096x2816_S4096x4x704) transposes_S4096x4x704_S4x4096x704_1_0_2) bitsLt_bf16_f32 : FVec Ideal S4x4096x704 .bf16) i
      = DA x y i * at3' w i * sigm (at3' z i) + at3' z i * (DA x y i * at3' w i) * (sigm (at3' z i) * (1 - sigm (at3' z i))) := by
  obtain ⟨a, b, d, rfl⟩ : ∃ (a : Fin 4) (b : Fin 4096) (d : Fin 704), i = ix3 a b d := ⟨i 0, i 1, i 2, by funext x; fin_cases x <;> rfl⟩
  rw [da_sum, at3'_eq, at3'_eq]
  unfold sigm
  pointwise

theorem du_value (x : FVec Ideal S4096x1024 .f32) (y : FVec Ideal S4x3x704x1024 .bf16) (z : FVec Ideal S4x4096x704 .bf16) (i : S4x4096x704.Idx) :
    (truncf .bf16 (transpose S4x4096x704 [1, 0, 2] (shapeCast _ (mulf (mulf (extf .f32 (shapeCast _ (transpose S4096x4x704 [1, 0, 2] z transposes_S4x4096x704_S4096x4x704_1_0_2) shapeCasts_S4096x4x704_S4096x2816) bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 (shapeCast _ (transpose S4096x4x704 [1, 0, 2] z transposes_S4x4096x704_S4096x4x704_1_0_2) shapeCasts_S4096x4x704_S4096x2816) bitsLt_bf16_f32)))))) (Host.dotGeneral dot_S4096x1024_S2816x1024_S4096x2816_1_1_0_0_n_n none (mulf (broadcastInDim S4096x1024 ![] bcast_S_S4096x1024 (constant S_ .f32 0x3F000000#32)) x) (extf .f32 (shapeCast _ (shapeCast _ (extractStridedSlice S4x1x704x1024 ![0, 1, 0, 0] y slices_S4x3x704x1024_S4x1x704x1024_0_1_0_0) shapeCasts_S4x1x704x1024_S4x704x1024) shapeCasts_S4x704x1024_S2816x1024) bitsLt_bf16_f32))) shapeCasts_S4096x2816_S4096x4x704) transposes_S4096x4x704_S4x4096x704_1_0_2) bitsLt_bf16_f32 : FVec Ideal S4x4096x704 .bf16) i
      = at3' z i * sigm (at3' z i) * DA x y i := by
  obtain ⟨a, b, d, rfl⟩ : ∃ (a : Fin 4) (b : Fin 4096) (d : Fin 704), i = ix3 a b d := ⟨i 0, i 1, i 2, by funext x; fin_cases x <;> rfl⟩
  rw [da_sum, at3'_eq]
  unfold sigm
  pointwise

end Cert.DownDxActRefIdeal.Mm

namespace Cert.Proof.Mm

open Idealize.ShloMosaic Idealize.ShloMosaic.TcCoe Idealize.SL.Sem

theorem quiescent_DownDxActRefIdeal : Cert.quiescent_DownDxActRefIdeal := fun m ρ _ =>
  (θ_run Cert.DownDxActRefIdeal.defs _ _).mono
    (fun _ h => ⟨fun c => (h c).2.2, sem_eq_zero_of_no_sems rfl _⟩) (Cert.DownDxActRefIdeal.Value.run (F := Ideal) m ρ)

theorem quiescent_DownDxAct : Cert.quiescent_DownDxAct := fun m ρ _ => Cert.DownDxAct.Gen.frame m ρ
theorem quiescent_DownDxActIdeal : Cert.quiescent_DownDxActIdeal := fun m ρ _ => Cert.DownDxActIdeal.Gen.frame m ρ

theorem algebraic_DownDxAct : Cert.algebraic_DownDxActIdeal_DownDxActRefIdeal := by
  intro m ρ m' ρ' hpre hagree
  refine ⟨fun c => (Cert.DownDxActIdeal.Gen.dats m 0 c).arrAt 4 Cert.DownDxActIdeal.cfg0.N,
    fun c => (Cert.DownDxActIdeal.Gen.dats m 0 c).arrAt 5 Cert.DownDxActIdeal.cfg0.N, Cert.DownDxActIdeal.Value.run_blocks m ρ, ?_⟩
  refine (θ_run Cert.DownDxActRefIdeal.defs _ _).mono (fun r h c => ?_) (Cert.DownDxActRefIdeal.Value.run (F := Ideal) m' ρ')
  refine ⟨(h c).1.trans ?_, (h c).2.1.trans ?_, (h c).2.2⟩
  · refine Eq.trans ?_ (Cert.DownDxActIdeal.Mm.final_dg m c).symm
    funext i
    refine (Cert.DownDxActRefIdeal.Mm.dg_value _ _ _ _ i).trans ?_
    unfold Cert.DownDxActIdeal.Mm.PDG Cert.DownDxActIdeal.Mm.DA Cert.DownDxActIdeal.Mm.G Cert.DownDxActIdeal.Mm.U Cert.DownDxActIdeal.Mm.DY
      Cert.DownDxActIdeal.Mm.W Cert.DownDxActIdeal.Mm.GG Cert.DownDxActIdeal.Mm.UU Cert.DownDxActRefIdeal.Mm.DA Cert.DownDxActRefIdeal.Mm.at3'
    rw [(hagree c).1, (hagree c).2.1, (hagree c).2.2.1, (hagree c).2.2.2]
  · refine Eq.trans ?_ (Cert.DownDxActIdeal.Mm.final_du m c).symm
    funext i
    refine (Cert.DownDxActRefIdeal.Mm.du_value _ _ _ i).trans ?_
    unfold Cert.DownDxActIdeal.Mm.PDU Cert.DownDxActIdeal.Mm.DA Cert.DownDxActIdeal.Mm.G Cert.DownDxActIdeal.Mm.DY
      Cert.DownDxActIdeal.Mm.W Cert.DownDxActIdeal.Mm.GG Cert.DownDxActRefIdeal.Mm.DA Cert.DownDxActRefIdeal.Mm.at3'
    rw [(hagree c).1, (hagree c).2.1, (hagree c).2.2.1]

end Cert.Proof.Mm
-- ==== Proof.Mm.GateDx.lean ====
/- The gradient through the gate weight: the sum by blocks of columns is the product. -/
module

public import proofs.«01_k».proof.Proof.Gen.GateDx.Frame
public import proofs.«01_k».proof.Proof.Gen.GateDxIdeal.Frame
public import proofs.«01_k».proof.Proof.Gen.GateDxIdeal.Value
public import proofs.«01_k».proof.Proof.Gen.GateDxRefIdeal.Run
public import proofs.«01_k».proof.Proof.Mm.Sum
public import proofs.«01_k».proof.Defs

@[expose] public section

set_option maxRecDepth 16384

noncomputable section

namespace Cert.GateDxIdeal.Mm

open Cert.GateDxIdeal Cert.GateDxIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a5 h5 a6 h6 hc0 hc1 hc2) (x0 : Vec Ideal S1x1024x704 .bf16) (x1 : Vec Ideal S1x1x1024x704 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, View.ld_unit_zero (S := S1x1024x704) hz3, View.ld_unit_zero (S := S1x1x1024x704) hz4, k0_pay2, shapeCast_self]

theorem next_eq (c : Dev nD) (i : grid0.Coords) (a3 h3 a4 h4 a5 h5 a6 h6 hc0 hc1 hc2) (x0 : Vec Ideal S1x1024x704 .bf16) (x1 : Vec Ideal S1x1x1024x704 .bf16) (s : Vec Ideal S1024x1024 .f32) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  try sl_unfold_words
  rw [View.canon_unit_zero hz]
  simp only [View.readAt_eq_ld, h3.read_unread, h4.read_unread, h6.read_unread, View.ld_unit_zero (S := S1024x1024) hz, View.ld_unit_zero (S := S1x1024x704) hz3, View.ld_unit_zero (S := S1x1x1024x704) hz4, k0_pay3, shapeCast_self]

theorem last_eq (c : Dev nD) (i : grid0.Coords) (a3 h3 a4 h4 a5 h5 a6 h6 hc0 hc1 hc2) (x0 : Vec Ideal S1x1024x704 .bf16) (x1 : Vec Ideal S1x1x1024x704 .bf16) (s : Vec Ideal S1024x1024 .f32) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  try sl_unfold_words
  rw [View.canon_unit_zero hz]
  simp only [View.readAt_eq_ld, View.readCov_unit_zero (S := S1024x1024) _ hz, h3.read_unread, h4.read_unread, h6.read_unread, View.ld_unit_zero (S := S1024x1024) hz, View.ld_unit_zero (S := S1x1024x704) hz3, View.ld_unit_zero (S := S1x1x1024x704) hz4, k0_pay3, shapeCast_self]

theorem prod_at (x0 : Vec Ideal S1x1024x704 .bf16) (x1 : Vec Ideal S1x1x1024x704 .bf16) (p q : Fin 1024) :
    k0_pay1 x0 x1 (ix2 p q) = ∑ k, (x0 (ix3 0 p k) : EReal) * x1 (ix4 0 0 q k) := by
  pointwise [k0_pay1]

theorem idx0 : ∀ t : Fin cfg0.N, win0_0.index t = ![t.val % 4, t.val / 4, 0] := by decide +kernel
theorem idx1 : ∀ t : Fin cfg0.N, win0_1.index t = ![t.val % 4, 1, 0, 0] := by decide +kernel

variable (m : (ℓ : Loc nD τ sig) → Buf (Elt Ideal) ℓ) (c : Dev nD)

/-- The left operand, held in four blocks of columns, and the layer's weight, held in four blocks. -/
def X (p k : ℕ) : EReal := at3 (n1 := 4) (n2 := 4096) (n3 := 704) (m ((c : Thread nD τ).loc main_arg0)) (k / 704) p (k % 704)
def Y (k q : ℕ) : EReal := at4 (n1 := 4) (n2 := 3) (n3 := 1024) (n4 := 704) (m ((c : Thread nD τ).loc main_arg1)) (k / 704) 1 q (k % 704)

theorem x_at (t : Fin cfg0.N) (p : Fin 1024) (k : Fin 704) :
    (iblk m c 0 t (ix3 0 p k) : EReal) = X m c (1024 * (t.val / 4) + p.val) (704 * (t.val % 4) + k.val) := by
  have hk := k.isLt
  unfold iblk X
  rw [show V m c (Pipeline.arrRef spec0 0) = m ((c : Thread nD τ).loc main_arg0) from V_main_arg0 m c]
  exact at3_eq (n1 := 4) (n2 := 4096) (n3 := 704) _ _ (by blk_simp [idx0]; try omega) (by blk_simp [idx0]; try omega) (by blk_simp [idx0]; try omega)

theorem y_at (t : Fin cfg0.N) (q : Fin 1024) (k : Fin 704) :
    (iblk m c 1 t (ix4 0 0 q k) : EReal) = Y m c (704 * (t.val % 4) + k.val) q.val := by
  have hk := k.isLt
  unfold iblk Y
  rw [show V m c (Pipeline.arrRef spec0 1) = m ((c : Thread nD τ).loc main_arg1) from V_main_arg1 m c]
  exact at4_eq (n1 := 4) (n2 := 3) (n3 := 1024) (n4 := 704) _ _ (by blk_simp [idx1]; try omega) (by blk_simp [idx1]; try omega) (by blk_simp [idx1]; try omega) (by blk_simp [idx1]; try omega)

/-- A point's product, over the arrays. -/
theorem prod_pt (t : Fin cfg0.N) (p q : Fin 1024) :
    k0_pay1 (iblk m c 0 t) (iblk m c 1 t) (ix2 p q)
      = ∑ k : Fin 704, X m c (1024 * (t.val / 4) + p.val) (704 * (t.val % 4) + k.val) * Y m c (704 * (t.val % 4) + k.val) q.val := by
  rw [prod_at]
  exact Finset.sum_congr rfl fun k _ => by rw [x_at, y_at]

/-- What the scratch holds after each of a row block's first three points: the sum over the columns so far. -/
theorem acc_at (p q : Fin 1024) : ∀ (n : ℕ) (hn : n < cfg0.N), n % 4 < 3 →
    ((outsAt0 m c n hn).2 (ix2 p q) : EReal)
      = ∑ k ∈ Finset.range (704 * (n % 4) + 704), X m c (1024 * (n / 4) + p.val) k * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 704]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 704, show (n - 1) / 4 = n / 4 by omega, show 704 * ((n - 1) % 4) + 704 = 704 * (n % 4) by omega]

/-- The array after the run. -/
def P (i : S4096x1024.Idx) : EReal := ∑ k ∈ Finset.range 2816, X m c (i 0).val k * Y m c k (i 1).val

theorem out_at (n : ℕ) (hn : n < cfg0.N) (h3 : n % 4 = 3) (p q : Fin 1024) (i : S4096x1024.Idx)
    (e0 : (i 0).val = 1024 * (n / 4) + p.val) (e1 : (i 1).val = q.val) :
    ((outsAt0 m c n hn).1 (ix2 p q) : EReal) = P m c i := by
  rw [outsAt0_C m c ⟨n, hn⟩ (by dsimp only; omega) (by dsimp only; omega) (by dsimp only; omega)]
  dsimp only
  have hs := Eq.trans (congrArg₂ (· + ·) (acc_at m c p q (n - 1) (by omega) (by omega)) (prod_pt m c ⟨n, hn⟩ p q))
    (by
      dsimp only
      rw [show (n - 1) % 4 = 2 by omega, h3, show (n - 1) / 4 = n / 4 by omega, ← sum_block _ 3 704] : _ = ∑ k ∈ Finset.range 2816, X m c (1024 * (n / 4) + p.val) k * Y m c k q.val)
  rw [last_eq]
  unfold P
  rw [e0, e1]
  exact hs

theorem final (i : S4096x1024.Idx) : (Value.G2 m c i : EReal) = P m c i := by
  have b0 : (i 0).val < 4096 := (i 0).isLt
  have b1 : (i 1).val < 1024 := (i 1).isLt
  have hN : cfg0.N = 16 := N_0
  have hp : Value.pt2Of i = 4 * ((i 0).val / 1024) + 3 := by simp only [Value.pt2Of, Value.run2Of]; omega
  have hl : Value.loc2Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt2Of i < cfg0.N := by rw [hp, hN]; omega
  unfold Value.G2
  rw [dif_pos hlt, ← Value.outsAt0_sweep m c _ hlt, hl]
  exact out_at m c _ hlt (by omega) _ _ i (by dsimp only; omega) rfl

end Cert.GateDxIdeal.Mm

namespace Cert.GateDxRefIdeal.Mm

open Cert.GateDxRefIdeal Cert.GateDxRefIdeal.Gen
open Cert.Mm
open Idealize.ShloMosaic Idealize.ShloMosaic.TcCoe Idealize.SL.Sem

theorem value (x : FVec Ideal S4x4096x704 .bf16) (y : FVec Ideal S4x3x1024x704 .bf16) (i : S4096x1024.Idx) :
    (Host.dotGeneral dot_S4096x2816_S1024x2816_S4096x1024_1_1_0_0_n_n none (extf .f32 (shapeCast _ (transpose S4096x4x704 [1, 0, 2] x transposes_S4x4096x704_S4096x4x704_1_0_2) shapeCasts_S4096x4x704_S4096x2816) bitsLt_bf16_f32) (extf .f32 (shapeCast _ (transpose S1024x4x704 [1, 0, 2] (shapeCast _ (extractStridedSlice S4x1x1024x704 ![0, 1, 0, 0] y slices_S4x3x1024x704_S4x1x1024x704_0_1_0_0) shapeCasts_S4x1x1024x704_S4x1024x704) transposes_S4x1024x704_S1024x4x704_1_0_2) shapeCasts_S1024x4x704_S1024x2816) bitsLt_bf16_f32) : FVec Ideal S4096x1024 .f32) i
      = ∑ k ∈ Finset.range 2816, at3 (n1 := 4) (n2 := 4096) (n3 := 704) x (k / 704) (i 0).val (k % 704) * at4 (n1 := 4) (n2 := 3) (n3 := 1024) (n4 := 704) y (k / 704) 1 (i 1).val (k % 704) := by
  obtain ⟨a, b, rfl⟩ : ∃ (a : Fin 4096) (b : Fin 1024), i = ix2 a b := ⟨i 0, i 1, by funext x; fin_cases x <;> rfl⟩
  rw [sum_first]
  pointwise
  exact Finset.sum_congr rfl fun k _ => congrArg₂ (· * ·) (at3_eq (n1 := 4) (n2 := 4096) (n3 := 704) x _ rfl rfl rfl) (at4_eq (n1 := 4) (n2 := 3) (n3 := 1024) (n4 := 704) y _ rfl rfl rfl rfl)

end Cert.GateDxRefIdeal.Mm

namespace Cert.Proof.Mm

open Idealize.ShloMosaic Idealize.ShloMosaic.TcCoe Idealize.SL.Sem

theorem quiescent_GateDxRefIdeal : Cert.quiescent_GateDxRefIdeal := fun m ρ _ =>
  (θ_run Cert.GateDxRefIdeal.defs _ _).mono
    (fun _ h => ⟨fun c => (h c).2, sem_eq_zero_of_no_sems rfl _⟩) (Cert.GateDxRefIdeal.Value.run (F := Ideal) m ρ)

theorem quiescent_GateDx : Cert.quiescent_GateDx := fun m ρ _ => Cert.GateDx.Gen.frame m ρ
theorem quiescent_GateDxIdeal : Cert.quiescent_GateDxIdeal := fun m ρ _ => Cert.GateDxIdeal.Gen.frame m ρ

theorem algebraic_GateDx : Cert.algebraic_GateDxIdeal_GateDxRefIdeal := by
  intro m ρ m' ρ' hpre hagree
  refine ⟨fun c => Cert.GateDxIdeal.Value.G2 m c, Cert.GateDxIdeal.Value.run m ρ, ?_⟩
  refine (θ_run Cert.GateDxRefIdeal.defs _ _).mono (fun r h c => ?_) (Cert.GateDxRefIdeal.Value.run (F := Ideal) m' ρ')
  refine ⟨(h c).1.trans ?_, (h c).2⟩
  funext i
  refine (Cert.GateDxRefIdeal.Mm.value _ _ i).trans ((Cert.GateDxIdeal.Mm.final m c i).trans ?_).symm
  unfold Cert.GateDxIdeal.Mm.P Cert.GateDxIdeal.Mm.X Cert.GateDxIdeal.Mm.Y
  rw [(hagree c).1, (hagree c).2]

end Cert.Proof.Mm
-- ==== Proof.Mm.UpDx.lean ====
/- The gradient through the up weight, added to the one through the gate weight: the sum by blocks of columns is the product. -/
module

public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Mm.Sum
public import proofs.«01_k».proof.Defs

@[expose] public section

set_option maxRecDepth 16384

noncomputable section

namespace Cert.UpDxIdeal.Mm

open Cert.UpDxIdeal Cert.UpDxIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a5 h5 a6 h6 a7 h7 hc0 hc1 hc2) (x0 : Vec Ideal S1x1024x704 .bf16) (x1 : Vec Ideal S1x1x1024x704 .bf16) (r : Vec Ideal S1024x1024 .f32) :
    sout0_A_0 c i a3 h3 a4 h4 a5 h5 a6 h6 a7 h7 hc0 hc1 hc2 x0 x1 r = k0_pay1 x0 x1 := by
  unfold sout0_A_0
  rw [View.read_writes_eq_canon _ _ _ (scover0_A_0 c i a3 h3 a4 h4 a5 h5 a6 h6 a7 h7 hc0 hc1 hc2 x0 x1 r)]
  unfold kernelRun0_A
  dsimp only
  try sl_unfold_words
  rw [View.canon_unit_zero hz]
  simp only [View.readAt_eq_ld, h3.read_unread, h4.read_unread, h5.read_unread, View.ld_unit_zero (S := S1024x1024) hz, View.ld_unit_zero (S := S1x1024x704) hz3, View.ld_unit_zero (S := S1x1x1024x704) hz4, k0_pay2, shapeCast_self]

theorem next_eq (c : Dev nD) (i : grid0.Coords) (a3 h3 a4 h4 a5 h5 a6 h6 a7 h7 hc0 hc1 hc2) (x0 : Vec Ideal S1x1024x704 .bf16) (x1 : Vec Ideal S1x1x1024x704 .bf16) (r : Vec Ideal S1024x1024 .f32) (s : Vec Ideal S1024x1024 .f32) :
    sout0_B_0 c i a3 h3 a4 h4 a5 h5 a6 h6 a7 h7 hc0 hc1 hc2 x0 x1 r s = addf s (k0_pay1 x0 x1) := by
  unfold sout0_B_0
  rw [View.read_writes_eq_canon _ _ _ (scover0_B_0 c i a3 h3 a4 h4 a5 h5 a6 h6 a7 h7 hc0 hc1 hc2 x0 x1 r s)]
  unfold kernelRun0_B
  dsimp only
  try sl_unfold_words
  rw [View.canon_unit_zero hz]
  simp only [View.readAt_eq_ld, h3.read_unread, h4.read_unread, h5.read_unread, h7.read_unread, View.ld_unit_zero (S := S1024x1024) hz, View.ld_unit_zero (S := S1x1024x704) hz3, View.ld_unit_zero (S := S1x1x1024x704) hz4, k0_pay3, shapeCast_self]

theorem last_eq (c : Dev nD) (i : grid0.Coords) (a3 h3 a4 h4 a5 h5 a6 h6 a7 h7 hc0 hc1 hc2) (x0 : Vec Ideal S1x1024x704 .bf16) (x1 : Vec Ideal S1x1x1024x704 .bf16) (r : Vec Ideal S1024x1024 .f32) (s : Vec Ideal S1024x1024 .f32) :
    out0_C_3 c i a3 h3 a4 h4 a5 h5 a6 h6 a7 h7 hc0 hc1 hc2 x0 x1 r s = k0_pay4 (addf s (k0_pay1 x0 x1)) r := by
  unfold out0_C_3
  rw [View.read_writes_eq_canon _ _ _ (cover0_C_3 c i a3 h3 a4 h4 a5 h5 a6 h6 a7 h7 hc0 hc1 hc2 x0 x1 r s)]
  unfold kernelRun0_C
  dsimp only
  try sl_unfold_words
  rw [View.canon_unit_zero hz]
  simp only [View.readAt_eq_ld, View.readCov_unit_zero (S := S1024x1024) _ hz, h3.read_unread, h4.read_unread, h5.read_unread, h7.read_unread, View.ld_unit_zero (S := S1024x1024) hz, View.ld_unit_zero (S := S1x1024x704) hz3, View.ld_unit_zero (S := S1x1x1024x704) hz4, k0_pay3, shapeCast_self]

theorem prod_at (x0 : Vec Ideal S1x1024x704 .bf16) (x1 : Vec Ideal S1x1x1024x704 .bf16) (p q : Fin 1024) :
    k0_pay1 x0 x1 (ix2 p q) = ∑ k, (x0 (ix3 0 p k) : EReal) * x1 (ix4 0 0 q k) := by
  pointwise [k0_pay1]

theorem pay4_at (s r : Vec Ideal S1024x1024 .f32) (p q : Fin 1024) :
    (k0_pay4 s r (ix2 p q) : EReal) = s (ix2 p q) + r (ix2 p q) := by
  pointwise [k0_pay4]

theorem idx0 : ∀ t : Fin cfg0.N, win0_0.index t = ![t.val % 4, t.val / 4, 0] := by decide +kernel
theorem idx1 : ∀ t : Fin cfg0.N, win0_1.index t = ![t.val % 4, 1, 0, 0] := by decide +kernel
theorem idx2 : ∀ t : Fin cfg0.N, win0_2.index t = ![t.val / 4, 0] := by decide +kernel

variable (m : (ℓ : Loc nD τ sig) → Buf (Elt Ideal) ℓ) (c : Dev nD)

/-- The left operand, held in four blocks of columns, and the layer's weight, held in four blocks. -/
def X (p k : ℕ) : EReal := at3 (n1 := 4) (n2 := 4096) (n3 := 704) (m ((c : Thread nD τ).loc main_arg0)) (k / 704) p (k % 704)
def Y (k q : ℕ) : EReal := at4 (n1 := 4) (n2 := 3) (n3 := 1024) (n4 := 704) (m ((c : Thread nD τ).loc main_arg1)) (k / 704) 1 q (k % 704)
/-- The array added to the product. -/
def R : ℕ → ℕ → EReal := at2 (n1 := 4096) (n2 := 1024) (m ((c : Thread nD τ).loc main_arg2))

theorem x_at (t : Fin cfg0.N) (p : Fin 1024) (k : Fin 704) :
    (iblk m c 0 t (ix3 0 p k) : EReal) = X m c (1024 * (t.val / 4) + p.val) (704 * (t.val % 4) + k.val) := by
  have hk := k.isLt
  unfold iblk X
  rw [show V m c (Pipeline.arrRef spec0 0) = m ((c : Thread nD τ).loc main_arg0) from V_main_arg0 m c]
  exact at3_eq (n1 := 4) (n2 := 4096) (n3 := 704) _ _ (by blk_simp [idx0]; try omega) (by blk_simp [idx0]; try omega) (by blk_simp [idx0]; try omega)

theorem y_at (t : Fin cfg0.N) (q : Fin 1024) (k : Fin 704) :
    (iblk m c 1 t (ix4 0 0 q k) : EReal) = Y m c (704 * (t.val % 4) + k.val) q.val := by
  have hk := k.isLt
  unfold iblk Y
  rw [show V m c (Pipeline.arrRef spec0 1) = m ((c : Thread nD τ).loc main_arg1) from V_main_arg1 m c]
  exact at4_eq (n1 := 4) (n2 := 3) (n3 := 1024) (n4 := 704) _ _ (by blk_simp [idx1]; try omega) (by blk_simp [idx1]; try omega) (by blk_simp [idx1]; try omega) (by blk_simp [idx1]; try omega)

theorem r_at (t : Fin cfg0.N) (p q : Fin 1024) :
    (iblk m c 2 t (ix2 p q) : EReal) = R m c (1024 * (t.val / 4) + p.val) q.val := by
  unfold iblk
  rw [show V m c (Pipeline.arrRef spec0 2) = m ((c : Thread nD τ).loc main_arg2) from V_main_arg2 m c]
  exact at2_eq (n1 := 4096) (n2 := 1024) _ _ (by blk_simp [idx2]; try omega) (by blk_simp [idx2]; try omega)

/-- A point's product, over the arrays. -/
theorem prod_pt (t : Fin cfg0.N) (p q : Fin 1024) :
    k0_pay1 (iblk m c 0 t) (iblk m c 1 t) (ix2 p q)
      = ∑ k : Fin 704, X m c (1024 * (t.val / 4) + p.val) (704 * (t.val % 4) + k.val) * Y m c (704 * (t.val % 4) + k.val) q.val := by
  rw [prod_at]
  exact Finset.sum_congr rfl fun k _ => by rw [x_at, y_at]

/-- What the scratch holds after each of a row block's first three points: the sum over the columns so far. -/
theorem acc_at (p q : Fin 1024) : ∀ (n : ℕ) (hn : n < cfg0.N), n % 4 < 3 →
    ((outsAt0 m c n hn).2 (ix2 p q) : EReal)
      = ∑ k ∈ Finset.range (704 * (n % 4) + 704), X m c (1024 * (n / 4) + p.val) k * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 704]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 704, show (n - 1) / 4 = n / 4 by omega, show 704 * ((n - 1) % 4) + 704 = 704 * (n % 4) by omega]

/-- The array after the run. -/
def P (i : S4096x1024.Idx) : EReal := R m c (i 0).val (i 1).val + ∑ k ∈ Finset.range 2816, X m c (i 0).val k * Y m c k (i 1).val

theorem out_at (n : ℕ) (hn : n < cfg0.N) (h3 : n % 4 = 3) (p q : Fin 1024) (i : S4096x1024.Idx)
    (e0 : (i 0).val = 1024 * (n / 4) + p.val) (e1 : (i 1).val = q.val) :
    ((outsAt0 m c n hn).1 (ix2 p q) : EReal) = P m c i := by
  rw [outsAt0_C m c ⟨n, hn⟩ (by dsimp only; omega) (by dsimp only; omega) (by dsimp only; omega)]
  dsimp only
  have hs := Eq.trans (congrArg₂ (· + ·) (acc_at m c p q (n - 1) (by omega) (by omega)) (prod_pt m c ⟨n, hn⟩ p q))
    (by
      dsimp only
      rw [show (n - 1) % 4 = 2 by omega, h3, show (n - 1) / 4 = n / 4 by omega, ← sum_block _ 3 704] : _ = ∑ k ∈ Finset.range 2816, X m c (1024 * (n / 4) + p.val) k * Y m c k q.val)
  rw [last_eq, pay4_at]
  unfold P
  rw [e0, e1, r_at, add_comm]
  exact congrArg (R m c _ _ + ·) hs

theorem final (i : S4096x1024.Idx) : (Value.G3 m c i : EReal) = P m c i := by
  have b0 : (i 0).val < 4096 := (i 0).isLt
  have b1 : (i 1).val < 1024 := (i 1).isLt
  have hN : cfg0.N = 16 := N_0
  have hp : Value.pt3Of i = 4 * ((i 0).val / 1024) + 3 := by simp only [Value.pt3Of, Value.run3Of]; omega
  have hl : Value.loc3Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt3Of i < cfg0.N := by rw [hp, hN]; omega
  unfold Value.G3
  rw [dif_pos hlt, ← Value.outsAt0_sweep m c _ hlt, hl]
  exact out_at m c _ hlt (by omega) _ _ i (by dsimp only; omega) rfl

end Cert.UpDxIdeal.Mm

namespace Cert.UpDxRefIdeal.Mm

open Cert.UpDxRefIdeal Cert.UpDxRefIdeal.Gen
open Cert.Mm
open Idealize.ShloMosaic Idealize.ShloMosaic.TcCoe Idealize.SL.Sem

theorem value (x : FVec Ideal S4x4096x704 .bf16) (y : FVec Ideal S4x3x1024x704 .bf16) (z : FVec Ideal S4096x1024 .f32) (i : S4096x1024.Idx) :
    (addf z (Host.dotGeneral dot_S4096x2816_S1024x2816_S4096x1024_1_1_0_0_n_n none (extf .f32 (shapeCast _ (transpose S4096x4x704 [1, 0, 2] x transposes_S4x4096x704_S4096x4x704_1_0_2) shapeCasts_S4096x4x704_S4096x2816) bitsLt_bf16_f32) (extf .f32 (shapeCast _ (transpose S1024x4x704 [1, 0, 2] (shapeCast _ (extractStridedSlice S4x1x1024x704 ![0, 1, 0, 0] y slices_S4x3x1024x704_S4x1x1024x704_0_1_0_0) shapeCasts_S4x1x1024x704_S4x1024x704) transposes_S4x1024x704_S1024x4x704_1_0_2) shapeCasts_S1024x4x704_S1024x2816) bitsLt_bf16_f32)) : FVec Ideal S4096x1024 .f32) i
      = at2 (n1 := 4096) (n2 := 1024) z (i 0).val (i 1).val + ∑ k ∈ Finset.range 2816, at3 (n1 := 4) (n2 := 4096) (n3 := 704) x (k / 704) (i 0).val (k % 704) * at4 (n1 := 4) (n2 := 3) (n3 := 1024) (n4 := 704) y (k / 704) 1 (i 1).val (k % 704) := by
  obtain ⟨a, b, rfl⟩ : ∃ (a : Fin 4096) (b : Fin 1024), i = ix2 a b := ⟨i 0, i 1, by funext x; fin_cases x <;> rfl⟩
  rw [sum_first]
  pointwise
  exact congrArg₂ (· + ·) (at2_eq (n1 := 4096) (n2 := 1024) z (ix2 a b) rfl rfl) (Finset.sum_congr rfl fun k _ => congrArg₂ (· * ·) (at3_eq (n1 := 4) (n2 := 4096) (n3 := 704) x _ rfl rfl rfl) (at4_eq (n1 := 4) (n2 := 3) (n3 := 1024) (n4 := 704) y _ rfl rfl rfl rfl))

end Cert.UpDxRefIdeal.Mm

namespace Cert.Proof.Mm

open Idealize.ShloMosaic Idealize.ShloMosaic.TcCoe Idealize.SL.Sem

theorem quiescent_UpDxRefIdeal : Cert.quiescent_UpDxRefIdeal := fun m ρ _ =>
  (θ_run Cert.UpDxRefIdeal.defs _ _).mono
    (fun _ h => ⟨fun c => (h c).2, sem_eq_zero_of_no_sems rfl _⟩) (Cert.UpDxRefIdeal.Value.run (F := Ideal) m ρ)

theorem quiescent_UpDx : Cert.quiescent_UpDx := fun m ρ _ => Cert.UpDx.Gen.frame m ρ
theorem quiescent_UpDxIdeal : Cert.quiescent_UpDxIdeal := fun m ρ _ => Cert.UpDxIdeal.Gen.frame m ρ

theorem algebraic_UpDx : Cert.algebraic_UpDxIdeal_UpDxRefIdeal := by
  intro m ρ m' ρ' hpre hagree
  refine ⟨fun c => Cert.UpDxIdeal.Value.G3 m c, Cert.UpDxIdeal.Value.run m ρ, ?_⟩
  refine (θ_run Cert.UpDxRefIdeal.defs _ _).mono (fun r h c => ?_) (Cert.UpDxRefIdeal.Value.run (F := Ideal) m' ρ')
  refine ⟨(h c).1.trans ?_, (h c).2⟩
  funext i
  refine (Cert.UpDxRefIdeal.Mm.value _ _ _ i).trans ((Cert.UpDxIdeal.Mm.final m c i).trans ?_).symm
  unfold Cert.UpDxIdeal.Mm.P Cert.UpDxIdeal.Mm.X Cert.UpDxIdeal.Mm.Y Cert.UpDxIdeal.Mm.R
  rw [(hagree c).1, (hagree c).2.1, (hagree c).2.2]

end Cert.Proof.Mm
-- ==== Proof.Mm.Rms.lean ====
/- The norm of a row, and the derivative of the norm in the row and in the weight, over the extended reals. -/
module

public import proofs.«01_k».proof.Proof.Mm.Sum

@[expose] public section

noncomputable section

namespace Cert.Mm

open Idealize.ShloMosaic

/-- The mean of a row's squares, with the small constant added. -/
def meanSq (x : Fin 1024 → EReal) : EReal :=
  Ideal.div (∑ k, x k * x k) (Ideal.ofBits .f32 0x44800000#32) + Ideal.ofBits .f32 0x358637BD#32

/-- An element of the normed row. -/
def normed (x w : Fin 1024 → EReal) (q : Fin 1024) : EReal := x q * Ideal.rsqrt (meanSq x) * w q

/-- What the mean of the squares contributes to the derivative, before the product with an element of the row. -/
def through (x w d : Fin 1024 → EReal) : EReal :=
  Ideal.div ((∑ k, x k * (d k * w k)) * (Ideal.ofBits .f32 0xBF000000#32 * Ideal.div (Ideal.rsqrt (meanSq x)) (meanSq x)))
    (Ideal.ofBits .f32 0x44800000#32)

/-- The gradient at an element of the row, with the residual's gradient `r` added. -/
def normDx (x w d : Fin 1024 → EReal) (r : EReal) (q : Fin 1024) : EReal :=
  d q * w q * Ideal.rsqrt (meanSq x) + x q * through x w d + through x w d * x q + r

/-- A row's part of the gradient of the weight. -/
def normDw (x d : Fin 1024 → EReal) (q : Fin 1024) : EReal := x q * Ideal.rsqrt (meanSq x) * d q

end Cert.Mm
-- ==== Proof.Mm.Norm.lean ====
/- The norm of the rows of a block. -/
module

public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Mm.Sum
public import proofs.«01_k».proof.Proof.Mm.Rms
public import proofs.«01_k».proof.Defs

@[expose] public section

set_option maxRecDepth 16384

noncomputable section

namespace Cert.NormIdeal.Mm

open Cert.NormIdeal Cert.NormIdeal.Gen
open Cert.Mm
open Idealize.ShloMosaic Idealize.ShloMosaic.TcCoe Idealize.SL.Sem

theorem hz : (![0, 0] : Fin 2 → ℕ) = fun _ => 0 := by funext a; fin_cases a <;> rfl

theorem out_eq (x0 : Vec Ideal S512x1024 .f32) (x1 : Vec Ideal S1x1024 .f32) : out0_2 x0 x1 = k0_pay1 x0 x1 := by
  unfold out0_2
  rw [View.canon_unit_zero hz]
  simp only [View.ld_unit_zero (S := S512x1024) hz, View.ld_unit_zero (S := S1x1024) hz]

theorem pay_at (x0 : Vec Ideal S512x1024 .f32) (x1 : Vec Ideal S1x1024 .f32) (p : Fin 512) (q : Fin 1024) :
    (k0_pay1 x0 x1 (ix2 p q) : EReal) = normed (fun k => x0 (ix2 p k)) (fun k => x1 (ix2 0 k)) q := by
  pointwise [k0_pay1, normed, meanSq]

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

variable (m : (ℓ : Loc nD τ sig) → Buf (Elt Ideal) ℓ) (c : Dev nD)

/-- Row `a` of the input, and the norm's weight. -/
def X (a : ℕ) (k : Fin 1024) : EReal := at2 (n1 := 4096) (n2 := 1024) (m ((c : Thread nD τ).loc main_arg0)) a k.val
def W (k : Fin 1024) : EReal := at2 (n1 := 1) (n2 := 1024) (m ((c : Thread nD τ).loc main_arg1)) 0 k.val

theorem x_at (t : Fin cfg0.N) (p : Fin 512) : (fun k => (iblk m c 0 t (ix2 p k) : EReal)) = X m c (512 * t.val + p.val) := by
  funext k
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem w_at (t : Fin cfg0.N) : (fun k => (iblk m c 1 t (ix2 0 k) : EReal)) = W m c := by
  funext k
  unfold iblk
  rw [show V m c (Pipeline.arrRef spec0 1) = m ((c : Thread nD τ).loc main_arg1) from V_main_arg1 m c]
  unfold W
  exact at2_eq (n1 := 1) (n2 := 1024) (m ((c : Thread nD τ).loc main_arg1)) _ (by blk_simp [idx1]; try omega) (by blk_simp [idx1]; try omega)

/-- The array after the run. -/
def P (i : S4096x1024.Idx) : EReal := normed (X m c (i 0).val) (W m c) ⟨(i 1).val, (i 1).isLt⟩

theorem pay_pt (t : Fin cfg0.N) (p : Fin 512) (q : Fin 1024) (i : S4096x1024.Idx)
    (e0 : (i 0).val = 512 * t.val + p.val) (e1 : (i 1).val = q.val) :
    (k0_pay1 (iblk m c 0 t) (iblk m c 1 t) (ix2 p q) : EReal) = P m c i := by
  unfold P
  rw [pay_at, x_at, w_at, e0]
  exact congrArg (normed _ _) (Fin.ext e1.symm)

theorem final : (dats m 0 c).arrAt 2 cfg0.N = (P m c : S4096x1024.Idx → EReal) := by
  refine (dats m 0 c).arrAt_eq_of_covers 2 (P m c) (by decide +kernel) (fun t hf y => ?_)
  have y0 : (y 0).val < 512 := (y 0).isLt
  have y1 : (y 1).val < 1024 := (y 1).isLt
  have e0 : ((((cfg0.win 2).blk t).view.emb y) 0).val = 512 * t.val + (y 0).val := by blk_simp [idx2]; try omega
  have e1 : ((((cfg0.win 2).blk t).view.emb y) 1).val = (y 1).val := by blk_simp [idx2]; try omega
  refine Eq.trans (b := k0_pay1 (iblk m c 0 t) (iblk m c 1 t) (ix2 ⟨(y 0).val, y0⟩ ⟨(y 1).val, y1⟩)) ?_ (by exact pay_pt m c t _ _ _ e0 e1)
  rw [after0_2, out_eq]
  refine congrArg (k0_pay1 (iblk m c 0 t) (iblk m c 1 t)) ?_
  funext a; fin_cases a <;> rfl

end Cert.NormIdeal.Mm

namespace Cert.NormRefIdeal.Mm

open Cert.NormRefIdeal Cert.NormRefIdeal.Gen
open Cert.Mm
open Idealize.ShloMosaic Idealize.ShloMosaic.TcCoe Idealize.SL.Sem

theorem row_at (x : FVec Ideal S4096x1024 .f32) (a : Fin 4096) :
    (fun k : Fin 1024 => (x (ix2 a k) : EReal)) = fun k => at2 (n1 := 4096) (n2 := 1024) x a.val k.val := by
  funext k
  exact at2_eq (n1 := 4096) (n2 := 1024) x _ rfl rfl

theorem weight_at (w : FVec Ideal S1x1024 .f32) :
    (fun k : Fin 1024 => (w (ix2 0 k) : EReal)) = fun k => at2 (n1 := 1) (n2 := 1024) w 0 k.val := by
  funext k
  exact at2_eq (n1 := 1) (n2 := 1024) w _ rfl rfl

theorem value (x : FVec Ideal S4096x1024 .f32) (w : FVec Ideal S1x1024 .f32) (i : S4096x1024.Idx) :
    (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 w)) bitsLt_bf16_f32 : FVec Ideal S4096x1024 .bf16) i
      = normed (fun k => at2 (n1 := 4096) (n2 := 1024) x (i 0).val k.val) (fun k => at2 (n1 := 1) (n2 := 1024) w 0 k.val) ⟨(i 1).val, (i 1).isLt⟩ := by
  obtain ⟨a, b, rfl⟩ : ∃ (a : Fin 4096) (b : Fin 1024), i = ix2 a b := ⟨i 0, i 1, by funext x; fin_cases x <;> rfl⟩
  refine Eq.trans (b := normed (fun k => x (ix2 a k)) (fun k => w (ix2 0 k)) b) ?_ (by rw [row_at, weight_at]; rfl)
  pointwise [normed, meanSq]

end Cert.NormRefIdeal.Mm

namespace Cert.Proof.Mm

open Idealize.ShloMosaic Idealize.ShloMosaic.TcCoe Idealize.SL.Sem

theorem quiescent_NormRefIdeal : Cert.quiescent_NormRefIdeal := fun m ρ _ =>
  (θ_run Cert.NormRefIdeal.defs _ _).mono
    (fun _ h => ⟨fun c => (h c).2, sem_eq_zero_of_no_sems rfl _⟩) (Cert.NormRefIdeal.Value.run (F := Ideal) m ρ)

theorem quiescent_Norm : Cert.quiescent_Norm := fun m ρ _ => Cert.Norm.Gen.frame m ρ
theorem quiescent_NormIdeal : Cert.quiescent_NormIdeal := fun m ρ _ => Cert.NormIdeal.Gen.frame m ρ

theorem algebraic_Norm : Cert.algebraic_NormIdeal_NormRefIdeal := by
  intro m ρ m' ρ' hpre hagree
  refine ⟨fun c => (Cert.NormIdeal.Gen.dats m 0 c).arrAt 2 Cert.NormIdeal.cfg0.N, Cert.NormIdeal.Value.run_blocks m ρ, ?_⟩
  refine (θ_run Cert.NormRefIdeal.defs _ _).mono (fun r h c => ?_) (Cert.NormRefIdeal.Value.run (F := Ideal) m' ρ')
  refine ⟨(h c).1.trans ?_, (h c).2⟩
  refine Eq.trans ?_ (Cert.NormIdeal.Mm.final m c).symm
  funext i
  refine (Cert.NormRefIdeal.Mm.value _ _ i).trans ?_
  unfold Cert.NormIdeal.Mm.P Cert.NormIdeal.Mm.X Cert.NormIdeal.Mm.W
  rw [(hagree c).1, (hagree c).2]

end Cert.Proof.Mm
-- ==== Proof.Mm.NormBwd.lean ====
/- The gradient of the norm: in the rows, and in the weight by a sum over the blocks of rows. -/
module

public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Mm.Sum
public import proofs.«01_k».proof.Proof.Mm.Rms
public import proofs.«01_k».proof.Defs

@[expose] public section

set_option maxRecDepth 16384

noncomputable section

namespace Cert.NormBwdIdeal.Mm

open Cert.NormBwdIdeal Cert.NormBwdIdeal.Gen
open Cert.Mm
open Idealize.ShloMosaic Idealize.ShloMosaic.TcCoe Idealize.SL.Sem

theorem hz : (![0, 0] : Fin 2 → ℕ) = fun _ => 0 := by funext a; fin_cases a <;> rfl

theorem dx_first (c : Dev nD) (i : grid0.Coords) (a1 h1 a2 h2 a3 h3 a4 h4 a5 h5 a6 h6 hc0 hc1) (x0 : Vec Ideal S512x1024 .f32) (x1 : Vec Ideal S1x1024 .f32) (x2 x3 : Vec Ideal S512x1024 .f32) :
    out0_A_4 c i a1 h1 a2 h2 a3 h3 a4 h4 a5 h5 a6 h6 hc0 hc1 x0 x1 x2 x3 = k0_pay5 x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  try sl_unfold_words
  rw [View.canon_unit_zero hz]
  simp only [View.readAt_eq_ld, h1.read_unread, h2.read_unread, h3.read_unread, h4.read_unread, View.ld_unit_zero (S := S512x1024) hz, View.ld_unit_zero (S := S1x1024) hz]

theorem dx_next (c : Dev nD) (i : grid0.Coords) (a1 h1 a2 h2 a3 h3 a4 h4 a5 h5 a6 h6 hc0 hc1) (x0 : Vec Ideal S512x1024 .f32) (x1 : Vec Ideal S1x1024 .f32) (x2 x3 : Vec Ideal S512x1024 .f32) (s : Vec Ideal S1x1024 .f32) :
    out0_B_4 c i a1 h1 a2 h2 a3 h3 a4 h4 a5 h5 a6 h6 hc0 hc1 x0 x1 x2 x3 s = k0_pay5 x0 x1 x2 x3 := by
  unfold out0_B_4
  rw [View.read_writes_eq_canon _ _ _ (cover0_B_4 c i a1 h1 a2 h2 a3 h3 a4 h4 a5 h5 a6 h6 hc0 hc1 x0 x1 x2 x3 s)]
  unfold kernelRun0_B
  dsimp only
  try sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]

theorem dw_first (c : Dev nD) (i : grid0.Coords) (a1 h1 a2 h2 a3 h3 a4 h4 a5 h5 a6 h6 hc0 hc1) (x0 : Vec Ideal S512x1024 .f32) (x1 : Vec Ideal S1x1024 .f32) (x2 x3 : Vec Ideal S512x1024 .f32) :
    out0_A_5 c i a1 h1 a2 h2 a3 h3 a4 h4 a5 h5 a6 h6 hc0 hc1 x0 x1 x2 x3 = k0_pay4 x0 x2 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  try sl_unfold_words
  rw [View.canon_unit_zero hz]
  simp only [View.readAt_eq_ld, h1.read_unread, h2.read_unread, h3.read_unread, h4.read_unread, View.ld_unit_zero (S := S512x1024) hz, View.ld_unit_zero (S := S1x1024) hz]

theorem dw_next (c : Dev nD) (i : grid0.Coords) (a1 h1 a2 h2 a3 h3 a4 h4 a5 h5 a6 h6 hc0 hc1) (x0 : Vec Ideal S512x1024 .f32) (x1 : Vec Ideal S1x1024 .f32) (x2 x3 : Vec Ideal S512x1024 .f32) (s : Vec Ideal S1x1024 .f32) :
    out0_B_5 c i a1 h1 a2 h2 a3 h3 a4 h4 a5 h5 a6 h6 hc0 hc1 x0 x1 x2 x3 s = k0_pay1 (k0_pay4 x0 x2) s := by
  unfold out0_B_5
  rw [View.read_writes_eq_canon _ _ _ (cover0_B_5 c i a1 h1 a2 h2 a3 h3 a4 h4 a5 h5 a6 h6 hc0 hc1 x0 x1 x2 x3 s)]
  unfold kernelRun0_B
  dsimp only
  try sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]

theorem pay5_at (x0 : Vec Ideal S512x1024 .f32) (x1 : Vec Ideal S1x1024 .f32) (x2 x3 : Vec Ideal S512x1024 .f32) (p : Fin 512) (q : Fin 1024) :
    (k0_pay5 x0 x1 x2 x3 (ix2 p q) : EReal)
      = normDx (fun k => x0 (ix2 p k)) (fun k => x1 (ix2 0 k)) (fun k => x2 (ix2 p k)) (x3 (ix2 p q)) q := by
  pointwise [k0_pay5, k0_pay3, k0_pay2, normDx, through, meanSq]
  simp only [Finset.univ_unique, Finset.sum_const, Finset.card_singleton, one_smul]

theorem pay4_at (x0 x2 : Vec Ideal S512x1024 .f32) (u : Fin 1) (q : Fin 1024) :
    (k0_pay4 x0 x2 (ix2 u q) : EReal) = ∑ p : Fin 512, normDw (fun k => x0 (ix2 p k)) (fun k => x2 (ix2 p k)) q := by
  pointwise [k0_pay4, k0_pay3, k0_pay2, normDw, meanSq]

theorem pay1_at (v s : Vec Ideal S1x1024 .f32) (u : Fin 1) (q : Fin 1024) :
    (k0_pay1 v s (ix2 u q) : EReal) = s (ix2 u q) + v (ix2 u q) := by
  pointwise [k0_pay1]

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel

variable (m : (ℓ : Loc nD τ sig) → Buf (Elt Ideal) ℓ) (c : Dev nD)

/-- Row `a` of the input, and the norm's weight. -/
def X (a : ℕ) (k : Fin 1024) : EReal := at2 (n1 := 4096) (n2 := 1024) (m ((c : Thread nD τ).loc main_arg0)) a k.val
def W (k : Fin 1024) : EReal := at2 (n1 := 1) (n2 := 1024) (m ((c : Thread nD τ).loc main_arg1)) 0 k.val

/-- Row `a` of the gradient of the normed array, and the gradient that arrives past the norm. -/
def D (a : ℕ) (k : Fin 1024) : EReal := at2 (n1 := 4096) (n2 := 1024) (m ((c : Thread nD τ).loc main_arg2)) a k.val
def R : ℕ → ℕ → EReal := at2 (n1 := 4096) (n2 := 1024) (m ((c : Thread nD τ).loc main_arg3))

theorem x_at (t : Fin cfg0.N) (p : Fin 512) : (fun k => (iblk m c 0 t (ix2 p k) : EReal)) = X m c (512 * t.val + p.val) := by
  funext k
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem w_at (t : Fin cfg0.N) : (fun k => (iblk m c 1 t (ix2 0 k) : EReal)) = W m c := by
  funext k
  unfold iblk
  rw [show V m c (Pipeline.arrRef spec0 1) = m ((c : Thread nD τ).loc main_arg1) from V_main_arg1 m c]
  unfold W
  exact at2_eq (n1 := 1) (n2 := 1024) (m ((c : Thread nD τ).loc main_arg1)) _ (by blk_simp [idx1]; try omega) (by blk_simp [idx1]; try omega)

theorem d_at (t : Fin cfg0.N) (p : Fin 512) : (fun k => (iblk m c 2 t (ix2 p k) : EReal)) = D m c (512 * t.val + p.val) := by
  funext k
  unfold iblk
  rw [show V m c (Pipeline.arrRef spec0 2) = m ((c : Thread nD τ).loc main_arg2) from V_main_arg2 m c]
  exact at2_eq (n1 := 4096) (n2 := 1024) _ _ (by blk_simp [idx2]; try omega) (by blk_simp [idx2]; try omega)

theorem r_at (t : Fin cfg0.N) (p : Fin 512) (q : Fin 1024) : (iblk m c 3 t (ix2 p q) : EReal) = R m c (512 * t.val + p.val) q.val := by
  unfold iblk
  rw [show V m c (Pipeline.arrRef spec0 3) = m ((c : Thread nD τ).loc main_arg3) from V_main_arg3 m c]
  exact at2_eq (n1 := 4096) (n2 := 1024) _ _ (by blk_simp [idx3]; try omega) (by blk_simp [idx3]; try omega)

/-- The gradient of the rows. -/
def P4 (i : S4096x1024.Idx) : EReal :=
  normDx (X m c (i 0).val) (W m c) (D m c (i 0).val) (R m c (i 0).val (i 1).val) ⟨(i 1).val, (i 1).isLt⟩

/-- The gradient of the weight. -/
def P5 (i : S1x1024.Idx) : EReal :=
  ∑ a ∈ Finset.range 4096, normDw (X m c a) (D m c a) ⟨(i 1).val, (i 1).isLt⟩

theorem dx_at (t : Fin cfg0.N) : (outsAt0 m c t.val t.isLt).1 = k0_pay5 (iblk m c 0 t) (iblk m c 1 t) (iblk m c 2 t) (iblk m c 3 t) := by
  have hN : cfg0.N = 8 := N_0
  have ht := t.isLt
  by_cases h0 : t.val % 8 = 0
  · rw [outsAt0_A m c t h0 (by omega)]
    dsimp only
    rw [dx_first]
  · rw [outsAt0_B m c t h0 (by omega)]
    dsimp only
    rw [dx_next]

theorem dx_pt (t : Fin cfg0.N) (p : Fin 512) (q : Fin 1024) (i : S4096x1024.Idx)
    (e0 : (i 0).val = 512 * t.val + p.val) (e1 : (i 1).val = q.val) :
    (k0_pay5 (iblk m c 0 t) (iblk m c 1 t) (iblk m c 2 t) (iblk m c 3 t) (ix2 p q) : EReal) = P4 m c i := by
  have hq : q = ⟨(i 1).val, (i 1).isLt⟩ := Fin.ext e1.symm
  subst hq
  unfold P4
  rw [pay5_at, x_at, w_at, d_at, r_at, e0]

theorem final4 : (dats m 0 c).arrAt 4 cfg0.N = (P4 m c : S4096x1024.Idx → EReal) := by
  refine (dats m 0 c).arrAt_eq_of_covers 4 (P4 m c) (by decide +kernel) (fun t hf y => ?_)
  have y0 : (y 0).val < 512 := (y 0).isLt
  have y1 : (y 1).val < 1024 := (y 1).isLt
  have e0 : ((((cfg0.win 4).blk t).view.emb y) 0).val = 512 * t.val + (y 0).val := by blk_simp [idx4]; try omega
  have e1 : ((((cfg0.win 4).blk t).view.emb y) 1).val = (y 1).val := by blk_simp [idx4]; try omega
  refine Eq.trans (b := k0_pay5 (iblk m c 0 t) (iblk m c 1 t) (iblk m c 2 t) (iblk m c 3 t) (ix2 ⟨(y 0).val, y0⟩ ⟨(y 1).val, y1⟩)) ?_ (by exact dx_pt m c t _ _ _ e0 e1)
  rw [after0_4, dx_at]
  refine congrArg (k0_pay5 (iblk m c 0 t) (iblk m c 1 t) (iblk m c 2 t) (iblk m c 3 t)) ?_
  funext a; fin_cases a <;> rfl

/-- A block's part of the gradient of the weight. -/
theorem part_at (t : Fin cfg0.N) (u : Fin 1) (q : Fin 1024) :
    (k0_pay4 (iblk m c 0 t) (iblk m c 2 t) (ix2 u q) : EReal)
      = ∑ p : Fin 512, normDw (X m c (512 * t.val + p.val)) (D m c (512 * t.val + p.val)) q := by
  rw [pay4_at]
  exact Finset.sum_congr rfl fun p _ => by rw [x_at, d_at]

/-- What the weight's block holds after each point: the sum over the rows so far. -/
theorem acc_at (u : Fin 1) (q : Fin 1024) : ∀ (n : ℕ) (hn : n < cfg0.N),
    ((outsAt0 m c n hn).2 (ix2 u q) : EReal)
      = ∑ a ∈ Finset.range (512 * n + 512), normDw (X m c a) (D m c a) q := by
  have hN : cfg0.N = 8 := N_0
  intro n
  induction n using Nat.strong_induction_on with
  | _ n ih =>
    intro hn
    by_cases h0 : n = 0
    · rw [outsAt0_A m c ⟨n, hn⟩ (by dsimp only; omega) (by dsimp only; omega)]
      dsimp only
      rw [dw_first, part_at]
      dsimp only
      rw [h0, sum_block _ 0 512]
      simp
    · rw [outsAt0_B m c ⟨n, hn⟩ (by dsimp only; omega) (by dsimp only; omega)]
      dsimp only
      rw [dw_next, pay1_at]
      refine Eq.trans (congrArg₂ (· + ·) (ih (n - 1) (by omega) (by omega)) (part_at m c ⟨n, hn⟩ u q)) ?_
      dsimp only
      rw [sum_block _ n 512, show 512 * (n - 1) + 512 = 512 * n by omega]

theorem final5 : (dats m 0 c).arrAt 5 cfg0.N = (P5 m c : S1x1024.Idx → EReal) := by
  have hN : cfg0.N = 8 := N_0
  refine (dats m 0 c).arrAt_eq_of_covers 5 (P5 m c) (by decide +kernel) (fun t hf y => ?_)
  have ht : t.val < cfg0.N := t.isLt
  have y0 : (y 0).val < 1 := (y 0).isLt
  have y1 : (y 1).val < 1024 := (y 1).isLt
  have h7 : t.val % 8 = 7 := (flush0_5 t).mp hf
  have e1 : ((((cfg0.win 5).blk t).view.emb y) 1).val = (y 1).val := by blk_simp [idx5]; try omega
  refine Eq.trans (b := (outsAt0 m c t.val t.isLt).2 (ix2 ⟨(y 0).val, y0⟩ ⟨(y 1).val, y1⟩)) ?_ ?_
  · rw [after0_5]
    refine congrArg (outsAt0 m c t.val t.isLt).2 ?_
    funext a; fin_cases a <;> rfl
  · rw [acc_at m c _ _ t.val t.isLt, show 512 * t.val + 512 = 4096 by omega]
    unfold P5
    exact Finset.sum_congr rfl fun a _ => congrArg (normDw _ _) (Fin.ext e1.symm)

end Cert.NormBwdIdeal.Mm

namespace Cert.NormBwdRefIdeal.Mm

open Cert.NormBwdRefIdeal Cert.NormBwdRefIdeal.Gen
open Cert.Mm
open Idealize.ShloMosaic Idealize.ShloMosaic.TcCoe Idealize.SL.Sem

theorem row_at (x : FVec Ideal S4096x1024 .f32) (a : Fin 4096) :
    (fun k : Fin 1024 => (x (ix2 a k) : EReal)) = fun k => at2 (n1 := 4096) (n2 := 1024) x a.val k.val := by
  funext k
  exact at2_eq (n1 := 4096) (n2 := 1024) x _ rfl rfl

theorem weight_at (w : FVec Ideal S1x1024 .f32) :
    (fun k : Fin 1024 => (w (ix2 0 k) : EReal)) = fun k => at2 (n1 := 1) (n2 := 1024) w 0 k.val := by
  funext k
  exact at2_eq (n1 := 1) (n2 := 1024) w _ rfl rfl

theorem value_dx (x : FVec Ideal S4096x1024 .f32) (w : FVec Ideal S1x1024 .f32) (d r : FVec Ideal S4096x1024 .f32) (i : S4096x1024.Idx) :
    (addf (addf (addf (mulf (mulf d (broadcastInDim S4096x1024 ![0, 1] bcast_S1x1024_S4096x1024_0_1 w)) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast _ (Host.reduceAdd (mulf x (mulf d (broadcastInDim S4096x1024 ![0, 1] bcast_S1x1024_S4096x1024_0_1 w))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf d (broadcastInDim S4096x1024 ![0, 1] bcast_S1x1024_S4096x1024_0_1 w))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) r : FVec Ideal S4096x1024 .f32) i
      = normDx (fun k => at2 (n1 := 4096) (n2 := 1024) x (i 0).val k.val) (fun k => at2 (n1 := 1) (n2 := 1024) w 0 k.val) (fun k => at2 (n1 := 4096) (n2 := 1024) d (i 0).val k.val) (at2 (n1 := 4096) (n2 := 1024) r (i 0).val (i 1).val) ⟨(i 1).val, (i 1).isLt⟩ := by
  obtain ⟨a, b, rfl⟩ : ∃ (a : Fin 4096) (b : Fin 1024), i = ix2 a b := ⟨i 0, i 1, by funext x; fin_cases x <;> rfl⟩
  refine Eq.trans (b := normDx (fun k => x (ix2 a k)) (fun k => w (ix2 0 k)) (fun k => d (ix2 a k)) (r (ix2 a b)) b) ?_
    (by rw [row_at, weight_at, row_at, at2_eq (n1 := 4096) (n2 := 1024) r (ix2 a b) rfl rfl]; rfl)
  pointwise [normDx, through, meanSq]
  simp only [Finset.univ_unique, Finset.sum_const, Finset.card_singleton, one_smul]

theorem value_dw (x : FVec Ideal S4096x1024 .f32) (d : FVec Ideal S4096x1024 .f32) (i : S1x1024.Idx) :
    (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) d) (constant S_ .f32 0x00000000#32) reducesTo_S4096x1024_S1024_d0 h_S_) shapeCasts_S1024_S1x1024 : FVec Ideal S1x1024 .f32) i
      = ∑ a ∈ Finset.range 4096, normDw (fun k => at2 (n1 := 4096) (n2 := 1024) x a k.val) (fun k => at2 (n1 := 4096) (n2 := 1024) d a k.val) ⟨(i 1).val, (i 1).isLt⟩ := by
  obtain ⟨u, b, rfl⟩ : ∃ (u : Fin 1) (b : Fin 1024), i = ix2 u b := ⟨i 0, i 1, by funext x; fin_cases x <;> rfl⟩
  rw [sum_first]
  refine Eq.trans (b := ∑ a : Fin 4096, normDw (fun k => x (ix2 a k)) (fun k => d (ix2 a k)) b) ?_
    (Finset.sum_congr rfl fun a _ => by rw [row_at, row_at]; rfl)
  pointwise [normDw, meanSq]

end Cert.NormBwdRefIdeal.Mm

namespace Cert.Proof.Mm

open Idealize.ShloMosaic Idealize.ShloMosaic.TcCoe Idealize.SL.Sem

theorem quiescent_NormBwdRefIdeal : Cert.quiescent_NormBwdRefIdeal := fun m ρ _ =>
  (θ_run Cert.NormBwdRefIdeal.defs _ _).mono
    (fun _ h => ⟨fun c => (h c).2.2, sem_eq_zero_of_no_sems rfl _⟩) (Cert.NormBwdRefIdeal.Value.run (F := Ideal) m ρ)

theorem quiescent_NormBwd : Cert.quiescent_NormBwd := fun m ρ _ => Cert.NormBwd.Gen.frame m ρ
theorem quiescent_NormBwdIdeal : Cert.quiescent_NormBwdIdeal := fun m ρ _ => Cert.NormBwdIdeal.Gen.frame m ρ

theorem algebraic_NormBwd : Cert.algebraic_NormBwdIdeal_NormBwdRefIdeal := by
  intro m ρ m' ρ' hpre hagree
  refine ⟨fun c => (Cert.NormBwdIdeal.Gen.dats m 0 c).arrAt 4 Cert.NormBwdIdeal.cfg0.N, fun c => (Cert.NormBwdIdeal.Gen.dats m 0 c).arrAt 5 Cert.NormBwdIdeal.cfg0.N, Cert.NormBwdIdeal.Value.run_blocks m ρ, ?_⟩
  refine (θ_run Cert.NormBwdRefIdeal.defs _ _).mono (fun r h c => ?_) (Cert.NormBwdRefIdeal.Value.run (F := Ideal) m' ρ')
  refine ⟨(h c).1.trans ?_, (h c).2.1.trans ?_, (h c).2.2⟩
  · refine Eq.trans ?_ (Cert.NormBwdIdeal.Mm.final4 m c).symm
    funext i
    refine (Cert.NormBwdRefIdeal.Mm.value_dx _ _ _ _ i).trans ?_
    unfold Cert.NormBwdIdeal.Mm.P4 Cert.NormBwdIdeal.Mm.X Cert.NormBwdIdeal.Mm.W Cert.NormBwdIdeal.Mm.D Cert.NormBwdIdeal.Mm.R
    rw [(hagree c).1, (hagree c).2.1, (hagree c).2.2.1, (hagree c).2.2.2]
  · refine Eq.trans ?_ (Cert.NormBwdIdeal.Mm.final5 m c).symm
    funext i
    refine (Cert.NormBwdRefIdeal.Mm.value_dw _ _ i).trans ?_
    unfold Cert.NormBwdIdeal.Mm.P5 Cert.NormBwdIdeal.Mm.X Cert.NormBwdIdeal.Mm.D
    rw [(hagree c).1, (hagree c).2.2.1]

end Cert.Proof.Mm
-- ==== Proof.Mm.Mix.lean ====
/- A gate's argument, and the gradient of a gate, over the extended reals. -/
module

public import proofs.«01_k».proof.Proof.Mm.Gate

@[expose] public section

noncomputable section

namespace Cert.Mm

open Idealize.ShloMosaic

/-- A gate's argument: a column of the projection and a bias, each from an offset on. -/
def gateArg (pr bi : ℕ → ℕ → EReal) (o h a b : ℕ) : EReal := pr a (o + b) + bi 0 (h + b)

/-- The gradient at a gate's argument, `w` being what the gate's own gradient is. -/
def gateDx (x w : EReal) : EReal := w * (sigm x * (1 - sigm x))

/-- The same, as the quotient's rule leaves it. -/
theorem gate_slope (x w : EReal) :
    0 - (0 - w * Ideal.div 1 ((1 + Ideal.exp (0 - x)) * (1 + Ideal.exp (0 - x)))) * Ideal.exp (0 - x) = gateDx x w := by
  unfold gateDx
  rw [← sigm_slope]
  simp only [zero_sub, neg_mul, neg_neg]
  rw [mul_assoc w]

end Cert.Mm
-- ==== Proof.Mm.Merge.lean ====
/- The gated sum of the two projected results, block by block. -/
module

public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Mm.Sum
public import proofs.«01_k».proof.Proof.Mm.Mix
public import proofs.«01_k».proof.Defs

@[expose] public section

set_option maxRecDepth 16384

noncomputable section

namespace Cert.MergeIdeal.Mm

open Cert.MergeIdeal Cert.MergeIdeal.Gen
open Cert.Mm
open Idealize.ShloMosaic Idealize.ShloMosaic.TcCoe Idealize.SL.Sem

theorem hz : (![0, 0] : Fin 2 → ℕ) = fun _ => 0 := by funext a; fin_cases a <;> rfl

theorem out_eq (x0 x1 x2 x3 : Vec Ideal S512x512 .f32) (x4 x5 : Vec Ideal S1x512 .f32) : out0_6 x0 x1 x2 x3 x4 x5 = k0_pay1 x0 x1 x2 x3 x4 x5 := by
  unfold out0_6
  rw [View.canon_unit_zero hz]
  simp only [View.ld_unit_zero (S := S512x512) hz, View.ld_unit_zero (S := S1x512) hz]

theorem pay_at (x0 x1 x2 x3 : Vec Ideal S512x512 .f32) (x4 x5 : Vec Ideal S1x512 .f32) (p q : Fin 512) :
    (k0_pay1 x0 x1 x2 x3 x4 x5 (ix2 p q) : EReal)
      = sigm ((x2 (ix2 p q) : EReal) + x4 (ix2 0 q)) * x0 (ix2 p q) + sigm ((x3 (ix2 p q) : EReal) + x5 (ix2 0 q)) * x1 (ix2 p q) := by
  unfold sigm
  rw [← zero_sub ((x2 (ix2 p q) : EReal) + x4 (ix2 0 q)), ← zero_sub ((x3 (ix2 p q) : EReal) + x5 (ix2 0 q))]
  pointwise [k0_pay1]

theorem idx0 : ∀ t : Fin cfg0.N, win0_0.index t = ![t.val % 8, t.val / 8] := by decide +kernel
theorem idx1 : ∀ t : Fin cfg0.N, win0_1.index t = ![t.val % 8, t.val / 8] := by decide +kernel
theorem idx2 : ∀ t : Fin cfg0.N, win0_2.index t = ![t.val % 8, 13 + t.val / 8] := by decide +kernel
theorem idx3 : ∀ t : Fin cfg0.N, win0_3.index t = ![t.val % 8, 15 + t.val / 8] := by decide +kernel
theorem idx4 : ∀ t : Fin cfg0.N, win0_4.index t = ![0, t.val / 8] := by decide +kernel
theorem idx5 : ∀ t : Fin cfg0.N, win0_5.index t = ![0, 2 + t.val / 8] := by decide +kernel
theorem idx6 : ∀ t : Fin cfg0.N, win0_6.index t = ![t.val % 8, t.val / 8] := by decide +kernel

variable (m : (ℓ : Loc nD τ sig) → Buf (Elt Ideal) ℓ) (c : Dev nD)

/-- The two projected results, the projection that holds the gates' arguments, and the gates' biases. -/
def YA : ℕ → ℕ → EReal := at2 (n1 := 4096) (n2 := 1024) (m ((c : Thread nD τ).loc main_arg0))
def YS : ℕ → ℕ → EReal := at2 (n1 := 4096) (n2 := 1024) (m ((c : Thread nD τ).loc main_arg1))
def PR : ℕ → ℕ → EReal := at2 (n1 := 4096) (n2 := 12288) (m ((c : Thread nD τ).loc main_arg2))
def BI : ℕ → ℕ → EReal := at2 (n1 := 1) (n2 := 2048) (m ((c : Thread nD τ).loc main_arg3))

theorem ya_at (t : Fin cfg0.N) (p q : Fin 512) : (iblk m c 0 t (ix2 p q) : EReal) = YA m c (512 * (t.val % 8) + p.val) (512 * (t.val / 8) + q.val) := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem ys_at (t : Fin cfg0.N) (p q : Fin 512) : (iblk m c 1 t (ix2 p q) : EReal) = YS m c (512 * (t.val % 8) + p.val) (512 * (t.val / 8) + q.val) := by
  unfold iblk
  rw [show V m c (Pipeline.arrRef spec0 1) = m ((c : Thread nD τ).loc main_arg1) from V_main_arg1 m c]
  exact at2_eq (n1 := 4096) (n2 := 1024) _ _ (by blk_simp [idx1]; try omega) (by blk_simp [idx1]; try omega)

theorem pa_at (t : Fin cfg0.N) (p q : Fin 512) : (iblk m c 2 t (ix2 p q) : EReal) = PR m c (512 * (t.val % 8) + p.val) (6656 + (512 * (t.val / 8) + q.val)) := by
  unfold iblk
  rw [show V m c (Pipeline.arrRef spec0 2) = m ((c : Thread nD τ).loc main_arg2) from V_main_arg2 m c]
  exact at2_eq (n1 := 4096) (n2 := 12288) _ _ (by blk_simp [idx2]; try omega) (by blk_simp [idx2]; try omega)

theorem ps_at (t : Fin cfg0.N) (p q : Fin 512) : (iblk m c 3 t (ix2 p q) : EReal) = PR m c (512 * (t.val % 8) + p.val) (7680 + (512 * (t.val / 8) + q.val)) := by
  unfold iblk
  rw [show V m c (Pipeline.arrRef spec0 3) = m ((c : Thread nD τ).loc main_arg2) from V_main_arg2 m c]
  exact at2_eq (n1 := 4096) (n2 := 12288) _ _ (by blk_simp [idx3]; try omega) (by blk_simp [idx3]; try omega)

theorem ba_at (t : Fin cfg0.N) (q : Fin 512) : (iblk m c 4 t (ix2 0 q) : EReal) = BI m c 0 (0 + (512 * (t.val / 8) + q.val)) := by
  unfold iblk
  rw [show V m c (Pipeline.arrRef spec0 4) = m ((c : Thread nD τ).loc main_arg3) from V_main_arg3 m c]
  exact at2_eq (n1 := 1) (n2 := 2048) _ _ (by blk_simp [idx4]; try omega) (by blk_simp [idx4]; try omega)

theorem bs_at (t : Fin cfg0.N) (q : Fin 512) : (iblk m c 5 t (ix2 0 q) : EReal) = BI m c 0 (1024 + (512 * (t.val / 8) + q.val)) := by
  unfold iblk
  rw [show V m c (Pipeline.arrRef spec0 5) = m ((c : Thread nD τ).loc main_arg3) from V_main_arg3 m c]
  exact at2_eq (n1 := 1) (n2 := 2048) _ _ (by blk_simp [idx5]; try omega) (by blk_simp [idx5]; try omega)

/-- The arguments of the two gates. -/
def GA : ℕ → ℕ → EReal := gateArg (PR m c) (BI m c) 6656 0
def GS : ℕ → ℕ → EReal := gateArg (PR m c) (BI m c) 7680 1024

theorem ga_at (t : Fin cfg0.N) (p q : Fin 512) :
    @HAdd.hAdd EReal EReal EReal _ (iblk m c 2 t (ix2 p q)) (iblk m c 4 t (ix2 0 q)) = GA m c (512 * (t.val % 8) + p.val) (512 * (t.val / 8) + q.val) :=
  congrArg₂ (fun u v : EReal => u + v) (pa_at m c t p q) (ba_at m c t q)

theorem gs_at (t : Fin cfg0.N) (p q : Fin 512) :
    @HAdd.hAdd EReal EReal EReal _ (iblk m c 3 t (ix2 p q)) (iblk m c 5 t (ix2 0 q)) = GS m c (512 * (t.val % 8) + p.val) (512 * (t.val / 8) + q.val) :=
  congrArg₂ (fun u v : EReal => u + v) (ps_at m c t p q) (bs_at m c t q)

/-- The array after the run. -/
def P (i : S4096x1024.Idx) : EReal :=
  sigm (GA m c (i 0).val (i 1).val) * YA m c (i 0).val (i 1).val + sigm (GS m c (i 0).val (i 1).val) * YS m c (i 0).val (i 1).val

theorem pay_pt (t : Fin cfg0.N) (p q : Fin 512) (i : S4096x1024.Idx)
    (e0 : (i 0).val = 512 * (t.val % 8) + p.val) (e1 : (i 1).val = 512 * (t.val / 8) + q.val) :
    (k0_pay1 (iblk m c 0 t) (iblk m c 1 t) (iblk m c 2 t) (iblk m c 3 t) (iblk m c 4 t) (iblk m c 5 t) (ix2 p q) : EReal) = P m c i := by
  unfold P
  rw [pay_at, ga_at, gs_at, ya_at, ys_at, e0, e1]

theorem final : (dats m 0 c).arrAt 6 cfg0.N = (P m c : S4096x1024.Idx → EReal) := by
  refine (dats m 0 c).arrAt_eq_of_covers 6 (P m c) (by decide +kernel) (fun t hf y => ?_)
  have y0 : (y 0).val < 512 := (y 0).isLt
  have y1 : (y 1).val < 512 := (y 1).isLt
  have e0 : ((((cfg0.win 6).blk t).view.emb y) 0).val = 512 * (t.val % 8) + (y 0).val := by blk_simp [idx6]; try omega
  have e1 : ((((cfg0.win 6).blk t).view.emb y) 1).val = 512 * (t.val / 8) + (y 1).val := by blk_simp [idx6]; try omega
  refine Eq.trans (b := k0_pay1 (iblk m c 0 t) (iblk m c 1 t) (iblk m c 2 t) (iblk m c 3 t) (iblk m c 4 t) (iblk m c 5 t) (ix2 ⟨(y 0).val, y0⟩ ⟨(y 1).val, y1⟩)) ?_ (by exact pay_pt m c t _ _ _ e0 e1)
  rw [after0_6, out_eq]
  refine congrArg (k0_pay1 (iblk m c 0 t) (iblk m c 1 t) (iblk m c 2 t) (iblk m c 3 t) (iblk m c 4 t) (iblk m c 5 t)) ?_
  funext a; fin_cases a <;> rfl

end Cert.MergeIdeal.Mm

namespace Cert.MergeRefIdeal.Mm

open Cert.MergeRefIdeal Cert.MergeRefIdeal.Gen
open Cert.Mm
open Idealize.ShloMosaic Idealize.ShloMosaic.TcCoe Idealize.SL.Sem

theorem arr_at (x : FVec Ideal S4096x1024 .f32) (a : Fin 4096) (b : Fin 1024) :
    at2 (n1 := 4096) (n2 := 1024) x a.val b.val = x (ix2 a b) := (at2_eq (n1 := 4096) (n2 := 1024) x (ix2 a b) rfl rfl).symm

theorem ga_at (pr : FVec Ideal S4096x12288 .f32) (bi : FVec Ideal S1x2048 .f32) (a : Fin 4096) (b : Fin 1024) :
    gateArg (at2 (n1 := 4096) (n2 := 12288) pr) (at2 (n1 := 1) (n2 := 2048) bi) 6656 0 a.val b.val
      = (pr (ix2 a ⟨6656 + b.val, by omega⟩) : EReal) + bi (ix2 0 ⟨0 + b.val, by omega⟩) :=
  (congrArg₂ (· + ·) (at2_eq (n1 := 4096) (n2 := 12288) pr (ix2 a ⟨6656 + b.val, by omega⟩) rfl rfl)
    (at2_eq (n1 := 1) (n2 := 2048) bi (ix2 0 ⟨0 + b.val, by omega⟩) rfl rfl)).symm

theorem gs_at (pr : FVec Ideal S4096x12288 .f32) (bi : FVec Ideal S1x2048 .f32) (a : Fin 4096) (b : Fin 1024) :
    gateArg (at2 (n1 := 4096) (n2 := 12288) pr) (at2 (n1 := 1) (n2 := 2048) bi) 7680 1024 a.val b.val
      = (pr (ix2 a ⟨7680 + b.val, by omega⟩) : EReal) + bi (ix2 0 ⟨1024 + b.val, by omega⟩) :=
  (congrArg₂ (· + ·) (at2_eq (n1 := 4096) (n2 := 12288) pr (ix2 a ⟨7680 + b.val, by omega⟩) rfl rfl)
    (at2_eq (n1 := 1) (n2 := 2048) bi (ix2 0 ⟨1024 + b.val, by omega⟩) rfl rfl)).symm

theorem value (x y : FVec Ideal S4096x1024 .f32) (pr : FVec Ideal S4096x12288 .f32) (bi : FVec Ideal S1x2048 .f32) (i : S4096x1024.Idx) :
    (truncf .bf16 (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 6656] pr slices_S4096x12288_S4096x1024_0_6656) (broadcastInDim S4096x1024 ![0, 1] bcast_S1x1024_S4096x1024_0_1 (extractStridedSlice S1x1024 ![0, 0] bi slices_S1x2048_S1x1024_0_0))))))) x) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 7680] pr slices_S4096x12288_S4096x1024_0_7680) (broadcastInDim S4096x1024 ![0, 1] bcast_S1x1024_S4096x1024_0_1 (extractStridedSlice S1x1024 ![0, 1024] bi slices_S1x2048_S1x1024_0_1024))))))) y)) bitsLt_bf16_f32 : FVec Ideal S4096x1024 .bf16) i
      = sigm (gateArg (at2 (n1 := 4096) (n2 := 12288) pr) (at2 (n1 := 1) (n2 := 2048) bi) 6656 0 (i 0).val (i 1).val) * (at2 (n1 := 4096) (n2 := 1024) x (i 0).val (i 1).val) + sigm (gateArg (at2 (n1 := 4096) (n2 := 12288) pr) (at2 (n1 := 1) (n2 := 2048) bi) 7680 1024 (i 0).val (i 1).val) * (at2 (n1 := 4096) (n2 := 1024) y (i 0).val (i 1).val) := by
  obtain ⟨a, b, rfl⟩ : ∃ (a : Fin 4096) (b : Fin 1024), i = ix2 a b := ⟨i 0, i 1, by funext x; fin_cases x <;> rfl⟩
  refine Eq.trans ?_ (congrArg₂ (· + ·) (congrArg₂ (fun u v => sigm u * v) (ga_at pr bi a b) (arr_at x a b)) (congrArg₂ (fun u v => sigm u * v) (gs_at pr bi a b) (arr_at y a b))).symm
  unfold sigm
  pointwise

end Cert.MergeRefIdeal.Mm

namespace Cert.Proof.Mm

open Idealize.ShloMosaic Idealize.ShloMosaic.TcCoe Idealize.SL.Sem

theorem quiescent_MergeRefIdeal : Cert.quiescent_MergeRefIdeal := fun m ρ _ =>
  (θ_run Cert.MergeRefIdeal.defs _ _).mono
    (fun _ h => ⟨fun c => (h c).2, sem_eq_zero_of_no_sems rfl _⟩) (Cert.MergeRefIdeal.Value.run (F := Ideal) m ρ)

theorem quiescent_Merge : Cert.quiescent_Merge := fun m ρ _ => Cert.Merge.Gen.frame m ρ
theorem quiescent_MergeIdeal : Cert.quiescent_MergeIdeal := fun m ρ _ => Cert.MergeIdeal.Gen.frame m ρ

theorem algebraic_Merge : Cert.algebraic_MergeIdeal_MergeRefIdeal := by
  intro m ρ m' ρ' hpre hagree
  refine ⟨fun c => (Cert.MergeIdeal.Gen.dats m 0 c).arrAt 6 Cert.MergeIdeal.cfg0.N, Cert.MergeIdeal.Value.run_blocks m ρ, ?_⟩
  refine (θ_run Cert.MergeRefIdeal.defs _ _).mono (fun r h c => ?_) (Cert.MergeRefIdeal.Value.run (F := Ideal) m' ρ')
  refine ⟨(h c).1.trans ?_, (h c).2⟩
  refine Eq.trans ?_ (Cert.MergeIdeal.Mm.final m c).symm
  funext i
  refine (Cert.MergeRefIdeal.Mm.value _ _ _ _ i).trans ?_
  unfold Cert.MergeIdeal.Mm.P Cert.MergeIdeal.Mm.GA Cert.MergeIdeal.Mm.GS Cert.MergeIdeal.Mm.YA Cert.MergeIdeal.Mm.YS Cert.MergeIdeal.Mm.PR Cert.MergeIdeal.Mm.BI
  rw [(hagree c).1, (hagree c).2.1, (hagree c).2.2.1, (hagree c).2.2.2]

end Cert.Proof.Mm
-- ==== Proof.Mm.MergeBwd.lean ====
/- The gradient of the gated sum: in the two projected results and in the gates, and in the biases by a sum over the blocks of rows. -/
module

public import proofs.«01_k».proof.Proof.Gen.MergeBwd.Frame
public import proofs.«01_k».proof.Proof.Gen.MergeBwdIdeal.Frame
public import proofs.«01_k».proof.Proof.Gen.MergeBwdIdeal.Value
public import proofs.«01_k».proof.Proof.Gen.MergeBwdRefIdeal.Run
public import proofs.«01_k».proof.Proof.Mm.Sum
public import proofs.«01_k».proof.Proof.Mm.Mix
public import proofs.«01_k».proof.Defs

@[expose] public section

set_option maxRecDepth 16384

noncomputable section

namespace Cert.MergeBwdIdeal.Mm

open Cert.MergeBwdIdeal Cert.MergeBwdIdeal.Gen
open Cert.Mm
open Idealize.ShloMosaic Idealize.ShloMosaic.TcCoe Idealize.SL.Sem

theorem hz : (![0, 0] : Fin 2 → ℕ) = fun _ => 0 := by funext a; fin_cases a <;> rfl

theorem out_A_7 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) :
    out0_A_7 c i a2 h2 a3 h3 a4 h4 a5 h5 a6 h6 a7 h7 a8 h8 a9 h9 a10 h10 a11 h11 a12 h12 a13 h13 a14 h14 hc0 hc1 hc2 hc3 x0 x1 x2 x3 x4 x5 x6 = k0_pay17 (k0_pay5 x2 x4) (k0_pay9 x6) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 hc0 hc1 hc2 hc3 x0 x1 x2 x3 x4 x5 x6)]
  unfold kernelRun0_A
  dsimp only
  try sl_unfold_words
  rw [View.canon_unit_zero hz]
  simp only [View.readAt_eq_ld, h2.read_unread, h3.read_unread, h4.read_unread, h5.read_unread, h6.read_unread, h7.read_unread, h8.read_unread, View.ld_unit_zero (S := S512x512) hz, View.ld_unit_zero (S := S1x512) hz]

theorem out_B_7 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) (s s2 : Vec Ideal S1x512 .f32) :
    out0_B_7 c i a2 h2 a3 h3 a4 h4 a5 h5 a6 h6 a7 h7 a8 h8 a9 h9 a10 h10 a11 h11 a12 h12 a13 h13 a14 h14 hc0 hc1 hc2 hc3 x0 x1 x2 x3 x4 x5 x6 s s2 = k0_pay17 (k0_pay5 x2 x4) (k0_pay9 x6) := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 hc0 hc1 hc2 hc3 x0 x1 x2 x3 x4 x5 x6 s s2)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h13.read_unread, h14.read_unread, View.ld_unit_zero (S := S512x512) hz, View.ld_unit_zero (S := S1x512) hz]

theorem out_A_8 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) :
    out0_A_8 c i a2 h2 a3 h3 a4 h4 a5 h5 a6 h6 a7 h7 a8 h8 a9 h9 a10 h10 a11 h11 a12 h12 a13 h13 a14 h14 hc0 hc1 hc2 hc3 x0 x1 x2 x3 x4 x5 x6 = k0_pay18 (k0_pay11 x3 x5 x6) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 hc0 hc1 hc2 hc3 x0 x1 x2 x3 x4 x5 x6)]
  unfold kernelRun0_A
  dsimp only
  try sl_unfold_words
  rw [View.canon_unit_zero hz]
  simp only [View.readAt_eq_ld, h2.read_unread, h3.read_unread, h4.read_unread, h5.read_unread, h6.read_unread, h7.read_unread, h8.read_unread, View.ld_unit_zero (S := S512x512) hz, View.ld_unit_zero (S := S1x512) hz]

theorem out_B_8 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) (s s2 : Vec Ideal S1x512 .f32) :
    out0_B_8 c i a2 h2 a3 h3 a4 h4 a5 h5 a6 h6 a7 h7 a8 h8 a9 h9 a10 h10 a11 h11 a12 h12 a13 h13 a14 h14 hc0 hc1 hc2 hc3 x0 x1 x2 x3 x4 x5 x6 s s2 = k0_pay18 (k0_pay11 x3 x5 x6) := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 hc0 hc1 hc2 hc3 x0 x1 x2 x3 x4 x5 x6 s s2)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h13.read_unread, h14.read_unread, View.ld_unit_zero (S := S512x512) hz, View.ld_unit_zero (S := S1x512) hz]

theorem out_A_9 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) :
    out0_A_9 c i a2 h2 a3 h3 a4 h4 a5 h5 a6 h6 a7 h7 a8 h8 a9 h9 a10 h10 a11 h11 a12 h12 a13 h13 a14 h14 hc0 hc1 hc2 hc3 x0 x1 x2 x3 x4 x5 x6 = k0_pay19 x0 (k0_pay3 x2 x4) (k0_pay6 x2 x4) (k0_pay9 x6) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc0 hc1 hc2 hc3 x0 x1 x2 x3 x4 x5 x6)]
  unfold kernelRun0_A
  dsimp only
  try sl_unfold_words
  rw [View.canon_unit_zero hz]
  simp only [View.readAt_eq_ld, h2.read_unread, h3.read_unread, h4.read_unread, h5.read_unread, h6.read_unread, h7.read_unread, h8.read_unread, View.ld_unit_zero (S := S512x512) hz, View.ld_unit_zero (S := S1x512) hz]

theorem out_B_9 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) (s s2 : Vec Ideal S1x512 .f32) :
    out0_B_9 c i a2 h2 a3 h3 a4 h4 a5 h5 a6 h6 a7 h7 a8 h8 a9 h9 a10 h10 a11 h11 a12 h12 a13 h13 a14 h14 hc0 hc1 hc2 hc3 x0 x1 x2 x3 x4 x5 x6 s s2 = k0_pay19 x0 (k0_pay3 x2 x4) (k0_pay6 x2 x4) (k0_pay9 x6) := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc0 hc1 hc2 hc3 x0 x1 x2 x3 x4 x5 x6 s s2)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h13.read_unread, h14.read_unread, View.ld_unit_zero (S := S512x512) hz, View.ld_unit_zero (S := S1x512) hz]

theorem out_A_10 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) :
    out0_A_10 c i a2 h2 a3 h3 a4 h4 a5 h5 a6 h6 a7 h7 a8 h8 a9 h9 a10 h10 a11 h11 a12 h12 a13 h13 a14 h14 hc0 hc1 hc2 hc3 x0 x1 x2 x3 x4 x5 x6 = k0_pay20 (k0_pay7 x3 x5) (k0_pay12 x1 x3 x5 x6) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 hc0 hc1 hc2 hc3 x0 x1 x2 x3 x4 x5 x6)]
  unfold kernelRun0_A
  dsimp only
  try sl_unfold_words
  rw [View.canon_unit_zero hz]
  simp only [View.readAt_eq_ld, h2.read_unread, h3.read_unread, h4.read_unread, h5.read_unread, h6.read_unread, h7.read_unread, h8.read_unread, View.ld_unit_zero (S := S512x512) hz, View.ld_unit_zero (S := S1x512) hz]

theorem out_B_10 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) (s s2 : Vec Ideal S1x512 .f32) :
    out0_B_10 c i a2 h2 a3 h3 a4 h4 a5 h5 a6 h6 a7 h7 a8 h8 a9 h9 a10 h10 a11 h11 a12 h12 a13 h13 a14 h14 hc0 hc1 hc2 hc3 x0 x1 x2 x3 x4 x5 x6 s s2 = k0_pay20 (k0_pay7 x3 x5) (k0_pay12 x1 x3 x5 x6) := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc0 hc1 hc2 hc3 x0 x1 x2 x3 x4 x5 x6 s s2)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h13.read_unread, h14.read_unread, View.ld_unit_zero (S := S512x512) hz, View.ld_unit_zero (S := S1x512) hz]

theorem out_A_11 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) :
    out0_A_11 c i a2 h2 a3 h3 a4 h4 a5 h5 a6 h6 a7 h7 a8 h8 a9 h9 a10 h10 a11 h11 a12 h12 a13 h13 a14 h14 hc0 hc1 hc2 hc3 x0 x1 x2 x3 x4 x5 x6 = k0_pay16 x0 (k0_pay3 x2 x4) (k0_pay6 x2 x4) (k0_pay9 x6) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 hc1 hc2 hc3 x0 x1 x2 x3 x4 x5 x6)]
  unfold kernelRun0_A
  dsimp only
  try sl_unfold_words
  rw [View.canon_unit_zero hz]
  simp only [View.readAt_eq_ld, h2.read_unread, h3.read_unread, h4.read_unread, h5.read_unread, h6.read_unread, h7.read_unread, h8.read_unread, View.ld_unit_zero (S := S512x512) hz, View.ld_unit_zero (S := S1x512) hz]

theorem out_B_11 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) (s s2 : Vec Ideal S1x512 .f32) :
    out0_B_11 c i a2 h2 a3 h3 a4 h4 a5 h5 a6 h6 a7 h7 a8 h8 a9 h9 a10 h10 a11 h11 a12 h12 a13 h13 a14 h14 hc0 hc1 hc2 hc3 x0 x1 x2 x3 x4 x5 x6 s s2 = k0_pay1 (k0_pay16 x0 (k0_pay3 x2 x4) (k0_pay6 x2 x4) (k0_pay9 x6)) s := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 hc1 hc2 hc3 x0 x1 x2 x3 x4 x5 x6 s s2)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h13.read_unread, h14.read_unread, View.ld_unit_zero (S := S512x512) hz, View.ld_unit_zero (S := S1x512) hz]

theorem out_A_12 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) :
    out0_A_12 c i a2 h2 a3 h3 a4 h4 a5 h5 a6 h6 a7 h7 a8 h8 a9 h9 a10 h10 a11 h11 a12 h12 a13 h13 a14 h14 hc0 hc1 hc2 hc3 x0 x1 x2 x3 x4 x5 x6 = k0_pay14 (k0_pay7 x3 x5) (k0_pay12 x1 x3 x5 x6) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 hc0 hc1 hc2 hc3 x0 x1 x2 x3 x4 x5 x6)]
  unfold kernelRun0_A
  dsimp only
  try sl_unfold_words
  rw [View.canon_unit_zero hz]
  simp only [View.readAt_eq_ld, h2.read_unread, h3.read_unread, h4.read_unread, h5.read_unread, h6.read_unread, h7.read_unread, h8.read_unread, View.ld_unit_zero (S := S512x512) hz, View.ld_unit_zero (S := S1x512) hz]

theorem out_B_12 (c : Dev nD) (i : grid0.Coords) (a2 h2 a3 h3 a4 h4 a5 h5 a6 h6 a7 h7 a8 h8 a9 h9 a10 h10 a11 h11 a12 h12 a13 h13 a14 h14 hc0 hc1 hc2 hc3) (x0 x1 x2 x3 : Vec Ideal S512x512 .f32) (x4 x5 : Vec Ideal S1x512 .f32) (x6 : Vec Ideal S512x512 .f32) (s s2 : Vec Ideal S1x512 .f32) :
    out0_B_12 c i a2 h2 a3 h3 a4 h4 a5 h5 a6 h6 a7 h7 a8 h8 a9 h9 a10 h10 a11 h11 a12 h12 a13 h13 a14 h14 hc0 hc1 hc2 hc3 x0 x1 x2 x3 x4 x5 x6 s s2 = k0_pay2 (k0_pay14 (k0_pay7 x3 x5) (k0_pay12 x1 x3 x5 x6)) s2 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 hc0 hc1 hc2 hc3 x0 x1 x2 x3 x4 x5 x6 s s2)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h13.read_unread, h14.read_unread, View.ld_unit_zero (S := S512x512) hz, View.ld_unit_zero (S := S1x512) hz]

theorem dya_at (x2 x6 : Vec Ideal S512x512 .f32) (x4 : Vec Ideal S1x512 .f32) (p q : Fin 512) :
    (k0_pay17 (k0_pay5 x2 x4) (k0_pay9 x6) (ix2 p q) : EReal) = sigm ((x2 (ix2 p q) : EReal) + x4 (ix2 0 q)) * x6 (ix2 p q) := by
  unfold sigm
  rw [← zero_sub ((x2 (ix2 p q) : EReal) + x4 (ix2 0 q))]
  pointwise [k0_pay17, k0_pay5, k0_pay4, k0_pay3, k0_pay9]

theorem dys_at (x3 x6 : Vec Ideal S512x512 .f32) (x5 : Vec Ideal S1x512 .f32) (p q : Fin 512) :
    (k0_pay18 (k0_pay11 x3 x5 x6) (ix2 p q) : EReal) = sigm ((x3 (ix2 p q) : EReal) + x5 (ix2 0 q)) * x6 (ix2 p q) := by
  unfold sigm
  rw [← zero_sub ((x3 (ix2 p q) : EReal) + x5 (ix2 0 q))]
  pointwise [k0_pay18, k0_pay11, k0_pay8, k0_pay7, k0_pay10]

theorem dga_at (x0 x2 x6 : Vec Ideal S512x512 .f32) (x4 : Vec Ideal S1x512 .f32) (p q : Fin 512) :
    (k0_pay15 x0 (k0_pay3 x2 x4) (k0_pay6 x2 x4) (k0_pay9 x6) (ix2 p q) : EReal) = gateDx ((x2 (ix2 p q) : EReal) + x4 (ix2 0 q)) (x6 (ix2 p q) * x0 (ix2 p q)) := by
  rw [← gate_slope]
  pointwise [k0_pay15, k0_pay3, k0_pay6, k0_pay4, k0_pay9]

theorem dgs_at (x1 x3 x6 : Vec Ideal S512x512 .f32) (x5 : Vec Ideal S1x512 .f32) (p q : Fin 512) :
    (k0_pay13 (k0_pay7 x3 x5) (k0_pay12 x1 x3 x5 x6) (ix2 p q) : EReal) = gateDx ((x3 (ix2 p q) : EReal) + x5 (ix2 0 q)) (x6 (ix2 p q) * x1 (ix2 p q)) := by
  rw [← gate_slope]
  pointwise [k0_pay13, k0_pay7, k0_pay12, k0_pay8, k0_pay10]

theorem dba_at (x0 x2 x6 : Vec Ideal S512x512 .f32) (x4 : Vec Ideal S1x512 .f32) (u : Fin 1) (q : Fin 512) :
    (k0_pay16 x0 (k0_pay3 x2 x4) (k0_pay6 x2 x4) (k0_pay9 x6) (ix2 u q) : EReal) = ∑ p : Fin 512, gateDx ((x2 (ix2 p q) : EReal) + x4 (ix2 0 q)) (x6 (ix2 p q) * x0 (ix2 p q)) := by
  refine Eq.trans ?_ (Finset.sum_congr rfl fun p _ => dga_at x0 x2 x6 x4 p q)
  unfold k0_pay16
  pointwise

theorem dbs_at (x1 x3 x6 : Vec Ideal S512x512 .f32) (x5 : Vec Ideal S1x512 .f32) (u : Fin 1) (q : Fin 512) :
    (k0_pay14 (k0_pay7 x3 x5) (k0_pay12 x1 x3 x5 x6) (ix2 u q) : EReal) = ∑ p : Fin 512, gateDx ((x3 (ix2 p q) : EReal) + x5 (ix2 0 q)) (x6 (ix2 p q) * x1 (ix2 p q)) := by
  refine Eq.trans ?_ (Finset.sum_congr rfl fun p _ => dgs_at x1 x3 x6 x5 p q)
  unfold k0_pay14
  pointwise

theorem pay1_at (v s : Vec Ideal S1x512 .f32) (u : Fin 1) (q : Fin 512) :
    (k0_pay1 v s (ix2 u q) : EReal) = s (ix2 u q) + v (ix2 u q) := by
  pointwise [k0_pay1]

theorem pay2_at (v s : Vec Ideal S1x512 .f32) (u : Fin 1) (q : Fin 512) :
    (k0_pay2 v s (ix2 u q) : EReal) = s (ix2 u q) + v (ix2 u q) := by
  pointwise [k0_pay2]

theorem idx0 : ∀ t : Fin cfg0.N, win0_0.index t = ![t.val % 8, t.val / 8] := by decide +kernel
theorem idx1 : ∀ t : Fin cfg0.N, win0_1.index t = ![t.val % 8, t.val / 8] := by decide +kernel
theorem idx2 : ∀ t : Fin cfg0.N, win0_2.index t = ![t.val % 8, 13 + t.val / 8] := by decide +kernel
theorem idx3 : ∀ t : Fin cfg0.N, win0_3.index t = ![t.val % 8, 15 + t.val / 8] := by decide +kernel
theorem idx4 : ∀ t : Fin cfg0.N, win0_4.index t = ![0, t.val / 8] := by decide +kernel
theorem idx5 : ∀ t : Fin cfg0.N, win0_5.index t = ![0, 2 + t.val / 8] := by decide +kernel
theorem idx6 : ∀ t : Fin cfg0.N, win0_6.index t = ![t.val % 8, t.val / 8] := by decide +kernel
theorem idx7 : ∀ t : Fin cfg0.N, win0_7.index t = ![t.val % 8, t.val / 8] := by decide +kernel
theorem idx8 : ∀ t : Fin cfg0.N, win0_8.index t = ![t.val % 8, t.val / 8] := by decide +kernel
theorem idx9 : ∀ t : Fin cfg0.N, win0_9.index t = ![t.val % 8, t.val / 8] := by decide +kernel
theorem idx10 : ∀ t : Fin cfg0.N, win0_10.index t = ![t.val % 8, t.val / 8] := by decide +kernel
theorem idx11 : ∀ t : Fin cfg0.N, win0_11.index t = ![0, t.val / 8] := by decide +kernel
theorem idx12 : ∀ t : Fin cfg0.N, win0_12.index t = ![0, t.val / 8] := by decide +kernel

variable (m : (ℓ : Loc nD τ sig) → Buf (Elt Ideal) ℓ) (c : Dev nD)

/-- The two projected results, the projection that holds the gates' arguments, and the gates' biases. -/
def YA : ℕ → ℕ → EReal := at2 (n1 := 4096) (n2 := 1024) (m ((c : Thread nD τ).loc main_arg0))
def YS : ℕ → ℕ → EReal := at2 (n1 := 4096) (n2 := 1024) (m ((c : Thread nD τ).loc main_arg1))
def PR : ℕ → ℕ → EReal := at2 (n1 := 4096) (n2 := 12288) (m ((c : Thread nD τ).loc main_arg2))
def BI : ℕ → ℕ → EReal := at2 (n1 := 1) (n2 := 2048) (m ((c : Thread nD τ).loc main_arg3))
/-- The gradient of the mixed array. -/
def DM : ℕ → ℕ → EReal := at2 (n1 := 4096) (n2 := 1024) (m ((c : Thread nD τ).loc main_arg4))

theorem ya_at (t : Fin cfg0.N) (p q : Fin 512) : (iblk m c 0 t (ix2 p q) : EReal) = YA m c (512 * (t.val % 8) + p.val) (512 * (t.val / 8) + q.val) := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem ys_at (t : Fin cfg0.N) (p q : Fin 512) : (iblk m c 1 t (ix2 p q) : EReal) = YS m c (512 * (t.val % 8) + p.val) (512 * (t.val / 8) + q.val) := by
  unfold iblk
  rw [show V m c (Pipeline.arrRef spec0 1) = m ((c : Thread nD τ).loc main_arg1) from V_main_arg1 m c]
  exact at2_eq (n1 := 4096) (n2 := 1024) _ _ (by blk_simp [idx1]; try omega) (by blk_simp [idx1]; try omega)

theorem pa_at (t : Fin cfg0.N) (p q : Fin 512) : (iblk m c 2 t (ix2 p q) : EReal) = PR m c (512 * (t.val % 8) + p.val) (6656 + (512 * (t.val / 8) + q.val)) := by
  unfold iblk
  rw [show V m c (Pipeline.arrRef spec0 2) = m ((c : Thread nD τ).loc main_arg2) from V_main_arg2 m c]
  exact at2_eq (n1 := 4096) (n2 := 12288) _ _ (by blk_simp [idx2]; try omega) (by blk_simp [idx2]; try omega)

theorem ps_at (t : Fin cfg0.N) (p q : Fin 512) : (iblk m c 3 t (ix2 p q) : EReal) = PR m c (512 * (t.val % 8) + p.val) (7680 + (512 * (t.val / 8) + q.val)) := by
  unfold iblk
  rw [show V m c (Pipeline.arrRef spec0 3) = m ((c : Thread nD τ).loc main_arg2) from V_main_arg2 m c]
  exact at2_eq (n1 := 4096) (n2 := 12288) _ _ (by blk_simp [idx3]; try omega) (by blk_simp [idx3]; try omega)

theorem ba_at (t : Fin cfg0.N) (q : Fin 512) : (iblk m c 4 t (ix2 0 q) : EReal) = BI m c 0 (0 + (512 * (t.val / 8) + q.val)) := by
  unfold iblk
  rw [show V m c (Pipeline.arrRef spec0 4) = m ((c : Thread nD τ).loc main_arg3) from V_main_arg3 m c]
  exact at2_eq (n1 := 1) (n2 := 2048) _ _ (by blk_simp [idx4]; try omega) (by blk_simp [idx4]; try omega)

theorem bs_at (t : Fin cfg0.N) (q : Fin 512) : (iblk m c 5 t (ix2 0 q) : EReal) = BI m c 0 (1024 + (512 * (t.val / 8) + q.val)) := by
  unfold iblk
  rw [show V m c (Pipeline.arrRef spec0 5) = m ((c : Thread nD τ).loc main_arg3) from V_main_arg3 m c]
  exact at2_eq (n1 := 1) (n2 := 2048) _ _ (by blk_simp [idx5]; try omega) (by blk_simp [idx5]; try omega)

theorem dm_at (t : Fin cfg0.N) (p q : Fin 512) : (iblk m c 6 t (ix2 p q) : EReal) = DM m c (512 * (t.val % 8) + p.val) (512 * (t.val / 8) + q.val) := by
  unfold iblk
  rw [show V m c (Pipeline.arrRef spec0 6) = m ((c : Thread nD τ).loc main_arg4) from V_main_arg4 m c]
  exact at2_eq (n1 := 4096) (n2 := 1024) _ _ (by blk_simp [idx6]; try omega) (by blk_simp [idx6]; try omega)

/-- The arguments of the two gates. -/
def GA : ℕ → ℕ → EReal := gateArg (PR m c) (BI m c) 6656 0
def GS : ℕ → ℕ → EReal := gateArg (PR m c) (BI m c) 7680 1024

theorem ga_at (t : Fin cfg0.N) (p q : Fin 512) :
    @HAdd.hAdd EReal EReal EReal _ (iblk m c 2 t (ix2 p q)) (iblk m c 4 t (ix2 0 q)) = GA m c (512 * (t.val % 8) + p.val) (512 * (t.val / 8) + q.val) :=
  congrArg₂ (fun u v : EReal => u + v) (pa_at m c t p q) (ba_at m c t q)

theorem gs_at (t : Fin cfg0.N) (p q : Fin 512) :
    @HAdd.hAdd EReal EReal EReal _ (iblk m c 3 t (ix2 p q)) (iblk m c 5 t (ix2 0 q)) = GS m c (512 * (t.val % 8) + p.val) (512 * (t.val / 8) + q.val) :=
  congrArg₂ (fun u v : EReal => u + v) (ps_at m c t p q) (bs_at m c t q)

/-- The gradients of the two projected results, of the gates' arguments, and of the biases. -/
def DYA (a b : ℕ) : EReal := sigm (GA m c a b) * DM m c a b
def DYS (a b : ℕ) : EReal := sigm (GS m c a b) * DM m c a b
def DGA (a b : ℕ) : EReal := gateDx (GA m c a b) (DM m c a b * YA m c a b)
def DGS (a b : ℕ) : EReal := gateDx (GS m c a b) (DM m c a b * YS m c a b)
def P7 (i : S4096x1024.Idx) : EReal := DYA m c (i 0).val (i 1).val
def P8 (i : S4096x1024.Idx) : EReal := DYS m c (i 0).val (i 1).val
def P9 (i : S4096x1024.Idx) : EReal := DGA m c (i 0).val (i 1).val
def P10 (i : S4096x1024.Idx) : EReal := DGS m c (i 0).val (i 1).val
def P11 (i : S1x1024.Idx) : EReal := ∑ a ∈ Finset.range 4096, DGA m c a (i 1).val
def P12 (i : S1x1024.Idx) : EReal := ∑ a ∈ Finset.range 4096, DGS m c a (i 1).val

theorem after_7 (t : Fin cfg0.N) : (outsAt0 m c t.val t.isLt).1 = k0_pay17 (k0_pay5 (iblk m c 2 t) (iblk m c 4 t)) (k0_pay9 (iblk m c 6 t)) := by
  by_cases h0 : t.val % 8 = 0
  · rw [outsAt0_A m c t h0 (by omega) h0 (by omega)]
    dsimp only
    rw [out_A_7]
  · rw [outsAt0_B m c t h0 (by omega) h0 (by omega)]
    dsimp only
    rw [out_B_7]

theorem pt_7 (t : Fin cfg0.N) (p q : Fin 512) (i : S4096x1024.Idx)
    (e0 : (i 0).val = 512 * (t.val % 8) + p.val) (e1 : (i 1).val = 512 * (t.val / 8) + q.val) :
    (k0_pay17 (k0_pay5 (iblk m c 2 t) (iblk m c 4 t)) (k0_pay9 (iblk m c 6 t)) (ix2 p q) : EReal) = P7 m c i := by
  unfold P7 DYA
  rw [dya_at, ga_at, dm_at, e0, e1]

theorem final7 : (dats m 0 c).arrAt 7 cfg0.N = (P7 m c : S4096x1024.Idx → EReal) := by
  refine (dats m 0 c).arrAt_eq_of_covers 7 (P7 m c) (by decide +kernel) (fun t hf y => ?_)
  have y0 : (y 0).val < 512 := (y 0).isLt
  have y1 : (y 1).val < 512 := (y 1).isLt
  have e0 : ((((cfg0.win 7).blk t).view.emb y) 0).val = 512 * (t.val % 8) + (y 0).val := by blk_simp [idx7]; try omega
  have e1 : ((((cfg0.win 7).blk t).view.emb y) 1).val = 512 * (t.val / 8) + (y 1).val := by blk_simp [idx7]; try omega
  refine Eq.trans (b := k0_pay17 (k0_pay5 (iblk m c 2 t) (iblk m c 4 t)) (k0_pay9 (iblk m c 6 t)) (ix2 ⟨(y 0).val, y0⟩ ⟨(y 1).val, y1⟩)) ?_ (by exact pt_7 m c t _ _ _ e0 e1)
  rw [after0_7, after_7]
  refine congrArg (k0_pay17 (k0_pay5 (iblk m c 2 t) (iblk m c 4 t)) (k0_pay9 (iblk m c 6 t))) ?_
  funext a; fin_cases a <;> rfl

theorem after_8 (t : Fin cfg0.N) : (outsAt0 m c t.val t.isLt).2.1 = k0_pay18 (k0_pay11 (iblk m c 3 t) (iblk m c 5 t) (iblk m c 6 t)) := by
  by_cases h0 : t.val % 8 = 0
  · rw [outsAt0_A m c t h0 (by omega) h0 (by omega)]
    dsimp only
    rw [out_A_8]
  · rw [outsAt0_B m c t h0 (by omega) h0 (by omega)]
    dsimp only
    rw [out_B_8]

theorem pt_8 (t : Fin cfg0.N) (p q : Fin 512) (i : S4096x1024.Idx)
    (e0 : (i 0).val = 512 * (t.val % 8) + p.val) (e1 : (i 1).val = 512 * (t.val / 8) + q.val) :
    (k0_pay18 (k0_pay11 (iblk m c 3 t) (iblk m c 5 t) (iblk m c 6 t)) (ix2 p q) : EReal) = P8 m c i := by
  unfold P8 DYS
  rw [dys_at, gs_at, dm_at, e0, e1]

theorem final8 : (dats m 0 c).arrAt 8 cfg0.N = (P8 m c : S4096x1024.Idx → EReal) := by
  refine (dats m 0 c).arrAt_eq_of_covers 8 (P8 m c) (by decide +kernel) (fun t hf y => ?_)
  have y0 : (y 0).val < 512 := (y 0).isLt
  have y1 : (y 1).val < 512 := (y 1).isLt
  have e0 : ((((cfg0.win 8).blk t).view.emb y) 0).val = 512 * (t.val % 8) + (y 0).val := by blk_simp [idx8]; try omega
  have e1 : ((((cfg0.win 8).blk t).view.emb y) 1).val = 512 * (t.val / 8) + (y 1).val := by blk_simp [idx8]; try omega
  refine Eq.trans (b := k0_pay18 (k0_pay11 (iblk m c 3 t) (iblk m c 5 t) (iblk m c 6 t)) (ix2 ⟨(y 0).val, y0⟩ ⟨(y 1).val, y1⟩)) ?_ (by exact pt_8 m c t _ _ _ e0 e1)
  rw [after0_8, after_8]
  refine congrArg (k0_pay18 (k0_pay11 (iblk m c 3 t) (iblk m c 5 t) (iblk m c 6 t))) ?_
  funext a; fin_cases a <;> rfl

theorem after_9 (t : Fin cfg0.N) : (outsAt0 m c t.val t.isLt).2.2.1 = k0_pay19 (iblk m c 0 t) (k0_pay3 (iblk m c 2 t) (iblk m c 4 t)) (k0_pay6 (iblk m c 2 t) (iblk m c 4 t)) (k0_pay9 (iblk m c 6 t)) := by
  by_cases h0 : t.val % 8 = 0
  · rw [outsAt0_A m c t h0 (by omega) h0 (by omega)]
    dsimp only
    rw [out_A_9]
  · rw [outsAt0_B m c t h0 (by omega) h0 (by omega)]
    dsimp only
    rw [out_B_9]

theorem pt_9 (t : Fin cfg0.N) (p q : Fin 512) (i : S4096x1024.Idx)
    (e0 : (i 0).val = 512 * (t.val % 8) + p.val) (e1 : (i 1).val = 512 * (t.val / 8) + q.val) :
    (k0_pay19 (iblk m c 0 t) (k0_pay3 (iblk m c 2 t) (iblk m c 4 t)) (k0_pay6 (iblk m c 2 t) (iblk m c 4 t)) (k0_pay9 (iblk m c 6 t)) (ix2 p q) : EReal) = P9 m c i := by
  refine Eq.trans (b := k0_pay15 (iblk m c 0 t) (k0_pay3 (iblk m c 2 t) (iblk m c 4 t)) (k0_pay6 (iblk m c 2 t) (iblk m c 4 t)) (k0_pay9 (iblk m c 6 t)) (ix2 p q)) rfl ?_
  unfold P9 DGA
  rw [dga_at, ga_at, dm_at, ya_at, e0, e1]

theorem final9 : (dats m 0 c).arrAt 9 cfg0.N = (P9 m c : S4096x1024.Idx → EReal) := by
  refine (dats m 0 c).arrAt_eq_of_covers 9 (P9 m c) (by decide +kernel) (fun t hf y => ?_)
  have y0 : (y 0).val < 512 := (y 0).isLt
  have y1 : (y 1).val < 512 := (y 1).isLt
  have e0 : ((((cfg0.win 9).blk t).view.emb y) 0).val = 512 * (t.val % 8) + (y 0).val := by blk_simp [idx9]; try omega
  have e1 : ((((cfg0.win 9).blk t).view.emb y) 1).val = 512 * (t.val / 8) + (y 1).val := by blk_simp [idx9]; try omega
  refine Eq.trans (b := k0_pay19 (iblk m c 0 t) (k0_pay3 (iblk m c 2 t) (iblk m c 4 t)) (k0_pay6 (iblk m c 2 t) (iblk m c 4 t)) (k0_pay9 (iblk m c 6 t)) (ix2 ⟨(y 0).val, y0⟩ ⟨(y 1).val, y1⟩)) ?_ (by exact pt_9 m c t _ _ _ e0 e1)
  rw [after0_9, after_9]
  refine congrArg (k0_pay19 (iblk m c 0 t) (k0_pay3 (iblk m c 2 t) (iblk m c 4 t)) (k0_pay6 (iblk m c 2 t) (iblk m c 4 t)) (k0_pay9 (iblk m c 6 t))) ?_
  funext a; fin_cases a <;> rfl

theorem after_10 (t : Fin cfg0.N) : (outsAt0 m c t.val t.isLt).2.2.2.1 = k0_pay20 (k0_pay7 (iblk m c 3 t) (iblk m c 5 t)) (k0_pay12 (iblk m c 1 t) (iblk m c 3 t) (iblk m c 5 t) (iblk m c 6 t)) := by
  by_cases h0 : t.val % 8 = 0
  · rw [outsAt0_A m c t h0 (by omega) h0 (by omega)]
    dsimp only
    rw [out_A_10]
  · rw [outsAt0_B m c t h0 (by omega) h0 (by omega)]
    dsimp only
    rw [out_B_10]

theorem pt_10 (t : Fin cfg0.N) (p q : Fin 512) (i : S4096x1024.Idx)
    (e0 : (i 0).val = 512 * (t.val % 8) + p.val) (e1 : (i 1).val = 512 * (t.val / 8) + q.val) :
    (k0_pay20 (k0_pay7 (iblk m c 3 t) (iblk m c 5 t)) (k0_pay12 (iblk m c 1 t) (iblk m c 3 t) (iblk m c 5 t) (iblk m c 6 t)) (ix2 p q) : EReal) = P10 m c i := by
  refine Eq.trans (b := k0_pay13 (k0_pay7 (iblk m c 3 t) (iblk m c 5 t)) (k0_pay12 (iblk m c 1 t) (iblk m c 3 t) (iblk m c 5 t) (iblk m c 6 t)) (ix2 p q)) rfl ?_
  unfold P10 DGS
  rw [dgs_at, gs_at, dm_at, ys_at, e0, e1]

theorem final10 : (dats m 0 c).arrAt 10 cfg0.N = (P10 m c : S4096x1024.Idx → EReal) := by
  refine (dats m 0 c).arrAt_eq_of_covers 10 (P10 m c) (by decide +kernel) (fun t hf y => ?_)
  have y0 : (y 0).val < 512 := (y 0).isLt
  have y1 : (y 1).val < 512 := (y 1).isLt
  have e0 : ((((cfg0.win 10).blk t).view.emb y) 0).val = 512 * (t.val % 8) + (y 0).val := by blk_simp [idx10]; try omega
  have e1 : ((((cfg0.win 10).blk t).view.emb y) 1).val = 512 * (t.val / 8) + (y 1).val := by blk_simp [idx10]; try omega
  refine Eq.trans (b := k0_pay20 (k0_pay7 (iblk m c 3 t) (iblk m c 5 t)) (k0_pay12 (iblk m c 1 t) (iblk m c 3 t) (iblk m c 5 t) (iblk m c 6 t)) (ix2 ⟨(y 0).val, y0⟩ ⟨(y 1).val, y1⟩)) ?_ (by exact pt_10 m c t _ _ _ e0 e1)
  rw [after0_10, after_10]
  refine congrArg (k0_pay20 (k0_pay7 (iblk m c 3 t) (iblk m c 5 t)) (k0_pay12 (iblk m c 1 t) (iblk m c 3 t) (iblk m c 5 t) (iblk m c 6 t))) ?_
  funext a; fin_cases a <;> rfl

theorem part_11 (t : Fin cfg0.N) (u : Fin 1) (q : Fin 512) :
    (k0_pay16 (iblk m c 0 t) (k0_pay3 (iblk m c 2 t) (iblk m c 4 t)) (k0_pay6 (iblk m c 2 t) (iblk m c 4 t)) (k0_pay9 (iblk m c 6 t)) (ix2 u q) : EReal)
      = ∑ p : Fin 512, DGA m c (512 * (t.val % 8) + p.val) (512 * (t.val / 8) + q.val) := by
  rw [dba_at]
  unfold DGA
  exact Finset.sum_congr rfl fun p _ => by rw [ga_at, dm_at, ya_at]

/-- What a column block's bias gradient holds after each point: the sum over the rows so far. -/
theorem acc_11 (u : Fin 1) (q : Fin 512) : ∀ (n : ℕ) (hn : n < cfg0.N),
    ((outsAt0 m c n hn).2.2.2.2.1 (ix2 u q) : EReal)
      = ∑ a ∈ Finset.range (512 * (n % 8) + 512), DGA m c a (512 * (n / 8) + q.val) := by
  intro n
  induction n using Nat.strong_induction_on with
  | _ n ih =>
    intro hn
    by_cases h0 : n % 8 = 0
    · rw [outsAt0_A m c ⟨n, hn⟩ h0 (by dsimp only; omega) h0 (by dsimp only; omega)]
      dsimp only
      rw [out_A_11, part_11]
      dsimp only
      rw [h0, sum_block _ 0 512]
      simp
    · rw [outsAt0_B m c ⟨n, hn⟩ h0 (by dsimp only; omega) h0 (by dsimp only; omega)]
      dsimp only
      rw [out_B_11, pay1_at]
      refine Eq.trans (congrArg₂ (· + ·) (ih (n - 1) (by omega) (by omega)) (part_11 m c ⟨n, hn⟩ u q)) ?_
      dsimp only
      rw [sum_block _ (n % 8) 512, show 512 * ((n - 1) % 8) + 512 = 512 * (n % 8) by omega, show (n - 1) / 8 = n / 8 by omega]

theorem final11 : (dats m 0 c).arrAt 11 cfg0.N = (P11 m c : S1x1024.Idx → EReal) := by
  refine (dats m 0 c).arrAt_eq_of_covers 11 (P11 m c) (by decide +kernel) (fun t hf y => ?_)
  have y0 : (y 0).val < 1 := (y 0).isLt
  have y1 : (y 1).val < 512 := (y 1).isLt
  have h7 : t.val % 8 = 7 := (flush0_11 t).mp hf
  have e1 : ((((cfg0.win 11).blk t).view.emb y) 1).val = 512 * (t.val / 8) + (y 1).val := by blk_simp [idx11]; try omega
  refine Eq.trans (b := (outsAt0 m c t.val t.isLt).2.2.2.2.1 (ix2 ⟨(y 0).val, y0⟩ ⟨(y 1).val, y1⟩)) ?_ ?_
  · rw [after0_11]
    refine congrArg (outsAt0 m c t.val t.isLt).2.2.2.2.1 ?_
    funext a; fin_cases a <;> rfl
  · rw [acc_11 m c _ _ t.val t.isLt, h7]
    unfold P11
    rw [e1]

theorem part_12 (t : Fin cfg0.N) (u : Fin 1) (q : Fin 512) :
    (k0_pay14 (k0_pay7 (iblk m c 3 t) (iblk m c 5 t)) (k0_pay12 (iblk m c 1 t) (iblk m c 3 t) (iblk m c 5 t) (iblk m c 6 t)) (ix2 u q) : EReal)
      = ∑ p : Fin 512, DGS m c (512 * (t.val % 8) + p.val) (512 * (t.val / 8) + q.val) := by
  rw [dbs_at]
  unfold DGS
  exact Finset.sum_congr rfl fun p _ => by rw [gs_at, dm_at, ys_at]

/-- What a column block's bias gradient holds after each point: the sum over the rows so far. -/
theorem acc_12 (u : Fin 1) (q : Fin 512) : ∀ (n : ℕ) (hn : n < cfg0.N),
    ((outsAt0 m c n hn).2.2.2.2.2 (ix2 u q) : EReal)
      = ∑ a ∈ Finset.range (512 * (n % 8) + 512), DGS m c a (512 * (n / 8) + q.val) := by
  intro n
  induction n using Nat.strong_induction_on with
  | _ n ih =>
    intro hn
    by_cases h0 : n % 8 = 0
    · rw [outsAt0_A m c ⟨n, hn⟩ h0 (by dsimp only; omega) h0 (by dsimp only; omega)]
      dsimp only
      rw [out_A_12, part_12]
      dsimp only
      rw [h0, sum_block _ 0 512]
      simp
    · rw [outsAt0_B m c ⟨n, hn⟩ h0 (by dsimp only; omega) h0 (by dsimp only; omega)]
      dsimp only
      rw [out_B_12, pay2_at]
      refine Eq.trans (congrArg₂ (· + ·) (ih (n - 1) (by omega) (by omega)) (part_12 m c ⟨n, hn⟩ u q)) ?_
      dsimp only
      rw [sum_block _ (n % 8) 512, show 512 * ((n - 1) % 8) + 512 = 512 * (n % 8) by omega, show (n - 1) / 8 = n / 8 by omega]

theorem final12 : (dats m 0 c).arrAt 12 cfg0.N = (P12 m c : S1x1024.Idx → EReal) := by
  refine (dats m 0 c).arrAt_eq_of_covers 12 (P12 m c) (by decide +kernel) (fun t hf y => ?_)
  have y0 : (y 0).val < 1 := (y 0).isLt
  have y1 : (y 1).val < 512 := (y 1).isLt
  have h7 : t.val % 8 = 7 := (flush0_12 t).mp hf
  have e1 : ((((cfg0.win 12).blk t).view.emb y) 1).val = 512 * (t.val / 8) + (y 1).val := by blk_simp [idx12]; try omega
  refine Eq.trans (b := (outsAt0 m c t.val t.isLt).2.2.2.2.2 (ix2 ⟨(y 0).val, y0⟩ ⟨(y 1).val, y1⟩)) ?_ ?_
  · rw [after0_12]
    refine congrArg (outsAt0 m c t.val t.isLt).2.2.2.2.2 ?_
    funext a; fin_cases a <;> rfl
  · rw [acc_12 m c _ _ t.val t.isLt, h7]
    unfold P12
    rw [e1]

end Cert.MergeBwdIdeal.Mm

namespace Cert.MergeBwdRefIdeal.Mm

open Cert.MergeBwdRefIdeal Cert.MergeBwdRefIdeal.Gen
open Cert.Mm
open Idealize.ShloMosaic Idealize.ShloMosaic.TcCoe Idealize.SL.Sem

theorem arr_at (x : FVec Ideal S4096x1024 .f32) (a : Fin 4096) (b : Fin 1024) :
    at2 (n1 := 4096) (n2 := 1024) x a.val b.val = x (ix2 a b) := (at2_eq (n1 := 4096) (n2 := 1024) x (ix2 a b) rfl rfl).symm

theorem ga_at (pr : FVec Ideal S4096x12288 .f32) (bi : FVec Ideal S1x2048 .f32) (a : Fin 4096) (b : Fin 1024) :
    gateArg (at2 (n1 := 4096) (n2 := 12288) pr) (at2 (n1 := 1) (n2 := 2048) bi) 6656 0 a.val b.val
      = (pr (ix2 a ⟨6656 + b.val, by omega⟩) : EReal) + bi (ix2 0 ⟨0 + b.val, by omega⟩) :=
  (congrArg₂ (· + ·) (at2_eq (n1 := 4096) (n2 := 12288) pr (ix2 a ⟨6656 + b.val, by omega⟩) rfl rfl)
    (at2_eq (n1 := 1) (n2 := 2048) bi (ix2 0 ⟨0 + b.val, by omega⟩) rfl rfl)).symm

theorem gs_at (pr : FVec Ideal S4096x12288 .f32) (bi : FVec Ideal S1x2048 .f32) (a : Fin 4096) (b : Fin 1024) :
    gateArg (at2 (n1 := 4096) (n2 := 12288) pr) (at2 (n1 := 1) (n2 := 2048) bi) 7680 1024 a.val b.val
      = (pr (ix2 a ⟨7680 + b.val, by omega⟩) : EReal) + bi (ix2 0 ⟨1024 + b.val, by omega⟩) :=
  (congrArg₂ (· + ·) (at2_eq (n1 := 4096) (n2 := 12288) pr (ix2 a ⟨7680 + b.val, by omega⟩) rfl rfl)
    (at2_eq (n1 := 1) (n2 := 2048) bi (ix2 0 ⟨1024 + b.val, by omega⟩) rfl rfl)).symm

theorem value7 (x y : FVec Ideal S4096x1024 .f32) (pr : FVec Ideal S4096x12288 .f32) (bi : FVec Ideal S1x2048 .f32) (d : FVec Ideal S4096x1024 .f32) (i : S4096x1024.Idx) :
    (truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 6656] pr slices_S4096x12288_S4096x1024_0_6656) (broadcastInDim S4096x1024 ![0, 1] bcast_S1x1024_S4096x1024_0_1 (extractStridedSlice S1x1024 ![0, 0] bi slices_S1x2048_S1x1024_0_0))))))) (shapeCast _ d shapeCasts_S4096x1024_S4096x1024)) bitsLt_bf16_f32 : FVec Ideal S4096x1024 .bf16) i
      = sigm (gateArg (at2 (n1 := 4096) (n2 := 12288) pr) (at2 (n1 := 1) (n2 := 2048) bi) 6656 0 (i 0).val (i 1).val) * (at2 (n1 := 4096) (n2 := 1024) d (i 0).val (i 1).val) := by
  obtain ⟨a, b, rfl⟩ : ∃ (a : Fin 4096) (b : Fin 1024), i = ix2 a b := ⟨i 0, i 1, by funext x; fin_cases x <;> rfl⟩
  refine Eq.trans ?_ (congrArg₂ (fun u v => sigm u * v) (ga_at pr bi a b) (arr_at d a b)).symm
  unfold sigm
  pointwise

theorem value8 (x y : FVec Ideal S4096x1024 .f32) (pr : FVec Ideal S4096x12288 .f32) (bi : FVec Ideal S1x2048 .f32) (d : FVec Ideal S4096x1024 .f32) (i : S4096x1024.Idx) :
    (truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 7680] pr slices_S4096x12288_S4096x1024_0_7680) (broadcastInDim S4096x1024 ![0, 1] bcast_S1x1024_S4096x1024_0_1 (extractStridedSlice S1x1024 ![0, 1024] bi slices_S1x2048_S1x1024_0_1024))))))) (shapeCast _ d shapeCasts_S4096x1024_S4096x1024)) bitsLt_bf16_f32 : FVec Ideal S4096x1024 .bf16) i
      = sigm (gateArg (at2 (n1 := 4096) (n2 := 12288) pr) (at2 (n1 := 1) (n2 := 2048) bi) 7680 1024 (i 0).val (i 1).val) * (at2 (n1 := 4096) (n2 := 1024) d (i 0).val (i 1).val) := by
  obtain ⟨a, b, rfl⟩ : ∃ (a : Fin 4096) (b : Fin 1024), i = ix2 a b := ⟨i 0, i 1, by funext x; fin_cases x <;> rfl⟩
  refine Eq.trans ?_ (congrArg₂ (fun u v => sigm u * v) (gs_at pr bi a b) (arr_at d a b)).symm
  unfold sigm
  pointwise

theorem value9 (x y : FVec Ideal S4096x1024 .f32) (pr : FVec Ideal S4096x12288 .f32) (bi : FVec Ideal S1x2048 .f32) (d : FVec Ideal S4096x1024 .f32) (i : S4096x1024.Idx) :
    (truncf .bf16 (mulf (mulf (shapeCast _ d shapeCasts_S4096x1024_S4096x1024) x) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 6656] pr slices_S4096x12288_S4096x1024_0_6656) (broadcastInDim S4096x1024 ![0, 1] bcast_S1x1024_S4096x1024_0_1 (extractStridedSlice S1x1024 ![0, 0] bi slices_S1x2048_S1x1024_0_0))))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 6656] pr slices_S4096x12288_S4096x1024_0_6656) (broadcastInDim S4096x1024 ![0, 1] bcast_S1x1024_S4096x1024_0_1 (extractStridedSlice S1x1024 ![0, 0] bi slices_S1x2048_S1x1024_0_0)))))))))) bitsLt_bf16_f32 : FVec Ideal S4096x1024 .bf16) i
      = gateDx (gateArg (at2 (n1 := 4096) (n2 := 12288) pr) (at2 (n1 := 1) (n2 := 2048) bi) 6656 0 (i 0).val (i 1).val) ((at2 (n1 := 4096) (n2 := 1024) d (i 0).val (i 1).val) * (at2 (n1 := 4096) (n2 := 1024) x (i 0).val (i 1).val)) := by
  obtain ⟨a, b, rfl⟩ : ∃ (a : Fin 4096) (b : Fin 1024), i = ix2 a b := ⟨i 0, i 1, by funext x; fin_cases x <;> rfl⟩
  refine Eq.trans ?_ (congrArg₂ gateDx (ga_at pr bi a b) (congrArg₂ (· * ·) (arr_at d a b) (arr_at x a b))).symm
  unfold gateDx sigm
  pointwise

theorem value10 (x y : FVec Ideal S4096x1024 .f32) (pr : FVec Ideal S4096x12288 .f32) (bi : FVec Ideal S1x2048 .f32) (d : FVec Ideal S4096x1024 .f32) (i : S4096x1024.Idx) :
    (truncf .bf16 (mulf (mulf (shapeCast _ d shapeCasts_S4096x1024_S4096x1024) y) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 7680] pr slices_S4096x12288_S4096x1024_0_7680) (broadcastInDim S4096x1024 ![0, 1] bcast_S1x1024_S4096x1024_0_1 (extractStridedSlice S1x1024 ![0, 1024] bi slices_S1x2048_S1x1024_0_1024))))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 7680] pr slices_S4096x12288_S4096x1024_0_7680) (broadcastInDim S4096x1024 ![0, 1] bcast_S1x1024_S4096x1024_0_1 (extractStridedSlice S1x1024 ![0, 1024] bi slices_S1x2048_S1x1024_0_1024)))))))))) bitsLt_bf16_f32 : FVec Ideal S4096x1024 .bf16) i
      = gateDx (gateArg (at2 (n1 := 4096) (n2 := 12288) pr) (at2 (n1 := 1) (n2 := 2048) bi) 7680 1024 (i 0).val (i 1).val) ((at2 (n1 := 4096) (n2 := 1024) d (i 0).val (i 1).val) * (at2 (n1 := 4096) (n2 := 1024) y (i 0).val (i 1).val)) := by
  obtain ⟨a, b, rfl⟩ : ∃ (a : Fin 4096) (b : Fin 1024), i = ix2 a b := ⟨i 0, i 1, by funext x; fin_cases x <;> rfl⟩
  refine Eq.trans ?_ (congrArg₂ gateDx (gs_at pr bi a b) (congrArg₂ (· * ·) (arr_at d a b) (arr_at y a b))).symm
  unfold gateDx sigm
  pointwise

theorem value11 (x y : FVec Ideal S4096x1024 .f32) (pr : FVec Ideal S4096x12288 .f32) (bi : FVec Ideal S1x2048 .f32) (d : FVec Ideal S4096x1024 .f32) (i : S1x1024.Idx) :
    (shapeCast _ (Host.reduceAdd (mulf (mulf (shapeCast _ d shapeCasts_S4096x1024_S4096x1024) x) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 6656] pr slices_S4096x12288_S4096x1024_0_6656) (broadcastInDim S4096x1024 ![0, 1] bcast_S1x1024_S4096x1024_0_1 (extractStridedSlice S1x1024 ![0, 0] bi slices_S1x2048_S1x1024_0_0))))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 6656] pr slices_S4096x12288_S4096x1024_0_6656) (broadcastInDim S4096x1024 ![0, 1] bcast_S1x1024_S4096x1024_0_1 (extractStridedSlice S1x1024 ![0, 0] bi slices_S1x2048_S1x1024_0_0)))))))))) (constant S_ .f32 0x00000000#32) reducesTo_S4096x1024_S1024_d0 h_S_) shapeCasts_S1024_S1x1024 : FVec Ideal S1x1024 .f32) i
      = ∑ a ∈ Finset.range 4096, gateDx (gateArg (at2 (n1 := 4096) (n2 := 12288) pr) (at2 (n1 := 1) (n2 := 2048) bi) 6656 0 a (i 1).val) ((at2 (n1 := 4096) (n2 := 1024) d a (i 1).val) * (at2 (n1 := 4096) (n2 := 1024) x a (i 1).val)) := by
  obtain ⟨u, b, rfl⟩ : ∃ (u : Fin 1) (b : Fin 1024), i = ix2 u b := ⟨i 0, i 1, by funext x; fin_cases x <;> rfl⟩
  rw [sum_first]
  refine Eq.trans ?_ (Finset.sum_congr rfl fun a _ => (congrArg₂ gateDx (ga_at pr bi a b) (congrArg₂ (· * ·) (arr_at d a b) (arr_at x a b)))).symm
  unfold gateDx sigm
  pointwise

theorem value12 (x y : FVec Ideal S4096x1024 .f32) (pr : FVec Ideal S4096x12288 .f32) (bi : FVec Ideal S1x2048 .f32) (d : FVec Ideal S4096x1024 .f32) (i : S1x1024.Idx) :
    (shapeCast _ (Host.reduceAdd (mulf (mulf (shapeCast _ d shapeCasts_S4096x1024_S4096x1024) y) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 7680] pr slices_S4096x12288_S4096x1024_0_7680) (broadcastInDim S4096x1024 ![0, 1] bcast_S1x1024_S4096x1024_0_1 (extractStridedSlice S1x1024 ![0, 1024] bi slices_S1x2048_S1x1024_0_1024))))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 7680] pr slices_S4096x12288_S4096x1024_0_7680) (broadcastInDim S4096x1024 ![0, 1] bcast_S1x1024_S4096x1024_0_1 (extractStridedSlice S1x1024 ![0, 1024] bi slices_S1x2048_S1x1024_0_1024)))))))))) (constant S_ .f32 0x00000000#32) reducesTo_S4096x1024_S1024_d0 h_S_) shapeCasts_S1024_S1x1024 : FVec Ideal S1x1024 .f32) i
      = ∑ a ∈ Finset.range 4096, gateDx (gateArg (at2 (n1 := 4096) (n2 := 12288) pr) (at2 (n1 := 1) (n2 := 2048) bi) 7680 1024 a (i 1).val) ((at2 (n1 := 4096) (n2 := 1024) d a (i 1).val) * (at2 (n1 := 4096) (n2 := 1024) y a (i 1).val)) := by
  obtain ⟨u, b, rfl⟩ : ∃ (u : Fin 1) (b : Fin 1024), i = ix2 u b := ⟨i 0, i 1, by funext x; fin_cases x <;> rfl⟩
  rw [sum_first]
  refine Eq.trans ?_ (Finset.sum_congr rfl fun a _ => (congrArg₂ gateDx (gs_at pr bi a b) (congrArg₂ (· * ·) (arr_at d a b) (arr_at y a b)))).symm
  unfold gateDx sigm
  pointwise

end Cert.MergeBwdRefIdeal.Mm

namespace Cert.Proof.Mm

open Idealize.ShloMosaic Idealize.ShloMosaic.TcCoe Idealize.SL.Sem

theorem quiescent_MergeBwdRefIdeal : Cert.quiescent_MergeBwdRefIdeal := fun m ρ _ =>
  (θ_run Cert.MergeBwdRefIdeal.defs _ _).mono
    (fun _ h => ⟨fun c => (h c).2.2.2.2.2.2, sem_eq_zero_of_no_sems rfl _⟩) (Cert.MergeBwdRefIdeal.Value.run (F := Ideal) m ρ)

theorem quiescent_MergeBwd : Cert.quiescent_MergeBwd := fun m ρ _ => Cert.MergeBwd.Gen.frame m ρ
theorem quiescent_MergeBwdIdeal : Cert.quiescent_MergeBwdIdeal := fun m ρ _ => Cert.MergeBwdIdeal.Gen.frame m ρ

theorem algebraic_MergeBwd : Cert.algebraic_MergeBwdIdeal_MergeBwdRefIdeal := by
  intro m ρ m' ρ' hpre hagree
  refine ⟨fun c => (Cert.MergeBwdIdeal.Gen.dats m 0 c).arrAt 7 Cert.MergeBwdIdeal.cfg0.N, fun c => (Cert.MergeBwdIdeal.Gen.dats m 0 c).arrAt 8 Cert.MergeBwdIdeal.cfg0.N, fun c => (Cert.MergeBwdIdeal.Gen.dats m 0 c).arrAt 9 Cert.MergeBwdIdeal.cfg0.N, fun c => (Cert.MergeBwdIdeal.Gen.dats m 0 c).arrAt 10 Cert.MergeBwdIdeal.cfg0.N, fun c => (Cert.MergeBwdIdeal.Gen.dats m 0 c).arrAt 11 Cert.MergeBwdIdeal.cfg0.N, fun c => (Cert.MergeBwdIdeal.Gen.dats m 0 c).arrAt 12 Cert.MergeBwdIdeal.cfg0.N, Cert.MergeBwdIdeal.Value.run_blocks m ρ, ?_⟩
  refine (θ_run Cert.MergeBwdRefIdeal.defs _ _).mono (fun r h c => ?_) (Cert.MergeBwdRefIdeal.Value.run (F := Ideal) m' ρ')
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine Eq.trans ?_ (Cert.MergeBwdIdeal.Mm.final7 m c).symm
    funext i
    refine (Cert.MergeBwdRefIdeal.Mm.value7 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg1)) _ _ _ i).trans ?_
    unfold Cert.MergeBwdIdeal.Mm.P7 Cert.MergeBwdIdeal.Mm.DYA Cert.MergeBwdIdeal.Mm.GA Cert.MergeBwdIdeal.Mm.PR Cert.MergeBwdIdeal.Mm.BI Cert.MergeBwdIdeal.Mm.DM
    rw [(hagree c).2.2.1, (hagree c).2.2.2.1, (hagree c).2.2.2.2]
  · refine Eq.trans ?_ (Cert.MergeBwdIdeal.Mm.final8 m c).symm
    funext i
    refine (Cert.MergeBwdRefIdeal.Mm.value8 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg1)) _ _ _ i).trans ?_
    unfold Cert.MergeBwdIdeal.Mm.P8 Cert.MergeBwdIdeal.Mm.DYS Cert.MergeBwdIdeal.Mm.GS Cert.MergeBwdIdeal.Mm.PR Cert.MergeBwdIdeal.Mm.BI Cert.MergeBwdIdeal.Mm.DM
    rw [(hagree c).2.2.1, (hagree c).2.2.2.1, (hagree c).2.2.2.2]
  · refine Eq.trans ?_ (Cert.MergeBwdIdeal.Mm.final9 m c).symm
    funext i
    refine (Cert.MergeBwdRefIdeal.Mm.value9 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg1)) _ _ _ i).trans ?_
    unfold Cert.MergeBwdIdeal.Mm.P9 Cert.MergeBwdIdeal.Mm.DGA Cert.MergeBwdIdeal.Mm.GA Cert.MergeBwdIdeal.Mm.PR Cert.MergeBwdIdeal.Mm.BI Cert.MergeBwdIdeal.Mm.DM Cert.MergeBwdIdeal.Mm.YA
    rw [(hagree c).1, (hagree c).2.2.1, (hagree c).2.2.2.1, (hagree c).2.2.2.2]
  · refine Eq.trans ?_ (Cert.MergeBwdIdeal.Mm.final10 m c).symm
    funext i
    refine (Cert.MergeBwdRefIdeal.Mm.value10 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg1)) _ _ _ i).trans ?_
    unfold Cert.MergeBwdIdeal.Mm.P10 Cert.MergeBwdIdeal.Mm.DGS Cert.MergeBwdIdeal.Mm.GS Cert.MergeBwdIdeal.Mm.PR Cert.MergeBwdIdeal.Mm.BI Cert.MergeBwdIdeal.Mm.DM Cert.MergeBwdIdeal.Mm.YS
    rw [(hagree c).2.1, (hagree c).2.2.1, (hagree c).2.2.2.1, (hagree c).2.2.2.2]
  · refine Eq.trans ?_ (Cert.MergeBwdIdeal.Mm.final11 m c).symm
    funext i
    refine (Cert.MergeBwdRefIdeal.Mm.value11 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg1)) _ _ _ i).trans ?_
    unfold Cert.MergeBwdIdeal.Mm.P11 Cert.MergeBwdIdeal.Mm.DGA Cert.MergeBwdIdeal.Mm.GA Cert.MergeBwdIdeal.Mm.PR Cert.MergeBwdIdeal.Mm.BI Cert.MergeBwdIdeal.Mm.DM Cert.MergeBwdIdeal.Mm.YA
    rw [(hagree c).1, (hagree c).2.2.1, (hagree c).2.2.2.1, (hagree c).2.2.2.2]
  · refine Eq.trans ?_ (Cert.MergeBwdIdeal.Mm.final12 m c).symm
    funext i
    refine (Cert.MergeBwdRefIdeal.Mm.value12 (m' ((c : Thread Cert.MergeBwdRefIdeal.nD Cert.MergeBwdRefIdeal.τ).loc Cert.MergeBwdRefIdeal.main_arg0)) (m' ((c : Thread Cert.MergeBwdRefIdeal.nD Cert.MergeBwdRefIdeal.τ).loc Cert.MergeBwdRefIdeal.main_arg1)) _ _ _ i).trans ?_
    unfold Cert.MergeBwdIdeal.Mm.P12 Cert.MergeBwdIdeal.Mm.DGS Cert.MergeBwdIdeal.Mm.GS Cert.MergeBwdIdeal.Mm.PR Cert.MergeBwdIdeal.Mm.BI Cert.MergeBwdIdeal.Mm.DM Cert.MergeBwdIdeal.Mm.YS
    rw [(hagree c).2.1, (hagree c).2.2.1, (hagree c).2.2.2.1, (hagree c).2.2.2.2]

end Cert.Proof.Mm
-- ==== Proof.Mm.AttProj.lean ====
/- The projection of the attention's result, in blocks of columns: a block is the product's block. -/
module

public import proofs.«01_k».proof.Proof.Gen.AttProj.Frame
public import proofs.«01_k».proof.Proof.Gen.AttProjIdeal.Frame
public import proofs.«01_k».proof.Proof.Gen.AttProjIdeal.Value
public import proofs.«01_k».proof.Proof.Gen.AttProjRefIdeal.Run
public import proofs.«01_k».proof.Proof.Mm.Sum
public import proofs.«01_k».proof.Defs

@[expose] public section

set_option maxRecDepth 16384

noncomputable section

namespace Cert.AttProjIdeal.Mm

open Cert.AttProjIdeal Cert.AttProjIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem out_eq (x0 : Vec Ideal S1024x512 .bf16) (x1 : Vec Ideal S1x1x512x256 .bf16) : out0_2 x0 x1 = k0_pay1 x0 x1 := by
  unfold out0_2
  rw [View.canon_unit_zero hz]
  simp only [View.ld_unit_zero (S := S1024x512) hz, View.ld_unit_zero (S := S1x1x512x256) hz4]

theorem prod_at (x0 : Vec Ideal S1024x512 .bf16) (x1 : Vec Ideal S1x1x512x256 .bf16) (p : Fin 1024) (q : Fin 256) :
    k0_pay1 x0 x1 (ix2 p q) = ∑ k, (x0 (ix2 p k) : EReal) * x1 (ix4 0 0 k q) := by
  pointwise [k0_pay1]

theorem idx0 : ∀ t : Fin cfg0.N, win0_0.index t = ![t.val / 4, 0] := by decide +kernel
theorem idx1 : ∀ t : Fin cfg0.N, win0_1.index t = ![t.val % 4, 1, 0, 0] := by decide +kernel
theorem idx2 : ∀ t : Fin cfg0.N, win0_2.index t = ![t.val / 4, t.val % 4] := by decide +kernel

variable (m : (ℓ : Loc nD τ sig) → Buf (Elt Ideal) ℓ) (c : Dev nD)

/-- The left operand, and the layer's weight, held in four blocks. -/
def X : ℕ → ℕ → EReal := at2 (n1 := 4096) (n2 := 512) (m ((c : Thread nD τ).loc main_arg0))
def Y (k q : ℕ) : EReal := at4 (n1 := 4) (n2 := 3) (n3 := 512) (n4 := 256) (m ((c : Thread nD τ).loc main_arg1)) (q / 256) 1 k (q % 256)

theorem x_at (t : Fin cfg0.N) (p : Fin 1024) (k : Fin 512) :
    (iblk m c 0 t (ix2 p k) : EReal) = X m c (1024 * (t.val / 4) + p.val) k.val := by
  unfold iblk
  rw [show V m c (Pipeline.arrRef spec0 0) = m ((c : Thread nD τ).loc main_arg0) from V_main_arg0 m c]
  exact at2_eq (n1 := 4096) (n2 := 512) _ _ (by blk_simp [idx0]; try omega) (by blk_simp [idx0]; try omega)

theorem y_at (t : Fin cfg0.N) (k : Fin 512) (q : Fin 256) :
    (iblk m c 1 t (ix4 0 0 k q) : EReal) = Y m c k.val (256 * (t.val % 4) + q.val) := by
  have hq := q.isLt
  unfold iblk Y
  rw [show V m c (Pipeline.arrRef spec0 1) = m ((c : Thread nD τ).loc main_arg1) from V_main_arg1 m c]
  exact at4_eq (n1 := 4) (n2 := 3) (n3 := 512) (n4 := 256) _ _ (by blk_simp [idx1]; try omega) (by blk_simp [idx1]; try omega) (by blk_simp [idx1]; try omega) (by blk_simp [idx1]; try omega)

/-- The array after the run: the product. -/
def P (i : S4096x1024.Idx) : EReal := ∑ k ∈ Finset.range 512, X m c (i 0).val k * Y m c k (i 1).val

theorem prod_pt (t : Fin cfg0.N) (p : Fin 1024) (q : Fin 256) (i : S4096x1024.Idx)
    (e0 : (i 0).val = 1024 * (t.val / 4) + p.val) (e1 : (i 1).val = 256 * (t.val % 4) + q.val) :
    (k0_pay1 (iblk m c 0 t) (iblk m c 1 t) (ix2 p q) : EReal) = P m c i := by
  unfold P
  rw [prod_at, e0, e1, sum_first]
  exact Finset.sum_congr rfl fun k _ => by rw [x_at, y_at]

theorem final : (dats m 0 c).arrAt 2 cfg0.N = (P m c : S4096x1024.Idx → EReal) := by
  refine (dats m 0 c).arrAt_eq_of_covers 2 (P m c) (by decide +kernel) (fun t hf y => ?_)
  have y0 : (y 0).val < 1024 := (y 0).isLt
  have y1 : (y 1).val < 256 := (y 1).isLt
  have e0 : ((((cfg0.win 2).blk t).view.emb y) 0).val = 1024 * (t.val / 4) + (y 0).val := by blk_simp [idx2]; try omega
  have e1 : ((((cfg0.win 2).blk t).view.emb y) 1).val = 256 * (t.val % 4) + (y 1).val := by blk_simp [idx2]; try omega
  refine Eq.trans (b := k0_pay1 (iblk m c 0 t) (iblk m c 1 t) (ix2 ⟨(y 0).val, y0⟩ ⟨(y 1).val, y1⟩)) ?_ (by exact prod_pt m c t _ _ _ e0 e1)
  rw [after0_2, out_eq]
  refine congrArg (k0_pay1 (iblk m c 0 t) (iblk m c 1 t)) ?_
  funext a; fin_cases a <;> rfl

end Cert.AttProjIdeal.Mm

namespace Cert.AttProjRefIdeal.Mm

open Cert.AttProjRefIdeal Cert.AttProjRefIdeal.Gen
open Cert.Mm
open Idealize.ShloMosaic Idealize.ShloMosaic.TcCoe Idealize.SL.Sem

theorem value (x : FVec Ideal S4096x512 .bf16) (y : FVec Ideal S4x3x512x256 .bf16) (i : S4096x1024.Idx) :
    (Host.dotGeneral dot_S4096x512_S512x1024_S4096x1024_1_0_0_1_n_n none (extf .f32 x bitsLt_bf16_f32) (extf .f32 (shapeCast _ (transpose S512x4x256 [1, 0, 2] (shapeCast _ (extractStridedSlice S4x1x512x256 ![0, 1, 0, 0] y slices_S4x3x512x256_S4x1x512x256_0_1_0_0) shapeCasts_S4x1x512x256_S4x512x256) transposes_S4x512x256_S512x4x256_1_0_2) shapeCasts_S512x4x256_S512x1024) bitsLt_bf16_f32) : FVec Ideal S4096x1024 .f32) i
      = ∑ k ∈ Finset.range 512, at2 (n1 := 4096) (n2 := 512) x (i 0).val k * at4 (n1 := 4) (n2 := 3) (n3 := 512) (n4 := 256) y ((i 1).val / 256) 1 k ((i 1).val % 256) := by
  obtain ⟨a, b, rfl⟩ : ∃ (a : Fin 4096) (b : Fin 1024), i = ix2 a b := ⟨i 0, i 1, by funext x; fin_cases x <;> rfl⟩
  rw [sum_first]
  pointwise
  exact Finset.sum_congr rfl fun k _ => congrArg₂ (· * ·) (at2_eq (n1 := 4096) (n2 := 512) x _ rfl rfl) (at4_eq (n1 := 4) (n2 := 3) (n3 := 512) (n4 := 256) y _ rfl rfl rfl rfl)

end Cert.AttProjRefIdeal.Mm

namespace Cert.Proof.Mm

open Idealize.ShloMosaic Idealize.ShloMosaic.TcCoe Idealize.SL.Sem

theorem quiescent_AttProjRefIdeal : Cert.quiescent_AttProjRefIdeal := fun m ρ _ =>
  (θ_run Cert.AttProjRefIdeal.defs _ _).mono
    (fun _ h => ⟨fun c => (h c).2, sem_eq_zero_of_no_sems rfl _⟩) (Cert.AttProjRefIdeal.Value.run (F := Ideal) m ρ)

theorem quiescent_AttProj : Cert.quiescent_AttProj := fun m ρ _ => Cert.AttProj.Gen.frame m ρ
theorem quiescent_AttProjIdeal : Cert.quiescent_AttProjIdeal := fun m ρ _ => Cert.AttProjIdeal.Gen.frame m ρ

theorem algebraic_AttProj : Cert.algebraic_AttProjIdeal_AttProjRefIdeal := by
  intro m ρ m' ρ' hpre hagree
  refine ⟨fun c => (Cert.AttProjIdeal.Gen.dats m 0 c).arrAt 2 Cert.AttProjIdeal.cfg0.N, Cert.AttProjIdeal.Value.run_blocks m ρ, ?_⟩
  refine (θ_run Cert.AttProjRefIdeal.defs _ _).mono (fun r h c => ?_) (Cert.AttProjRefIdeal.Value.run (F := Ideal) m' ρ')
  refine ⟨(h c).1.trans ?_, (h c).2⟩
  refine Eq.trans ?_ (Cert.AttProjIdeal.Mm.final m c).symm
  funext i
  refine (Cert.AttProjRefIdeal.Mm.value _ _ i).trans ?_
  unfold Cert.AttProjIdeal.Mm.P Cert.AttProjIdeal.Mm.X Cert.AttProjIdeal.Mm.Y
  rw [(hagree c).1, (hagree c).2]

end Cert.Proof.Mm
-- ==== Proof.Mm.SsmProj.lean ====
/- The projection of the recurrence's result: the sum by blocks of columns is the product. -/
module

public import proofs.«01_k».proof.Proof.Gen.SsmProj.Frame
public import proofs.«01_k».proof.Proof.Gen.SsmProjIdeal.Frame
public import proofs.«01_k».proof.Proof.Gen.SsmProjIdeal.Value
public import proofs.«01_k».proof.Proof.Gen.SsmProjRefIdeal.Run
public import proofs.«01_k».proof.Proof.Mm.Sum
public import proofs.«01_k».proof.Defs

@[expose] public section

set_option maxRecDepth 16384

noncomputable section

namespace Cert.SsmProjIdeal.Mm

open Cert.SsmProjIdeal Cert.SsmProjIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a5 h5 a6 h6 hc0 hc1 hc2) (x0 : Vec Ideal S1024x512 .bf16) (x1 : Vec Ideal S1x1x512x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  try sl_unfold_words
  rw [View.canon_unit_zero hz]
  simp only [View.readAt_eq_ld, h3.read_unread, h4.read_unread, View.ld_unit_zero (S := S1024x512) hz, View.ld_unit_zero (S := S1024x1024) hz, View.ld_unit_zero (S := S1x1x512x1024) hz4, k0_pay2, shapeCast_self]

theorem next_eq (c : Dev nD) (i : grid0.Coords) (a3 h3 a4 h4 a5 h5 a6 h6 hc0 hc1 hc2) (x0 : Vec Ideal S1024x512 .bf16) (x1 : Vec Ideal S1x1x512x1024 .bf16) (s : Vec Ideal S1024x1024 .f32) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  try sl_unfold_words
  rw [View.canon_unit_zero hz]
  simp only [View.readAt_eq_ld, h3.read_unread, h4.read_unread, h6.read_unread, View.ld_unit_zero (S := S1024x512) hz, View.ld_unit_zero (S := S1024x1024) hz, View.ld_unit_zero (S := S1x1x512x1024) hz4, k0_pay3, shapeCast_self]

theorem last_eq (c : Dev nD) (i : grid0.Coords) (a3 h3 a4 h4 a5 h5 a6 h6 hc0 hc1 hc2) (x0 : Vec Ideal S1024x512 .bf16) (x1 : Vec Ideal S1x1x512x1024 .bf16) (s : Vec Ideal S1024x1024 .f32) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  try sl_unfold_words
  rw [View.canon_unit_zero hz]
  simp only [View.readAt_eq_ld, View.readCov_unit_zero (S := S1024x1024) _ hz, h3.read_unread, h4.read_unread, h6.read_unread, View.ld_unit_zero (S := S1024x512) hz, View.ld_unit_zero (S := S1024x1024) hz, View.ld_unit_zero (S := S1x1x512x1024) hz4, k0_pay3, shapeCast_self]

theorem prod_at (x0 : Vec Ideal S1024x512 .bf16) (x1 : Vec Ideal S1x1x512x1024 .bf16) (p : Fin 1024) (q : Fin 1024) :
    k0_pay1 x0 x1 (ix2 p q) = ∑ k, (x0 (ix2 p k) : EReal) * x1 (ix4 0 0 k q) := by
  pointwise [k0_pay1]

theorem idx0 : ∀ t : Fin cfg0.N, win0_0.index t = ![t.val / 4, t.val % 4] := by decide +kernel
theorem idx1 : ∀ t : Fin cfg0.N, win0_1.index t = ![t.val % 4, 1, 0, 0] := by decide +kernel

variable (m : (ℓ : Loc nD τ sig) → Buf (Elt Ideal) ℓ) (c : Dev nD)

/-- The left operand, and the layer's weight, held in four blocks. -/
def X : ℕ → ℕ → EReal := at2 (n1 := 4096) (n2 := 2048) (m ((c : Thread nD τ).loc main_arg0))
def Y (k q : ℕ) : EReal := at4 (n1 := 4) (n2 := 3) (n3 := 512) (n4 := 1024) (m ((c : Thread nD τ).loc main_arg1)) (k / 512) 1 (k % 512) q

theorem x_at (t : Fin cfg0.N) (p : Fin 1024) (k : Fin 512) :
    (iblk m c 0 t (ix2 p k) : EReal) = X m c (1024 * (t.val / 4) + p.val) (512 * (t.val % 4) + k.val) := by
  unfold iblk
  rw [show V m c (Pipeline.arrRef spec0 0) = m ((c : Thread nD τ).loc main_arg0) from V_main_arg0 m c]
  exact at2_eq (n1 := 4096) (n2 := 2048) _ _ (by blk_simp [idx0]; try omega) (by blk_simp [idx0]; try omega)

theorem y_at (t : Fin cfg0.N) (q : Fin 1024) (k : Fin 512) :
    (iblk m c 1 t (ix4 0 0 k q) : EReal) = Y m c (512 * (t.val % 4) + k.val) q.val := by
  have hk := k.isLt
  unfold iblk Y
  rw [show V m c (Pipeline.arrRef spec0 1) = m ((c : Thread nD τ).loc main_arg1) from V_main_arg1 m c]
  exact at4_eq (n1 := 4) (n2 := 3) (n3 := 512) (n4 := 1024) _ _ (by blk_simp [idx1]; try omega) (by blk_simp [idx1]; try omega) (by blk_simp [idx1]; try omega) (by blk_simp [idx1]; try omega)

/-- A point's product, over the arrays. -/
theorem prod_pt (t : Fin cfg0.N) (p : Fin 1024) (q : Fin 1024) :
    k0_pay1 (iblk m c 0 t) (iblk m c 1 t) (ix2 p q)
      = ∑ k : Fin 512, X m c (1024 * (t.val / 4) + p.val) (512 * (t.val % 4) + k.val) * Y m c (512 * (t.val % 4) + k.val) q.val := by
  rw [prod_at]
  exact Finset.sum_congr rfl fun k _ => by rw [x_at, y_at]

/-- What the scratch holds after each of a row block's first three points: the sum over the columns so far. -/
theorem acc_at (p : Fin 1024) (q : Fin 1024) : ∀ (n : ℕ) (hn : n < cfg0.N), n % 4 < 3 →
    ((outsAt0 m c n hn).2 (ix2 p q) : EReal)
      = ∑ k ∈ Finset.range (512 * (n % 4) + 512), X m c (1024 * (n / 4) + p.val) k * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 512]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 512, show (n - 1) / 4 = n / 4 by omega, show 512 * ((n - 1) % 4) + 512 = 512 * (n % 4) by omega]

/-- The array after the run. -/
def P (i : S4096x1024.Idx) : EReal := ∑ k ∈ Finset.range 2048, X m c (i 0).val k * Y m c k (i 1).val

theorem out_at (n : ℕ) (hn : n < cfg0.N) (h3 : n % 4 = 3) (p : Fin 1024) (q : Fin 1024) (i : S4096x1024.Idx)
    (e0 : (i 0).val = 1024 * (n / 4) + p.val) (e1 : (i 1).val = q.val) :
    ((outsAt0 m c n hn).1 (ix2 p q) : EReal) = P m c i := by
  rw [outsAt0_C m c ⟨n, hn⟩ (by dsimp only; omega) (by dsimp only; omega) (by dsimp only; omega)]
  dsimp only
  have hs := Eq.trans (congrArg₂ (· + ·) (acc_at m c p q (n - 1) (by omega) (by omega)) (prod_pt m c ⟨n, hn⟩ p q))
    (by
      dsimp only
      rw [show (n - 1) % 4 = 2 by omega, h3, show (n - 1) / 4 = n / 4 by omega, ← sum_block _ 3 512] : _ = ∑ k ∈ Finset.range 2048, X m c (1024 * (n / 4) + p.val) k * Y m c k q.val)
  rw [last_eq]
  unfold P
  rw [e0, e1]
  exact hs

theorem final (i : S4096x1024.Idx) : (Value.G2 m c i : EReal) = P m c i := by
  have b0 : (i 0).val < 4096 := (i 0).isLt
  have b1 : (i 1).val < 1024 := (i 1).isLt
  have hN : cfg0.N = 16 := N_0
  have hp : Value.pt2Of i = 4 * ((i 0).val / 1024) + 3 := by simp only [Value.pt2Of, Value.run2Of]; omega
  have hl : Value.loc2Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt2Of i < cfg0.N := by rw [hp, hN]; omega
  unfold Value.G2
  rw [dif_pos hlt, ← Value.outsAt0_sweep m c _ hlt, hl]
  exact out_at m c _ hlt (by omega) _ _ i (by dsimp only; omega) rfl

end Cert.SsmProjIdeal.Mm

namespace Cert.SsmProjRefIdeal.Mm

open Cert.SsmProjRefIdeal Cert.SsmProjRefIdeal.Gen
open Cert.Mm
open Idealize.ShloMosaic Idealize.ShloMosaic.TcCoe Idealize.SL.Sem

theorem value (x : FVec Ideal S4096x2048 .bf16) (y : FVec Ideal S4x3x512x1024 .bf16) (i : S4096x1024.Idx) :
    (Host.dotGeneral dot_S4096x2048_S2048x1024_S4096x1024_1_0_0_1_n_n none (extf .f32 x bitsLt_bf16_f32) (extf .f32 (shapeCast _ (shapeCast _ (extractStridedSlice S4x1x512x1024 ![0, 1, 0, 0] y slices_S4x3x512x1024_S4x1x512x1024_0_1_0_0) shapeCasts_S4x1x512x1024_S4x512x1024) shapeCasts_S4x512x1024_S2048x1024) bitsLt_bf16_f32) : FVec Ideal S4096x1024 .f32) i
      = ∑ k ∈ Finset.range 2048, at2 (n1 := 4096) (n2 := 2048) x (i 0).val k * at4 (n1 := 4) (n2 := 3) (n3 := 512) (n4 := 1024) y (k / 512) 1 (k % 512) (i 1).val := by
  obtain ⟨a, b, rfl⟩ : ∃ (a : Fin 4096) (b : Fin 1024), i = ix2 a b := ⟨i 0, i 1, by funext x; fin_cases x <;> rfl⟩
  rw [sum_first]
  pointwise
  exact Finset.sum_congr rfl fun k _ => congrArg₂ (· * ·) (at2_eq (n1 := 4096) (n2 := 2048) x _ rfl rfl) (at4_eq (n1 := 4) (n2 := 3) (n3 := 512) (n4 := 1024) y _ rfl rfl rfl rfl)

end Cert.SsmProjRefIdeal.Mm

namespace Cert.Proof.Mm

open Idealize.ShloMosaic Idealize.ShloMosaic.TcCoe Idealize.SL.Sem

theorem quiescent_SsmProjRefIdeal : Cert.quiescent_SsmProjRefIdeal := fun m ρ _ =>
  (θ_run Cert.SsmProjRefIdeal.defs _ _).mono
    (fun _ h => ⟨fun c => (h c).2, sem_eq_zero_of_no_sems rfl _⟩) (Cert.SsmProjRefIdeal.Value.run (F := Ideal) m ρ)

theorem quiescent_SsmProj : Cert.quiescent_SsmProj := fun m ρ _ => Cert.SsmProj.Gen.frame m ρ
theorem quiescent_SsmProjIdeal : Cert.quiescent_SsmProjIdeal := fun m ρ _ => Cert.SsmProjIdeal.Gen.frame m ρ

theorem algebraic_SsmProj : Cert.algebraic_SsmProjIdeal_SsmProjRefIdeal := by
  intro m ρ m' ρ' hpre hagree
  refine ⟨fun c => Cert.SsmProjIdeal.Value.G2 m c, Cert.SsmProjIdeal.Value.run m ρ, ?_⟩
  refine (θ_run Cert.SsmProjRefIdeal.defs _ _).mono (fun r h c => ?_) (Cert.SsmProjRefIdeal.Value.run (F := Ideal) m' ρ')
  refine ⟨(h c).1.trans ?_, (h c).2⟩
  funext i
  refine (Cert.SsmProjRefIdeal.Mm.value _ _ i).trans ((Cert.SsmProjIdeal.Mm.final m c i).trans ?_).symm
  unfold Cert.SsmProjIdeal.Mm.P Cert.SsmProjIdeal.Mm.X Cert.SsmProjIdeal.Mm.Y
  rw [(hagree c).1, (hagree c).2]

end Cert.Proof.Mm
-- ==== Proof.Mm.Out.lean ====
/- The mixer's output projection: the sum by blocks of columns is the product, which is added to the input. -/
module

public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Mm.Sum
public import proofs.«01_k».proof.Defs

@[expose] public section

set_option maxRecDepth 16384

noncomputable section

namespace Cert.OutIdeal.Mm

open Cert.OutIdeal Cert.OutIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a5 h5 a6 h6 a7 h7 hc0 hc1 hc2) (x0 : Vec Ideal S1024x256 .bf16) (x1 : Vec Ideal S1x1x256x1024 .bf16) (r : Vec Ideal S1024x1024 .f32) :
    sout0_A_0 c i a3 h3 a4 h4 a5 h5 a6 h6 a7 h7 hc0 hc1 hc2 x0 x1 r = k0_pay1 x0 x1 := by
  unfold sout0_A_0
  rw [View.read_writes_eq_canon _ _ _ (scover0_A_0 c i a3 h3 a4 h4 a5 h5 a6 h6 a7 h7 hc0 hc1 hc2 x0 x1 r)]
  unfold kernelRun0_A
  dsimp only
  try sl_unfold_words
  rw [View.canon_unit_zero hz]
  simp only [View.readAt_eq_ld, h3.read_unread, h4.read_unread, h5.read_unread, View.ld_unit_zero (S := S1024x256) hz, View.ld_unit_zero (S := S1024x1024) hz, View.ld_unit_zero (S := S1x1x256x1024) hz4, k0_pay2, shapeCast_self]

theorem next_eq (c : Dev nD) (i : grid0.Coords) (a3 h3 a4 h4 a5 h5 a6 h6 a7 h7 hc0 hc1 hc2) (x0 : Vec Ideal S1024x256 .bf16) (x1 : Vec Ideal S1x1x256x1024 .bf16) (r : Vec Ideal S1024x1024 .f32) (s : Vec Ideal S1024x1024 .f32) :
    sout0_B_0 c i a3 h3 a4 h4 a5 h5 a6 h6 a7 h7 hc0 hc1 hc2 x0 x1 r s = addf s (k0_pay1 x0 x1) := by
  unfold sout0_B_0
  rw [View.read_writes_eq_canon _ _ _ (scover0_B_0 c i a3 h3 a4 h4 a5 h5 a6 h6 a7 h7 hc0 hc1 hc2 x0 x1 r s)]
  unfold kernelRun0_B
  dsimp only
  try sl_unfold_words
  rw [View.canon_unit_zero hz]
  simp only [View.readAt_eq_ld, h3.read_unread, h4.read_unread, h5.read_unread, h7.read_unread, View.ld_unit_zero (S := S1024x256) hz, View.ld_unit_zero (S := S1024x1024) hz, View.ld_unit_zero (S := S1x1x256x1024) hz4, k0_pay3, shapeCast_self]

theorem last_eq (c : Dev nD) (i : grid0.Coords) (a3 h3 a4 h4 a5 h5 a6 h6 a7 h7 hc0 hc1 hc2) (x0 : Vec Ideal S1024x256 .bf16) (x1 : Vec Ideal S1x1x256x1024 .bf16) (r : Vec Ideal S1024x1024 .f32) (s : Vec Ideal S1024x1024 .f32) :
    out0_C_3 c i a3 h3 a4 h4 a5 h5 a6 h6 a7 h7 hc0 hc1 hc2 x0 x1 r s = k0_pay4 (addf s (k0_pay1 x0 x1)) r := by
  unfold out0_C_3
  rw [View.read_writes_eq_canon _ _ _ (cover0_C_3 c i a3 h3 a4 h4 a5 h5 a6 h6 a7 h7 hc0 hc1 hc2 x0 x1 r s)]
  unfold kernelRun0_C
  dsimp only
  try sl_unfold_words
  rw [View.canon_unit_zero hz]
  simp only [View.readAt_eq_ld, View.readCov_unit_zero (S := S1024x1024) _ hz, h3.read_unread, h4.read_unread, h5.read_unread, h7.read_unread, View.ld_unit_zero (S := S1024x256) hz, View.ld_unit_zero (S := S1024x1024) hz, View.ld_unit_zero (S := S1x1x256x1024) hz4, k0_pay3, shapeCast_self]

theorem prod_at (x0 : Vec Ideal S1024x256 .bf16) (x1 : Vec Ideal S1x1x256x1024 .bf16) (p : Fin 1024) (q : Fin 1024) :
    k0_pay1 x0 x1 (ix2 p q) = ∑ k, (x0 (ix2 p k) : EReal) * x1 (ix4 0 0 k q) := by
  pointwise [k0_pay1]

theorem pay4_at (s r : Vec Ideal S1024x1024 .f32) (p : Fin 1024) (q : Fin 1024) :
    (k0_pay4 s r (ix2 p q) : EReal) = s (ix2 p q) + r (ix2 p q) := by
  pointwise [k0_pay4]

theorem idx0 : ∀ t : Fin cfg0.N, win0_0.index t = ![t.val / 4, t.val % 4] := by decide +kernel
theorem idx1 : ∀ t : Fin cfg0.N, win0_1.index t = ![t.val % 4, 1, 0, 0] := by decide +kernel
theorem idx2 : ∀ t : Fin cfg0.N, win0_2.index t = ![t.val / 4, 0] := by decide +kernel

variable (m : (ℓ : Loc nD τ sig) → Buf (Elt Ideal) ℓ) (c : Dev nD)

/-- The left operand, and the layer's weight, held in four blocks. -/
def X : ℕ → ℕ → EReal := at2 (n1 := 4096) (n2 := 1024) (m ((c : Thread nD τ).loc main_arg0))
def Y (k q : ℕ) : EReal := at4 (n1 := 4) (n2 := 3) (n3 := 256) (n4 := 1024) (m ((c : Thread nD τ).loc main_arg1)) (k / 256) 1 (k % 256) q
/-- The array added to the product. -/
def R : ℕ → ℕ → EReal := at2 (n1 := 4096) (n2 := 1024) (m ((c : Thread nD τ).loc main_arg2))

theorem x_at (t : Fin cfg0.N) (p : Fin 1024) (k : Fin 256) :
    (iblk m c 0 t (ix2 p k) : EReal) = X m c (1024 * (t.val / 4) + p.val) (256 * (t.val % 4) + k.val) := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (q : Fin 1024) (k : Fin 256) :
    (iblk m c 1 t (ix4 0 0 k q) : EReal) = Y m c (256 * (t.val % 4) + k.val) q.val := by
  have hk := k.isLt
  unfold iblk Y
  rw [show V m c (Pipeline.arrRef spec0 1) = m ((c : Thread nD τ).loc main_arg1) from V_main_arg1 m c]
  exact at4_eq (n1 := 4) (n2 := 3) (n3 := 256) (n4 := 1024) _ _ (by blk_simp [idx1]; try omega) (by blk_simp [idx1]; try omega) (by blk_simp [idx1]; try omega) (by blk_simp [idx1]; try omega)

theorem r_at (t : Fin cfg0.N) (p : Fin 1024) (q : Fin 1024) :
    (iblk m c 2 t (ix2 p q) : EReal) = R m c (1024 * (t.val / 4) + p.val) q.val := by
  unfold iblk
  rw [show V m c (Pipeline.arrRef spec0 2) = m ((c : Thread nD τ).loc main_arg2) from V_main_arg2 m c]
  exact at2_eq (n1 := 4096) (n2 := 1024) _ _ (by blk_simp [idx2]; try omega) (by blk_simp [idx2]; try omega)

/-- A point's product, over the arrays. -/
theorem prod_pt (t : Fin cfg0.N) (p : Fin 1024) (q : Fin 1024) :
    k0_pay1 (iblk m c 0 t) (iblk m c 1 t) (ix2 p q)
      = ∑ k : Fin 256, X m c (1024 * (t.val / 4) + p.val) (256 * (t.val % 4) + k.val) * Y m c (256 * (t.val % 4) + k.val) q.val := by
  rw [prod_at]
  exact Finset.sum_congr rfl fun k _ => by rw [x_at, y_at]

/-- What the scratch holds after each of a row block's first three points: the sum over the columns so far. -/
theorem acc_at (p : Fin 1024) (q : Fin 1024) : ∀ (n : ℕ) (hn : n < cfg0.N), n % 4 < 3 →
    ((outsAt0 m c n hn).2 (ix2 p q) : EReal)
      = ∑ k ∈ Finset.range (256 * (n % 4) + 256), X m c (1024 * (n / 4) + p.val) k * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 256]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 256, show (n - 1) / 4 = n / 4 by omega, show 256 * ((n - 1) % 4) + 256 = 256 * (n % 4) by omega]

/-- The array after the run. -/
def P (i : S4096x1024.Idx) : EReal := R m c (i 0).val (i 1).val + ∑ k ∈ Finset.range 1024, X m c (i 0).val k * Y m c k (i 1).val

theorem out_at (n : ℕ) (hn : n < cfg0.N) (h3 : n % 4 = 3) (p : Fin 1024) (q : Fin 1024) (i : S4096x1024.Idx)
    (e0 : (i 0).val = 1024 * (n / 4) + p.val) (e1 : (i 1).val = q.val) :
    ((outsAt0 m c n hn).1 (ix2 p q) : EReal) = P m c i := by
  rw [outsAt0_C m c ⟨n, hn⟩ (by dsimp only; omega) (by dsimp only; omega) (by dsimp only; omega)]
  dsimp only
  have hs := Eq.trans (congrArg₂ (· + ·) (acc_at m c p q (n - 1) (by omega) (by omega)) (prod_pt m c ⟨n, hn⟩ p q))
    (by
      dsimp only
      rw [show (n - 1) % 4 = 2 by omega, h3, show (n - 1) / 4 = n / 4 by omega, ← sum_block _ 3 256] : _ = ∑ k ∈ Finset.range 1024, X m c (1024 * (n / 4) + p.val) k * Y m c k q.val)
  rw [last_eq, pay4_at]
  unfold P
  rw [e0, e1, r_at, add_comm]
  exact congrArg (R m c _ _ + ·) hs

theorem final (i : S4096x1024.Idx) : (Value.G3 m c i : EReal) = P m c i := by
  have b0 : (i 0).val < 4096 := (i 0).isLt
  have b1 : (i 1).val < 1024 := (i 1).isLt
  have hN : cfg0.N = 16 := N_0
  have hp : Value.pt3Of i = 4 * ((i 0).val / 1024) + 3 := by simp only [Value.pt3Of, Value.run3Of]; omega
  have hl : Value.loc3Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt3Of i < cfg0.N := by rw [hp, hN]; omega
  unfold Value.G3
  rw [dif_pos hlt, ← Value.outsAt0_sweep m c _ hlt, hl]
  exact out_at m c _ hlt (by omega) _ _ i (by dsimp only; omega) rfl

end Cert.OutIdeal.Mm

namespace Cert.OutRefIdeal.Mm

open Cert.OutRefIdeal Cert.OutRefIdeal.Gen
open Cert.Mm
open Idealize.ShloMosaic Idealize.ShloMosaic.TcCoe Idealize.SL.Sem

theorem value (x : FVec Ideal S4096x1024 .bf16) (y : FVec Ideal S4x3x256x1024 .bf16) (z : FVec Ideal S4096x1024 .f32) (i : S4096x1024.Idx) :
    (addf z (Host.dotGeneral dot_S4096x1024_S1024x1024_S4096x1024_1_0_0_1_n_n none (extf .f32 x bitsLt_bf16_f32) (extf .f32 (shapeCast _ (shapeCast _ (extractStridedSlice S4x1x256x1024 ![0, 1, 0, 0] y slices_S4x3x256x1024_S4x1x256x1024_0_1_0_0) shapeCasts_S4x1x256x1024_S4x256x1024) shapeCasts_S4x256x1024_S1024x1024) bitsLt_bf16_f32)) : FVec Ideal S4096x1024 .f32) i
      = at2 (n1 := 4096) (n2 := 1024) z (i 0).val (i 1).val + ∑ k ∈ Finset.range 1024, at2 (n1 := 4096) (n2 := 1024) x (i 0).val k * at4 (n1 := 4) (n2 := 3) (n3 := 256) (n4 := 1024) y (k / 256) 1 (k % 256) (i 1).val := by
  obtain ⟨a, b, rfl⟩ : ∃ (a : Fin 4096) (b : Fin 1024), i = ix2 a b := ⟨i 0, i 1, by funext x; fin_cases x <;> rfl⟩
  rw [sum_first]
  pointwise
  exact congrArg₂ (· + ·) (at2_eq (n1 := 4096) (n2 := 1024) z (ix2 a b) rfl rfl) (Finset.sum_congr rfl fun k _ => congrArg₂ (· * ·) (at2_eq (n1 := 4096) (n2 := 1024) x _ rfl rfl) (at4_eq (n1 := 4) (n2 := 3) (n3 := 256) (n4 := 1024) y _ rfl rfl rfl rfl))

end Cert.OutRefIdeal.Mm

namespace Cert.Proof.Mm

open Idealize.ShloMosaic Idealize.ShloMosaic.TcCoe Idealize.SL.Sem

theorem quiescent_OutRefIdeal : Cert.quiescent_OutRefIdeal := fun m ρ _ =>
  (θ_run Cert.OutRefIdeal.defs _ _).mono
    (fun _ h => ⟨fun c => (h c).2, sem_eq_zero_of_no_sems rfl _⟩) (Cert.OutRefIdeal.Value.run (F := Ideal) m ρ)

theorem quiescent_Out : Cert.quiescent_Out := fun m ρ _ => Cert.Out.Gen.frame m ρ
theorem quiescent_OutIdeal : Cert.quiescent_OutIdeal := fun m ρ _ => Cert.OutIdeal.Gen.frame m ρ

theorem algebraic_Out : Cert.algebraic_OutIdeal_OutRefIdeal := by
  intro m ρ m' ρ' hpre hagree
  refine ⟨fun c => Cert.OutIdeal.Value.G3 m c, Cert.OutIdeal.Value.run m ρ, ?_⟩
  refine (θ_run Cert.OutRefIdeal.defs _ _).mono (fun r h c => ?_) (Cert.OutRefIdeal.Value.run (F := Ideal) m' ρ')
  refine ⟨(h c).1.trans ?_, (h c).2⟩
  funext i
  refine (Cert.OutRefIdeal.Mm.value _ _ _ i).trans ((Cert.OutIdeal.Mm.final m c i).trans ?_).symm
  unfold Cert.OutIdeal.Mm.P Cert.OutIdeal.Mm.X Cert.OutIdeal.Mm.Y Cert.OutIdeal.Mm.R
  rw [(hagree c).1, (hagree c).2.1, (hagree c).2.2]

end Cert.Proof.Mm
-- ==== Proof.Mm.OutDx.lean ====
/- The gradient through the output projection, in blocks of columns: a block is the product's block. -/
module

public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Mm.Sum
public import proofs.«01_k».proof.Defs

@[expose] public section

set_option maxRecDepth 16384

noncomputable section

namespace Cert.OutDxIdeal.Mm

open Cert.OutDxIdeal Cert.OutDxIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem out_eq (x0 : Vec Ideal S1024x1024 .f32) (x1 : Vec Ideal S1x1x256x1024 .bf16) : out0_2 x0 x1 = k0_pay1 x0 x1 := by
  unfold out0_2
  rw [View.canon_unit_zero hz]
  simp only [View.ld_unit_zero (S := S1024x1024) hz, View.ld_unit_zero (S := S1x1x256x1024) hz4]

theorem prod_at (x0 : Vec Ideal S1024x1024 .f32) (x1 : Vec Ideal S1x1x256x1024 .bf16) (p : Fin 1024) (q : Fin 256) :
    k0_pay1 x0 x1 (ix2 p q) = ∑ k, (x0 (ix2 p k) : EReal) * x1 (ix4 0 0 q k) := by
  pointwise [k0_pay1]

theorem idx0 : ∀ t : Fin cfg0.N, win0_0.index t = ![t.val / 4, 0] := by decide +kernel
theorem idx1 : ∀ t : Fin cfg0.N, win0_1.index t = ![t.val % 4, 1, 0, 0] := by decide +kernel
theorem idx2 : ∀ t : Fin cfg0.N, win0_2.index t = ![t.val / 4, t.val % 4] := by decide +kernel

variable (m : (ℓ : Loc nD τ sig) → Buf (Elt Ideal) ℓ) (c : Dev nD)

/-- The left operand, and the layer's weight, held in four blocks. -/
def X : ℕ → ℕ → EReal := at2 (n1 := 4096) (n2 := 1024) (m ((c : Thread nD τ).loc main_arg0))
def Y (k q : ℕ) : EReal := at4 (n1 := 4) (n2 := 3) (n3 := 256) (n4 := 1024) (m ((c : Thread nD τ).loc main_arg1)) (q / 256) 1 (q % 256) k

theorem x_at (t : Fin cfg0.N) (p : Fin 1024) (k : Fin 1024) :
    (iblk m c 0 t (ix2 p k) : EReal) = X m c (1024 * (t.val / 4) + p.val) k.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (k : Fin 1024) (q : Fin 256) :
    (iblk m c 1 t (ix4 0 0 q k) : EReal) = Y m c k.val (256 * (t.val % 4) + q.val) := by
  have hq := q.isLt
  unfold iblk Y
  rw [show V m c (Pipeline.arrRef spec0 1) = m ((c : Thread nD τ).loc main_arg1) from V_main_arg1 m c]
  exact at4_eq (n1 := 4) (n2 := 3) (n3 := 256) (n4 := 1024) _ _ (by blk_simp [idx1]; try omega) (by blk_simp [idx1]; try omega) (by blk_simp [idx1]; try omega) (by blk_simp [idx1]; try omega)

/-- The array after the run: the product. -/
def P (i : S4096x1024.Idx) : EReal := ∑ k ∈ Finset.range 1024, X m c (i 0).val k * Y m c k (i 1).val

theorem prod_pt (t : Fin cfg0.N) (p : Fin 1024) (q : Fin 256) (i : S4096x1024.Idx)
    (e0 : (i 0).val = 1024 * (t.val / 4) + p.val) (e1 : (i 1).val = 256 * (t.val % 4) + q.val) :
    (k0_pay1 (iblk m c 0 t) (iblk m c 1 t) (ix2 p q) : EReal) = P m c i := by
  unfold P
  rw [prod_at, e0, e1, sum_first]
  exact Finset.sum_congr rfl fun k _ => by rw [x_at, y_at]

theorem final : (dats m 0 c).arrAt 2 cfg0.N = (P m c : S4096x1024.Idx → EReal) := by
  refine (dats m 0 c).arrAt_eq_of_covers 2 (P m c) (by decide +kernel) (fun t hf y => ?_)
  have y0 : (y 0).val < 1024 := (y 0).isLt
  have y1 : (y 1).val < 256 := (y 1).isLt
  have e0 : ((((cfg0.win 2).blk t).view.emb y) 0).val = 1024 * (t.val / 4) + (y 0).val := by blk_simp [idx2]; try omega
  have e1 : ((((cfg0.win 2).blk t).view.emb y) 1).val = 256 * (t.val % 4) + (y 1).val := by blk_simp [idx2]; try omega
  refine Eq.trans (b := k0_pay1 (iblk m c 0 t) (iblk m c 1 t) (ix2 ⟨(y 0).val, y0⟩ ⟨(y 1).val, y1⟩)) ?_ (by exact prod_pt m c t _ _ _ e0 e1)
  rw [after0_2, out_eq]
  refine congrArg (k0_pay1 (iblk m c 0 t) (iblk m c 1 t)) ?_
  funext a; fin_cases a <;> rfl

end Cert.OutDxIdeal.Mm

namespace Cert.OutDxRefIdeal.Mm

open Cert.OutDxRefIdeal Cert.OutDxRefIdeal.Gen
open Cert.Mm
open Idealize.ShloMosaic Idealize.ShloMosaic.TcCoe Idealize.SL.Sem

theorem value (x : FVec Ideal S4096x1024 .f32) (y : FVec Ideal S4x3x256x1024 .bf16) (i : S4096x1024.Idx) :
    (Host.dotGeneral dot_S4096x1024_S1024x1024_S4096x1024_1_1_0_0_n_n none x (extf .f32 (shapeCast _ (shapeCast _ (extractStridedSlice S4x1x256x1024 ![0, 1, 0, 0] y slices_S4x3x256x1024_S4x1x256x1024_0_1_0_0) shapeCasts_S4x1x256x1024_S4x256x1024) shapeCasts_S4x256x1024_S1024x1024) bitsLt_bf16_f32) : FVec Ideal S4096x1024 .f32) i
      = ∑ k ∈ Finset.range 1024, at2 (n1 := 4096) (n2 := 1024) x (i 0).val k * at4 (n1 := 4) (n2 := 3) (n3 := 256) (n4 := 1024) y ((i 1).val / 256) 1 ((i 1).val % 256) k := by
  obtain ⟨a, b, rfl⟩ : ∃ (a : Fin 4096) (b : Fin 1024), i = ix2 a b := ⟨i 0, i 1, by funext x; fin_cases x <;> rfl⟩
  rw [sum_first]
  pointwise
  exact Finset.sum_congr rfl fun k _ => congrArg₂ (· * ·) (at2_eq (n1 := 4096) (n2 := 1024) x _ rfl rfl) (at4_eq (n1 := 4) (n2 := 3) (n3 := 256) (n4 := 1024) y _ rfl rfl rfl rfl)

end Cert.OutDxRefIdeal.Mm

namespace Cert.Proof.Mm

open Idealize.ShloMosaic Idealize.ShloMosaic.TcCoe Idealize.SL.Sem

theorem quiescent_OutDxRefIdeal : Cert.quiescent_OutDxRefIdeal := fun m ρ _ =>
  (θ_run Cert.OutDxRefIdeal.defs _ _).mono
    (fun _ h => ⟨fun c => (h c).2, sem_eq_zero_of_no_sems rfl _⟩) (Cert.OutDxRefIdeal.Value.run (F := Ideal) m ρ)

theorem quiescent_OutDx : Cert.quiescent_OutDx := fun m ρ _ => Cert.OutDx.Gen.frame m ρ
theorem quiescent_OutDxIdeal : Cert.quiescent_OutDxIdeal := fun m ρ _ => Cert.OutDxIdeal.Gen.frame m ρ

theorem algebraic_OutDx : Cert.algebraic_OutDxIdeal_OutDxRefIdeal := by
  intro m ρ m' ρ' hpre hagree
  refine ⟨fun c => (Cert.OutDxIdeal.Gen.dats m 0 c).arrAt 2 Cert.OutDxIdeal.cfg0.N, Cert.OutDxIdeal.Value.run_blocks m ρ, ?_⟩
  refine (θ_run Cert.OutDxRefIdeal.defs _ _).mono (fun r h c => ?_) (Cert.OutDxRefIdeal.Value.run (F := Ideal) m' ρ')
  refine ⟨(h c).1.trans ?_, (h c).2⟩
  refine Eq.trans ?_ (Cert.OutDxIdeal.Mm.final m c).symm
  funext i
  refine (Cert.OutDxRefIdeal.Mm.value _ _ i).trans ?_
  unfold Cert.OutDxIdeal.Mm.P Cert.OutDxIdeal.Mm.X Cert.OutDxIdeal.Mm.Y
  rw [(hagree c).1, (hagree c).2]

end Cert.Proof.Mm
-- ==== Proof.Mm.SsmProjDx.lean ====
/- The gradient through the projection of the recurrence's result, in blocks of columns: a block is the product's block. -/
module

public import proofs.«01_k».proof.Proof.Gen.SsmProjDx.Frame
public import proofs.«01_k».proof.Proof.Gen.SsmProjDxIdeal.Frame
public import proofs.«01_k».proof.Proof.Gen.SsmProjDxIdeal.Value
public import proofs.«01_k».proof.Proof.Gen.SsmProjDxRefIdeal.Run
public import proofs.«01_k».proof.Proof.Mm.Sum
public import proofs.«01_k».proof.Defs

@[expose] public section

set_option maxRecDepth 16384

noncomputable section

namespace Cert.SsmProjDxIdeal.Mm

open Cert.SsmProjDxIdeal Cert.SsmProjDxIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem out_eq (x0 : Vec Ideal S1024x1024 .bf16) (x1 : Vec Ideal S1x1x512x1024 .bf16) : out0_2 x0 x1 = k0_pay1 x0 x1 := by
  unfold out0_2
  rw [View.canon_unit_zero hz]
  simp only [View.ld_unit_zero (S := S1024x1024) hz, View.ld_unit_zero (S := S1x1x512x1024) hz4]

theorem prod_at (x0 : Vec Ideal S1024x1024 .bf16) (x1 : Vec Ideal S1x1x512x1024 .bf16) (p : Fin 1024) (q : Fin 512) :
    k0_pay1 x0 x1 (ix2 p q) = ∑ k, (x0 (ix2 p k) : EReal) * x1 (ix4 0 0 q k) := by
  pointwise [k0_pay1]

theorem idx0 : ∀ t : Fin cfg0.N, win0_0.index t = ![t.val / 4, 0] := by decide +kernel
theorem idx1 : ∀ t : Fin cfg0.N, win0_1.index t = ![t.val % 4, 1, 0, 0] := by decide +kernel
theorem idx2 : ∀ t : Fin cfg0.N, win0_2.index t = ![t.val / 4, t.val % 4] := by decide +kernel

variable (m : (ℓ : Loc nD τ sig) → Buf (Elt Ideal) ℓ) (c : Dev nD)

/-- The left operand, and the layer's weight, held in four blocks. -/
def X : ℕ → ℕ → EReal := at2 (n1 := 4096) (n2 := 1024) (m ((c : Thread nD τ).loc main_arg0))
def Y (k q : ℕ) : EReal := at4 (n1 := 4) (n2 := 3) (n3 := 512) (n4 := 1024) (m ((c : Thread nD τ).loc main_arg1)) (q / 512) 1 (q % 512) k

theorem x_at (t : Fin cfg0.N) (p : Fin 1024) (k : Fin 1024) :
    (iblk m c 0 t (ix2 p k) : EReal) = X m c (1024 * (t.val / 4) + p.val) k.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (k : Fin 1024) (q : Fin 512) :
    (iblk m c 1 t (ix4 0 0 q k) : EReal) = Y m c k.val (512 * (t.val % 4) + q.val) := by
  have hq := q.isLt
  unfold iblk Y
  rw [show V m c (Pipeline.arrRef spec0 1) = m ((c : Thread nD τ).loc main_arg1) from V_main_arg1 m c]
  exact at4_eq (n1 := 4) (n2 := 3) (n3 := 512) (n4 := 1024) _ _ (by blk_simp [idx1]; try omega) (by blk_simp [idx1]; try omega) (by blk_simp [idx1]; try omega) (by blk_simp [idx1]; try omega)

/-- The array after the run: the product. -/
def P (i : S4096x2048.Idx) : EReal := ∑ k ∈ Finset.range 1024, X m c (i 0).val k * Y m c k (i 1).val

theorem prod_pt (t : Fin cfg0.N) (p : Fin 1024) (q : Fin 512) (i : S4096x2048.Idx)
    (e0 : (i 0).val = 1024 * (t.val / 4) + p.val) (e1 : (i 1).val = 512 * (t.val % 4) + q.val) :
    (k0_pay1 (iblk m c 0 t) (iblk m c 1 t) (ix2 p q) : EReal) = P m c i := by
  unfold P
  rw [prod_at, e0, e1, sum_first]
  exact Finset.sum_congr rfl fun k _ => by rw [x_at, y_at]

theorem final : (dats m 0 c).arrAt 2 cfg0.N = (P m c : S4096x2048.Idx → EReal) := by
  refine (dats m 0 c).arrAt_eq_of_covers 2 (P m c) (by decide +kernel) (fun t hf y => ?_)
  have y0 : (y 0).val < 1024 := (y 0).isLt
  have y1 : (y 1).val < 512 := (y 1).isLt
  have e0 : ((((cfg0.win 2).blk t).view.emb y) 0).val = 1024 * (t.val / 4) + (y 0).val := by blk_simp [idx2]; try omega
  have e1 : ((((cfg0.win 2).blk t).view.emb y) 1).val = 512 * (t.val % 4) + (y 1).val := by blk_simp [idx2]; try omega
  refine Eq.trans (b := k0_pay1 (iblk m c 0 t) (iblk m c 1 t) (ix2 ⟨(y 0).val, y0⟩ ⟨(y 1).val, y1⟩)) ?_ (by exact prod_pt m c t _ _ _ e0 e1)
  rw [after0_2, out_eq]
  refine congrArg (k0_pay1 (iblk m c 0 t) (iblk m c 1 t)) ?_
  funext a; fin_cases a <;> rfl

end Cert.SsmProjDxIdeal.Mm

namespace Cert.SsmProjDxRefIdeal.Mm

open Cert.SsmProjDxRefIdeal Cert.SsmProjDxRefIdeal.Gen
open Cert.Mm
open Idealize.ShloMosaic Idealize.ShloMosaic.TcCoe Idealize.SL.Sem

theorem value (x : FVec Ideal S4096x1024 .bf16) (y : FVec Ideal S4x3x512x1024 .bf16) (i : S4096x2048.Idx) :
    (Host.dotGeneral dot_S4096x1024_S2048x1024_S4096x2048_1_1_0_0_n_n none (extf .f32 x bitsLt_bf16_f32) (extf .f32 (shapeCast _ (shapeCast _ (extractStridedSlice S4x1x512x1024 ![0, 1, 0, 0] y slices_S4x3x512x1024_S4x1x512x1024_0_1_0_0) shapeCasts_S4x1x512x1024_S4x512x1024) shapeCasts_S4x512x1024_S2048x1024) bitsLt_bf16_f32) : FVec Ideal S4096x2048 .f32) i
      = ∑ k ∈ Finset.range 1024, at2 (n1 := 4096) (n2 := 1024) x (i 0).val k * at4 (n1 := 4) (n2 := 3) (n3 := 512) (n4 := 1024) y ((i 1).val / 512) 1 ((i 1).val % 512) k := by
  obtain ⟨a, b, rfl⟩ : ∃ (a : Fin 4096) (b : Fin 2048), i = ix2 a b := ⟨i 0, i 1, by funext x; fin_cases x <;> rfl⟩
  rw [sum_first]
  pointwise
  exact Finset.sum_congr rfl fun k _ => congrArg₂ (· * ·) (at2_eq (n1 := 4096) (n2 := 1024) x _ rfl rfl) (at4_eq (n1 := 4) (n2 := 3) (n3 := 512) (n4 := 1024) y _ rfl rfl rfl rfl)

end Cert.SsmProjDxRefIdeal.Mm

namespace Cert.Proof.Mm

open Idealize.ShloMosaic Idealize.ShloMosaic.TcCoe Idealize.SL.Sem

theorem quiescent_SsmProjDxRefIdeal : Cert.quiescent_SsmProjDxRefIdeal := fun m ρ _ =>
  (θ_run Cert.SsmProjDxRefIdeal.defs _ _).mono
    (fun _ h => ⟨fun c => (h c).2, sem_eq_zero_of_no_sems rfl _⟩) (Cert.SsmProjDxRefIdeal.Value.run (F := Ideal) m ρ)

theorem quiescent_SsmProjDx : Cert.quiescent_SsmProjDx := fun m ρ _ => Cert.SsmProjDx.Gen.frame m ρ
theorem quiescent_SsmProjDxIdeal : Cert.quiescent_SsmProjDxIdeal := fun m ρ _ => Cert.SsmProjDxIdeal.Gen.frame m ρ

theorem algebraic_SsmProjDx : Cert.algebraic_SsmProjDxIdeal_SsmProjDxRefIdeal := by
  intro m ρ m' ρ' hpre hagree
  refine ⟨fun c => (Cert.SsmProjDxIdeal.Gen.dats m 0 c).arrAt 2 Cert.SsmProjDxIdeal.cfg0.N, Cert.SsmProjDxIdeal.Value.run_blocks m ρ, ?_⟩
  refine (θ_run Cert.SsmProjDxRefIdeal.defs _ _).mono (fun r h c => ?_) (Cert.SsmProjDxRefIdeal.Value.run (F := Ideal) m' ρ')
  refine ⟨(h c).1.trans ?_, (h c).2⟩
  refine Eq.trans ?_ (Cert.SsmProjDxIdeal.Mm.final m c).symm
  funext i
  refine (Cert.SsmProjDxRefIdeal.Mm.value _ _ i).trans ?_
  unfold Cert.SsmProjDxIdeal.Mm.P Cert.SsmProjDxIdeal.Mm.X Cert.SsmProjDxIdeal.Mm.Y
  rw [(hagree c).1, (hagree c).2]

end Cert.Proof.Mm
-- ==== Proof.Mm.AttProjDx.lean ====
/- The gradient through the attention's projection: the sum by blocks of columns is the product. -/
module

public import proofs.«01_k».proof.Proof.Gen.AttProjDx.Frame
public import proofs.«01_k».proof.Proof.Gen.AttProjDxIdeal.Frame
public import proofs.«01_k».proof.Proof.Gen.AttProjDxIdeal.Value
public import proofs.«01_k».proof.Proof.Gen.AttProjDxRefIdeal.Run
public import proofs.«01_k».proof.Proof.Mm.Sum
public import proofs.«01_k».proof.Defs

@[expose] public section

set_option maxRecDepth 16384

noncomputable section

namespace Cert.AttProjDxIdeal.Mm

open Cert.AttProjDxIdeal Cert.AttProjDxIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a5 h5 a6 h6 hc0 hc1 hc2) (x0 : Vec Ideal S1024x256 .bf16) (x1 : Vec Ideal S1x1x512x256 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  try sl_unfold_words
  rw [View.canon_unit_zero hz]
  simp only [View.readAt_eq_ld, h3.read_unread, h4.read_unread, View.ld_unit_zero (S := S1024x256) hz, View.ld_unit_zero (S := S1024x512) hz, View.ld_unit_zero (S := S1x1x512x256) hz4, k0_pay2, shapeCast_self]

theorem next_eq (c : Dev nD) (i : grid0.Coords) (a3 h3 a4 h4 a5 h5 a6 h6 hc0 hc1 hc2) (x0 : Vec Ideal S1024x256 .bf16) (x1 : Vec Ideal S1x1x512x256 .bf16) (s : Vec Ideal S1024x512 .f32) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  try sl_unfold_words
  rw [View.canon_unit_zero hz]
  simp only [View.readAt_eq_ld, h3.read_unread, h4.read_unread, h6.read_unread, View.ld_unit_zero (S := S1024x256) hz, View.ld_unit_zero (S := S1024x512) hz, View.ld_unit_zero (S := S1x1x512x256) hz4, k0_pay3, shapeCast_self]

theorem last_eq (c : Dev nD) (i : grid0.Coords) (a3 h3 a4 h4 a5 h5 a6 h6 hc0 hc1 hc2) (x0 : Vec Ideal S1024x256 .bf16) (x1 : Vec Ideal S1x1x512x256 .bf16) (s : Vec Ideal S1024x512 .f32) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  try sl_unfold_words
  rw [View.canon_unit_zero hz]
  simp only [View.readAt_eq_ld, View.readCov_unit_zero (S := S1024x512) _ hz, h3.read_unread, h4.read_unread, h6.read_unread, View.ld_unit_zero (S := S1024x256) hz, View.ld_unit_zero (S := S1024x512) hz, View.ld_unit_zero (S := S1x1x512x256) hz4, k0_pay3, shapeCast_self]

theorem prod_at (x0 : Vec Ideal S1024x256 .bf16) (x1 : Vec Ideal S1x1x512x256 .bf16) (p : Fin 1024) (q : Fin 512) :
    k0_pay1 x0 x1 (ix2 p q) = ∑ k, (x0 (ix2 p k) : EReal) * x1 (ix4 0 0 q k) := by
  pointwise [k0_pay1]

theorem idx0 : ∀ t : Fin cfg0.N, win0_0.index t = ![t.val / 4, t.val % 4] := by decide +kernel
theorem idx1 : ∀ t : Fin cfg0.N, win0_1.index t = ![t.val % 4, 1, 0, 0] := by decide +kernel

variable (m : (ℓ : Loc nD τ sig) → Buf (Elt Ideal) ℓ) (c : Dev nD)

/-- The left operand, and the layer's weight, held in four blocks. -/
def X : ℕ → ℕ → EReal := at2 (n1 := 4096) (n2 := 1024) (m ((c : Thread nD τ).loc main_arg0))
def Y (k q : ℕ) : EReal := at4 (n1 := 4) (n2 := 3) (n3 := 512) (n4 := 256) (m ((c : Thread nD τ).loc main_arg1)) (k / 256) 1 q (k % 256)

theorem x_at (t : Fin cfg0.N) (p : Fin 1024) (k : Fin 256) :
    (iblk m c 0 t (ix2 p k) : EReal) = X m c (1024 * (t.val / 4) + p.val) (256 * (t.val % 4) + k.val) := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (q : Fin 512) (k : Fin 256) :
    (iblk m c 1 t (ix4 0 0 q k) : EReal) = Y m c (256 * (t.val % 4) + k.val) q.val := by
  have hk := k.isLt
  unfold iblk Y
  rw [show V m c (Pipeline.arrRef spec0 1) = m ((c : Thread nD τ).loc main_arg1) from V_main_arg1 m c]
  exact at4_eq (n1 := 4) (n2 := 3) (n3 := 512) (n4 := 256) _ _ (by blk_simp [idx1]; try omega) (by blk_simp [idx1]; try omega) (by blk_simp [idx1]; try omega) (by blk_simp [idx1]; try omega)

/-- A point's product, over the arrays. -/
theorem prod_pt (t : Fin cfg0.N) (p : Fin 1024) (q : Fin 512) :
    k0_pay1 (iblk m c 0 t) (iblk m c 1 t) (ix2 p q)
      = ∑ k : Fin 256, X m c (1024 * (t.val / 4) + p.val) (256 * (t.val % 4) + k.val) * Y m c (256 * (t.val % 4) + k.val) q.val := by
  rw [prod_at]
  exact Finset.sum_congr rfl fun k _ => by rw [x_at, y_at]

/-- What the scratch holds after each of a row block's first three points: the sum over the columns so far. -/
theorem acc_at (p : Fin 1024) (q : Fin 512) : ∀ (n : ℕ) (hn : n < cfg0.N), n % 4 < 3 →
    ((outsAt0 m c n hn).2 (ix2 p q) : EReal)
      = ∑ k ∈ Finset.range (256 * (n % 4) + 256), X m c (1024 * (n / 4) + p.val) k * Y m c k q.val := by
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 256]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 256, show (n - 1) / 4 = n / 4 by omega, show 256 * ((n - 1) % 4) + 256 = 256 * (n % 4) by omega]

/-- The array after the run. -/
def P (i : S4096x512.Idx) : EReal := ∑ k ∈ Finset.range 1024, X m c (i 0).val k * Y m c k (i 1).val

theorem out_at (n : ℕ) (hn : n < cfg0.N) (h3 : n % 4 = 3) (p : Fin 1024) (q : Fin 512) (i : S4096x512.Idx)
    (e0 : (i 0).val = 1024 * (n / 4) + p.val) (e1 : (i 1).val = q.val) :
    ((outsAt0 m c n hn).1 (ix2 p q) : EReal) = P m c i := by
  rw [outsAt0_C m c ⟨n, hn⟩ (by dsimp only; omega) (by dsimp only; omega) (by dsimp only; omega)]
  dsimp only
  have hs := Eq.trans (congrArg₂ (· + ·) (acc_at m c p q (n - 1) (by omega) (by omega)) (prod_pt m c ⟨n, hn⟩ p q))
    (by
      dsimp only
      rw [show (n - 1) % 4 = 2 by omega, h3, show (n - 1) / 4 = n / 4 by omega, ← sum_block _ 3 256] : _ = ∑ k ∈ Finset.range 1024, X m c (1024 * (n / 4) + p.val) k * Y m c k q.val)
  rw [last_eq]
  unfold P
  rw [e0, e1]
  exact hs

theorem final (i : S4096x512.Idx) : (Value.G2 m c i : EReal) = P m c i := by
  have b0 : (i 0).val < 4096 := (i 0).isLt
  have b1 : (i 1).val < 512 := (i 1).isLt
  have hN : cfg0.N = 16 := N_0
  have hp : Value.pt2Of i = 4 * ((i 0).val / 1024) + 3 := by simp only [Value.pt2Of, Value.run2Of]; omega
  have hl : Value.loc2Of i = ix2 ⟨(i 0).val % 1024, Nat.mod_lt _ (by decide)⟩ ⟨(i 1).val, b1⟩ := by
    funext a
    match a with
    | ⟨0, _⟩ => rfl
    | ⟨1, _⟩ => exact Fin.ext (Nat.mod_eq_of_lt b1)
  have hlt : Value.pt2Of i < cfg0.N := by rw [hp, hN]; omega
  unfold Value.G2
  rw [dif_pos hlt, ← Value.outsAt0_sweep m c _ hlt, hl]
  exact out_at m c _ hlt (by omega) _ _ i (by dsimp only; omega) rfl

end Cert.AttProjDxIdeal.Mm

namespace Cert.AttProjDxRefIdeal.Mm

open Cert.AttProjDxRefIdeal Cert.AttProjDxRefIdeal.Gen
open Cert.Mm
open Idealize.ShloMosaic Idealize.ShloMosaic.TcCoe Idealize.SL.Sem

theorem value (x : FVec Ideal S4096x1024 .bf16) (y : FVec Ideal S4x3x512x256 .bf16) (i : S4096x512.Idx) :
    (Host.dotGeneral dot_S4096x1024_S512x1024_S4096x512_1_1_0_0_n_n none (extf .f32 x bitsLt_bf16_f32) (extf .f32 (shapeCast _ (transpose S512x4x256 [1, 0, 2] (shapeCast _ (extractStridedSlice S4x1x512x256 ![0, 1, 0, 0] y slices_S4x3x512x256_S4x1x512x256_0_1_0_0) shapeCasts_S4x1x512x256_S4x512x256) transposes_S4x512x256_S512x4x256_1_0_2) shapeCasts_S512x4x256_S512x1024) bitsLt_bf16_f32) : FVec Ideal S4096x512 .f32) i
      = ∑ k ∈ Finset.range 1024, at2 (n1 := 4096) (n2 := 1024) x (i 0).val k * at4 (n1 := 4) (n2 := 3) (n3 := 512) (n4 := 256) y (k / 256) 1 (i 1).val (k % 256) := by
  obtain ⟨a, b, rfl⟩ : ∃ (a : Fin 4096) (b : Fin 512), i = ix2 a b := ⟨i 0, i 1, by funext x; fin_cases x <;> rfl⟩
  rw [sum_first]
  pointwise
  exact Finset.sum_congr rfl fun k _ => congrArg₂ (· * ·) (at2_eq (n1 := 4096) (n2 := 1024) x _ rfl rfl) (at4_eq (n1 := 4) (n2 := 3) (n3 := 512) (n4 := 256) y _ rfl rfl rfl rfl)

end Cert.AttProjDxRefIdeal.Mm

namespace Cert.Proof.Mm

open Idealize.ShloMosaic Idealize.ShloMosaic.TcCoe Idealize.SL.Sem

theorem quiescent_AttProjDxRefIdeal : Cert.quiescent_AttProjDxRefIdeal := fun m ρ _ =>
  (θ_run Cert.AttProjDxRefIdeal.defs _ _).mono
    (fun _ h => ⟨fun c => (h c).2, sem_eq_zero_of_no_sems rfl _⟩) (Cert.AttProjDxRefIdeal.Value.run (F := Ideal) m ρ)

theorem quiescent_AttProjDx : Cert.quiescent_AttProjDx := fun m ρ _ => Cert.AttProjDx.Gen.frame m ρ
theorem quiescent_AttProjDxIdeal : Cert.quiescent_AttProjDxIdeal := fun m ρ _ => Cert.AttProjDxIdeal.Gen.frame m ρ

theorem algebraic_AttProjDx : Cert.algebraic_AttProjDxIdeal_AttProjDxRefIdeal := by
  intro m ρ m' ρ' hpre hagree
  refine ⟨fun c => Cert.AttProjDxIdeal.Value.G2 m c, Cert.AttProjDxIdeal.Value.run m ρ, ?_⟩
  refine (θ_run Cert.AttProjDxRefIdeal.defs _ _).mono (fun r h c => ?_) (Cert.AttProjDxRefIdeal.Value.run (F := Ideal) m' ρ')
  refine ⟨(h c).1.trans ?_, (h c).2⟩
  funext i
  refine (Cert.AttProjDxRefIdeal.Mm.value _ _ i).trans ((Cert.AttProjDxIdeal.Mm.final m c i).trans ?_).symm
  unfold Cert.AttProjDxIdeal.Mm.P Cert.AttProjDxIdeal.Mm.X Cert.AttProjDxIdeal.Mm.Y
  rw [(hagree c).1, (hagree c).2]

end Cert.Proof.Mm
-- ==== Proof.Mm.OutDw.lean ====
/- The gradient of the output projection's weight: the sum by blocks of rows is the product's sum. -/
module

public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Mm.Sum
public import proofs.«01_k».proof.Defs

@[expose] public section

set_option maxRecDepth 16384

noncomputable section

namespace Cert.OutDwIdeal.Mm

open Cert.OutDwIdeal Cert.OutDwIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl

theorem first_eq (c : Dev nD) (i : grid0.Coords) (a3 h3 a4 h4 a6 h6 a7 h7 hc0 hc1 hc2) (x0 : Vec Ideal S1024x1024 .bf16) (x1 : Vec Ideal S1024x1024 .f32) :
    sout0_A_0 c i a3 h3 a4 h4 a6 h6 a7 h7 hc0 hc1 hc2 x0 x1 = k0_pay1 x0 x1 := by
  unfold sout0_A_0
  rw [View.read_writes_eq_canon _ _ _ (scover0_A_0 c i a3 h3 a4 h4 a6 h6 a7 h7 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, k0_pay2, shapeCast_self]

theorem next_eq (c : Dev nD) (i : grid0.Coords) (a3 h3 a4 h4 a6 h6 a7 h7 hc0 hc1 hc2) (x0 : Vec Ideal S1024x1024 .bf16) (x1 : Vec Ideal S1024x1024 .f32) (s : Vec Ideal S1024x1024 .f32) :
    sout0_B_0 c i a3 h3 a4 h4 a6 h6 a7 h7 hc0 hc1 hc2 x0 x1 s = addf s (k0_pay1 x0 x1) := by
  unfold sout0_B_0
  rw [View.read_writes_eq_canon _ _ _ (scover0_B_0 c i a3 h3 a4 h4 a6 h6 a7 h7 hc0 hc1 hc2 x0 x1 s)]
  unfold kernelRun0_B
  dsimp only
  try sl_unfold_words
  rw [View.canon_unit_zero hz]
  simp only [View.readAt_eq_ld, h3.read_unread, h4.read_unread, h7.read_unread, View.ld_unit_zero (S := S1024x1024) hz, k0_pay3, shapeCast_self]

theorem last_eq (c : Dev nD) (i : grid0.Coords) (a3 h3 a4 h4 a6 h6 a7 h7 hc0 hc1 hc2) (x0 : Vec Ideal S1024x1024 .bf16) (x1 : Vec Ideal S1024x1024 .f32) (s : Vec Ideal S1024x1024 .f32) :
    out0_C_2 c i a3 h3 a4 h4 a6 h6 a7 h7 hc0 hc1 hc2 x0 x1 s = k0_pay4 (addf s (k0_pay1 x0 x1)) := by
  unfold out0_C_2
  rw [View.read_writes_eq_canon _ _ _ (cover0_C_2 c i a3 h3 a4 h4 a6 h6 a7 h7 hc0 hc1 hc2 x0 x1 s)]
  unfold kernelRun0_C
  dsimp only
  try sl_unfold_words
  rw [View.canon_unit_zero hz3]
  simp only [View.readAt_eq_ld, View.readCov_unit_zero (S := S1024x1024) _ hz, h3.read_unread, h4.read_unread, h7.read_unread, View.ld_unit_zero (S := S1024x1024) hz, k0_pay3, shapeCast_self]

theorem prod_at (x0 : Vec Ideal S1024x1024 .bf16) (x1 : Vec Ideal S1024x1024 .f32) (p : Fin 1024) (q : Fin 1024) :
    k0_pay1 x0 x1 (ix2 p q) = ∑ k, (x0 (ix2 k p) : EReal) * x1 (ix2 k q) := by
  pointwise [k0_pay1]

theorem pay4_at (x : Vec Ideal S1024x1024 .f32) (u : Fin 1) (p : Fin 1024) (q : Fin 1024) :
    (k0_pay4 x (ix3 u p q) : EReal) = x (ix2 p q) := by
  pointwise [k0_pay4]

theorem idx0 : ∀ t : Fin cfg0.N, win0_0.index t = ![t.val % 4, 0] := by decide +kernel
theorem idx1 : ∀ t : Fin cfg0.N, win0_1.index t = ![t.val % 4, 0] := by decide +kernel
theorem idx2 : ∀ t : Fin cfg0.N, win0_2.index t = ![0, 0, 0] := by decide +kernel

variable (m : (ℓ : Loc nD τ sig) → Buf (Elt Ideal) ℓ) (c : Dev nD)

/-- The activations and the gradient of the projection's result. -/
def X : ℕ → ℕ → EReal := at2 (n1 := 4096) (n2 := 1024) (m ((c : Thread nD τ).loc main_arg0))
def Y : ℕ → ℕ → EReal := at2 (n1 := 4096) (n2 := 1024) (m ((c : Thread nD τ).loc main_arg1))

theorem x_at (t : Fin cfg0.N) (k : Fin 1024) (p : Fin 1024) :
    (iblk m c 0 t (ix2 k p) : EReal) = X m c (1024 * (t.val % 4) + k.val) p.val := by
  unfold iblk
  rw [show V m c (Pipeline.arrRef spec0 0) = m ((c : Thread nD τ).loc main_arg0) from V_main_arg0 m c]
  exact at2_eq (n1 := 4096) (n2 := 1024) _ _ (by blk_simp [idx0]; try omega) (by blk_simp [idx0]; try omega)

theorem y_at (t : Fin cfg0.N) (k : Fin 1024) (q : Fin 1024) :
    (iblk m c 1 t (ix2 k q) : EReal) = Y m c (1024 * (t.val % 4) + k.val) q.val := by
  unfold iblk
  rw [show V m c (Pipeline.arrRef spec0 1) = m ((c : Thread nD τ).loc main_arg1) from V_main_arg1 m c]
  exact at2_eq (n1 := 4096) (n2 := 1024) _ _ (by blk_simp [idx1]; try omega) (by blk_simp [idx1]; try omega)

/-- A point's product, over the arrays. -/
theorem prod_pt (t : Fin cfg0.N) (p : Fin 1024) (q : Fin 1024) :
    k0_pay1 (iblk m c 0 t) (iblk m c 1 t) (ix2 p q)
      = ∑ k : Fin 1024, X m c (1024 * (t.val % 4) + k.val) p.val * Y m c (1024 * (t.val % 4) + k.val) q.val := by
  rw [prod_at]
  exact Finset.sum_congr rfl fun k _ => by rw [x_at, y_at]

/-- What the scratch holds after each of a block's first points: the sum over the rows so far. -/
theorem acc_at (p : Fin 1024) (q : Fin 1024) : ∀ (n : ℕ) (hn : n < cfg0.N), n % 4 < 3 →
    ((outsAt0 m c n hn).2 (ix2 p q) : EReal)
      = ∑ k ∈ Finset.range (1024 * (n % 4) + 1024), X m c k p.val * Y m c k q.val := by
  have hN : cfg0.N = 4 := N_0
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 1024, show 1024 * ((n - 1) % 4) + 1024 = 1024 * (n % 4) by omega]

/-- The gradient's elements. -/
def P (i : S1x1024x1024.Idx) : EReal := ∑ k ∈ Finset.range 4096, Y m c k (i 2).val * X m c k (i 1).val

/-- What a block's last point leaves. -/
theorem out_at (t : Fin cfg0.N) (h : t.val % 4 = 3) (u : Fin 1) (p : Fin 1024) (q : Fin 1024) :
    ((outsAt0 m c t.val t.isLt).1 (ix3 u p q) : EReal) = ∑ k ∈ Finset.range 4096, X m c k p.val * Y m c k q.val := by
  rw [outsAt0_C m c t (by omega) (by omega) h]
  dsimp only
  rw [last_eq, pay4_at]
  refine Eq.trans (congrArg₂ (· + ·) (acc_at m c p q (t.val - 1) (by omega) (by omega)) (prod_pt m c t p q)) ?_
  rw [h, show (t.val - 1) % 4 = 2 by omega, show 4096 = 1024 * 3 + 1024 by rfl, sum_block _ 3 1024]

/-- The array after the run. -/
theorem final : (dats m 0 c).arrAt 2 cfg0.N = (P m c : S1x1024x1024.Idx → EReal) := by
  have hN : cfg0.N = 4 := N_0
  refine (dats m 0 c).arrAt_eq_of_covers 2 (P m c) (by decide +kernel) (fun t hf y => ?_)
  have y0 : (y 0).val < 1 := (y 0).isLt
  have y1 : (y 1).val < 1024 := (y 1).isLt
  have y2 : (y 2).val < 1024 := (y 2).isLt
  have h3 : t.val % 4 = 3 := (flush0_2 t).mp hf
  have e1 : ((((cfg0.win 2).blk t).view.emb y) 1).val = (y 1).val := by blk_simp [idx2]; try omega
  have e2 : ((((cfg0.win 2).blk t).view.emb y) 2).val = (y 2).val := by blk_simp [idx2]; try omega
  refine Eq.trans (b := (outsAt0 m c t.val t.isLt).1 (ix3 ⟨(y 0).val, y0⟩ ⟨(y 1).val, y1⟩ ⟨(y 2).val, y2⟩)) ?_ ?_
  · rw [after0_2]
    refine congrArg (outsAt0 m c t.val t.isLt).1 ?_
    funext a; fin_cases a <;> rfl
  · rw [out_at m c t h3]
    unfold P
    rw [e1, e2]
    exact Finset.sum_congr rfl fun k _ => mul_comm _ _

end Cert.OutDwIdeal.Mm

namespace Cert.OutDwRefIdeal.Mm

open Cert.OutDwRefIdeal Cert.OutDwRefIdeal.Gen
open Cert.Mm
open Idealize.ShloMosaic Idealize.ShloMosaic.TcCoe Idealize.SL.Sem

theorem value (x : FVec Ideal S4096x1024 .bf16) (y : FVec Ideal S4096x1024 .f32) (i : S1x1024x1024.Idx) :
    (truncf .bf16 (broadcastInDim S1x1024x1024 ![1, 2] bcast_S1024x1024_S1x1024x1024_1_2 (transpose S1024x1024 [1, 0] (Host.dotGeneral dot_S4096x1024_S4096x1024_S1024x1024_0_0_1_1_n_n none y (extf .f32 x bitsLt_bf16_f32)) transposes_S1024x1024_S1024x1024_1_0)) bitsLt_bf16_f32 : FVec Ideal S1x1024x1024 .bf16) i
      = ∑ k ∈ Finset.range 4096, at2 (n1 := 4096) (n2 := 1024) y k (i 2).val * at2 (n1 := 4096) (n2 := 1024) x k (i 1).val := by
  obtain ⟨u, a, b, rfl⟩ : ∃ (u : Fin 1) (a : Fin 1024) (b : Fin 1024), i = ix3 u a b := ⟨i 0, i 1, i 2, by funext x; fin_cases x <;> rfl⟩
  rw [sum_first]
  pointwise
  refine Finset.sum_congr rfl fun k _ => ?_
  exact congrArg₂ (· * ·) (at2_eq (n1 := 4096) (n2 := 1024) y _ rfl rfl) (at2_eq (n1 := 4096) (n2 := 1024) x _ rfl rfl)

end Cert.OutDwRefIdeal.Mm

namespace Cert.Proof.Mm

open Idealize.ShloMosaic Idealize.ShloMosaic.TcCoe Idealize.SL.Sem

theorem quiescent_OutDwRefIdeal : Cert.quiescent_OutDwRefIdeal := fun m ρ _ =>
  (θ_run Cert.OutDwRefIdeal.defs _ _).mono
    (fun _ h => ⟨fun c => (h c).2, sem_eq_zero_of_no_sems rfl _⟩) (Cert.OutDwRefIdeal.Value.run (F := Ideal) m ρ)

theorem quiescent_OutDw : Cert.quiescent_OutDw := fun m ρ _ => Cert.OutDw.Gen.frame m ρ
theorem quiescent_OutDwIdeal : Cert.quiescent_OutDwIdeal := fun m ρ _ => Cert.OutDwIdeal.Gen.frame m ρ

theorem algebraic_OutDw : Cert.algebraic_OutDwIdeal_OutDwRefIdeal := by
  intro m ρ m' ρ' hpre hagree
  refine ⟨fun c => (Cert.OutDwIdeal.Gen.dats m 0 c).arrAt 2 Cert.OutDwIdeal.cfg0.N, Cert.OutDwIdeal.Value.run_blocks m ρ, ?_⟩
  refine (θ_run Cert.OutDwRefIdeal.defs _ _).mono (fun r h c => ?_) (Cert.OutDwRefIdeal.Value.run (F := Ideal) m' ρ')
  refine ⟨(h c).1.trans ?_, (h c).2⟩
  refine Eq.trans ?_ (Cert.OutDwIdeal.Mm.final m c).symm
  funext i
  refine (Cert.OutDwRefIdeal.Mm.value _ _ i).trans ?_
  unfold Cert.OutDwIdeal.Mm.P Cert.OutDwIdeal.Mm.X Cert.OutDwIdeal.Mm.Y
  rw [(hagree c).1, (hagree c).2.1]

end Cert.Proof.Mm
-- ==== Proof.Mm.SsmProjDw.lean ====
/- The gradient of the weight that projects the recurrence's result: the sum by blocks of rows is the product's sum. -/
module

public import proofs.«01_k».proof.Proof.Gen.SsmProjDw.Frame
public import proofs.«01_k».proof.Proof.Gen.SsmProjDwIdeal.Frame
public import proofs.«01_k».proof.Proof.Gen.SsmProjDwIdeal.Value
public import proofs.«01_k».proof.Proof.Gen.SsmProjDwRefIdeal.Run
public import proofs.«01_k».proof.Proof.Mm.Sum
public import proofs.«01_k».proof.Defs

@[expose] public section

set_option maxRecDepth 16384

noncomputable section

namespace Cert.SsmProjDwIdeal.Mm

open Cert.SsmProjDwIdeal Cert.SsmProjDwIdeal.Gen
open Cert.Mm
open Idealize.ShloMosaic Idealize.ShloMosaic.TcCoe Idealize.SL.Sem

theorem hz : (![0, 0] : Fin 2 → ℕ) = fun _ => 0 := by funext a; fin_cases a <;> rfl
theorem hz3 : (![0, 0, 0] : Fin 3 → ℕ) = fun _ => 0 := by funext a; fin_cases a <;> rfl

theorem first_eq (c : Dev nD) (i : grid0.Coords) (a3 h3 a4 h4 a6 h6 a7 h7 hc0 hc1 hc2) (x0 : Vec Ideal S1024x1024 .bf16) (x1 : Vec Ideal S1024x1024 .bf16) :
    sout0_A_0 c i a3 h3 a4 h4 a6 h6 a7 h7 hc0 hc1 hc2 x0 x1 = k0_pay1 x0 x1 := by
  unfold sout0_A_0
  rw [View.read_writes_eq_canon _ _ _ (scover0_A_0 c i a3 h3 a4 h4 a6 h6 a7 h7 hc0 hc1 hc2 x0 x1)]
  unfold kernelRun0_A
  dsimp only
  try sl_unfold_words
  rw [View.canon_unit_zero hz]
  simp only [View.readAt_eq_ld, h3.read_unread, h4.read_unread, View.ld_unit_zero (S := S1024x1024) hz, k0_pay2, shapeCast_self]

theorem next_eq (c : Dev nD) (i : grid0.Coords) (a3 h3 a4 h4 a6 h6 a7 h7 hc0 hc1 hc2) (x0 : Vec Ideal S1024x1024 .bf16) (x1 : Vec Ideal S1024x1024 .bf16) (s : Vec Ideal S1024x1024 .f32) :
    sout0_B_0 c i a3 h3 a4 h4 a6 h6 a7 h7 hc0 hc1 hc2 x0 x1 s = addf s (k0_pay1 x0 x1) := by
  unfold sout0_B_0
  rw [View.read_writes_eq_canon _ _ _ (scover0_B_0 c i a3 h3 a4 h4 a6 h6 a7 h7 hc0 hc1 hc2 x0 x1 s)]
  unfold kernelRun0_B
  dsimp only
  try sl_unfold_words
  rw [View.canon_unit_zero hz]
  simp only [View.readAt_eq_ld, h3.read_unread, h4.read_unread, h7.read_unread, View.ld_unit_zero (S := S1024x1024) hz, k0_pay3, shapeCast_self]

theorem last_eq (c : Dev nD) (i : grid0.Coords) (a3 h3 a4 h4 a6 h6 a7 h7 hc0 hc1 hc2) (x0 : Vec Ideal S1024x1024 .bf16) (x1 : Vec Ideal S1024x1024 .bf16) (s : Vec Ideal S1024x1024 .f32) :
    out0_C_2 c i a3 h3 a4 h4 a6 h6 a7 h7 hc0 hc1 hc2 x0 x1 s = k0_pay4 (addf s (k0_pay1 x0 x1)) := by
  unfold out0_C_2
  rw [View.read_writes_eq_canon _ _ _ (cover0_C_2 c i a3 h3 a4 h4 a6 h6 a7 h7 hc0 hc1 hc2 x0 x1 s)]
  unfold kernelRun0_C
  dsimp only
  try sl_unfold_words
  rw [View.canon_unit_zero hz3]
  simp only [View.readAt_eq_ld, View.readCov_unit_zero (S := S1024x1024) _ hz, h3.read_unread, h4.read_unread, h7.read_unread, View.ld_unit_zero (S := S1024x1024) hz, k0_pay3, shapeCast_self]

theorem prod_at (x0 : Vec Ideal S1024x1024 .bf16) (x1 : Vec Ideal S1024x1024 .bf16) (p : Fin 1024) (q : Fin 1024) :
    k0_pay1 x0 x1 (ix2 p q) = ∑ k, (x0 (ix2 k p) : EReal) * x1 (ix2 k q) := by
  pointwise [k0_pay1]

theorem pay4_at (x : Vec Ideal S1024x1024 .f32) (u : Fin 1) (p : Fin 1024) (q : Fin 1024) :
    (k0_pay4 x (ix3 u p q) : EReal) = x (ix2 p q) := by
  pointwise [k0_pay4]

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![0, t.val / 4, 0] := by decide +kernel

variable (m : (ℓ : Loc nD τ sig) → Buf (Elt Ideal) ℓ) (c : Dev nD)

/-- The activations and the gradient of the projection's result. -/
def X : ℕ → ℕ → EReal := at2 (n1 := 4096) (n2 := 2048) (m ((c : Thread nD τ).loc main_arg0))
def Y : ℕ → ℕ → EReal := at2 (n1 := 4096) (n2 := 1024) (m ((c : Thread nD τ).loc main_arg1))

theorem x_at (t : Fin cfg0.N) (k : Fin 1024) (p : Fin 1024) :
    (iblk m c 0 t (ix2 k p) : EReal) = X m c (1024 * (t.val % 4) + k.val) (1024 * (t.val / 4) + p.val) := by
  unfold iblk
  rw [show V m c (Pipeline.arrRef spec0 0) = m ((c : Thread nD τ).loc main_arg0) from V_main_arg0 m c]
  exact at2_eq (n1 := 4096) (n2 := 2048) _ _ (by blk_simp [idx0]; try omega) (by blk_simp [idx0]; try omega)

theorem y_at (t : Fin cfg0.N) (k : Fin 1024) (q : Fin 1024) :
    (iblk m c 1 t (ix2 k q) : EReal) = Y m c (1024 * (t.val % 4) + k.val) q.val := by
  unfold iblk
  rw [show V m c (Pipeline.arrRef spec0 1) = m ((c : Thread nD τ).loc main_arg1) from V_main_arg1 m c]
  exact at2_eq (n1 := 4096) (n2 := 1024) _ _ (by blk_simp [idx1]; try omega) (by blk_simp [idx1]; try omega)

/-- A point's product, over the arrays. -/
theorem prod_pt (t : Fin cfg0.N) (p : Fin 1024) (q : Fin 1024) :
    k0_pay1 (iblk m c 0 t) (iblk m c 1 t) (ix2 p q)
      = ∑ k : Fin 1024, X m c (1024 * (t.val % 4) + k.val) (1024 * (t.val / 4) + p.val) * Y m c (1024 * (t.val % 4) + k.val) q.val := by
  rw [prod_at]
  exact Finset.sum_congr rfl fun k _ => by rw [x_at, y_at]

/-- What the scratch holds after each of a block's first points: the sum over the rows so far. -/
theorem acc_at (p : Fin 1024) (q : Fin 1024) : ∀ (n : ℕ) (hn : n < cfg0.N), n % 4 < 3 →
    ((outsAt0 m c n hn).2 (ix2 p q) : EReal)
      = ∑ k ∈ Finset.range (1024 * (n % 4) + 1024), X m c k (1024 * (n / 4) + p.val) * Y m c k q.val := by
  have hN : cfg0.N = 8 := N_0
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 1024, show (n - 1) / 4 = n / 4 by omega, show 1024 * ((n - 1) % 4) + 1024 = 1024 * (n % 4) by omega]

/-- The gradient's elements. -/
def P (i : S1x2048x1024.Idx) : EReal := ∑ k ∈ Finset.range 4096, Y m c k (i 2).val * X m c k (i 1).val

/-- What a block's last point leaves. -/
theorem out_at (t : Fin cfg0.N) (h : t.val % 4 = 3) (u : Fin 1) (p : Fin 1024) (q : Fin 1024) :
    ((outsAt0 m c t.val t.isLt).1 (ix3 u p q) : EReal) = ∑ k ∈ Finset.range 4096, X m c k (1024 * (t.val / 4) + p.val) * Y m c k q.val := by
  rw [outsAt0_C m c t (by omega) (by omega) h]
  dsimp only
  rw [last_eq, pay4_at]
  refine Eq.trans (congrArg₂ (· + ·) (acc_at m c p q (t.val - 1) (by omega) (by omega)) (prod_pt m c t p q)) ?_
  rw [h, show (t.val - 1) % 4 = 2 by omega, show (t.val - 1) / 4 = t.val / 4 by omega, show 4096 = 1024 * 3 + 1024 by rfl, sum_block _ 3 1024]

/-- The array after the run. -/
theorem final : (dats m 0 c).arrAt 2 cfg0.N = (P m c : S1x2048x1024.Idx → EReal) := by
  have hN : cfg0.N = 8 := N_0
  refine (dats m 0 c).arrAt_eq_of_covers 2 (P m c) (by decide +kernel) (fun t hf y => ?_)
  have y0 : (y 0).val < 1 := (y 0).isLt
  have y1 : (y 1).val < 1024 := (y 1).isLt
  have y2 : (y 2).val < 1024 := (y 2).isLt
  have h3 : t.val % 4 = 3 := (flush0_2 t).mp hf
  have e1 : ((((cfg0.win 2).blk t).view.emb y) 1).val = (1024 * (t.val / 4) + (y 1).val) := by blk_simp [idx2]; try omega
  have e2 : ((((cfg0.win 2).blk t).view.emb y) 2).val = (y 2).val := by blk_simp [idx2]; try omega
  refine Eq.trans (b := (outsAt0 m c t.val t.isLt).1 (ix3 ⟨(y 0).val, y0⟩ ⟨(y 1).val, y1⟩ ⟨(y 2).val, y2⟩)) ?_ ?_
  · rw [after0_2]
    refine congrArg (outsAt0 m c t.val t.isLt).1 ?_
    funext a; fin_cases a <;> rfl
  · rw [out_at m c t h3]
    unfold P
    rw [e1, e2]
    exact Finset.sum_congr rfl fun k _ => mul_comm _ _

end Cert.SsmProjDwIdeal.Mm

namespace Cert.SsmProjDwRefIdeal.Mm

open Cert.SsmProjDwRefIdeal Cert.SsmProjDwRefIdeal.Gen
open Cert.Mm
open Idealize.ShloMosaic Idealize.ShloMosaic.TcCoe Idealize.SL.Sem

theorem value (x : FVec Ideal S4096x2048 .bf16) (y : FVec Ideal S4096x1024 .bf16) (i : S1x2048x1024.Idx) :
    (truncf .bf16 (broadcastInDim S1x2048x1024 ![1, 2] bcast_S2048x1024_S1x2048x1024_1_2 (transpose S2048x1024 [1, 0] (Host.dotGeneral dot_S4096x1024_S4096x2048_S1024x2048_0_0_1_1_n_n none (extf .f32 y bitsLt_bf16_f32) (extf .f32 x bitsLt_bf16_f32)) transposes_S1024x2048_S2048x1024_1_0)) bitsLt_bf16_f32 : FVec Ideal S1x2048x1024 .bf16) i
      = ∑ k ∈ Finset.range 4096, at2 (n1 := 4096) (n2 := 1024) y k (i 2).val * at2 (n1 := 4096) (n2 := 2048) x k (i 1).val := by
  obtain ⟨u, a, b, rfl⟩ : ∃ (u : Fin 1) (a : Fin 2048) (b : Fin 1024), i = ix3 u a b := ⟨i 0, i 1, i 2, by funext x; fin_cases x <;> rfl⟩
  rw [sum_first]
  pointwise
  refine Finset.sum_congr rfl fun k _ => ?_
  exact congrArg₂ (· * ·) (at2_eq (n1 := 4096) (n2 := 1024) y _ rfl rfl) (at2_eq (n1 := 4096) (n2 := 2048) x _ rfl rfl)

end Cert.SsmProjDwRefIdeal.Mm

namespace Cert.Proof.Mm

open Idealize.ShloMosaic Idealize.ShloMosaic.TcCoe Idealize.SL.Sem

theorem quiescent_SsmProjDwRefIdeal : Cert.quiescent_SsmProjDwRefIdeal := fun m ρ _ =>
  (θ_run Cert.SsmProjDwRefIdeal.defs _ _).mono
    (fun _ h => ⟨fun c => (h c).2, sem_eq_zero_of_no_sems rfl _⟩) (Cert.SsmProjDwRefIdeal.Value.run (F := Ideal) m ρ)

theorem quiescent_SsmProjDw : Cert.quiescent_SsmProjDw := fun m ρ _ => Cert.SsmProjDw.Gen.frame m ρ
theorem quiescent_SsmProjDwIdeal : Cert.quiescent_SsmProjDwIdeal := fun m ρ _ => Cert.SsmProjDwIdeal.Gen.frame m ρ

theorem algebraic_SsmProjDw : Cert.algebraic_SsmProjDwIdeal_SsmProjDwRefIdeal := by
  intro m ρ m' ρ' hpre hagree
  refine ⟨fun c => (Cert.SsmProjDwIdeal.Gen.dats m 0 c).arrAt 2 Cert.SsmProjDwIdeal.cfg0.N, Cert.SsmProjDwIdeal.Value.run_blocks m ρ, ?_⟩
  refine (θ_run Cert.SsmProjDwRefIdeal.defs _ _).mono (fun r h c => ?_) (Cert.SsmProjDwRefIdeal.Value.run (F := Ideal) m' ρ')
  refine ⟨(h c).1.trans ?_, (h c).2⟩
  refine Eq.trans ?_ (Cert.SsmProjDwIdeal.Mm.final m c).symm
  funext i
  refine (Cert.SsmProjDwRefIdeal.Mm.value _ _ i).trans ?_
  unfold Cert.SsmProjDwIdeal.Mm.P Cert.SsmProjDwIdeal.Mm.X Cert.SsmProjDwIdeal.Mm.Y
  rw [(hagree c).1, (hagree c).2.1]

end Cert.Proof.Mm
-- ==== Proof.Mm.AttProjDw.lean ====
/- The gradient of the weight that projects the attention's result, in column chunks: the sum by blocks of rows is the product's sum. -/
module

public import proofs.«01_k».proof.Proof.Gen.AttProjDw.Frame
public import proofs.«01_k».proof.Proof.Gen.AttProjDwIdeal.Frame
public import proofs.«01_k».proof.Proof.Gen.AttProjDwIdeal.Value
public import proofs.«01_k».proof.Proof.Gen.AttProjDwRefIdeal.Run
public import proofs.«01_k».proof.Proof.Mm.Sum
public import proofs.«01_k».proof.Defs

@[expose] public section

set_option maxRecDepth 16384

noncomputable section

namespace Cert.AttProjDwIdeal.Mm

open Cert.AttProjDwIdeal Cert.AttProjDwIdeal.Gen
open Cert.Mm
open Idealize.ShloMosaic Idealize.ShloMosaic.TcCoe Idealize.SL.Sem

theorem hz : (![0, 0] : Fin 2 → ℕ) = fun _ => 0 := by funext a; fin_cases a <;> rfl
theorem hz4 : (![0, 0, 0, 0] : Fin 4 → ℕ) = fun _ => 0 := by funext a; fin_cases a <;> rfl

theorem first_eq (c : Dev nD) (i : grid0.Coords) (a3 h3 a4 h4 a6 h6 a7 h7 hc0 hc1 hc2) (x0 : Vec Ideal S1024x512 .bf16) (x1 : Vec Ideal S1024x256 .bf16) :
    sout0_A_0 c i a3 h3 a4 h4 a6 h6 a7 h7 hc0 hc1 hc2 x0 x1 = k0_pay1 x0 x1 := by
  unfold sout0_A_0
  rw [View.read_writes_eq_canon _ _ _ (scover0_A_0 c i a3 h3 a4 h4 a6 h6 a7 h7 hc0 hc1 hc2 x0 x1)]
  unfold kernelRun0_A
  dsimp only
  try sl_unfold_words
  rw [View.canon_unit_zero hz]
  simp only [View.readAt_eq_ld, h3.read_unread, h4.read_unread, View.ld_unit_zero (S := S1024x512) hz, View.ld_unit_zero (S := S1024x256) hz, View.ld_unit_zero (S := S512x256) hz, k0_pay2, shapeCast_self]

theorem next_eq (c : Dev nD) (i : grid0.Coords) (a3 h3 a4 h4 a6 h6 a7 h7 hc0 hc1 hc2) (x0 : Vec Ideal S1024x512 .bf16) (x1 : Vec Ideal S1024x256 .bf16) (s : Vec Ideal S512x256 .f32) :
    sout0_B_0 c i a3 h3 a4 h4 a6 h6 a7 h7 hc0 hc1 hc2 x0 x1 s = addf s (k0_pay1 x0 x1) := by
  unfold sout0_B_0
  rw [View.read_writes_eq_canon _ _ _ (scover0_B_0 c i a3 h3 a4 h4 a6 h6 a7 h7 hc0 hc1 hc2 x0 x1 s)]
  unfold kernelRun0_B
  dsimp only
  try sl_unfold_words
  rw [View.canon_unit_zero hz]
  simp only [View.readAt_eq_ld, h3.read_unread, h4.read_unread, h7.read_unread, View.ld_unit_zero (S := S1024x512) hz, View.ld_unit_zero (S := S1024x256) hz, View.ld_unit_zero (S := S512x256) hz, k0_pay3, shapeCast_self]

theorem last_eq (c : Dev nD) (i : grid0.Coords) (a3 h3 a4 h4 a6 h6 a7 h7 hc0 hc1 hc2) (x0 : Vec Ideal S1024x512 .bf16) (x1 : Vec Ideal S1024x256 .bf16) (s : Vec Ideal S512x256 .f32) :
    out0_C_2 c i a3 h3 a4 h4 a6 h6 a7 h7 hc0 hc1 hc2 x0 x1 s = k0_pay4 (addf s (k0_pay1 x0 x1)) := by
  unfold out0_C_2
  rw [View.read_writes_eq_canon _ _ _ (cover0_C_2 c i a3 h3 a4 h4 a6 h6 a7 h7 hc0 hc1 hc2 x0 x1 s)]
  unfold kernelRun0_C
  dsimp only
  try sl_unfold_words
  rw [View.canon_unit_zero hz4]
  simp only [View.readAt_eq_ld, View.readCov_unit_zero (S := S512x256) _ hz, h3.read_unread, h4.read_unread, h7.read_unread, View.ld_unit_zero (S := S1024x512) hz, View.ld_unit_zero (S := S1024x256) hz, View.ld_unit_zero (S := S512x256) hz, k0_pay3, shapeCast_self]

theorem prod_at (x0 : Vec Ideal S1024x512 .bf16) (x1 : Vec Ideal S1024x256 .bf16) (p : Fin 512) (q : Fin 256) :
    k0_pay1 x0 x1 (ix2 p q) = ∑ k, (x0 (ix2 k p) : EReal) * x1 (ix2 k q) := by
  pointwise [k0_pay1]

theorem pay4_at (x : Vec Ideal S512x256 .f32) (u v : Fin 1) (p : Fin 512) (q : Fin 256) :
    (k0_pay4 x (ix4 u v p q) : EReal) = x (ix2 p q) := by
  pointwise [k0_pay4]

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4, 0, 0] := by decide +kernel

variable (m : (ℓ : Loc nD τ sig) → Buf (Elt Ideal) ℓ) (c : Dev nD)

/-- The activations and the gradient of the projection's result. -/
def X : ℕ → ℕ → EReal := at2 (n1 := 4096) (n2 := 512) (m ((c : Thread nD τ).loc main_arg0))
def Y : ℕ → ℕ → EReal := at2 (n1 := 4096) (n2 := 1024) (m ((c : Thread nD τ).loc main_arg1))

theorem x_at (t : Fin cfg0.N) (k : Fin 1024) (p : Fin 512) :
    (iblk m c 0 t (ix2 k p) : EReal) = X m c (1024 * (t.val % 4) + k.val) p.val := by
  unfold iblk
  rw [show V m c (Pipeline.arrRef spec0 0) = m ((c : Thread nD τ).loc main_arg0) from V_main_arg0 m c]
  exact at2_eq (n1 := 4096) (n2 := 512) _ _ (by blk_simp [idx0]; try omega) (by blk_simp [idx0]; try omega)

theorem y_at (t : Fin cfg0.N) (k : Fin 1024) (q : Fin 256) :
    (iblk m c 1 t (ix2 k q) : EReal) = Y m c (1024 * (t.val % 4) + k.val) (256 * (t.val / 4) + q.val) := by
  unfold iblk
  rw [show V m c (Pipeline.arrRef spec0 1) = m ((c : Thread nD τ).loc main_arg1) from V_main_arg1 m c]
  exact at2_eq (n1 := 4096) (n2 := 1024) _ _ (by blk_simp [idx1]; try omega) (by blk_simp [idx1]; try omega)

/-- A point's product, over the arrays. -/
theorem prod_pt (t : Fin cfg0.N) (p : Fin 512) (q : Fin 256) :
    k0_pay1 (iblk m c 0 t) (iblk m c 1 t) (ix2 p q)
      = ∑ k : Fin 1024, X m c (1024 * (t.val % 4) + k.val) p.val * Y m c (1024 * (t.val % 4) + k.val) (256 * (t.val / 4) + q.val) := by
  rw [prod_at]
  exact Finset.sum_congr rfl fun k _ => by rw [x_at, y_at]

/-- What the scratch holds after each of a block's first points: the sum over the rows so far. -/
theorem acc_at (p : Fin 512) (q : Fin 256) : ∀ (n : ℕ) (hn : n < cfg0.N), n % 4 < 3 →
    ((outsAt0 m c n hn).2 (ix2 p q) : EReal)
      = ∑ k ∈ Finset.range (1024 * (n % 4) + 1024), X m c k p.val * Y m c k (256 * (n / 4) + q.val) := by
  have hN : cfg0.N = 16 := N_0
  intro n
  induction n using Nat.strong_induction_on with
  | _ n ih =>
    intro hn h3
    by_cases h0 : n % 4 = 0
    · rw [outsAt0_A m c ⟨n, hn⟩ h0 (by dsimp only; omega) (by dsimp only; omega)]
      dsimp only
      rw [first_eq, prod_pt]
      dsimp only
      rw [h0, sum_block _ 0 1024]
      simp
    · rw [outsAt0_B m c ⟨n, hn⟩ h0 (by dsimp only; omega) (by dsimp only; omega)]
      dsimp only
      rw [next_eq]
      refine Eq.trans (congrArg₂ (· + ·) (ih (n - 1) (by omega) (by omega) (by omega)) (prod_pt m c ⟨n, hn⟩ p q)) ?_
      dsimp only
      rw [sum_block _ (n % 4) 1024, show (n - 1) / 4 = n / 4 by omega, show 1024 * ((n - 1) % 4) + 1024 = 1024 * (n % 4) by omega]

/-- The gradient's elements. -/
def P (i : S1x4x512x256.Idx) : EReal := ∑ k ∈ Finset.range 4096, Y m c k (256 * (i 1).val + (i 3).val) * X m c k (i 2).val

/-- What a block's last point leaves. -/
theorem out_at (t : Fin cfg0.N) (h : t.val % 4 = 3) (u v : Fin 1) (p : Fin 512) (q : Fin 256) :
    ((outsAt0 m c t.val t.isLt).1 (ix4 u v p q) : EReal) = ∑ k ∈ Finset.range 4096, X m c k p.val * Y m c k (256 * (t.val / 4) + q.val) := by
  rw [outsAt0_C m c t (by omega) (by omega) h]
  dsimp only
  rw [last_eq, pay4_at]
  refine Eq.trans (congrArg₂ (· + ·) (acc_at m c p q (t.val - 1) (by omega) (by omega)) (prod_pt m c t p q)) ?_
  rw [h, show (t.val - 1) % 4 = 2 by omega, show (t.val - 1) / 4 = t.val / 4 by omega, show 4096 = 1024 * 3 + 1024 by rfl, sum_block _ 3 1024]

/-- The array after the run. -/
theorem final : (dats m 0 c).arrAt 2 cfg0.N = (P m c : S1x4x512x256.Idx → EReal) := by
  have hN : cfg0.N = 16 := N_0
  refine (dats m 0 c).arrAt_eq_of_covers 2 (P m c) (by decide +kernel) (fun t hf y => ?_)
  have y0 : (y 0).val < 1 := (y 0).isLt
  have y1 : (y 1).val < 1 := (y 1).isLt
  have y2 : (y 2).val < 512 := (y 2).isLt
  have y3 : (y 3).val < 256 := (y 3).isLt
  have h3 : t.val % 4 = 3 := (flush0_2 t).mp hf
  have e1 : ((((cfg0.win 2).blk t).view.emb y) 1).val = t.val / 4 := by blk_simp [idx2]; try omega
  have e2 : ((((cfg0.win 2).blk t).view.emb y) 2).val = (y 2).val := by blk_simp [idx2]; try omega
  have e3 : ((((cfg0.win 2).blk t).view.emb y) 3).val = (y 3).val := by blk_simp [idx2]; try omega
  refine Eq.trans (b := (outsAt0 m c t.val t.isLt).1 (ix4 ⟨(y 0).val, y0⟩ ⟨(y 1).val, y1⟩ ⟨(y 2).val, y2⟩ ⟨(y 3).val, y3⟩)) ?_ ?_
  · rw [after0_2]
    refine congrArg (outsAt0 m c t.val t.isLt).1 ?_
    funext a; fin_cases a <;> rfl
  · rw [out_at m c t h3]
    unfold P
    rw [e1, e2, e3]
    exact Finset.sum_congr rfl fun k _ => mul_comm _ _

end Cert.AttProjDwIdeal.Mm

namespace Cert.AttProjDwRefIdeal.Mm

open Cert.AttProjDwRefIdeal Cert.AttProjDwRefIdeal.Gen
open Cert.Mm
open Idealize.ShloMosaic Idealize.ShloMosaic.TcCoe Idealize.SL.Sem

theorem value (x : FVec Ideal S4096x512 .bf16) (y : FVec Ideal S4096x1024 .bf16) (i : S1x4x512x256.Idx) :
    (truncf .bf16 (broadcastInDim S1x4x512x256 ![1, 2, 3] bcast_S4x512x256_S1x4x512x256_1_2_3 (transpose S4x512x256 [1, 0, 2] (shapeCast _ (transpose S512x1024 [1, 0] (Host.dotGeneral dot_S4096x1024_S4096x512_S1024x512_0_0_1_1_n_n none (extf .f32 y bitsLt_bf16_f32) (extf .f32 x bitsLt_bf16_f32)) transposes_S1024x512_S512x1024_1_0) shapeCasts_S512x1024_S512x4x256) transposes_S512x4x256_S4x512x256_1_0_2)) bitsLt_bf16_f32 : FVec Ideal S1x4x512x256 .bf16) i
      = ∑ k ∈ Finset.range 4096, at2 (n1 := 4096) (n2 := 1024) y k (256 * (i 1).val + (i 3).val) * at2 (n1 := 4096) (n2 := 512) x k (i 2).val := by
  obtain ⟨u, a, b, d, rfl⟩ : ∃ (u : Fin 1) (a : Fin 4) (b : Fin 512) (d : Fin 256), i = ix4 u a b d := ⟨i 0, i 1, i 2, i 3, by funext x; fin_cases x <;> rfl⟩
  rw [sum_first]
  pointwise
  refine Finset.sum_congr rfl fun k _ => ?_
  exact congrArg₂ (· * ·) (at2_eq (n1 := 4096) (n2 := 1024) y _ rfl (by show a.val * 256 + d.val = 256 * a.val + d.val; omega)) (at2_eq (n1 := 4096) (n2 := 512) x _ rfl rfl)

end Cert.AttProjDwRefIdeal.Mm

namespace Cert.Proof.Mm

open Idealize.ShloMosaic Idealize.ShloMosaic.TcCoe Idealize.SL.Sem

theorem quiescent_AttProjDwRefIdeal : Cert.quiescent_AttProjDwRefIdeal := fun m ρ _ =>
  (θ_run Cert.AttProjDwRefIdeal.defs _ _).mono
    (fun _ h => ⟨fun c => (h c).2, sem_eq_zero_of_no_sems rfl _⟩) (Cert.AttProjDwRefIdeal.Value.run (F := Ideal) m ρ)

theorem quiescent_AttProjDw : Cert.quiescent_AttProjDw := fun m ρ _ => Cert.AttProjDw.Gen.frame m ρ
theorem quiescent_AttProjDwIdeal : Cert.quiescent_AttProjDwIdeal := fun m ρ _ => Cert.AttProjDwIdeal.Gen.frame m ρ

theorem algebraic_AttProjDw : Cert.algebraic_AttProjDwIdeal_AttProjDwRefIdeal := by
  intro m ρ m' ρ' hpre hagree
  refine ⟨fun c => (Cert.AttProjDwIdeal.Gen.dats m 0 c).arrAt 2 Cert.AttProjDwIdeal.cfg0.N, Cert.AttProjDwIdeal.Value.run_blocks m ρ, ?_⟩
  refine (θ_run Cert.AttProjDwRefIdeal.defs _ _).mono (fun r h c => ?_) (Cert.AttProjDwRefIdeal.Value.run (F := Ideal) m' ρ')
  refine ⟨(h c).1.trans ?_, (h c).2⟩
  refine Eq.trans ?_ (Cert.AttProjDwIdeal.Mm.final m c).symm
  funext i
  refine (Cert.AttProjDwRefIdeal.Mm.value _ _ i).trans ?_
  unfold Cert.AttProjDwIdeal.Mm.P Cert.AttProjDwIdeal.Mm.X Cert.AttProjDwIdeal.Mm.Y
  rw [(hagree c).1, (hagree c).2.1]

end Cert.Proof.Mm
-- ==== Proof.Mm.AdamwSmall.lean ====
/- The step of the optimiser for the small weights, packed in one array: the change and the two new moments, element by element. -/
module

public import proofs.«01_k».proof.Proof.Gen.AdamwSmall.Frame
public import proofs.«01_k».proof.Proof.Gen.AdamwSmallIdeal.Frame
public import proofs.«01_k».proof.Proof.Gen.AdamwSmallIdeal.Value
public import proofs.«01_k».proof.Proof.Gen.AdamwSmallRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwSmallRefIdeal : Cert.quiescent_AdamwSmallRefIdeal := fun m ρ _ =>
  (θ_run Cert.AdamwSmallRefIdeal.defs _ _).mono
    (fun _ h => ⟨fun c => (h c).2.2.2, sem_eq_zero_of_no_sems rfl _⟩) (Cert.AdamwSmallRefIdeal.Value.run (F := Ideal) m ρ)

theorem quiescent_AdamwSmall : Cert.quiescent_AdamwSmall := fun m ρ _ => Cert.AdamwSmall.Gen.frame m ρ
theorem quiescent_AdamwSmallIdeal : Cert.quiescent_AdamwSmallIdeal := fun m ρ _ => Cert.AdamwSmallIdeal.Gen.frame m ρ

/-- At every element both sides apply the same operations to the weight, its gradient and its two moments there. -/
theorem algebraic_AdamwSmall : Cert.algebraic_AdamwSmallIdeal_AdamwSmallRefIdeal := by
  intro m ρ m' ρ' hpre hagree
  refine ⟨fun c => _, fun c => _, fun c => _, Cert.AdamwSmallIdeal.Value.run (F := Ideal) m ρ, ?_⟩
  refine (θ_run Cert.AdamwSmallRefIdeal.defs _ _).mono (fun r h c => ?_) (Cert.AdamwSmallRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwOut.lean ====
/- The step of the optimiser for the mixer's output projection: the change and the two new moments, element by element. -/
module

public import proofs.«01_k».proof.Proof.Gen.AdamwOut.Frame
public import proofs.«01_k».proof.Proof.Gen.AdamwOutIdeal.Frame
public import proofs.«01_k».proof.Proof.Gen.AdamwOutIdeal.Value
public import proofs.«01_k».proof.Proof.Gen.AdamwOutRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwOutRefIdeal : Cert.quiescent_AdamwOutRefIdeal := fun m ρ _ =>
  (θ_run Cert.AdamwOutRefIdeal.defs _ _).mono
    (fun _ h => ⟨fun c => (h c).2.2.2, sem_eq_zero_of_no_sems rfl _⟩) (Cert.AdamwOutRefIdeal.Value.run (F := Ideal) m ρ)

theorem quiescent_AdamwOut : Cert.quiescent_AdamwOut := fun m ρ _ => Cert.AdamwOut.Gen.frame m ρ
theorem quiescent_AdamwOutIdeal : Cert.quiescent_AdamwOutIdeal := fun m ρ _ => Cert.AdamwOutIdeal.Gen.frame m ρ

/-- At every element both sides apply the same operations to the weight, its gradient and its two moments there. -/
theorem algebraic_AdamwOut : Cert.algebraic_AdamwOutIdeal_AdamwOutRefIdeal := by
  intro m ρ m' ρ' hpre hagree
  refine ⟨fun c => _, fun c => _, fun c => _, Cert.AdamwOutIdeal.Value.run (F := Ideal) m ρ, ?_⟩
  refine (θ_run Cert.AdamwOutRefIdeal.defs _ _).mono (fun r h c => ?_) (Cert.AdamwOutRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwSsm.lean ====
/- The step of the optimiser for the state space's output projection: the change and the two new moments, element by element. -/
module

public import proofs.«01_k».proof.Proof.Gen.AdamwSsm.Frame
public import proofs.«01_k».proof.Proof.Gen.AdamwSsmIdeal.Frame
public import proofs.«01_k».proof.Proof.Gen.AdamwSsmIdeal.Value
public import proofs.«01_k».proof.Proof.Gen.AdamwSsmRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwSsmRefIdeal : Cert.quiescent_AdamwSsmRefIdeal := fun m ρ _ =>
  (θ_run Cert.AdamwSsmRefIdeal.defs _ _).mono
    (fun _ h => ⟨fun c => (h c).2.2.2, sem_eq_zero_of_no_sems rfl _⟩) (Cert.AdamwSsmRefIdeal.Value.run (F := Ideal) m ρ)

theorem quiescent_AdamwSsm : Cert.quiescent_AdamwSsm := fun m ρ _ => Cert.AdamwSsm.Gen.frame m ρ
theorem quiescent_AdamwSsmIdeal : Cert.quiescent_AdamwSsmIdeal := fun m ρ _ => Cert.AdamwSsmIdeal.Gen.frame m ρ

/-- At every element both sides apply the same operations to the weight, its gradient and its two moments there. -/
theorem algebraic_AdamwSsm : Cert.algebraic_AdamwSsmIdeal_AdamwSsmRefIdeal := by
  intro m ρ m' ρ' hpre hagree
  refine ⟨fun c => _, fun c => _, fun c => _, Cert.AdamwSsmIdeal.Value.run (F := Ideal) m ρ, ?_⟩
  refine (θ_run Cert.AdamwSsmRefIdeal.defs _ _).mono (fun r h c => ?_) (Cert.AdamwSsmRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwAtt.lean ====
/- The step of the optimiser for the attention's output projection: the change and the two new moments, element by element. -/
module

public import proofs.«01_k».proof.Proof.Gen.AdamwAtt.Frame
public import proofs.«01_k».proof.Proof.Gen.AdamwAttIdeal.Frame
public import proofs.«01_k».proof.Proof.Gen.AdamwAttIdeal.Value
public import proofs.«01_k».proof.Proof.Gen.AdamwAttRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwAttRefIdeal : Cert.quiescent_AdamwAttRefIdeal := fun m ρ _ =>
  (θ_run Cert.AdamwAttRefIdeal.defs _ _).mono
    (fun _ h => ⟨fun c => (h c).2.2.2, sem_eq_zero_of_no_sems rfl _⟩) (Cert.AdamwAttRefIdeal.Value.run (F := Ideal) m ρ)

theorem quiescent_AdamwAtt : Cert.quiescent_AdamwAtt := fun m ρ _ => Cert.AdamwAtt.Gen.frame m ρ
theorem quiescent_AdamwAttIdeal : Cert.quiescent_AdamwAttIdeal := fun m ρ _ => Cert.AdamwAttIdeal.Gen.frame m ρ

/-- At every element both sides apply the same operations to the weight, its gradient and its two moments there. -/
theorem algebraic_AdamwAtt : Cert.algebraic_AdamwAttIdeal_AdamwAttRefIdeal := by
  intro m ρ m' ρ' hpre hagree
  refine ⟨fun c => _, fun c => _, fun c => _, Cert.AdamwAttIdeal.Value.run (F := Ideal) m ρ, ?_⟩
  refine (θ_run Cert.AdamwAttRefIdeal.defs _ _).mono (fun r h c => ?_) (Cert.AdamwAttRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwConv.lean ====
/- The step of the optimiser for the convolution's weights: the change and the two new moments, element by element. -/
module

public import proofs.«01_k».proof.Proof.Gen.AdamwConv.Frame
public import proofs.«01_k».proof.Proof.Gen.AdamwConvIdeal.Frame
public import proofs.«01_k».proof.Proof.Gen.AdamwConvIdeal.Value
public import proofs.«01_k».proof.Proof.Gen.AdamwConvRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwConvRefIdeal : Cert.quiescent_AdamwConvRefIdeal := fun m ρ _ =>
  (θ_run Cert.AdamwConvRefIdeal.defs _ _).mono
    (fun _ h => ⟨fun c => (h c).2.2.2, sem_eq_zero_of_no_sems rfl _⟩) (Cert.AdamwConvRefIdeal.Value.run (F := Ideal) m ρ)

theorem quiescent_AdamwConv : Cert.quiescent_AdamwConv := fun m ρ _ => Cert.AdamwConv.Gen.frame m ρ
theorem quiescent_AdamwConvIdeal : Cert.quiescent_AdamwConvIdeal := fun m ρ _ => Cert.AdamwConvIdeal.Gen.frame m ρ

/-- At every element both sides apply the same operations to the weight, its gradient and its two moments there. -/
theorem algebraic_AdamwConv : Cert.algebraic_AdamwConvIdeal_AdamwConvRefIdeal := by
  intro m ρ m' ρ' hpre hagree
  refine ⟨fun c => _, fun c => _, fun c => _, Cert.AdamwConvIdeal.Value.run (F := Ideal) m ρ, ?_⟩
  refine (θ_run Cert.AdamwConvRefIdeal.defs _ _).mono (fun r h c => ?_) (Cert.AdamwConvRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwIn.lean ====
/- The step of the optimiser for the mixer's input projection: the change and the two new moments, element by element. -/
module

public import proofs.«01_k».proof.Proof.Gen.AdamwIn.Frame
public import proofs.«01_k».proof.Proof.Gen.AdamwInIdeal.Frame
public import proofs.«01_k».proof.Proof.Gen.AdamwInIdeal.Value
public import proofs.«01_k».proof.Proof.Gen.AdamwInRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwInRefIdeal : Cert.quiescent_AdamwInRefIdeal := fun m ρ _ =>
  (θ_run Cert.AdamwInRefIdeal.defs _ _).mono
    (fun _ h => ⟨fun c => (h c).2.2.2, sem_eq_zero_of_no_sems rfl _⟩) (Cert.AdamwInRefIdeal.Value.run (F := Ideal) m ρ)

theorem quiescent_AdamwIn : Cert.quiescent_AdamwIn := fun m ρ _ => Cert.AdamwIn.Gen.frame m ρ
theorem quiescent_AdamwInIdeal : Cert.quiescent_AdamwInIdeal := fun m ρ _ => Cert.AdamwInIdeal.Gen.frame m ρ

/-- At every element both sides apply the same operations to the weight, its gradient and its two moments there. -/
theorem algebraic_AdamwIn : Cert.algebraic_AdamwInIdeal_AdamwInRefIdeal := by
  intro m ρ m' ρ' hpre hagree
  refine ⟨fun c => _, fun c => _, fun c => _, Cert.AdamwInIdeal.Value.run (F := Ideal) m ρ, ?_⟩
  refine (θ_run Cert.AdamwInRefIdeal.defs _ _).mono (fun r h c => ?_) (Cert.AdamwInRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwRow.lean ====
/- The step of the optimiser for the down weights: the change and the two new moments, element by element. -/
module

public import proofs.«01_k».proof.Proof.Gen.AdamwRow.Frame
public import proofs.«01_k».proof.Proof.Gen.AdamwRowIdeal.Frame
public import proofs.«01_k».proof.Proof.Gen.AdamwRowIdeal.Value
public import proofs.«01_k».proof.Proof.Gen.AdamwRowRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwRowRefIdeal : Cert.quiescent_AdamwRowRefIdeal := fun m ρ _ =>
  (θ_run Cert.AdamwRowRefIdeal.defs _ _).mono
    (fun _ h => ⟨fun c => (h c).2.2.2, sem_eq_zero_of_no_sems rfl _⟩) (Cert.AdamwRowRefIdeal.Value.run (F := Ideal) m ρ)

theorem quiescent_AdamwRow : Cert.quiescent_AdamwRow := fun m ρ _ => Cert.AdamwRow.Gen.frame m ρ
theorem quiescent_AdamwRowIdeal : Cert.quiescent_AdamwRowIdeal := fun m ρ _ => Cert.AdamwRowIdeal.Gen.frame m ρ

/-- At every element both sides apply the same operations to the weight, its gradient and its two moments there. -/
theorem algebraic_AdamwRow : Cert.algebraic_AdamwRowIdeal_AdamwRowRefIdeal := by
  intro m ρ m' ρ' hpre hagree
  refine ⟨fun c => _, fun c => _, fun c => _, Cert.AdamwRowIdeal.Value.run (F := Ideal) m ρ, ?_⟩
  refine (θ_run Cert.AdamwRowRefIdeal.defs _ _).mono (fun r h c => ?_) (Cert.AdamwRowRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Mm.AdamwCol.lean ====
/- The step of the optimiser for the gate and up weights: the change and the two new moments, element by element. -/
module

public import proofs.«01_k».proof.Proof.Gen.AdamwCol.Frame
public import proofs.«01_k».proof.Proof.Gen.AdamwColIdeal.Frame
public import proofs.«01_k».proof.Proof.Gen.AdamwColIdeal.Value
public import proofs.«01_k».proof.Proof.Gen.AdamwColRefIdeal.Run
public import proofs.«01_k».proof.Defs

@[expose] public section

set_option maxRecDepth 16384

noncomputable section

namespace Cert.Proof.Mm

open Idealize.ShloMosaic Idealize.ShloMosaic.TcCoe Idealize.SL.Sem

theorem quiescent_AdamwColRefIdeal : Cert.quiescent_AdamwColRefIdeal := fun m ρ _ =>
  (θ_run Cert.AdamwColRefIdeal.defs _ _).mono
    (fun _ h => ⟨fun c => (h c).2.2.2, sem_eq_zero_of_no_sems rfl _⟩) (Cert.AdamwColRefIdeal.Value.run (F := Ideal) m ρ)

theorem quiescent_AdamwCol : Cert.quiescent_AdamwCol := fun m ρ _ => Cert.AdamwCol.Gen.frame m ρ
theorem quiescent_AdamwColIdeal : Cert.quiescent_AdamwColIdeal := fun m ρ _ => Cert.AdamwColIdeal.Gen.frame m ρ

/-- At every element both sides apply the same operations to the weight, its gradient and its two moments there. -/
theorem algebraic_AdamwCol : Cert.algebraic_AdamwColIdeal_AdamwColRefIdeal := by
  intro m ρ m' ρ' hpre hagree
  refine ⟨fun c => _, fun c => _, fun c => _, Cert.AdamwColIdeal.Value.run (F := Ideal) m ρ, ?_⟩
  refine (θ_run Cert.AdamwColRefIdeal.defs _ _).mono (fun r h c => ?_) (Cert.AdamwColRefIdeal.Value.run (F := Ideal) m' ρ')
  refine ⟨(h c).1.trans ?_, (h c).2.1.trans ?_, (h c).2.2.1.trans ?_, (h c).2.2.2⟩
  · funext i
    rw [(hagree c).1, (hagree c).2.1, (hagree c).2.2.1, (hagree c).2.2.2]
    rfl
  · funext i
    rw [(hagree c).2.1, (hagree c).2.2.1]
    rfl
  · funext i
    rw [(hagree c).2.1, (hagree c).2.2.2]
    rfl

end Cert.Proof.Mm
-- ==== Proof.Att.Values.lean ====
/-
  What one trip of the kernel's loop computes, as functions of the rows it reads: the trip's payloads composed. A
  trip works on the 128 positions of one residue modulo the dilation 4, two heads of 64 lanes side by side. `rows`
  reads those positions of a block of 512, `setRows` writes them back.
-/
module

public import proofs.«01_k».proof.Proof.Gen.KernelIdeal.Skeleton
public import Idealize.ShloMosaic.Lib.Writes
public import Idealize.ShloMosaic.Lib.ValueIdxCore

@[expose] public section

noncomputable section

namespace Cert.KernelIdeal.Att

open Cert.KernelIdeal Cert.KernelIdeal.Gen
open Idealize.ShloMosaic Idealize.ShloMosaic.ValueIdx
open Idealize.SL.Sem

section Rows
variable {α : Type}

/-- The positions `r`, `r + 4`, … of a block of 512. -/
def rows (X : S1x512x128.Idx → α) (r : Fin 4) : S1x128x128.Idx → α :=
  fun x => X (ix3 (n0 := 1) (n1 := 512) (n2 := 128) 0 ⟨r.val + 4 * (x 1).val, by have := (x 1).isLt; simp at this; omega⟩ (x 2))

/-- The same of a carried block, which has no batch axis. -/
def rows₂ (X : S512x128.Idx → α) (r : Fin 4) : S128x128.Idx → α :=
  fun x => X (ix2 (n0 := 512) (n1 := 128) ⟨r.val + 4 * (x 0).val, by have := (x 0).isLt; simp at this; omega⟩ (x 1))

/-- A block's element read from the 128 positions of its residue. -/
def pick (w : S1x128x128.Idx → α) (y : S1x512x128.Idx) : α :=
  w (ix3 (n0 := 1) (n1 := 128) (n2 := 128) 0 ⟨(y 1).val / 4, by have := (y 1).isLt; simp at this; omega⟩ (y 2))

/-- The same for a carried block. -/
def pick₂ (w : S128x128.Idx → α) (y : S512x128.Idx) : α :=
  w (ix2 (n0 := 128) (n1 := 128) ⟨(y 0).val / 4, by have := (y 0).isLt; simp at this; omega⟩ (y 1))

/-- The residue of a block's element. -/
def res (y : S1x512x128.Idx) : Fin 4 := ⟨(y 1).val % 4, Nat.mod_lt _ (by decide)⟩
/-- The residue of a carried block's element. -/
def res₂ (y : S512x128.Idx) : Fin 4 := ⟨(y 0).val % 4, Nat.mod_lt _ (by decide)⟩

/-- A block with the positions of residue `k` overwritten. -/
def setRows (k : ℕ) (w : S1x128x128.Idx → α) (X : S1x512x128.Idx → α) : S1x512x128.Idx → α :=
  fun y => if (y 1).val % 4 = k then pick w y else X y
/-- A carried block with the positions of residue `k` overwritten. -/
def setRows₂ (k : ℕ) (w : S128x128.Idx → α) (X : S512x128.Idx → α) : S512x128.Idx → α :=
  fun y => if (y 0).val % 4 = k then pick₂ w y else X y

/-- A block whose residues below `k` are those of `N`, the others those of `X`. -/
def upTo (k : ℕ) (N X : S1x512x128.Idx → α) : S1x512x128.Idx → α := fun y => if (y 1).val % 4 < k then N y else X y
/-- The same for a carried block. -/
def upTo₂ (k : ℕ) (N X : S512x128.Idx → α) : S512x128.Idx → α := fun y => if (y 0).val % 4 < k then N y else X y

theorem upTo_zero (N X : S1x512x128.Idx → α) : upTo 0 N X = X := by funext y; simp [upTo]
theorem upTo₂_zero (N X : S512x128.Idx → α) : upTo₂ 0 N X = X := by funext y; simp [upTo₂]
theorem upTo_four (N X : S1x512x128.Idx → α) : upTo 4 N X = N := by
  funext y; simp [upTo, Nat.mod_lt]
theorem upTo₂_four (N X : S512x128.Idx → α) : upTo₂ 4 N X = N := by
  funext y; simp [upTo₂, Nat.mod_lt]

/-- One more residue done. -/
theorem setRows_upTo (k : Fin 4) (w : Fin 4 → S1x128x128.Idx → α) (X : S1x512x128.Idx → α) :
    setRows k.val (w k) (upTo k.val (fun y => pick (w (res y)) y) X) = upTo (k.val + 1) (fun y => pick (w (res y)) y) X := by
  funext y
  by_cases h : (y 1).val % 4 = k.val
  · have : res y = k := Fin.ext h
    simp [setRows, upTo, h, this]
  · have : ((y 1).val % 4 < k.val + 1) ↔ ((y 1).val % 4 < k.val) := by omega
    simp [setRows, upTo, h, this]
theorem setRows₂_upTo (k : Fin 4) (w : Fin 4 → S128x128.Idx → α) (X : S512x128.Idx → α) :
    setRows₂ k.val (w k) (upTo₂ k.val (fun y => pick₂ (w (res₂ y)) y) X) = upTo₂ (k.val + 1) (fun y => pick₂ (w (res₂ y)) y) X := by
  funext y
  by_cases h : (y 0).val % 4 = k.val
  · have : res₂ y = k := Fin.ext h
    simp [setRows₂, upTo₂, h, this]
  · have : ((y 0).val % 4 < k.val + 1) ↔ ((y 0).val % 4 < k.val) := by omega
    simp [setRows₂, upTo₂, h, this]

/-- The rows of a residue not yet reached are the old ones. -/
theorem rows₂_upTo (k : Fin 4) (N X : S512x128.Idx → α) : rows₂ (upTo₂ k.val N X) k = rows₂ X k := by
  funext x
  have : ¬ ((k.val + 4 * (x 0).val) % 4 < k.val) := by have := k.isLt; omega
  simp only [rows₂, upTo₂]
  rw [if_neg]
  exact this

end Rows

/-! ## Strided accesses -/

section Strided
variable {Val : EltTy → Type} {sig : RefSig} {κ : Kind} {sp : Space} {e : EltTy}

/-- A load of every fourth position from `k` reads the rows of the residue `k`. -/
theorem readAt_rows (v : View sig κ sp S1x512x128 e) (f : v.ty.Contents Val) (k : Fin 4) (o : Fin 3 → ℕ) (ho : o = ![0, k.val, 0]) (inb) :
    v.readAt Val (⟨o, S1x128x128.size, ![1, 4, 1], inb⟩ : LoadRect S1x512x128) f = rows (v.read Val f) k := by
  subst ho
  funext x
  rw [View.readAt_apply]
  unfold rows
  congr 1
  funext a
  apply Fin.ext
  match a with
  | ⟨0, _⟩ => have := (x 0).isLt; simp at this; simp [LoadRect.idx, this]
  | ⟨1, _⟩ => simp [LoadRect.idx]
  | ⟨2, _⟩ => simp [LoadRect.idx]

theorem readAt_rows₂ (v : View sig κ sp S512x128 e) (f : v.ty.Contents Val) (k : Fin 4) (o : Fin 2 → ℕ) (ho : o = ![k.val, 0]) (inb) :
    v.readAt Val (⟨o, S128x128.size, ![4, 1], inb⟩ : LoadRect S512x128) f = rows₂ (v.read Val f) k := by
  subst ho
  funext x
  rw [View.readAt_apply]
  unfold rows₂
  congr 1
  funext a
  apply Fin.ext
  match a with
  | ⟨0, _⟩ => simp [LoadRect.idx]
  | ⟨1, _⟩ => simp [LoadRect.idx]

/-- A store to every fourth position from `k` overwrites the rows of the residue `k`. -/
theorem read_setRows (v : View sig κ sp S1x512x128 e) (f : v.ty.Contents Val) (k : Fin 4) (o : Fin 3 → ℕ) (ho : o = ![0, k.val, 0]) (inb sp')
    (w : S1x128x128.Idx → Val e) :
    v.read Val (v.writes Val f [⟨⟨(⟨o, S1x128x128.size, ![1, 4, 1], inb⟩ : LoadRect S1x512x128), sp'⟩, w⟩]) = setRows k.val w (v.read Val f) := by
  subst ho
  funext y
  have h0 := (y 0).isLt; have h1 := (y 1).isLt; simp at h0 h1
  unfold setRows
  split
  · rename_i h
    unfold pick
    refine v.read_writes_cons_hit_of_coords f
      (⟨(⟨![0, k.val, 0], S1x128x128.size, ![1, 4, 1], inb⟩ : LoadRect S1x512x128), sp'⟩ : Rect S1x512x128) w []
      (ix3 (n0 := 1) (n1 := 128) (n2 := 128) 0 ⟨(y 1).val / 4, by omega⟩ (y 2)) y fun a => ?_
    match a with
    | ⟨0, _⟩ => simp [h0]
    | ⟨1, _⟩ => simp; omega
    | ⟨2, _⟩ => simp
  · rename_i h
    refine v.read_writes_cons_miss f _ [] y fun hm => h ?_
    obtain ⟨j, hj, e⟩ := (LoadRect.mem_set _).mp hm 1
    simp at e; omega

theorem read_setRows₂ (v : View sig κ sp S512x128 e) (f : v.ty.Contents Val) (k : Fin 4) (o : Fin 2 → ℕ) (ho : o = ![k.val, 0]) (inb sp')
    (w : S128x128.Idx → Val e) :
    v.read Val (v.writes Val f [⟨⟨(⟨o, S128x128.size, ![4, 1], inb⟩ : LoadRect S512x128), sp'⟩, w⟩]) = setRows₂ k.val w (v.read Val f) := by
  subst ho
  funext y
  have h1 := (y 0).isLt; simp at h1
  unfold setRows₂
  split
  · rename_i h
    unfold pick₂
    refine v.read_writes_cons_hit_of_coords f
      (⟨(⟨![k.val, 0], S128x128.size, ![4, 1], inb⟩ : LoadRect S512x128), sp'⟩ : Rect S512x128) w []
      (ix2 (n0 := 128) (n1 := 128) ⟨(y 0).val / 4, by omega⟩ (y 1)) y fun a => ?_
    match a with
    | ⟨0, _⟩ => simp; omega
    | ⟨1, _⟩ => simp
  · rename_i h
    refine v.read_writes_cons_miss f _ [] y fun hm => h ?_
    obtain ⟨j, hj, e⟩ := (LoadRect.mem_set _).mp hm 0
    simp at e; omega

end Strided

/-! ## The trip's values -/

section Chain
variable {F : FTy → Type} [FloatOps F] [Named F]

/-- The rows of one residue that a trip reads: the step `n` of the block walk, queries, the keys and values of the
    block before and of this block, and the cotangents of the output and of the log denominators. -/
structure Ins (F : FTy → Type) where
  n : BitVec 32
  q : S1x128x128.Idx → F .f32
  kp : S1x128x128.Idx → F .f32
  kc : S1x128x128.Idx → F .f32
  vp : S1x128x128.Idx → F .f32
  vc : S1x128x128.Idx → F .f32
  co : S1x128x128.Idx → F .f32
  cl : S1x128x128.Idx → F .f32

namespace Ins
variable (I : Ins F)

/-- The lane numbers. -/
def lane : IVec S1x128 32 := iota .tc S1x128 32 [1] iota_S1x128_d1_w32
/-- Which keys a query attends. -/
def ok : IVec S128x256 1 := k0_pay5 I.n
def qq : FVec F S128x128 .f32 := k0_pay4 I.q
def kk : FVec F S256x128 .f32 := k0_pay6 I.kp I.kc
def vv : FVec F S256x128 .f32 := k0_pay7 I.vp I.vc
/-- The lanes of head 0, and of head 1. -/
def m0 : FVec F S1x128 .f32 := k0_pay11 lane 64#32 k0_pay8 k0_pay9 k0_pay10
def m1 : FVec F S1x128 .f32 := k0_pay23 lane
/-! The forward pass again, head 0 … -/
def q0 : FVec F S128x128 .f32 := k0_pay12 I.qq lane 64#32 k0_pay8 k0_pay9 k0_pay10
def tie0 : FVec F S128x256 .f32 := k0_pay15 I.qq I.ok lane I.kk 64#32 k0_pay8 k0_pay9 k0_pay10
def cnt0 : FVec F S128 .f32 := k0_pay16 I.qq I.ok lane I.kk 64#32 k0_pay8 k0_pay9 k0_pay10
def e0 : FVec F S128x256 .f32 := k0_pay17 I.qq I.ok lane I.kk 64#32 k0_pay8 k0_pay9 k0_pay10
def den0 : FVec F S128x1 .f32 := k0_pay18 I.qq I.ok lane I.kk 64#32 k0_pay8 k0_pay9 k0_pay10
def p0 : FVec F S128x256 .f32 := k0_pay19 I.qq I.ok lane I.kk 64#32 k0_pay8 k0_pay9 k0_pay10
def sq0 : FVec F S128x1 .f32 := k0_pay20 I.qq I.ok lane I.kk 64#32 k0_pay8 k0_pay9 k0_pay10
def rsq0 : FVec F S128x1 .f32 := k0_pay22 I.sq0 k0_pay21
/-! … and head 1. -/
def q1 : FVec F S128x128 .f32 := k0_pay24 I.qq lane
def s1 : FVec F S128x256 .f32 := k0_pay25 I.qq I.ok lane I.kk
def tie1 : FVec F S128x256 .f32 := k0_pay27 I.qq I.ok lane I.kk
def cnt1 : FVec F S128 .f32 := k0_pay28 I.qq I.ok lane I.kk
def e1 : FVec F S128x256 .f32 := k0_pay29 I.qq I.ok lane I.kk
/-! The cotangents, and head 1's pass back … -/
def cl0 : FVec F S128x128 .f32 := k0_pay34 I.cl
def dmx1 : FVec F S128x1 .f32 := k0_pay35 m1 I.cl
def co0 : FVec F S128x128 .f32 := k0_pay36 I.co
def dv1 : FVec F S256x128 .f32 := k0_pay38 m1 I.s1 I.e1 I.co
def ds1 : FVec F S128x256 .f32 := k0_pay39 I.vv m1 I.s1 I.e1 I.co I.cl
def dk1 : FVec F S256x128 .f32 := k0_pay41 I.ok I.q1 I.tie1 I.cnt1 I.dmx1 I.ds1 (Scalar.ofBits .f32 0x00000000#32)
def dq1 : FVec F S128x128 .f32 := k0_pay42 I.ok I.kk m1 I.tie1 I.cnt1 I.dmx1 I.ds1 (Scalar.ofBits .f32 0x00000000#32)
/-! … and head 0's. -/
def dmx0 : FVec F S128x1 .f32 := k0_pay43 m0 I.cl0
def dv : FVec F S256x128 .f32 := k0_pay46 m0 I.p0 I.co0 I.dv1
def dp0 : FVec F S128x256 .f32 := k0_pay47 I.vv m0 I.den0 I.co0
def dd0 : FVec F S128 .f32 := k0_pay48 I.vv m0 I.e0 I.den0 I.rsq0 I.cl0 I.co0
/-- The gradient of the queries. -/
def dq : FVec F S1x128x128 .f32 := k0_pay52 I.ok I.kk m0 I.tie0 I.cnt0 I.e0 I.dq1 I.dmx0 I.dp0 I.dd0
/-- What the block before still lacks of its keys' gradient, added to what was carried. -/
def dkPrev (c : S128x128.Idx → F .f32) : FVec F S1x128x128 .f32 :=
  k0_pay53 I.ok I.q0 I.tie0 I.cnt0 I.e0 I.dk1 I.dmx0 I.dp0 I.dd0 c
/-- The same of its values' gradient. -/
def dvPrev (c : S128x128.Idx → F .f32) : FVec F S1x128x128 .f32 := k0_pay54 I.dv c
/-- This block's part of its own keys' gradient, carried. -/
def dkCur : FVec F S128x128 .f32 := k0_pay55 I.ok I.q0 I.tie0 I.cnt0 I.e0 I.dk1 I.dmx0 I.dp0 I.dd0
/-- The same of its values' gradient. -/
def dvCur : FVec F S128x128 .f32 := k0_pay1 (k0_pay51 I.dv)

end Ins

/-- A trip's rows out of the blocks. -/
def insOf (n : BitVec 32) (Q KP KC VP VC CO CL : S1x512x128.Idx → F .f32) (r : Fin 4) : Ins F :=
  ⟨n, rows Q r, rows KP r, rows KC r, rows VP r, rows VC r, rows CO r, rows CL r⟩

end Chain

end Cert.KernelIdeal.Att
-- ==== Proof.Att.Trip.lean ====
/-
  One trip of the kernel's loop, over the buffers it reads and writes: at the first block of a walk, at a middle one,
  and at the step past the last block, which only writes back what was carried.
-/
module

public import proofs.«01_k».proof.Proof.Gen.KernelIdeal.Launch
public import proofs.«01_k».proof.Proof.Att.Values
public import proofs.«01_k».proof.Proof.Gen.KernelIdeal.Points
public import Idealize.ShloMosaic.Lib.Pipeline.FrameBody
public import Idealize.ShloMosaic.Lib.Tactic
public import Idealize.ShloMosaic.Lib.WordCmp

@[expose] public section

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A trip's residue. -/
def res4 (k : Fin k0_t1_loop.trips) : Fin 4 := ⟨k.val, lt_of_lt_of_le k.isLt (by decide)⟩

theorem off_13 (k : Fin k0_t1_loop.trips) : k0_off1 k = ![0, (res4 k).val, 0] := k0_off1_eq k
theorem off_14 (k : Fin k0_t1_loop.trips) : k0_off3 k = ![0, (res4 k).val, 0] := k0_off3_eq k
theorem off_15 (k : Fin k0_t1_loop.trips) : k0_off3 k = ![0, (res4 k).val, 0] := k0_off3_eq k
theorem off_C14 (k : Fin k0_t1_loop.trips) : k0_off6 k = ![0, (res4 k).val, 0] := k0_off6_eq k
theorem off_C15 (k : Fin k0_t1_loop.trips) : k0_off6 k = ![0, (res4 k).val, 0] := k0_off6_eq k
theorem off_16 (k : Fin k0_t1_loop.trips) : k0_off4 k = ![(res4 k).val, 0] := k0_off4_eq k
theorem off_17 (k : Fin k0_t1_loop.trips) : k0_off4 k = ![(res4 k).val, 0] := k0_off4_eq k

variable (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .hbm S2x2048x1536 .f32) (harg10 : arg10.IsWhole) (arg11 : Memref sig .tc .hbm S2x2048x1536 .f32) (harg11 : arg11.IsWhole) (arg12 : Memref sig .tc .hbm S2x2048x1536 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S512x128 .f32) (harg16 : arg16.IsWhole) (arg17 : Memref sig .tc .vmem S512x128 .f32) (harg17 : arg17.IsWhole) (arg2 : BitVec 32) (c : Dev nD)

set_option maxHeartbeats 4000000 in
/-- A trip at the first block: nothing is written back of the block before. -/
theorem tripA (h1 : k0_cond1 i = 1#1) (h2 : ¬ k0_cond2 i = 1#1) (h3 : ¬ k0_cond3 i = 1#1) (k : Fin k0_t1_loop.trips) (acc : Unit)
    (Q : S1x512x128.Idx → F .f32) (KP : S1x512x128.Idx → F .f32) (KC : S1x512x128.Idx → F .f32) (VP : S1x512x128.Idx → F .f32) (VC : S1x512x128.Idx → F .f32) (CO : S1x512x128.Idx → F .f32) (CL : S1x512x128.Idx → F .f32) (DQ : S1x512x128.Idx → F .f32) (CK : S512x128.Idx → F .f32) (CV : S512x128.Idx → F .f32) :
    (iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare DQ ∗ owns (c : Thread nD τ) arg16 fullShare CK ∗ owns (c : Thread nD τ) arg17 fullShare CV) : sProp 𝕄)
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 k acc)
          (fun _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (setRows (res4 k).val (insOf arg2 Q KP KC VP VC CO CL (res4 k)).dq DQ) ∗ owns (c : Thread nD τ) arg16 fullShare (setRows₂ (res4 k).val (insOf arg2 Q KP KC VP VC CO CL (res4 k)).dkCur CK) ∗ owns (c : Thread nD τ) arg17 fullShare (setRows₂ (res4 k).val (insOf arg2 Q KP KC VP VC CO CL (res4 k)).dvCur CV))) := by
  unfold k0_t1_body owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f13, %e13, H13⟩, ⟨%f16, %e16, H16⟩, ⟨%f17, %e17, H17⟩⟩
  sl_exec
  sl_step
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H13]
  · iexists _; isplitr; swap
    · iexact H13
    ipureintro
    rw [read_setRows _ _ (res4 k) _ (off_13 k)]
    subst e3 e4 e5 e6 e7 e8 e9 e13 e16 e17
    unfold insOf
    rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
    rfl
  isplitl [H16]
  · iexists _; isplitr; swap
    · iexact H16
    ipureintro
    rw [read_setRows₂ _ _ (res4 k) _ (off_16 k)]
    subst e3 e4 e5 e6 e7 e8 e9 e13 e16 e17
    unfold insOf
    rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
    rfl
  iexists _; isplitr; swap
  · iexact H17
  ipureintro
  rw [read_setRows₂ _ _ (res4 k) _ (off_17 k)]
  subst e3 e4 e5 e6 e7 e8 e9 e13 e16 e17
  unfold insOf
  rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
  rfl

set_option maxHeartbeats 4000000 in
/-- A trip at a later block: the block before gets its keys' and values' gradients. -/
theorem tripB (h1 : k0_cond1 i = 1#1) (h2 : k0_cond2 i = 1#1) (h3 : ¬ k0_cond3 i = 1#1) (k : Fin k0_t1_loop.trips) (acc : Unit)
    (Q : S1x512x128.Idx → F .f32) (KP : S1x512x128.Idx → F .f32) (KC : S1x512x128.Idx → F .f32) (VP : S1x512x128.Idx → F .f32) (VC : S1x512x128.Idx → F .f32) (CO : S1x512x128.Idx → F .f32) (CL : S1x512x128.Idx → F .f32) (DQ : S1x512x128.Idx → F .f32) (DK : S1x512x128.Idx → F .f32) (DV : S1x512x128.Idx → F .f32) (CK : S512x128.Idx → F .f32) (CV : S512x128.Idx → F .f32) :
    (iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare DQ ∗ owns (c : Thread nD τ) arg14 fullShare DK ∗ owns (c : Thread nD τ) arg15 fullShare DV ∗ owns (c : Thread nD τ) arg16 fullShare CK ∗ owns (c : Thread nD τ) arg17 fullShare CV) : sProp 𝕄)
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 k acc)
          (fun _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (setRows (res4 k).val (insOf arg2 Q KP KC VP VC CO CL (res4 k)).dq DQ) ∗ owns (c : Thread nD τ) arg14 fullShare (setRows (res4 k).val ((insOf arg2 Q KP KC VP VC CO CL (res4 k)).dkPrev (rows₂ CK (res4 k))) DK) ∗ owns (c : Thread nD τ) arg15 fullShare (setRows (res4 k).val ((insOf arg2 Q KP KC VP VC CO CL (res4 k)).dvPrev (rows₂ CV (res4 k))) DV) ∗ owns (c : Thread nD τ) arg16 fullShare (setRows₂ (res4 k).val (insOf arg2 Q KP KC VP VC CO CL (res4 k)).dkCur CK) ∗ owns (c : Thread nD τ) arg17 fullShare (setRows₂ (res4 k).val (insOf arg2 Q KP KC VP VC CO CL (res4 k)).dvCur CV))) := by
  unfold k0_t1_body owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f13, %e13, H13⟩, ⟨%f14, %e14, H14⟩, ⟨%f15, %e15, H15⟩, ⟨%f16, %e16, H16⟩, ⟨%f17, %e17, H17⟩⟩
  sl_exec
  sl_step
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H13]
  · iexists _; isplitr; swap
    · iexact H13
    ipureintro
    rw [read_setRows _ _ (res4 k) _ (off_13 k)]
    subst e3 e4 e5 e6 e7 e8 e9 e13 e14 e15 e16 e17
    unfold insOf
    rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
    rfl
  isplitl [H14]
  · iexists _; isplitr; swap
    · iexact H14
    ipureintro
    rw [read_setRows _ _ (res4 k) _ (off_14 k)]
    subst e3 e4 e5 e6 e7 e8 e9 e13 e14 e15 e16 e17
    unfold insOf
    rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
    rw [← readAt_rows₂ arg16.view f16 (res4 k) _ (k0_off2_eq k) (k0_off2_inb i k h1 h2)]
    rfl
  isplitl [H15]
  · iexists _; isplitr; swap
    · iexact H15
    ipureintro
    rw [read_setRows _ _ (res4 k) _ (off_15 k)]
    subst e3 e4 e5 e6 e7 e8 e9 e13 e14 e15 e16 e17
    unfold insOf
    rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
    rw [← readAt_rows₂ arg17.view f17 (res4 k) _ (k0_off2_eq k) (k0_off2_inb i k h1 h2)]
    rfl
  isplitl [H16]
  · iexists _; isplitr; swap
    · iexact H16
    ipureintro
    rw [read_setRows₂ _ _ (res4 k) _ (off_16 k)]
    subst e3 e4 e5 e6 e7 e8 e9 e13 e14 e15 e16 e17
    unfold insOf
    rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
    rfl
  iexists _; isplitr; swap
  · iexact H17
  ipureintro
  rw [read_setRows₂ _ _ (res4 k) _ (off_17 k)]
  subst e3 e4 e5 e6 e7 e8 e9 e13 e14 e15 e16 e17
  unfold insOf
  rw [← readAt_rows arg3.view f3 (res4 k) _ (k0_off1_eq k) (k0_off1_inb i k h1), ← readAt_rows arg4.view f4 (res4 k) _ (k0_off1_eq k) (k0_off1_inb i k h1), ← readAt_rows arg5.view f5 (res4 k) _ (k0_off1_eq k) (k0_off1_inb i k h1), ← readAt_rows arg6.view f6 (res4 k) _ (k0_off1_eq k) (k0_off1_inb i k h1), ← readAt_rows arg7.view f7 (res4 k) _ (k0_off1_eq k) (k0_off1_inb i k h1), ← readAt_rows arg8.view f8 (res4 k) _ (k0_off1_eq k) (k0_off1_inb i k h1), ← readAt_rows arg9.view f9 (res4 k) _ (k0_off1_eq k) (k0_off1_inb i k h1)]
  rfl

set_option maxHeartbeats 4000000 in
/-- A trip past the last block: what was carried is written. -/
theorem tripC (h1 : ¬ k0_cond1 i = 1#1) (h3 : k0_cond3 i = 1#1) (k : Fin k0_t1_loop.trips) (acc : Unit)
    (DK : S1x512x128.Idx → F .f32) (DV : S1x512x128.Idx → F .f32) (CK : S512x128.Idx → F .f32) (CV : S512x128.Idx → F .f32) :
    (iprop(owns (c : Thread nD τ) arg14 fullShare DK ∗ owns (c : Thread nD τ) arg15 fullShare DV ∗ owns (c : Thread nD τ) arg16 fullShare CK ∗ owns (c : Thread nD τ) arg17 fullShare CV) : sProp 𝕄)
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 k acc)
          (fun _ => iprop(owns (c : Thread nD τ) arg14 fullShare (setRows (res4 k).val (k0_pay2 (rows₂ CK (res4 k))) DK) ∗ owns (c : Thread nD τ) arg15 fullShare (setRows (res4 k).val (k0_pay3 (rows₂ CV (res4 k))) DV) ∗ owns (c : Thread nD τ) arg16 fullShare CK ∗ owns (c : Thread nD τ) arg17 fullShare CV)) := by
  unfold k0_t1_body owns
  iintro ⟨⟨%f14, %e14, H14⟩, ⟨%f15, %e15, H15⟩, ⟨%f16, %e16, H16⟩, ⟨%f17, %e17, H17⟩⟩
  sl_exec
  sl_step
  isplitl [H14]
  · iexists _; isplitr; swap
    · iexact H14
    ipureintro
    rw [read_setRows _ _ (res4 k) _ (off_C14 k)]
    subst e14 e15 e16 e17
    rw [← readAt_rows₂ arg16.view f16 (res4 k) _ (k0_off5_eq k) (k0_off5_inb i k h3)]
  isplitl [H15]
  · iexists _; isplitr; swap
    · iexact H15
    ipureintro
    rw [read_setRows _ _ (res4 k) _ (off_C15 k)]
    subst e14 e15 e16 e17
    rw [← readAt_rows₂ arg17.view f17 (res4 k) _ (k0_off5_eq k) (k0_off5_inb i k h3)]
  isplitl [H16]
  · iexists f16; isplitr
    · ipureintro; exact e16
    iexact H16
  iexists f17; isplitr
  · ipureintro; exact e17
  iexact H17

end Cert.KernelIdeal.Att
-- ==== Proof.Att.Point.lean ====
/-
  The kernel's body at one point of the grid, over the buffers it is called with: the loop over the four residues, by
  an invariant that says which residues' positions hold the new values.
-/
module

public import proofs.«01_k».proof.Proof.Gen.KernelIdeal.Launch
public import proofs.«01_k».proof.Proof.Att.Trip
public import proofs.«01_k».proof.Proof.Gen.KernelIdeal.Points
public import Idealize.ShloMosaic.Lib.Pipeline.FrameBody
public import Idealize.ShloMosaic.Lib.Tactic
public import Idealize.ShloMosaic.Lib.WordCmp

@[expose] public section

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The blocks a point's trips compute, of the blocks they read: the queries' gradient, … -/
def dqB (n : BitVec 32) (Q KP KC VP VC CO CL : S1x512x128.Idx → F .f32) : S1x512x128.Idx → F .f32 :=
  fun y => pick ((insOf n Q KP KC VP VC CO CL (res y)).dq) y
/-- … the keys' and values' gradients of the block before, completed out of the carried blocks, … -/
def dkB (n : BitVec 32) (Q KP KC VP VC CO CL : S1x512x128.Idx → F .f32) (CK : S512x128.Idx → F .f32) : S1x512x128.Idx → F .f32 :=
  fun y => pick ((insOf n Q KP KC VP VC CO CL (res y)).dkPrev (rows₂ CK (res y))) y
def dvB (n : BitVec 32) (Q KP KC VP VC CO CL : S1x512x128.Idx → F .f32) (CV : S512x128.Idx → F .f32) : S1x512x128.Idx → F .f32 :=
  fun y => pick ((insOf n Q KP KC VP VC CO CL (res y)).dvPrev (rows₂ CV (res y))) y
/-- … and this block's part of its own keys' and values' gradients, to be carried. -/
def dkC (n : BitVec 32) (Q KP KC VP VC CO CL : S1x512x128.Idx → F .f32) : S512x128.Idx → F .f32 :=
  fun y => pick₂ ((insOf n Q KP KC VP VC CO CL (res₂ y)).dkCur) y
def dvC (n : BitVec 32) (Q KP KC VP VC CO CL : S1x512x128.Idx → F .f32) : S512x128.Idx → F .f32 :=
  fun y => pick₂ ((insOf n Q KP KC VP VC CO CL (res₂ y)).dvCur) y
/-- The carried blocks written out past the last block. -/
def dkL (CK : S512x128.Idx → F .f32) : S1x512x128.Idx → F .f32 := fun y => pick (k0_pay2 (rows₂ CK (res y))) y
def dvL (CV : S512x128.Idx → F .f32) : S1x512x128.Idx → F .f32 := fun y => pick (k0_pay3 (rows₂ CV (res y))) y

theorem trips_eq : k0_t1_loop.trips = 4 := by decide

variable (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .hbm S2x2048x1536 .f32) (harg10 : arg10.IsWhole) (arg11 : Memref sig .tc .hbm S2x2048x1536 .f32) (harg11 : arg11.IsWhole) (arg12 : Memref sig .tc .hbm S2x2048x1536 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S512x128 .f32) (harg16 : arg16.IsWhole) (arg17 : Memref sig .tc .vmem S512x128 .f32) (harg17 : arg17.IsWhole) (c : Dev nD)

set_option maxHeartbeats 2000000 in
/-- The body at the first block of a walk. -/
theorem pointA (h1 : k0_cond1 i = 1#1) (h2 : ¬ k0_cond2 i = 1#1) (h3 : ¬ k0_cond3 i = 1#1)
    (Q : S1x512x128.Idx → F .f32) (KP : S1x512x128.Idx → F .f32) (KC : S1x512x128.Idx → F .f32) (VP : S1x512x128.Idx → F .f32) (VC : S1x512x128.Idx → F .f32) (CO : S1x512x128.Idx → F .f32) (CL : S1x512x128.Idx → F .f32) (DQ : S1x512x128.Idx → F .f32) (CK : S512x128.Idx → F .f32) (CV : S512x128.Idx → F .f32) :
    (iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare DQ ∗ owns (c : Thread nD τ) arg16 fullShare CK ∗ owns (c : Thread nD τ) arg17 fullShare CV) : sProp 𝕄)
      ⊢ wp frame (wpE (defs₀ (F := F)) Variants.none (c : Thread nD τ) none) Set.univ
          (cc0_att_bwd1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (dqB (BitVec.ofNat 32 (i 2).val) Q KP KC VP VC CO CL) ∗ owns (c : Thread nD τ) arg16 fullShare (dkC (BitVec.ofNat 32 (i 2).val) Q KP KC VP VC CO CL) ∗ owns (c : Thread nD τ) arg17 fullShare (dvC (BitVec.ofNat 32 (i 2).val) Q KP KC VP VC CO CL))) := by
  rw [cc0_att_bwd1_eq_skeleton]
  unfold cc0_att_bwd1_skel
  have step : ∀ (k : Fin k0_t1_loop.trips) (acc : Unit),
      (iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (upTo (res4 k).val (dqB (BitVec.ofNat 32 (i 2).val) Q KP KC VP VC CO CL) DQ) ∗ owns (c : Thread nD τ) arg16 fullShare (upTo₂ (res4 k).val (dkC (BitVec.ofNat 32 (i 2).val) Q KP KC VP VC CO CL) CK) ∗ owns (c : Thread nD τ) arg17 fullShare (upTo₂ (res4 k).val (dvC (BitVec.ofNat 32 (i 2).val) Q KP KC VP VC CO CL) CV)) : sProp 𝕄)
        ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) k acc)
          (fun _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (upTo ((res4 k).val + 1) (dqB (BitVec.ofNat 32 (i 2).val) Q KP KC VP VC CO CL) DQ) ∗ owns (c : Thread nD τ) arg16 fullShare (upTo₂ ((res4 k).val + 1) (dkC (BitVec.ofNat 32 (i 2).val) Q KP KC VP VC CO CL) CK) ∗ owns (c : Thread nD τ) arg17 fullShare (upTo₂ ((res4 k).val + 1) (dvC (BitVec.ofNat 32 (i 2).val) Q KP KC VP VC CO CL) CV))) := by
    intro k acc
    have h := tripA i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) c h1 h2 h3 k acc Q KP KC VP VC CO CL (upTo (res4 k).val (dqB (BitVec.ofNat 32 (i 2).val) Q KP KC VP VC CO CL) DQ) (upTo₂ (res4 k).val (dkC (BitVec.ofNat 32 (i 2).val) Q KP KC VP VC CO CL) CK) (upTo₂ (res4 k).val (dvC (BitVec.ofNat 32 (i 2).val) Q KP KC VP VC CO CL) CV)
    have e13 := setRows_upTo (res4 k) (fun r => (insOf (BitVec.ofNat 32 (i 2).val) Q KP KC VP VC CO CL r).dq) DQ
    have e16 := setRows₂_upTo (res4 k) (fun r => (insOf (BitVec.ofNat 32 (i 2).val) Q KP KC VP VC CO CL r).dkCur) CK
    have e17 := setRows₂_upTo (res4 k) (fun r => (insOf (BitVec.ofNat 32 (i 2).val) Q KP KC VP VC CO CL r).dvCur) CV
    rw [show upTo ((res4 k).val + 1) (dqB (BitVec.ofNat 32 (i 2).val) Q KP KC VP VC CO CL) DQ = _ from e13.symm]
    rw [show upTo₂ ((res4 k).val + 1) (dkC (BitVec.ofNat 32 (i 2).val) Q KP KC VP VC CO CL) CK = _ from e16.symm]
    rw [show upTo₂ ((res4 k).val + 1) (dvC (BitVec.ofNat 32 (i 2).val) Q KP KC VP VC CO CL) CV = _ from e17.symm]
    exact h
  have fin : k0_t1_loop.trips = 4 := trips_eq
  iintro H
  iapply (Scf.wp_for_bind frame (wpE (defs₀ (F := F)) Variants.none (c : Thread nD τ) none) Set.univ _ _ _ _ _ _
    (fun k _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (upTo k (dqB (BitVec.ofNat 32 (i 2).val) Q KP KC VP VC CO CL) DQ) ∗ owns (c : Thread nD τ) arg16 fullShare (upTo₂ k (dkC (BitVec.ofNat 32 (i 2).val) Q KP KC VP VC CO CL) CK) ∗ owns (c : Thread nD τ) arg17 fullShare (upTo₂ k (dvC (BitVec.ofNat 32 (i 2).val) Q KP KC VP VC CO CL) CV))) step) $$ [H]
  · simp only [upTo_zero, upTo₂_zero]
    iexact H
  · iintro %acc H
    sl_step
    rw [show Scf.trips _ _ _ = 4 from trips_eq]
    simp only [upTo_four, upTo₂_four]
    iexact H

set_option maxHeartbeats 2000000 in
/-- The body at a later block. -/
theorem pointB (h1 : k0_cond1 i = 1#1) (h2 : k0_cond2 i = 1#1) (h3 : ¬ k0_cond3 i = 1#1)
    (Q : S1x512x128.Idx → F .f32) (KP : S1x512x128.Idx → F .f32) (KC : S1x512x128.Idx → F .f32) (VP : S1x512x128.Idx → F .f32) (VC : S1x512x128.Idx → F .f32) (CO : S1x512x128.Idx → F .f32) (CL : S1x512x128.Idx → F .f32) (DQ : S1x512x128.Idx → F .f32) (DK : S1x512x128.Idx → F .f32) (DV : S1x512x128.Idx → F .f32) (CK : S512x128.Idx → F .f32) (CV : S512x128.Idx → F .f32) :
    (iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare DQ ∗ owns (c : Thread nD τ) arg14 fullShare DK ∗ owns (c : Thread nD τ) arg15 fullShare DV ∗ owns (c : Thread nD τ) arg16 fullShare CK ∗ owns (c : Thread nD τ) arg17 fullShare CV) : sProp 𝕄)
      ⊢ wp frame (wpE (defs₀ (F := F)) Variants.none (c : Thread nD τ) none) Set.univ
          (cc0_att_bwd1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (dqB (BitVec.ofNat 32 (i 2).val) Q KP KC VP VC CO CL) ∗ owns (c : Thread nD τ) arg14 fullShare (dkB (BitVec.ofNat 32 (i 2).val) Q KP KC VP VC CO CL CK) ∗ owns (c : Thread nD τ) arg15 fullShare (dvB (BitVec.ofNat 32 (i 2).val) Q KP KC VP VC CO CL CV) ∗ owns (c : Thread nD τ) arg16 fullShare (dkC (BitVec.ofNat 32 (i 2).val) Q KP KC VP VC CO CL) ∗ owns (c : Thread nD τ) arg17 fullShare (dvC (BitVec.ofNat 32 (i 2).val) Q KP KC VP VC CO CL))) := by
  rw [cc0_att_bwd1_eq_skeleton]
  unfold cc0_att_bwd1_skel
  have step : ∀ (k : Fin k0_t1_loop.trips) (acc : Unit),
      (iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (upTo (res4 k).val (dqB (BitVec.ofNat 32 (i 2).val) Q KP KC VP VC CO CL) DQ) ∗ owns (c : Thread nD τ) arg14 fullShare (upTo (res4 k).val (dkB (BitVec.ofNat 32 (i 2).val) Q KP KC VP VC CO CL CK) DK) ∗ owns (c : Thread nD τ) arg15 fullShare (upTo (res4 k).val (dvB (BitVec.ofNat 32 (i 2).val) Q KP KC VP VC CO CL CV) DV) ∗ owns (c : Thread nD τ) arg16 fullShare (upTo₂ (res4 k).val (dkC (BitVec.ofNat 32 (i 2).val) Q KP KC VP VC CO CL) CK) ∗ owns (c : Thread nD τ) arg17 fullShare (upTo₂ (res4 k).val (dvC (BitVec.ofNat 32 (i 2).val) Q KP KC VP VC CO CL) CV)) : sProp 𝕄)
        ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) k acc)
          (fun _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (upTo ((res4 k).val + 1) (dqB (BitVec.ofNat 32 (i 2).val) Q KP KC VP VC CO CL) DQ) ∗ owns (c : Thread nD τ) arg14 fullShare (upTo ((res4 k).val + 1) (dkB (BitVec.ofNat 32 (i 2).val) Q KP KC VP VC CO CL CK) DK) ∗ owns (c : Thread nD τ) arg15 fullShare (upTo ((res4 k).val + 1) (dvB (BitVec.ofNat 32 (i 2).val) Q KP KC VP VC CO CL CV) DV) ∗ owns (c : Thread nD τ) arg16 fullShare (upTo₂ ((res4 k).val + 1) (dkC (BitVec.ofNat 32 (i 2).val) Q KP KC VP VC CO CL) CK) ∗ owns (c : Thread nD τ) arg17 fullShare (upTo₂ ((res4 k).val + 1) (dvC (BitVec.ofNat 32 (i 2).val) Q KP KC VP VC CO CL) CV))) := by
    intro k acc
    have h := tripB i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) c h1 h2 h3 k acc Q KP KC VP VC CO CL (upTo (res4 k).val (dqB (BitVec.ofNat 32 (i 2).val) Q KP KC VP VC CO CL) DQ) (upTo (res4 k).val (dkB (BitVec.ofNat 32 (i 2).val) Q KP KC VP VC CO CL CK) DK) (upTo (res4 k).val (dvB (BitVec.ofNat 32 (i 2).val) Q KP KC VP VC CO CL CV) DV) (upTo₂ (res4 k).val (dkC (BitVec.ofNat 32 (i 2).val) Q KP KC VP VC CO CL) CK) (upTo₂ (res4 k).val (dvC (BitVec.ofNat 32 (i 2).val) Q KP KC VP VC CO CL) CV)
    rw [rows₂_upTo (res4 k) (dkC (BitVec.ofNat 32 (i 2).val) Q KP KC VP VC CO CL) CK] at h
    rw [rows₂_upTo (res4 k) (dvC (BitVec.ofNat 32 (i 2).val) Q KP KC VP VC CO CL) CV] at h
    have e13 := setRows_upTo (res4 k) (fun r => (insOf (BitVec.ofNat 32 (i 2).val) Q KP KC VP VC CO CL r).dq) DQ
    have e16 := setRows₂_upTo (res4 k) (fun r => (insOf (BitVec.ofNat 32 (i 2).val) Q KP KC VP VC CO CL r).dkCur) CK
    have e17 := setRows₂_upTo (res4 k) (fun r => (insOf (BitVec.ofNat 32 (i 2).val) Q KP KC VP VC CO CL r).dvCur) CV
    have e14 := setRows_upTo (res4 k) (fun r => (insOf (BitVec.ofNat 32 (i 2).val) Q KP KC VP VC CO CL r).dkPrev (rows₂ CK r)) DK
    have e15 := setRows_upTo (res4 k) (fun r => (insOf (BitVec.ofNat 32 (i 2).val) Q KP KC VP VC CO CL r).dvPrev (rows₂ CV r)) DV
    rw [show upTo ((res4 k).val + 1) (dqB (BitVec.ofNat 32 (i 2).val) Q KP KC VP VC CO CL) DQ = _ from e13.symm]
    rw [show upTo₂ ((res4 k).val + 1) (dkC (BitVec.ofNat 32 (i 2).val) Q KP KC VP VC CO CL) CK = _ from e16.symm]
    rw [show upTo₂ ((res4 k).val + 1) (dvC (BitVec.ofNat 32 (i 2).val) Q KP KC VP VC CO CL) CV = _ from e17.symm]
    rw [show upTo ((res4 k).val + 1) (dkB (BitVec.ofNat 32 (i 2).val) Q KP KC VP VC CO CL CK) DK = _ from e14.symm]
    rw [show upTo ((res4 k).val + 1) (dvB (BitVec.ofNat 32 (i 2).val) Q KP KC VP VC CO CL CV) DV = _ from e15.symm]
    exact h
  have fin : k0_t1_loop.trips = 4 := trips_eq
  iintro H
  iapply (Scf.wp_for_bind frame (wpE (defs₀ (F := F)) Variants.none (c : Thread nD τ) none) Set.univ _ _ _ _ _ _
    (fun k _ => iprop(owns (c : Thread nD τ) arg3 fullShare Q ∗ owns (c : Thread nD τ) arg4 fullShare KP ∗ owns (c : Thread nD τ) arg5 fullShare KC ∗ owns (c : Thread nD τ) arg6 fullShare VP ∗ owns (c : Thread nD τ) arg7 fullShare VC ∗ owns (c : Thread nD τ) arg8 fullShare CO ∗ owns (c : Thread nD τ) arg9 fullShare CL ∗ owns (c : Thread nD τ) arg13 fullShare (upTo k (dqB (BitVec.ofNat 32 (i 2).val) Q KP KC VP VC CO CL) DQ) ∗ owns (c : Thread nD τ) arg14 fullShare (upTo k (dkB (BitVec.ofNat 32 (i 2).val) Q KP KC VP VC CO CL CK) DK) ∗ owns (c : Thread nD τ) arg15 fullShare (upTo k (dvB (BitVec.ofNat 32 (i 2).val) Q KP KC VP VC CO CL CV) DV) ∗ owns (c : Thread nD τ) arg16 fullShare (upTo₂ k (dkC (BitVec.ofNat 32 (i 2).val) Q KP KC VP VC CO CL) CK) ∗ owns (c : Thread nD τ) arg17 fullShare (upTo₂ k (dvC (BitVec.ofNat 32 (i 2).val) Q KP KC VP VC CO CL) CV))) step) $$ [H]
  · simp only [upTo_zero, upTo₂_zero]
    iexact H
  · iintro %acc H
    sl_step
    rw [show Scf.trips _ _ _ = 4 from trips_eq]
    simp only [upTo_four, upTo₂_four]
    iexact H

set_option maxHeartbeats 2000000 in
/-- The body past the last block. -/
theorem pointC (h1 : ¬ k0_cond1 i = 1#1) (h3 : k0_cond3 i = 1#1)
    (DK : S1x512x128.Idx → F .f32) (DV : S1x512x128.Idx → F .f32) (CK : S512x128.Idx → F .f32) (CV : S512x128.Idx → F .f32) :
    (iprop(owns (c : Thread nD τ) arg14 fullShare DK ∗ owns (c : Thread nD τ) arg15 fullShare DV ∗ owns (c : Thread nD τ) arg16 fullShare CK ∗ owns (c : Thread nD τ) arg17 fullShare CV) : sProp 𝕄)
      ⊢ wp frame (wpE (defs₀ (F := F)) Variants.none (c : Thread nD τ) none) Set.univ
          (cc0_att_bwd1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg14 fullShare (dkL CK) ∗ owns (c : Thread nD τ) arg15 fullShare (dvL CV) ∗ owns (c : Thread nD τ) arg16 fullShare CK ∗ owns (c : Thread nD τ) arg17 fullShare CV)) := by
  rw [cc0_att_bwd1_eq_skeleton]
  unfold cc0_att_bwd1_skel
  have step : ∀ (k : Fin k0_t1_loop.trips) (acc : Unit),
      (iprop(owns (c : Thread nD τ) arg14 fullShare (upTo (res4 k).val (dkL CK) DK) ∗ owns (c : Thread nD τ) arg15 fullShare (upTo (res4 k).val (dvL CV) DV) ∗ owns (c : Thread nD τ) arg16 fullShare CK ∗ owns (c : Thread nD τ) arg17 fullShare CV) : sProp 𝕄)
        ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) k acc)
          (fun _ => iprop(owns (c : Thread nD τ) arg14 fullShare (upTo ((res4 k).val + 1) (dkL CK) DK) ∗ owns (c : Thread nD τ) arg15 fullShare (upTo ((res4 k).val + 1) (dvL CV) DV) ∗ owns (c : Thread nD τ) arg16 fullShare CK ∗ owns (c : Thread nD τ) arg17 fullShare CV)) := by
    intro k acc
    have h := tripC i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) c h1 h3 k acc (upTo (res4 k).val (dkL CK) DK) (upTo (res4 k).val (dvL CV) DV) CK CV
    have e14 := setRows_upTo (res4 k) (fun r => k0_pay2 (rows₂ CK r)) DK
    have e15 := setRows_upTo (res4 k) (fun r => k0_pay3 (rows₂ CV r)) DV
    rw [show upTo ((res4 k).val + 1) (dkL CK) DK = _ from e14.symm]
    rw [show upTo ((res4 k).val + 1) (dvL CV) DV = _ from e15.symm]
    exact h
  have fin : k0_t1_loop.trips = 4 := trips_eq
  iintro H
  iapply (Scf.wp_for_bind frame (wpE (defs₀ (F := F)) Variants.none (c : Thread nD τ) none) Set.univ _ _ _ _ _ _
    (fun k _ => iprop(owns (c : Thread nD τ) arg14 fullShare (upTo k (dkL CK) DK) ∗ owns (c : Thread nD τ) arg15 fullShare (upTo k (dvL CV) DV) ∗ owns (c : Thread nD τ) arg16 fullShare CK ∗ owns (c : Thread nD τ) arg17 fullShare CV)) step) $$ [H]
  · simp only [upTo_zero, upTo₂_zero]
    iexact H
  · iintro %acc H
    sl_step
    rw [show Scf.trips _ _ _ = 4 from trips_eq]
    simp only [upTo_four, upTo₂_four]
    iexact H

end Cert.KernelIdeal.Att
-- ==== Proof.Att.Run.lean ====
/-
  The kernel's run: what every window's buffer holds after each point of the grid, what the two scratch buffers carry
  from a point to the next, the body at each point against that, and the launch.
-/
module

public import proofs.«01_k».proof.Proof.Gen.KernelIdeal.Launch
public import proofs.«01_k».proof.Proof.Att.Point
public import proofs.«01_k».proof.Proof.Gen.KernelIdeal.Frame
public import proofs.«01_k».proof.Proof.Gen.KernelIdeal.Points
public import Idealize.ShloMosaic.Lib.Pipeline.FrameBody
public import Idealize.ShloMosaic.Lib.Tactic
public import Idealize.ShloMosaic.Lib.WordCmp

@[expose] public section

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The schedule -/

theorem pos_lt {n : ℕ} (h : n < cfg0.N + 1) : n - 1 < cfg0.N := by
  have : cfg0.N = 40 := N_0
  omega

/-- The point before. -/
def prev (t : Fin cfg0.N) : Fin cfg0.N := ⟨t.val - 1, by have := t.isLt; omega⟩

theorem condsA : ∀ t : Fin cfg0.N, t.val % 5 = 0 →
    k0_cond1 (grid0.coords t) = 1#1 ∧ ¬ k0_cond2 (grid0.coords t) = 1#1 ∧ ¬ k0_cond3 (grid0.coords t) = 1#1 := by decide +kernel
theorem condsB : ∀ t : Fin cfg0.N, t.val % 5 ≠ 0 → t.val % 5 ≠ 4 →
    k0_cond1 (grid0.coords t) = 1#1 ∧ k0_cond2 (grid0.coords t) = 1#1 ∧ ¬ k0_cond3 (grid0.coords t) = 1#1 := by decide +kernel
theorem condsC : ∀ t : Fin cfg0.N, t.val % 5 = 4 →
    ¬ k0_cond1 (grid0.coords t) = 1#1 ∧ k0_cond3 (grid0.coords t) = 1#1 := by decide +kernel
theorem idle7 : ∀ t : Fin cfg0.N, cfg0.idle 7 (cfg0.grid.coords t) = decide (t.val % 5 = 4) := by decide +kernel
theorem idle8 : ∀ t : Fin cfg0.N, cfg0.idle 8 (cfg0.grid.coords t) = decide (t.val % 5 = 0) := by decide +kernel
theorem idle9 : ∀ t : Fin cfg0.N, cfg0.idle 9 (cfg0.grid.coords t) = decide (t.val % 5 = 0) := by decide +kernel
theorem flush7 : ∀ t : Fin cfg0.N, (cfg0.win 7).flush t = decide (t.val % 5 ≠ 3) := by decide +kernel
theorem flush8 : ∀ t : Fin cfg0.N, (cfg0.win 8).flush t = decide (t.val % 5 ≠ 0) := by decide +kernel
theorem flush9 : ∀ t : Fin cfg0.N, (cfg0.win 9).flush t = decide (t.val % 5 ≠ 0) := by decide +kernel

/-! ## The proof data -/

/-- The step of the block walk at a point. -/
abbrev step (t : Fin cfg0.N) : BitVec 32 := BitVec.ofNat 32 (grid0.coords t 2).val

/-- What a point computes of its blocks. -/
def DQ (c : Dev nD) (t : Fin cfg0.N) : S1x512x128.Idx → F .f32 :=
  dqB (step t) (iblk m c 0 t) (iblk m c 1 t) (iblk m c 2 t) (iblk m c 3 t) (iblk m c 4 t) (iblk m c 5 t) (iblk m c 6 t)
def CK (c : Dev nD) (t : Fin cfg0.N) : S512x128.Idx → F .f32 :=
  dkC (step t) (iblk m c 0 t) (iblk m c 1 t) (iblk m c 2 t) (iblk m c 3 t) (iblk m c 4 t) (iblk m c 5 t) (iblk m c 6 t)
def CV (c : Dev nD) (t : Fin cfg0.N) : S512x128.Idx → F .f32 :=
  dvC (step t) (iblk m c 0 t) (iblk m c 1 t) (iblk m c 2 t) (iblk m c 3 t) (iblk m c 4 t) (iblk m c 5 t) (iblk m c 6 t)
def DK (c : Dev nD) (t : Fin cfg0.N) : S1x512x128.Idx → F .f32 :=
  dkB (step t) (iblk m c 0 t) (iblk m c 1 t) (iblk m c 2 t) (iblk m c 3 t) (iblk m c 4 t) (iblk m c 5 t) (iblk m c 6 t) (CK m c (prev t))
def DV (c : Dev nD) (t : Fin cfg0.N) : S1x512x128.Idx → F .f32 :=
  dvB (step t) (iblk m c 0 t) (iblk m c 1 t) (iblk m c 2 t) (iblk m c 3 t) (iblk m c 4 t) (iblk m c 5 t) (iblk m c 6 t) (CV m c (prev t))

/-- What the output windows' buffers hold after a point. -/
def out7 (c : Dev nD) (t : Fin cfg0.N) : S1x512x128.Idx → F .f32 := if t.val % 5 = 4 then DQ m c (prev t) else DQ m c t
def out8 (c : Dev nD) (t : Fin cfg0.N) : S1x512x128.Idx → F .f32 := if t.val % 5 = 4 then dkL (CK m c (prev t)) else DK m c t
def out9 (c : Dev nD) (t : Fin cfg0.N) : S1x512x128.Idx → F .f32 := if t.val % 5 = 4 then dvL (CV m c (prev t)) else DV m c t

/-- The two scratch buffers, whole. -/
abbrev ckM : Memref sig .tc .vmem S512x128 .f32 := Memref.whole cc0_scratch0
abbrev cvM : Memref sig .tc .vmem S512x128 .f32 := Memref.whole cc0_scratch1

/-- What they carry to the point `n`: at a walk's first point, anything. -/
def carry (c : Dev nD) (n : Fin (cfg0.N + 1)) : sProp 𝕄 :=
  if n.val % 5 = 0 then iprop((∃ d, owns (c : Thread nD τ) ckM fullShare d) ∗ (∃ d, owns (c : Thread nD τ) cvM fullShare d))
  else iprop(owns (c : Thread nD τ) ckM fullShare (CK m c ⟨n.val - 1, pos_lt n.isLt⟩)
    ∗ owns (c : Thread nD τ) cvM fullShare (CV m c ⟨n.val - 1, pos_lt n.isLt⟩))

theorem carry_zero (c : Dev nD) (n : Fin (cfg0.N + 1)) (h : n.val % 5 = 0) :
    carry m c n = iprop((∃ d, owns (c : Thread nD τ) ckM fullShare d) ∗ (∃ d, owns (c : Thread nD τ) cvM fullShare d)) := if_pos h
theorem carry_pos (c : Dev nD) (n : Fin (cfg0.N + 1)) (h : n.val % 5 ≠ 0) :
    carry m c n = iprop(owns (c : Thread nD τ) ckM fullShare (CK m c ⟨n.val - 1, pos_lt n.isLt⟩)
    ∗ owns (c : Thread nD τ) cvM fullShare (CV m c ⟨n.val - 1, pos_lt n.isLt⟩)) := if_neg h

/-- The proof data: the arrays as the region finds them, the inputs left in place, the outputs as above. -/
def dats (_ : Fin 1) (c : Dev nD) : Dat τ (Elt F) Unit ℕ (UR sig nD τ) ℕ cfg0 c where
  A w := V m c (Pipeline.arrRef spec0 w)
  after := fun w t => match w with
    | 0 => iblk m c 0 t | 1 => iblk m c 1 t | 2 => iblk m c 2 t | 3 => iblk m c 3 t | 4 => iblk m c 4 t
    | 5 => iblk m c 5 t | 6 => iblk m c 6 t
    | 7 => out7 m c t | 8 => out8 m c t | 9 => out9 m c t
    | ⟨_ + 10, h⟩ => absurd h (Nat.not_lt.2 (Nat.le_add_left _ _))
  Φ n := iprop(carry m c n ∗ ∃ r, prngReg c r)
  q w := Pipeline.shareOf spec0 w
  owed _ := 0

theorem A_eq (c : Dev nD) (w : Fin cfg0.W) : (dats m 0 c).A w = V m c (Pipeline.arrRef spec0 w) := by dsimp only [dats]

/-- Past the last block the queries' window still holds the last block's gradient. -/
theorem before7 (c : Dev nD) (t : Fin cfg0.N) (h : t.val % 5 = 4) (d) : (dats m 0 c).before 7 t d = DQ m c (prev t) := by
  rw [(dats m 0 c).before_of_pos 7 t (by omega) rfl d, flush7, if_neg (by simp; omega)]
  unfold Dat.left
  rw [idle7]
  rw [show (decide ((⟨t.val - 1, Nat.lt_of_le_of_lt (Nat.sub_le _ _) t.isLt⟩ : Fin cfg0.N).val % 5 = 4)) = false from by simp; omega]
  refine Eq.trans (b := out7 m c (prev t)) rfl ?_
  unfold out7
  rw [if_neg (by simp [prev]; omega)]

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

theorem defs₀_row (t : Fin cfg0.N) : defs₀ (F := F) .tc cfg0.body (cfg0.bodyArgs t (cfg0.slots t)) = bodyAt0 t := by
  unfold defs₀; rw [Defs.onTc_tc]

set_option maxHeartbeats 2000000 in
theorem soundA (c : Dev nD) (t : Fin cfg0.N) (h : t.val % 5 = 0) :
    bodyPre m c t ⊢ wp frame (wpE (defs₀ (F := F)) Variants.none c none) Set.univ (bodyAt0 t)
      (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ d, owns (c : Thread nD τ) (st0_8 t) fullShare ((dats m 0 c).before 8 t d)) ∗ (∃ d, owns (c : Thread nD τ) (st0_9 t) fullShare ((dats m 0 c).before 9 t d)))) := by
  have b0 := before0_0_of m (dats m 0 c) rfl (fun _ => rfl)
  have b1 := before0_1_of m (dats m 0 c) rfl (fun _ => rfl)
  have b2 := before0_2_of m (dats m 0 c) rfl (fun _ => rfl)
  have b3 := before0_3_of m (dats m 0 c) rfl (fun _ => rfl)
  have b4 := before0_4_of m (dats m 0 c) rfl (fun _ => rfl)
  have b5 := before0_5_of m (dats m 0 c) rfl (fun _ => rfl)
  have b6 := before0_6_of m (dats m 0 c) rfl (fun _ => rfl)
  unfold bodyPre bodyAt0
  simp only [b0, b1, b2, b3, b4, b5, b6]
  rw [show (dats m 0 c).owesAt () t.succ = (dats m 0 c).owesAt () t.castSucc from rfl,
    show (dats m 0 c).Φ t.castSucc = iprop(carry m c t.castSucc ∗ ∃ r, prngReg c r) from rfl,
    show (dats m 0 c).Φ t.succ = iprop(carry m c t.succ ∗ ∃ r, prngReg c r) from rfl]
  rw [carry_zero m c t.castSucc h, carry_pos m c t.succ (by simp [Fin.val_succ]; omega)]
  obtain ⟨h1, h2, h3⟩ := condsA t h
  iintro ⟨⟨⟨⟨%ck, HK⟩, ⟨%cv, HV⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply (wp_wand_r frame (wpE (defs₀ (F := F)) Variants.none (c : Thread nD τ) none) Set.univ)
  isplitl [H0 H1 H2 H3 H4 H5 H6 H7 HK HV]
  · iapply (pointA (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg4) (Memref.isWhole_whole _) (Memref.whole main_arg5) (Memref.isWhole_whole _) (Memref.whole main_arg6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) ckM (Memref.isWhole_whole _) cvM (Memref.isWhole_whole _) c h1 h2 h3 (iblk m c 0 t) (iblk m c 1 t) (iblk m c 2 t) (iblk m c 3 t) (iblk m c 4 t) (iblk m c 5 t) (iblk m c 6 t) ((dats m 0 c).before 7 t d7) ck cv)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HK]; · iexact HK
    iexact HV
  iintro %_ ⟨H0, H1, H2, H3, H4, H5, H6, H7, HK, HV⟩
  isplitl [HK HV Hg]
  · isplitl [HK HV]
    · isplitl [HK]; · iexact HK
      iexact HV
    iexact Hg
  isplitl [HO]; · iexact HO
  rw [show (dats m 0 c).after 7 t = out7 m c t from rfl, show out7 m c t = DQ m c t from if_neg (by omega)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem soundB (c : Dev nD) (t : Fin cfg0.N) (h : t.val % 5 ≠ 0) (h4 : t.val % 5 ≠ 4) :
    bodyPre m c t ⊢ wp frame (wpE (defs₀ (F := F)) Variants.none c none) Set.univ (bodyAt0 t)
      (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))) := by
  have b0 := before0_0_of m (dats m 0 c) rfl (fun _ => rfl)
  have b1 := before0_1_of m (dats m 0 c) rfl (fun _ => rfl)
  have b2 := before0_2_of m (dats m 0 c) rfl (fun _ => rfl)
  have b3 := before0_3_of m (dats m 0 c) rfl (fun _ => rfl)
  have b4 := before0_4_of m (dats m 0 c) rfl (fun _ => rfl)
  have b5 := before0_5_of m (dats m 0 c) rfl (fun _ => rfl)
  have b6 := before0_6_of m (dats m 0 c) rfl (fun _ => rfl)
  unfold bodyPre bodyAt0
  simp only [b0, b1, b2, b3, b4, b5, b6]
  rw [show (dats m 0 c).owesAt () t.succ = (dats m 0 c).owesAt () t.castSucc from rfl,
    show (dats m 0 c).Φ t.castSucc = iprop(carry m c t.castSucc ∗ ∃ r, prngReg c r) from rfl,
    show (dats m 0 c).Φ t.succ = iprop(carry m c t.succ ∗ ∃ r, prngReg c r) from rfl]
  rw [carry_pos m c t.castSucc h, carry_pos m c t.succ (by simp [Fin.val_succ]; omega)]
  obtain ⟨h1, h2, h3⟩ := condsB t h h4
  iintro ⟨⟨⟨HK, HV⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none (c : Thread nD τ) none) Set.univ)
  isplitl [H0 H1 H2 H3 H4 H5 H6 H7 H8 H9 HK HV]
  · iapply (pointB (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg4) (Memref.isWhole_whole _) (Memref.whole main_arg5) (Memref.isWhole_whole _) (Memref.whole main_arg6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) ckM (Memref.isWhole_whole _) cvM (Memref.isWhole_whole _) c h1 h2 h3 (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) (CK m c (prev t)) (CV m c (prev t)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HK]; · iexact HK
    iexact HV
  iintro %_ ⟨H0, H1, H2, H3, H4, H5, H6, H7, H8, H9, HK, HV⟩
  isplitl [HK HV Hg]
  · isplitl [HK HV]
    · isplitl [HK]; · iexact HK
      iexact HV
    iexact Hg
  isplitl [HO]; · iexact HO
  rw [show (dats m 0 c).after 7 t = out7 m c t from rfl, show out7 m c t = DQ m c t from if_neg (by omega)]
  rw [show (dats m 0 c).after 8 t = out8 m c t from rfl, show (dats m 0 c).after 9 t = out9 m c t from rfl]
  rw [show out8 m c t = DK m c t from if_neg h4, show out9 m c t = DV m c t from if_neg h4]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem soundC (c : Dev nD) (t : Fin cfg0.N) (h4 : t.val % 5 = 4) :
    bodyPre m c t ⊢ wp frame (wpE (defs₀ (F := F)) Variants.none c none) Set.univ (bodyAt0 t)
      (fun _ => iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))) := by
  have b0 := before0_0_of m (dats m 0 c) rfl (fun _ => rfl)
  have b1 := before0_1_of m (dats m 0 c) rfl (fun _ => rfl)
  have b2 := before0_2_of m (dats m 0 c) rfl (fun _ => rfl)
  have b3 := before0_3_of m (dats m 0 c) rfl (fun _ => rfl)
  have b4 := before0_4_of m (dats m 0 c) rfl (fun _ => rfl)
  have b5 := before0_5_of m (dats m 0 c) rfl (fun _ => rfl)
  have b6 := before0_6_of m (dats m 0 c) rfl (fun _ => rfl)
  unfold bodyPre bodyAt0
  simp only [b0, b1, b2, b3, b4, b5, b6]
  rw [show (dats m 0 c).owesAt () t.succ = (dats m 0 c).owesAt () t.castSucc from rfl,
    show (dats m 0 c).Φ t.castSucc = iprop(carry m c t.castSucc ∗ ∃ r, prngReg c r) from rfl,
    show (dats m 0 c).Φ t.succ = iprop(carry m c t.succ ∗ ∃ r, prngReg c r) from rfl]
  simp only [before7 m c t h4]
  rw [carry_pos m c t.castSucc (by simp; omega), carry_zero m c t.succ (by simp [Fin.val_succ]; omega)]
  obtain ⟨h1, h3⟩ := condsC t h4
  iintro ⟨⟨⟨HK, HV⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none (c : Thread nD τ) none) Set.univ)
  isplitl [H8 H9 HK HV]
  · iapply (pointC (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg4) (Memref.isWhole_whole _) (Memref.whole main_arg5) (Memref.isWhole_whole _) (Memref.whole main_arg6) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) ckM (Memref.isWhole_whole _) cvM (Memref.isWhole_whole _) c h1 h3 ((dats m 0 c).before 8 t d8) ((dats m 0 c).before 9 t d9) (CK m c (prev t)) (CV m c (prev t)))
    isplitl [H8]; · iexact H8
    isplitl [H9]; · iexact H9
    isplitl [HK]; · iexact HK
    iexact HV
  iintro %_ ⟨H8, H9, HK, HV⟩
  isplitl [HK HV Hg]
  · isplitl [HK HV]
    · isplitl [HK]; · iexists _; iexact HK
      iexists _; iexact HV
    iexact Hg
  isplitl [HO]; · iexact HO
  rw [show (dats m 0 c).after 7 t = out7 m c t from rfl, show out7 m c t = DQ m c (prev t) from if_pos h4]
  rw [show (dats m 0 c).after 8 t = out8 m c t from rfl, show (dats m 0 c).after 9 t = out9 m c t from rfl]
  rw [show out8 m c t = dkL (CK m c (prev t)) from if_pos h4, show out9 m c t = dvL (CV m c (prev t)) from if_pos h4]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0, defs₀_row]
  have i7 : idle0 7 (grid0.coords t) = _ := idle7 t
  have i8 : idle0 8 (grid0.coords t) = _ := idle8 t
  have i9 : idle0 9 (grid0.coords t) = _ := idle9 t
  have f7 : (win0 7).flush t = _ := flush7 t
  have f8 : (win0 8).flush t = _ := flush8 t
  have f9 : (win0 9).flush t = _ := flush9 t
  by_cases h : t.val % 5 = 0
  · refine triple_restated (soundA m c t h) rfl .rfl fun _ => ?_
    rw [h] at i7 i8 i9 f7 f8 f9
    simp only [i7, i8, i9, f7, f8, f9]
    exact .rfl
  · by_cases h4 : t.val % 5 = 4
    · refine triple_restated (soundC m c t h4) rfl .rfl fun _ => ?_
      rw [h4] at i7 i8 i9 f7 f8 f9
      simp only [i7, i8, i9, f7, f8, f9]
      exact .rfl
    · refine triple_restated (soundB m c t h h4) rfl .rfl fun _ => ?_
      rw [decide_eq_false h4] at i7; rw [decide_eq_false h] at i8 i9
      simp only [i7, i8, i9]
      exact .rfl

/-! ## The launch -/

theorem carry_last (c : Dev nD) : ((dats (F := F) m 0 c).Φ (Fin.last cfg0.N) : sProp 𝕄) = Pipeline.ΦA spec0 c := by
  rw [show (dats m 0 c).Φ (Fin.last cfg0.N) = iprop(carry m c (Fin.last cfg0.N) ∗ ∃ r, prngReg c r) from rfl,
    carry_zero m c _ (by decide)]
  unfold Pipeline.ΦA
  rw [scopedRest0_eq]
  simp only [ckM, cvM, owns_whole]
  try rfl

theorem carry_first (c : Dev nD) : ((dats (F := F) m 0 c).Φ 0 : sProp 𝕄) = Pipeline.ΦA spec0 c := by
  rw [show (dats m 0 c).Φ 0 = iprop(carry m c 0 ∗ ∃ r, prngReg c r) from rfl, carry_zero m c _ (by decide)]
  unfold Pipeline.ΦA
  rw [scopedRest0_eq]
  simp only [ckM, cvM, owns_whole]
  try rfl

set_option backward.isDefEq.respectTransparency.types false in
/-- Every weakly fair execution ends, with every window's array as the write-backs leave it, the buffers of no window
    as the region found them, and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [carry_first]) (hout := fun c => by rw [carry_last])

end Cert.KernelIdeal.Att
-- ==== Proof.Att.Frames.lean ====
/- What the runs say about the arguments and the semaphores: the three frame claims. -/
module

public import proofs.«01_k».proof.Defs
public import proofs.«01_k».proof.Proof.Att.Run
public import proofs.«01_k».proof.Proof.Gen.Kernel
public import proofs.«01_k».proof.Proof.Gen.Pre_finite
public import proofs.«01_k».proof.Proof.Gen.ReferenceIdeal.Run
public import Idealize.ShloMosaic.Lib.Quiescent

@[expose] public section

noncomputable section

namespace Cert.Proof.Att

open Idealize.ShloMosaic Idealize.ShloMosaic.TcCoe Idealize.SL.Sem

section Run

open Cert.KernelIdeal Cert.KernelIdeal.Gen Cert.KernelIdeal.Att

variable {F : FTy → Type} [FloatOps F] [Named F]

/-- Where the arrays end as the run leaves them, the arguments are as they were. -/
theorem args_kept (m : (ℓ : Loc nD τ sig) → Buf (Elt F) ℓ) (r : PUnit × MemSt nD τ sig (Elt F))
    (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 2).trans (((dats m 0 c).arrAt_in 2 rfl _).trans ((A_eq m c 2).trans (V_main_arg0 m c))),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).1 6).trans (((dats m 0 c).arrAt_in 6 rfl _).trans ((A_eq m c 6).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The kernel leaves its seven arguments as they were and every semaphore at zero, whatever the floats are. -/
theorem quiescent_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m r h.1, h.2⟩) (run_main m ρ)

end Run

/-- Over the bit patterns a named constant is the pattern it is written with. -/
@[reducible] def namedBits : Named Bits where
  named _ _ {φ} bits := Scalar.ofBits φ bits

section Bits

attribute [local instance] namedBits

/-- Over the bit patterns the body with the named constants is the body as printed. -/
theorem body_eq : @Cert.KernelIdeal.cc0_att_bwd1 Bits _ _ _ = @Cert.Kernel.cc0_att_bwd1 Bits _ _ := rfl

theorem defs₀_eq : Cert.KernelIdeal.defs₀ (F := Bits) = Cert.Kernel.defs₀ (F := Bits) := by
  unfold Cert.KernelIdeal.defs₀ Cert.Kernel.defs₀
  refine congrArg (Defs.onTc (Val := Elt Bits) (sig := Cert.Kernel.sig) (nD := Cert.Kernel.nD) (τ := Cert.Kernel.τ)
    (Λ := Cert.Kernel.Λ₀)) ?_
  funext l x
  match l, x with
  | ⟨0, _⟩, (t, s) =>
    rw [body_eq]
    rfl

theorem defs_eq : Cert.KernelIdeal.defs (F := Bits) = Cert.Kernel.defs (F := Bits) := by
  unfold Cert.KernelIdeal.defs Cert.Kernel.defs
  exact congrArg (Pipeline.defs Cert.Kernel.pcfgs) defs₀_eq

theorem main_eq : Cert.KernelIdeal.main (F := Bits) = Cert.Kernel.main (F := Bits) := rfl

/-- The kernel as printed is the program with the named constants, each constant read as its pattern: one run. -/
theorem quiescent_Kernel : Cert.quiescent_Kernel := fun m ρ _ => by
  have h := quiescent_run (F := Bits) m ρ
  rw [defs_eq, main_eq] at h
  exact h

end Bits

theorem quiescent_KernelIdeal : Cert.quiescent_KernelIdeal := fun m ρ _ => quiescent_run m ρ

theorem quiescent_KernelIdeal_pre_finite : Cert.quiescent_KernelIdeal_pre_finite := fun m ρ _ => quiescent_run m ρ

theorem quiescent_ReferenceIdeal : Cert.quiescent_ReferenceIdeal := fun m ρ _ =>
  (θ_run Cert.ReferenceIdeal.defs _ _).mono
    (fun _ h => ⟨fun c => (h c).2.2.2, sem_eq_zero_of_no_sems rfl _⟩) (Cert.ReferenceIdeal.Value.run (F := Ideal) m ρ)

theorem quiescent_ReferenceIdeal_pre_finite : Cert.quiescent_ReferenceIdeal_pre_finite := fun m ρ _ =>
  (θ_run Cert.ReferenceIdeal.defs _ _).mono
    (fun _ h => ⟨fun c => (h c).2.2.2, sem_eq_zero_of_no_sems rfl _⟩) (Cert.ReferenceIdeal.Value.run (F := Ideal) m ρ)

theorem preserves : Cert.preserves_Kernel_KernelIdeal :=
  IdealRules.named_const.statement Cert.KernelIdeal.κ "mask" .f32 0xF149F2CA#32 ⊥ rfl

end Cert.Proof.Att
-- ==== Proof.Att.Real.lean ====
/-
  The gradient of one head of one block of the banded attention over the reals, and the extended-real computation of
  one row of it: the softmax's weights and the gradient of the scores, from the row's scores.
-/
module

public import Mathlib.Analysis.SpecialFunctions.Log.Basic
public import Mathlib.Data.EReal.Inv
public import Idealize.ShloMosaic.PureOps.Ideal

@[expose] public section

noncomputable section

namespace Cert.Att

open Idealize.ShloMosaic
open scoped BigOperators

/-! ## One head of one block -/

section Head

variable {L : Type} [Fintype L] (ok : Fin 128 → Fin 256 → Prop) [∀ i j, Decidable (ok i j)]
variable (q : Fin 128 → L → ℝ) (k v : Fin 256 → L → ℝ) (co : Fin 128 → L → ℝ) (dl : Fin 128 → ℝ)

/-- The scores: queries against keys, scaled. -/
def score (i : Fin 128) (j : Fin 256) : ℝ := (∑ l, q i l * k j l) * 0.125
/-- A score's exponential where the query attends the key. -/
def expo (i : Fin 128) (j : Fin 256) : ℝ := if ok i j then Real.exp (score q k i j) else 0
/-- The softmax. -/
def prob (i : Fin 128) (j : Fin 256) : ℝ := expo ok q k i j / ∑ j', expo ok q k i j'
/-- The gradient of the weights: output gradients against values. -/
def dprob (i : Fin 128) (j : Fin 256) : ℝ := ∑ l, co i l * v j l
/-- The gradient of the scaled scores. -/
def dscore (i : Fin 128) (j : Fin 256) : ℝ :=
  prob ok q k i j * (dprob v co i j + dl i - ∑ j', prob ok q k i j' * dprob v co i j') * 0.125
/-- The gradient of the queries, of the keys, and of the values. -/
def dquery (i : Fin 128) (l : L) : ℝ := ∑ j, dscore ok q k v co dl i j * k j l
def dkey (j : Fin 256) (l : L) : ℝ := ∑ i, dscore ok q k v co dl i j * q i l
def dvalue (j : Fin 256) (l : L) : ℝ := ∑ i, prob ok q k i j * co i l

theorem prob_eq_zero {i : Fin 128} {j : Fin 256} (h : ¬ ok i j) : prob ok q k i j = 0 := by
  simp [prob, expo, h]

theorem dscore_eq_zero {i : Fin 128} {j : Fin 256} (h : ¬ ok i j) : dscore ok q k v co dl i j = 0 := by
  simp [dscore, prob_eq_zero ok q k h]

variable {k v} {k' v' : Fin 256 → L → ℝ}

/-! Only the keys and values that are attended matter. -/

theorem prob_congr (hk : ∀ i j, ok i j → k j = k' j) : prob ok q k = prob ok q k' := by
  have h : expo ok q k = expo ok q k' := by
    funext i j; unfold expo; split
    · rename_i h; unfold score; rw [hk i j h]
    · rfl
  funext i j; unfold prob; rw [h]

theorem dscore_congr (hk : ∀ i j, ok i j → k j = k' j) (hv : ∀ i j, ok i j → v j = v' j) :
    dscore ok q k v co dl = dscore ok q k' v' co dl := by
  have h (i j) : prob ok q k' i j * dprob v co i j = prob ok q k' i j * dprob v' co i j := by
    by_cases o : ok i j
    · unfold dprob; rw [hv i j o]
    · simp [prob_eq_zero ok q k' o]
  funext i j
  unfold dscore
  rw [prob_congr ok q hk]
  simp only [h]
  by_cases o : ok i j
  · unfold dprob; rw [hv i j o]
  · simp [prob_eq_zero ok q k' o]

theorem dquery_congr (hk : ∀ i j, ok i j → k j = k' j) (hv : ∀ i j, ok i j → v j = v' j) :
    dquery ok q k v co dl = dquery ok q k' v' co dl := by
  funext i l
  unfold dquery
  rw [dscore_congr ok q co dl hk hv]
  refine Finset.sum_congr rfl fun j _ => ?_
  by_cases o : ok i j
  · rw [hk i j o]
  · simp [dscore_eq_zero ok q k' v' co dl o]

end Head

/-! ## One row, over the extended reals -/

theorem coe_sum {ι : Type} (s : Finset ι) (f : ι → ℝ) : ((∑ i ∈ s, f i : ℝ) : EReal) = ∑ i ∈ s, (f i : EReal) :=
  map_sum (⟨⟨Real.toEReal, rfl⟩, fun _ _ => rfl⟩ : ℝ →+ EReal) f s

theorem coe_div {x y : ℝ} (h : y ≠ 0) : Ideal.div (x : EReal) (y : EReal) = ((x / y : ℝ) : EReal) := by
  unfold Ideal.div
  rw [if_neg (by exact_mod_cast h)]
  rw [div_eq_mul_inv, EReal.coe_mul, EReal.coe_inv]

theorem coe_exp (x : ℝ) : Ideal.exp (x : EReal) = (Real.exp x : EReal) := rfl

section Row

variable (ok : Fin 256 → Prop) [DecidablePred ok] (x : Fin 256 → ℝ)

/-- A row's masked scores. -/
def maskRow (j : Fin 256) : EReal := if ok j then (x j : EReal) else ⊥
/-- The row's maximum. -/
def rowMax : EReal := Finset.univ.fold max ⊥ (maskRow ok x)
def rowExp (j : Fin 256) : EReal := Ideal.exp (maskRow ok x j - rowMax ok x)
def rowDen : EReal := ∑ j, rowExp ok x j

theorem exists_rowMax (h : ∃ j, ok j) : ∃ j, ok j ∧ rowMax ok x = (x j : EReal) := by
  obtain ⟨j₀, h₀⟩ := h
  have hs : rowMax ok x = Finset.univ.sup (maskRow ok x) := rfl
  obtain ⟨j, -, hj⟩ := Finset.exists_mem_eq_sup Finset.univ ⟨j₀, Finset.mem_univ _⟩ (maskRow ok x)
  have hle : maskRow ok x j₀ ≤ maskRow ok x j := hj ▸ Finset.le_sup (Finset.mem_univ j₀)
  by_cases o : ok j
  · exact ⟨j, o, by rw [hs, hj]; simp [maskRow, o]⟩
  · simp [maskRow, o, h₀] at hle

variable {ok x}

/-- The row's exponentials and their sum are reals, the sum positive. -/
theorem row_real (h : ∃ j, ok j) : ∃ (e : Fin 256 → ℝ), (∀ j, rowExp ok x j = (e j : EReal))
    ∧ rowDen ok x = ((∑ j, e j : ℝ) : EReal) ∧ 0 < ∑ j, e j
    ∧ (∀ j, ¬ ok j → e j = 0)
    ∧ ∀ j, e j / (∑ j', e j') = (if ok j then Real.exp (x j) else 0) / ∑ j', if ok j' then Real.exp (x j') else 0 := by
  obtain ⟨j₀, h₀, hm⟩ := exists_rowMax ok x h
  set E : Fin 256 → ℝ := fun j => if ok j then Real.exp (x j) else 0 with hE
  have he (j) : rowExp ok x j = ((E j * Real.exp (-(x j₀)) : ℝ) : EReal) := by
    unfold rowExp maskRow
    rw [hm, hE]
    by_cases o : ok j
    · simp only [o, if_true]
      rw [← EReal.coe_sub, coe_exp, ← Real.exp_add]; rfl
    · simp only [o, if_false]; rw [EReal.bot_sub, show Ideal.exp ⊥ = 0 from rfl]; simp
  have hpos : 0 < Real.exp (-(x j₀)) := Real.exp_pos _
  have hZ : 0 < ∑ j, E j := by
    refine Finset.sum_pos' (fun j _ => ?_) ⟨j₀, Finset.mem_univ _, ?_⟩
    · simp only [hE]; split <;> positivity
    · simp only [hE, h₀, if_true]; exact Real.exp_pos _
  refine ⟨fun j => E j * Real.exp (-(x j₀)), he, ?_, ?_, fun j o => by simp [hE, o], fun j => ?_⟩
  · unfold rowDen; rw [coe_sum]; exact Finset.sum_congr rfl fun j _ => he j
  · rw [← Finset.sum_mul]; positivity
  · rw [← Finset.sum_mul, mul_div_mul_right _ _ hpos.ne']

/-- A weight is the row's exponential over the sum. -/
theorem row_prob (h : ∃ j, ok j) (j : Fin 256) :
    Ideal.div (rowExp ok x j) (rowDen ok x)
      = (((if ok j then Real.exp (x j) else 0) / ∑ j', if ok j' then Real.exp (x j') else 0 : ℝ) : EReal) := by
  obtain ⟨e, he, hd, hp, -, hr⟩ := row_real (x := x) h
  rw [he, hd, coe_div hp.ne', hr]

/-- The gradient of the row's scores as the kernel computes it: the weights' gradients through the division, the
    log denominator's gradient, and a share of the maximum's gradient, which is zero. -/
theorem row_dscore (h : ∃ j, ok j) (dp : Fin 256 → ℝ) (dl : ℝ) (cnt : EReal) (tie : Fin 256 → EReal)
    (htie : cnt = ∑ j, tie j) (ht : ∀ j, tie j = 0 ∨ tie j = 1) (de : Fin 256 → EReal)
    (hde : ∀ j, de j = (Ideal.div (dp j : EReal) (rowDen ok x)
        + (Ideal.div (dl : EReal) (rowDen ok x)
          + (0 - ∑ j', (dp j' : EReal) * Ideal.div 1 (rowDen ok x * rowDen ok x) * rowExp ok x j'))) * rowExp ok x j)
    (j : Fin 256) (P : Fin 256 → ℝ)
    (hP : ∀ j, P j = (if ok j then Real.exp (x j) else 0) / ∑ j', if ok j' then Real.exp (x j') else 0) :
    (if ok j then de j + Ideal.div ((dl : EReal) + ∑ j', (0 - de j')) cnt * tie j else 0)
      = ((P j * (dp j + dl - ∑ j', P j' * dp j') : ℝ) : EReal) := by
  obtain ⟨e, he, hd, hp, h0, hr⟩ := row_real (x := x) h
  set Z := ∑ j, e j with hZ
  have hPe (j) : P j = e j / Z := by rw [hP, hr]
  have hdl (j) : de j = ((P j * (dp j + dl - ∑ j', P j' * dp j') : ℝ) : EReal) := by
    rw [hde]
    simp only [he, hd]
    rw [← EReal.coe_mul, ← EReal.coe_one, coe_div (mul_pos hp hp).ne', coe_div hp.ne', coe_div hp.ne']
    simp only [← EReal.coe_mul]
    rw [← coe_sum, ← EReal.coe_zero, ← EReal.coe_sub, ← EReal.coe_add, ← EReal.coe_add, ← EReal.coe_mul]
    congr 1
    have hs : (∑ j', dp j' * (1 / (Z * Z)) * e j') = (∑ j', P j' * dp j') / Z := by
      rw [Finset.sum_div]
      refine Finset.sum_congr rfl fun j' _ => ?_
      rw [hPe]; field_simp
    rw [hs, hPe]; field_simp; ring
  have hsum : ∑ j, P j * (dp j + dl - ∑ j', P j' * dp j') = dl := by
    have h1 : ∑ j, P j = 1 := by
      simp only [hPe]; rw [← Finset.sum_div, ← hZ, div_self hp.ne']
    have : ∀ j, P j * (dp j + dl - ∑ j', P j' * dp j') = P j * dp j + P j * (dl - ∑ j', P j' * dp j') := fun j => by ring
    simp only [this]
    rw [Finset.sum_add_distrib, ← Finset.sum_mul, h1]; ring
  have hz : (dl : EReal) + ∑ j', (0 - de j') = 0 := by
    simp only [hdl]
    have : ∀ y : ℝ, (0 : EReal) - (y : EReal) = ((-y : ℝ) : EReal) := fun y => by
      rw [← EReal.coe_zero, ← EReal.coe_sub, zero_sub]
    simp only [this]
    rw [← coe_sum, ← EReal.coe_add, Finset.sum_neg_distrib, hsum]; simp
  have htz : Ideal.div 0 cnt * tie j = 0 := by
    rcases ht j with t | t
    · rw [t, mul_zero]
    · have hn : cnt ≠ 0 := by
        have : (1 : EReal) ≤ cnt := by
          rw [htie, ← t]
          exact Finset.single_le_sum (f := tie) (fun j' _ => by rcases ht j' with h | h <;> simp [h]) (Finset.mem_univ j)
        intro hc; rw [hc] at this; exact absurd this (by norm_num)
      unfold Ideal.div
      rw [if_neg hn, zero_mul, zero_mul]
  rw [hz, htz, add_zero, hdl]
  split
  · rfl
  · rename_i o
    rw [show P j = 0 by rw [hPe, h0 j o, zero_div], zero_mul, EReal.coe_zero]

end Row

end Cert.Att
-- ==== Proof.Att.Words.lean ====
module
public import proofs.«01_k».proof.Proof.Att.Values
public import proofs.«01_k».proof.Proof.Att.Real
public import Idealize.ShloMosaic.Lib.Pointwise

/-! The constants, the band mask and the lane masks of the attention kernel, read as numbers. -/

@[expose] public section
set_option maxRecDepth 16384
noncomputable section
namespace Cert.KernelIdeal.Att
open Cert.KernelIdeal Cert.KernelIdeal.Gen Cert.Att
open Idealize.ShloMosaic Idealize.ShloMosaic.TcCoe Idealize.SL.Sem

/-- The scale of the scores is one eighth. -/
theorem ofBits_eighth : Ideal.ofBits FTy.f32 1040187392#32 = ((0.125 : ℝ) : EReal) := by
  simp [Ideal.ofBits, Ideal.ieee, -EReal.coe_mul]; norm_num

/-- A row maximum starts at minus infinity. -/
theorem ofBits_neg_inf : Ideal.ofBits FTy.f32 4286578688#32 = (⊥ : EReal) := by
  simp [Ideal.ofBits, Ideal.ieee]

/-- The named filling of masked scores is minus infinity. -/
theorem named_mask :
    (Named.named κ "mask" (F := Ideal) (φ := .f32) 4048155338#32) = (⊥ : EReal) := rfl

/-- Which keys a query attends to: the 128 before it and itself, and none before the sequence. -/
def att (n : ℕ) (i : Fin 128) (j : Fin 256) : Prop :=
  j.val ≤ 128 + i.val ∧ i.val ≤ j.val ∧ (128 ≤ j.val ∨ n ≠ 0)

instance (n i j) : Decidable (att n i j) := by unfold att; infer_instance

/-- Every query attends to itself. -/
theorem att_self (n : ℕ) (i : Fin 128) : ∃ j, att n i j :=
  ⟨⟨128 + i.val, by omega⟩, by simp [att]⟩

theorem toInt_ofNat_small {n : ℕ} (h : n < 1024) : (BitVec.ofNat 32 n).toInt = n := by
  rw [BitVec.toInt_eq_toNat_of_lt] <;> rw [BitVec.toNat_ofNat] <;> omega

theorem toInt_rel {a b : ℕ} (ha : a < 128) (hb : b < 256) :
    (IntOp.subi (IntOp.addi (128#32) (BitVec.ofNat 32 a)) (BitVec.ofNat 32 b)).toInt
      = 128 + (a : ℤ) - b := by
  unfold IntOp.subi IntOp.addi
  have h1 : (128#32 + BitVec.ofNat 32 a).toInt = 128 + (a : ℤ) := by
    rw [BitVec.toInt_add, show (128#32).toInt = 128 from rfl, toInt_ofNat_small (by omega),
      Int.bmod_eq_of_le] <;> omega
  rw [BitVec.toInt_sub, h1, toInt_ofNat_small (by omega), Int.bmod_eq_of_le] <;> omega

/-- The band mask, worked out on the numbers of the row and of the column. -/
theorem ok_word (n : ℕ) (hn : n < 8) (a : Fin 128) (b : Fin 256) : IntOp.andi
      (IntOp.andi
        (IntOp.cmpi CmpIPredicate.sge (IntOp.subi (IntOp.addi (128#32) (BitVec.ofNat 32 ↑a)) (BitVec.ofNat 32 ↑b)) 0#32)
        (IntOp.cmpi CmpIPredicate.sle (IntOp.subi (IntOp.addi (128#32) (BitVec.ofNat 32 ↑a)) (BitVec.ofNat 32 ↑b))
          128#32))
      (IntOp.ori (IntOp.cmpi CmpIPredicate.sge (BitVec.ofNat 32 ↑b) 128#32)
        (Scalar.xori (Scalar.cmpi CmpIPredicate.eq (BitVec.ofNat 32 n) 0#32) 1#1))
      = BitVec.ofBool (decide (att n a b)) := by
  have e1 : IntOp.cmpi CmpIPredicate.sge (IntOp.subi (IntOp.addi (128#32) (BitVec.ofNat 32 ↑a)) (BitVec.ofNat 32 ↑b)) 0#32
      = BitVec.ofBool (decide (b.val ≤ 128 + a.val)) := by
    simp only [IntOp.cmpi, BitVec.sle, toInt_rel a.2 b.2]
    congr 1; simp <;> omega
  have e2 : IntOp.cmpi CmpIPredicate.sle (IntOp.subi (IntOp.addi (128#32) (BitVec.ofNat 32 ↑a)) (BitVec.ofNat 32 ↑b)) 128#32
      = BitVec.ofBool (decide (a.val ≤ b.val)) := by
    simp only [IntOp.cmpi, BitVec.sle, toInt_rel a.2 b.2]
    congr 1; simp
  have e3 : IntOp.cmpi CmpIPredicate.sge (BitVec.ofNat 32 ↑b) 128#32
      = BitVec.ofBool (decide (128 ≤ b.val)) := by
    simp only [IntOp.cmpi, BitVec.sle, toInt_ofNat_small (show b.val < 1024 by omega)]
    congr 1; simp
  have e4 : Scalar.xori (Scalar.cmpi CmpIPredicate.eq (BitVec.ofNat 32 n) 0#32) 1#1
      = BitVec.ofBool (decide (n ≠ 0)) := by
    revert n; decide +kernel
  rw [e1, e2, e3, e4]
  unfold att
  by_cases h1 : b.val ≤ 128 + a.val <;> by_cases h2 : a.val ≤ b.val <;>
    by_cases h3 : 128 ≤ b.val <;> by_cases h4 : n ≠ 0 <;> simp [h1, h2, h3, h4, IntOp.andi, IntOp.ori]

/-- The mask of one head's lanes: one on its 64 lanes, zero on the other 64. -/
def lm (h : ℕ) (l : Fin 128) : ℝ := if l.val / 64 = h then 1 else 0

theorem lane_word0 : ∀ l : Fin 128, (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 ↑l) 0#32))
                  (BitVec.setWidth 32 (IntOp.cmpi CmpIPredicate.slt (BitVec.ofNat 32 ↑l) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑l) 64#32) 0#32))
            (IntOp.subi (IntOp.divsi ArithUnit.vector (BitVec.ofNat 32 ↑l) 64#32) 1#32)
            (IntOp.divsi ArithUnit.vector (BitVec.ofNat 32 ↑l) 64#32))
          0#32)).toInt = if l.val / 64 = 0 then 1 else 0 := by decide +kernel

theorem lane_word1 : ∀ l : Fin 128, (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 ↑l) 0#32))
                  (BitVec.setWidth 32 (IntOp.cmpi CmpIPredicate.slt (BitVec.ofNat 32 ↑l) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑l) 64#32) 0#32))
            (IntOp.subi (IntOp.divsi ArithUnit.vector (BitVec.ofNat 32 ↑l) 64#32) 1#32)
            (IntOp.divsi ArithUnit.vector (BitVec.ofNat 32 ↑l) 64#32))
          1#32)).toInt = if l.val / 64 = 1 then 1 else 0 := by decide +kernel

theorem m0_at (l : Fin 128) : (Ins.m0 : FVec Ideal _ _) (ix2 0 l) = (lm 0 l : EReal) := by
  pointwise [Ins.m0, k0_pay11, k0_pay8, k0_pay9, k0_pay10, Ins.lane]
  refine Eq.trans (congrArg (fun z : ℤ => (((z : ℝ)) : EReal)) (lane_word0 l)) ?_
  unfold lm; split <;> simp

theorem m1_at (l : Fin 128) : (Ins.m1 : FVec Ideal _ _) (ix2 0 l) = (lm 1 l : EReal) := by
  pointwise [Ins.m1, k0_pay23, Ins.lane]
  refine Eq.trans (congrArg (fun z : ℤ => (((z : ℝ)) : EReal)) (lane_word1 l)) ?_
  unfold lm; split <;> simp

/-- Head `h`'s lane `e` among the 128 lanes of the two heads. -/
def lane2 (h : Fin 2) (e : Fin 64) : Fin 128 := ⟨64 * h.val + e.val, by omega⟩

/-- A sum over masked lanes is a sum over the head's lanes. -/
theorem sum_lm (h : Fin 2) (f : Fin 128 → ℝ) :
    ∑ l, f l * lm h.val l = ∑ e : Fin 64, f (lane2 h e) := by
  rw [Fin.sum_univ_add (a := 64) (b := 64) (fun l => f l * lm h.val l)]
  have hz : ∀ e : Fin 64, (Fin.castAdd 64 e).val / 64 = 0 := fun e => by simp
  have hw : ∀ e : Fin 64, (Fin.natAdd 64 e).val / 64 = 1 := fun e => by simp
  fin_cases h <;> simp only [lm, hz, hw] <;> simp [lane2] <;> rfl

theorem lm_lane2 (h h' : Fin 2) (e : Fin 64) :
    lm h.val (lane2 h' e) = if h = h' then 1 else 0 := by
  have : (lane2 h' e).val / 64 = h'.val := by simp only [lane2]; omega
  unfold lm; rw [this]
  exact if_congr (by rw [Fin.ext_iff]; exact eq_comm) rfl rfl
-- ==== Proof.Att.Head.lean ====
module
public import proofs.«01_k».proof.Proof.Att.Words

/-! The trip's values over the extended reals: each head's scores, weights and gradients, as the reals of
    `Att.Real` over the 128 lanes with the other head's lanes masked. -/

@[expose] public section
set_option maxRecDepth 16384
noncomputable section
namespace Cert.KernelIdeal.Att
open Cert.KernelIdeal Cert.KernelIdeal.Gen Cert.Att
open Idealize.ShloMosaic Idealize.ShloMosaic.TcCoe Idealize.SL.Sem

/-- The rows that a trip reads are the reals `q`, `k`, …; `k` and `v` are the block before and this one. -/
structure Reads (I : Ins Ideal) (n : ℕ) (q : Fin 128 → Fin 128 → ℝ) (k v : Fin 256 → Fin 128 → ℝ)
    (co cl : Fin 128 → Fin 128 → ℝ) : Prop where
  lt : n < 8
  hn : I.n = BitVec.ofNat 32 n
  hq : ∀ a b, I.q (ix3 0 a b) = (q a b : EReal)
  hkp : ∀ (a : Fin 256) (b : Fin 128) (h : a.val < 128), I.kp (ix3 0 ⟨a.val, h⟩ b) = (k a b : EReal)
  hkc : ∀ (a : Fin 256) (b : Fin 128) (h : a.val - 128 < 128), 128 ≤ a.val → I.kc (ix3 0 ⟨a.val - 128, h⟩ b) = (k a b : EReal)
  hvp : ∀ (a : Fin 256) (b : Fin 128) (h : a.val < 128), I.vp (ix3 0 ⟨a.val, h⟩ b) = (v a b : EReal)
  hvc : ∀ (a : Fin 256) (b : Fin 128) (h : a.val - 128 < 128), 128 ≤ a.val → I.vc (ix3 0 ⟨a.val - 128, h⟩ b) = (v a b : EReal)
  hco : ∀ a b, I.co (ix3 0 a b) = (co a b : EReal)
  hcl : ∀ a b, I.cl (ix3 0 a b) = (cl a b : EReal)

/-- A head's lanes of a row, the others zero. -/
def msk (h : ℕ) (x : Fin 128 → Fin 128 → ℝ) (i l : Fin 128) : ℝ := x i l * lm h l
/-- A head's lane sum of a row. -/
def lsum (h : ℕ) (x : Fin 128 → Fin 128 → ℝ) (i : Fin 128) : ℝ := ∑ l, x i l * lm h l

variable {I : Ins Ideal} {n : ℕ} {q : Fin 128 → Fin 128 → ℝ} {k v : Fin 256 → Fin 128 → ℝ}
  {co cl : Fin 128 → Fin 128 → ℝ} (H : Reads I n q k v co cl)
include H

theorem qq_at (a b) : I.qq (ix2 a b) = (q a b : EReal) := by
  pointwise [Ins.qq, k0_pay4]
  exact H.hq a b

theorem kk_at (a b) : I.kk (ix2 a b) = (k a b : EReal) := by
  pointwise [Ins.kk, k0_pay6]
  split
  · exact H.hkp a b _
  · exact H.hkc a b _ (by omega)

theorem vv_at (a b) : I.vv (ix2 a b) = (v a b : EReal) := by
  pointwise [Ins.vv, k0_pay7]
  split
  · exact H.hvp a b _
  · exact H.hvc a b _ (by omega)

theorem ok_at (a b) : I.ok (ix2 a b) = BitVec.ofBool (decide (att n a b)) := by
  pointwise [Ins.ok, k0_pay5, H.hn]
  exact ok_word n H.lt a b

theorem select_ok {α : Type} (a b) (x y : α) :
    Scalar.select (I.ok (ix2 a b)) x y = if att n a b then x else y := by
  rw [ok_at H]
  by_cases h : att n a b <;> simp [h, Scalar.select]

theorem q1_at (a l) : I.q1 (ix2 a l) = (msk 1 q a l : EReal) := by
  pointwise [Ins.q1, k0_pay24]
  rw [qq_at H, show (k0_pay23 Ins.lane : FVec Ideal _ _) = Ins.m1 from rfl, m1_at]; rfl

theorem q0_at (a l) : I.q0 (ix2 a l) = (msk 0 q a l : EReal) := by
  pointwise [Ins.q0, k0_pay12]
  rw [qq_at H, show (k0_pay11 Ins.lane 64#32 k0_pay8 k0_pay9 k0_pay10 : FVec Ideal _ _) = Ins.m0 from rfl, m0_at]; rfl

/-- A masked row of scores from its products. -/
theorem mask_score (a b) (qm : Fin 128 → Fin 128 → ℝ) :
    (if att n a b then (∑ l, (qm a l : EReal) * (k b l : EReal)) * ((0.125 : ℝ) : EReal) else ⊥)
      = maskRow (att n a) (score qm k a) b := by
  unfold maskRow score
  split
  · rw [EReal.coe_mul, coe_sum]; simp only [EReal.coe_mul]
  · rfl

theorem s1_at (a b) : I.s1 (ix2 a b) = maskRow (att n a) (score (msk 1 q) k a) b := by
  rw [← mask_score H]
  simp only [← q1_at H, ← kk_at H, ← named_mask, ← ofBits_eighth, ← select_ok H]
  pointwise [Ins.s1, k0_pay25, Ins.q1]

/-- Head 0's masked scores. -/
theorem s0_at (a b) : (k0_pay13 I.qq I.ok Ins.lane I.kk 64#32 k0_pay8 k0_pay9 k0_pay10) (ix2 a b)
    = maskRow (att n a) (score (msk 0 q) k a) b := by
  rw [← mask_score H]
  simp only [← q0_at H, ← kk_at H, ← named_mask, ← ofBits_eighth, ← select_ok H]
  pointwise [k0_pay13, Ins.q0]

/-! Head 1. -/

theorem max1_at (a) : (k0_pay26 I.qq I.ok Ins.lane I.kk) (ix1 a) = rowMax (att n a) (score (msk 1 q) k a) := by
  unfold rowMax
  rw [show maskRow (att n a) (score (msk 1 q) k a) = fun b => I.s1 (ix2 a b) from
    funext fun b => (s1_at H a b).symm, ← ofBits_neg_inf]
  pointwise [k0_pay26, Ins.s1]

theorem e1_at (a b) : I.e1 (ix2 a b) = rowMax (att n a) (score (msk 1 q) k a) := by
  rw [← max1_at H]
  pointwise [Ins.e1, k0_pay29]

theorem max0_at (a) : (k0_pay14 I.qq I.ok Ins.lane I.kk 64#32 k0_pay8 k0_pay9 k0_pay10) (ix1 a)
    = rowMax (att n a) (score (msk 0 q) k a) := by
  unfold rowMax
  rw [show maskRow (att n a) (score (msk 0 q) k a) = fun b => _ from
    funext fun b => (s0_at H a b).symm, ← ofBits_neg_inf]
  pointwise [k0_pay14]

omit H in
/-- A truth value as a number is zero or one. -/
theorem flag_or (p : Bool) : (FloatOps.sitofp FTy.f32 (BitVec.setWidth 32 (BitVec.ofBool p)) : Ideal .f32) = 0
    ∨ (FloatOps.sitofp FTy.f32 (BitVec.setWidth 32 (BitVec.ofBool p)) : Ideal .f32) = 1 := by
  cases p
  · left
    show (((BitVec.setWidth 32 (BitVec.ofBool false)).toInt : ℝ) : EReal) = 0
    rw [show (BitVec.setWidth 32 (BitVec.ofBool false)).toInt = 0 from rfl]; simp
  · right
    show (((BitVec.setWidth 32 (BitVec.ofBool true)).toInt : ℝ) : EReal) = 1
    rw [show (BitVec.setWidth 32 (BitVec.ofBool true)).toInt = 1 from rfl]; simp

omit H in
theorem tie1_or (a b) : I.tie1 (ix2 a b) = 0 ∨ I.tie1 (ix2 a b) = 1 := by
  pointwise [Ins.tie1, k0_pay27]
  exact flag_or _

omit H in
theorem tie0_or (a b) : I.tie0 (ix2 a b) = 0 ∨ I.tie0 (ix2 a b) = 1 := by
  pointwise [Ins.tie0, k0_pay15]
  exact flag_or _

omit H in
theorem cnt1_at (a) : I.cnt1 (ix1 a) = ∑ b, I.tie1 (ix2 a b) := by
  pointwise [Ins.cnt1, k0_pay28, Ins.tie1]

omit H in
theorem cnt0_at (a) : I.cnt0 (ix1 a) = ∑ b, I.tie0 (ix2 a b) := by
  pointwise [Ins.cnt0, k0_pay16, Ins.tie0]

theorem e0_at (a b) : I.e0 (ix2 a b) = rowExp (att n a) (score (msk 0 q) k a) b := by
  unfold rowExp
  rw [← max0_at H, ← s0_at H]
  pointwise [Ins.e0, k0_pay17]

theorem den0_at (a) : I.den0 (ix2 a 0) = rowDen (att n a) (score (msk 0 q) k a) := by
  unfold rowDen
  simp only [← e0_at H]
  pointwise [Ins.den0, k0_pay18, Ins.e0]

theorem rsq0_at (a) : I.rsq0 (ix2 a 0) = Ideal.div 1 (rowDen (att n a) (score (msk 0 q) k a) * rowDen (att n a) (score (msk 0 q) k a)) := by
  simp only [← den0_at H]
  pointwise [Ins.rsq0, Ins.sq0, k0_pay20, k0_pay21, k0_pay22, Ins.den0]

theorem p0_at (a b) : I.p0 (ix2 a b) = (prob (att n) (msk 0 q) k a b : EReal) := by
  have := row_prob (x := score (msk 0 q) k a) (att_self n a) b
  unfold prob expo
  rw [← this, ← den0_at H, ← e0_at H]
  pointwise [Ins.p0, k0_pay19, Ins.den0, Ins.e0]

theorem dmx0_at (a) : I.dmx0 (ix2 a 0) = (lsum 0 cl a : EReal) := by
  pointwise [Ins.dmx0, k0_pay43, Ins.cl0, k0_pay34, k0_pay33]
  simp only [m0_at, H.hcl]
  unfold lsum
  rw [coe_sum]; simp only [EReal.coe_mul]

theorem dmx1_at (a) : I.dmx1 (ix2 a 0) = (lsum 1 cl a : EReal) := by
  pointwise [Ins.dmx1, k0_pay35, k0_pay33]
  simp only [m1_at, H.hcl]
  unfold lsum
  rw [coe_sum]; simp only [EReal.coe_mul]

/-- Head 0's output gradients against the values. -/
theorem dpr0_at (a b) : (k0_pay45 I.vv Ins.m0 I.co0) (ix2 a b) = (dprob v (msk 0 co) a b : EReal) := by
  pointwise [k0_pay45, k0_pay44, Ins.co0, k0_pay36, k0_pay32]
  simp only [m0_at, H.hco, vv_at H]
  unfold dprob msk
  rw [coe_sum]; simp only [EReal.coe_mul]

theorem p1_at (a b) : Ideal.div (Ideal.exp (I.s1 (ix2 a b) - I.e1 (ix2 a b))) (∑ b, Ideal.exp (I.s1 (ix2 a b) - I.e1 (ix2 a b)))
    = (prob (att n) (msk 1 q) k a b : EReal) := by
  have := row_prob (x := score (msk 1 q) k a) (att_self n a) b
  unfold prob expo
  rw [← this]
  simp only [s1_at H, e1_at H]
  rfl

theorem ds1_at (a b) : (k0_pay40 I.ok I.tie1 I.cnt1 I.dmx1 I.ds1 (Scalar.ofBits .f32 0x00000000#32)) (ix2 a b)
    = (dscore (att n) (msk 1 q) k v (msk 1 co) (lsum 1 cl) a b : EReal) := by
  have h := row_dscore (x := score (msk 1 q) k a) (att_self n a) (dprob v (msk 1 co) a) (lsum 1 cl a)
    (I.cnt1 (ix1 a)) (fun b => I.tie1 (ix2 a b)) (cnt1_at a) (tie1_or a) (fun b => I.ds1 (ix2 a b)) (fun j => by
      have hs : ∀ j, rowExp (att n a) (score (msk 1 q) k a) j = Ideal.exp (I.s1 (ix2 a j) - I.e1 (ix2 a j)) := fun j => by
        rw [s1_at H, e1_at H]; rfl
      have hd : rowDen (att n a) (score (msk 1 q) k a) = ∑ j, Ideal.exp (I.s1 (ix2 a j) - I.e1 (ix2 a j)) := by
        unfold rowDen; exact Finset.sum_congr rfl fun j _ => hs j
      have hp : ∀ j, (dprob v (msk 1 co) a j : EReal)
          = ∑ l, (co a l : EReal) * (lm 1 l : EReal) * (v j l : EReal) := fun j => by
        unfold dprob msk; rw [coe_sum]; simp only [EReal.coe_mul]
      have hl : (lsum 1 cl a : EReal) = ∑ l, (cl a l : EReal) * (lm 1 l : EReal) := by
        unfold lsum; rw [coe_sum]; simp only [EReal.coe_mul]
      simp only [hs, hd, hp, hl, ← m1_at, ← vv_at H, ← H.hco, ← H.hcl]
      pointwise [Ins.ds1, k0_pay39, k0_pay37, k0_pay35, k0_pay33, k0_pay32, k0_pay31, k0_pay30]
      simp only [Fin.sum_univ_one]) b
    (prob (att n) (msk 1 q) k a) (fun j => rfl)
  unfold dscore
  rw [EReal.coe_mul, ← h, ← dmx1_at H, ← select_ok H, ← ofBits_eighth]
  pointwise [k0_pay40]
  simp only [Fin.sum_univ_one]

theorem ds0_at (a b) : (k0_pay49 I.ok I.tie0 I.cnt0 I.e0 I.dmx0 I.dp0 I.dd0) (ix2 a b)
    = (dscore (att n) (msk 0 q) k v (msk 0 co) (lsum 0 cl) a b : EReal) := by
  have h := row_dscore (x := score (msk 0 q) k a) (att_self n a) (dprob v (msk 0 co) a) (lsum 0 cl a)
    (I.cnt0 (ix1 a)) (fun b => I.tie0 (ix2 a b)) (cnt0_at a) (tie0_or a)
    (fun b => (I.dp0 (ix2 a b) + I.dd0 (ix1 a)) * I.e0 (ix2 a b)) (fun j => by
      simp only [← e0_at H, ← den0_at H, ← dpr0_at H, ← dmx0_at H]
      pointwise [Ins.dp0, Ins.dd0, k0_pay47, k0_pay48, Ins.dmx0]
      simp only [Fin.sum_univ_one, rsq0_at H, ← den0_at H]) b
    (prob (att n) (msk 0 q) k a) (fun j => rfl)
  unfold dscore
  rw [EReal.coe_mul, ← h, ← dmx0_at H, ← select_ok H, ← ofBits_eighth]
  pointwise [k0_pay49]
  simp only [Fin.sum_univ_one]

/-! The trip's results. -/

theorem dq_at (a l) : I.dq (ix3 0 a l)
    = ((dquery (att n) (msk 1 q) k v (msk 1 co) (lsum 1 cl) a l * lm 1 l
        + dquery (att n) (msk 0 q) k v (msk 0 co) (lsum 0 cl) a l * lm 0 l : ℝ) : EReal) := by
  unfold dquery
  rw [EReal.coe_add, EReal.coe_mul, EReal.coe_mul, coe_sum, coe_sum]
  simp only [EReal.coe_mul, ← ds0_at H, ← ds1_at H, ← kk_at H, ← m0_at, ← m1_at]
  pointwise [Ins.dq, Ins.dq1, k0_pay52, k0_pay42]

theorem dk_at (b l) : (k0_pay50 I.ok I.q0 I.tie0 I.cnt0 I.e0 I.dk1 I.dmx0 I.dp0 I.dd0) (ix2 b l)
    = ((dkey (att n) (msk 1 q) k v (msk 1 co) (lsum 1 cl) b l
        + dkey (att n) (msk 0 q) k v (msk 0 co) (lsum 0 cl) b l : ℝ) : EReal) := by
  unfold dkey
  rw [EReal.coe_add, coe_sum, coe_sum]
  simp only [EReal.coe_mul, ← ds0_at H, ← ds1_at H, ← q0_at H, ← q1_at H]
  pointwise [k0_pay50, Ins.dk1, k0_pay41]

theorem dv_at (b l) : I.dv (ix2 b l)
    = ((dvalue (att n) (msk 1 q) k (msk 1 co) b l + dvalue (att n) (msk 0 q) k (msk 0 co) b l : ℝ) : EReal) := by
  have hc : ∀ (h : ℕ) a l, ((msk h co a l : ℝ) : EReal) = (co a l : EReal) * (lm h l : EReal) := fun h a l => by
    unfold msk; rw [EReal.coe_mul]
  unfold dvalue
  rw [EReal.coe_add, coe_sum, coe_sum]
  simp only [EReal.coe_mul, ← p0_at H, ← p1_at H, hc, ← H.hco, ← m0_at, ← m1_at]
  pointwise [Ins.dv, Ins.dv1, k0_pay46, k0_pay38, k0_pay44, k0_pay37, k0_pay30, k0_pay31, k0_pay32, Ins.co0, k0_pay36]

theorem dkPrev_at (c : S128x128.Idx → Ideal .f32) (a l) : I.dkPrev c (ix3 0 a l)
    = c (ix2 a l) + ((dkey (att n) (msk 1 q) k v (msk 1 co) (lsum 1 cl) ⟨a.val, by omega⟩ l
        + dkey (att n) (msk 0 q) k v (msk 0 co) (lsum 0 cl) ⟨a.val, by omega⟩ l : ℝ) : EReal) := by
  rw [← dk_at H]
  pointwise [Ins.dkPrev, k0_pay53]

theorem dvPrev_at (c : S128x128.Idx → Ideal .f32) (a l) : I.dvPrev c (ix3 0 a l)
    = c (ix2 a l) + ((dvalue (att n) (msk 1 q) k (msk 1 co) ⟨a.val, by omega⟩ l
        + dvalue (att n) (msk 0 q) k (msk 0 co) ⟨a.val, by omega⟩ l : ℝ) : EReal) := by
  rw [← dv_at H]
  pointwise [Ins.dvPrev, k0_pay54]

theorem dkCur_at (a l) : I.dkCur (ix2 a l)
    = ((dkey (att n) (msk 1 q) k v (msk 1 co) (lsum 1 cl) ⟨128 + a.val, by omega⟩ l
        + dkey (att n) (msk 0 q) k v (msk 0 co) (lsum 0 cl) ⟨128 + a.val, by omega⟩ l : ℝ) : EReal) := by
  rw [← dk_at H]
  pointwise [Ins.dkCur, k0_pay55]

theorem dvCur_at (a l) : I.dvCur (ix2 a l)
    = ((dvalue (att n) (msk 1 q) k (msk 1 co) ⟨128 + a.val, by omega⟩ l
        + dvalue (att n) (msk 0 q) k (msk 0 co) ⟨128 + a.val, by omega⟩ l : ℝ) : EReal) := by
  rw [← dv_at H]
  pointwise [Ins.dvCur, k0_pay1, k0_pay51]

end Cert.KernelIdeal.Att
-- ==== Proof.Att.Lanes.lean ====
module
public import proofs.«01_k».proof.Proof.Att.Head

/-! A head's 64 lanes out of the 128 that two heads share: the masked gradients are the head's own. -/

@[expose] public section
noncomputable section
namespace Cert.KernelIdeal.Att
open Cert.KernelIdeal Cert.KernelIdeal.Gen Cert.Att
open Idealize.ShloMosaic Idealize.ShloMosaic.TcCoe Idealize.SL.Sem

/-- One head's 64 lanes. -/
def hd {ι : Type} (h : Fin 2) (x : ι → Fin 128 → ℝ) (i : ι) (e : Fin 64) : ℝ := x i (lane2 h e)

section
variable (n : ℕ) (h : Fin 2) (q : Fin 128 → Fin 128 → ℝ) (k v : Fin 256 → Fin 128 → ℝ) (co cl : Fin 128 → Fin 128 → ℝ)

theorem score_msk : score (msk h.val q) k = score (hd h q) (hd h k) := by
  funext i j
  unfold score msk hd
  rw [← sum_lm h (fun l => q i l * k j l)]
  congr 1
  exact Finset.sum_congr rfl fun l _ => by ring

theorem prob_msk : prob (att n) (msk h.val q) k = prob (att n) (hd h q) (hd h k) := by
  funext i j
  unfold prob expo
  rw [score_msk]

theorem dprob_msk : dprob v (msk h.val co) = dprob (hd h v) (hd h co) := by
  funext i j
  unfold dprob msk hd
  rw [← sum_lm h (fun l => co i l * v j l)]
  exact Finset.sum_congr rfl fun l _ => by ring

theorem lsum_eq : lsum h.val cl = fun i => ∑ e, hd h cl i e := by
  funext i
  exact sum_lm h (fun l => cl i l)

theorem dscore_msk : dscore (att n) (msk h.val q) k v (msk h.val co) (lsum h.val cl)
    = dscore (att n) (hd h q) (hd h k) (hd h v) (hd h co) (fun i => ∑ e, hd h cl i e) := by
  funext i j
  unfold dscore
  rw [prob_msk, dprob_msk, lsum_eq]

/-- The two heads' query gradients side by side. -/
theorem dquery_lanes (a : Fin 128) (e : Fin 64) :
    dquery (att n) (msk 1 q) k v (msk 1 co) (lsum 1 cl) a (lane2 h e) * lm 1 (lane2 h e)
      + dquery (att n) (msk 0 q) k v (msk 0 co) (lsum 0 cl) a (lane2 h e) * lm 0 (lane2 h e)
    = dquery (att n) (hd h q) (hd h k) (hd h v) (hd h co) (fun i => ∑ e, hd h cl i e) a e := by
  have l0 := lm_lane2 0 h e
  have l1 := lm_lane2 1 h e
  have d := dscore_msk n h q k v co cl
  unfold dquery
  rw [← d]
  rw [show lm 0 (lane2 h e) = _ from l0, show lm 1 (lane2 h e) = _ from l1]
  fin_cases h <;> simp [hd]

theorem dkey_lanes (b : Fin 256) (e : Fin 64) :
    dkey (att n) (msk 1 q) k v (msk 1 co) (lsum 1 cl) b (lane2 h e)
      + dkey (att n) (msk 0 q) k v (msk 0 co) (lsum 0 cl) b (lane2 h e)
    = dkey (att n) (hd h q) (hd h k) (hd h v) (hd h co) (fun i => ∑ e, hd h cl i e) b e := by
  have l0 := lm_lane2 0 h e
  have l1 := lm_lane2 1 h e
  have d := dscore_msk n h q k v co cl
  unfold dkey
  rw [← d]
  have m1 : ∀ i, msk 1 q i (lane2 h e) = q i (lane2 h e) * (if (1 : Fin 2) = h then 1 else 0) := fun i => by
    unfold msk; rw [show lm 1 (lane2 h e) = _ from l1]
  have m0 : ∀ i, msk 0 q i (lane2 h e) = q i (lane2 h e) * (if (0 : Fin 2) = h then 1 else 0) := fun i => by
    unfold msk; rw [show lm 0 (lane2 h e) = _ from l0]
  simp only [m0, m1]
  fin_cases h <;> simp [hd]

theorem dvalue_lanes (b : Fin 256) (e : Fin 64) :
    dvalue (att n) (msk 1 q) k (msk 1 co) b (lane2 h e) + dvalue (att n) (msk 0 q) k (msk 0 co) b (lane2 h e)
    = dvalue (att n) (hd h q) (hd h k) (hd h co) b e := by
  have l0 := lm_lane2 0 h e
  have l1 := lm_lane2 1 h e
  have d := prob_msk n h q k
  unfold dvalue
  rw [← d]
  have m1 : ∀ i, msk 1 co i (lane2 h e) = co i (lane2 h e) * (if (1 : Fin 2) = h then 1 else 0) := fun i => by
    unfold msk; rw [show lm 1 (lane2 h e) = _ from l1]
  have m0 : ∀ i, msk 0 co i (lane2 h e) = co i (lane2 h e) * (if (0 : Fin 2) = h then 1 else 0) := fun i => by
    unfold msk; rw [show lm 0 (lane2 h e) = _ from l0]
  simp only [m0, m1]
  fin_cases h <;> simp [hd]
end

end Cert.KernelIdeal.Att
-- ==== Proof.Att.Spec.lean ====
module
public import proofs.«01_k».proof.Proof.Att.Words

/-! The gradients of the attention of a group of eight heads of 64 lanes, dilation 4, blocks of 128 positions per
    residue, as reals over the arrays' elements. -/

@[expose] public section
noncomputable section
namespace Cert.Att
open Cert.KernelIdeal.Att (att)

/-- The arrays' elements: batch, position, column. -/
abbrev Arr := Fin 2 → ℕ → ℕ → ℝ

section
variable (X0 X1 X2 X3 : Arr) (b : Fin 2) (r h n : ℕ)

/-- The queries of head `h` at the positions of residue `r` of block `n`. -/
def sqy (i : Fin 128) (e : Fin 64) : ℝ := X0 b ((n * 128 + i.val) * 4 + r) (512 + 64 * h + e.val)
/-- The keys of the block before and of this one; before the sequence, zeros. -/
def sk (j : Fin 256) (e : Fin 64) : ℝ :=
  if n * 128 + j.val < 128 then 0 else X0 b ((n * 128 + j.val - 128) * 4 + r) (2048 + 64 * h + e.val)
/-- The values likewise. -/
def sv (j : Fin 256) (e : Fin 64) : ℝ :=
  if n * 128 + j.val < 128 then 0 else X1 b ((n * 128 + j.val - 128) * 4 + r) (3584 + 64 * h + e.val)
/-- The output's cotangents. -/
def sco (i : Fin 128) (e : Fin 64) : ℝ := X2 b ((n * 128 + i.val) * 4 + r) (64 * h + e.val)
/-- The log denominators' cotangents, one per lane. -/
def scl (i : Fin 128) (e : Fin 64) : ℝ := X3 b ((n * 128 + i.val) * 4 + r) (64 * h + e.val)

/-- The gradients of one head in one block. -/
def gq : Fin 128 → Fin 64 → ℝ :=
  dquery (att n) (sqy X0 b r h n) (sk X0 b r h n) (sv X1 b r h n) (sco X2 b r h n) (fun i => ∑ e, scl X3 b r h n i e)
def gk : Fin 256 → Fin 64 → ℝ :=
  dkey (att n) (sqy X0 b r h n) (sk X0 b r h n) (sv X1 b r h n) (sco X2 b r h n) (fun i => ∑ e, scl X3 b r h n i e)
def gv : Fin 256 → Fin 64 → ℝ :=
  dvalue (att n) (sqy X0 b r h n) (sk X0 b r h n) (sco X2 b r h n)

/-- A block's keys' gradient: from its own queries and from the next block's. -/
def tk (i : Fin 128) (e : Fin 64) : ℝ :=
  gk X0 X1 X2 X3 b r h n ⟨128 + i.val, by omega⟩ e
    + if n < 3 then gk X0 X1 X2 X3 b r h (n + 1) ⟨i.val, by omega⟩ e else 0
def tv (i : Fin 128) (e : Fin 64) : ℝ :=
  gv X0 X2 b r h n ⟨128 + i.val, by omega⟩ e
    + if n < 3 then gv X0 X2 b r h (n + 1) ⟨i.val, by omega⟩ e else 0
end

section
variable (X0 X1 X2 X3 : Arr) (b : Fin 2) (s c : ℕ)

/-- The gradients at position `s` and column `c` of the group's 512. -/
def outQ : ℝ := gq X0 X1 X2 X3 b (s % 4) (c / 64) (s / 512) ⟨s / 4 % 128, by omega⟩ ⟨c % 64, by omega⟩
def outK : ℝ := tk X0 X1 X2 X3 b (s % 4) (c / 64) (s / 512) ⟨s / 4 % 128, by omega⟩ ⟨c % 64, by omega⟩
def outV : ℝ := tv X0 X2 b (s % 4) (c / 64) (s / 512) ⟨s / 4 % 128, by omega⟩ ⟨c % 64, by omega⟩
end

end Cert.Att
-- ==== Proof.Att.Blocks.lean ====
module
public import proofs.«01_k».proof.Proof.Att.Lanes
public import proofs.«01_k».proof.Proof.Att.Spec
public import proofs.«01_k».proof.Proof.Att.Run
public import Idealize.ShloMosaic.Lib.Pipeline.ValueKit

/-! The blocks that the kernel's points compute, over the arrays' elements. -/

@[expose] public section
set_option maxRecDepth 16384
noncomputable section
namespace Cert.KernelIdeal.Att
open Cert.KernelIdeal Cert.KernelIdeal.Gen Cert.Att
open Idealize.ShloMosaic Idealize.ShloMosaic.TcCoe Idealize.SL.Sem

theorem idx0 : ∀ t : Fin cfg0.N, win0_0.index t = ![t.val / 20, min (t.val % 5) 3, 4 + t.val / 5 % 4] := by decide +kernel
theorem idx1 : ∀ t : Fin cfg0.N, win0_1.index t = ![t.val / 20, min (t.val % 5) 3 - 1, 16 + t.val / 5 % 4] := by decide +kernel
theorem idx2 : ∀ t : Fin cfg0.N, win0_2.index t = ![t.val / 20, min (t.val % 5) 3, 16 + t.val / 5 % 4] := by decide +kernel
theorem idx3 : ∀ t : Fin cfg0.N, win0_3.index t = ![t.val / 20, min (t.val % 5) 3 - 1, 28 + t.val / 5 % 4] := by decide +kernel
theorem idx4 : ∀ t : Fin cfg0.N, win0_4.index t = ![t.val / 20, min (t.val % 5) 3, 28 + t.val / 5 % 4] := by decide +kernel
theorem idx5 : ∀ t : Fin cfg0.N, win0_5.index t = ![t.val / 20, min (t.val % 5) 3, t.val / 5 % 4] := by decide +kernel
theorem idx6 : ∀ t : Fin cfg0.N, win0_6.index t = ![t.val / 20, min (t.val % 5) 3, t.val / 5 % 4] := by decide +kernel
theorem step_eq : ∀ t : Fin cfg0.N, step t = BitVec.ofNat 32 (t.val % 5) := by decide +kernel

/-- An array's elements by batch, position and column; nothing outside. -/
def rd {n1 n2 : ℕ} (f : (⟨3, ![2, n1, n2]⟩ : Shape).Idx → EReal) : Arr := fun b s c =>
  if h : s < n1 ∧ c < n2 then (f (ix3 b ⟨s, h.1⟩ ⟨c, h.2⟩)).toReal else 0

/-- Every element is a real. -/
def Fin3 {n1 n2 : ℕ} (f : (⟨3, ![2, n1, n2]⟩ : Shape).Idx → EReal) : Prop := ∀ i, f i = ((f i).toReal : EReal)

theorem rd_coe {n1 n2 : ℕ} {f : (⟨3, ![2, n1, n2]⟩ : Shape).Idx → EReal} (hf : Fin3 f) (b : Fin 2) (s c : ℕ)
    (i : (⟨3, ![2, n1, n2]⟩ : Shape).Idx) (h0 : (i 0).val = b.val) (h1 : (i 1).val = s) (h2 : (i 2).val = c) :
    f i = (rd f b s c : EReal) := by
  have b1 : (i 1).val < n1 := (i 1).isLt
  have b2 : (i 2).val < n2 := (i 2).isLt
  subst h1 h2
  unfold rd
  rw [dif_pos ⟨b1, b2⟩]
  have : (ix3 b ⟨(i 1).val, b1⟩ ⟨(i 2).val, b2⟩ : (⟨3, ![2, n1, n2]⟩ : Shape).Idx) = i := by
    funext a
    match a with
    | ⟨0, _⟩ => exact Fin.ext h0.symm
    | ⟨1, _⟩ => rfl
    | ⟨2, _⟩ => rfl
  rw [this]
  exact hf i

theorem rd_congr {n1 n2 : ℕ} (f : (⟨3, ![2, n1, n2]⟩ : Shape).Idx → EReal) (b : Fin 2) {s s' c c' : ℕ} (hs : s = s') (hc : c = c') :
    (rd f b s c : EReal) = (rd f b s' c' : EReal) := by rw [hs, hc]

variable (m : (ℓ : Loc nD τ sig) → Buf (Elt Ideal) ℓ) (c : Dev nD)

/-- The four arrays that the gradients are computed of. -/
def X0 : Arr := rd (n1 := 2048) (n2 := 3072) (m ((c : Thread nD τ).loc main_arg0))
def X1 : Arr := rd (n1 := 2048) (n2 := 12288) (m ((c : Thread nD τ).loc main_arg1))
def X2 : Arr := rd (n1 := 2048) (n2 := 512) (m ((c : Thread nD τ).loc main_arg2))
def X3 : Arr := rd (n1 := 2048) (n2 := 512) (m ((c : Thread nD τ).loc main_arg3))

/-- Their elements are reals. -/
structure Finite : Prop where
  f0 : Fin3 (n1 := 2048) (n2 := 3072) (m ((c : Thread nD τ).loc main_arg0))
  f1 : Fin3 (n1 := 2048) (n2 := 12288) (m ((c : Thread nD τ).loc main_arg1))
  f2 : Fin3 (n1 := 2048) (n2 := 512) (m ((c : Thread nD τ).loc main_arg2))
  f3 : Fin3 (n1 := 2048) (n2 := 512) (m ((c : Thread nD τ).loc main_arg3))

variable {m c} (hf : Finite m c)
include hf

/-! ## The blocks read -/

theorem blk0 (t : Fin cfg0.N) (b : Fin 2) (hb : b.val = t.val / 20) (y : S1x512x128.Idx) : iblk m c 0 t y
      = (X0 m c b (512 * min (t.val % 5) 3 + (y 1).val) (512 + 128 * (t.val / 5 % 4) + (y 2).val) : EReal) := by
  have y0 := (y 0).isLt
  simp at y0
  unfold iblk
  rw [show V m c (Pipeline.arrRef spec0 0) = _ from V_main_arg0 m c]
  refine rd_coe hf.f0 _ _ _ (((cfg0.win 0).blk t).view.emb y) ?_ ?_ ?_
  · blk_simp [idx0]; omega
  · blk_simp [idx0]; omega
  · blk_simp [idx0]; omega

theorem blk1 (t : Fin cfg0.N) (b : Fin 2) (hb : b.val = t.val / 20) (y : S1x512x128.Idx) : iblk m c 1 t y
      = (X0 m c b (512 * (min (t.val % 5) 3 - 1) + (y 1).val) (2048 + 128 * (t.val / 5 % 4) + (y 2).val) : EReal) := by
  have y0 := (y 0).isLt
  simp at y0
  unfold iblk
  rw [show V m c (Pipeline.arrRef spec0 1) = _ from V_main_arg0 m c]
  refine rd_coe hf.f0 _ _ _ (((cfg0.win 1).blk t).view.emb y) ?_ ?_ ?_
  · blk_simp [idx1]; omega
  · blk_simp [idx1]; omega
  · blk_simp [idx1]; omega

theorem blk2 (t : Fin cfg0.N) (b : Fin 2) (hb : b.val = t.val / 20) (y : S1x512x128.Idx) : iblk m c 2 t y
      = (X0 m c b (512 * min (t.val % 5) 3 + (y 1).val) (2048 + 128 * (t.val / 5 % 4) + (y 2).val) : EReal) := by
  have y0 := (y 0).isLt
  simp at y0
  unfold iblk
  rw [show V m c (Pipeline.arrRef spec0 2) = _ from V_main_arg0 m c]
  refine rd_coe hf.f0 _ _ _ (((cfg0.win 2).blk t).view.emb y) ?_ ?_ ?_
  · blk_simp [idx2]; omega
  · blk_simp [idx2]; omega
  · blk_simp [idx2]; omega

theorem blk3 (t : Fin cfg0.N) (b : Fin 2) (hb : b.val = t.val / 20) (y : S1x512x128.Idx) : iblk m c 3 t y
      = (X1 m c b (512 * (min (t.val % 5) 3 - 1) + (y 1).val) (3584 + 128 * (t.val / 5 % 4) + (y 2).val) : EReal) := by
  have y0 := (y 0).isLt
  simp at y0
  unfold iblk
  rw [show V m c (Pipeline.arrRef spec0 3) = _ from V_main_arg1 m c]
  refine rd_coe hf.f1 _ _ _ (((cfg0.win 3).blk t).view.emb y) ?_ ?_ ?_
  · blk_simp [idx3]; omega
  · blk_simp [idx3]; omega
  · blk_simp [idx3]; omega

theorem blk4 (t : Fin cfg0.N) (b : Fin 2) (hb : b.val = t.val / 20) (y : S1x512x128.Idx) : iblk m c 4 t y
      = (X1 m c b (512 * min (t.val % 5) 3 + (y 1).val) (3584 + 128 * (t.val / 5 % 4) + (y 2).val) : EReal) := by
  have y0 := (y 0).isLt
  simp at y0
  unfold iblk
  rw [show V m c (Pipeline.arrRef spec0 4) = _ from V_main_arg1 m c]
  refine rd_coe hf.f1 _ _ _ (((cfg0.win 4).blk t).view.emb y) ?_ ?_ ?_
  · blk_simp [idx4]; omega
  · blk_simp [idx4]; omega
  · blk_simp [idx4]; omega

theorem blk5 (t : Fin cfg0.N) (b : Fin 2) (hb : b.val = t.val / 20) (y : S1x512x128.Idx) : iblk m c 5 t y
      = (X2 m c b (512 * min (t.val % 5) 3 + (y 1).val) (128 * (t.val / 5 % 4) + (y 2).val) : EReal) := by
  have y0 := (y 0).isLt
  simp at y0
  unfold iblk
  rw [show V m c (Pipeline.arrRef spec0 5) = _ from V_main_arg2 m c]
  refine rd_coe hf.f2 _ _ _ (((cfg0.win 5).blk t).view.emb y) ?_ ?_ ?_
  · blk_simp [idx5]; omega
  · blk_simp [idx5]; omega
  · blk_simp [idx5]; omega

theorem blk6 (t : Fin cfg0.N) (b : Fin 2) (hb : b.val = t.val / 20) (y : S1x512x128.Idx) : iblk m c 6 t y
      = (X3 m c b (512 * min (t.val % 5) 3 + (y 1).val) (128 * (t.val / 5 % 4) + (y 2).val) : EReal) := by
  have y0 := (y 0).isLt
  simp at y0
  unfold iblk
  rw [show V m c (Pipeline.arrRef spec0 6) = _ from V_main_arg3 m c]
  refine rd_coe hf.f3 _ _ _ (((cfg0.win 6).blk t).view.emb y) ?_ ?_ ?_
  · blk_simp [idx6]; omega
  · blk_simp [idx6]; omega
  · blk_simp [idx6]; omega

/-! ## The rows of a residue -/

/-- Where the keys and values that a trip reads lie: the block before (at the first block, itself) and this one. -/
def kpos (n : ℕ) (j : Fin 256) : ℕ := if j.val < 128 then (n - 1) * 128 + j.val else n * 128 + j.val - 128

omit hf in
/-- The rows a trip at point `t` and residue `r` works on. -/
def insAt (m : (ℓ : Loc nD τ sig) → Buf (Elt Ideal) ℓ) (c : Dev nD) (t : Fin cfg0.N) (r : Fin 4) : Ins Ideal :=
  insOf (step t) (iblk m c 0 t) (iblk m c 1 t) (iblk m c 2 t) (iblk m c 3 t) (iblk m c 4 t) (iblk m c 5 t) (iblk m c 6 t) r

theorem reads (t : Fin cfg0.N) (r : Fin 4) (b : Fin 2) (hb : b.val = t.val / 20) (p n : ℕ) (hp : p = t.val / 5 % 4)
    (hn : n = t.val % 5) (hn4 : n < 4) :
    Reads (insAt m c t r) n
      (fun a l => X0 m c b ((n * 128 + a.val) * 4 + r.val) (512 + 128 * p + l.val))
      (fun j l => X0 m c b (kpos n j * 4 + r.val) (2048 + 128 * p + l.val))
      (fun j l => X1 m c b (kpos n j * 4 + r.val) (3584 + 128 * p + l.val))
      (fun a l => X2 m c b ((n * 128 + a.val) * 4 + r.val) (128 * p + l.val))
      (fun a l => X3 m c b ((n * 128 + a.val) * 4 + r.val) (128 * p + l.val)) := by
  subst hp hn
  refine ⟨by omega, step_eq t, fun a l => ?_, fun a l h => ?_, fun a l h h' => ?_, fun a l h => ?_, fun a l h h' => ?_,
    fun a l => ?_, fun a l => ?_⟩
  · exact (blk0 hf t b hb _).trans (rd_congr _ _ (by simp [ValueIdx.ix3, ix3]; omega) (by simp [ValueIdx.ix3, ix3]))
  · exact (blk1 hf t b hb _).trans (rd_congr _ _ (by simp [ValueIdx.ix3, ix3, kpos, h]; omega) (by simp [ValueIdx.ix3, ix3]))
  · exact (blk2 hf t b hb _).trans (rd_congr _ _ (by simp [ValueIdx.ix3, ix3, kpos, show ¬ a.val < 128 by omega]; omega) (by simp [ValueIdx.ix3, ix3]))
  · exact (blk3 hf t b hb _).trans (rd_congr _ _ (by simp [ValueIdx.ix3, ix3, kpos, h]; omega) (by simp [ValueIdx.ix3, ix3]))
  · exact (blk4 hf t b hb _).trans (rd_congr _ _ (by simp [ValueIdx.ix3, ix3, kpos, show ¬ a.val < 128 by omega]; omega) (by simp [ValueIdx.ix3, ix3]))
  · exact (blk5 hf t b hb _).trans (rd_congr _ _ (by simp [ValueIdx.ix3, ix3]; omega) (by simp [ValueIdx.ix3, ix3]))
  · exact (blk6 hf t b hb _).trans (rd_congr _ _ (by simp [ValueIdx.ix3, ix3]; omega) (by simp [ValueIdx.ix3, ix3]))

end Cert.KernelIdeal.Att
-- ==== Proof.Att.Out.lean ====
module
public import proofs.«01_k».proof.Proof.Att.Blocks

/-! The three result arrays after the kernel's run, over the arrays' elements. -/

@[expose] public section
set_option maxRecDepth 16384
noncomputable section
namespace Cert.KernelIdeal.Att
open Cert.KernelIdeal Cert.KernelIdeal.Gen Cert.Att
open Idealize.ShloMosaic Idealize.ShloMosaic.TcCoe Idealize.SL.Sem

variable {m : (ℓ : Loc nD τ sig) → Buf (Elt Ideal) ℓ} {c : Dev nD} (hf : Finite m c)

section
variable (m c) (b : Fin 2) (r p n : ℕ) (h : Fin 2)

/-! The rows a trip reads, a head's lanes of them. -/
def qa (a l : Fin 128) : ℝ := X0 m c b ((n * 128 + a.val) * 4 + r) (512 + 128 * p + l.val)
def ka (j : Fin 256) (l : Fin 128) : ℝ := X0 m c b (kpos n j * 4 + r) (2048 + 128 * p + l.val)
def va (j : Fin 256) (l : Fin 128) : ℝ := X1 m c b (kpos n j * 4 + r) (3584 + 128 * p + l.val)
def ca (a l : Fin 128) : ℝ := X2 m c b ((n * 128 + a.val) * 4 + r) (128 * p + l.val)
def la (a l : Fin 128) : ℝ := X3 m c b ((n * 128 + a.val) * 4 + r) (128 * p + l.val)

theorem hd_qa : hd h (qa m c b r p n) = sqy (X0 m c) b r (2 * p + h.val) n := by
  funext i e; unfold hd qa sqy lane2; congr 1; dsimp only; omega
theorem hd_ca : hd h (ca m c b r p n) = sco (X2 m c) b r (2 * p + h.val) n := by
  funext i e; unfold hd ca sco lane2; congr 1; dsimp only; omega
theorem hd_la : hd h (la m c b r p n) = scl (X3 m c) b r (2 * p + h.val) n := by
  funext i e; unfold hd la scl lane2; congr 1; dsimp only; omega

theorem hd_ka (i : Fin 128) (j : Fin 256) (ok : att n i j) : hd h (ka m c b r p n) j = sk (X0 m c) b r (2 * p + h.val) n j := by
  funext e
  unfold att at ok
  unfold hd ka sk lane2 kpos
  rw [if_neg (show ¬ (n * 128 + j.val < 128) by rcases ok with ⟨-, -, o | o⟩ <;> omega)]
  congr 1
  · split
    · have : n ≠ 0 := by rcases ok with ⟨-, -, o | o⟩ <;> omega
      omega
    · rfl
  · dsimp only; omega

theorem hd_va (i : Fin 128) (j : Fin 256) (ok : att n i j) : hd h (va m c b r p n) j = sv (X1 m c) b r (2 * p + h.val) n j := by
  funext e
  unfold att at ok
  unfold hd va sv lane2 kpos
  rw [if_neg (show ¬ (n * 128 + j.val < 128) by rcases ok with ⟨-, -, o | o⟩ <;> omega)]
  congr 1
  · split
    · have : n ≠ 0 := by rcases ok with ⟨-, -, o | o⟩ <;> omega
      omega
    · rfl
  · dsimp only; omega

theorem gq_eq : dquery (att n) (hd h (qa m c b r p n)) (hd h (ka m c b r p n)) (hd h (va m c b r p n))
    (hd h (ca m c b r p n)) (fun i => ∑ e, hd h (la m c b r p n) i e)
      = gq (X0 m c) (X1 m c) (X2 m c) (X3 m c) b r (2 * p + h.val) n := by
  rw [hd_qa, hd_ca, hd_la]
  exact dquery_congr (att n) _ _ _ (hd_ka m c b r p n h) (hd_va m c b r p n h)

theorem gk_eq : dkey (att n) (hd h (qa m c b r p n)) (hd h (ka m c b r p n)) (hd h (va m c b r p n))
    (hd h (ca m c b r p n)) (fun i => ∑ e, hd h (la m c b r p n) i e)
      = gk (X0 m c) (X1 m c) (X2 m c) (X3 m c) b r (2 * p + h.val) n := by
  rw [hd_qa, hd_ca, hd_la]
  unfold gk
  funext j e
  unfold dkey
  rw [dscore_congr (att n) _ _ _ (hd_ka m c b r p n h) (hd_va m c b r p n h)]

theorem gv_eq : dvalue (att n) (hd h (qa m c b r p n)) (hd h (ka m c b r p n)) (hd h (ca m c b r p n))
      = gv (X0 m c) (X2 m c) b r (2 * p + h.val) n := by
  rw [hd_qa, hd_ca]
  unfold gv
  funext j e
  unfold dvalue
  rw [prob_congr (att n) _ (hd_ka m c b r p n h)]
end

/-- A lane is its head's. -/
theorem lane2_eq (l : Fin 128) : l = lane2 ⟨l.val / 64, by omega⟩ ⟨l.val % 64, by omega⟩ := by
  apply Fin.ext; simp only [lane2]; omega

include hf

section
variable (t : Fin cfg0.N) (r : Fin 4) (b : Fin 2) (hb : b.val = t.val / 20) (p n : ℕ) (hp : p = t.val / 5 % 4)
    (hn : n = t.val % 5) (hn4 : n < 4)
include hb hp hn hn4

theorem reads' : Reads (insAt m c t r) n (qa m c b r.val p n) (ka m c b r.val p n) (va m c b r.val p n)
    (ca m c b r.val p n) (la m c b r.val p n) := reads hf t r b hb p n hp hn hn4

theorem dq_ins (a l : Fin 128) : (insAt m c t r).dq (ix3 0 a l)
    = (gq (X0 m c) (X1 m c) (X2 m c) (X3 m c) b r.val (2 * p + l.val / 64) n a ⟨l.val % 64, by omega⟩ : EReal) := by
  have h := dq_at (reads' hf t r b hb p n hp hn hn4) a (lane2 ⟨l.val / 64, by omega⟩ ⟨l.val % 64, by omega⟩)
  rw [dquery_lanes, gq_eq, ← lane2_eq] at h
  exact h

theorem dkPrev_ins (C) (a l : Fin 128) : (insAt m c t r).dkPrev C (ix3 0 a l)
    = C (ix2 a l) + (gk (X0 m c) (X1 m c) (X2 m c) (X3 m c) b r.val (2 * p + l.val / 64) n ⟨a.val, by omega⟩ ⟨l.val % 64, by omega⟩ : EReal) := by
  have h := dkPrev_at (reads' hf t r b hb p n hp hn hn4) C a (lane2 ⟨l.val / 64, by omega⟩ ⟨l.val % 64, by omega⟩)
  rw [dkey_lanes, gk_eq, ← lane2_eq] at h
  exact h

theorem dvPrev_ins (C) (a l : Fin 128) : (insAt m c t r).dvPrev C (ix3 0 a l)
    = C (ix2 a l) + (gv (X0 m c) (X2 m c) b r.val (2 * p + l.val / 64) n ⟨a.val, by omega⟩ ⟨l.val % 64, by omega⟩ : EReal) := by
  have h := dvPrev_at (reads' hf t r b hb p n hp hn hn4) C a (lane2 ⟨l.val / 64, by omega⟩ ⟨l.val % 64, by omega⟩)
  rw [dvalue_lanes, gv_eq, ← lane2_eq] at h
  exact h

theorem dkCur_ins (a l : Fin 128) : (insAt m c t r).dkCur (ix2 a l)
    = (gk (X0 m c) (X1 m c) (X2 m c) (X3 m c) b r.val (2 * p + l.val / 64) n ⟨128 + a.val, by omega⟩ ⟨l.val % 64, by omega⟩ : EReal) := by
  have h := dkCur_at (reads' hf t r b hb p n hp hn hn4) a (lane2 ⟨l.val / 64, by omega⟩ ⟨l.val % 64, by omega⟩)
  rw [dkey_lanes, gk_eq, ← lane2_eq] at h
  exact h

theorem dvCur_ins (a l : Fin 128) : (insAt m c t r).dvCur (ix2 a l)
    = (gv (X0 m c) (X2 m c) b r.val (2 * p + l.val / 64) n ⟨128 + a.val, by omega⟩ ⟨l.val % 64, by omega⟩ : EReal) := by
  have h := dvCur_at (reads' hf t r b hb p n hp hn hn4) a (lane2 ⟨l.val / 64, by omega⟩ ⟨l.val % 64, by omega⟩)
  rw [dvalue_lanes, gv_eq, ← lane2_eq] at h
  exact h

/-- The queries' gradient block of a point. -/
theorem DQ_at (y : S1x512x128.Idx) : DQ m c t y
    = (outQ (X0 m c) (X1 m c) (X2 m c) (X3 m c) b (512 * n + (y 1).val) (128 * p + (y 2).val) : EReal) := by
  have h1 : (y 1).val < 512 := (y 1).isLt
  have h2 : (y 2).val < 128 := (y 2).isLt
  have h := dq_ins hf t (res y) b hb p n hp hn hn4 ⟨(y 1).val / 4, by omega⟩ ⟨(y 2).val, h2⟩
  have e : DQ m c t y = (insAt m c t (res y)).dq (ix3 0 ⟨(y 1).val / 4, by omega⟩ ⟨(y 2).val, h2⟩) := by
    rw [ix3_eq_valueIdx]; rfl
  rw [e, h]
  unfold outQ
  have a1 : (512 * n + (y 1).val) % 4 = (y 1).val % 4 := by omega
  have a2 : (128 * p + (y 2).val) / 64 = 2 * p + (y 2).val / 64 := by omega
  have a3 : (512 * n + (y 1).val) / 512 = n := by omega
  have a4 : (512 * n + (y 1).val) / 4 % 128 = (y 1).val / 4 := by omega
  have a5 : (128 * p + (y 2).val) % 64 = (y 2).val % 64 := by omega
  simp only [a1, a2, a3, a4, a5]; rfl

theorem CK_at (y : S512x128.Idx) : CK m c t y
    = (gk (X0 m c) (X1 m c) (X2 m c) (X3 m c) b ((y 0).val % 4) (2 * p + (y 1).val / 64) n
        ⟨128 + (y 0).val / 4, by have : (y 0).val < 512 := (y 0).isLt; omega⟩ ⟨(y 1).val % 64, by omega⟩ : EReal) := by
  have h1 : (y 0).val < 512 := (y 0).isLt
  have h := dkCur_ins hf t (res₂ y) b hb p n hp hn hn4 ⟨(y 0).val / 4, by omega⟩ ⟨(y 1).val, (y 1).isLt⟩
  have e : CK m c t y = (insAt m c t (res₂ y)).dkCur (ix2 ⟨(y 0).val / 4, by omega⟩ ⟨(y 1).val, (y 1).isLt⟩) := by
    rw [ix2_eq_valueIdx]; rfl
  rw [e, h]; rfl

theorem CV_at (y : S512x128.Idx) : CV m c t y
    = (gv (X0 m c) (X2 m c) b ((y 0).val % 4) (2 * p + (y 1).val / 64) n
        ⟨128 + (y 0).val / 4, by have : (y 0).val < 512 := (y 0).isLt; omega⟩ ⟨(y 1).val % 64, by omega⟩ : EReal) := by
  have h1 : (y 0).val < 512 := (y 0).isLt
  have h := dvCur_ins hf t (res₂ y) b hb p n hp hn hn4 ⟨(y 0).val / 4, by omega⟩ ⟨(y 1).val, (y 1).isLt⟩
  have e : CV m c t y = (insAt m c t (res₂ y)).dvCur (ix2 ⟨(y 0).val / 4, by omega⟩ ⟨(y 1).val, (y 1).isLt⟩) := by
    rw [ix2_eq_valueIdx]; rfl
  rw [e, h]; rfl
end

section
variable (t : Fin cfg0.N) (b : Fin 2) (hb : b.val = t.val / 20) (p n : ℕ) (hp : p = t.val / 5 % 4)
    (hn : t.val % 5 = n + 1)
include hb hp hn

/-- The carried blocks at a residue's rows. -/
theorem CK_rows (r : Fin 4) (a l : Fin 128) : rows₂ (CK m c (prev t)) r (ix2 a l)
    = (gk (X0 m c) (X1 m c) (X2 m c) (X3 m c) b r.val (2 * p + l.val / 64) n ⟨128 + a.val, by omega⟩ ⟨l.val % 64, by omega⟩ : EReal) := by
  have h := CK_at hf (prev t) b (by simp only [prev]; omega) p n (by simp only [prev]; omega) (by simp only [prev]; omega) (by omega)
    (ix2 ⟨r.val + 4 * a.val, by omega⟩ l)
  have e : rows₂ (CK m c (prev t)) r (ix2 a l) = CK m c (prev t) (ix2 ⟨r.val + 4 * a.val, by omega⟩ l) := by
    rw [ix2_eq_valueIdx, ix2_eq_valueIdx]; rfl
  rw [e, h]
  have a1 : (r.val + 4 * a.val) % 4 = r.val := by omega
  have a2 : (r.val + 4 * a.val) / 4 = a.val := by omega
  simp only [ix2, a1, a2]

theorem CV_rows (r : Fin 4) (a l : Fin 128) : rows₂ (CV m c (prev t)) r (ix2 a l)
    = (gv (X0 m c) (X2 m c) b r.val (2 * p + l.val / 64) n ⟨128 + a.val, by omega⟩ ⟨l.val % 64, by omega⟩ : EReal) := by
  have h := CV_at hf (prev t) b (by simp only [prev]; omega) p n (by simp only [prev]; omega) (by simp only [prev]; omega) (by omega)
    (ix2 ⟨r.val + 4 * a.val, by omega⟩ l)
  have e : rows₂ (CV m c (prev t)) r (ix2 a l) = CV m c (prev t) (ix2 ⟨r.val + 4 * a.val, by omega⟩ l) := by
    rw [ix2_eq_valueIdx, ix2_eq_valueIdx]; rfl
  rw [e, h]
  have a1 : (r.val + 4 * a.val) % 4 = r.val := by omega
  have a2 : (r.val + 4 * a.val) / 4 = a.val := by omega
  simp only [ix2, a1, a2]

/-- The block before's keys' gradient, as a point writes it. -/
theorem out8_at (y : S1x512x128.Idx) : out8 m c t y
    = (outK (X0 m c) (X1 m c) (X2 m c) (X3 m c) b (512 * n + (y 1).val) (128 * p + (y 2).val) : EReal) := by
  have h1 : (y 1).val < 512 := (y 1).isLt
  have h2 : (y 2).val < 128 := (y 2).isLt
  have a1 : (512 * n + (y 1).val) % 4 = (y 1).val % 4 := by omega
  have a2 : (128 * p + (y 2).val) / 64 = 2 * p + (y 2).val / 64 := by omega
  have a3 : (512 * n + (y 1).val) / 512 = n := by omega
  have a4 : (512 * n + (y 1).val) / 4 % 128 = (y 1).val / 4 := by omega
  have a5 : (128 * p + (y 2).val) % 64 = (y 2).val % 64 := by omega
  have hc := CK_rows hf t b hb p n hp hn (res y) ⟨(y 1).val / 4, by omega⟩ ⟨(y 2).val, h2⟩
  unfold out8 outK tk
  simp only [a1, a2, a3, a4, a5]
  split
  · have hn3 : ¬ n < 3 := by omega
    rw [if_neg hn3, add_zero]
    have e : dkL (CK m c (prev t)) y = rows₂ (CK m c (prev t)) (res y) (ix2 ⟨(y 1).val / 4, by omega⟩ ⟨(y 2).val, h2⟩) := by
      have : dkL (CK m c (prev t)) y = k0_pay2 (rows₂ (CK m c (prev t)) (res y)) (ix3 0 ⟨(y 1).val / 4, by omega⟩ ⟨(y 2).val, h2⟩) := by
        rw [ix3_eq_valueIdx]; rfl
      rw [this]
      pointwise [k0_pay2]
    rw [e, hc]; rfl
  · have hn3 : n < 3 := by omega
    rw [if_pos hn3, EReal.coe_add]
    have h := dkPrev_ins hf t (res y) b hb p (n + 1) hp hn.symm (by omega) (rows₂ (CK m c (prev t)) (res y)) ⟨(y 1).val / 4, by omega⟩ ⟨(y 2).val, h2⟩
    have e : DK m c t y = (insAt m c t (res y)).dkPrev (rows₂ (CK m c (prev t)) (res y)) (ix3 0 ⟨(y 1).val / 4, by omega⟩ ⟨(y 2).val, h2⟩) := by
      rw [ix3_eq_valueIdx]; rfl
    rw [e, h, hc]; rfl

theorem out9_at (y : S1x512x128.Idx) : out9 m c t y
    = (outV (X0 m c) (X2 m c) b (512 * n + (y 1).val) (128 * p + (y 2).val) : EReal) := by
  have h1 : (y 1).val < 512 := (y 1).isLt
  have h2 : (y 2).val < 128 := (y 2).isLt
  have a1 : (512 * n + (y 1).val) % 4 = (y 1).val % 4 := by omega
  have a2 : (128 * p + (y 2).val) / 64 = 2 * p + (y 2).val / 64 := by omega
  have a3 : (512 * n + (y 1).val) / 512 = n := by omega
  have a4 : (512 * n + (y 1).val) / 4 % 128 = (y 1).val / 4 := by omega
  have a5 : (128 * p + (y 2).val) % 64 = (y 2).val % 64 := by omega
  have hc := CV_rows hf t b hb p n hp hn (res y) ⟨(y 1).val / 4, by omega⟩ ⟨(y 2).val, h2⟩
  unfold out9 outV tv
  simp only [a1, a2, a3, a4, a5]
  split
  · have hn3 : ¬ n < 3 := by omega
    rw [if_neg hn3, add_zero]
    have e : dvL (CV m c (prev t)) y = rows₂ (CV m c (prev t)) (res y) (ix2 ⟨(y 1).val / 4, by omega⟩ ⟨(y 2).val, h2⟩) := by
      have : dvL (CV m c (prev t)) y = k0_pay3 (rows₂ (CV m c (prev t)) (res y)) (ix3 0 ⟨(y 1).val / 4, by omega⟩ ⟨(y 2).val, h2⟩) := by
        rw [ix3_eq_valueIdx]; rfl
      rw [this]
      pointwise [k0_pay3]
    rw [e, hc]; rfl
  · have hn3 : n < 3 := by omega
    rw [if_pos hn3, EReal.coe_add]
    have h := dvPrev_ins hf t (res y) b hb p (n + 1) hp hn.symm (by omega) (rows₂ (CV m c (prev t)) (res y)) ⟨(y 1).val / 4, by omega⟩ ⟨(y 2).val, h2⟩
    have e : DV m c t y = (insAt m c t (res y)).dvPrev (rows₂ (CV m c (prev t)) (res y)) (ix3 0 ⟨(y 1).val / 4, by omega⟩ ⟨(y 2).val, h2⟩) := by
      rw [ix3_eq_valueIdx]; rfl
    rw [e, h, hc]; rfl
end

theorem out7_at (t : Fin cfg0.N) (b : Fin 2) (hb : b.val = t.val / 20) (p : ℕ) (hp : p = t.val / 5 % 4) (y : S1x512x128.Idx) :
    out7 m c t y = (outQ (X0 m c) (X1 m c) (X2 m c) (X3 m c) b (512 * min (t.val % 5) 3 + (y 1).val) (128 * p + (y 2).val) : EReal) := by
  unfold out7
  split
  · have := DQ_at hf (prev t) b (by simp only [prev]; omega) p 3 (by simp only [prev]; omega) (by simp only [prev]; omega) (by omega) y
    rw [this, show min (t.val % 5) 3 = 3 by omega]
  · have := DQ_at hf t b hb p (t.val % 5) hp rfl (by omega) y
    rw [this, show min (t.val % 5) 3 = t.val % 5 by omega]

/-! ## The arrays -/

omit hf in
theorem idx7 : ∀ t : Fin cfg0.N, win0_7.index t = ![t.val / 20, min (t.val % 5) 3, 4 + t.val / 5 % 4] := by decide +kernel
omit hf in
theorem idx8 : ∀ t : Fin cfg0.N, win0_8.index t = ![t.val / 20, t.val % 5 - 1, 4 + t.val / 5 % 4] := by decide +kernel
omit hf in
theorem idx9 : ∀ t : Fin cfg0.N, win0_9.index t = ![t.val / 20, t.val % 5 - 1, 4 + t.val / 5 % 4] := by decide +kernel

theorem arr7 : (dats m 0 c).arrAt 7 cfg0.N = fun i : S2x2048x1536.Idx =>
    if 512 ≤ (i 2).val ∧ (i 2).val < 1024 then
      (outQ (X0 m c) (X1 m c) (X2 m c) (X3 m c) (i 0) (i 1).val ((i 2).val - 512) : EReal)
    else (dats m 0 c).A 7 i := by
  refine (dats m 0 c).arrAt_eq_of_coversWhere 7 (fun i : S2x2048x1536.Idx =>
      (outQ (X0 m c) (X1 m c) (X2 m c) (X3 m c) (i 0) (i 1).val ((i 2).val - 512) : EReal))
    (fun β => 4 ≤ β (2 : Fin 3) ∧ β (2 : Fin 3) < 8) (by decide +kernel) (fun t hfl y => ?_)
    (fun j => by blk_simp [Pipeline.Window.cell_apply]; omega)
  have hN : t.val < 40 := Nat.lt_of_lt_of_eq t.isLt N_0
  have y0 : (y 0).val < 1 := (y 0).isLt
  have hfl' : _ := hfl
  rw [flush7] at hfl'
  simp only [decide_eq_true_eq] at hfl'
  have e0 : ((((cfg0.win 7).blk t).view.emb y) 0).val = t.val / 20 := by blk_simp [idx7]
  have e1 : ((((cfg0.win 7).blk t).view.emb y) 1).val = 512 * min (t.val % 5) 3 + (y 1).val := by blk_simp [idx7]; omega
  have e2 : ((((cfg0.win 7).blk t).view.emb y) 2).val = 512 + 128 * (t.val / 5 % 4) + (y 2).val := by blk_simp [idx7]; omega
  have h := out7_at hf t ((((cfg0.win 7).blk t).view.emb y) 0) e0 (t.val / 5 % 4) rfl y
  refine Eq.trans (b := out7 m c t y) ?_ (h.trans ?_)
  · blk_simp; rfl
  · dsimp only
    rw [e1, e2, show 512 + 128 * (t.val / 5 % 4) + (y 2).val - 512 = 128 * (t.val / 5 % 4) + (y 2).val by omega]

theorem arr8 : (dats m 0 c).arrAt 8 cfg0.N = fun i : S2x2048x1536.Idx =>
    if 512 ≤ (i 2).val ∧ (i 2).val < 1024 then
      (outK (X0 m c) (X1 m c) (X2 m c) (X3 m c) (i 0) (i 1).val ((i 2).val - 512) : EReal)
    else (dats m 0 c).A 8 i := by
  refine (dats m 0 c).arrAt_eq_of_coversWhere 8 (fun i : S2x2048x1536.Idx =>
      (outK (X0 m c) (X1 m c) (X2 m c) (X3 m c) (i 0) (i 1).val ((i 2).val - 512) : EReal))
    (fun β => 4 ≤ β (2 : Fin 3) ∧ β (2 : Fin 3) < 8) (by decide +kernel) (fun t hfl y => ?_)
    (fun j => by blk_simp [Pipeline.Window.cell_apply]; omega)
  have hN : t.val < 40 := Nat.lt_of_lt_of_eq t.isLt N_0
  have y0 : (y 0).val < 1 := (y 0).isLt
  have hfl' : _ := hfl
  rw [flush8] at hfl'
  simp only [decide_eq_true_eq] at hfl'
  have e0 : ((((cfg0.win 8).blk t).view.emb y) 0).val = t.val / 20 := by blk_simp [idx8]
  have e1 : ((((cfg0.win 8).blk t).view.emb y) 1).val = 512 * (t.val % 5 - 1) + (y 1).val := by blk_simp [idx8]; omega
  have e2 : ((((cfg0.win 8).blk t).view.emb y) 2).val = 512 + 128 * (t.val / 5 % 4) + (y 2).val := by blk_simp [idx8]; omega
  have h := out8_at hf t ((((cfg0.win 8).blk t).view.emb y) 0) e0 (t.val / 5 % 4) (t.val % 5 - 1) rfl (by omega) y
  refine Eq.trans (b := out8 m c t y) ?_ (h.trans ?_)
  · blk_simp; rfl
  · dsimp only
    rw [e1, e2, show 512 + 128 * (t.val / 5 % 4) + (y 2).val - 512 = 128 * (t.val / 5 % 4) + (y 2).val by omega]

theorem arr9 : (dats m 0 c).arrAt 9 cfg0.N = fun i : S2x2048x1536.Idx =>
    if 512 ≤ (i 2).val ∧ (i 2).val < 1024 then
      (outV (X0 m c) (X2 m c) (i 0) (i 1).val ((i 2).val - 512) : EReal)
    else (dats m 0 c).A 9 i := by
  refine (dats m 0 c).arrAt_eq_of_coversWhere 9 (fun i : S2x2048x1536.Idx =>
      (outV (X0 m c) (X2 m c) (i 0) (i 1).val ((i 2).val - 512) : EReal))
    (fun β => 4 ≤ β (2 : Fin 3) ∧ β (2 : Fin 3) < 8) (by decide +kernel) (fun t hfl y => ?_)
    (fun j => by blk_simp [Pipeline.Window.cell_apply]; omega)
  have hN : t.val < 40 := Nat.lt_of_lt_of_eq t.isLt N_0
  have y0 : (y 0).val < 1 := (y 0).isLt
  have hfl' : _ := hfl
  rw [flush9] at hfl'
  simp only [decide_eq_true_eq] at hfl'
  have e0 : ((((cfg0.win 9).blk t).view.emb y) 0).val = t.val / 20 := by blk_simp [idx9]
  have e1 : ((((cfg0.win 9).blk t).view.emb y) 1).val = 512 * (t.val % 5 - 1) + (y 1).val := by blk_simp [idx9]; omega
  have e2 : ((((cfg0.win 9).blk t).view.emb y) 2).val = 512 + 128 * (t.val / 5 % 4) + (y 2).val := by blk_simp [idx9]; omega
  have h := out9_at hf t ((((cfg0.win 9).blk t).view.emb y) 0) e0 (t.val / 5 % 4) (t.val % 5 - 1) rfl (by omega) y
  refine Eq.trans (b := out9 m c t y) ?_ (h.trans ?_)
  · blk_simp; rfl
  · dsimp only
    rw [e1, e2, show 512 + 128 * (t.val / 5 % 4) + (y 2).val - 512 = 128 * (t.val / 5 % 4) + (y 2).val by omega]

/-! ## The run's arrays -/

omit hf in
/-- A result's array with the group's columns replaced by `g`. -/
def put (f : S2x2048x1536.Idx → EReal) (g : Fin 2 → ℕ → ℕ → ℝ) : S2x2048x1536.Idx → EReal := fun i =>
  if 512 ≤ (i 2).val ∧ (i 2).val < 1024 then (g (i 0) (i 1).val ((i 2).val - 512) : EReal) else f i

theorem final7 : (dats m 0 c).arrAt 7 cfg0.N = put (m ((c : Thread nD τ).loc main_arg4)) (outQ (X0 m c) (X1 m c) (X2 m c) (X3 m c)) := by
  rw [arr7 hf]
  rfl
theorem final8 : (dats m 0 c).arrAt 8 cfg0.N = put (m ((c : Thread nD τ).loc main_arg5)) (outK (X0 m c) (X1 m c) (X2 m c) (X3 m c)) := by
  rw [arr8 hf]
  rfl
theorem final9 : (dats m 0 c).arrAt 9 cfg0.N = put (m ((c : Thread nD τ).loc main_arg6)) (outV (X0 m c) (X2 m c)) := by
  rw [arr9 hf]
  rfl
end Cert.KernelIdeal.Att
-- ==== Proof.Att.Ref.lean ====
module
public import proofs.«01_k».proof.Proof.Gen.ReferenceIdeal.Run
public import proofs.«01_k».proof.Proof.Att.Out
public import Idealize.ShloMosaic.Lib.Pointwise

/-! The reference's results over the extended reals, in named pieces: blocks, the keys with the block before, the
    mask, the scores, the softmax, and the gradients. -/

@[expose] public section
set_option maxRecDepth 16384
noncomputable section
namespace Cert.ReferenceIdeal.Att
open Cert.ReferenceIdeal Cert.ReferenceIdeal.Gen
open Cert.Att
open Cert.KernelIdeal.Att (att att_self toInt_rel ofBits_eighth ofBits_neg_inf put)
open Idealize.ShloMosaic Idealize.ShloMosaic.TcCoe Idealize.SL.Sem

abbrev V (s : Shape) := FVec Ideal s .f32

/-- Rows of positions cut into residues, heads and blocks. -/
def blocks (x : V S2x2048x512) : V S2x4x8x4x128x64 :=
  shapeCast _ (transpose S2x4x8x512x64 [0, 2, 3, 1, 4]
    (shapeCast _ (shapeCast _ x shapeCasts_S2x2048x512_S2x2048x8x64) shapeCasts_S2x2048x8x64_S2x512x4x8x64)
    transposes_S2x512x4x8x64_S2x4x8x512x64_0_2_3_1_4) shapeCasts_S2x4x8x512x64_S2x4x8x4x128x64

/-- Each block after the block before it, zeros before the first. -/
def withPrev (x : V S2x4x8x4x128x64) : V S2x4x8x4x256x64 :=
  concatenate S2x4x8x4x256x64 4 [⟨S2x4x8x4x128x64,
    concatenate S2x4x8x4x128x64 3 [⟨S2x4x8x1x128x64,
      broadcastInDim S2x4x8x1x128x64 ![] bcast_S_S2x4x8x1x128x64 (constant S_ .f32 0x00000000#32)⟩,
      ⟨S2x4x8x3x128x64, extractStridedSlice S2x4x8x3x128x64 ![0, 0, 0, 0, 0, 0] x
        slices_S2x4x8x4x128x64_S2x4x8x3x128x64_0_0_0_0_0_0⟩]
      concatenates_S2x4x8x1x128x64_S2x4x8x3x128x64_S2x4x8x4x128x64_d3⟩, ⟨S2x4x8x4x128x64, x⟩]
    concatenates_S2x4x8x4x128x64_S2x4x8x4x128x64_S2x4x8x4x256x64_d4

/-- How far a key lies behind its query. -/
def rel : IVec S128x256 32 :=
  subi (broadcastInDim S128x256 ![0, 1] bcast_S128x1_S128x256_0_1
      (addi (broadcastInDim S128x1 ![] bcast_S_S128x1 (constantI S_ 32 128#32))
        (broadcastInDim S128x1 ![0] bcast_S128_S128x1_0 (iotaInDim S128 32 0))))
    (broadcastInDim S128x256 ![0, 1] bcast_S1x256_S128x256_0_1
      (broadcastInDim S1x256 ![1] bcast_S256_S1x256_1 (iotaInDim S256 32 0)))

/-- The key's position is not before the sequence. -/
def inside : IVec S4x1x256 1 :=
  cmpi .sge (addi (broadcastInDim S4x1x256 ![0, 1, 2] bcast_S4x1x1_S4x1x256_0_1_2
      (subi (muli (broadcastInDim S4x1x1 ![0] bcast_S4_S4x1x1_0 (iotaInDim S4 32 0))
          (broadcastInDim S4x1x1 ![] bcast_S_S4x1x1 (constantI S_ 32 128#32)))
        (broadcastInDim S4x1x1 ![] bcast_S_S4x1x1 (constantI S_ 32 128#32))))
    (broadcastInDim S4x1x256 ![0, 1, 2] bcast_S1x1x256_S4x1x256_0_1_2
      (broadcastInDim S1x1x256 ![1, 2] bcast_S1x256_S1x1x256_1_2
        (broadcastInDim S1x256 ![1] bcast_S256_S1x256_1 (iotaInDim S256 32 0)))))
    (broadcastInDim S4x1x256 ![] bcast_S_S4x1x256 (constantI S_ 32 0#32))

/-- The mask. -/
def mask : IVec S2x4x8x4x128x256 1 :=
  broadcastInDim S2x4x8x4x128x256 ![3, 4, 5] bcast_S4x128x256_S2x4x8x4x128x256_3_4_5
    (andi (broadcastInDim S4x128x256 ![0, 1, 2] bcast_S1x128x256_S4x128x256_0_1_2
        (broadcastInDim S1x128x256 ![1, 2] bcast_S128x256_S1x128x256_1_2
          (andi (cmpi .sge rel (broadcastInDim S128x256 ![] bcast_S_S128x256 (constantI S_ 32 0#32)))
            (cmpi .sle rel (broadcastInDim S128x256 ![] bcast_S_S128x256 (constantI S_ 32 128#32))))))
      (broadcastInDim S4x128x256 ![0, 1, 2] bcast_S4x1x256_S4x128x256_0_1_2 inside))

def eighth : V S2x4x8x4x128x256 :=
  broadcastInDim S2x4x8x4x128x256 ![] bcast_S_S2x4x8x4x128x256 (constant S_ .f32 0x3E000000#32)

/-- The masked scores. -/
def scores (q : V S2x4x8x4x128x64) (k : V S2x4x8x4x256x64) : V S2x4x8x4x128x256 :=
  select mask (mulf (Host.dotGeneral
      dot_S2x4x8x4x128x64_S2x4x8x4x256x64_S2x4x8x4x128x256_5_5_4_4_0123_0123 none q k) eighth)
    (broadcastInDim S2x4x8x4x128x256 ![] bcast_S_S2x4x8x4x128x256 (id (constant S_ .f32 0xFF800000#32)))

/-- The sums over the keys. -/
def rowSum (x : V S2x4x8x4x128x256) : V S2x4x8x4x128 :=
  Host.reduceAdd x (constant S_ .f32 0x00000000#32) reducesTo_S2x4x8x4x128x256_S2x4x8x4x128_d5 h_S_

/-- The softmax. -/
def soft (s : V S2x4x8x4x128x256) : V S2x4x8x4x128x256 :=
  Host.exp (subf s (broadcastInDim S2x4x8x4x128x256 ![0, 1, 2, 3, 4, 5]
    bcast_S2x4x8x4x128x1_S2x4x8x4x128x256_0_1_2_3_4_5
    (broadcastInDim S2x4x8x4x128x1 ![0, 1, 2, 3, 4] bcast_S2x4x8x4x128_S2x4x8x4x128x1_0_1_2_3_4
      (Host.log (rowSum (Host.exp s))))))

/-- The weights' gradients. -/
def dweight (co : V S2x4x8x4x128x64) (v : V S2x4x8x4x256x64) : V S2x4x8x4x128x256 :=
  Host.dotGeneral dot_S2x4x8x4x128x64_S2x4x8x4x256x64_S2x4x8x4x128x256_5_5_4_4_0123_0123 none co v

/-- The log denominators' gradients: the sum over each head's lanes. -/
def dlse (x : V S2x2048x512) : V S2x4x8x4x128 :=
  shapeCast _ (transpose S2x4x8x512 [0, 2, 3, 1]
    (shapeCast _ (Host.reduceAdd (shapeCast _ x shapeCasts_S2x2048x512_S2x2048x8x64)
      (constant S_ .f32 0x00000000#32) reducesTo_S2x2048x8x64_S2x2048x8_d3 h_S_) shapeCasts_S2x2048x8_S2x512x4x8)
    transposes_S2x512x4x8_S2x4x8x512_0_2_3_1) shapeCasts_S2x4x8x512_S2x4x8x4x128

/-- The scaled scores' gradients. -/
def dscores (s dp : V S2x4x8x4x128x256) (dl : V S2x4x8x4x128) : V S2x4x8x4x128x256 :=
  mulf (select mask (addf (mulf dp (soft s))
      (mulf (broadcastInDim S2x4x8x4x128x256 ![0, 1, 2, 3, 4] bcast_S2x4x8x4x128_S2x4x8x4x128x256_0_1_2_3_4
        (Host.divf (addf dl (Host.reduceAdd
            (shapeCast _ (rowSum (Host.negf (mulf dp (soft s)))) shapeCasts_S2x4x8x4x128_S2x4x8x4x128x1)
            (constant S_ .f32 0x00000000#32) reducesTo_S2x4x8x4x128x1_S2x4x8x4x128_d5 h_S_))
          (rowSum (Host.exp s)))) (Host.exp s)))
    (broadcastInDim S2x4x8x4x128x256 ![] bcast_S_S2x4x8x4x128x256 (constant S_ .f32 0x00000000#32))) eighth

def dqs (ds : V S2x4x8x4x128x256) (k : V S2x4x8x4x256x64) : V S2x4x8x4x128x64 :=
  Host.dotGeneral dot_S2x4x8x4x128x256_S2x4x8x4x256x64_S2x4x8x4x128x64_5_4_4_5_0123_0123 none ds k

def dks (ds : V S2x4x8x4x128x256) (q : V S2x4x8x4x128x64) : V S2x4x8x4x256x64 :=
  Host.dotGeneral dot_S2x4x8x4x128x256_S2x4x8x4x128x64_S2x4x8x4x256x64_4_4_5_5_0123_0123 none ds q

def dvs (co : V S2x4x8x4x128x64) (p : V S2x4x8x4x128x256) : V S2x4x8x4x256x64 :=
  transpose S2x4x8x4x256x64 [0, 1, 2, 3, 5, 4]
    (Host.dotGeneral dot_S2x4x8x4x128x64_S2x4x8x4x128x256_S2x4x8x4x64x256_4_4_5_5_0123_0123 none co p)
    transposes_S2x4x8x4x64x256_S2x4x8x4x256x64_0_1_2_3_5_4

/-- Each block's share, and the next block's share of its block before. -/
def gather (x : V S2x4x8x4x256x64) : V S2x4x8x4x128x64 :=
  addf (extractStridedSlice S2x4x8x4x128x64 ![0, 0, 0, 0, 128, 0] x
      slices_S2x4x8x4x256x64_S2x4x8x4x128x64_0_0_0_0_128_0)
    (pad S2x4x8x4x128x64 ![0, 0, 0, 0, 0, 0] ![0, 0, 0, 1, 0, 0] ![0, 0, 0, 0, 0, 0]
      (extractStridedSlice S2x4x8x3x128x64 ![0, 0, 0, 1, 0, 0]
        (extractStridedSlice S2x4x8x4x128x64 ![0, 0, 0, 0, 0, 0] x
          slices_S2x4x8x4x256x64_S2x4x8x4x128x64_0_0_0_0_0_0)
        slices_S2x4x8x4x128x64_S2x4x8x3x128x64_0_0_0_1_0_0)
      (constant S_ .f32 0x00000000#32) pads_S2x4x8x3x128x64_S2x4x8x4x128x64_000_000_000_010_000_000 h_S_)

/-- Blocks back to rows, in their columns of an array. -/
def rows (a : V S2x2048x1536) (x : V S2x4x8x4x128x64) : V S2x2048x1536 :=
  concatenate S2x2048x1536 2 [⟨S2x2048x512, extractStridedSlice S2x2048x512 ![0, 0, 0] a
      slices_S2x2048x1536_S2x2048x512_0_0_0⟩,
    ⟨S2x2048x512, shapeCast _ (shapeCast _ (transpose S2x512x4x8x64 [0, 3, 1, 2, 4]
      (shapeCast _ x shapeCasts_S2x4x8x4x128x64_S2x4x8x512x64) transposes_S2x4x8x512x64_S2x512x4x8x64_0_3_1_2_4)
      shapeCasts_S2x512x4x8x64_S2x2048x8x64) shapeCasts_S2x2048x8x64_S2x2048x512⟩,
    ⟨S2x2048x512, extractStridedSlice S2x2048x512 ![0, 0, 1024] a slices_S2x2048x1536_S2x2048x512_0_0_1024⟩]
    concatenates_S2x2048x512_S2x2048x512_S2x2048x512_S2x2048x1536_d2

section
variable (m : (ℓ : Loc nD τ sig) → Buf (Elt Ideal) ℓ) (c : Dev nD)

def qs : V S2x4x8x4x128x64 := blocks (extractStridedSlice S2x2048x512 ![0, 0, 512]
  (m ((c.tc : Thread nD τ).loc main_arg0)) slices_S2x2048x3072_S2x2048x512_0_0_512)
def ks : V S2x4x8x4x256x64 := withPrev (blocks (extractStridedSlice S2x2048x512 ![0, 0, 2048]
  (m ((c.tc : Thread nD τ).loc main_arg0)) slices_S2x2048x3072_S2x2048x512_0_0_2048))
def vs : V S2x4x8x4x256x64 := withPrev (blocks (extractStridedSlice S2x2048x512 ![0, 0, 3584]
  (m ((c.tc : Thread nD τ).loc main_arg1)) slices_S2x2048x12288_S2x2048x512_0_0_3584))
def cos : V S2x4x8x4x128x64 := blocks (m ((c.tc : Thread nD τ).loc main_arg2))
def cls : V S2x4x8x4x128 := dlse (m ((c.tc : Thread nD τ).loc main_arg3))
def ss : V S2x4x8x4x128x256 := scores (qs m c) (ks m c)
def dss : V S2x4x8x4x128x256 := dscores (ss m c) (dweight (cos m c) (vs m c)) (cls m c)

theorem res0 : Value.res_main_v131 m c
    = rows (m ((c.tc : Thread nD τ).loc main_arg4)) (dqs (dss m c) (ks m c)) := rfl
theorem res1 : Value.res_main_v134 m c
    = rows (m ((c.tc : Thread nD τ).loc main_arg5)) (gather (dks (dss m c) (qs m c))) := rfl
theorem res2 : Value.res_main_v137 m c
    = rows (m ((c.tc : Thread nD τ).loc main_arg6)) (gather (dvs (cos m c) (soft (ss m c)))) := rfl
end

theorem blocks_at (x : V S2x2048x512) (b : Fin 2) (r : Fin 4) (h : Fin 8) (n : Fin 4) (i : Fin 128) (e : Fin 64) :
    blocks x (ix6 b r h n i e) = x (ix3 b ⟨(n.val * 128 + i.val) * 4 + r.val, by omega⟩ ⟨64 * h.val + e.val, by omega⟩) := by
  pointwise [blocks]
  simp only [Nat.mul_comm]

/-- A sum along the last of six axes. -/
theorem sum6 {N : ℕ} (hr : (⟨6, ![2, 4, 8, 4, 128, N]⟩ : Shape).ReducesTo [5] S2x4x8x4x128)
    (x : (⟨6, ![2, 4, 8, 4, 128, N]⟩ : Shape).Idx → EReal) (z : EReal)
    (b : Fin 2) (r : Fin 4) (h : Fin 8) (n : Fin 4) (i : Fin 128) :
    Ideal.hostReduceAdd hr x z (ix5 b r h n i) = z + ∑ k : Fin N, x (ix6 b r h n i k) := by
  rw [Ideal.hostReduceAdd_single hr ⟨hr.1, by decide, hr.2⟩]
  congr 1
  refine Finset.sum_congr rfl fun k _ => congrArg x (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

theorem inside_word : ∀ (n : Fin 4) (j : Fin 256), IntOp.cmpi CmpIPredicate.sge
    (IntOp.addi (IntOp.subi (IntOp.muli (BitVec.ofNat 32 ↑n) 128#32) 128#32) (BitVec.ofNat 32 ↑j)) 0#32
      = BitVec.ofBool (decide (128 ≤ j.val ∨ n.val ≠ 0)) := by decide +kernel

theorem mask_at (b : Fin 2) (r : Fin 4) (h : Fin 8) (n : Fin 4) (i : Fin 128) (j : Fin 256) :
    mask (ix6 b r h n i j) = BitVec.ofBool (decide (att n i j)) := by
  pointwise [mask, rel, inside]
  rw [inside_word]
  have e1 : IntOp.cmpi CmpIPredicate.sge (IntOp.subi (IntOp.addi (128#32) (BitVec.ofNat 32 ↑i)) (BitVec.ofNat 32 ↑j)) 0#32
      = BitVec.ofBool (decide (j.val ≤ 128 + i.val)) := by
    simp only [IntOp.cmpi, BitVec.sle, toInt_rel i.2 j.2]
    congr 1; simp <;> omega
  have e2 : IntOp.cmpi CmpIPredicate.sle (IntOp.subi (IntOp.addi (128#32) (BitVec.ofNat 32 ↑i)) (BitVec.ofNat 32 ↑j)) 128#32
      = BitVec.ofBool (decide (i.val ≤ j.val)) := by
    simp only [IntOp.cmpi, BitVec.sle, toInt_rel i.2 j.2]
    congr 1; simp
  rw [e1, e2]
  unfold att
  by_cases h1 : j.val ≤ 128 + i.val <;> by_cases h2 : i.val ≤ j.val <;>
    by_cases h3 : 128 ≤ j.val ∨ n.val ≠ 0 <;> simp only [h1, h2, h3, IntOp.andi, decide_true, decide_false, and_self, and_false, false_and, and_true, true_and] <;> rfl

theorem select_mask {α : Type} (b : Fin 2) (r : Fin 4) (h : Fin 8) (n : Fin 4) (i : Fin 128) (j : Fin 256) (x y : α) :
    Scalar.select (mask (ix6 b r h n i j)) x y = if att n i j then x else y := by
  rw [mask_at]
  by_cases h : att n i j <;> simp [h, Scalar.select]

section
variable {q co : V S2x4x8x4x128x64} {k v : V S2x4x8x4x256x64} {dl : V S2x4x8x4x128}
  {b : Fin 2} {r : Fin 4} {h : Fin 8} {n : Fin 4}
  {q' co' : Fin 128 → Fin 64 → ℝ} {k' v' : Fin 256 → Fin 64 → ℝ} {dl' : Fin 128 → ℝ}
  (hq : ∀ i e, q (ix6 b r h n i e) = (q' i e : EReal)) (hk : ∀ j e, k (ix6 b r h n j e) = (k' j e : EReal))
  (hv : ∀ j e, v (ix6 b r h n j e) = (v' j e : EReal)) (hc : ∀ i e, co (ix6 b r h n i e) = (co' i e : EReal))
  (hl : ∀ i, dl (ix5 b r h n i) = (dl' i : EReal))

include hq hk in
theorem scores_at (i : Fin 128) (j : Fin 256) :
    scores q k (ix6 b r h n i j) = maskRow (att n i) (score q' k' i) j := by
  pointwise [scores, eighth]
  rw [select_mask, show id (constant (F := Ideal) S_ FTy.f32 4286578688#32) ix0 = (⊥ : EReal) from ofBits_neg_inf, ofBits_eighth]
  simp only [hq, hk]
  unfold maskRow score
  rw [EReal.coe_mul, coe_sum]; simp only [EReal.coe_mul]

include hq hk in
theorem expo_at (i : Fin 128) (j : Fin 256) :
    Ideal.exp (scores q k (ix6 b r h n i j)) = (expo (att n) q' k' i j : EReal) := by
  rw [scores_at hq hk]
  unfold maskRow expo
  split
  · exact coe_exp _
  · rfl

theorem expo_pos (i : Fin 128) : 0 < ∑ j, expo (att n) q' k' i j := by
  obtain ⟨j, hj⟩ := att_self n i
  refine Finset.sum_pos' (fun j _ => ?_) ⟨j, Finset.mem_univ _, ?_⟩
  · unfold expo; split <;> positivity
  · rw [expo, if_pos hj]; exact Real.exp_pos _

include hq hk in
theorem den_at (i : Fin 128) : rowSum (Host.exp (scores q k)) (ix5 b r h n i)
    = ((∑ j, expo (att n) q' k' i j : ℝ) : EReal) := by
  pointwise [rowSum]
  rw [sum6, coe_sum, zero_add]
  exact Finset.sum_congr rfl fun j _ => expo_at hq hk i j

include hq hk in
theorem soft_at (i : Fin 128) (j : Fin 256) :
    soft (scores q k) (ix6 b r h n i j) = (prob (att n) q' k' i j : EReal) := by
  have hd := den_at hq hk i
  have hp := expo_pos (n := n) (q' := q') (k' := k') i
  pointwise [soft]
  rw [hd, scores_at hq hk]
  have : Ideal.log ((∑ j, expo (att n) q' k' i j : ℝ) : EReal) = (Real.log (∑ j, expo (att n) q' k' i j) : EReal) := by
    exact if_neg (not_le.mpr hp)
  rw [this]
  unfold maskRow prob
  by_cases o : att n i j
  · rw [if_pos o, ← EReal.coe_sub, coe_exp, Real.exp_sub, Real.exp_log hp, expo, if_pos o]
  · rw [if_neg o, EReal.bot_sub, expo, if_neg o, zero_div]; rfl

include hv hc in
theorem dweight_at (i : Fin 128) (j : Fin 256) :
    dweight co v (ix6 b r h n i j) = (dprob v' co' i j : EReal) := by
  pointwise [dweight]
  simp only [hv, hc]
  unfold dprob
  rw [coe_sum]; simp only [EReal.coe_mul]

include hq hk hv hc hl in
theorem dscores_at (i : Fin 128) (j : Fin 256) :
    dscores (scores q k) (dweight co v) dl (ix6 b r h n i j)
      = (dscore (att n) q' k' v' co' dl' i j : EReal) := by
  have hd := den_at hq hk i
  have hp := expo_pos (n := n) (q' := q') (k' := k') i
  have hs : rowSum (Host.negf (mulf (dweight co v) (soft (scores q k)))) (ix5 b r h n i)
      = ((-∑ j, prob (att n) q' k' i j * dprob v' co' i j : ℝ) : EReal) := by
    pointwise [rowSum]
    rw [sum6, zero_add, ← Finset.sum_neg_distrib, coe_sum]
    refine Finset.sum_congr rfl fun j _ => ?_
    pointwise []
    rw [dweight_at hv hc, soft_at hq hk, ← EReal.coe_mul, mul_comm]; rfl
  pointwise [dscores, eighth]
  rw [select_mask, hd, sum6]
  simp only [Fin.sum_univ_one]
  pointwise []
  rw [hs, dweight_at hv hc, soft_at hq hk, expo_at hq hk, hl, ofBits_eighth, ← EReal.coe_add, coe_div hp.ne']
  simp only [← EReal.coe_mul, ← EReal.coe_add]
  unfold dscore
  by_cases o : att n i j
  · rw [if_pos o]
    congr 2
    unfold prob
    field_simp
    ring
  · rw [if_neg o, prob_eq_zero _ _ _ o, zero_mul, zero_mul, EReal.coe_zero]

include hq hk hv hc hl in
theorem dqs_at (i : Fin 128) (e : Fin 64) :
    dqs (dscores (scores q k) (dweight co v) dl) k (ix6 b r h n i e)
      = (dquery (att n) q' k' v' co' dl' i e : EReal) := by
  pointwise [dqs]
  simp only [dscores_at hq hk hv hc hl, hk]
  unfold dquery
  rw [coe_sum]; simp only [EReal.coe_mul]

include hq hk hv hc hl in
theorem dks_at (j : Fin 256) (e : Fin 64) :
    dks (dscores (scores q k) (dweight co v) dl) q (ix6 b r h n j e)
      = (dkey (att n) q' k' v' co' dl' j e : EReal) := by
  pointwise [dks]
  simp only [dscores_at hq hk hv hc hl, hq]
  unfold dkey
  rw [coe_sum]; simp only [EReal.coe_mul]

include hq hk hc in
theorem dvs_at (j : Fin 256) (e : Fin 64) :
    dvs co (soft (scores q k)) (ix6 b r h n j e) = (dvalue (att n) q' k' co' j e : EReal) := by
  pointwise [dvs]
  simp only [soft_at hq hk, hc]
  unfold dvalue
  rw [coe_sum]; simp only [EReal.coe_mul, mul_comm]

end

theorem gather_at (x : V S2x4x8x4x256x64) (b : Fin 2) (r : Fin 4) (h : Fin 8) (n : Fin 4) (i : Fin 128) (e : Fin 64) :
    gather x (ix6 b r h n i e) = x (ix6 b r h n ⟨128 + i.val, by omega⟩ e)
      + if hn : n.val < 3 then x (ix6 b r h ⟨1 + n.val, by omega⟩ ⟨i.val, by omega⟩ e) else 0 := by
  pointwise [gather]

/-- The array with its middle columns given by the blocks. -/
theorem rows_eq (a : V S2x2048x1536) (x : V S2x4x8x4x128x64) (g : Fin 2 → ℕ → ℕ → ℝ)
    (hg : ∀ b r h n i e s c, s % 4 = r.val → s / 512 = n.val → s / 4 % 128 = i.val → c / 64 = h.val → c % 64 = e.val →
      x (ix6 b r h n i e) = (g b s c : EReal)) : rows a x = put a g := by
  funext y
  have y1 : (y 1).val < 2048 := (y 1).isLt
  have y2 : (y 2).val < 1536 := (y 2).isLt
  have hy : y = ix3 (y 0) ⟨(y 1).val, y1⟩ ⟨(y 2).val, y2⟩ := by
    funext a
    match a with
    | ⟨0, _⟩ => rfl
    | ⟨1, _⟩ => rfl
    | ⟨2, _⟩ => rfl
  rw [hy]
  pointwise [rows]
  have hin (h1 : 512 ≤ (y 2).val) (h2 : (y 2).val < 1024) : put a g y
      = (g (y 0) (y 1).val ((y 2).val - 512) : EReal) := if_pos ⟨h1, h2⟩
  have hout (h1 : (y 2).val < 512 ∨ 1024 ≤ (y 2).val) : put a g y = a y :=
    if_neg (by omega)
  refine Eq.trans ?_ (show put a g y = _ from rfl)
  split
  · rename_i h1
    exact (hout (Or.inl h1)).symm
  · rename_i h1
    split
    · rename_i h2
      refine Eq.trans ?_ (hin (by omega) (by omega)).symm
      refine hg _ _ _ _ _ _ _ _ rfl ?_ rfl rfl rfl
      show (y 1).val / 512 = (y 1).val / 4 / 128
      omega
    · rename_i h2
      refine Eq.trans (congrArg a (funext fun q => Fin.ext ?_)) (hout (by omega)).symm
      match q with
      | ⟨0, _⟩ => rfl
      | ⟨1, _⟩ => rfl
      | ⟨2, _⟩ => show 1024 + ((y 2).val - 512 - 512) = (y 2).val; omega

section
open Cert.KernelIdeal.Att (rd Fin3 rd_coe rd_congr)
variable (m : (ℓ : Loc nD τ sig) → Buf (Elt Ideal) ℓ) (c : Dev nD)

/-- The four arrays that the gradients are computed of. -/
def Y0 : Arr := rd (n1 := 2048) (n2 := 3072) (m ((c.tc : Thread nD τ).loc main_arg0))
def Y1 : Arr := rd (n1 := 2048) (n2 := 12288) (m ((c.tc : Thread nD τ).loc main_arg1))
def Y2 : Arr := rd (n1 := 2048) (n2 := 512) (m ((c.tc : Thread nD τ).loc main_arg2))
def Y3 : Arr := rd (n1 := 2048) (n2 := 512) (m ((c.tc : Thread nD τ).loc main_arg3))

/-- Their elements are reals. -/
structure Finite : Prop where
  f0 : Fin3 (n1 := 2048) (n2 := 3072) (m ((c.tc : Thread nD τ).loc main_arg0))
  f1 : Fin3 (n1 := 2048) (n2 := 12288) (m ((c.tc : Thread nD τ).loc main_arg1))
  f2 : Fin3 (n1 := 2048) (n2 := 512) (m ((c.tc : Thread nD τ).loc main_arg2))
  f3 : Fin3 (n1 := 2048) (n2 := 512) (m ((c.tc : Thread nD τ).loc main_arg3))

variable {m c} (hf : Finite m c) (b : Fin 2) (r : Fin 4) (h : Fin 8) (n : Fin 4)
include hf

theorem qs_at (i : Fin 128) (e : Fin 64) : qs m c (ix6 b r h n i e) = (sqy (Y0 m c) b r h n i e : EReal) := by
  unfold qs
  rw [blocks_at]
  pointwise []
  refine (rd_coe hf.f0 b _ _ _ rfl rfl rfl).trans (rd_congr _ b rfl ?_)
  show 512 + (64 * h.val + e.val) = 512 + 64 * h.val + e.val
  omega

theorem cos_at (i : Fin 128) (e : Fin 64) : cos m c (ix6 b r h n i e) = (sco (Y2 m c) b r h n i e : EReal) := by
  unfold cos
  rw [blocks_at]
  exact (rd_coe hf.f2 b _ _ _ rfl rfl rfl)

omit hf in
theorem sk_zero (j : Fin 256) (e : Fin 64) (hj : n.val * 128 + j.val < 128) : (sk (Y0 m c) b r h n j e : EReal) = 0 := by
  unfold sk; rw [if_pos hj]; rfl

theorem ks_at (j : Fin 256) (e : Fin 64) : ks m c (ix6 b r h n j e) = (sk (Y0 m c) b r h n j e : EReal) := by
  pointwise [ks, withPrev]
  simp only [blocks_at]
  pointwise []
  have hK (hj : ¬ n.val * 128 + j.val < 128) : (sk (Y0 m c) b r h n j e : EReal)
      = (Y0 m c b ((n.val * 128 + j.val - 128) * 4 + r.val) (2048 + 64 * h.val + e.val) : EReal) := by
    unfold sk; rw [if_neg hj]
  split
  · rename_i h1
    split
    · rename_i h2
      exact (sk_zero b r h n j e (by omega)).symm
    · rename_i h2
      refine (rd_coe hf.f0 b _ _ _ rfl rfl rfl).trans (Eq.trans (rd_congr _ b ?_ ?_) (hK ?_).symm)
      · show ((n.val - 1) * 128 + j.val) * 4 + r.val = _
        omega
      · show 2048 + (64 * h.val + e.val) = _
        omega
      · omega
  · rename_i h1
    refine (rd_coe hf.f0 b _ _ _ rfl rfl rfl).trans (Eq.trans (rd_congr _ b ?_ ?_) (hK ?_).symm)
    · show (n.val * 128 + (j.val - 128)) * 4 + r.val = _
      omega
    · show 2048 + (64 * h.val + e.val) = _
      omega
    · omega

omit hf in
theorem sv_zero (j : Fin 256) (e : Fin 64) (hj : n.val * 128 + j.val < 128) : (sv (Y1 m c) b r h n j e : EReal) = 0 := by
  unfold sv; rw [if_pos hj]; rfl

theorem vs_at (j : Fin 256) (e : Fin 64) : vs m c (ix6 b r h n j e) = (sv (Y1 m c) b r h n j e : EReal) := by
  pointwise [vs, withPrev]
  simp only [blocks_at]
  pointwise []
  have hK (hj : ¬ n.val * 128 + j.val < 128) : (sv (Y1 m c) b r h n j e : EReal)
      = (Y1 m c b ((n.val * 128 + j.val - 128) * 4 + r.val) (3584 + 64 * h.val + e.val) : EReal) := by
    unfold sv; rw [if_neg hj]
  split
  · rename_i h1
    split
    · rename_i h2
      exact (sv_zero b r h n j e (by omega)).symm
    · rename_i h2
      refine (rd_coe hf.f1 b _ _ _ rfl rfl rfl).trans (Eq.trans (rd_congr _ b ?_ ?_) (hK ?_).symm)
      · show ((n.val - 1) * 128 + j.val) * 4 + r.val = _
        omega
      · show 3584 + (64 * h.val + e.val) = _
        omega
      · omega
  · rename_i h1
    refine (rd_coe hf.f1 b _ _ _ rfl rfl rfl).trans (Eq.trans (rd_congr _ b ?_ ?_) (hK ?_).symm)
    · show (n.val * 128 + (j.val - 128)) * 4 + r.val = _
      omega
    · show 3584 + (64 * h.val + e.val) = _
      omega
    · omega

theorem cls_at (i : Fin 128) : cls m c (ix5 b r h n i) = ((∑ e, scl (Y3 m c) b r h n i e : ℝ) : EReal) := by
  pointwise [cls, dlse]
  rw [coe_sum]
  refine Finset.sum_congr rfl fun e _ => ?_
  refine (rd_coe hf.f3 b _ _ _ rfl rfl rfl).trans (rd_congr _ b rfl ?_)
  show h.val * 64 + e.val = 64 * h.val + e.val
  omega

omit hf in
theorem idx_congr {r' h' n' : ℕ} {i' : Fin 128} {e' : Fin 64} (f : ℕ → ℕ → ℕ → Fin 128 → Fin 64 → ℝ) {i : Fin 128} {e : Fin 64}
    (hr : r' = r.val) (hh : h' = h.val) (hn : n' = n.val) (hi : i'.val = i.val) (he : e'.val = e.val) :
    (f r h n i e : EReal) = (f r' h' n' i' e' : EReal) := by
  rw [hr, hh, hn, Fin.ext hi, Fin.ext he]

/-- The reference's three results. -/
theorem final0 : Value.res_main_v131 m c = put (m ((c.tc : Thread nD τ).loc main_arg4))
    (outQ (Y0 m c) (Y1 m c) (Y2 m c) (Y3 m c)) := by
  rw [res0]
  refine rows_eq _ _ _ fun b r h n i e s c' hr hn hi hh he => ?_
  refine (dqs_at (qs_at hf b r h n) (ks_at hf b r h n) (vs_at hf b r h n) (cos_at hf b r h n) (cls_at hf b r h n) i e).trans ?_
  exact idx_congr r h n (gq (Y0 m c) (Y1 m c) (Y2 m c) (Y3 m c) b) hr hh hn hi he

theorem gk_at (j : Fin 256) (e : Fin 64) : dks (dss m c) (qs m c) (ix6 b r h n j e)
    = (gk (Y0 m c) (Y1 m c) (Y2 m c) (Y3 m c) b r h n j e : EReal) :=
  dks_at (qs_at hf b r h n) (ks_at hf b r h n) (vs_at hf b r h n) (cos_at hf b r h n) (cls_at hf b r h n) j e

theorem gv_at (j : Fin 256) (e : Fin 64) : dvs (cos m c) (soft (ss m c)) (ix6 b r h n j e)
    = (gv (Y0 m c) (Y2 m c) b r h n j e : EReal) :=
  dvs_at (qs_at hf b r h n) (ks_at hf b r h n) (cos_at hf b r h n) j e

theorem final1 : Value.res_main_v134 m c = put (m ((c.tc : Thread nD τ).loc main_arg5))
    (outK (Y0 m c) (Y1 m c) (Y2 m c) (Y3 m c)) := by
  rw [res1]
  refine rows_eq _ _ _ fun b r h n i e s c' hr hn hi hh he => ?_
  refine Eq.trans ?_ (idx_congr r h n (tk (Y0 m c) (Y1 m c) (Y2 m c) (Y3 m c) b) hr hh hn hi he)
  rw [gather_at, gk_at hf]
  unfold tk
  by_cases hn : n.val < 3
  · rw [dif_pos hn, if_pos hn, gk_at hf, EReal.coe_add]
    simp only [Nat.add_comm]
  · rw [dif_neg hn, if_neg hn, add_zero, add_zero]

theorem final2 : Value.res_main_v137 m c = put (m ((c.tc : Thread nD τ).loc main_arg6))
    (outV (Y0 m c) (Y2 m c)) := by
  rw [res2]
  refine rows_eq _ _ _ fun b r h n i e s c' hr hn hi hh he => ?_
  refine Eq.trans ?_ (idx_congr r h n (tv (Y0 m c) (Y2 m c) b) hr hh hn hi he)
  rw [gather_at, gv_at hf]
  unfold tv
  by_cases hn : n.val < 3
  · rw [dif_pos hn, if_pos hn, gv_at hf, EReal.coe_add]
    simp only [Nat.add_comm]
  · rw [dif_neg hn, if_neg hn, add_zero, add_zero]

end

end Cert.ReferenceIdeal.Att
-- ==== Proof.Att.Final.lean ====
/- The value claim: finite arguments are arrays of reals, and on those the kernel's three results and the
   reference's are the same reals. -/
module

public import proofs.«01_k».proof.Proof.Att.Frames
public import proofs.«01_k».proof.Proof.Att.Ref
public import Idealize.ShloMosaic.Lib.ReduceAll

@[expose] public section

set_option maxRecDepth 16384

noncomputable section

namespace Cert.Proof.Att

open Idealize.ShloMosaic Idealize.ShloMosaic.TcCoe Idealize.SL.Sem
open Cert.KernelIdeal.Att (Fin3 put)

instance : Subsingleton Cert.Pre_finite.S_.Idx := ⟨fun a b => funext fun k => k.elim0⟩

/-- An extended real below infinity in absolute value is a real. -/
theorem real_of_abs (x : EReal)
    (h : FloatOps.cmpf (F := Ideal) (φ := .f32) .olt (FloatOps.absf (F := Ideal) (φ := .f32) x) (Ideal.ofBits .f32 0x7F800000#32) = 1#1) :
    x = (x.toReal : EReal) := by
  have ht : Ideal.ofBits .f32 0x7F800000#32 = (⊤ : EReal) := by simp [Ideal.ofBits, Ideal.ieee]
  rw [ht] at h
  induction x using EReal.rec with
  | bot => exact absurd h (by simp [FloatOps.cmpf, FloatOps.absf, Ideal.cmp])
  | top => exact absurd h (by simp [FloatOps.cmpf, FloatOps.absf, Ideal.cmp])
  | coe r => rfl

theorem andi_one {a b : BitVec 1} (h : IntOp.andi a b = 1#1) : a = 1#1 ∧ b = 1#1 := IntOp.andi_eq_one.1 h

theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Att.Finite m c := by
  have e := congrFun (h c) (fun k => k.elim0)
  obtain ⟨e, e3⟩ := andi_one e
  obtain ⟨e, e2⟩ := andi_one e
  obtain ⟨e0, e1⟩ := andi_one e
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i)⟩

theorem algebraic : Cert.algebraic_KernelIdeal_ReferenceIdeal_pre_finite := by
  intro m ρ m' ρ' hpre hagree
  have hf := finite_of_pre m hpre
  have hf' (c : Dev Cert.KernelIdeal.nD) : Cert.ReferenceIdeal.Att.Finite m' c := by
    obtain ⟨a0, a1, a2, a3, -⟩ := hagree c
    refine ⟨?_, ?_, ?_, ?_⟩
    · rw [a0]; exact (hf c).f0
    · rw [a1]; exact (hf c).f1
    · rw [a2]; exact (hf c).f2
    · rw [a3]; exact (hf c).f3
  have y0 (c : Dev Cert.KernelIdeal.nD) : Cert.ReferenceIdeal.Att.Y0 m' c = Cert.KernelIdeal.Att.X0 m c := by
    unfold Cert.ReferenceIdeal.Att.Y0; rw [(hagree c).1]; rfl
  have y1 (c : Dev Cert.KernelIdeal.nD) : Cert.ReferenceIdeal.Att.Y1 m' c = Cert.KernelIdeal.Att.X1 m c := by
    unfold Cert.ReferenceIdeal.Att.Y1; rw [(hagree c).2.1]; rfl
  have y2 (c : Dev Cert.KernelIdeal.nD) : Cert.ReferenceIdeal.Att.Y2 m' c = Cert.KernelIdeal.Att.X2 m c := by
    unfold Cert.ReferenceIdeal.Att.Y2; rw [(hagree c).2.2.1]; rfl
  have y3 (c : Dev Cert.KernelIdeal.nD) : Cert.ReferenceIdeal.Att.Y3 m' c = Cert.KernelIdeal.Att.X3 m c := by
    unfold Cert.ReferenceIdeal.Att.Y3; rw [(hagree c).2.2.2.1]; rfl
  refine ⟨fun c => (Cert.KernelIdeal.Att.dats m 0 c).arrAt 7 Cert.KernelIdeal.cfg0.N,
    fun c => (Cert.KernelIdeal.Att.dats m 0 c).arrAt 8 Cert.KernelIdeal.cfg0.N,
    fun c => (Cert.KernelIdeal.Att.dats m 0 c).arrAt 9 Cert.KernelIdeal.cfg0.N, ?_, ?_⟩
  · refine (θ_run Cert.KernelIdeal.defs _ _).mono (fun r h c => ?_)
      (Cert.KernelIdeal.Att.run_main m ρ)
    exact ⟨(h.1 c).1 7, (h.1 c).1 8, (h.1 c).1 9, args_kept m r h.1 c⟩
  · refine (θ_run Cert.ReferenceIdeal.defs _ _).mono (fun r h c => ?_) (Cert.ReferenceIdeal.Value.run (F := Ideal) m' ρ')
    obtain ⟨h0, h1, h2, hr⟩ := h c
    refine ⟨h0.trans ?_, h1.trans ?_, h2.trans ?_, hr⟩
    · refine (Cert.ReferenceIdeal.Att.final0 (hf' c)).trans (Eq.trans ?_ (Cert.KernelIdeal.Att.final7 (hf c)).symm)
      rw [y0, y1, y2, y3, (hagree c).2.2.2.2.1]
    · refine (Cert.ReferenceIdeal.Att.final1 (hf' c)).trans (Eq.trans ?_ (Cert.KernelIdeal.Att.final8 (hf c)).symm)
      rw [y0, y1, y2, y3, (hagree c).2.2.2.2.2.1]
    · refine (Cert.ReferenceIdeal.Att.final2 (hf' c)).trans (Eq.trans ?_ (Cert.KernelIdeal.Att.final9 (hf c)).symm)
      rw [y0, y2, (hagree c).2.2.2.2.2.2]

end Cert.Proof.Att
-- ==== Proof.lean ====
/- The claims, each from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Mm.In
public import proofs.«01_k».proof.Proof.Mm.InDw
public import proofs.«01_k».proof.Proof.Mm.InDx
public import proofs.«01_k».proof.Proof.Mm.UpDw
public import proofs.«01_k».proof.Proof.Mm.DownDw
public import proofs.«01_k».proof.Proof.Mm.UpAct
public import proofs.«01_k».proof.Proof.Mm.Down
public import proofs.«01_k».proof.Proof.Mm.DownDxAct
public import proofs.«01_k».proof.Proof.Mm.GateDx
public import proofs.«01_k».proof.Proof.Mm.UpDx
public import proofs.«01_k».proof.Proof.Mm.Norm
public import proofs.«01_k».proof.Proof.Mm.NormBwd
public import proofs.«01_k».proof.Proof.Mm.Merge
public import proofs.«01_k».proof.Proof.Mm.MergeBwd
public import proofs.«01_k».proof.Proof.Mm.AttProj
public import proofs.«01_k».proof.Proof.Mm.SsmProj
public import proofs.«01_k».proof.Proof.Mm.Out
public import proofs.«01_k».proof.Proof.Mm.OutDx
public import proofs.«01_k».proof.Proof.Mm.SsmProjDx
public import proofs.«01_k».proof.Proof.Mm.AttProjDx
public import proofs.«01_k».proof.Proof.Mm.OutDw
public import proofs.«01_k».proof.Proof.Mm.SsmProjDw
public import proofs.«01_k».proof.Proof.Mm.AttProjDw
public import proofs.«01_k».proof.Proof.Mm.AdamwSmall
public import proofs.«01_k».proof.Proof.Mm.AdamwOut
public import proofs.«01_k».proof.Proof.Mm.AdamwSsm
public import proofs.«01_k».proof.Proof.Mm.AdamwAtt
public import proofs.«01_k».proof.Proof.Mm.AdamwConv
public import proofs.«01_k».proof.Proof.Mm.AdamwIn
public import proofs.«01_k».proof.Proof.Mm.AdamwRow
public import proofs.«01_k».proof.Proof.Mm.AdamwCol
public import proofs.«01_k».proof.Proof.Att.Frames
public import proofs.«01_k».proof.Proof.Att.Final

@[expose] public section

noncomputable section

namespace Cert.Proof

theorem claim : Cert.Claim :=
  ⟨Cert.Kernel.Gen.facts, Cert.KernelIdeal.Gen.facts, Cert.ReferenceIdeal.Gen.facts,
    Cert.In.Gen.facts, Cert.InIdeal.Gen.facts, Cert.InRefIdeal.Gen.facts,
    Cert.InDw.Gen.facts, Cert.InDwIdeal.Gen.facts, Cert.InDwRefIdeal.Gen.facts,
    Cert.InDx.Gen.facts, Cert.InDxIdeal.Gen.facts, Cert.InDxRefIdeal.Gen.facts,
    Cert.UpDw.Gen.facts, Cert.UpDwIdeal.Gen.facts, Cert.UpDwRefIdeal.Gen.facts,
    Cert.DownDw.Gen.facts, Cert.DownDwIdeal.Gen.facts, Cert.DownDwRefIdeal.Gen.facts,
    Cert.UpAct.Gen.facts, Cert.UpActIdeal.Gen.facts, Cert.UpActRefIdeal.Gen.facts,
    Cert.Down.Gen.facts, Cert.DownIdeal.Gen.facts, Cert.DownRefIdeal.Gen.facts,
    Cert.DownDxAct.Gen.facts, Cert.DownDxActIdeal.Gen.facts, Cert.DownDxActRefIdeal.Gen.facts,
    Cert.GateDx.Gen.facts, Cert.GateDxIdeal.Gen.facts, Cert.GateDxRefIdeal.Gen.facts,
    Cert.UpDx.Gen.facts, Cert.UpDxIdeal.Gen.facts, Cert.UpDxRefIdeal.Gen.facts,
    Cert.Norm.Gen.facts, Cert.NormIdeal.Gen.facts, Cert.NormRefIdeal.Gen.facts,
    Cert.NormBwd.Gen.facts, Cert.NormBwdIdeal.Gen.facts, Cert.NormBwdRefIdeal.Gen.facts,
    Cert.Merge.Gen.facts, Cert.MergeIdeal.Gen.facts, Cert.MergeRefIdeal.Gen.facts,
    Cert.MergeBwd.Gen.facts, Cert.MergeBwdIdeal.Gen.facts, Cert.MergeBwdRefIdeal.Gen.facts,
    Cert.AttProj.Gen.facts, Cert.AttProjIdeal.Gen.facts, Cert.AttProjRefIdeal.Gen.facts,
    Cert.SsmProj.Gen.facts, Cert.SsmProjIdeal.Gen.facts, Cert.SsmProjRefIdeal.Gen.facts,
    Cert.Out.Gen.facts, Cert.OutIdeal.Gen.facts, Cert.OutRefIdeal.Gen.facts,
    Cert.OutDx.Gen.facts, Cert.OutDxIdeal.Gen.facts, Cert.OutDxRefIdeal.Gen.facts,
    Cert.SsmProjDx.Gen.facts, Cert.SsmProjDxIdeal.Gen.facts, Cert.SsmProjDxRefIdeal.Gen.facts,
    Cert.AttProjDx.Gen.facts, Cert.AttProjDxIdeal.Gen.facts, Cert.AttProjDxRefIdeal.Gen.facts,
    Cert.OutDw.Gen.facts, Cert.OutDwIdeal.Gen.facts, Cert.OutDwRefIdeal.Gen.facts,
    Cert.SsmProjDw.Gen.facts, Cert.SsmProjDwIdeal.Gen.facts, Cert.SsmProjDwRefIdeal.Gen.facts,
    Cert.AttProjDw.Gen.facts, Cert.AttProjDwIdeal.Gen.facts, Cert.AttProjDwRefIdeal.Gen.facts,
    Cert.AdamwCol.Gen.facts, Cert.AdamwColIdeal.Gen.facts, Cert.AdamwColRefIdeal.Gen.facts,
    Cert.AdamwRow.Gen.facts, Cert.AdamwRowIdeal.Gen.facts, Cert.AdamwRowRefIdeal.Gen.facts,
    Cert.AdamwIn.Gen.facts, Cert.AdamwInIdeal.Gen.facts, Cert.AdamwInRefIdeal.Gen.facts,
    Cert.AdamwConv.Gen.facts, Cert.AdamwConvIdeal.Gen.facts, Cert.AdamwConvRefIdeal.Gen.facts,
    Cert.AdamwAtt.Gen.facts, Cert.AdamwAttIdeal.Gen.facts, Cert.AdamwAttRefIdeal.Gen.facts,
    Cert.AdamwSsm.Gen.facts, Cert.AdamwSsmIdeal.Gen.facts, Cert.AdamwSsmRefIdeal.Gen.facts,
    Cert.AdamwOut.Gen.facts, Cert.AdamwOutIdeal.Gen.facts, Cert.AdamwOutRefIdeal.Gen.facts,
    Cert.AdamwSmall.Gen.facts, Cert.AdamwSmallIdeal.Gen.facts, Cert.AdamwSmallRefIdeal.Gen.facts,
    Cert.Pre_finite.Gen.facts,
    Att.quiescent_Kernel, Att.quiescent_KernelIdeal, Att.quiescent_KernelIdeal_pre_finite,
    Att.quiescent_ReferenceIdeal, Att.quiescent_ReferenceIdeal_pre_finite,
    Mm.quiescent_In, Mm.quiescent_InIdeal, Mm.quiescent_InRefIdeal,
    Mm.quiescent_InDw, Mm.quiescent_InDwIdeal, Mm.quiescent_InDwRefIdeal,
    Mm.quiescent_InDx, Mm.quiescent_InDxIdeal, Mm.quiescent_InDxRefIdeal,
    Mm.quiescent_UpDw, Mm.quiescent_UpDwIdeal, Mm.quiescent_UpDwRefIdeal,
    Mm.quiescent_DownDw, Mm.quiescent_DownDwIdeal, Mm.quiescent_DownDwRefIdeal,
    Mm.quiescent_UpAct, Mm.quiescent_UpActIdeal, Mm.quiescent_UpActRefIdeal,
    Mm.quiescent_Down, Mm.quiescent_DownIdeal, Mm.quiescent_DownRefIdeal,
    Mm.quiescent_DownDxAct, Mm.quiescent_DownDxActIdeal, Mm.quiescent_DownDxActRefIdeal,
    Mm.quiescent_GateDx, Mm.quiescent_GateDxIdeal, Mm.quiescent_GateDxRefIdeal,
    Mm.quiescent_UpDx, Mm.quiescent_UpDxIdeal, Mm.quiescent_UpDxRefIdeal,
    Mm.quiescent_Norm, Mm.quiescent_NormIdeal, Mm.quiescent_NormRefIdeal,
    Mm.quiescent_NormBwd, Mm.quiescent_NormBwdIdeal, Mm.quiescent_NormBwdRefIdeal,
    Mm.quiescent_Merge, Mm.quiescent_MergeIdeal, Mm.quiescent_MergeRefIdeal,
    Mm.quiescent_MergeBwd, Mm.quiescent_MergeBwdIdeal, Mm.quiescent_MergeBwdRefIdeal,
    Mm.quiescent_AttProj, Mm.quiescent_AttProjIdeal, Mm.quiescent_AttProjRefIdeal,
    Mm.quiescent_SsmProj, Mm.quiescent_SsmProjIdeal, Mm.quiescent_SsmProjRefIdeal,
    Mm.quiescent_Out, Mm.quiescent_OutIdeal, Mm.quiescent_OutRefIdeal,
    Mm.quiescent_OutDx, Mm.quiescent_OutDxIdeal, Mm.quiescent_OutDxRefIdeal,
    Mm.quiescent_SsmProjDx, Mm.quiescent_SsmProjDxIdeal, Mm.quiescent_SsmProjDxRefIdeal,
    Mm.quiescent_AttProjDx, Mm.quiescent_AttProjDxIdeal, Mm.quiescent_AttProjDxRefIdeal,
    Mm.quiescent_OutDw, Mm.quiescent_OutDwIdeal, Mm.quiescent_OutDwRefIdeal,
    Mm.quiescent_SsmProjDw, Mm.quiescent_SsmProjDwIdeal, Mm.quiescent_SsmProjDwRefIdeal,
    Mm.quiescent_AttProjDw, Mm.quiescent_AttProjDwIdeal, Mm.quiescent_AttProjDwRefIdeal,
    Mm.quiescent_AdamwCol, Mm.quiescent_AdamwColIdeal, Mm.quiescent_AdamwColRefIdeal,
    Mm.quiescent_AdamwRow, Mm.quiescent_AdamwRowIdeal, Mm.quiescent_AdamwRowRefIdeal,
    Mm.quiescent_AdamwIn, Mm.quiescent_AdamwInIdeal, Mm.quiescent_AdamwInRefIdeal,
    Mm.quiescent_AdamwConv, Mm.quiescent_AdamwConvIdeal, Mm.quiescent_AdamwConvRefIdeal,
    Mm.quiescent_AdamwAtt, Mm.quiescent_AdamwAttIdeal, Mm.quiescent_AdamwAttRefIdeal,
    Mm.quiescent_AdamwSsm, Mm.quiescent_AdamwSsmIdeal, Mm.quiescent_AdamwSsmRefIdeal,
    Mm.quiescent_AdamwOut, Mm.quiescent_AdamwOutIdeal, Mm.quiescent_AdamwOutRefIdeal,
    Mm.quiescent_AdamwSmall, Mm.quiescent_AdamwSmallIdeal, Mm.quiescent_AdamwSmallRefIdeal,
    Att.preserves, Att.algebraic,
    trivial, Mm.algebraic_In,
    trivial, Mm.algebraic_InDw,
    trivial, Mm.algebraic_InDx,
    trivial, Mm.algebraic_UpDw,
    trivial, Mm.algebraic_DownDw,
    trivial, Mm.algebraic_UpAct,
    trivial, Mm.algebraic_Down,
    trivial, Mm.algebraic_DownDxAct,
    trivial, Mm.algebraic_GateDx,
    trivial, Mm.algebraic_UpDx,
    trivial, Mm.algebraic_Norm,
    trivial, Mm.algebraic_NormBwd,
    trivial, Mm.algebraic_Merge,
    trivial, Mm.algebraic_MergeBwd,
    trivial, Mm.algebraic_AttProj,
    trivial, Mm.algebraic_SsmProj,
    trivial, Mm.algebraic_Out,
    trivial, Mm.algebraic_OutDx,
    trivial, Mm.algebraic_SsmProjDx,
    trivial, Mm.algebraic_AttProjDx,
    trivial, Mm.algebraic_OutDw,
    trivial, Mm.algebraic_SsmProjDw,
    trivial, Mm.algebraic_AttProjDw,
    trivial, Mm.algebraic_AdamwCol,
    trivial, Mm.algebraic_AdamwRow,
    trivial, Mm.algebraic_AdamwIn,
    trivial, Mm.algebraic_AdamwConv,
    trivial, Mm.algebraic_AdamwAtt,
    trivial, Mm.algebraic_AdamwSsm,
    trivial, Mm.algebraic_AdamwOut,
    trivial, Mm.algebraic_AdamwSmall⟩

end Cert.Proof

end
